-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v80_0)) (v1 : (c : Dev Cert.Kernel2Ideal.nD) → Buf (Elt Ideal) ((c.tc : Thread Cert.Kernel2Ideal.nD Cert.Kernel2Ideal.τ).loc Cert.Kernel2Ideal.main_v80_1)) (v2 : (c : Dev Cert.Kernel2Ideal.nD) → Buf (Elt Ideal) ((c.tc : Thread Cert.Kernel2Ideal.nD Cert.Kernel2Ideal.τ).loc Cert.Kernel2Ideal.main_v80_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v80_0) = v0 c
          ∧ r.2.mem ((c.tc : Thread Cert.Kernel2Ideal.nD Cert.Kernel2Ideal.τ).loc Cert.Kernel2Ideal.main_v80_1) = v1 c
          ∧ r.2.mem ((c.tc : Thread Cert.Kernel2Ideal.nD Cert.Kernel2Ideal.τ).loc Cert.Kernel2Ideal.main_v80_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v148) = v0 c
          ∧ r.2.mem ((c.tc : Thread Cert.Reference2Ideal.nD Cert.Reference2Ideal.τ).loc Cert.Reference2Ideal.main_v150) = v1 c
          ∧ r.2.mem ((c.tc : Thread Cert.Reference2Ideal.nD Cert.Reference2Ideal.τ).loc Cert.Reference2Ideal.main_v152) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)) (v1 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_v4) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S4096x1024 .f32) (main_arg1 : FVec F S1x1024 .f32) (main_arg2 : FVec F S4096x1024 .f32) (main_arg3 : FVec F S1024x5632 .f32) (main_arg4 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_v13 main_v16
-- ==== Pre_finite2.lean ====
abbrev S4096x8x128 : Shape := ⟨3, ![4096, 8, 128]⟩
abbrev S2x4096x8x128 : Shape := ⟨4, ![2, 4096, 8, 128]⟩
abbrev S2x4096x8 : Shape := ⟨3, ![2, 4096, 8]⟩
abbrev S_ : Shape := ⟨0, ![]⟩

class Facts : Prop where
  bcast_S_S4096x8x128 : S_.BroadcastsInDim S4096x8x128 (![] : Fin 0 → Fin S4096x8x128.rank)
  reducesTo_S4096x8x128_S_d0_1_2 : S4096x8x128.ReducesTo [0, 1, 2] S_
  h_S_ : 0 < S_.numel
  bcast_S_S2x4096x8x128 : S_.BroadcastsInDim S2x4096x8x128 (![] : Fin 0 → Fin S2x4096x8x128.rank)
  reducesTo_S2x4096x8x128_S_d0_1_2_3 : S2x4096x8x128.ReducesTo [0, 1, 2, 3] S_
  bcast_S_S2x4096x8 : S_.BroadcastsInDim S2x4096x8 (![] : Fin 0 → Fin S2x4096x8.rank)
  reducesTo_S2x4096x8_S_d0_1_2 : S2x4096x8.ReducesTo [0, 1, 2] S_

variable [Facts]

def fn_part1 {F : FTy → Type} [FloatOps F] (main_arg4 : FVec F S2x4096x8 .f32) (main_arg5 : FVec F S4096x8x128 .f32) (main_v13 : IVec S_ 1) (main_v16 : IVec S2x4096x8x128 1) : IVec S_ 1 :=
  let main_c_5 : IVec S_ 1 := constantI S_ 1 1#1
  let main_v17 : IVec S_ 1 := (fun x v => Host.reduce IntOp.andi x v reducesTo_S2x4096x8x128_S_d0_1_2_3 h_S_) main_v16 main_c_5
  let main_v18 : IVec S_ 1 := andi main_v13 main_v17
  let main_v19 : FVec F S2x4096x8 .f32 := Host.absf main_arg4
  let main_cst_6 : FVec F S_ .f32 := constant S_ .f32 0x7F800000#32
  let main_v20 : FVec F S2x4096x8 .f32 := broadcastInDim S2x4096x8 ![] bcast_S_S2x4096x8 main_cst_6
  let main_v21 : IVec S2x4096x8 1 := cmpf .olt main_v19 main_v20
  let main_c_7 : IVec S_ 1 := constantI S_ 1 1#1
  let main_v22 : IVec S_ 1 := (fun x v => Host.reduce IntOp.andi x v reducesTo_S2x4096x8_S_d0_1_2 h_S_) main_v21 main_c_7
  let main_v23 : IVec S_ 1 := andi main_v18 main_v22
  let main_v24 : FVec F S4096x8x128 .f32 := Host.absf main_arg5
  let main_cst_8 : FVec F S_ .f32 := constant S_ .f32 0x7F800000#32
  let main_v25 : FVec F S4096x8x128 .f32 := broadcastInDim S4096x8x128 ![] bcast_S_S4096x8x128 main_cst_8
  let main_v26 : IVec S4096x8x128 1 := cmpf .olt main_v24 main_v25
  let main_c_9 : IVec S_ 1 := constantI S_ 1 1#1
  let main_v27 : IVec S_ 1 := (fun x v => Host.reduce IntOp.andi x v reducesTo_S4096x8x128_S_d0_1_2 h_S_) main_v26 main_c_9
  let main_v28 : IVec S_ 1 := andi main_v23 main_v27
  main_v28

def fn {F : FTy → Type} [FloatOps F] (main_arg0 : FVec F S4096x8x128 .f32) (main_arg1 : FVec F S4096x8x128 .f32) (main_arg2 : FVec F S4096x8x128 .f32) (main_arg3 : FVec F S2x4096x8x128 .f32) (main_arg4 : FVec F S2x4096x8 .f32) (main_arg5 : FVec F S4096x8x128 .f32) : IVec S_ 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_c : IVec S_ 1 := constantI S_ 1 1#1
  let main_v3 : IVec S_ 1 := (fun x v => Host.reduce IntOp.andi x v reducesTo_S4096x8x128_S_d0_1_2 h_S_) main_v2 main_c
  let main_v4 : FVec F S4096x8x128 .f32 := Host.absf main_arg1
  let main_cst_0 : FVec F S_ .f32 := constant S_ .f32 0x7F800000#32
  let main_v5 : FVec F S4096x8x128 .f32 := broadcastInDim S4096x8x128 ![] bcast_S_S4096x8x128 main_cst_0
  let main_v6 : IVec S4096x8x128 1 := cmpf .olt main_v4 main_v5
  let main_c_1 : IVec S_ 1 := constantI S_ 1 1#1
  let main_v7 : IVec S_ 1 := (fun x v => Host.reduce IntOp.andi x v reducesTo_S4096x8x128_S_d0_1_2 h_S_) main_v6 main_c_1
  let main_v8 : IVec S_ 1 := andi main_v3 main_v7
  let main_v9 : FVec F S4096x8x128 .f32 := Host.absf main_arg2
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_c_3 : IVec S_ 1 := constantI S_ 1 1#1
  let main_v12 : IVec S_ 1 := (fun x v => Host.reduce IntOp.andi x v reducesTo_S4096x8x128_S_d0_1_2 h_S_) main_v11 main_c_3
  let main_v13 : IVec S_ 1 := andi main_v8 main_v12
  let main_v14 : FVec F S2x4096x8x128 .f32 := Host.absf main_arg3
  let main_cst_4 : FVec F S_ .f32 := constant S_ .f32 0x7F800000#32
  let main_v15 : FVec F S2x4096x8x128 .f32 := broadcastInDim S2x4096x8x128 ![] bcast_S_S2x4096x8x128 main_cst_4
  let main_v16 : IVec S2x4096x8x128 1 := cmpf .olt main_v14 main_v15
  fn_part1 (F := F) main_arg4 main_arg5 main_v13 main_v16
-- ==== Pre_finite5.lean ====
abbrev S4096x9216 : Shape := ⟨2, ![4096, 9216]⟩
abbrev S4096x1024 : Shape := ⟨2, ![4096, 1024]⟩
abbrev S1x1024 : Shape := ⟨2, ![1, 1024]⟩
abbrev S1024x9216 : Shape := ⟨2, ![1024, 9216]⟩
abbrev S_ : Shape := ⟨0, ![]⟩

class Facts : Prop where
  bcast_S_S4096x9216 : S_.BroadcastsInDim S4096x9216 (![] : Fin 0 → Fin S4096x9216.rank)
  reducesTo_S4096x9216_S_d0_1 : S4096x9216.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x9216 : S_.BroadcastsInDim S1024x9216 (![] : Fin 0 → Fin S1024x9216.rank)
  reducesTo_S1024x9216_S_d0_1 : S1024x9216.ReducesTo [0, 1] S_

variable [Facts]

def fn_part1 {F : FTy → Type} [FloatOps F] (main_arg4 : FVec F S1024x9216 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024x9216 .f32 := Host.absf main_arg4
  let main_cst_6 : FVec F S_ .f32 := constant S_ .f32 0x7F800000#32
  let main_v20 : FVec F S1024x9216 .f32 := broadcastInDim S1024x9216 ![] bcast_S_S1024x9216 main_cst_6
  let main_v21 : IVec S1024x9216 1 := cmpf .olt main_v19 main_v20
  let main_c_7 : IVec S_ 1 := constantI S_ 1 1#1
  let main_v22 : IVec S_ 1 := (fun x v => Host.reduce IntOp.andi x v reducesTo_S1024x9216_S_d0_1 h_S_) main_v21 main_c_7
  let main_v23 : IVec S_ 1 := andi main_v18 main_v22
  main_v23

def fn {F : FTy → Type} [FloatOps F] (main_arg0 : FVec F S4096x9216 .f32) (main_arg1 : FVec F S4096x1024 .f32) (main_arg2 : FVec F S1x1024 .f32) (main_arg3 : FVec F S4096x1024 .f32) (main_arg4 : FVec F S1024x9216 .f32) : IVec S_ 1 :=
  let main_v0 : FVec F S4096x9216 .f32 := Host.absf main_arg0
  let main_cst : FVec F S_ .f32 := constant S_ .f32 0x7F800000#32
  let main_v1 : FVec F S4096x9216 .f32 := broadcastInDim S4096x9216 ![] bcast_S_S4096x9216 main_cst
  let main_v2 : IVec S4096x9216 1 := cmpf .olt main_v0 main_v1
  let main_c : IVec S_ 1 := constantI S_ 1 1#1
  let main_v3 : IVec S_ 1 := (fun x v => Host.reduce IntOp.andi x v reducesTo_S4096x9216_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S4096x2816 : Shape := ⟨2, ![4096, 2816]⟩
abbrev S256x1024 : Shape := ⟨2, ![256, 1024]⟩
abbrev S1024x2816 : Shape := ⟨2, ![1024, 2816]⟩
abbrev S256x2816 : Shape := ⟨2, ![256, 2816]⟩
abbrev S256 : Shape := ⟨1, ![256]⟩
abbrev S256x1 : Shape := ⟨2, ![256, 1]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩
abbrev S4096x256 : Shape := ⟨2, ![4096, 256]⟩
abbrev S1024x256 : Shape := ⟨2, ![1024, 256]⟩

abbrev nBuf : Space → Nat
  | .hbm => 19
  | .vmem => 55
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S4096x1024, .f32⟩
  | .hbm, ⟨8, _⟩ => ⟨S4096x2816, .bf16⟩
  | .hbm, ⟨9, _⟩ => ⟨S4096x2816, .bf16⟩
  | .hbm, ⟨10, _⟩ => ⟨S4096x2816, .bf16⟩
  | .hbm, ⟨11, _⟩ => ⟨S4096x2816, .bf16⟩
  | .hbm, ⟨12, _⟩ => ⟨S4096x2816, .bf16⟩
  | .hbm, ⟨13, _⟩ => ⟨S4096x1024, .f32⟩
  | .hbm, ⟨14, _⟩ => ⟨S1x1024, .f32⟩
  | .hbm, ⟨15, _⟩ => ⟨S4096x1024, .bf16⟩
  | .hbm, ⟨16, _⟩ => ⟨S4096x1024, .bf16⟩
  | .hbm, ⟨17, _⟩ => ⟨S1024x5632, .bf16⟩
  | .hbm, ⟨18, _⟩ => ⟨S2816x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S2816x1024, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S512x2816, .bf16⟩
  | .local _ .vmem, ⟨31, _⟩ => ⟨S512x2816, .bf16⟩
  | .local _ .vmem, ⟨32, _⟩ => ⟨S512x2816, .bf16⟩
  | .local _ .vmem, ⟨33, _⟩ => ⟨S512x2816, .bf16⟩
  | .local _ .vmem, ⟨34, _⟩ => ⟨S1024x2816, .bf16⟩
  | .local _ .vmem, ⟨35, _⟩ => ⟨S1024x2816, .bf16⟩
  | .local _ .vmem, ⟨36, _⟩ => ⟨S512x1024, .f32⟩
  | .local _ .vmem, ⟨37, _⟩ => ⟨S512x1024, .f32⟩
  | .local _ .vmem, ⟨38, _⟩ => ⟨S1x1024, .f32⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S4096x1024, .bf16⟩
  | .local _ .vmem, ⟨44, _⟩ => ⟨S4096x256, .bf16⟩
  | .local _ .vmem, ⟨45, _⟩ => ⟨S4096x256, .bf16⟩
  | .local _ .vmem, ⟨46, _⟩ => ⟨S4096x256, .bf16⟩
  | .local _ .vmem, ⟨47, _⟩ => ⟨S4096x256, .bf16⟩
  | .local _ .vmem, ⟨48, _⟩ => ⟨S1024x256, .bf16⟩
  | .local _ .vmem, ⟨49, _⟩ => ⟨S1024x256, .bf16⟩
  | .local _ .vmem, ⟨50, _⟩ => ⟨S4096x256, .bf16⟩
  | .local _ .vmem, ⟨51, _⟩ => ⟨S4096x256, .bf16⟩
  | .local _ .vmem, ⟨52, _⟩ => ⟨S4096x1024, .bf16⟩
  | .local _ .vmem, ⟨53, _⟩ => ⟨S256x1024, .bf16⟩
  | .local _ .vmem, ⟨54, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg9_1 : Ref sig .tc := ⟨.vmem, 40, rfl⟩
abbrev cc2_stg10_0 : Ref sig .tc := ⟨.vmem, 41, rfl⟩
abbrev cc2_stg10_1 : Ref sig .tc := ⟨.vmem, 42, rfl⟩
abbrev cc3_stg0_0 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg2_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem6_0 : DmaSem sig := 35
abbrev cc2_sem7_0 : DmaSem sig := 36
abbrev cc2_sem7_1 : DmaSem sig := 37
abbrev cc2_sem8_0 : DmaSem sig := 38
abbrev cc2_sem9_0 : DmaSem sig := 39
abbrev cc2_sem9_1 : DmaSem sig := 40
abbrev cc2_sem10_0 : DmaSem sig := 41
abbrev cc2_sem10_1 : DmaSem sig := 42
abbrev cc3_sem0_0 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc4_sem0_0 : DmaSem sig := 50
abbrev cc4_sem0_1 : DmaSem sig := 51
abbrev cc4_sem1_0 : DmaSem sig := 52
abbrev cc4_sem2_0 : DmaSem sig := 53
abbrev cc4_sem2_1 : DmaSem sig := 54

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2816 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x2816 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x2816 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1024x2816 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x2816 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x1024 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![22], ![false]⟩

def k3_cond1 (i : grid3.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c11_i32 : BitVec 32 := 11#32
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let v0 : BitVec 32 := Scalar.divsi arg0 c11_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k3_cond2 (i : grid3.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c11_i32 : BitVec 32 := 11#32
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let v0 : BitVec 32 := Scalar.divsi arg0 c11_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc3_transform_2 (i : grid3.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc3_transform_3 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S4096x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![11, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]
-- ==== ReferenceIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024x2816 : Shape := ⟨2, ![1024, 2816]⟩
abbrev S5632x1024 : Shape := ⟨2, ![5632, 1024]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S1024x2816, .f32⟩
  | .hbm, ⟨51, _⟩ => ⟨S2816x1024, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x5632, .f32⟩
  | .hbm, ⟨60, _⟩ => ⟨S5632x1024, .f32⟩
  | .hbm, ⟨61, _⟩ => ⟨S1024x5632, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1024x5632, .bf16⟩
  | .hbm, ⟨88, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]
-- ==== Kernel2.lean ====
abbrev S4096x8x128 : Shape := ⟨3, ![4096, 8, 128]⟩
abbrev S2x4096x8x128 : Shape := ⟨4, ![2, 4096, 8, 128]⟩
abbrev S2x4096x8 : Shape := ⟨3, ![2, 4096, 8]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4096x4096 : Shape := ⟨3, ![8, 4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S1x4096x8 : Shape := ⟨3, ![1, 4096, 8]⟩
abbrev S3x4096x8 : Shape := ⟨3, ![3, 4096, 8]⟩
abbrev S4096x8x1 : Shape := ⟨3, ![4096, 8, 1]⟩
abbrev S2x4096x8x1 : Shape := ⟨4, ![2, 4096, 8, 1]⟩
abbrev S4096x1024 : Shape := ⟨2, ![4096, 1024]⟩
abbrev S4096x3072 : Shape := ⟨2, ![4096, 3072]⟩
abbrev S128x1024 : Shape := ⟨2, ![128, 1024]⟩
abbrev S128x256 : Shape := ⟨2, ![128, 256]⟩
abbrev S128x128 : Shape := ⟨2, ![128, 128]⟩
abbrev S256x128 : Shape := ⟨2, ![256, 128]⟩

abbrev nBuf : Space → Nat
  | .hbm => 103
  | .vmem => 24
  | .smem => 0
  | _ => 0

abbrev bufTy : (tb : Table) → Fin (tcTables nBuf tb) → BufTy
  | .hbm, ⟨0, _⟩ => ⟨S4096x8x128, .f32⟩
  | .hbm, ⟨1, _⟩ => ⟨S4096x8x128, .f32⟩
  | .hbm, ⟨2, _⟩ => ⟨S4096x8x128, .f32⟩
  | .hbm, ⟨3, _⟩ => ⟨S2x4096x8x128, .f32⟩
  | .hbm, ⟨4, _⟩ => ⟨S2x4096x8, .f32⟩
  | .hbm, ⟨5, _⟩ => ⟨S4096x8x128, .f32⟩
  | .hbm, ⟨6, _⟩ => ⟨S4096, .i32⟩
  | .hbm, ⟨7, _⟩ => ⟨S4096x1, .i32⟩
  | .hbm, ⟨8, _⟩ => ⟨S4096, .i32⟩
  | .hbm, ⟨9, _⟩ => ⟨S1x4096, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S4096x4096, .i1⟩
  | .hbm, ⟨20, _⟩ => ⟨S8x4096x4096, .f32⟩
  | .hbm, ⟨21, _⟩ => ⟨S1x4096x4096, .i1⟩
  | .hbm, ⟨22, _⟩ => ⟨S_, .f32⟩
  | .hbm, ⟨23, _⟩ => ⟨S_, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x128x4096, .f32⟩
  | .hbm, ⟨39, _⟩ => ⟨S4096x8x128, .f32⟩
  | .hbm, ⟨40, _⟩ => ⟨S8x4096x1, .f32⟩
  | .hbm, ⟨41, _⟩ => ⟨S8x4096x1, .f32⟩
  | .hbm, ⟨42, _⟩ => ⟨S8x4096, .f32⟩
  | .hbm, ⟨43, _⟩ => ⟨S4096x8, .f32⟩
  | .hbm, ⟨44, _⟩ => ⟨S1x4096x8, .f32⟩
  | .hbm, ⟨45, _⟩ => ⟨S3x4096x8, .f32⟩
  | .hbm, ⟨46, _⟩ => ⟨S_, .f32⟩
  | .hbm, ⟨47, _⟩ => ⟨S4096x8, .f32⟩
  | .hbm, ⟨48, _⟩ => ⟨S_, .f32⟩
  | .hbm, ⟨49, _⟩ => ⟨S4096x8, .f32⟩
  | .hbm, ⟨50, _⟩ => ⟨S4096x8, .f32⟩
  | .hbm, ⟨51, _⟩ => ⟨S1x4096x8, .f32⟩
  | .hbm, ⟨52, _⟩ => ⟨S3x4096x8, .f32⟩
  | .hbm, ⟨53, _⟩ => ⟨S3x4096x8, .f32⟩
  | .hbm, ⟨54, _⟩ => ⟨S3x4096x8, .f32⟩
  | .hbm, ⟨55, _⟩ => ⟨S_, .f32⟩
  | .hbm, ⟨56, _⟩ => ⟨S4096x8, .f32⟩
  | .hbm, ⟨57, _⟩ => ⟨S1x4096x8, .f32⟩
  | .hbm, ⟨58, _⟩ => ⟨S3x4096x8, .f32⟩
  | .hbm, ⟨59, _⟩ => ⟨S3x4096x8, .f32⟩
  | .hbm, ⟨60, _⟩ => ⟨S1x4096x8, .f32⟩
  | .hbm, ⟨61, _⟩ => ⟨S4096x8, .f32⟩
  | .hbm, ⟨62, _⟩ => ⟨S4096x8x1, .f32⟩
  | .hbm, ⟨63, _⟩ => ⟨S4096x8x128, .f32⟩
  | .hbm, ⟨64, _⟩ => ⟨S4096x8x128, .f32⟩
  | .hbm, ⟨65, _⟩ => ⟨S2x4096x8, .f32⟩
  | .hbm, ⟨66, _⟩ => ⟨S2x4096x8x1, .f32⟩
  | .hbm, ⟨67, _⟩ => ⟨S2x4096x8x128, .f32⟩
  | .hbm, ⟨68, _⟩ => ⟨S2x4096x8x128, .f32⟩
  | .hbm, ⟨69, _⟩ => ⟨S_, .f32⟩
  | .hbm, ⟨70, _⟩ => ⟨S4096x8x128, .f32⟩
  | .hbm, ⟨71, _⟩ => ⟨S4096x8x128, .f32⟩
  | .hbm, ⟨72, _⟩ => ⟨S1x4096x8, .f32⟩
  | .hbm, ⟨73, _⟩ => ⟨S3x4096x8, .f32⟩
  | .hbm, ⟨74, _⟩ => ⟨S_, .f32⟩
  | .hbm, ⟨75, _⟩ => ⟨S4096x8, .f32⟩
  | .hbm, ⟨76, _⟩ => ⟨S1x4096x8, .f32⟩
  | .hbm, ⟨77, _⟩ => ⟨S3x4096x8, .f32⟩
  | .hbm, ⟨78, _⟩ => ⟨S3x4096x8, .f32⟩
  | .hbm, ⟨79, _⟩ => ⟨S3x4096x8, .f32⟩
  | .hbm, ⟨80, _⟩ => ⟨S_, .f32⟩
  | .hbm, ⟨81, _⟩ => ⟨S4096x8, .f32⟩
  | .hbm, ⟨82, _⟩ => ⟨S4096x8, .f32⟩
  | .hbm, ⟨83, _⟩ => ⟨S4096x8, .f32⟩
  | .hbm, ⟨84, _⟩ => ⟨S4096x8x128, .f32⟩
  | .hbm, ⟨85, _⟩ => ⟨S_, .f32⟩
  | .hbm, ⟨86, _⟩ => ⟨S4096x8, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x3072, .f32⟩
  | .hbm, ⟨91, _⟩ => ⟨S4096x3072, .bf16⟩
  | .hbm, ⟨92, _⟩ => ⟨S4096x1024, .f32⟩
  | .hbm, ⟨93, _⟩ => ⟨S4096x1024, .bf16⟩
  | .hbm, ⟨94, _⟩ => ⟨S4096x8x1, .f32⟩
  | .hbm, ⟨95, _⟩ => ⟨S4096x8x128, .f32⟩
  | .hbm, ⟨96, _⟩ => ⟨S4096x1024, .f32⟩
  | .hbm, ⟨97, _⟩ => ⟨S4096x8x1, .f32⟩
  | .hbm, ⟨98, _⟩ => ⟨S4096x8x128, .f32⟩
  | .hbm, ⟨99, _⟩ => ⟨S4096x1024, .f32⟩
  | .hbm, ⟨100, _⟩ => ⟨S4096x1024, .bf16⟩
  | .hbm, ⟨101, _⟩ => ⟨S4096x1024, .bf16⟩
  | .hbm, ⟨102, _⟩ => ⟨S4096x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .f32⟩
  | .local _ .vmem, ⟨23, _⟩ => ⟨S128x1024, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80_0 : Ref sig .tc := ⟨.hbm, 100, rfl⟩
abbrev main_v80_1 : Ref sig .tc := ⟨.hbm, 101, rfl⟩
abbrev main_v80_2 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 33], ![false, false]⟩

def k0_cond2 (i : grid0.Coords) : BitVec 1 :=
  let arg1 : BitVec 32 := BitVec.ofNat 32 (i 1).val
  let c32_i32 : BitVec 32 := 32#32
  let v3 : BitVec 1 := Scalar.cmpi .slt arg1 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c32_i32_2 : BitVec 32 := 32#32
  let v6 : BitVec 1 := Scalar.cmpi .eq arg1 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.subi v0 c0_i32
  let c0_i32_0 : BitVec 32 := 0#32
  let v2 : BitVec 32 := Scalar.maxsi v1 c0_i32_0
  let c1_i32 : BitVec 32 := 1#32
  let v3 : BitVec 32 := Scalar.muli v2 c1_i32
  let v4 : BitVec 32 := Scalar.addi v3 arg0
  let c0_i32_1 : BitVec 32 := 0#32
  let c0_i32_2 : BitVec 32 := 0#32
  ![v4.toNat, c0_i32_1.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.subi v0 c0_i32
  let c0_i32_0 : BitVec 32 := 0#32
  let v2 : BitVec 32 := Scalar.maxsi v1 c0_i32_0
  let c1_i32 : BitVec 32 := 1#32
  let v3 : BitVec 32 := Scalar.muli v2 c1_i32
  let v4 : BitVec 32 := Scalar.addi v3 arg0
  let c1_i32_1 : BitVec 32 := 1#32
  let c0_i32_2 : BitVec 32 := 0#32
  ![v4.toNat, c1_i32_1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.muli v2 c1_i32_0
  let v4 : BitVec 32 := Scalar.addi v3 arg0
  let c1_i32_1 : BitVec 32 := 1#32
  let c0_i32_2 : BitVec 32 := 0#32
  ![v4.toNat, c1_i32_1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.subi v0 c0_i32
  let c0_i32_0 : BitVec 32 := 0#32
  let v2 : BitVec 32 := Scalar.maxsi v1 c0_i32_0
  let c1_i32 : BitVec 32 := 1#32
  let v3 : BitVec 32 := Scalar.muli v2 c1_i32
  let v4 : BitVec 32 := Scalar.addi v3 arg0
  let c2_i32 : BitVec 32 := 2#32
  let c0_i32_1 : BitVec 32 := 0#32
  ![v4.toNat, c2_i32.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.muli v2 c1_i32_0
  let v4 : BitVec 32 := Scalar.addi v3 arg0
  let c2_i32 : BitVec 32 := 2#32
  let c0_i32_1 : BitVec 32 := 0#32
  ![v4.toNat, c2_i32.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let v2 : BitVec 32 := Scalar.muli v1 c1_i32_0
  let v3 : BitVec 32 := Scalar.addi v2 arg0
  let c0_i32_1 : BitVec 32 := 0#32
  let c0_i32_2 : BitVec 32 := 0#32
  ![v3.toNat, c0_i32_1.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let v2 : BitVec 32 := Scalar.muli v1 c1_i32_0
  let v3 : BitVec 32 := Scalar.addi v2 arg0
  let c0_i32_1 : BitVec 32 := 0#32
  let c0_i32_2 : BitVec 32 := 0#32
  ![v3.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4096x8x128 : Shape := ⟨3, ![4096, 8, 128]⟩
abbrev S2x4096x8x128 : Shape := ⟨4, ![2, 4096, 8, 128]⟩
abbrev S2x4096x8 : Shape := ⟨3, ![2, 4096, 8]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4096x4096 : Shape := ⟨3, ![8, 4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S1x4096x8 : Shape := ⟨3, ![1, 4096, 8]⟩
abbrev S3x4096x8 : Shape := ⟨3, ![3, 4096, 8]⟩
abbrev S4096x8x1 : Shape := ⟨3, ![4096, 8, 1]⟩
abbrev S2x4096x8x1 : Shape := ⟨4, ![2, 4096, 8, 1]⟩
abbrev S8x4096x128 : Shape := ⟨3, ![8, 4096, 128]⟩
abbrev S4096x1024 : Shape := ⟨2, ![4096, 1024]⟩

abbrev nBuf : Space → Nat
  | .hbm => 197
  | .vmem => 0
  | .smem => 0
  | _ => 0

abbrev hbmTy0_0 (i : Nat) : BufTy := match i % 128 with
  | 0 => ⟨S4096x8x128, .f32⟩
  | 1 => ⟨S4096x8x128, .f32⟩
  | 2 => ⟨S4096x8x128, .f32⟩
  | 3 => ⟨S2x4096x8x128, .f32⟩
  | 4 => ⟨S2x4096x8, .f32⟩
  | 5 => ⟨S4096x8x128, .f32⟩
  | 6 => ⟨S4096, .i32⟩
  | 7 => ⟨S4096x1, .i32⟩
  | 8 => ⟨S4096, .i32⟩
  | 9 => ⟨S1x4096, .i32⟩
  | 10 => ⟨S4096x4096, .i32⟩
  | 11 => ⟨S4096x4096, .i32⟩
  | 12 => ⟨S4096x4096, .i1⟩
  | 13 => ⟨S4096x4096, .i32⟩
  | 14 => ⟨S4096x4096, .i32⟩
  | 15 => ⟨S4096x4096, .i32⟩
  | 16 => ⟨S_, .i32⟩
  | 17 => ⟨S4096x4096, .i32⟩
  | 18 => ⟨S4096x4096, .i1⟩
  | 19 => ⟨S4096x4096, .i1⟩
  | 20 => ⟨S8x4096x4096, .f32⟩
  | 21 => ⟨S1x4096x4096, .i1⟩
  | 22 => ⟨S_, .f32⟩
  | 23 => ⟨S_, .f32⟩
  | 24 => ⟨S8x4096x4096, .i1⟩
  | 25 => ⟨S8x4096x4096, .f32⟩
  | 26 => ⟨S8x4096x4096, .f32⟩
  | 27 => ⟨S_, .f32⟩
  | 28 => ⟨S8x4096x4096, .f32⟩
  | 29 => ⟨S_, .f32⟩
  | 30 => ⟨S8x4096, .f32⟩
  | 31 => ⟨S8x4096x1, .f32⟩
  | 32 => ⟨S8x4096x4096, .f32⟩
  | 33 => ⟨S8x4096x4096, .i1⟩
  | 34 => ⟨S8x4096x4096, .f32⟩
  | 35 => ⟨S_, .f32⟩
  | 36 => ⟨S8x4096, .f32⟩
  | 37 => ⟨S8x4096x1, .f32⟩
  | 38 => ⟨S8x4096x4096, .f32⟩
  | 39 => ⟨S8x4096x4096, .f32⟩
  | 40 => ⟨S8x4096x4096, .f32⟩
  | 41 => ⟨S_, .f32⟩
  | 42 => ⟨S8x4096, .f32⟩
  | 43 => ⟨S8x4096x1, .f32⟩
  | 44 => ⟨S8x4096x4096, .f32⟩
  | 45 => ⟨S8x4096x4096, .f32⟩
  | 46 => ⟨S8x4096x1, .f32⟩
  | 47 => ⟨S_, .f32⟩
  | 48 => ⟨S8x4096x1, .f32⟩
  | 49 => ⟨S8x4096x1, .f32⟩
  | 50 => ⟨S8x128x4096, .f32⟩
  | 51 => ⟨S4096x8x128, .f32⟩
  | 52 => ⟨S8x4096x1, .f32⟩
  | 53 => ⟨S8x4096x1, .f32⟩
  | 54 => ⟨S8x4096, .f32⟩
  | 55 => ⟨S4096x8, .f32⟩
  | 56 => ⟨S1x4096x8, .f32⟩
  | 57 => ⟨S3x4096x8, .f32⟩
  | 58 => ⟨S_, .f32⟩
  | 59 => ⟨S2x4096x8, .f32⟩
  | 60 => ⟨S_, .f32⟩
  | 61 => ⟨S4096x8, .f32⟩
  | 62 => ⟨S1x4096x8, .f32⟩
  | 63 => ⟨S3x4096x8, .f32⟩
  | 64 => ⟨S3x4096x8, .i1⟩
  | 65 => ⟨S3x4096x8, .f32⟩
  | 66 => ⟨S_, .f32⟩
  | 67 => ⟨S4096x8, .f32⟩
  | 68 => ⟨S_, .f32⟩
  | 69 => ⟨S4096x8, .f32⟩
  | 70 => ⟨S4096x8, .f32⟩
  | 71 => ⟨S_, .f32⟩
  | 72 => ⟨S4096x8, .f32⟩
  | 73 => ⟨S4096x8, .i1⟩
  | 74 => ⟨S_, .f32⟩
  | 75 => ⟨S4096x8, .f32⟩
  | 76 => ⟨S4096x8, .i1⟩
  | 77 => ⟨S_, .f32⟩
  | 78 => ⟨S4096x8, .f32⟩
  | 79 => ⟨S_, .f32⟩
  | 80 => ⟨S4096x8, .f32⟩
  | 81 => ⟨S_, .f32⟩
  | 82 => ⟨S4096x8, .f32⟩
  | 83 => ⟨S4096x8, .f32⟩
  | 84 => ⟨S4096x8, .f32⟩
  | 85 => ⟨S1x4096x8, .f32⟩
  | 86 => ⟨S3x4096x8, .f32⟩
  | 87 => ⟨S3x4096x8, .f32⟩
  | 88 => ⟨S3x4096x8, .f32⟩
  | 89 => ⟨S_, .f32⟩
  | 90 => ⟨S4096x8, .f32⟩
  | 91 => ⟨S1x4096x8, .f32⟩
  | 92 => ⟨S3x4096x8, .f32⟩
  | 93 => ⟨S3x4096x8, .f32⟩
  | 94 => ⟨S1x4096x8, .f32⟩
  | 95 => ⟨S_, .f32⟩
  | 96 => ⟨S1x4096x8, .f32⟩
  | 97 => ⟨S1x4096x8, .f32⟩
  | 98 => ⟨S1x4096x8, .f32⟩
  | 99 => ⟨S4096x8, .f32⟩
  | 100 => ⟨S4096x8x1, .f32⟩
  | 101 => ⟨S4096x8x128, .f32⟩
  | 102 => ⟨S4096x8x128, .f32⟩
  | 103 => ⟨S2x4096x8, .f32⟩
  | 104 => ⟨S2x4096x8x1, .f32⟩
  | 105 => ⟨S2x4096x8x128, .f32⟩
  | 106 => ⟨S2x4096x8x128, .f32⟩
  | 107 => ⟨S_, .f32⟩
  | 108 => ⟨S4096x8x128, .f32⟩
  | 109 => ⟨S4096x8x128, .f32⟩
  | 110 => ⟨S4096x8x128, .f32⟩
  | 111 => ⟨S4096x8x128, .f32⟩
  | 112 => ⟨S2x4096x8x128, .f32⟩
  | 113 => ⟨S2x4096x8x128, .f32⟩
  | 114 => ⟨S_, .f32⟩
  | 115 => ⟨S2x4096x8, .f32⟩
  | 116 => ⟨S2x4096x8x1, .f32⟩
  | 117 => ⟨S_, .f32⟩
  | 118 => ⟨S2x4096x8, .f32⟩
  | 119 => ⟨S_, .f32⟩
  | 120 => ⟨S3x4096x8, .f32⟩
  | 121 => ⟨S4096x8x128, .f32⟩
  | 122 => ⟨S4096x8x128, .f32⟩
  | 123 => ⟨S4096x8x128, .f32⟩
  | 124 => ⟨S_, .f32⟩
  | 125 => ⟨S4096x8, .f32⟩
  | 126 => ⟨S4096x8x1, .f32⟩
  | 127 => ⟨S_, .f32⟩
  | _ => ⟨S4096x8x128, .f32⟩

abbrev hbmTy0_1 (i : Nat) : BufTy := match i % 128 with
  | 0 => ⟨S4096x8, .f32⟩
  | 1 => ⟨S1x4096x8, .f32⟩
  | 2 => ⟨S_, .f32⟩
  | 3 => ⟨S3x4096x8, .f32⟩
  | 4 => ⟨S3x4096x8, .f32⟩
  | 5 => ⟨S3x4096x8, .f32⟩
  | 6 => ⟨S3x4096x8, .f32⟩
  | 7 => ⟨S3x4096x8, .f32⟩
  | 8 => ⟨S_, .f32⟩
  | 9 => ⟨S4096x8, .f32⟩
  | 10 => ⟨S1x4096x8, .f32⟩
  | 11 => ⟨S1x4096x8, .f32⟩
  | 12 => ⟨S3x4096x8, .f32⟩
  | 13 => ⟨S3x4096x8, .f32⟩
  | 14 => ⟨S_, .f32⟩
  | 15 => ⟨S4096x8, .f32⟩
  | 16 => ⟨S3x4096x8, .f32⟩
  | 17 => ⟨S3x4096x8, .f32⟩
  | 18 => ⟨S3x4096x8, .f32⟩
  | 19 => ⟨S1x4096x8, .f32⟩
  | 20 => ⟨S2x4096x8, .f32⟩
  | 21 => ⟨S_, .f32⟩
  | 22 => ⟨S4096x8, .f32⟩
  | 23 => ⟨S8x4096, .f32⟩
  | 24 => ⟨S8x4096x1, .f32⟩
  | 25 => ⟨S8x4096x1, .f32⟩
  | 26 => ⟨S8x128x4096, .f32⟩
  | 27 => ⟨S8x4096x4096, .f32⟩
  | 28 => ⟨S8x128x4096, .f32⟩
  | 29 => ⟨S4096x8x128, .f32⟩
  | 30 => ⟨S8x4096x4096, .f32⟩
  | 31 => ⟨S8x4096x4096, .f32⟩
  | 32 => ⟨S8x4096x4096, .f32⟩
  | 33 => ⟨S_, .f32⟩
  | 34 => ⟨S8x4096, .f32⟩
  | 35 => ⟨S8x4096x1, .f32⟩
  | 36 => ⟨S8x4096x1, .f32⟩
  | 37 => ⟨S8x4096x1, .f32⟩
  | 38 => ⟨S8x4096x4096, .f32⟩
  | 39 => ⟨S8x4096x4096, .f32⟩
  | 40 => ⟨S_, .f32⟩
  | 41 => ⟨S8x4096, .f32⟩
  | 42 => ⟨S8x4096x4096, .f32⟩
  | 43 => ⟨S8x4096x4096, .f32⟩
  | 44 => ⟨S8x4096x4096, .f32⟩
  | 45 => ⟨S8x4096x4096, .f32⟩
  | 46 => ⟨S_, .f32⟩
  | 47 => ⟨S8x4096, .f32⟩
  | 48 => ⟨S8x4096x1, .f32⟩
  | 49 => ⟨S8x4096x1, .f32⟩
  | 50 => ⟨S_, .f32⟩
  | 51 => ⟨S8x4096, .f32⟩
  | 52 => ⟨S8x4096, .f32⟩
  | 53 => ⟨S8x4096x4096, .f32⟩
  | 54 => ⟨S8x4096x4096, .f32⟩
  | 55 => ⟨S8x4096x4096, .f32⟩
  | 56 => ⟨S_, .f32⟩
  | 57 => ⟨S8x4096x4096, .f32⟩
  | 58 => ⟨S8x4096x4096, .f32⟩
  | 59 => ⟨S8x4096x128, .f32⟩
  | 60 => ⟨S4096x8x128, .f32⟩
  | 61 => ⟨S8x4096x128, .f32⟩
  | 62 => ⟨S4096x8x128, .f32⟩
  | 63 => ⟨S4096x1024, .f32⟩
  | 64 => ⟨S4096x1024, .bf16⟩
  | 65 => ⟨S4096x1024, .f32⟩
  | 66 => ⟨S4096x1024, .bf16⟩
  | 67 => ⟨S4096x1024, .f32⟩
  | 68 => ⟨S4096x1024, .bf16⟩
  | _ => ⟨S4096x8x128, .f32⟩

abbrev hbmTy (i : Nat) : BufTy := match i / 128 with
  | 0 => hbmTy0_0 i
  | 1 => hbmTy0_1 i
  | _ => ⟨S4096x8x128, .f32⟩

abbrev bufTy : (tb : Table) → Fin (tcTables nBuf tb) → BufTy
  | .hbm, ⟨i, _⟩ => hbmTy i
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call0_v0 : Ref sig .tc := ⟨.hbm, 23, rfl⟩
abbrev main_v15_1 : Ref sig .tc := ⟨.hbm, 24, rfl⟩
abbrev main_call0_v2 : Ref sig .tc := ⟨.hbm, 25, rfl⟩
abbrev main_v15_0 : Ref sig .tc := ⟨.hbm, 26, rfl⟩
abbrev main_call0_cst : Ref sig .tc := ⟨.hbm, 27, rfl⟩
abbrev main_v15_2 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_cst_18 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_19 : Ref sig .tc := ⟨.hbm, 124, rfl⟩
abbrev main_v92 : Ref sig .tc := ⟨.hbm, 125, rfl⟩
abbrev main_v93 : Ref sig .tc := ⟨.hbm, 126, rfl⟩
abbrev main_cst_20 : Ref sig .tc := ⟨.hbm, 127, rfl⟩
abbrev main_v94 : Ref sig .tc := ⟨.hbm, 128, rfl⟩
abbrev main_v95 : Ref sig .tc := ⟨.hbm, 129, rfl⟩
abbrev main_cst_21 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_22 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_23 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_24 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_25 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_26 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_27 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_28 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_call1_cst : Ref sig .tc := ⟨.hbm, 184, rfl⟩
abbrev main_call1_v0 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩

abbrev nD : Nat := 1
abbrev τ : Topo := Topo.v7x

variable {F : FTy → Type} [FloatOps F]
-- ==== Kernel3.lean ====
abbrev S4096x1024 : Shape := ⟨2, ![4096, 1024]⟩
abbrev S4096x2048 : Shape := ⟨2, ![4096, 2048]⟩
abbrev S1024x1024 : Shape := ⟨2, ![1024, 1024]⟩
abbrev S4096x256 : Shape := ⟨2, ![4096, 256]⟩
abbrev S1024x256 : Shape := ⟨2, ![1024, 256]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x1024, .bf16⟩
  | .hbm, ⟨5, _⟩ => ⟨S1024x1024, .bf16⟩
  | .hbm, ⟨6, _⟩ => ⟨S4096x1024, .bf16⟩
  | .hbm, ⟨7, _⟩ => ⟨S4096x2048, .bf16⟩
  | .hbm, ⟨8, _⟩ => ⟨S1024x2048, .bf16⟩
  | .local _ .vmem, ⟨0, _⟩ => ⟨S4096x1024, .bf16⟩
  | .local _ .vmem, ⟨1, _⟩ => ⟨S4096x256, .f32⟩
  | .local _ .vmem, ⟨2, _⟩ => ⟨S4096x256, .f32⟩
  | .local _ .vmem, ⟨3, _⟩ => ⟨S1024x256, .bf16⟩
  | .local _ .vmem, ⟨4, _⟩ => ⟨S1024x256, .bf16⟩
  | .local _ .vmem, ⟨5, _⟩ => ⟨S4096x1024, .bf16⟩
  | .local _ .vmem, ⟨6, _⟩ => ⟨S4096x512, .bf16⟩
  | .local _ .vmem, ⟨7, _⟩ => ⟨S4096x512, .bf16⟩
  | .local _ .vmem, ⟨8, _⟩ => ⟨S1024x512, .bf16⟩
  | .local _ .vmem, ⟨9, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]
-- ==== Reference3Ideal.lean ====
abbrev S4096x1024 : Shape := ⟨2, ![4096, 1024]⟩
abbrev S4096x2048 : Shape := ⟨2, ![4096, 2048]⟩
abbrev S_ : Shape := ⟨0, ![]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x1024, .f32⟩
  | .hbm, ⟨6, _⟩ => ⟨S_, .f32⟩
  | .hbm, ⟨7, _⟩ => ⟨S1024x2048, .f32⟩
  | .hbm, ⟨8, _⟩ => ⟨S4096x1024, .f32⟩
  | .hbm, ⟨9, _⟩ => ⟨S4096x2048, .f32⟩
  | .hbm, ⟨10, _⟩ => ⟨S2048x1024, .f32⟩
  | .hbm, ⟨11, _⟩ => ⟨S1024x2048, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel4.lean ====
abbrev S4096x1024 : Shape := ⟨2, ![4096, 1024]⟩
abbrev S4096x9216 : Shape := ⟨2, ![4096, 9216]⟩
abbrev S1024x9216 : Shape := ⟨2, ![1024, 9216]⟩
abbrev S4096x512 : Shape := ⟨2, ![4096, 512]⟩
abbrev S1024x512 : Shape := ⟨2, ![1024, 512]⟩

abbrev nBuf : Space → Nat
  | .hbm => 15
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x9216, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S1024x9216, .bf16⟩
  | .hbm, ⟨13, _⟩ => ⟨S1024x9216, .bf16⟩
  | .hbm, ⟨14, _⟩ => ⟨S1024x9216, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S1024x512, .bf16⟩
  | .local _ .vmem, ⟨8, _⟩ => ⟨S1024x512, .bf16⟩
  | .local _ .vmem, ⟨9, _⟩ => ⟨S4096x1024, .bf16⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | .local _ .vmem, ⟨13, _⟩ => ⟨S4096x512, .bf16⟩
  | .local _ .vmem, ⟨14, _⟩ => ⟨S4096x512, .bf16⟩
  | .local _ .vmem, ⟨15, _⟩ => ⟨S4096x512, .bf16⟩
  | .local _ .vmem, ⟨16, _⟩ => ⟨S1024x512, .bf16⟩
  | .local _ .vmem, ⟨17, _⟩ => ⟨S1024x512, .bf16⟩
  | .local _ .vmem, ⟨18, _⟩ => ⟨S4096x1024, .bf16⟩
  | .local _ .vmem, ⟨19, _⟩ => ⟨S4096x512, .bf16⟩
  | .local _ .vmem, ⟨20, _⟩ => ⟨S4096x512, .bf16⟩
  | .local _ .vmem, ⟨21, _⟩ => ⟨S4096x512, .bf16⟩
  | .local _ .vmem, ⟨22, _⟩ => ⟨S4096x512, .bf16⟩
  | .local _ .vmem, ⟨23, _⟩ => ⟨S4096x512, .bf16⟩
  | .local _ .vmem, ⟨24, _⟩ => ⟨S4096x512, .bf16⟩
  | .local _ .vmem, ⟨25, _⟩ => ⟨S1024x512, .bf16⟩
  | .local _ .vmem, ⟨26, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![6], ![false]⟩

def k1_cond1 (i : grid1.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k1_cond2 (i : grid1.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k1_cond3 (i : grid1.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc1_transform_2 (i : grid1.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc1_transform_3 (i : grid1.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc1_transform_5 (i : grid1.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![6], ![false]⟩

def k2_cond1 (i : grid2.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k2_cond2 (i : grid2.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k2_cond3 (i : grid2.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc2_transform_2 (i : grid2.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc2_transform_3 (i : grid2.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc2_transform_5 (i : grid2.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== Reference4Ideal.lean ====
abbrev S4096x1024 : Shape := ⟨2, ![4096, 1024]⟩
abbrev S4096x9216 : Shape := ⟨2, ![4096, 9216]⟩
abbrev S_ : Shape := ⟨0, ![]⟩
abbrev S1024x9216 : Shape := ⟨2, ![1024, 9216]⟩
abbrev S9216x1024 : Shape := ⟨2, ![9216, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x9216, .bf16⟩
  | .hbm, ⟨2, _⟩ => ⟨S_, .f32⟩
  | .hbm, ⟨3, _⟩ => ⟨S1024x9216, .f32⟩
  | .hbm, ⟨4, _⟩ => ⟨S4096x9216, .f32⟩
  | .hbm, ⟨5, _⟩ => ⟨S4096x9216, .f32⟩
  | .hbm, ⟨6, _⟩ => ⟨S9216x1024, .f32⟩
  | .hbm, ⟨7, _⟩ => ⟨S1024x9216, .f32⟩
  | .hbm, ⟨8, _⟩ => ⟨S1024x9216, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x9216 : Shape := ⟨2, ![4096, 9216]⟩
abbrev S4096x1024 : Shape := ⟨2, ![4096, 1024]⟩
abbrev S1x1024 : Shape := ⟨2, ![1, 1024]⟩
abbrev S1024x9216 : Shape := ⟨2, ![1024, 9216]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 18
  | .vmem => 27
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1024x9216, .f32⟩
  | .hbm, ⟨5, _⟩ => ⟨S4096x9216, .bf16⟩
  | .hbm, ⟨6, _⟩ => ⟨S1024x9216, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .f32⟩
  | .hbm, ⟨17, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S1024x9216, .bf16⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x9216 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S4096x9216 : Shape := ⟨2, ![4096, 9216]⟩
abbrev S4096x1024 : Shape := ⟨2, ![4096, 1024]⟩
abbrev S1x1024 : Shape := ⟨2, ![1, 1024]⟩
abbrev S1024x9216 : Shape := ⟨2, ![1024, 9216]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1024x9216, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x9216, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Hand.Up.lean ====
/- Arrays of extended reals all of whose entries are real numbers, and what the operations of the printed programs do
   to them. `R2 A` is the rank-2 array whose entry at `(i, j)` is the real number `A i j`; every lemma below says that
   an operation takes arrays of this form to an array of this form, and names its entries. A program's result is then
   read off by rewriting, one operation after another. -/
module

public import Idealize.ShloMosaic.Lib.Pointwise.Reduce
public import Idealize.ShloMosaic.Lib.ValueIdx
public import Idealize.ShloMosaic.Lib.IdealHost
public import Idealize.ShloMosaic.Lib.MatmulPlain
public import Idealize.ShloMosaic.Lib.Pipeline.Value

@[expose] public section

set_option maxRecDepth 16384

noncomputable section

namespace Cert.Real

open Idealize.ShloMosaic hiding ix0 ix1 ix2 eq_ix1 eq_ix2
open Idealize.ShloMosaic.ValueIdx
open scoped BigOperators

variable {a b k n : ℕ} {φ φ₁ φ₂ : FTy}

/-- The rank-2 array of the real numbers `A i j`. -/
def R2 (A : Fin a → Fin b → ℝ) : (⟨2, ![a, b]⟩ : Shape).Idx → EReal := fun i => ((A (i 0) (i 1) : ℝ) : EReal)
/-- The rank-1 array of the real numbers `A i`. -/
def R1 (A : Fin a → ℝ) : (⟨1, ![a]⟩ : Shape).Idx → EReal := fun i => ((A (i 0) : ℝ) : EReal)

/-- An entry of `R2 A`. -/
theorem R2_ix2 (A : Fin a → Fin b → ℝ) (i : Fin a) (j : Fin b) : R2 A (ix2 i j) = ((A i j : ℝ) : EReal) := rfl
/-- An entry of `R1 A`. -/
theorem R1_ix1 (A : Fin a → ℝ) (i : Fin a) : R1 A (ix1 i) = ((A i : ℝ) : EReal) := rfl

/-- An array whose entries are the real numbers `A i j` is `R2 A`. -/
theorem eq_R2 (x : (⟨2, ![a, b]⟩ : Shape).Idx → EReal) (A : Fin a → Fin b → ℝ)
    (h : ∀ i j, x (ix2 i j) = ((A i j : ℝ) : EReal)) : x = R2 A := by
  funext i; rw [eq_ix2 i]; exact h _ _
/-- The same at rank 1. -/
theorem eq_R1 (x : (⟨1, ![a]⟩ : Shape).Idx → EReal) (A : Fin a → ℝ)
    (h : ∀ i, x (ix1 i) = ((A i : ℝ) : EReal)) : x = R1 A := by
  funext i; rw [eq_ix1 i]; exact h _

/-- A sum of real numbers, taken in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert x s hx ih => rw [Finset.sum_insert hx, Finset.sum_insert hx, ih, EReal.coe_add]

/-! ## Constants -/

/-- The smallest addend under the square root: the number the word `0x358637BD` stands for. -/
def eps : ℝ := (Ideal.ofBits .f32 0x358637BD#32).toReal

theorem ofBits_eps : Ideal.ofBits .f32 0x358637BD#32 = ((eps : ℝ) : EReal) := by
  unfold eps
  simp [Ideal.ofBits, Ideal.ieee, -EReal.coe_mul]
theorem eps_pos : 0 < eps := by
  unfold eps
  simp [Ideal.ofBits, Ideal.ieee, -EReal.coe_mul]
theorem ofBits_1024 : Ideal.ofBits .f32 0x44800000#32 = ((1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_one : Ideal.ofBits .f32 0x3F800000#32 = ((1 : ℝ) : EReal) := by
  rw [Ideal.ofBits_one_f32]; norm_cast
theorem ofBits_zero : Ideal.ofBits .f32 0x00000000#32 = ((0 : ℝ) : EReal) := by
  simp [Ideal.ofBits, Ideal.ieee]

/-- A splat of a word that stands for the real number `c`. -/
theorem splat {w : BitVec 32} {c : ℝ} (h : Ideal.ofBits .f32 w = ((c : ℝ) : EReal)) :
    broadcast (⟨2, ![a, b]⟩ : Shape) (Scalar.ofBits (F := Ideal) .f32 w) = R2 fun _ _ => c := by
  funext i; exact h
theorem splat_host {w : BitVec 32} {c : ℝ} (h : Ideal.ofBits .f32 w = ((c : ℝ) : EReal))
    (hb : (⟨0, ![]⟩ : Shape).BroadcastsInDim ⟨2, ![a, b]⟩ ![]) :
    broadcastInDim (⟨2, ![a, b]⟩ : Shape) ![] hb (constant (F := Ideal) (⟨0, ![]⟩ : Shape) .f32 w) = R2 fun _ _ => c := by
  funext i; exact h

theorem splat_1024 : broadcast (⟨2, ![a, b]⟩ : Shape) (Scalar.ofBits (F := Ideal) .f32 0x44800000#32) = R2 fun _ _ => 1024 := splat ofBits_1024
theorem splat_eps : broadcast (⟨2, ![a, b]⟩ : Shape) (Scalar.ofBits (F := Ideal) .f32 0x358637BD#32) = R2 fun _ _ => eps := splat ofBits_eps
theorem splat_half : broadcast (⟨2, ![a, b]⟩ : Shape) (Scalar.ofBits (F := Ideal) .f32 0x3F000000#32) = R2 fun _ _ => 1 / 2 := splat ofBits_half
theorem splat_one : broadcast (⟨2, ![a, b]⟩ : Shape) (Scalar.ofBits (F := Ideal) .f32 0x3F800000#32) = R2 fun _ _ => 1 := splat ofBits_one
theorem splat_zero : broadcast (⟨2, ![a, b]⟩ : Shape) (Scalar.ofBits (F := Ideal) .f32 0x00000000#32) = R2 fun _ _ => 0 := splat ofBits_zero

section Host
variable (hb : (⟨0, ![]⟩ : Shape).BroadcastsInDim ⟨2, ![a, b]⟩ ![])
theorem splat_host_1024 : broadcastInDim (⟨2, ![a, b]⟩ : Shape) ![] hb (constant (F := Ideal) (⟨0, ![]⟩ : Shape) .f32 0x44800000#32) = R2 fun _ _ => 1024 := splat_host ofBits_1024 hb
theorem splat_host_eps : broadcastInDim (⟨2, ![a, b]⟩ : Shape) ![] hb (constant (F := Ideal) (⟨0, ![]⟩ : Shape) .f32 0x358637BD#32) = R2 fun _ _ => eps := splat_host ofBits_eps hb
theorem splat_host_half : broadcastInDim (⟨2, ![a, b]⟩ : Shape) ![] hb (constant (F := Ideal) (⟨0, ![]⟩ : Shape) .f32 0x3F000000#32) = R2 fun _ _ => 1 / 2 := splat_host ofBits_half hb
theorem splat_host_neg_half : broadcastInDim (⟨2, ![a, b]⟩ : Shape) ![] hb (constant (F := Ideal) (⟨0, ![]⟩ : Shape) .f32 0xBF000000#32) = R2 fun _ _ => -(1 / 2) := splat_host ofBits_neg_half hb
theorem splat_host_one : broadcastInDim (⟨2, ![a, b]⟩ : Shape) ![] hb (constant (F := Ideal) (⟨0, ![]⟩ : Shape) .f32 0x3F800000#32) = R2 fun _ _ => 1 := splat_host ofBits_one hb
end Host

/-! ## Entry by entry -/

variable (A B : Fin a → Fin b → ℝ)

theorem r_mulf : mulf (F := Ideal) (φ := φ) (R2 A) (R2 B) = R2 fun i j => A i j * B i j := by
  funext i; exact (EReal.coe_mul _ _).symm
theorem r_addf : addf (F := Ideal) (φ := φ) (R2 A) (R2 B) = R2 fun i j => A i j + B i j := by
  funext i; exact (EReal.coe_add _ _).symm
theorem r_subf : subf (F := Ideal) (φ := φ) (R2 A) (R2 B) = R2 fun i j => A i j - B i j := by
  funext i; exact (EReal.coe_sub _ _).symm
theorem r_div {x y : ℝ} (h : y ≠ 0) : Ideal.div (x : EReal) (y : EReal) = ((x / y : ℝ) : EReal) := by
  rw [Ideal.div_coe h, ← EReal.coe_mul, mul_one_div]
theorem r_divf (h : ∀ i j, B i j ≠ 0) : divf (F := Ideal) (φ := φ) (R2 A) (R2 B) = R2 fun i j => A i j / B i j := by
  funext i; exact r_div (h _ _)
theorem r_hdivf (h : ∀ i j, B i j ≠ 0) : Host.divf (F := Ideal) (φ := φ) (R2 A) (R2 B) = R2 fun i j => A i j / B i j := by
  funext i; exact r_div (h _ _)
theorem r_hnegf : Host.negf (F := Ideal) (φ := φ) (R2 A) = R2 fun i j => -A i j := by
  funext i; exact (EReal.coe_neg _).symm
theorem r_exp : exp (F := Ideal) (φ := φ) (R2 A) = R2 fun i j => Real.exp (A i j) := by
  funext i; exact Ideal.exp_coe _
theorem r_hexp : Host.exp (F := Ideal) (φ := φ) (R2 A) = R2 fun i j => Real.exp (A i j) := by
  funext i; exact Ideal.exp_coe _
theorem r_rsqrt_coe {r : ℝ} (h : 0 < r) : Ideal.rsqrt (r : EReal) = (((Real.sqrt r)⁻¹ : ℝ) : EReal) := by
  rw [Ideal.rsqrt_coe, if_neg (not_lt.2 h.le), if_neg h.ne']
theorem r_rsqrt (h : ∀ i j, 0 < A i j) : rsqrt (F := Ideal) (φ := φ) (R2 A) = R2 fun i j => (Real.sqrt (A i j))⁻¹ := by
  funext i; exact r_rsqrt_coe (h _ _)
theorem r_hrsqrt (h : ∀ i j, 0 < A i j) : Host.rsqrt (F := Ideal) (φ := φ) (R2 A) = R2 fun i j => (Real.sqrt (A i j))⁻¹ := by
  funext i; exact r_rsqrt_coe (h _ _)
theorem r_truncf (h : φ₂.bits < φ₁.bits) : truncf (F := Ideal) (φ := φ₁) φ₂ (R2 A) h = R2 A := rfl
theorem r_extf (h : φ₁.bits < φ₂.bits) : extf (F := Ideal) (φ := φ₁) φ₂ (R2 A) h = R2 A := rfl

/-! ## Layout -/

theorem r_bcast_col (C : Fin a → Fin 1 → ℝ) (h : (⟨2, ![a, 1]⟩ : Shape).Broadcasts ⟨2, ![a, b]⟩) :
    broadcastTo (⟨2, ![a, b]⟩ : Shape) (R2 C) h = R2 fun i _ => C i 0 := by
  refine eq_R2 _ _ fun i j => ?_
  refine broadcastTo_apply (R2 C) h (ix2 i j) (ix2 i 0) fun d => ?_
  match d with
  | ⟨0, _⟩ =>
    show i.val = if a = 1 then 0 else i.val
    have := i.isLt
    split_ifs <;> omega
  | ⟨1, _⟩ => rfl
theorem r_bcast_row (C : Fin 1 → Fin b → ℝ) (h : (⟨2, ![1, b]⟩ : Shape).Broadcasts ⟨2, ![a, b]⟩) :
    broadcastTo (⟨2, ![a, b]⟩ : Shape) (R2 C) h = R2 fun _ j => C 0 j := by
  refine eq_R2 _ _ fun i j => ?_
  refine broadcastTo_apply (R2 C) h (ix2 i j) (ix2 0 j) fun d => ?_
  match d with
  | ⟨0, _⟩ => rfl
  | ⟨1, _⟩ =>
    show j.val = if b = 1 then 0 else j.val
    have := j.isLt
    split_ifs <;> omega
theorem r_hbcast_col (C : Fin a → Fin 1 → ℝ) (h : (⟨2, ![a, 1]⟩ : Shape).BroadcastsInDim ⟨2, ![a, b]⟩ ![0, 1]) :
    broadcastInDim (⟨2, ![a, b]⟩ : Shape) ![0, 1] h (R2 C) = R2 fun i _ => C i 0 := by
  refine eq_R2 _ _ fun i j => ?_
  refine broadcastInDim_apply _ h (R2 C) (ix2 i j) (ix2 i 0) fun d => ?_
  match d with
  | ⟨0, _⟩ =>
    show i.val = if a = 1 then 0 else i.val
    have := i.isLt
    split_ifs <;> omega
  | ⟨1, _⟩ => rfl
theorem r_hbcast_row (C : Fin 1 → Fin b → ℝ) (h : (⟨2, ![1, b]⟩ : Shape).BroadcastsInDim ⟨2, ![a, b]⟩ ![0, 1]) :
    broadcastInDim (⟨2, ![a, b]⟩ : Shape) ![0, 1] h (R2 C) = R2 fun _ j => C 0 j := by
  refine eq_R2 _ _ fun i j => ?_
  refine broadcastInDim_apply _ h (R2 C) (ix2 i j) (ix2 0 j) fun d => ?_
  match d with
  | ⟨0, _⟩ => rfl
  | ⟨1, _⟩ =>
    show j.val = if b = 1 then 0 else j.val
    have := j.isLt
    split_ifs <;> omega
theorem r_hbcast_vec (C : Fin a → ℝ) (h : (⟨1, ![a]⟩ : Shape).BroadcastsInDim ⟨2, ![a, b]⟩ ![0]) :
    broadcastInDim (⟨2, ![a, b]⟩ : Shape) ![0] h (R1 C) = R2 fun i _ => C i := by
  refine eq_R2 _ _ fun i j => ?_
  refine broadcastInDim_apply _ h (R1 C) (ix2 i j) (ix1 i) fun d => ?_
  match d with
  | ⟨0, _⟩ =>
    show i.val = if a = 1 then 0 else i.val
    have := i.isLt
    split_ifs <;> omega
theorem r_cast_col (C : Fin a → ℝ) (h : (⟨1, ![a]⟩ : Shape).ShapeCasts ⟨2, ![a, 1]⟩) :
    shapeCast (⟨2, ![a, 1]⟩ : Shape) (R1 C) h = R2 fun i _ => C i := by
  refine eq_R2 _ _ fun i j => ?_
  refine shapeCast_apply (R1 C) h (ix2 i j) (ix1 i) ?_
  rw [Shape.rowMajor_val_one, Shape.rowMajor_val_two]
  show i.val = i.val * 1 + j.val
  have := j.isLt
  omega
theorem r_cast_row (C : Fin b → ℝ) (h : (⟨1, ![b]⟩ : Shape).ShapeCasts ⟨2, ![1, b]⟩) :
    shapeCast (⟨2, ![1, b]⟩ : Shape) (R1 C) h = R2 fun _ j => C j := by
  refine eq_R2 _ _ fun i j => ?_
  refine shapeCast_apply (R1 C) h (ix2 i j) (ix1 j) ?_
  rw [Shape.rowMajor_val_one, Shape.rowMajor_val_two]
  show j.val = i.val * b + j.val
  have := i.isLt
  have hi : i.val = 0 := by omega
  rw [hi]; omega
theorem r_transpose (h : (⟨2, ![a, b]⟩ : Shape).Transposes [1, 0] ⟨2, ![b, a]⟩) :
    transpose (⟨2, ![b, a]⟩ : Shape) [1, 0] (R2 A) h = R2 fun j i => A i j := by
  refine eq_R2 _ _ fun j i => ?_
  refine transpose_apply [1, 0] (R2 A) h (ix2 j i) (ix2 i j) fun d => ?_
  match d with
  | ⟨0, _⟩ => rfl
  | ⟨1, _⟩ => rfl
/-- The `n` columns of an array from column `o` on. -/
theorem r_slice (o : ℕ) (ho : o + n ≤ b) (h : (⟨2, ![a, b]⟩ : Shape).Slices ![0, o] ⟨2, ![a, n]⟩) :
    extractStridedSlice (⟨2, ![a, n]⟩ : Shape) ![0, o] (R2 A) h = R2 fun i j => A i ⟨o + j.val, by have := j.isLt; omega⟩ := by
  refine eq_R2 _ _ fun i j => ?_
  refine extractStridedSlice_apply ![0, o] (R2 A) h (ix2 i j) (ix2 i ⟨o + j.val, by have := j.isLt; omega⟩) fun d => ?_
  match d with
  | ⟨0, _⟩ => exact (Nat.zero_add _).symm
  | ⟨1, _⟩ => rfl
/-- Two arrays of `n` columns side by side. -/
theorem r_concat (X Y : Fin a → Fin n → ℝ) (hb : b = n + n)
    (h : Shape.Concatenates [(⟨2, ![a, n]⟩ : Shape), ⟨2, ![a, n]⟩] ⟨2, ![a, b]⟩ 1) :
    concatenate (⟨2, ![a, b]⟩ : Shape) 1 [⟨⟨2, ![a, n]⟩, R2 X⟩, ⟨⟨2, ![a, n]⟩, R2 Y⟩] h
      = R2 fun i j => if hj : j.val < n then X i ⟨j.val, hj⟩ else Y i ⟨j.val - n, by have := j.isLt; omega⟩ := by
  refine eq_R2 _ _ fun i j => ?_
  by_cases hj : j.val < n
  · rw [dif_pos hj]
    refine concatenate_pair_apply_left 1 (R2 X) (R2 Y) h (ix2 i j) rfl (ix2 i ⟨j.val, hj⟩) fun d => ?_
    match d with
    | ⟨0, _⟩ => rfl
    | ⟨1, _⟩ => rfl
  · rw [dif_neg hj]
    refine concatenate_pair_apply_right 1 (R2 X) (R2 Y) h (ix2 i j) rfl rfl (ix2 i ⟨j.val - n, by have := j.isLt; omega⟩) (fun d hd => ?_) ?_
    · match d with
      | ⟨0, _⟩ => rfl
      | ⟨1, _⟩ => exact absurd rfl hd
    · show j.val - n + n = j.val
      omega

/-! ## Sums along an axis -/

theorem r_sum_cols (w : BitVec 32) (h : (⟨2, ![a, b]⟩ : Shape).Reduces [1] ⟨1, ![a]⟩) (hf : FKind.Formats .f32)
    (hw : w = FKind.neutral .add .f32 hf) :
    multiReduction (F := Ideal) .add [1] (⟨1, ![a]⟩ : Shape) (R2 A) w h hf hw = R1 fun i => ∑ j, A i j := by
  funext i
  show Ideal.reduceAdd h (R2 A) i = _
  rw [Ideal.reduceAdd_r2_a1]
  exact coe_sum _ fun j => A (i 0) j
theorem r_sum_rows (w : BitVec 32) (h : (⟨2, ![a, b]⟩ : Shape).Reduces [0] ⟨1, ![b]⟩) (hf : FKind.Formats .f32)
    (hw : w = FKind.neutral .add .f32 hf) :
    multiReduction (F := Ideal) .add [0] (⟨1, ![b]⟩ : Shape) (R2 A) w h hf hw = R1 fun j => ∑ i, A i j := by
  funext j
  show Ideal.reduceAdd h (R2 A) j = _
  rw [Ideal.reduceAdd_r2_a0]
  exact coe_sum _ fun i => A i (j 0)
theorem r_hsum_cols (h : (⟨2, ![a, b]⟩ : Shape).ReducesTo [1] ⟨1, ![a]⟩) (hu : 0 < (⟨0, ![]⟩ : Shape).numel) :
    Host.reduceAdd (F := Ideal) (φ := .f32) (R2 A) (constant (F := Ideal) (⟨0, ![]⟩ : Shape) .f32 0x00000000#32) h hu
      = R1 fun i => ∑ j, A i j := by
  funext i
  show Ideal.hostReduceAdd h (R2 A) (Ideal.ofBits .f32 0x00000000#32) i = _
  rw [Ideal.hostReduceAdd_r2_a1, ofBits_zero, EReal.coe_zero, zero_add]
  exact coe_sum _ fun j => A (i 0) j
theorem r_hsum_rows (h : (⟨2, ![a, b]⟩ : Shape).ReducesTo [0] ⟨1, ![b]⟩) (hu : 0 < (⟨0, ![]⟩ : Shape).numel) :
    Host.reduceAdd (F := Ideal) (φ := .f32) (R2 A) (constant (F := Ideal) (⟨0, ![]⟩ : Shape) .f32 0x00000000#32) h hu
      = R1 fun j => ∑ i, A i j := by
  funext j
  show Ideal.hostReduceAdd h (R2 A) (Ideal.ofBits .f32 0x00000000#32) j = _
  rw [Ideal.hostReduceAdd_r2_a0, ofBits_zero, EReal.coe_zero, zero_add]
  exact coe_sum _ fun i => A i (j 0)

/-! ## Products -/

/-- The dimension numbers of `Xᵀ Y`: both operands contracted on their rows. -/
def tnDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The zero accumulator and a sum of products of reals. -/
theorem acc_sum {K : ℕ} {f g : Fin K → ℝ} {acc : EReal} (h : acc = ((0 : ℝ) : EReal)) :
    acc + ∑ q : Fin K, ((f q : ℝ) : EReal) * ((g q : ℝ) : EReal) = ((∑ q, f q * g q : ℝ) : EReal) := by
  rw [h, EReal.coe_zero, zero_add, ← coe_sum]
  exact Finset.sum_congr rfl fun q _ => (EReal.coe_mul _ _).symm

/-- A plain product, at any accumulator. -/
theorem plain_read (prec : Option ContractPrecision) (X : FVec Ideal ⟨2, ![a, k]⟩ φ₁) (Y : FVec Ideal ⟨2, ![k, b]⟩ φ₂)
    (acc : FVec Ideal ⟨2, ![a, b]⟩ .f32) (i : Fin a) (j : Fin b) :
    matmul (DotDims.plain a k b) prec X Y acc (ix2 i j) = acc (ix2 i j) + ∑ q : Fin k, X (ix2 i q) * Y (ix2 q j) :=
  Ideal.matmul_plain_apply prec X Y acc i j

/-- Both operands contracted on their rows, at any accumulator. -/
theorem tn_read (prec : Option ContractPrecision) (X : FVec Ideal ⟨2, ![k, a]⟩ φ₁) (Y : FVec Ideal ⟨2, ![k, b]⟩ φ₂)
    (acc : FVec Ideal ⟨2, ![a, b]⟩ .f32) (i : Fin a) (j : Fin b) :
    matmul (tnDims a k b) prec X Y acc (ix2 i j) = acc (ix2 i j) + ∑ q : Fin k, X (ix2 q i) * Y (ix2 q j) := by
  show FloatOps.matmul (tnDims a k b) prec X Y acc (ix2 i j) = _
  rw [Ideal.matmul_apply, ← Equiv.sum_comp (contrEquiv1 (tnDims a k b) k rfl rfl).symm]
  refine congrArg (acc (ix2 i j) + ·) (Finset.sum_congr rfl fun q _ => ?_)
  have hq := contrEquiv1_symm_val (tnDims a k b) k rfl rfl q
  have el : (tnDims a k b).lhsIdx (ix2 i j) ((contrEquiv1 (tnDims a k b) k rfl rfl).symm q) = ix2 q i := by
    funext d; apply Fin.ext
    match d with
    | ⟨0, _⟩ => exact hq
    | ⟨1, _⟩ => rfl
  have er : (tnDims a k b).rhsIdx (ix2 i j) ((contrEquiv1 (tnDims a k b) k rfl rfl).symm q) = ix2 q j := by
    funext d; apply Fin.ext
    match d with
    | ⟨0, _⟩ => exact hq
    | ⟨1, _⟩ => rfl
  rw [el, er]

theorem r_nn (d : DotDims ⟨2, ![a, k]⟩ ⟨2, ![k, b]⟩ ⟨2, ![a, b]⟩) (hd : d = DotDims.plain a k b) (prec : Option ContractPrecision)
    (X : Fin a → Fin k → ℝ) (Y : Fin k → Fin b → ℝ) :
    matmul (F := Ideal) (φ₁ := φ₁) (φ₂ := φ₂) d prec (R2 X) (R2 Y) (constant (F := Ideal) ⟨2, ![a, b]⟩ .f32 0x00000000#32)
      = R2 fun i j => ∑ q, X i q * Y q j := by
  subst hd
  exact eq_R2 _ _ fun i j => (plain_read prec _ _ _ i j).trans (acc_sum ofBits_zero)
theorem r_nt (d : DotDims ⟨2, ![a, k]⟩ ⟨2, ![b, k]⟩ ⟨2, ![a, b]⟩) (hd : d = DotDims.transposedRhs a k b) (prec : Option ContractPrecision)
    (X : Fin a → Fin k → ℝ) (Y : Fin b → Fin k → ℝ) :
    matmul (F := Ideal) (φ₁ := φ₁) (φ₂ := φ₂) d prec (R2 X) (R2 Y) (constant (F := Ideal) ⟨2, ![a, b]⟩ .f32 0x00000000#32)
      = R2 fun i j => ∑ q, X i q * Y j q := by
  subst hd
  exact eq_R2 _ _ fun i j => (Ideal.matmul_transposedRhs_apply prec _ _ _ i j).trans (acc_sum ofBits_zero)
theorem r_tn (d : DotDims ⟨2, ![k, a]⟩ ⟨2, ![k, b]⟩ ⟨2, ![a, b]⟩) (hd : d = tnDims a k b) (prec : Option ContractPrecision)
    (X : Fin k → Fin a → ℝ) (Y : Fin k → Fin b → ℝ) :
    matmul (F := Ideal) (φ₁ := φ₁) (φ₂ := φ₂) d prec (R2 X) (R2 Y) (constant (F := Ideal) ⟨2, ![a, b]⟩ .f32 0x00000000#32)
      = R2 fun i j => ∑ q, X q i * Y q j := by
  subst hd
  exact eq_R2 _ _ fun i j => (tn_read prec _ _ _ i j).trans (acc_sum ofBits_zero)

/-- The host's product is the kernel's with a zero accumulator. -/
theorem host_dot {sl sr so : Shape} (d : DotDims sl sr so) (prec : Option ContractPrecision) (X : FVec Ideal sl φ₁) (Y : FVec Ideal sr φ₂) :
    Host.dotGeneral (F := Ideal) d prec X Y = matmul (F := Ideal) d prec X Y (constant (F := Ideal) so .f32 0x00000000#32) := by
  funext i
  show FloatOps.dotGeneral d prec _ X Y i = FloatOps.matmul d prec X Y _ i
  rw [Ideal.dotGeneral_apply, Ideal.matmul_constant_zero_apply]

end Cert.Real

end
-- ==== Proof.Hand.Pre.lean ====
/- The precondition: every entry of the five arguments is finite, so each is an array of reals. -/
module

public import proofs.«01_k».proof.Proof.Hand.Up
public import proofs.«01_k».proof.Pre_finite
public import Idealize.ShloMosaic.Lib.ReduceAll

@[expose] public section

set_option maxRecDepth 16384
set_option backward.isDefEq.respectTransparency false

noncomputable section

namespace Cert.Real

open Idealize.ShloMosaic hiding ix0 ix1 ix2 eq_ix1 eq_ix2
open Idealize.ShloMosaic.ValueIdx

/-- The shape relations that the predicate takes. -/
theorem preFacts : Cert.Pre_finite.Facts where
  bcast_S_S4096x1024 := by decide
  reducesTo_S4096x1024_S_d0_1 := by decide
  h_S_ := by decide
  bcast_S_S1x1024 := by decide
  reducesTo_S1x1024_S_d0_1 := by decide
  bcast_S_S1024x5632 := by decide
  reducesTo_S1024x5632_S_d0_1 := by decide
  bcast_S_S2816x1024 := by decide
  reducesTo_S2816x1024_S_d0_1 := by decide

/-- The word of the predicate's bound is the top element. -/
theorem ofBits_top : Ideal.ofBits .f32 0x7F800000#32 = (⊤ : EReal) := by
  simp [Ideal.ofBits, Ideal.ieee]

/-- An extended real whose absolute value is below the top is a real. -/
theorem real_of_lt (v : EReal) (h : max v (-v) < ⊤) : ((v.toReal : ℝ) : EReal) = v := by
  refine EReal.coe_toReal ?_ ?_
  · rintro rfl
    exact absurd h (by simp)
  · rintro rfl
    exact absurd h (by simp)

/-- An array all of whose entries pass the test is an array of reals. -/
theorem real_of_all {a b : ℕ} (x : FVec Ideal (⟨2, ![a, b]⟩ : Shape) .f32)
    (hb : (⟨0, ![]⟩ : Shape).BroadcastsInDim (⟨2, ![a, b]⟩ : Shape) (![] : Fin 0 → Fin 2))
    (hr : (⟨2, ![a, b]⟩ : Shape).ReducesTo [0, 1] (⟨0, ![]⟩ : Shape)) (hu : 0 < (⟨0, ![]⟩ : Shape).numel) (j : (⟨0, ![]⟩ : Shape).Idx)
    (e : Host.reduce IntOp.andi (cmpf .olt (Host.absf x) (broadcastInDim (⟨2, ![a, b]⟩ : Shape) ![] hb (constant (F := Ideal) (⟨0, ![]⟩ : Shape) .f32 0x7F800000#32))) (constantI (⟨0, ![]⟩ : Shape) 1 1#1) hr hu j = 1#1) :
    ∃ A : Fin a → Fin b → ℝ, x = R2 A := by
  haveI : Subsingleton (⟨0, ![]⟩ : Shape).Idx := ⟨fun p q => funext fun k => k.elim0⟩
  refine ⟨fun p q => (x (ix2 p q)).toReal, eq_R2 x _ fun p q => ?_⟩
  have h := Host.reduce_andi_all _ _ hr hu j e (ix2 p q)
  have h' : BitVec.ofBool (decide (max (x (ix2 p q)) (-(x (ix2 p q))) < Ideal.ofBits .f32 0x7F800000#32)) = 1#1 := h
  rw [ofBits_top] at h'
  have h2 : max (x (ix2 p q)) (-(x (ix2 p q))) < ⊤ := by
    by_contra hn
    rw [decide_eq_false hn] at h'
    exact absurd h' (by decide)
  exact (real_of_lt _ h2).symm

/-- The predicate, true, gives each argument as an array of reals. -/
theorem reals_of_pre (x : FVec Ideal (⟨2, ![4096, 1024]⟩ : Shape) .f32) (g : FVec Ideal (⟨2, ![1, 1024]⟩ : Shape) .f32)
    (dy : FVec Ideal (⟨2, ![4096, 1024]⟩ : Shape) .f32) (w : FVec Ideal (⟨2, ![1024, 5632]⟩ : Shape) .f32)
    (wo : FVec Ideal (⟨2, ![2816, 1024]⟩ : Shape) .f32)
    (h : @Cert.Pre_finite.fn preFacts Ideal _ x g dy w wo = fun _ => 1#1) :
    (∃ A, x = R2 A) ∧ (∃ A, g = R2 A) ∧ (∃ A, dy = R2 A) ∧ (∃ A, w = R2 A) ∧ ∃ A, wo = R2 A := by
  have both (p q : BitVec 1) : IntOp.andi p q = 1#1 → p = 1#1 ∧ q = 1#1 := by revert p q; decide
  have h0 := congrFun h (fun k => k.elim0)
  obtain ⟨h1, e4⟩ := both _ _ h0
  obtain ⟨h2, e3⟩ := both _ _ h1
  obtain ⟨h3, e2⟩ := both _ _ h2
  obtain ⟨e0, e1⟩ := both _ _ h3
  exact ⟨real_of_all x _ _ _ _ e0, real_of_all g _ _ _ _ e1, real_of_all dy _ _ _ _ e2, real_of_all w _ _ _ _ e3,
    real_of_all wo _ _ _ _ e4⟩

end Cert.Real

end
-- ==== Proof.Hand.Spec.lean ====
/- The sublayer over the real numbers: `x + ½ · swiglu (rmsnorm x)` and the gradient of its five operands, as functions
   of rows and columns. Every function is taken row by row where the mathematics is, for any number of rows, so that it
   reads the same on a tile of rows as on the whole array. -/
module

public import proofs.«01_k».proof.Proof.Hand.Up

@[expose] public section

noncomputable section

namespace Cert.Real

open scoped BigOperators

variable {T D F m n k : ℕ}

/-- `A B`, `A Bᵀ` and `Aᵀ B`. -/
def mm (A : Fin m → Fin k → ℝ) (B : Fin k → Fin n → ℝ) : Fin m → Fin n → ℝ := fun i j => ∑ q, A i q * B q j
def mmt (A : Fin m → Fin k → ℝ) (B : Fin n → Fin k → ℝ) : Fin m → Fin n → ℝ := fun i j => ∑ q, A i q * B j q
def tmm (A : Fin k → Fin m → ℝ) (B : Fin k → Fin n → ℝ) : Fin m → Fin n → ℝ := fun i j => ∑ q, A q i * B q j

/-- The mean of a row's squares and `eps`, and the reciprocal of its square root. -/
def ms (x : Fin T → Fin D → ℝ) : Fin T → Fin 1 → ℝ := fun t _ => (∑ q, x t q * x t q) / 1024 + eps
def rinv (x : Fin T → Fin D → ℝ) : Fin T → Fin 1 → ℝ := fun t i => (Real.sqrt (ms x t i))⁻¹
/-- The normalised rows, without and with the scale. -/
def xhat (x : Fin T → Fin D → ℝ) : Fin T → Fin D → ℝ := fun t j => x t j * rinv x t 0
def hn (x : Fin T → Fin D → ℝ) (g : Fin 1 → Fin D → ℝ) : Fin T → Fin D → ℝ := fun t j => xhat x t j * g 0 j
/-- The logistic function. -/
def sg (z : ℝ) : ℝ := 1 / (1 + Real.exp (0 - z))
/-- The gated activation. -/
def act (z u : Fin T → Fin F → ℝ) : Fin T → Fin F → ℝ := fun t f => z t f * sg (z t f) * u t f
/-- The sublayer's result. -/
def xout (x : Fin T → Fin D → ℝ) (a : Fin T → Fin F → ℝ) (wo : Fin F → Fin D → ℝ) : Fin T → Fin D → ℝ :=
  fun t j => x t j + 1 / 2 * mm a wo t j
/-- The cotangent of the residual branch, and of the activation. -/
def half (dy : Fin T → Fin D → ℝ) : Fin T → Fin D → ℝ := fun t j => 1 / 2 * dy t j
def dact (dy : Fin T → Fin D → ℝ) (wo : Fin F → Fin D → ℝ) : Fin T → Fin F → ℝ := mmt (half dy) wo
/-- The cotangents of the two halves of the hidden projection. -/
def dgate (da z u : Fin T → Fin F → ℝ) : Fin T → Fin F → ℝ :=
  fun t f => da t f * u t f * (sg (z t f) * (1 + z t f * (1 - sg (z t f))))
def dup (da z : Fin T → Fin F → ℝ) : Fin T → Fin F → ℝ := fun t f => da t f * (z t f * sg (z t f))
/-- The cotangent of the normalised rows, of the rows, and of the scale. -/
def dhn (dg du : Fin T → Fin F → ℝ) (wg wu : Fin D → Fin F → ℝ) : Fin T → Fin D → ℝ := fun t j => mmt dg wg t j + mmt du wu t j
def dxs (dy dh x : Fin T → Fin D → ℝ) (g : Fin 1 → Fin D → ℝ) : Fin T → Fin D → ℝ :=
  fun t j => dy t j + rinv x t 0 * (dh t j * g 0 j - xhat x t j * ((∑ q, dh t q * g 0 q * xhat x t q) / 1024))
def dgs (dh x : Fin T → Fin D → ℝ) : Fin 1 → Fin D → ℝ := fun _ j => ∑ t, dh t j * xhat x t j

theorem ms_pos (x : Fin T → Fin D → ℝ) (t : Fin T) (i : Fin 1) : 0 < ms x t i :=
  add_pos_of_nonneg_of_pos (div_nonneg (Finset.sum_nonneg fun _ _ => mul_self_nonneg _) (by norm_num)) eps_pos
/-- The reciprocal square root of a row's mean square, as the kernel and as the host take it. -/
theorem r_rms (x : Fin T → Fin D → ℝ) :
    Idealize.ShloMosaic.rsqrt (F := Idealize.ShloMosaic.Ideal) (φ := .f32) (R2 fun t (_ : Fin 1) => (∑ q, x t q * x t q) / 1024 + eps) = R2 (rinv x) :=
  r_rsqrt (ms x) (ms_pos x)
theorem r_hrms (x : Fin T → Fin D → ℝ) :
    Idealize.ShloMosaic.Host.rsqrt (F := Idealize.ShloMosaic.Ideal) (φ := .f32) (R2 fun t (_ : Fin 1) => (∑ q, x t q * x t q) / 1024 + eps) = R2 (rinv x) :=
  r_hrsqrt (ms x) (ms_pos x)
theorem sg_pos (z : ℝ) : 1 + Real.exp (0 - z) ≠ 0 := (add_pos one_pos (Real.exp_pos _)).ne'

end Cert.Real

end
-- ==== Proof.Hand.Pay.lean ====
/- What the bodies of the five pipelines compute, on arrays of real numbers: each stored value as one of the functions
   of Spec.lean on the tile. -/
module

public import proofs.«01_k».proof.Proof.Hand.Spec
public import proofs.«01_k».proof.Proof.Gen.KernelIdeal.Skeleton

@[expose] public section

set_option maxRecDepth 16384
set_option backward.isDefEq.respectTransparency false

noncomputable section

namespace Cert.Real

open Idealize.ShloMosaic hiding ix0 ix1 ix2 eq_ix1 eq_ix2
open Cert.KernelIdeal Cert.KernelIdeal.Gen

/-! ## The forward pass -/

theorem k0_pay2_eq (x : Fin 256 → Fin 1024 → ℝ) (g : Fin 1 → Fin 1024 → ℝ) :
    k0_pay2 (F := Ideal) (R2 x) (R2 g) = R2 (hn x g) := by
  unfold k0_pay2
  dsimp only
  rw [r_mulf, r_sum_cols, r_cast_col, splat_1024, splat_eps, r_divf _ _ fun _ _ => by norm_num, r_addf, r_rms, r_bcast_col,
    r_mulf, r_bcast_row, r_mulf, r_truncf]
  rfl
theorem k0_pay3_eq (x : Fin 256 → Fin 1024 → ℝ) (g : Fin 1 → Fin 1024 → ℝ) (w : Fin 1024 → Fin 2816 → ℝ) :
    k0_pay3 (F := Ideal) (R2 x) (R2 g) (R2 w) = R2 (mm (hn x g) w) := by
  unfold k0_pay3
  dsimp only
  rw [k0_pay2_eq, shapeCast_self, r_nn dot_S256x1024_S1024x2816_S256x2816_1_0_0_1_n_n rfl]
  rfl
theorem k0_pay4_eq (x : Fin 256 → Fin 1024 → ℝ) (g : Fin 1 → Fin 1024 → ℝ) (w : Fin 1024 → Fin 2816 → ℝ) :
    k0_pay4 (F := Ideal) (R2 x) (R2 g) (R2 w) = R2 (mm (hn x g) w) := by
  unfold k0_pay4
  dsimp only
  rw [k0_pay2_eq, shapeCast_self, r_nn dot_S256x1024_S1024x2816_S256x2816_1_0_0_1_n_n rfl]
  rfl
theorem k0_pay5_eq (x : Fin 256 → Fin 1024 → ℝ) (g : Fin 1 → Fin 1024 → ℝ) (w : Fin 1024 → Fin 2816 → ℝ) :
    k0_pay5 (F := Ideal) (R2 x) (R2 g) (R2 w) = R2 (mm (hn x g) w) := by
  unfold k0_pay5
  dsimp only
  rw [k0_pay3_eq, r_truncf]
theorem k0_pay6_eq (x : Fin 256 → Fin 1024 → ℝ) (g : Fin 1 → Fin 1024 → ℝ) (w : Fin 1024 → Fin 2816 → ℝ) :
    k0_pay6 (F := Ideal) (R2 x) (R2 g) (R2 w) = R2 (mm (hn x g) w) := by
  unfold k0_pay6
  dsimp only
  rw [k0_pay4_eq, r_truncf]
theorem k0_pay7_eq (x : Fin 256 → Fin 1024 → ℝ) (g : Fin 1 → Fin 1024 → ℝ) (wg wu : Fin 1024 → Fin 2816 → ℝ) :
    k0_pay7 (F := Ideal) (R2 x) (R2 g) (R2 wg) (R2 wu) = R2 (act (mm (hn x g) wg) (mm (hn x g) wu)) := by
  unfold k0_pay7
  dsimp only
  rw [k0_pay3_eq, k0_pay4_eq, splat_zero, splat_one, r_subf, r_exp, r_addf, r_divf _ _ fun i j => sg_pos _, r_mulf, r_mulf, r_truncf]
  rfl
theorem k0_pay1_eq (x : Fin 256 → Fin 1024 → ℝ) (a : Fin 256 → Fin 2816 → ℝ) (wo : Fin 2816 → Fin 1024 → ℝ) :
    k0_pay1 (F := Ideal) (R2 x) (R2 a) (R2 wo) = R2 (xout x a wo) := by
  unfold k0_pay1
  dsimp only
  rw [shapeCast_self, r_nn dot_S256x2816_S2816x1024_S256x1024_1_0_0_1_n_n rfl, splat_half, r_mulf, r_addf]
  rfl

/-! ## The hidden layer's cotangents -/

theorem k1_pay1_eq (z : Fin 256 → Fin 2816 → ℝ) : k1_pay1 (F := Ideal) (R2 z) = R2 z := by
  unfold k1_pay1
  dsimp only
  rw [shapeCast_self, r_extf]
theorem k1_pay2_eq (z : Fin 256 → Fin 2816 → ℝ) : k1_pay2 (F := Ideal) (R2 z) = R2 z := by
  unfold k1_pay2
  dsimp only
  rw [shapeCast_self, r_extf]
theorem k1_pay3_eq (z : Fin 256 → Fin 2816 → ℝ) : k1_pay3 (F := Ideal) (R2 z) = R2 fun t f => sg (z t f) := by
  unfold k1_pay3
  dsimp only
  rw [k1_pay1_eq, splat_zero, splat_one, r_subf, r_exp, r_addf, r_divf _ _ fun i j => sg_pos _]
  rfl
theorem k1_pay4_eq (z : Fin 256 → Fin 2816 → ℝ) : k1_pay4 (F := Ideal) (R2 z) = R2 fun t f => z t f * sg (z t f) := by
  unfold k1_pay4
  dsimp only
  rw [k1_pay1_eq, k1_pay3_eq, r_mulf]
theorem k1_pay5_eq (z u : Fin 256 → Fin 2816 → ℝ) : k1_pay5 (F := Ideal) (R2 z) (R2 u) = R2 (act z u) := by
  unfold k1_pay5
  dsimp only
  rw [k1_pay2_eq, k1_pay4_eq, r_mulf, r_truncf]
  rfl
theorem k1_pay6_eq (dy : Fin 256 → Fin 1024 → ℝ) (wo : Fin 2816 → Fin 1024 → ℝ) :
    k1_pay6 (F := Ideal) (R2 dy) (R2 wo) = R2 (dact dy wo) := by
  unfold k1_pay6
  dsimp only
  rw [splat_half, r_mulf, r_truncf, shapeCast_self, r_nt dot_S256x1024_S2816x1024_S256x2816_1_1_0_0_n_n rfl]
  rfl
theorem k1_pay7_eq (dy : Fin 256 → Fin 1024 → ℝ) (z u : Fin 256 → Fin 2816 → ℝ) (wo : Fin 2816 → Fin 1024 → ℝ) :
    k1_pay7 (F := Ideal) (R2 dy) (R2 z) (R2 u) (R2 wo) = R2 (dgate (dact dy wo) z u) := by
  unfold k1_pay7
  dsimp only
  rw [k1_pay6_eq, k1_pay1_eq, k1_pay2_eq, k1_pay3_eq, splat_one, r_mulf, r_subf, r_mulf, r_addf, r_mulf, r_mulf, r_truncf]
  rfl
theorem k1_pay8_eq (dy : Fin 256 → Fin 1024 → ℝ) (z : Fin 256 → Fin 2816 → ℝ) (wo : Fin 2816 → Fin 1024 → ℝ) :
    k1_pay8 (F := Ideal) (R2 dy) (R2 z) (R2 wo) = R2 (dup (dact dy wo) z) := by
  unfold k1_pay8
  dsimp only
  rw [k1_pay6_eq, k1_pay4_eq, r_mulf, r_truncf]
  rfl

/-! ## The gradient of the normalised rows -/

theorem k2_pay5_eq (x : Fin 512 → Fin 1024 → ℝ) : k2_pay5 (F := Ideal) (R2 x) = R2 (rinv x) := by
  unfold k2_pay5
  dsimp only
  rw [r_mulf, r_sum_cols, r_cast_col, splat_1024, splat_eps, r_divf _ _ fun _ _ => by norm_num, r_addf, r_rms]
theorem k2_pay6_eq (x : Fin 512 → Fin 1024 → ℝ) : k2_pay6 (F := Ideal) (R2 x) = R2 (xhat x) := by
  unfold k2_pay6
  dsimp only
  rw [k2_pay5_eq, r_bcast_col, r_mulf]
  rfl
theorem k2_pay7_eq (x : Fin 512 → Fin 1024 → ℝ) (g : Fin 1 → Fin 1024 → ℝ) : k2_pay7 (F := Ideal) (R2 x) (R2 g) = R2 (hn x g) := by
  unfold k2_pay7
  dsimp only
  rw [k2_pay6_eq, r_bcast_row, r_mulf, r_truncf]
  rfl
theorem k2_pay8_eq (dy : Fin 512 → Fin 1024 → ℝ) : k2_pay8 (F := Ideal) (R2 dy) = R2 (half dy) := by
  unfold k2_pay8
  dsimp only
  rw [splat_half, r_mulf, r_truncf]
  rfl
theorem k2_pay9_eq (d : Fin 512 → Fin 2816 → ℝ) (w : Fin 1024 → Fin 2816 → ℝ) : k2_pay9 (F := Ideal) (R2 d) (R2 w) = R2 (mmt d w) := by
  unfold k2_pay9
  dsimp only
  rw [shapeCast_self, shapeCast_self, r_nt dot_S512x2816_S1024x2816_S512x1024_1_1_0_0_n_n rfl]
  rfl
theorem k2_pay10_eq (d : Fin 512 → Fin 2816 → ℝ) : k2_pay10 (F := Ideal) (R2 d) = R2 d := by
  unfold k2_pay10
  dsimp only
  rw [shapeCast_self]
theorem k2_pay1_eq (p : Fin 512 → Fin 1024 → ℝ) (d : Fin 512 → Fin 2816 → ℝ) (w : Fin 1024 → Fin 2816 → ℝ) :
    k2_pay1 (F := Ideal) (R2 p) (R2 d) (R2 w) = R2 fun t j => p t j + mmt d w t j := by
  unfold k2_pay1
  dsimp only
  rw [shapeCast_self, r_nt dot_S512x2816_S1024x2816_S512x1024_1_1_0_0_n_n rfl, r_addf]
  rfl
theorem k2_pay2_eq (dy x : Fin 512 → Fin 1024 → ℝ) (dg du : Fin 512 → Fin 2816 → ℝ) (wg wu : Fin 1024 → Fin 2816 → ℝ) (g : Fin 1 → Fin 1024 → ℝ) :
    k2_pay2 (F := Ideal) (R2 (rinv x)) (R2 (xhat x)) (R2 (mmt dg wg)) (R2 du) (R2 wu) (R2 dy) (R2 g)
      = R2 (dxs dy (dhn dg du wg wu) x g) := by
  unfold k2_pay2
  dsimp only
  rw [k2_pay1_eq, r_bcast_row, r_mulf, r_mulf, r_sum_cols, r_cast_col, splat_1024, r_divf _ _ fun _ _ => by norm_num, r_bcast_col,
    r_bcast_col, r_mulf, r_subf, r_mulf, r_addf]
  rfl
theorem k2_pay3_eq (x : Fin 512 → Fin 1024 → ℝ) (dg du : Fin 512 → Fin 2816 → ℝ) (wg wu : Fin 1024 → Fin 2816 → ℝ) (acc : Fin 1 → Fin 1024 → ℝ) :
    k2_pay3 (F := Ideal) (R2 (xhat x)) (R2 (mmt dg wg)) (R2 du) (R2 wu) (R2 acc)
      = R2 fun i j => acc i j + dgs (dhn dg du wg wu) x i j := by
  unfold k2_pay3
  dsimp only
  rw [shapeCast_self, k2_pay1_eq, r_mulf, r_sum_rows, r_cast_row, r_addf]
  rfl
theorem k2_pay4_eq : k2_pay4 (F := Ideal) = R2 fun _ _ => 0 := by
  unfold k2_pay4
  dsimp only
  rw [splat_zero]

/-! ## The gradients of the weights -/

theorem k3_pay1_eq (h : Fin 4096 → Fin 1024 → ℝ) (d : Fin 4096 → Fin 256 → ℝ) : k3_pay1 (F := Ideal) (R2 h) (R2 d) = R2 (tmm h d) := by
  unfold k3_pay1
  dsimp only
  rw [shapeCast_self, shapeCast_self, r_tn dot_S4096x1024_S4096x256_S1024x256_0_0_1_1_n_n rfl, r_truncf]
  rfl
theorem k3_pay2_eq (h : Fin 4096 → Fin 1024 → ℝ) (d : Fin 4096 → Fin 256 → ℝ) : k3_pay2 (F := Ideal) (R2 h) (R2 d) = R2 (tmm h d) := by
  unfold k3_pay2
  dsimp only
  rw [shapeCast_self, shapeCast_self, r_tn dot_S4096x1024_S4096x256_S1024x256_0_0_1_1_n_n rfl, r_truncf]
  rfl
theorem k4_pay1_eq (a : Fin 4096 → Fin 256 → ℝ) (d : Fin 4096 → Fin 1024 → ℝ) : k4_pay1 (F := Ideal) (R2 a) (R2 d) = R2 (tmm a d) := by
  unfold k4_pay1
  dsimp only
  rw [shapeCast_self, shapeCast_self, r_tn dot_S4096x256_S4096x1024_S256x1024_0_0_1_1_n_n rfl, splat_one, r_mulf, r_truncf]
  simp only [mul_one]
  rfl

end Cert.Real

end
-- ==== Proof.Hand.Cols.lean ====
/- The two halves of the columns of the hidden projection, and two arrays side by side. -/
module

public import proofs.«01_k».proof.Proof.Hand.Up

@[expose] public section

noncomputable section

namespace Cert.Real

theorem hz2 : (![0, 0] : Fin 2 → ℕ) = fun _ => 0 := funext fun a => by
  match a with
  | ⟨0, _⟩ => rfl
  | ⟨1, _⟩ => rfl

/-- Column `f` of the left half, and of the right half. -/
def lix (f : Fin 2816) : Fin 5632 := ⟨f.val, by have := f.isLt; omega⟩
def rix (f : Fin 2816) : Fin 5632 := ⟨2816 + f.val, by have := f.isLt; omega⟩

def lcol {D : ℕ} (w : Fin D → Fin 5632 → ℝ) : Fin D → Fin 2816 → ℝ := fun i f => w i (lix f)
def rcol {D : ℕ} (w : Fin D → Fin 5632 → ℝ) : Fin D → Fin 2816 → ℝ := fun i f => w i (rix f)

/-- Two arrays side by side. -/
def beside {D : ℕ} (p q : Fin D → Fin 2816 → ℝ) : Fin D → Fin 5632 → ℝ := fun i j =>
  if h : j.val < 2816 then p i ⟨j.val, h⟩ else q i ⟨j.val - 2816, by have := j.isLt; omega⟩

theorem lcol_beside {D : ℕ} (p q : Fin D → Fin 2816 → ℝ) : lcol (beside p q) = p := by
  funext i f
  exact dif_pos f.isLt

theorem rcol_beside {D : ℕ} (p q : Fin D → Fin 2816 → ℝ) : rcol (beside p q) = q := by
  funext i f
  refine (dif_neg (show ¬ 2816 + f.val < 2816 by omega)).trans ?_
  exact congrArg (q i) (Fin.ext (show 2816 + f.val - 2816 = f.val by omega))

/-- A function of the first `n` numbers, continued by zero. -/
def cont {n : ℕ} (f : Fin n → ℝ) (i : ℕ) : ℝ := if h : i < n then f ⟨i, h⟩ else 0

theorem sum_cont {n : ℕ} (f : Fin n → ℝ) : ∑ i ∈ Finset.range n, cont f i = ∑ i, f i := by
  rw [Finset.sum_range]
  exact Finset.sum_congr rfl fun i _ => dif_pos i.isLt

/-- One more tile of `B` terms. -/
theorem sum_cont_step {n B : ℕ} (f : Fin n → ℝ) (t : ℕ) (ρ : Fin B → Fin n) (hρ : ∀ p, (ρ p).val = t * B + p.val) :
    ∑ i ∈ Finset.range ((t + 1) * B), cont f i = ∑ i ∈ Finset.range (t * B), cont f i + ∑ p, f (ρ p) := by
  rw [Nat.succ_mul, Finset.sum_range_add, Finset.sum_range (n := B)]
  congr 1
  refine Finset.sum_congr rfl fun p _ => ?_
  have h : t * B + p.val < n := by rw [← hρ p]; exact (ρ p).isLt
  rw [cont, dif_pos h]
  exact congrArg f (Fin.ext (hρ p).symm)

end Cert.Real

end
-- ==== Proof.Hand.Region0.lean ====
/- The forward pipeline: sixteen tiles of 256 rows; each row of the result, of the gate and of the up projection is the
   function of Spec.lean of that row. -/
module

public import proofs.«01_k».proof.Proof.Hand.Pay
public import proofs.«01_k».proof.Proof.Hand.Cols
public import proofs.«01_k».proof.Proof.Gen.KernelIdeal.Frame

@[expose] public section

set_option maxRecDepth 16384
set_option backward.isDefEq.respectTransparency false

noncomputable section

namespace Cert.Real.Reg0

open Idealize.ShloMosaic hiding ix0 ix1 ix2 eq_ix1 eq_ix2
open Idealize.ShloMosaic.ValueIdx
open Idealize.ShloMosaic.Pipeline
open Cert.KernelIdeal Cert.KernelIdeal.Gen

/-- The row of the array that row `p` of tile `t` is. -/
def row (t : Fin cfg0.N) (p : Fin 256) : Fin 4096 := ⟨t.val * 256 + p.val, by
  have h : cfg0.N = 16 := N_0
  have := t.isLt; have := p.isLt; omega⟩

theorem ix_0 : ∀ t : Fin cfg0.N, win0_0.index t 0 = t.val ∧ win0_0.index t 1 = 0 :=
  (by decide +kernel : ∀ t : Fin grid0.N, win0_0.index t 0 = t.val ∧ win0_0.index t 1 = 0)

theorem ix_1 : ∀ t : Fin cfg0.N, win0_1.index t 0 = 0 ∧ win0_1.index t 1 = 0 :=
  (by decide +kernel : ∀ t : Fin grid0.N, win0_1.index t 0 = 0 ∧ win0_1.index t 1 = 0)

theorem ix_2 : ∀ t : Fin cfg0.N, win0_2.index t 0 = 0 ∧ win0_2.index t 1 = 0 :=
  (by decide +kernel : ∀ t : Fin grid0.N, win0_2.index t 0 = 0 ∧ win0_2.index t 1 = 0)

theorem ix_3 : ∀ t : Fin cfg0.N, win0_3.index t 0 = 0 ∧ win0_3.index t 1 = 1 :=
  (by decide +kernel : ∀ t : Fin grid0.N, win0_3.index t 0 = 0 ∧ win0_3.index t 1 = 1)

theorem ix_4 : ∀ t : Fin cfg0.N, win0_4.index t 0 = 0 ∧ win0_4.index t 1 = 0 :=
  (by decide +kernel : ∀ t : Fin grid0.N, win0_4.index t 0 = 0 ∧ win0_4.index t 1 = 0)

theorem ix_5 : ∀ t : Fin cfg0.N, win0_5.index t 0 = t.val ∧ win0_5.index t 1 = 0 :=
  (by decide +kernel : ∀ t : Fin grid0.N, win0_5.index t 0 = t.val ∧ win0_5.index t 1 = 0)

theorem xs_5 : ∀ t : Fin cfg0.N, win0_5.xsize (grid0.coords t) 0 = 256 ∧ win0_5.xsize (grid0.coords t) 1 = 1024 :=
  (by decide +kernel : ∀ t : Fin grid0.N, win0_5.xsize (grid0.coords t) 0 = 256 ∧ win0_5.xsize (grid0.coords t) 1 = 1024)

theorem ix_6 : ∀ t : Fin cfg0.N, win0_6.index t 0 = t.val ∧ win0_6.index t 1 = 0 :=
  (by decide +kernel : ∀ t : Fin grid0.N, win0_6.index t 0 = t.val ∧ win0_6.index t 1 = 0)

theorem xs_6 : ∀ t : Fin cfg0.N, win0_6.xsize (grid0.coords t) 0 = 256 ∧ win0_6.xsize (grid0.coords t) 1 = 2816 :=
  (by decide +kernel : ∀ t : Fin grid0.N, win0_6.xsize (grid0.coords t) 0 = 256 ∧ win0_6.xsize (grid0.coords t) 1 = 2816)

theorem ix_7 : ∀ t : Fin cfg0.N, win0_7.index t 0 = t.val ∧ win0_7.index t 1 = 0 :=
  (by decide +kernel : ∀ t : Fin grid0.N, win0_7.index t 0 = t.val ∧ win0_7.index t 1 = 0)

theorem xs_7 : ∀ t : Fin cfg0.N, win0_7.xsize (grid0.coords t) 0 = 256 ∧ win0_7.xsize (grid0.coords t) 1 = 2816 :=
  (by decide +kernel : ∀ t : Fin grid0.N, win0_7.xsize (grid0.coords t) 0 = 256 ∧ win0_7.xsize (grid0.coords t) 1 = 2816)

variable (V : (c : Dev nD) → (b : Ref sig .tc) → Buf (Elt Ideal) (c.tc.loc b)) (c : Dev nD)
variable (x : Fin 4096 → Fin 1024 → ℝ) (g : Fin 1 → Fin 1024 → ℝ) (w : Fin 1024 → Fin 5632 → ℝ) (wo : Fin 2816 → Fin 1024 → ℝ)

theorem blk_0 (hV : (V c main_arg0 : (⟨2, ![4096, 1024]⟩ : Shape).Idx → EReal) = R2 x) (t : Fin cfg0.N) :
    (iblk0 (F := Ideal) V c 0 t : (⟨2, ![256, 1024]⟩ : Shape).Idx → EReal) = R2 (fun p => x (row t p)) := by
  unfold iblk0
  funext y
  rw [View.read_apply]
  show V c main_arg0 _ = _
  rw [hV]
  refine (congrArg (R2 x) ?_).trans (R2_ix2 x (row t (y 0)) (y 1))
  funext a; apply Fin.ext
  match a with
  | ⟨0, _⟩ => show win0_0.index t 0 * 256 + 1 * (y 0).val = t.val * 256 + (y 0).val; rw [(ix_0 t).1]; omega
  | ⟨1, _⟩ => show win0_0.index t 1 * 1024 + 1 * (y 1).val = (y 1).val; rw [(ix_0 t).2]; omega

theorem blk_1 (hV : (V c main_arg1 : (⟨2, ![1, 1024]⟩ : Shape).Idx → EReal) = R2 g) (t : Fin cfg0.N) :
    (iblk0 (F := Ideal) V c 1 t : (⟨2, ![1, 1024]⟩ : Shape).Idx → EReal) = R2 (g) := by
  unfold iblk0
  funext y
  rw [View.read_apply]
  show V c main_arg1 _ = _
  rw [hV]
  refine (congrArg (R2 g) ?_).trans (R2_ix2 g (y 0) (y 1))
  funext a; apply Fin.ext
  match a with
  | ⟨0, _⟩ => show win0_1.index t 0 * 1 + 1 * (y 0).val = (y 0).val; rw [(ix_1 t).1]; omega
  | ⟨1, _⟩ => show win0_1.index t 1 * 1024 + 1 * (y 1).val = (y 1).val; rw [(ix_1 t).2]; omega

theorem blk_2 (hV : (V c main_v0 : (⟨2, ![1024, 5632]⟩ : Shape).Idx → EReal) = R2 w) (t : Fin cfg0.N) :
    (iblk0 (F := Ideal) V c 2 t : (⟨2, ![1024, 2816]⟩ : Shape).Idx → EReal) = R2 (lcol w) := by
  unfold iblk0
  funext y
  rw [View.read_apply]
  show V c main_v0 _ = _
  rw [hV]
  refine (congrArg (R2 w) ?_).trans (R2_ix2 w (y 0) (lix (y 1)))
  funext a; apply Fin.ext
  match a with
  | ⟨0, _⟩ => show win0_2.index t 0 * 1024 + 1 * (y 0).val = (y 0).val; rw [(ix_2 t).1]; omega
  | ⟨1, _⟩ => show win0_2.index t 1 * 2816 + 1 * (y 1).val = (y 1).val; rw [(ix_2 t).2]; omega

theorem blk_3 (hV : (V c main_v0 : (⟨2, ![1024, 5632]⟩ : Shape).Idx → EReal) = R2 w) (t : Fin cfg0.N) :
    (iblk0 (F := Ideal) V c 3 t : (⟨2, ![1024, 2816]⟩ : Shape).Idx → EReal) = R2 (rcol w) := by
  unfold iblk0
  funext y
  rw [View.read_apply]
  show V c main_v0 _ = _
  rw [hV]
  refine (congrArg (R2 w) ?_).trans (R2_ix2 w (y 0) (rix (y 1)))
  funext a; apply Fin.ext
  match a with
  | ⟨0, _⟩ => show win0_3.index t 0 * 1024 + 1 * (y 0).val = (y 0).val; rw [(ix_3 t).1]; omega
  | ⟨1, _⟩ => show win0_3.index t 1 * 2816 + 1 * (y 1).val = 2816 + (y 1).val; rw [(ix_3 t).2]; omega

theorem blk_4 (hV : (V c main_v1 : (⟨2, ![2816, 1024]⟩ : Shape).Idx → EReal) = R2 wo) (t : Fin cfg0.N) :
    (iblk0 (F := Ideal) V c 4 t : (⟨2, ![2816, 1024]⟩ : Shape).Idx → EReal) = R2 (wo) := by
  unfold iblk0
  funext y
  rw [View.read_apply]
  show V c main_v1 _ = _
  rw [hV]
  refine (congrArg (R2 wo) ?_).trans (R2_ix2 wo (y 0) (y 1))
  funext a; apply Fin.ext
  match a with
  | ⟨0, _⟩ => show win0_4.index t 0 * 2816 + 1 * (y 0).val = (y 0).val; rw [(ix_4 t).1]; omega
  | ⟨1, _⟩ => show win0_4.index t 1 * 1024 + 1 * (y 1).val = (y 1).val; rw [(ix_4 t).2]; omega

theorem fl_5 (h0 : (V c main_arg0 : (⟨2, ![4096, 1024]⟩ : Shape).Idx → EReal) = R2 x) (h1 : (V c main_arg1 : (⟨2, ![1, 1024]⟩ : Shape).Idx → EReal) = R2 g) (h2 : (V c main_v0 : (⟨2, ![1024, 5632]⟩ : Shape).Idx → EReal) = R2 w) (h3 : (V c main_v0 : (⟨2, ![1024, 5632]⟩ : Shape).Idx → EReal) = R2 w) (h4 : (V c main_v1 : (⟨2, ![2816, 1024]⟩ : Shape).Idx → EReal) = R2 wo) (t : Fin cfg0.N) :
    (dat0 (F := Ideal) V c).flushed 5 t = ((cfg0.win 5).blk t).view.read (Elt Ideal) (R2 (xout x (act (mm (hn x g) (lcol w)) (mm (hn x g) (rcol w))) wo)) := by
  show (cfg0.win 5).cut (grid0.coords t) ((dat0 V c).after 5 t) = _
  rw [after0_5, blk_0 V c _ h0 t, blk_1 V c _ h1 t, blk_2 V c _ h2 t, blk_3 V c _ h3 t, blk_4 V c _ h4 t]
  unfold out0_5
  rw [View.canon_unit_zero hz2]
  simp only [View.ld_unit_zero (S := S256x1024) hz2, View.ld_unit_zero (S := S1x1024) hz2, View.ld_unit_zero (S := S1024x2816) hz2, View.ld_unit_zero (S := S2816x1024) hz2]
  rw [k0_pay7_eq, k0_pay1_eq]
  funext y
  rw [View.read_apply]
  refine Eq.trans ?_ (congrArg (R2 _) (?_ : ix2 (row t (y 0)) (y 1) = _))
  · rfl
  funext a; apply Fin.ext
  match a with
  | ⟨0, _⟩ => show t.val * 256 + (y 0).val = win0_5.index t 0 * 256 + 1 * (y 0).val; rw [(ix_5 t).1]; omega
  | ⟨1, _⟩ => show (y 1).val = win0_5.index t 1 * 1024 + 1 * (y 1).val; rw [(ix_5 t).2]; omega

theorem arr_5 (h0 : (V c main_arg0 : (⟨2, ![4096, 1024]⟩ : Shape).Idx → EReal) = R2 x) (h1 : (V c main_arg1 : (⟨2, ![1, 1024]⟩ : Shape).Idx → EReal) = R2 g) (h2 : (V c main_v0 : (⟨2, ![1024, 5632]⟩ : Shape).Idx → EReal) = R2 w) (h3 : (V c main_v0 : (⟨2, ![1024, 5632]⟩ : Shape).Idx → EReal) = R2 w) (h4 : (V c main_v1 : (⟨2, ![2816, 1024]⟩ : Shape).Idx → EReal) = R2 wo) :
    ((dat0 (F := Ideal) V c).arrAt 5 cfg0.N : (⟨2, ![4096, 1024]⟩ : Shape).Idx → EReal) = R2 (xout x (act (mm (hn x g) (lcol w)) (mm (hn x g) (rcol w))) wo) :=
  Dat.arrAt_eq_of_cover _ 5 _ (fun t _ => fl_5 V c x g w wo h0 h1 h2 h3 h4 t) fun i => by
  have hN : cfg0.N = 16 := N_0
  have h0 : (i 0 : ℕ) < 4096 := (i 0).isLt
  have h1 : (i 1 : ℕ) < 1024 := (i 1).isLt
  have ht : (i 0 : ℕ) / 256 < cfg0.N := by omega
  refine ⟨⟨(i 0 : ℕ) / 256, ht⟩, flush0_5 _, ?_⟩
  show i ∈ ((View.whole main_v2_0).slice (win0_5.rect ⟨(i 0 : ℕ) / 256, ht⟩)).set
  rw [View.set_slice_whole, Rect.mem_set_unit]
  intro a
  match a with
  | ⟨0, _⟩ =>
    show win0_5.index _ 0 * 256 ≤ (i 0 : ℕ) ∧ (i 0 : ℕ) < win0_5.index _ 0 * 256 + win0_5.xsize (grid0.coords _) 0
    rw [(ix_5 _).1, (xs_5 _).1]; dsimp only; omega
  | ⟨1, _⟩ =>
    show win0_5.index _ 1 * 1024 ≤ (i 1 : ℕ) ∧ (i 1 : ℕ) < win0_5.index _ 1 * 1024 + win0_5.xsize (grid0.coords _) 1
    rw [(ix_5 _).2, (xs_5 _).2]; dsimp only; omega

theorem fl_6 (h0 : (V c main_arg0 : (⟨2, ![4096, 1024]⟩ : Shape).Idx → EReal) = R2 x) (h1 : (V c main_arg1 : (⟨2, ![1, 1024]⟩ : Shape).Idx → EReal) = R2 g) (h2 : (V c main_v0 : (⟨2, ![1024, 5632]⟩ : Shape).Idx → EReal) = R2 w) (h3 : (V c main_v0 : (⟨2, ![1024, 5632]⟩ : Shape).Idx → EReal) = R2 w) (h4 : (V c main_v1 : (⟨2, ![2816, 1024]⟩ : Shape).Idx → EReal) = R2 wo) (t : Fin cfg0.N) :
    (dat0 (F := Ideal) V c).flushed 6 t = ((cfg0.win 6).blk t).view.read (Elt Ideal) (R2 (mm (hn x g) (lcol w))) := by
  show (cfg0.win 6).cut (grid0.coords t) ((dat0 V c).after 6 t) = _
  rw [after0_6, blk_0 V c _ h0 t, blk_1 V c _ h1 t, blk_2 V c _ h2 t]
  unfold out0_6
  rw [View.canon_unit_zero hz2]
  simp only [View.ld_unit_zero (S := S256x1024) hz2, View.ld_unit_zero (S := S1x1024) hz2, View.ld_unit_zero (S := S1024x2816) hz2, View.ld_unit_zero (S := S2816x1024) hz2]
  rw [k0_pay5_eq]
  funext y
  rw [View.read_apply]
  refine Eq.trans ?_ (congrArg (R2 _) (?_ : ix2 (row t (y 0)) (y 1) = _))
  · rfl
  funext a; apply Fin.ext
  match a with
  | ⟨0, _⟩ => show t.val * 256 + (y 0).val = win0_6.index t 0 * 256 + 1 * (y 0).val; rw [(ix_6 t).1]; omega
  | ⟨1, _⟩ => show (y 1).val = win0_6.index t 1 * 2816 + 1 * (y 1).val; rw [(ix_6 t).2]; omega

theorem arr_6 (h0 : (V c main_arg0 : (⟨2, ![4096, 1024]⟩ : Shape).Idx → EReal) = R2 x) (h1 : (V c main_arg1 : (⟨2, ![1, 1024]⟩ : Shape).Idx → EReal) = R2 g) (h2 : (V c main_v0 : (⟨2, ![1024, 5632]⟩ : Shape).Idx → EReal) = R2 w) (h3 : (V c main_v0 : (⟨2, ![1024, 5632]⟩ : Shape).Idx → EReal) = R2 w) (h4 : (V c main_v1 : (⟨2, ![2816, 1024]⟩ : Shape).Idx → EReal) = R2 wo) :
    ((dat0 (F := Ideal) V c).arrAt 6 cfg0.N : (⟨2, ![4096, 2816]⟩ : Shape).Idx → EReal) = R2 (mm (hn x g) (lcol w)) :=
  Dat.arrAt_eq_of_cover _ 6 _ (fun t _ => fl_6 V c x g w wo h0 h1 h2 h3 h4 t) fun i => by
  have hN : cfg0.N = 16 := N_0
  have h0 : (i 0 : ℕ) < 4096 := (i 0).isLt
  have h1 : (i 1 : ℕ) < 2816 := (i 1).isLt
  have ht : (i 0 : ℕ) / 256 < cfg0.N := by omega
  refine ⟨⟨(i 0 : ℕ) / 256, ht⟩, flush0_6 _, ?_⟩
  show i ∈ ((View.whole main_v2_1).slice (win0_6.rect ⟨(i 0 : ℕ) / 256, ht⟩)).set
  rw [View.set_slice_whole, Rect.mem_set_unit]
  intro a
  match a with
  | ⟨0, _⟩ =>
    show win0_6.index _ 0 * 256 ≤ (i 0 : ℕ) ∧ (i 0 : ℕ) < win0_6.index _ 0 * 256 + win0_6.xsize (grid0.coords _) 0
    rw [(ix_6 _).1, (xs_6 _).1]; dsimp only; omega
  | ⟨1, _⟩ =>
    show win0_6.index _ 1 * 2816 ≤ (i 1 : ℕ) ∧ (i 1 : ℕ) < win0_6.index _ 1 * 2816 + win0_6.xsize (grid0.coords _) 1
    rw [(ix_6 _).2, (xs_6 _).2]; dsimp only; omega

theorem fl_7 (h0 : (V c main_arg0 : (⟨2, ![4096, 1024]⟩ : Shape).Idx → EReal) = R2 x) (h1 : (V c main_arg1 : (⟨2, ![1, 1024]⟩ : Shape).Idx → EReal) = R2 g) (h2 : (V c main_v0 : (⟨2, ![1024, 5632]⟩ : Shape).Idx → EReal) = R2 w) (h3 : (V c main_v0 : (⟨2, ![1024, 5632]⟩ : Shape).Idx → EReal) = R2 w) (h4 : (V c main_v1 : (⟨2, ![2816, 1024]⟩ : Shape).Idx → EReal) = R2 wo) (t : Fin cfg0.N) :
    (dat0 (F := Ideal) V c).flushed 7 t = ((cfg0.win 7).blk t).view.read (Elt Ideal) (R2 (mm (hn x g) (rcol w))) := by
  show (cfg0.win 7).cut (grid0.coords t) ((dat0 V c).after 7 t) = _
  rw [after0_7, blk_0 V c _ h0 t, blk_1 V c _ h1 t, blk_3 V c _ h3 t]
  unfold out0_7
  rw [View.canon_unit_zero hz2]
  simp only [View.ld_unit_zero (S := S256x1024) hz2, View.ld_unit_zero (S := S1x1024) hz2, View.ld_unit_zero (S := S1024x2816) hz2, View.ld_unit_zero (S := S2816x1024) hz2]
  rw [k0_pay6_eq]
  funext y
  rw [View.read_apply]
  refine Eq.trans ?_ (congrArg (R2 _) (?_ : ix2 (row t (y 0)) (y 1) = _))
  · rfl
  funext a; apply Fin.ext
  match a with
  | ⟨0, _⟩ => show t.val * 256 + (y 0).val = win0_7.index t 0 * 256 + 1 * (y 0).val; rw [(ix_7 t).1]; omega
  | ⟨1, _⟩ => show (y 1).val = win0_7.index t 1 * 2816 + 1 * (y 1).val; rw [(ix_7 t).2]; omega

theorem arr_7 (h0 : (V c main_arg0 : (⟨2, ![4096, 1024]⟩ : Shape).Idx → EReal) = R2 x) (h1 : (V c main_arg1 : (⟨2, ![1, 1024]⟩ : Shape).Idx → EReal) = R2 g) (h2 : (V c main_v0 : (⟨2, ![1024, 5632]⟩ : Shape).Idx → EReal) = R2 w) (h3 : (V c main_v0 : (⟨2, ![1024, 5632]⟩ : Shape).Idx → EReal) = R2 w) (h4 : (V c main_v1 : (⟨2, ![2816, 1024]⟩ : Shape).Idx → EReal) = R2 wo) :
    ((dat0 (F := Ideal) V c).arrAt 7 cfg0.N : (⟨2, ![4096, 2816]⟩ : Shape).Idx → EReal) = R2 (mm (hn x g) (rcol w)) :=
  Dat.arrAt_eq_of_cover _ 7 _ (fun t _ => fl_7 V c x g w wo h0 h1 h2 h3 h4 t) fun i => by
  have hN : cfg0.N = 16 := N_0
  have h0 : (i 0 : ℕ) < 4096 := (i 0).isLt
  have h1 : (i 1 : ℕ) < 2816 := (i 1).isLt
  have ht : (i 0 : ℕ) / 256 < cfg0.N := by omega
  refine ⟨⟨(i 0 : ℕ) / 256, ht⟩, flush0_7 _, ?_⟩
  show i ∈ ((View.whole main_v2_2).slice (win0_7.rect ⟨(i 0 : ℕ) / 256, ht⟩)).set
  rw [View.set_slice_whole, Rect.mem_set_unit]
  intro a
  match a with
  | ⟨0, _⟩ =>
    show win0_7.index _ 0 * 256 ≤ (i 0 : ℕ) ∧ (i 0 : ℕ) < win0_7.index _ 0 * 256 + win0_7.xsize (grid0.coords _) 0
    rw [(ix_7 _).1, (xs_7 _).1]; dsimp only; omega
  | ⟨1, _⟩ =>
    show win0_7.index _ 1 * 2816 ≤ (i 1 : ℕ) ∧ (i 1 : ℕ) < win0_7.index _ 1 * 2816 + win0_7.xsize (grid0.coords _) 1
    rw [(ix_7 _).2, (xs_7 _).2]; dsimp only; omega

end Cert.Real.Reg0

end
-- ==== Proof.Hand.Region1.lean ====
/- The hidden gradients: sixteen tiles of 256 rows. -/
module

public import proofs.«01_k».proof.Proof.Hand.Pay
public import proofs.«01_k».proof.Proof.Hand.Cols
public import proofs.«01_k».proof.Proof.Gen.KernelIdeal.Frame

@[expose] public section

set_option maxRecDepth 16384
set_option backward.isDefEq.respectTransparency false

noncomputable section

namespace Cert.Real.Reg1

open Idealize.ShloMosaic hiding ix0 ix1 ix2 eq_ix1 eq_ix2
open Idealize.ShloMosaic.ValueIdx
open Idealize.ShloMosaic.Pipeline
open Cert.KernelIdeal Cert.KernelIdeal.Gen

/-- The row of the array that row `p` of tile `t` is. -/
def row (t : Fin cfg1.N) (p : Fin 256) : Fin 4096 := ⟨t.val * 256 + p.val, by
  have h : cfg1.N = 16 := N_1
  have := t.isLt; have := p.isLt; omega⟩

theorem ix_0 : ∀ t : Fin cfg1.N, win1_0.index t 0 = t.val ∧ win1_0.index t 1 = 0 :=
  (by decide +kernel : ∀ t : Fin grid1.N, win1_0.index t 0 = t.val ∧ win1_0.index t 1 = 0)

theorem ix_1 : ∀ t : Fin cfg1.N, win1_1.index t 0 = t.val ∧ win1_1.index t 1 = 0 :=
  (by decide +kernel : ∀ t : Fin grid1.N, win1_1.index t 0 = t.val ∧ win1_1.index t 1 = 0)

theorem ix_2 : ∀ t : Fin cfg1.N, win1_2.index t 0 = t.val ∧ win1_2.index t 1 = 0 :=
  (by decide +kernel : ∀ t : Fin grid1.N, win1_2.index t 0 = t.val ∧ win1_2.index t 1 = 0)

theorem ix_3 : ∀ t : Fin cfg1.N, win1_3.index t 0 = 0 ∧ win1_3.index t 1 = 0 :=
  (by decide +kernel : ∀ t : Fin grid1.N, win1_3.index t 0 = 0 ∧ win1_3.index t 1 = 0)

theorem ix_4 : ∀ t : Fin cfg1.N, win1_4.index t 0 = t.val ∧ win1_4.index t 1 = 0 :=
  (by decide +kernel : ∀ t : Fin grid1.N, win1_4.index t 0 = t.val ∧ win1_4.index t 1 = 0)

theorem xs_4 : ∀ t : Fin cfg1.N, win1_4.xsize (grid1.coords t) 0 = 256 ∧ win1_4.xsize (grid1.coords t) 1 = 2816 :=
  (by decide +kernel : ∀ t : Fin grid1.N, win1_4.xsize (grid1.coords t) 0 = 256 ∧ win1_4.xsize (grid1.coords t) 1 = 2816)

theorem ix_5 : ∀ t : Fin cfg1.N, win1_5.index t 0 = t.val ∧ win1_5.index t 1 = 0 :=
  (by decide +kernel : ∀ t : Fin grid1.N, win1_5.index t 0 = t.val ∧ win1_5.index t 1 = 0)

theorem xs_5 : ∀ t : Fin cfg1.N, win1_5.xsize (grid1.coords t) 0 = 256 ∧ win1_5.xsize (grid1.coords t) 1 = 2816 :=
  (by decide +kernel : ∀ t : Fin grid1.N, win1_5.xsize (grid1.coords t) 0 = 256 ∧ win1_5.xsize (grid1.coords t) 1 = 2816)

theorem ix_6 : ∀ t : Fin cfg1.N, win1_6.index t 0 = t.val ∧ win1_6.index t 1 = 0 :=
  (by decide +kernel : ∀ t : Fin grid1.N, win1_6.index t 0 = t.val ∧ win1_6.index t 1 = 0)

theorem xs_6 : ∀ t : Fin cfg1.N, win1_6.xsize (grid1.coords t) 0 = 256 ∧ win1_6.xsize (grid1.coords t) 1 = 2816 :=
  (by decide +kernel : ∀ t : Fin grid1.N, win1_6.xsize (grid1.coords t) 0 = 256 ∧ win1_6.xsize (grid1.coords t) 1 = 2816)

variable (V : (c : Dev nD) → (b : Ref sig .tc) → Buf (Elt Ideal) (c.tc.loc b)) (c : Dev nD)
variable (dy : Fin 4096 → Fin 1024 → ℝ) (z u : Fin 4096 → Fin 2816 → ℝ) (wo : Fin 2816 → Fin 1024 → ℝ)

theorem blk_0 (hV : (V c main_arg2 : (⟨2, ![4096, 1024]⟩ : Shape).Idx → EReal) = R2 dy) (t : Fin cfg1.N) :
    (iblk1 (F := Ideal) V c 0 t : (⟨2, ![256, 1024]⟩ : Shape).Idx → EReal) = R2 (fun p => dy (row t p)) := by
  unfold iblk1
  funext y
  rw [View.read_apply]
  show V c main_arg2 _ = _
  rw [hV]
  refine (congrArg (R2 dy) ?_).trans (R2_ix2 dy (row t (y 0)) (y 1))
  funext a; apply Fin.ext
  match a with
  | ⟨0, _⟩ => show win1_0.index t 0 * 256 + 1 * (y 0).val = t.val * 256 + (y 0).val; rw [(ix_0 t).1]; omega
  | ⟨1, _⟩ => show win1_0.index t 1 * 1024 + 1 * (y 1).val = (y 1).val; rw [(ix_0 t).2]; omega

theorem blk_1 (hV : (V c main_v2_1 : (⟨2, ![4096, 2816]⟩ : Shape).Idx → EReal) = R2 z) (t : Fin cfg1.N) :
    (iblk1 (F := Ideal) V c 1 t : (⟨2, ![256, 2816]⟩ : Shape).Idx → EReal) = R2 (fun p => z (row t p)) := by
  unfold iblk1
  funext y
  rw [View.read_apply]
  show V c main_v2_1 _ = _
  rw [hV]
  refine (congrArg (R2 z) ?_).trans (R2_ix2 z (row t (y 0)) (y 1))
  funext a; apply Fin.ext
  match a with
  | ⟨0, _⟩ => show win1_1.index t 0 * 256 + 1 * (y 0).val = t.val * 256 + (y 0).val; rw [(ix_1 t).1]; omega
  | ⟨1, _⟩ => show win1_1.index t 1 * 2816 + 1 * (y 1).val = (y 1).val; rw [(ix_1 t).2]; omega

theorem blk_2 (hV : (V c main_v2_2 : (⟨2, ![4096, 2816]⟩ : Shape).Idx → EReal) = R2 u) (t : Fin cfg1.N) :
    (iblk1 (F := Ideal) V c 2 t : (⟨2, ![256, 2816]⟩ : Shape).Idx → EReal) = R2 (fun p => u (row t p)) := by
  unfold iblk1
  funext y
  rw [View.read_apply]
  show V c main_v2_2 _ = _
  rw [hV]
  refine (congrArg (R2 u) ?_).trans (R2_ix2 u (row t (y 0)) (y 1))
  funext a; apply Fin.ext
  match a with
  | ⟨0, _⟩ => show win1_2.index t 0 * 256 + 1 * (y 0).val = t.val * 256 + (y 0).val; rw [(ix_2 t).1]; omega
  | ⟨1, _⟩ => show win1_2.index t 1 * 2816 + 1 * (y 1).val = (y 1).val; rw [(ix_2 t).2]; omega

theorem blk_3 (hV : (V c main_v1 : (⟨2, ![2816, 1024]⟩ : Shape).Idx → EReal) = R2 wo) (t : Fin cfg1.N) :
    (iblk1 (F := Ideal) V c 3 t : (⟨2, ![2816, 1024]⟩ : Shape).Idx → EReal) = R2 (wo) := by
  unfold iblk1
  funext y
  rw [View.read_apply]
  show V c main_v1 _ = _
  rw [hV]
  refine (congrArg (R2 wo) ?_).trans (R2_ix2 wo (y 0) (y 1))
  funext a; apply Fin.ext
  match a with
  | ⟨0, _⟩ => show win1_3.index t 0 * 2816 + 1 * (y 0).val = (y 0).val; rw [(ix_3 t).1]; omega
  | ⟨1, _⟩ => show win1_3.index t 1 * 1024 + 1 * (y 1).val = (y 1).val; rw [(ix_3 t).2]; omega

theorem fl_4 (h0 : (V c main_arg2 : (⟨2, ![4096, 1024]⟩ : Shape).Idx → EReal) = R2 dy) (h1 : (V c main_v2_1 : (⟨2, ![4096, 2816]⟩ : Shape).Idx → EReal) = R2 z) (h2 : (V c main_v2_2 : (⟨2, ![4096, 2816]⟩ : Shape).Idx → EReal) = R2 u) (h3 : (V c main_v1 : (⟨2, ![2816, 1024]⟩ : Shape).Idx → EReal) = R2 wo) (t : Fin cfg1.N) :
    (dat1 (F := Ideal) V c).flushed 4 t = ((cfg1.win 4).blk t).view.read (Elt Ideal) (R2 (dgate (dact dy wo) z u)) := by
  show (cfg1.win 4).cut (grid1.coords t) ((dat1 V c).after 4 t) = _
  rw [after1_4, blk_0 V c _ h0 t, blk_1 V c _ h1 t, blk_2 V c _ h2 t, blk_3 V c _ h3 t]
  unfold out1_4
  rw [View.canon_unit_zero hz2]
  simp only [View.ld_unit_zero (S := S256x1024) hz2, View.ld_unit_zero (S := S256x2816) hz2, View.ld_unit_zero (S := S2816x1024) hz2]
  rw [k1_pay7_eq]
  funext y
  rw [View.read_apply]
  refine Eq.trans ?_ (congrArg (R2 _) (?_ : ix2 (row t (y 0)) (y 1) = _))
  · rfl
  funext a; apply Fin.ext
  match a with
  | ⟨0, _⟩ => show t.val * 256 + (y 0).val = win1_4.index t 0 * 256 + 1 * (y 0).val; rw [(ix_4 t).1]; omega
  | ⟨1, _⟩ => show (y 1).val = win1_4.index t 1 * 2816 + 1 * (y 1).val; rw [(ix_4 t).2]; omega

theorem arr_4 (h0 : (V c main_arg2 : (⟨2, ![4096, 1024]⟩ : Shape).Idx → EReal) = R2 dy) (h1 : (V c main_v2_1 : (⟨2, ![4096, 2816]⟩ : Shape).Idx → EReal) = R2 z) (h2 : (V c main_v2_2 : (⟨2, ![4096, 2816]⟩ : Shape).Idx → EReal) = R2 u) (h3 : (V c main_v1 : (⟨2, ![2816, 1024]⟩ : Shape).Idx → EReal) = R2 wo) :
    ((dat1 (F := Ideal) V c).arrAt 4 cfg1.N : (⟨2, ![4096, 2816]⟩ : Shape).Idx → EReal) = R2 (dgate (dact dy wo) z u) :=
  Dat.arrAt_eq_of_cover _ 4 _ (fun t _ => fl_4 V c dy z u wo h0 h1 h2 h3 t) fun i => by
  have hN : cfg1.N = 16 := N_1
  have h0 : (i 0 : ℕ) < 4096 := (i 0).isLt
  have h1 : (i 1 : ℕ) < 2816 := (i 1).isLt
  have ht : (i 0 : ℕ) / 256 < cfg1.N := by omega
  refine ⟨⟨(i 0 : ℕ) / 256, ht⟩, flush1_4 _, ?_⟩
  show i ∈ ((View.whole main_v3_0).slice (win1_4.rect ⟨(i 0 : ℕ) / 256, ht⟩)).set
  rw [View.set_slice_whole, Rect.mem_set_unit]
  intro a
  match a with
  | ⟨0, _⟩ =>
    show win1_4.index _ 0 * 256 ≤ (i 0 : ℕ) ∧ (i 0 : ℕ) < win1_4.index _ 0 * 256 + win1_4.xsize (grid1.coords _) 0
    rw [(ix_4 _).1, (xs_4 _).1]; dsimp only; omega
  | ⟨1, _⟩ =>
    show win1_4.index _ 1 * 2816 ≤ (i 1 : ℕ) ∧ (i 1 : ℕ) < win1_4.index _ 1 * 2816 + win1_4.xsize (grid1.coords _) 1
    rw [(ix_4 _).2, (xs_4 _).2]; dsimp only; omega

theorem fl_5 (h0 : (V c main_arg2 : (⟨2, ![4096, 1024]⟩ : Shape).Idx → EReal) = R2 dy) (h1 : (V c main_v2_1 : (⟨2, ![4096, 2816]⟩ : Shape).Idx → EReal) = R2 z) (h2 : (V c main_v2_2 : (⟨2, ![4096, 2816]⟩ : Shape).Idx → EReal) = R2 u) (h3 : (V c main_v1 : (⟨2, ![2816, 1024]⟩ : Shape).Idx → EReal) = R2 wo) (t : Fin cfg1.N) :
    (dat1 (F := Ideal) V c).flushed 5 t = ((cfg1.win 5).blk t).view.read (Elt Ideal) (R2 (dup (dact dy wo) z)) := by
  show (cfg1.win 5).cut (grid1.coords t) ((dat1 V c).after 5 t) = _
  rw [after1_5, blk_0 V c _ h0 t, blk_1 V c _ h1 t, blk_3 V c _ h3 t]
  unfold out1_5
  rw [View.canon_unit_zero hz2]
  simp only [View.ld_unit_zero (S := S256x1024) hz2, View.ld_unit_zero (S := S256x2816) hz2, View.ld_unit_zero (S := S2816x1024) hz2]
  rw [k1_pay8_eq]
  funext y
  rw [View.read_apply]
  refine Eq.trans ?_ (congrArg (R2 _) (?_ : ix2 (row t (y 0)) (y 1) = _))
  · rfl
  funext a; apply Fin.ext
  match a with
  | ⟨0, _⟩ => show t.val * 256 + (y 0).val = win1_5.index t 0 * 256 + 1 * (y 0).val; rw [(ix_5 t).1]; omega
  | ⟨1, _⟩ => show (y 1).val = win1_5.index t 1 * 2816 + 1 * (y 1).val; rw [(ix_5 t).2]; omega

theorem arr_5 (h0 : (V c main_arg2 : (⟨2, ![4096, 1024]⟩ : Shape).Idx → EReal) = R2 dy) (h1 : (V c main_v2_1 : (⟨2, ![4096, 2816]⟩ : Shape).Idx → EReal) = R2 z) (h2 : (V c main_v2_2 : (⟨2, ![4096, 2816]⟩ : Shape).Idx → EReal) = R2 u) (h3 : (V c main_v1 : (⟨2, ![2816, 1024]⟩ : Shape).Idx → EReal) = R2 wo) :
    ((dat1 (F := Ideal) V c).arrAt 5 cfg1.N : (⟨2, ![4096, 2816]⟩ : Shape).Idx → EReal) = R2 (dup (dact dy wo) z) :=
  Dat.arrAt_eq_of_cover _ 5 _ (fun t _ => fl_5 V c dy z u wo h0 h1 h2 h3 t) fun i => by
  have hN : cfg1.N = 16 := N_1
  have h0 : (i 0 : ℕ) < 4096 := (i 0).isLt
  have h1 : (i 1 : ℕ) < 2816 := (i 1).isLt
  have ht : (i 0 : ℕ) / 256 < cfg1.N := by omega
  refine ⟨⟨(i 0 : ℕ) / 256, ht⟩, flush1_5 _, ?_⟩
  show i ∈ ((View.whole main_v3_1).slice (win1_5.rect ⟨(i 0 : ℕ) / 256, ht⟩)).set
  rw [View.set_slice_whole, Rect.mem_set_unit]
  intro a
  match a with
  | ⟨0, _⟩ =>
    show win1_5.index _ 0 * 256 ≤ (i 0 : ℕ) ∧ (i 0 : ℕ) < win1_5.index _ 0 * 256 + win1_5.xsize (grid1.coords _) 0
    rw [(ix_5 _).1, (xs_5 _).1]; dsimp only; omega
  | ⟨1, _⟩ =>
    show win1_5.index _ 1 * 2816 ≤ (i 1 : ℕ) ∧ (i 1 : ℕ) < win1_5.index _ 1 * 2816 + win1_5.xsize (grid1.coords _) 1
    rw [(ix_5 _).2, (xs_5 _).2]; dsimp only; omega

theorem fl_6 (h0 : (V c main_arg2 : (⟨2, ![4096, 1024]⟩ : Shape).Idx → EReal) = R2 dy) (h1 : (V c main_v2_1 : (⟨2, ![4096, 2816]⟩ : Shape).Idx → EReal) = R2 z) (h2 : (V c main_v2_2 : (⟨2, ![4096, 2816]⟩ : Shape).Idx → EReal) = R2 u) (h3 : (V c main_v1 : (⟨2, ![2816, 1024]⟩ : Shape).Idx → EReal) = R2 wo) (t : Fin cfg1.N) :
    (dat1 (F := Ideal) V c).flushed 6 t = ((cfg1.win 6).blk t).view.read (Elt Ideal) (R2 (act z u)) := by
  show (cfg1.win 6).cut (grid1.coords t) ((dat1 V c).after 6 t) = _
  rw [after1_6, blk_1 V c _ h1 t, blk_2 V c _ h2 t]
  unfold out1_6
  rw [View.canon_unit_zero hz2]
  simp only [View.ld_unit_zero (S := S256x1024) hz2, View.ld_unit_zero (S := S256x2816) hz2, View.ld_unit_zero (S := S2816x1024) hz2]
  rw [k1_pay5_eq]
  funext y
  rw [View.read_apply]
  refine Eq.trans ?_ (congrArg (R2 _) (?_ : ix2 (row t (y 0)) (y 1) = _))
  · rfl
  funext a; apply Fin.ext
  match a with
  | ⟨0, _⟩ => show t.val * 256 + (y 0).val = win1_6.index t 0 * 256 + 1 * (y 0).val; rw [(ix_6 t).1]; omega
  | ⟨1, _⟩ => show (y 1).val = win1_6.index t 1 * 2816 + 1 * (y 1).val; rw [(ix_6 t).2]; omega

theorem arr_6 (h0 : (V c main_arg2 : (⟨2, ![4096, 1024]⟩ : Shape).Idx → EReal) = R2 dy) (h1 : (V c main_v2_1 : (⟨2, ![4096, 2816]⟩ : Shape).Idx → EReal) = R2 z) (h2 : (V c main_v2_2 : (⟨2, ![4096, 2816]⟩ : Shape).Idx → EReal) = R2 u) (h3 : (V c main_v1 : (⟨2, ![2816, 1024]⟩ : Shape).Idx → EReal) = R2 wo) :
    ((dat1 (F := Ideal) V c).arrAt 6 cfg1.N : (⟨2, ![4096, 2816]⟩ : Shape).Idx → EReal) = R2 (act z u) :=
  Dat.arrAt_eq_of_cover _ 6 _ (fun t _ => fl_6 V c dy z u wo h0 h1 h2 h3 t) fun i => by
  have hN : cfg1.N = 16 := N_1
  have h0 : (i 0 : ℕ) < 4096 := (i 0).isLt
  have h1 : (i 1 : ℕ) < 2816 := (i 1).isLt
  have ht : (i 0 : ℕ) / 256 < cfg1.N := by omega
  refine ⟨⟨(i 0 : ℕ) / 256, ht⟩, flush1_6 _, ?_⟩
  show i ∈ ((View.whole main_v3_2).slice (win1_6.rect ⟨(i 0 : ℕ) / 256, ht⟩)).set
  rw [View.set_slice_whole, Rect.mem_set_unit]
  intro a
  match a with
  | ⟨0, _⟩ =>
    show win1_6.index _ 0 * 256 ≤ (i 0 : ℕ) ∧ (i 0 : ℕ) < win1_6.index _ 0 * 256 + win1_6.xsize (grid1.coords _) 0
    rw [(ix_6 _).1, (xs_6 _).1]; dsimp only; omega
  | ⟨1, _⟩ =>
    show win1_6.index _ 1 * 2816 ≤ (i 1 : ℕ) ∧ (i 1 : ℕ) < win1_6.index _ 1 * 2816 + win1_6.xsize (grid1.coords _) 1
    rw [(ix_6 _).2, (xs_6 _).2]; dsimp only; omega

end Cert.Real.Reg1

end
-- ==== Proof.Hand.Cases.lean ====
/- What the bodies with a branch leave in their outputs, as payloads of the blocks they read. -/
module

public import proofs.«01_k».proof.Proof.Hand.Cols
public import proofs.«01_k».proof.Proof.Gen.KernelIdeal.Frame

@[expose] public section

set_option maxRecDepth 16384

noncomputable section

namespace Cert.Real

open Idealize.ShloMosaic hiding ix0 ix1 ix2 eq_ix1 eq_ix2
open Idealize.ShloMosaic.ValueIdx
open Idealize.ShloMosaic.Pipeline
open Cert.KernelIdeal Cert.KernelIdeal.Gen

variable {F : FTy → Type} [FloatOps F]

theorem out2_A_7_eq (c : Dev nD) (i : grid2.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (hc : cond2_0 i)
    (x0 : Vec F S512x1024 .f32) (x1 : Vec F S1x1024 .f32) (x2 : Vec F S512x1024 .f32) (x3 : Vec F S512x2816 .bf16) (x4 : Vec F S512x2816 .bf16) (x5 : Vec F S1024x2816 .bf16) (x6 : Vec F S1024x2816 .bf16) :
    out2_A_7 c i a1 h1 a2 h2 a3 h3 a4 h4 a5 h5 a6 h6 a7 h7 a8 h8 a9 h9 a10 h10 a11 h11 hc x0 x1 x2 x3 x4 x5 x6 = k2_pay2 (k2_pay5 x0) (k2_pay6 x0) (k2_pay9 x3 x5) (k2_pay10 x4) x6 x2 x1 := by
  unfold out2_A_7
  rw [View.read_writes_eq_canon _ _ _ (cover2_A_7 c i a1 h1 a2 h2 a3 h3 a4 h4 a5 h5 a6 h6 a7 h7 a8 h8 a9 h9 a10 h10 a11 h11 hc x0 x1 x2 x3 x4 x5 x6)]
  unfold kernelRun2_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S512x2816) hz2, View.ld_unit_zero (S := S1024x2816) hz2]

theorem out2_A_8_eq (c : Dev nD) (i : grid2.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (hc : cond2_0 i)
    (x0 : Vec F S512x1024 .f32) (x1 : Vec F S1x1024 .f32) (x2 : Vec F S512x1024 .f32) (x3 : Vec F S512x2816 .bf16) (x4 : Vec F S512x2816 .bf16) (x5 : Vec F S1024x2816 .bf16) (x6 : Vec F S1024x2816 .bf16) :
    out2_A_8 c i a1 h1 a2 h2 a3 h3 a4 h4 a5 h5 a6 h6 a7 h7 a8 h8 a9 h9 a10 h10 a11 h11 hc x0 x1 x2 x3 x4 x5 x6 = k2_pay3 (k2_pay6 x0) (k2_pay9 x3 x5) (k2_pay10 x4) x6 k2_pay4 := by
  unfold out2_A_8
  rw [View.read_writes_eq_canon _ _ _ (cover2_A_8 c i a1 h1 a2 h2 a3 h3 a4 h4 a5 h5 a6 h6 a7 h7 a8 h8 a9 h9 a10 h10 a11 h11 hc x0 x1 x2 x3 x4 x5 x6)]
  unfold kernelRun2_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S512x2816) hz2, View.ld_unit_zero (S := S1024x2816) hz2]

theorem out2_A_9_eq (c : Dev nD) (i : grid2.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (hc : cond2_0 i)
    (x0 : Vec F S512x1024 .f32) (x1 : Vec F S1x1024 .f32) (x2 : Vec F S512x1024 .f32) (x3 : Vec F S512x2816 .bf16) (x4 : Vec F S512x2816 .bf16) (x5 : Vec F S1024x2816 .bf16) (x6 : Vec F S1024x2816 .bf16) :
    out2_A_9 c i a1 h1 a2 h2 a3 h3 a4 h4 a5 h5 a6 h6 a7 h7 a8 h8 a9 h9 a10 h10 a11 h11 hc x0 x1 x2 x3 x4 x5 x6 = k2_pay7 x0 x1 := by
  unfold out2_A_9
  rw [View.read_writes_eq_canon _ _ _ (cover2_A_9 c i a1 h1 a2 h2 a3 h3 a4 h4 a5 h5 a6 h6 a7 h7 a8 h8 a9 h9 a10 h10 a11 h11 hc x0 x1 x2 x3 x4 x5 x6)]
  unfold kernelRun2_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S512x2816) hz2, View.ld_unit_zero (S := S1024x2816) hz2]

theorem out2_A_10_eq (c : Dev nD) (i : grid2.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (hc : cond2_0 i)
    (x0 : Vec F S512x1024 .f32) (x1 : Vec F S1x1024 .f32) (x2 : Vec F S512x1024 .f32) (x3 : Vec F S512x2816 .bf16) (x4 : Vec F S512x2816 .bf16) (x5 : Vec F S1024x2816 .bf16) (x6 : Vec F S1024x2816 .bf16) :
    out2_A_10 c i a1 h1 a2 h2 a3 h3 a4 h4 a5 h5 a6 h6 a7 h7 a8 h8 a9 h9 a10 h10 a11 h11 hc x0 x1 x2 x3 x4 x5 x6 = k2_pay8 x2 := by
  unfold out2_A_10
  rw [View.read_writes_eq_canon _ _ _ (cover2_A_10 c i a1 h1 a2 h2 a3 h3 a4 h4 a5 h5 a6 h6 a7 h7 a8 h8 a9 h9 a10 h10 a11 h11 hc x0 x1 x2 x3 x4 x5 x6)]
  unfold kernelRun2_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S512x2816) hz2, View.ld_unit_zero (S := S1024x2816) hz2]

theorem out2_B_7_eq (c : Dev nD) (i : grid2.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (hc : ¬cond2_0 i)
    (x0 : Vec F S512x1024 .f32) (x1 : Vec F S1x1024 .f32) (x2 : Vec F S512x1024 .f32) (x3 : Vec F S512x2816 .bf16) (x4 : Vec F S512x2816 .bf16) (x5 : Vec F S1024x2816 .bf16) (x6 : Vec F S1024x2816 .bf16) (xo : Vec F S1x1024 .f32) :
    out2_B_7 c i a1 h1 a2 h2 a3 h3 a4 h4 a5 h5 a6 h6 a7 h7 a8 h8 a9 h9 a10 h10 a11 h11 hc x0 x1 x2 x3 x4 x5 x6 xo = k2_pay2 (k2_pay5 x0) (k2_pay6 x0) (k2_pay9 x3 x5) (k2_pay10 x4) x6 x2 x1 := by
  unfold out2_B_7
  rw [View.read_writes_eq_canon _ _ _ (cover2_B_7 c i a1 h1 a2 h2 a3 h3 a4 h4 a5 h5 a6 h6 a7 h7 a8 h8 a9 h9 a10 h10 a11 h11 hc x0 x1 x2 x3 x4 x5 x6 xo)]
  unfold kernelRun2_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S512x2816) hz2, View.ld_unit_zero (S := S1024x2816) hz2]

theorem out2_B_8_eq (c : Dev nD) (i : grid2.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (hc : ¬cond2_0 i)
    (x0 : Vec F S512x1024 .f32) (x1 : Vec F S1x1024 .f32) (x2 : Vec F S512x1024 .f32) (x3 : Vec F S512x2816 .bf16) (x4 : Vec F S512x2816 .bf16) (x5 : Vec F S1024x2816 .bf16) (x6 : Vec F S1024x2816 .bf16) (xo : Vec F S1x1024 .f32) :
    out2_B_8 c i a1 h1 a2 h2 a3 h3 a4 h4 a5 h5 a6 h6 a7 h7 a8 h8 a9 h9 a10 h10 a11 h11 hc x0 x1 x2 x3 x4 x5 x6 xo = k2_pay3 (k2_pay6 x0) (k2_pay9 x3 x5) (k2_pay10 x4) x6 xo := by
  unfold out2_B_8
  rw [View.read_writes_eq_canon _ _ _ (cover2_B_8 c i a1 h1 a2 h2 a3 h3 a4 h4 a5 h5 a6 h6 a7 h7 a8 h8 a9 h9 a10 h10 a11 h11 hc x0 x1 x2 x3 x4 x5 x6 xo)]
  unfold kernelRun2_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S512x2816) hz2, View.ld_unit_zero (S := S1024x2816) hz2]

theorem out2_B_9_eq (c : Dev nD) (i : grid2.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (hc : ¬cond2_0 i)
    (x0 : Vec F S512x1024 .f32) (x1 : Vec F S1x1024 .f32) (x2 : Vec F S512x1024 .f32) (x3 : Vec F S512x2816 .bf16) (x4 : Vec F S512x2816 .bf16) (x5 : Vec F S1024x2816 .bf16) (x6 : Vec F S1024x2816 .bf16) (xo : Vec F S1x1024 .f32) :
    out2_B_9 c i a1 h1 a2 h2 a3 h3 a4 h4 a5 h5 a6 h6 a7 h7 a8 h8 a9 h9 a10 h10 a11 h11 hc x0 x1 x2 x3 x4 x5 x6 xo = k2_pay7 x0 x1 := by
  unfold out2_B_9
  rw [View.read_writes_eq_canon _ _ _ (cover2_B_9 c i a1 h1 a2 h2 a3 h3 a4 h4 a5 h5 a6 h6 a7 h7 a8 h8 a9 h9 a10 h10 a11 h11 hc x0 x1 x2 x3 x4 x5 x6 xo)]
  unfold kernelRun2_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S512x2816) hz2, View.ld_unit_zero (S := S1024x2816) hz2]

theorem out2_B_10_eq (c : Dev nD) (i : grid2.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (hc : ¬cond2_0 i)
    (x0 : Vec F S512x1024 .f32) (x1 : Vec F S1x1024 .f32) (x2 : Vec F S512x1024 .f32) (x3 : Vec F S512x2816 .bf16) (x4 : Vec F S512x2816 .bf16) (x5 : Vec F S1024x2816 .bf16) (x6 : Vec F S1024x2816 .bf16) (xo : Vec F S1x1024 .f32) :
    out2_B_10 c i a1 h1 a2 h2 a3 h3 a4 h4 a5 h5 a6 h6 a7 h7 a8 h8 a9 h9 a10 h10 a11 h11 hc x0 x1 x2 x3 x4 x5 x6 xo = k2_pay8 x2 := by
  unfold out2_B_10
  rw [View.read_writes_eq_canon _ _ _ (cover2_B_10 c i a1 h1 a2 h2 a3 h3 a4 h4 a5 h5 a6 h6 a7 h7 a8 h8 a9 h9 a10 h10 a11 h11 hc x0 x1 x2 x3 x4 x5 x6 xo)]
  unfold kernelRun2_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S512x2816) hz2, View.ld_unit_zero (S := S1024x2816) hz2]

theorem out3_A_3_eq (c : Dev nD) (i : grid3.Coords) (a1 : Memref sig .tc .vmem S4096x1024 .bf16) (h1 : a1.IsWhole) (a2 : Memref sig .tc .vmem S4096x256 .bf16) (h2 : a2.IsWhole) (a3 : Memref sig .tc .vmem S4096x256 .bf16) (h3 : a3.IsWhole) (a4 : Memref sig .tc .vmem S1024x256 .bf16) (h4 : a4.IsWhole) (hc : cond3_0 i) (hd : ¬cond3_1 i)
    (x0 : Vec F S4096x1024 .bf16) (x1 : Vec F S4096x256 .bf16) (x2 : Vec F S4096x256 .bf16) :
    out3_A_3 c i a1 h1 a2 h2 a3 h3 a4 h4 hc hd x0 x1 x2 = k3_pay1 x0 x1 := by
  unfold out3_A_3
  rw [View.read_writes_eq_canon _ _ _ (cover3_A_3 c i a1 h1 a2 h2 a3 h3 a4 h4 hc hd x0 x1 x2)]
  unfold kernelRun3_A
  dsimp only
  sl_unfold_words
  rw [View.canon_unit_zero hz2]
  simp only [View.readAt_eq_ld, h1.read_unread, h2.read_unread, h3.read_unread, View.ld_unit_zero (S := S4096x1024) hz2, View.ld_unit_zero (S := S4096x256) hz2]

theorem out3_B_3_eq (c : Dev nD) (i : grid3.Coords) (a1 : Memref sig .tc .vmem S4096x1024 .bf16) (h1 : a1.IsWhole) (a2 : Memref sig .tc .vmem S4096x256 .bf16) (h2 : a2.IsWhole) (a3 : Memref sig .tc .vmem S4096x256 .bf16) (h3 : a3.IsWhole) (a4 : Memref sig .tc .vmem S1024x256 .bf16) (h4 : a4.IsWhole) (hc : ¬cond3_0 i) (hd : cond3_1 i)
    (x0 : Vec F S4096x1024 .bf16) (x1 : Vec F S4096x256 .bf16) (x2 : Vec F S4096x256 .bf16) :
    out3_B_3 c i a1 h1 a2 h2 a3 h3 a4 h4 hc hd x0 x1 x2 = k3_pay2 x0 x2 := by
  unfold out3_B_3
  rw [View.read_writes_eq_canon _ _ _ (cover3_B_3 c i a1 h1 a2 h2 a3 h3 a4 h4 hc hd x0 x1 x2)]
  unfold kernelRun3_B
  dsimp only
  sl_unfold_words
  rw [View.canon_unit_zero hz2]
  simp only [View.readAt_eq_ld, h1.read_unread, h2.read_unread, h3.read_unread, View.ld_unit_zero (S := S4096x1024) hz2, View.ld_unit_zero (S := S4096x256) hz2]

end Cert.Real

end
-- ==== Proof.Hand.Region2.lean ====
/- The gradient of the normalised rows and of the scale: eight tiles of 512 rows; the scale's gradient is the running sum
   over the tiles. -/
module

public import proofs.«01_k».proof.Proof.Hand.Pay
public import proofs.«01_k».proof.Proof.Hand.Cases
public import proofs.«01_k».proof.Proof.Gen.KernelIdeal.Frame

@[expose] public section

set_option maxRecDepth 16384
set_option backward.isDefEq.respectTransparency false

noncomputable section

namespace Cert.Real.Reg2

open Idealize.ShloMosaic hiding ix0 ix1 ix2 eq_ix1 eq_ix2
open Idealize.ShloMosaic.ValueIdx
open Idealize.ShloMosaic.Pipeline
open Cert.KernelIdeal Cert.KernelIdeal.Gen

/-- The row of the array that row `p` of tile `t` is. -/
def row (t : Fin cfg2.N) (p : Fin 512) : Fin 4096 := ⟨t.val * 512 + p.val, by
  have h : cfg2.N = 8 := N_2
  have := t.isLt; have := p.isLt; omega⟩

theorem ix_0 : ∀ t : Fin cfg2.N, win2_0.index t 0 = t.val ∧ win2_0.index t 1 = 0 :=
  (by decide +kernel : ∀ t : Fin grid2.N, win2_0.index t 0 = t.val ∧ win2_0.index t 1 = 0)

theorem ix_1 : ∀ t : Fin cfg2.N, win2_1.index t 0 = 0 ∧ win2_1.index t 1 = 0 :=
  (by decide +kernel : ∀ t : Fin grid2.N, win2_1.index t 0 = 0 ∧ win2_1.index t 1 = 0)

theorem ix_2 : ∀ t : Fin cfg2.N, win2_2.index t 0 = t.val ∧ win2_2.index t 1 = 0 :=
  (by decide +kernel : ∀ t : Fin grid2.N, win2_2.index t 0 = t.val ∧ win2_2.index t 1 = 0)

theorem ix_3 : ∀ t : Fin cfg2.N, win2_3.index t 0 = t.val ∧ win2_3.index t 1 = 0 :=
  (by decide +kernel : ∀ t : Fin grid2.N, win2_3.index t 0 = t.val ∧ win2_3.index t 1 = 0)

theorem ix_4 : ∀ t : Fin cfg2.N, win2_4.index t 0 = t.val ∧ win2_4.index t 1 = 0 :=
  (by decide +kernel : ∀ t : Fin grid2.N, win2_4.index t 0 = t.val ∧ win2_4.index t 1 = 0)

theorem ix_5 : ∀ t : Fin cfg2.N, win2_5.index t 0 = 0 ∧ win2_5.index t 1 = 0 :=
  (by decide +kernel : ∀ t : Fin grid2.N, win2_5.index t 0 = 0 ∧ win2_5.index t 1 = 0)

theorem ix_6 : ∀ t : Fin cfg2.N, win2_6.index t 0 = 0 ∧ win2_6.index t 1 = 1 :=
  (by decide +kernel : ∀ t : Fin grid2.N, win2_6.index t 0 = 0 ∧ win2_6.index t 1 = 1)

theorem ix_7 : ∀ t : Fin cfg2.N, win2_7.index t 0 = t.val ∧ win2_7.index t 1 = 0 :=
  (by decide +kernel : ∀ t : Fin grid2.N, win2_7.index t 0 = t.val ∧ win2_7.index t 1 = 0)

theorem xs_7 : ∀ t : Fin cfg2.N, win2_7.xsize (grid2.coords t) 0 = 512 ∧ win2_7.xsize (grid2.coords t) 1 = 1024 :=
  (by decide +kernel : ∀ t : Fin grid2.N, win2_7.xsize (grid2.coords t) 0 = 512 ∧ win2_7.xsize (grid2.coords t) 1 = 1024)

theorem ix_8 : ∀ t : Fin cfg2.N, win2_8.index t 0 = 0 ∧ win2_8.index t 1 = 0 :=
  (by decide +kernel : ∀ t : Fin grid2.N, win2_8.index t 0 = 0 ∧ win2_8.index t 1 = 0)

theorem xs_8 : ∀ t : Fin cfg2.N, win2_8.xsize (grid2.coords t) 0 = 1 ∧ win2_8.xsize (grid2.coords t) 1 = 1024 :=
  (by decide +kernel : ∀ t : Fin grid2.N, win2_8.xsize (grid2.coords t) 0 = 1 ∧ win2_8.xsize (grid2.coords t) 1 = 1024)

theorem ix_9 : ∀ t : Fin cfg2.N, win2_9.index t 0 = t.val ∧ win2_9.index t 1 = 0 :=
  (by decide +kernel : ∀ t : Fin grid2.N, win2_9.index t 0 = t.val ∧ win2_9.index t 1 = 0)

theorem xs_9 : ∀ t : Fin cfg2.N, win2_9.xsize (grid2.coords t) 0 = 512 ∧ win2_9.xsize (grid2.coords t) 1 = 1024 :=
  (by decide +kernel : ∀ t : Fin grid2.N, win2_9.xsize (grid2.coords t) 0 = 512 ∧ win2_9.xsize (grid2.coords t) 1 = 1024)

theorem ix_10 : ∀ t : Fin cfg2.N, win2_10.index t 0 = t.val ∧ win2_10.index t 1 = 0 :=
  (by decide +kernel : ∀ t : Fin grid2.N, win2_10.index t 0 = t.val ∧ win2_10.index t 1 = 0)

theorem xs_10 : ∀ t : Fin cfg2.N, win2_10.xsize (grid2.coords t) 0 = 512 ∧ win2_10.xsize (grid2.coords t) 1 = 1024 :=
  (by decide +kernel : ∀ t : Fin grid2.N, win2_10.xsize (grid2.coords t) 0 = 512 ∧ win2_10.xsize (grid2.coords t) 1 = 1024)

variable (V : (c : Dev nD) → (b : Ref sig .tc) → Buf (Elt Ideal) (c.tc.loc b)) (c : Dev nD)
variable (x : Fin 4096 → Fin 1024 → ℝ) (g : Fin 1 → Fin 1024 → ℝ) (dy : Fin 4096 → Fin 1024 → ℝ) (dg du : Fin 4096 → Fin 2816 → ℝ) (w : Fin 1024 → Fin 5632 → ℝ)

theorem blk_0 (hV : (V c main_arg0 : (⟨2, ![4096, 1024]⟩ : Shape).Idx → EReal) = R2 x) (t : Fin cfg2.N) :
    (iblk2 (F := Ideal) V c 0 t : (⟨2, ![512, 1024]⟩ : Shape).Idx → EReal) = R2 (fun p => x (row t p)) := by
  unfold iblk2
  funext y
  rw [View.read_apply]
  show V c main_arg0 _ = _
  rw [hV]
  refine (congrArg (R2 x) ?_).trans (R2_ix2 x (row t (y 0)) (y 1))
  funext a; apply Fin.ext
  match a with
  | ⟨0, _⟩ => show win2_0.index t 0 * 512 + 1 * (y 0).val = t.val * 512 + (y 0).val; rw [(ix_0 t).1]; omega
  | ⟨1, _⟩ => show win2_0.index t 1 * 1024 + 1 * (y 1).val = (y 1).val; rw [(ix_0 t).2]; omega

theorem blk_1 (hV : (V c main_arg1 : (⟨2, ![1, 1024]⟩ : Shape).Idx → EReal) = R2 g) (t : Fin cfg2.N) :
    (iblk2 (F := Ideal) V c 1 t : (⟨2, ![1, 1024]⟩ : Shape).Idx → EReal) = R2 (g) := by
  unfold iblk2
  funext y
  rw [View.read_apply]
  show V c main_arg1 _ = _
  rw [hV]
  refine (congrArg (R2 g) ?_).trans (R2_ix2 g (y 0) (y 1))
  funext a; apply Fin.ext
  match a with
  | ⟨0, _⟩ => show win2_1.index t 0 * 1 + 1 * (y 0).val = (y 0).val; rw [(ix_1 t).1]; omega
  | ⟨1, _⟩ => show win2_1.index t 1 * 1024 + 1 * (y 1).val = (y 1).val; rw [(ix_1 t).2]; omega

theorem blk_2 (hV : (V c main_arg2 : (⟨2, ![4096, 1024]⟩ : Shape).Idx → EReal) = R2 dy) (t : Fin cfg2.N) :
    (iblk2 (F := Ideal) V c 2 t : (⟨2, ![512, 1024]⟩ : Shape).Idx → EReal) = R2 (fun p => dy (row t p)) := by
  unfold iblk2
  funext y
  rw [View.read_apply]
  show V c main_arg2 _ = _
  rw [hV]
  refine (congrArg (R2 dy) ?_).trans (R2_ix2 dy (row t (y 0)) (y 1))
  funext a; apply Fin.ext
  match a with
  | ⟨0, _⟩ => show win2_2.index t 0 * 512 + 1 * (y 0).val = t.val * 512 + (y 0).val; rw [(ix_2 t).1]; omega
  | ⟨1, _⟩ => show win2_2.index t 1 * 1024 + 1 * (y 1).val = (y 1).val; rw [(ix_2 t).2]; omega

theorem blk_3 (hV : (V c main_v3_0 : (⟨2, ![4096, 2816]⟩ : Shape).Idx → EReal) = R2 dg) (t : Fin cfg2.N) :
    (iblk2 (F := Ideal) V c 3 t : (⟨2, ![512, 2816]⟩ : Shape).Idx → EReal) = R2 (fun p => dg (row t p)) := by
  unfold iblk2
  funext y
  rw [View.read_apply]
  show V c main_v3_0 _ = _
  rw [hV]
  refine (congrArg (R2 dg) ?_).trans (R2_ix2 dg (row t (y 0)) (y 1))
  funext a; apply Fin.ext
  match a with
  | ⟨0, _⟩ => show win2_3.index t 0 * 512 + 1 * (y 0).val = t.val * 512 + (y 0).val; rw [(ix_3 t).1]; omega
  | ⟨1, _⟩ => show win2_3.index t 1 * 2816 + 1 * (y 1).val = (y 1).val; rw [(ix_3 t).2]; omega

theorem blk_4 (hV : (V c main_v3_1 : (⟨2, ![4096, 2816]⟩ : Shape).Idx → EReal) = R2 du) (t : Fin cfg2.N) :
    (iblk2 (F := Ideal) V c 4 t : (⟨2, ![512, 2816]⟩ : Shape).Idx → EReal) = R2 (fun p => du (row t p)) := by
  unfold iblk2
  funext y
  rw [View.read_apply]
  show V c main_v3_1 _ = _
  rw [hV]
  refine (congrArg (R2 du) ?_).trans (R2_ix2 du (row t (y 0)) (y 1))
  funext a; apply Fin.ext
  match a with
  | ⟨0, _⟩ => show win2_4.index t 0 * 512 + 1 * (y 0).val = t.val * 512 + (y 0).val; rw [(ix_4 t).1]; omega
  | ⟨1, _⟩ => show win2_4.index t 1 * 2816 + 1 * (y 1).val = (y 1).val; rw [(ix_4 t).2]; omega

theorem blk_5 (hV : (V c main_v0 : (⟨2, ![1024, 5632]⟩ : Shape).Idx → EReal) = R2 w) (t : Fin cfg2.N) :
    (iblk2 (F := Ideal) V c 5 t : (⟨2, ![1024, 2816]⟩ : Shape).Idx → EReal) = R2 (lcol w) := by
  unfold iblk2
  funext y
  rw [View.read_apply]
  show V c main_v0 _ = _
  rw [hV]
  refine (congrArg (R2 w) ?_).trans (R2_ix2 w (y 0) (lix (y 1)))
  funext a; apply Fin.ext
  match a with
  | ⟨0, _⟩ => show win2_5.index t 0 * 1024 + 1 * (y 0).val = (y 0).val; rw [(ix_5 t).1]; omega
  | ⟨1, _⟩ => show win2_5.index t 1 * 2816 + 1 * (y 1).val = (y 1).val; rw [(ix_5 t).2]; omega

theorem blk_6 (hV : (V c main_v0 : (⟨2, ![1024, 5632]⟩ : Shape).Idx → EReal) = R2 w) (t : Fin cfg2.N) :
    (iblk2 (F := Ideal) V c 6 t : (⟨2, ![1024, 2816]⟩ : Shape).Idx → EReal) = R2 (rcol w) := by
  unfold iblk2
  funext y
  rw [View.read_apply]
  show V c main_v0 _ = _
  rw [hV]
  refine (congrArg (R2 w) ?_).trans (R2_ix2 w (y 0) (rix (y 1)))
  funext a; apply Fin.ext
  match a with
  | ⟨0, _⟩ => show win2_6.index t 0 * 1024 + 1 * (y 0).val = (y 0).val; rw [(ix_6 t).1]; omega
  | ⟨1, _⟩ => show win2_6.index t 1 * 2816 + 1 * (y 1).val = 2816 + (y 1).val; rw [(ix_6 t).2]; omega

theorem fl_7 (h0 : (V c main_arg0 : (⟨2, ![4096, 1024]⟩ : Shape).Idx → EReal) = R2 x) (h1 : (V c main_arg1 : (⟨2, ![1, 1024]⟩ : Shape).Idx → EReal) = R2 g) (h2 : (V c main_arg2 : (⟨2, ![4096, 1024]⟩ : Shape).Idx → EReal) = R2 dy) (h3 : (V c main_v3_0 : (⟨2, ![4096, 2816]⟩ : Shape).Idx → EReal) = R2 dg) (h4 : (V c main_v3_1 : (⟨2, ![4096, 2816]⟩ : Shape).Idx → EReal) = R2 du) (h5 : (V c main_v0 : (⟨2, ![1024, 5632]⟩ : Shape).Idx → EReal) = R2 w) (h6 : (V c main_v0 : (⟨2, ![1024, 5632]⟩ : Shape).Idx → EReal) = R2 w) (t : Fin cfg2.N) :
    (dat2 (F := Ideal) V c).flushed 7 t = ((cfg2.win 7).blk t).view.read (Elt Ideal) (R2 (dxs dy (dhn dg du (lcol w) (rcol w)) x g)) := by
  show (cfg2.win 7).cut (grid2.coords t) ((dat2 V c).after 7 t) = _
  have key : ((dat2 (F := Ideal) V c).after 7 t : (⟨2, ![512, 1024]⟩ : Shape).Idx → EReal) = R2 (dxs (fun p => dy (row t p)) (dhn (fun p => dg (row t p)) (fun p => du (row t p)) (lcol w) (rcol w)) (fun p => x (row t p)) g) := by
    rw [after2_7]
    by_cases hc : t.val % 8 = 0
    · rw [outsAt2_A V c t hc]
      dsimp only
      rw [out2_A_7_eq, blk_0 V c _ h0 t, blk_1 V c _ h1 t, blk_2 V c _ h2 t, blk_3 V c _ h3 t, blk_4 V c _ h4 t, blk_5 V c _ h5 t, blk_6 V c _ h6 t, k2_pay5_eq, k2_pay6_eq, k2_pay9_eq, k2_pay10_eq, k2_pay2_eq]
    · rw [outsAt2_B V c t hc]
      dsimp only
      rw [out2_B_7_eq, blk_0 V c _ h0 t, blk_1 V c _ h1 t, blk_2 V c _ h2 t, blk_3 V c _ h3 t, blk_4 V c _ h4 t, blk_5 V c _ h5 t, blk_6 V c _ h6 t, k2_pay5_eq, k2_pay6_eq, k2_pay9_eq, k2_pay10_eq, k2_pay2_eq]
  rw [key]
  funext y
  rw [View.read_apply]
  refine Eq.trans ?_ (congrArg (R2 _) (?_ : ix2 (row t (y 0)) (y 1) = _))
  · rfl
  funext a; apply Fin.ext
  match a with
  | ⟨0, _⟩ => show t.val * 512 + (y 0).val = win2_7.index t 0 * 512 + 1 * (y 0).val; rw [(ix_7 t).1]; omega
  | ⟨1, _⟩ => show (y 1).val = win2_7.index t 1 * 1024 + 1 * (y 1).val; rw [(ix_7 t).2]; omega

theorem arr_7 (h0 : (V c main_arg0 : (⟨2, ![4096, 1024]⟩ : Shape).Idx → EReal) = R2 x) (h1 : (V c main_arg1 : (⟨2, ![1, 1024]⟩ : Shape).Idx → EReal) = R2 g) (h2 : (V c main_arg2 : (⟨2, ![4096, 1024]⟩ : Shape).Idx → EReal) = R2 dy) (h3 : (V c main_v3_0 : (⟨2, ![4096, 2816]⟩ : Shape).Idx → EReal) = R2 dg) (h4 : (V c main_v3_1 : (⟨2, ![4096, 2816]⟩ : Shape).Idx → EReal) = R2 du) (h5 : (V c main_v0 : (⟨2, ![1024, 5632]⟩ : Shape).Idx → EReal) = R2 w) (h6 : (V c main_v0 : (⟨2, ![1024, 5632]⟩ : Shape).Idx → EReal) = R2 w) :
    ((dat2 (F := Ideal) V c).arrAt 7 cfg2.N : (⟨2, ![4096, 1024]⟩ : Shape).Idx → EReal) = R2 (dxs dy (dhn dg du (lcol w) (rcol w)) x g) :=
  Dat.arrAt_eq_of_cover _ 7 _ (fun t _ => fl_7 V c x g dy dg du w h0 h1 h2 h3 h4 h5 h6 t) fun i => by
  have hN : cfg2.N = 8 := N_2
  have h0 : (i 0 : ℕ) < 4096 := (i 0).isLt
  have h1 : (i 1 : ℕ) < 1024 := (i 1).isLt
  have ht : (i 0 : ℕ) / 512 < cfg2.N := by omega
  refine ⟨⟨(i 0 : ℕ) / 512, ht⟩, flush2_7 _, ?_⟩
  show i ∈ ((View.whole main_v4_0).slice (win2_7.rect ⟨(i 0 : ℕ) / 512, ht⟩)).set
  rw [View.set_slice_whole, Rect.mem_set_unit]
  intro a
  match a with
  | ⟨0, _⟩ =>
    show win2_7.index _ 0 * 512 ≤ (i 0 : ℕ) ∧ (i 0 : ℕ) < win2_7.index _ 0 * 512 + win2_7.xsize (grid2.coords _) 0
    rw [(ix_7 _).1, (xs_7 _).1]; dsimp only; omega
  | ⟨1, _⟩ =>
    show win2_7.index _ 1 * 1024 ≤ (i 1 : ℕ) ∧ (i 1 : ℕ) < win2_7.index _ 1 * 1024 + win2_7.xsize (grid2.coords _) 1
    rw [(ix_7 _).2, (xs_7 _).2]; dsimp only; omega

theorem fl_9 (h0 : (V c main_arg0 : (⟨2, ![4096, 1024]⟩ : Shape).Idx → EReal) = R2 x) (h1 : (V c main_arg1 : (⟨2, ![1, 1024]⟩ : Shape).Idx → EReal) = R2 g) (h2 : (V c main_arg2 : (⟨2, ![4096, 1024]⟩ : Shape).Idx → EReal) = R2 dy) (h3 : (V c main_v3_0 : (⟨2, ![4096, 2816]⟩ : Shape).Idx → EReal) = R2 dg) (h4 : (V c main_v3_1 : (⟨2, ![4096, 2816]⟩ : Shape).Idx → EReal) = R2 du) (h5 : (V c main_v0 : (⟨2, ![1024, 5632]⟩ : Shape).Idx → EReal) = R2 w) (h6 : (V c main_v0 : (⟨2, ![1024, 5632]⟩ : Shape).Idx → EReal) = R2 w) (t : Fin cfg2.N) :
    (dat2 (F := Ideal) V c).flushed 9 t = ((cfg2.win 9).blk t).view.read (Elt Ideal) (R2 (hn x g)) := by
  show (cfg2.win 9).cut (grid2.coords t) ((dat2 V c).after 9 t) = _
  have key : ((dat2 (F := Ideal) V c).after 9 t : (⟨2, ![512, 1024]⟩ : Shape).Idx → EReal) = R2 (hn (fun p => x (row t p)) g) := by
    rw [after2_9]
    by_cases hc : t.val % 8 = 0
    · rw [outsAt2_A V c t hc]
      dsimp only
      rw [out2_A_9_eq, blk_0 V c _ h0 t, blk_1 V c _ h1 t, k2_pay7_eq]
    · rw [outsAt2_B V c t hc]
      dsimp only
      rw [out2_B_9_eq, blk_0 V c _ h0 t, blk_1 V c _ h1 t, k2_pay7_eq]
  rw [key]
  funext y
  rw [View.read_apply]
  refine Eq.trans ?_ (congrArg (R2 _) (?_ : ix2 (row t (y 0)) (y 1) = _))
  · rfl
  funext a; apply Fin.ext
  match a with
  | ⟨0, _⟩ => show t.val * 512 + (y 0).val = win2_9.index t 0 * 512 + 1 * (y 0).val; rw [(ix_9 t).1]; omega
  | ⟨1, _⟩ => show (y 1).val = win2_9.index t 1 * 1024 + 1 * (y 1).val; rw [(ix_9 t).2]; omega

theorem arr_9 (h0 : (V c main_arg0 : (⟨2, ![4096, 1024]⟩ : Shape).Idx → EReal) = R2 x) (h1 : (V c main_arg1 : (⟨2, ![1, 1024]⟩ : Shape).Idx → EReal) = R2 g) (h2 : (V c main_arg2 : (⟨2, ![4096, 1024]⟩ : Shape).Idx → EReal) = R2 dy) (h3 : (V c main_v3_0 : (⟨2, ![4096, 2816]⟩ : Shape).Idx → EReal) = R2 dg) (h4 : (V c main_v3_1 : (⟨2, ![4096, 2816]⟩ : Shape).Idx → EReal) = R2 du) (h5 : (V c main_v0 : (⟨2, ![1024, 5632]⟩ : Shape).Idx → EReal) = R2 w) (h6 : (V c main_v0 : (⟨2, ![1024, 5632]⟩ : Shape).Idx → EReal) = R2 w) :
    ((dat2 (F := Ideal) V c).arrAt 9 cfg2.N : (⟨2, ![4096, 1024]⟩ : Shape).Idx → EReal) = R2 (hn x g) :=
  Dat.arrAt_eq_of_cover _ 9 _ (fun t _ => fl_9 V c x g dy dg du w h0 h1 h2 h3 h4 h5 h6 t) fun i => by
  have hN : cfg2.N = 8 := N_2
  have h0 : (i 0 : ℕ) < 4096 := (i 0).isLt
  have h1 : (i 1 : ℕ) < 1024 := (i 1).isLt
  have ht : (i 0 : ℕ) / 512 < cfg2.N := by omega
  refine ⟨⟨(i 0 : ℕ) / 512, ht⟩, flush2_9 _, ?_⟩
  show i ∈ ((View.whole main_v4_2).slice (win2_9.rect ⟨(i 0 : ℕ) / 512, ht⟩)).set
  rw [View.set_slice_whole, Rect.mem_set_unit]
  intro a
  match a with
  | ⟨0, _⟩ =>
    show win2_9.index _ 0 * 512 ≤ (i 0 : ℕ) ∧ (i 0 : ℕ) < win2_9.index _ 0 * 512 + win2_9.xsize (grid2.coords _) 0
    rw [(ix_9 _).1, (xs_9 _).1]; dsimp only; omega
  | ⟨1, _⟩ =>
    show win2_9.index _ 1 * 1024 ≤ (i 1 : ℕ) ∧ (i 1 : ℕ) < win2_9.index _ 1 * 1024 + win2_9.xsize (grid2.coords _) 1
    rw [(ix_9 _).2, (xs_9 _).2]; dsimp only; omega

theorem fl_10 (h0 : (V c main_arg0 : (⟨2, ![4096, 1024]⟩ : Shape).Idx → EReal) = R2 x) (h1 : (V c main_arg1 : (⟨2, ![1, 1024]⟩ : Shape).Idx → EReal) = R2 g) (h2 : (V c main_arg2 : (⟨2, ![4096, 1024]⟩ : Shape).Idx → EReal) = R2 dy) (h3 : (V c main_v3_0 : (⟨2, ![4096, 2816]⟩ : Shape).Idx → EReal) = R2 dg) (h4 : (V c main_v3_1 : (⟨2, ![4096, 2816]⟩ : Shape).Idx → EReal) = R2 du) (h5 : (V c main_v0 : (⟨2, ![1024, 5632]⟩ : Shape).Idx → EReal) = R2 w) (h6 : (V c main_v0 : (⟨2, ![1024, 5632]⟩ : Shape).Idx → EReal) = R2 w) (t : Fin cfg2.N) :
    (dat2 (F := Ideal) V c).flushed 10 t = ((cfg2.win 10).blk t).view.read (Elt Ideal) (R2 (half dy)) := by
  show (cfg2.win 10).cut (grid2.coords t) ((dat2 V c).after 10 t) = _
  have key : ((dat2 (F := Ideal) V c).after 10 t : (⟨2, ![512, 1024]⟩ : Shape).Idx → EReal) = R2 (half (fun p => dy (row t p))) := by
    rw [after2_10]
    by_cases hc : t.val % 8 = 0
    · rw [outsAt2_A V c t hc]
      dsimp only
      rw [out2_A_10_eq, blk_2 V c _ h2 t, k2_pay8_eq]
    · rw [outsAt2_B V c t hc]
      dsimp only
      rw [out2_B_10_eq, blk_2 V c _ h2 t, k2_pay8_eq]
  rw [key]
  funext y
  rw [View.read_apply]
  refine Eq.trans ?_ (congrArg (R2 _) (?_ : ix2 (row t (y 0)) (y 1) = _))
  · rfl
  funext a; apply Fin.ext
  match a with
  | ⟨0, _⟩ => show t.val * 512 + (y 0).val = win2_10.index t 0 * 512 + 1 * (y 0).val; rw [(ix_10 t).1]; omega
  | ⟨1, _⟩ => show (y 1).val = win2_10.index t 1 * 1024 + 1 * (y 1).val; rw [(ix_10 t).2]; omega

theorem arr_10 (h0 : (V c main_arg0 : (⟨2, ![4096, 1024]⟩ : Shape).Idx → EReal) = R2 x) (h1 : (V c main_arg1 : (⟨2, ![1, 1024]⟩ : Shape).Idx → EReal) = R2 g) (h2 : (V c main_arg2 : (⟨2, ![4096, 1024]⟩ : Shape).Idx → EReal) = R2 dy) (h3 : (V c main_v3_0 : (⟨2, ![4096, 2816]⟩ : Shape).Idx → EReal) = R2 dg) (h4 : (V c main_v3_1 : (⟨2, ![4096, 2816]⟩ : Shape).Idx → EReal) = R2 du) (h5 : (V c main_v0 : (⟨2, ![1024, 5632]⟩ : Shape).Idx → EReal) = R2 w) (h6 : (V c main_v0 : (⟨2, ![1024, 5632]⟩ : Shape).Idx → EReal) = R2 w) :
    ((dat2 (F := Ideal) V c).arrAt 10 cfg2.N : (⟨2, ![4096, 1024]⟩ : Shape).Idx → EReal) = R2 (half dy) :=
  Dat.arrAt_eq_of_cover _ 10 _ (fun t _ => fl_10 V c x g dy dg du w h0 h1 h2 h3 h4 h5 h6 t) fun i => by
  have hN : cfg2.N = 8 := N_2
  have h0 : (i 0 : ℕ) < 4096 := (i 0).isLt
  have h1 : (i 1 : ℕ) < 1024 := (i 1).isLt
  have ht : (i 0 : ℕ) / 512 < cfg2.N := by omega
  refine ⟨⟨(i 0 : ℕ) / 512, ht⟩, flush2_10 _, ?_⟩
  show i ∈ ((View.whole main_v4_3).slice (win2_10.rect ⟨(i 0 : ℕ) / 512, ht⟩)).set
  rw [View.set_slice_whole, Rect.mem_set_unit]
  intro a
  match a with
  | ⟨0, _⟩ =>
    show win2_10.index _ 0 * 512 ≤ (i 0 : ℕ) ∧ (i 0 : ℕ) < win2_10.index _ 0 * 512 + win2_10.xsize (grid2.coords _) 0
    rw [(ix_10 _).1, (xs_10 _).1]; dsimp only; omega
  | ⟨1, _⟩ =>
    show win2_10.index _ 1 * 1024 ≤ (i 1 : ℕ) ∧ (i 1 : ℕ) < win2_10.index _ 1 * 1024 + win2_10.xsize (grid2.coords _) 1
    rw [(ix_10 _).2, (xs_10 _).2]; dsimp only; omega

theorem sums_8 (h0 : (V c main_arg0 : (⟨2, ![4096, 1024]⟩ : Shape).Idx → EReal) = R2 x) (h1 : (V c main_arg1 : (⟨2, ![1, 1024]⟩ : Shape).Idx → EReal) = R2 g) (h2 : (V c main_arg2 : (⟨2, ![4096, 1024]⟩ : Shape).Idx → EReal) = R2 dy) (h3 : (V c main_v3_0 : (⟨2, ![4096, 2816]⟩ : Shape).Idx → EReal) = R2 dg) (h4 : (V c main_v3_1 : (⟨2, ![4096, 2816]⟩ : Shape).Idx → EReal) = R2 du) (h5 : (V c main_v0 : (⟨2, ![1024, 5632]⟩ : Shape).Idx → EReal) = R2 w) (h6 : (V c main_v0 : (⟨2, ![1024, 5632]⟩ : Shape).Idx → EReal) = R2 w) (n : ℕ) (hn : n < cfg2.N) :
    ((outsAt2 (F := Ideal) V c n hn).2.1 : (⟨2, ![1, 1024]⟩ : Shape).Idx → EReal)
      = R2 fun _ j => ∑ r ∈ Finset.range ((n + 1) * 512), cont (fun s => dhn dg du (lcol w) (rcol w) s j * xhat x s j) r := by
  have hN : cfg2.N = 8 := N_2
  have step : ∀ t : Fin cfg2.N, ∀ j, ∑ r ∈ Finset.range ((t.val + 1) * 512), cont (fun s => dhn dg du (lcol w) (rcol w) s j * xhat x s j) r
      = ∑ r ∈ Finset.range (t.val * 512), cont (fun s => dhn dg du (lcol w) (rcol w) s j * xhat x s j) r
        + dgs (dhn (fun p => dg (row t p)) (fun p => du (row t p)) (lcol w) (rcol w)) (fun p => x (row t p)) 0 j := fun t j => sum_cont_step _ t.val (row t) fun _ => rfl
  induction n with
  | zero =>
    have e := outsAt2_A V c ⟨0, hn⟩ rfl
    rw [show outsAt2 V c 0 hn = _ from e]
    dsimp only
    rw [out2_A_8_eq, blk_0 V c _ h0 ⟨0, hn⟩, blk_3 V c _ h3 ⟨0, hn⟩, blk_4 V c _ h4 ⟨0, hn⟩, blk_5 V c _ h5 ⟨0, hn⟩, blk_6 V c _ h6 ⟨0, hn⟩, k2_pay6_eq, k2_pay9_eq, k2_pay10_eq, k2_pay4_eq, k2_pay3_eq]
    refine congrArg R2 (funext fun i => funext fun j => ?_)
    rw [step ⟨0, hn⟩ j]
    rw [Nat.zero_mul, Finset.sum_range_zero]
    rfl
  | succ n ih =>
    have e := outsAt2_B V c ⟨n + 1, hn⟩ (by show ¬ (n + 1) % 8 = 0; omega)
    rw [show outsAt2 V c (n + 1) hn = _ from e]
    dsimp only
    rw [out2_B_8_eq, show outsAt2 V c (n + 1 - 1) _ = outsAt2 V c n (by omega) from rfl, ih (by omega), blk_0 V c _ h0 ⟨n + 1, hn⟩, blk_3 V c _ h3 ⟨n + 1, hn⟩, blk_4 V c _ h4 ⟨n + 1, hn⟩, blk_5 V c _ h5 ⟨n + 1, hn⟩, blk_6 V c _ h6 ⟨n + 1, hn⟩, k2_pay6_eq, k2_pay9_eq, k2_pay10_eq, k2_pay3_eq]
    refine congrArg R2 (funext fun i => funext fun j => ?_)
    exact (step ⟨n + 1, hn⟩ j).symm

theorem arr_8 (h0 : (V c main_arg0 : (⟨2, ![4096, 1024]⟩ : Shape).Idx → EReal) = R2 x) (h1 : (V c main_arg1 : (⟨2, ![1, 1024]⟩ : Shape).Idx → EReal) = R2 g) (h2 : (V c main_arg2 : (⟨2, ![4096, 1024]⟩ : Shape).Idx → EReal) = R2 dy) (h3 : (V c main_v3_0 : (⟨2, ![4096, 2816]⟩ : Shape).Idx → EReal) = R2 dg) (h4 : (V c main_v3_1 : (⟨2, ![4096, 2816]⟩ : Shape).Idx → EReal) = R2 du) (h5 : (V c main_v0 : (⟨2, ![1024, 5632]⟩ : Shape).Idx → EReal) = R2 w) (h6 : (V c main_v0 : (⟨2, ![1024, 5632]⟩ : Shape).Idx → EReal) = R2 w) :
    ((dat2 (F := Ideal) V c).arrAt 8 cfg2.N : (⟨2, ![1, 1024]⟩ : Shape).Idx → EReal) = R2 (dgs (dhn dg du (lcol w) (rcol w)) x) :=
  Dat.arrAt_eq_of_cover _ 8 _ (fun t ht => by
  have hN : cfg2.N = 8 := N_2
  have htt := t.isLt
  have h8 : t.val < 8 := lt_of_lt_of_eq t.isLt N_2
  have h7 : t.val = 7 := by have := (flush2_8 t).mp ht; omega
  show (cfg2.win 8).cut (grid2.coords t) ((dat2 V c).after 8 t) = _
  rw [after2_8, sums_8 V c x g dy dg du w h0 h1 h2 h3 h4 h5 h6 t.val t.isLt]
  funext y
  rw [View.read_apply]
  refine Eq.trans ?_ (congrArg (R2 _) (?_ : ix2 (y 0) (y 1) = _))
  · have e : ∀ j, ∑ r ∈ Finset.range ((t.val + 1) * 512), cont (fun s => dhn dg du (lcol w) (rcol w) s j * xhat x s j) r
        = dgs (dhn dg du (lcol w) (rcol w)) x 0 j := fun j => by
      rw [h7]; exact sum_cont (n := 4096) _
    exact congrArg (fun r : ℝ => (r : EReal)) (e (y 1))
  funext a; apply Fin.ext
  match a with
  | ⟨0, _⟩ => show (y 0).val = win2_8.index t 0 * 1 + 1 * (y 0).val; rw [(ix_8 t).1]; omega
  | ⟨1, _⟩ => show (y 1).val = win2_8.index t 1 * 1024 + 1 * (y 1).val; rw [(ix_8 t).2]; omega) fun i => by
  have hN : cfg2.N = 8 := N_2
  have h0 : (i 0 : ℕ) < 1 := (i 0).isLt
  have h1 : (i 1 : ℕ) < 1024 := (i 1).isLt
  have ht : 7 < cfg2.N := by omega
  refine ⟨⟨7, ht⟩, (flush2_8 _).mpr rfl, ?_⟩
  show i ∈ ((View.whole main_v4_1).slice (win2_8.rect ⟨7, ht⟩)).set
  rw [View.set_slice_whole, Rect.mem_set_unit]
  intro a
  match a with
  | ⟨0, _⟩ =>
    show win2_8.index _ 0 * 1 ≤ (i 0 : ℕ) ∧ (i 0 : ℕ) < win2_8.index _ 0 * 1 + win2_8.xsize (grid2.coords _) 0
    rw [(ix_8 _).1, (xs_8 _).1]; omega
  | ⟨1, _⟩ =>
    show win2_8.index _ 1 * 1024 ≤ (i 1 : ℕ) ∧ (i 1 : ℕ) < win2_8.index _ 1 * 1024 + win2_8.xsize (grid2.coords _) 1
    rw [(ix_8 _).2, (xs_8 _).2]; omega

end Cert.Real.Reg2

end
-- ==== Proof.Hand.Region3.lean ====
/- The gradient of the hidden projection: twenty-two tiles of 256 columns, the first eleven from the gate's cotangent, the
   others from the up projection's. -/
module

public import proofs.«01_k».proof.Proof.Hand.Pay
public import proofs.«01_k».proof.Proof.Hand.Cases
public import proofs.«01_k».proof.Proof.Gen.KernelIdeal.Frame

@[expose] public section

set_option maxRecDepth 16384
set_option backward.isDefEq.respectTransparency false

noncomputable section

namespace Cert.Real.Reg3

open Idealize.ShloMosaic hiding ix0 ix1 ix2 eq_ix1 eq_ix2
open Idealize.ShloMosaic.ValueIdx
open Idealize.ShloMosaic.Pipeline
open Cert.KernelIdeal Cert.KernelIdeal.Gen

/-- The column of the gate's cotangent that column `p` of tile `t` is. -/
def colG (t : Fin cfg3.N) (p : Fin 256) : Fin 2816 := ⟨min t.val 10 * 256 + p.val, by
  have h : cfg3.N = 22 := N_3
  have := t.isLt; have := p.isLt; omega⟩

/-- The column of the up projection's cotangent that column `p` of tile `t` is. -/
def colU (t : Fin cfg3.N) (p : Fin 256) : Fin 2816 := ⟨(t.val - 11) * 256 + p.val, by
  have h : cfg3.N = 22 := N_3
  have := t.isLt; have := p.isLt; omega⟩

/-- The column of the gradient that column `p` of tile `t` is. -/
def col (t : Fin cfg3.N) (p : Fin 256) : Fin 5632 := ⟨t.val * 256 + p.val, by
  have h : cfg3.N = 22 := N_3
  have := t.isLt; have := p.isLt; omega⟩

theorem ix_0 : ∀ t : Fin cfg3.N, win3_0.index t 0 = 0 ∧ win3_0.index t 1 = 0 :=
  (by decide +kernel : ∀ t : Fin grid3.N, win3_0.index t 0 = 0 ∧ win3_0.index t 1 = 0)

theorem ix_1 : ∀ t : Fin cfg3.N, win3_1.index t 0 = 0 ∧ win3_1.index t 1 = min t.val 10 :=
  (by decide +kernel : ∀ t : Fin grid3.N, win3_1.index t 0 = 0 ∧ win3_1.index t 1 = min t.val 10)

theorem ix_2 : ∀ t : Fin cfg3.N, win3_2.index t 0 = 0 ∧ win3_2.index t 1 = t.val - 11 :=
  (by decide +kernel : ∀ t : Fin grid3.N, win3_2.index t 0 = 0 ∧ win3_2.index t 1 = t.val - 11)

theorem ix_3 : ∀ t : Fin cfg3.N, win3_3.index t 0 = 0 ∧ win3_3.index t 1 = t.val :=
  (by decide +kernel : ∀ t : Fin grid3.N, win3_3.index t 0 = 0 ∧ win3_3.index t 1 = t.val)

theorem xs_3 : ∀ t : Fin cfg3.N, win3_3.xsize (grid3.coords t) 0 = 1024 ∧ win3_3.xsize (grid3.coords t) 1 = 256 :=
  (by decide +kernel : ∀ t : Fin grid3.N, win3_3.xsize (grid3.coords t) 0 = 1024 ∧ win3_3.xsize (grid3.coords t) 1 = 256)

variable (V : (c : Dev nD) → (b : Ref sig .tc) → Buf (Elt Ideal) (c.tc.loc b)) (c : Dev nD)
variable (h : Fin 4096 → Fin 1024 → ℝ) (dg du : Fin 4096 → Fin 2816 → ℝ)

theorem blk_0 (hV : (V c main_v4_2 : (⟨2, ![4096, 1024]⟩ : Shape).Idx → EReal) = R2 h) (t : Fin cfg3.N) :
    (iblk3 (F := Ideal) V c 0 t : (⟨2, ![4096, 1024]⟩ : Shape).Idx → EReal) = R2 (h) := by
  unfold iblk3
  funext y
  rw [View.read_apply]
  show V c main_v4_2 _ = _
  rw [hV]
  refine (congrArg (R2 h) ?_).trans (R2_ix2 h (y 0) (y 1))
  funext a; apply Fin.ext
  match a with
  | ⟨0, _⟩ => show win3_0.index t 0 * 4096 + 1 * (y 0).val = (y 0).val; rw [(ix_0 t).1]; omega
  | ⟨1, _⟩ => show win3_0.index t 1 * 1024 + 1 * (y 1).val = (y 1).val; rw [(ix_0 t).2]; omega

theorem blk_1 (hV : (V c main_v3_0 : (⟨2, ![4096, 2816]⟩ : Shape).Idx → EReal) = R2 dg) (t : Fin cfg3.N) :
    (iblk3 (F := Ideal) V c 1 t : (⟨2, ![4096, 256]⟩ : Shape).Idx → EReal) = R2 (fun s q => dg s (colG t q)) := by
  unfold iblk3
  funext y
  rw [View.read_apply]
  show V c main_v3_0 _ = _
  rw [hV]
  refine (congrArg (R2 dg) ?_).trans (R2_ix2 dg (y 0) (colG t (y 1)))
  funext a; apply Fin.ext
  match a with
  | ⟨0, _⟩ => show win3_1.index t 0 * 4096 + 1 * (y 0).val = (y 0).val; rw [(ix_1 t).1]; omega
  | ⟨1, _⟩ => show win3_1.index t 1 * 256 + 1 * (y 1).val = min t.val 10 * 256 + (y 1).val; rw [(ix_1 t).2]; omega

theorem blk_2 (hV : (V c main_v3_1 : (⟨2, ![4096, 2816]⟩ : Shape).Idx → EReal) = R2 du) (t : Fin cfg3.N) :
    (iblk3 (F := Ideal) V c 2 t : (⟨2, ![4096, 256]⟩ : Shape).Idx → EReal) = R2 (fun s q => du s (colU t q)) := by
  unfold iblk3
  funext y
  rw [View.read_apply]
  show V c main_v3_1 _ = _
  rw [hV]
  refine (congrArg (R2 du) ?_).trans (R2_ix2 du (y 0) (colU t (y 1)))
  funext a; apply Fin.ext
  match a with
  | ⟨0, _⟩ => show win3_2.index t 0 * 4096 + 1 * (y 0).val = (y 0).val; rw [(ix_2 t).1]; omega
  | ⟨1, _⟩ => show win3_2.index t 1 * 256 + 1 * (y 1).val = (t.val - 11) * 256 + (y 1).val; rw [(ix_2 t).2]; omega

theorem fl_3 (h0 : (V c main_v4_2 : (⟨2, ![4096, 1024]⟩ : Shape).Idx → EReal) = R2 h) (h1 : (V c main_v3_0 : (⟨2, ![4096, 2816]⟩ : Shape).Idx → EReal) = R2 dg) (h2 : (V c main_v3_1 : (⟨2, ![4096, 2816]⟩ : Shape).Idx → EReal) = R2 du) (t : Fin cfg3.N) :
    (dat3 (F := Ideal) V c).flushed 3 t = ((cfg3.win 3).blk t).view.read (Elt Ideal) (R2 (beside (tmm h dg) (tmm h du))) := by
  show (cfg3.win 3).cut (grid3.coords t) ((dat3 V c).after 3 t) = _
  have key : ((dat3 (F := Ideal) V c).after 3 t : (⟨2, ![1024, 256]⟩ : Shape).Idx → EReal)
      = R2 fun i q => beside (tmm h dg) (tmm h du) i (col t q) := by
    rw [after3_3]
    have hN : cfg3.N = 22 := N_3
    have htt := t.isLt
    by_cases hc : t.val < 11
    · rw [outsAt3_A V c t hc (by omega), out3_A_3_eq, blk_0 V c _ h0 t, blk_1 V c _ h1 t, k3_pay1_eq]
      refine congrArg R2 (funext fun i => funext fun q => ?_)
      have hq : (col t q).val < 2816 := by show t.val * 256 + q.val < 2816; have := q.isLt; omega
      refine Eq.trans ?_ (dif_pos hq).symm
      have e : colG t q = ⟨(col t q).val, hq⟩ := Fin.ext (by show min t.val 10 * 256 + q.val = t.val * 256 + q.val; omega)
      rw [← e]; rfl
    · rw [outsAt3_B V c t hc (by omega), out3_B_3_eq, blk_0 V c _ h0 t, blk_2 V c _ h2 t, k3_pay2_eq]
      refine congrArg R2 (funext fun i => funext fun q => ?_)
      have hq : ¬ (col t q).val < 2816 := by show ¬ t.val * 256 + q.val < 2816; omega
      refine Eq.trans ?_ (dif_neg hq).symm
      have e : colU t q = ⟨(col t q).val - 2816, by have := (col t q).isLt; omega⟩ := Fin.ext (by show (t.val - 11) * 256 + q.val = t.val * 256 + q.val - 2816; omega)
      rw [← e]; rfl
  rw [key]
  funext y
  rw [View.read_apply]
  refine Eq.trans ?_ (congrArg (R2 _) (?_ : ix2 (y 0) (col t (y 1)) = _))
  · rfl
  funext a; apply Fin.ext
  match a with
  | ⟨0, _⟩ => show (y 0).val = win3_3.index t 0 * 1024 + 1 * (y 0).val; rw [(ix_3 t).1]; omega
  | ⟨1, _⟩ => show t.val * 256 + (y 1).val = win3_3.index t 1 * 256 + 1 * (y 1).val; rw [(ix_3 t).2]; omega

theorem arr_3 (h0 : (V c main_v4_2 : (⟨2, ![4096, 1024]⟩ : Shape).Idx → EReal) = R2 h) (h1 : (V c main_v3_0 : (⟨2, ![4096, 2816]⟩ : Shape).Idx → EReal) = R2 dg) (h2 : (V c main_v3_1 : (⟨2, ![4096, 2816]⟩ : Shape).Idx → EReal) = R2 du) :
    ((dat3 (F := Ideal) V c).arrAt 3 cfg3.N : (⟨2, ![1024, 5632]⟩ : Shape).Idx → EReal) = R2 (beside (tmm h dg) (tmm h du)) :=
  Dat.arrAt_eq_of_cover _ 3 _ (fun t _ => fl_3 V c h dg du h0 h1 h2 t) fun i => by
  have hN : cfg3.N = 22 := N_3
  have h0 : (i 0 : ℕ) < 1024 := (i 0).isLt
  have h1 : (i 1 : ℕ) < 5632 := (i 1).isLt
  have ht : (i 1 : ℕ) / 256 < cfg3.N := by omega
  refine ⟨⟨(i 1 : ℕ) / 256, ht⟩, flush3_3 _, ?_⟩
  show i ∈ ((View.whole main_v5).slice (win3_3.rect ⟨(i 1 : ℕ) / 256, ht⟩)).set
  rw [View.set_slice_whole, Rect.mem_set_unit]
  intro a
  match a with
  | ⟨0, _⟩ =>
    show win3_3.index _ 0 * 1024 ≤ (i 0 : ℕ) ∧ (i 0 : ℕ) < win3_3.index _ 0 * 1024 + win3_3.xsize (grid3.coords _) 0
    rw [(ix_3 _).1, (xs_3 _).1]; dsimp only; omega
  | ⟨1, _⟩ =>
    show win3_3.index _ 1 * 256 ≤ (i 1 : ℕ) ∧ (i 1 : ℕ) < win3_3.index _ 1 * 256 + win3_3.xsize (grid3.coords _) 1
    rw [(ix_3 _).2, (xs_3 _).2]; dsimp only; omega

end Cert.Real.Reg3

end
-- ==== Proof.Hand.Region4.lean ====
/- The gradient of the output projection: eleven tiles of 256 rows of the gradient. -/
module

public import proofs.«01_k».proof.Proof.Hand.Pay
public import proofs.«01_k».proof.Proof.Hand.Cols
public import proofs.«01_k».proof.Proof.Gen.KernelIdeal.Frame

@[expose] public section

set_option maxRecDepth 16384
set_option backward.isDefEq.respectTransparency false

noncomputable section

namespace Cert.Real.Reg4

open Idealize.ShloMosaic hiding ix0 ix1 ix2 eq_ix1 eq_ix2
open Idealize.ShloMosaic.ValueIdx
open Idealize.ShloMosaic.Pipeline
open Cert.KernelIdeal Cert.KernelIdeal.Gen

/-- The column of the activations that column `p` of tile `t` is. -/
def col (t : Fin cfg4.N) (p : Fin 256) : Fin 2816 := ⟨t.val * 256 + p.val, by
  have h : cfg4.N = 11 := N_4
  have := t.isLt; have := p.isLt; omega⟩

theorem ix_0 : ∀ t : Fin cfg4.N, win4_0.index t 0 = 0 ∧ win4_0.index t 1 = t.val :=
  (by decide +kernel : ∀ t : Fin grid4.N, win4_0.index t 0 = 0 ∧ win4_0.index t 1 = t.val)

theorem ix_1 : ∀ t : Fin cfg4.N, win4_1.index t 0 = 0 ∧ win4_1.index t 1 = 0 :=
  (by decide +kernel : ∀ t : Fin grid4.N, win4_1.index t 0 = 0 ∧ win4_1.index t 1 = 0)

theorem ix_2 : ∀ t : Fin cfg4.N, win4_2.index t 0 = t.val ∧ win4_2.index t 1 = 0 :=
  (by decide +kernel : ∀ t : Fin grid4.N, win4_2.index t 0 = t.val ∧ win4_2.index t 1 = 0)

theorem xs_2 : ∀ t : Fin cfg4.N, win4_2.xsize (grid4.coords t) 0 = 256 ∧ win4_2.xsize (grid4.coords t) 1 = 1024 :=
  (by decide +kernel : ∀ t : Fin grid4.N, win4_2.xsize (grid4.coords t) 0 = 256 ∧ win4_2.xsize (grid4.coords t) 1 = 1024)

variable (V : (c : Dev nD) → (b : Ref sig .tc) → Buf (Elt Ideal) (c.tc.loc b)) (c : Dev nD)
variable (a : Fin 4096 → Fin 2816 → ℝ) (d : Fin 4096 → Fin 1024 → ℝ)

theorem blk_0 (hV : (V c main_v3_2 : (⟨2, ![4096, 2816]⟩ : Shape).Idx → EReal) = R2 a) (t : Fin cfg4.N) :
    (iblk4 (F := Ideal) V c 0 t : (⟨2, ![4096, 256]⟩ : Shape).Idx → EReal) = R2 (fun s q => a s (col t q)) := by
  unfold iblk4
  funext y
  rw [View.read_apply]
  show V c main_v3_2 _ = _
  rw [hV]
  refine (congrArg (R2 a) ?_).trans (R2_ix2 a (y 0) (col t (y 1)))
  funext a; apply Fin.ext
  match a with
  | ⟨0, _⟩ => show win4_0.index t 0 * 4096 + 1 * (y 0).val = (y 0).val; rw [(ix_0 t).1]; omega
  | ⟨1, _⟩ => show win4_0.index t 1 * 256 + 1 * (y 1).val = t.val * 256 + (y 1).val; rw [(ix_0 t).2]; omega

theorem blk_1 (hV : (V c main_v4_3 : (⟨2, ![4096, 1024]⟩ : Shape).Idx → EReal) = R2 d) (t : Fin cfg4.N) :
    (iblk4 (F := Ideal) V c 1 t : (⟨2, ![4096, 1024]⟩ : Shape).Idx → EReal) = R2 (d) := by
  unfold iblk4
  funext y
  rw [View.read_apply]
  show V c main_v4_3 _ = _
  rw [hV]
  refine (congrArg (R2 d) ?_).trans (R2_ix2 d (y 0) (y 1))
  funext a; apply Fin.ext
  match a with
  | ⟨0, _⟩ => show win4_1.index t 0 * 4096 + 1 * (y 0).val = (y 0).val; rw [(ix_1 t).1]; omega
  | ⟨1, _⟩ => show win4_1.index t 1 * 1024 + 1 * (y 1).val = (y 1).val; rw [(ix_1 t).2]; omega

theorem fl_2 (h0 : (V c main_v3_2 : (⟨2, ![4096, 2816]⟩ : Shape).Idx → EReal) = R2 a) (h1 : (V c main_v4_3 : (⟨2, ![4096, 1024]⟩ : Shape).Idx → EReal) = R2 d) (t : Fin cfg4.N) :
    (dat4 (F := Ideal) V c).flushed 2 t = ((cfg4.win 2).blk t).view.read (Elt Ideal) (R2 (tmm a d)) := by
  show (cfg4.win 2).cut (grid4.coords t) ((dat4 V c).after 2 t) = _
  rw [after4_2, blk_0 V c _ h0 t, blk_1 V c _ h1 t]
  unfold out4_2
  rw [View.canon_unit_zero hz2]
  simp only [View.ld_unit_zero (S := S4096x256) hz2, View.ld_unit_zero (S := S4096x1024) hz2]
  rw [k4_pay1_eq]
  funext y
  rw [View.read_apply]
  refine Eq.trans ?_ (congrArg (R2 _) (?_ : ix2 (col t (y 0)) (y 1) = _))
  · rfl
  funext a; apply Fin.ext
  match a with
  | ⟨0, _⟩ => show t.val * 256 + (y 0).val = win4_2.index t 0 * 256 + 1 * (y 0).val; rw [(ix_2 t).1]; omega
  | ⟨1, _⟩ => show (y 1).val = win4_2.index t 1 * 1024 + 1 * (y 1).val; rw [(ix_2 t).2]; omega

theorem arr_2 (h0 : (V c main_v3_2 : (⟨2, ![4096, 2816]⟩ : Shape).Idx → EReal) = R2 a) (h1 : (V c main_v4_3 : (⟨2, ![4096, 1024]⟩ : Shape).Idx → EReal) = R2 d) :
    ((dat4 (F := Ideal) V c).arrAt 2 cfg4.N : (⟨2, ![2816, 1024]⟩ : Shape).Idx → EReal) = R2 (tmm a d) :=
  Dat.arrAt_eq_of_cover _ 2 _ (fun t _ => fl_2 V c a d h0 h1 t) fun i => by
  have hN : cfg4.N = 11 := N_4
  have h0 : (i 0 : ℕ) < 2816 := (i 0).isLt
  have h1 : (i 1 : ℕ) < 1024 := (i 1).isLt
  have ht : (i 0 : ℕ) / 256 < cfg4.N := by omega
  refine ⟨⟨(i 0 : ℕ) / 256, ht⟩, flush4_2 _, ?_⟩
  show i ∈ ((View.whole main_v6).slice (win4_2.rect ⟨(i 0 : ℕ) / 256, ht⟩)).set
  rw [View.set_slice_whole, Rect.mem_set_unit]
  intro a
  match a with
  | ⟨0, _⟩ =>
    show win4_2.index _ 0 * 256 ≤ (i 0 : ℕ) ∧ (i 0 : ℕ) < win4_2.index _ 0 * 256 + win4_2.xsize (grid4.coords _) 0
    rw [(ix_2 _).1, (xs_2 _).1]; dsimp only; omega
  | ⟨1, _⟩ =>
    show win4_2.index _ 1 * 1024 ≤ (i 1 : ℕ) ∧ (i 1 : ℕ) < win4_2.index _ 1 * 1024 + win4_2.xsize (grid4.coords _) 1
    rw [(ix_2 _).2, (xs_2 _).2]; dsimp only; omega

end Cert.Real.Reg4

end
-- ==== Proof.Hand.KernelRun.lean ====
/- The kernel's run: the contents of its five results at the end, on real arguments. -/
module

public import proofs.«01_k».proof.Proof.Hand.Region0
public import proofs.«01_k».proof.Proof.Hand.Region1
public import proofs.«01_k».proof.Proof.Hand.Region2
public import proofs.«01_k».proof.Proof.Hand.Region3
public import proofs.«01_k».proof.Proof.Hand.Region4

@[expose] public section

set_option maxRecDepth 16384
set_option backward.isDefEq.respectTransparency false

noncomputable section

namespace Cert.Real

open Idealize.ShloMosaic hiding ix0 ix1 ix2 eq_ix1 eq_ix2
open Idealize.ShloMosaic.ValueIdx
open Idealize.ShloMosaic.Pipeline
open Cert.KernelIdeal Cert.KernelIdeal.Gen

section Launch

open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with each buffer that outlives the calls at the contents the fold through the program gives it. -/
theorem run_all : θ_run defs (onTc (τ := τ) (main (F := F))) ⟨m, fun _ => 0, ρ⟩ (fun r => ∀ c : Dev nD,
      ∀ b ∈ Pipeline.ucRefs τ sig, r.2.mem ((c.tc : Thread nD τ).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c b hb => h c b hb)

end Launch

variable (m : (ℓ : Loc nD τ sig) → Buf (Elt Ideal) ℓ) (ρ : Dev nD → PrngReg) (c : Dev nD)
variable (x : Fin 4096 → Fin 1024 → ℝ) (g : Fin 1 → Fin 1024 → ℝ) (dy : Fin 4096 → Fin 1024 → ℝ) (w : Fin 1024 → Fin 5632 → ℝ)
  (wo : Fin 2816 → Fin 1024 → ℝ)

/-- The gate, the up projection, the activation and the two cotangents, of the arguments. -/
def zg : Fin 4096 → Fin 2816 → ℝ := mm (hn x g) (lcol w)
def zu : Fin 4096 → Fin 2816 → ℝ := mm (hn x g) (rcol w)
def za : Fin 4096 → Fin 2816 → ℝ := act (zg x g w) (zu x g w)
def zdg : Fin 4096 → Fin 2816 → ℝ := dgate (dact dy wo) (zg x g w) (zu x g w)
def zdu : Fin 4096 → Fin 2816 → ℝ := dup (dact dy wo) (zg x g w)
def zdh : Fin 4096 → Fin 1024 → ℝ := dhn (zdg x g dy w wo) (zdu x g dy w wo) (lcol w) (rcol w)

/-- The arguments are real. -/
structure Args : Prop where
  a0 : (m ((c.tc : Thread nD τ).loc main_arg0) : (⟨2, ![4096, 1024]⟩ : Shape).Idx → EReal) = R2 x
  a1 : (m ((c.tc : Thread nD τ).loc main_arg1) : (⟨2, ![1, 1024]⟩ : Shape).Idx → EReal) = R2 g
  a2 : (m ((c.tc : Thread nD τ).loc main_arg2) : (⟨2, ![4096, 1024]⟩ : Shape).Idx → EReal) = R2 dy
  a3 : (m ((c.tc : Thread nD τ).loc main_arg3) : (⟨2, ![1024, 5632]⟩ : Shape).Idx → EReal) = R2 w
  a4 : (m ((c.tc : Thread nD τ).loc main_arg4) : (⟨2, ![2816, 1024]⟩ : Shape).Idx → EReal) = R2 wo

variable {m c x g dy w wo}

theorem b1_a0 (h : Args m c x g dy w wo) :
    (V1 m ρ c main_arg0 : (⟨2, ![4096, 1024]⟩ : Shape).Idx → EReal) = R2 (x) :=
  (W1_args m ρ c main_arg0 (by decide)).trans h.a0

theorem b1_a1 (h : Args m c x g dy w wo) :
    (V1 m ρ c main_arg1 : (⟨2, ![1, 1024]⟩ : Shape).Idx → EReal) = R2 (g) :=
  (W1_args m ρ c main_arg1 (by decide)).trans h.a1

theorem b1_a2 (h : Args m c x g dy w wo) :
    (V1 m ρ c main_arg2 : (⟨2, ![4096, 1024]⟩ : Shape).Idx → EReal) = R2 (dy) :=
  (W1_args m ρ c main_arg2 (by decide)).trans h.a2

theorem b1_v0 (h : Args m c x g dy w wo) :
    (V1 m ρ c main_v0 : (⟨2, ![1024, 5632]⟩ : Shape).Idx → EReal) = R2 (w) :=
  by
  show truncf (F := Ideal) (φ := .f32) .bf16 (m ((c.tc : Thread nD τ).loc main_arg3)) bitsLt_bf16_f32 = _
  rw [h.a3, r_truncf]

theorem b1_v1 (h : Args m c x g dy w wo) :
    (V1 m ρ c main_v1 : (⟨2, ![2816, 1024]⟩ : Shape).Idx → EReal) = R2 (wo) :=
  by
  show truncf (F := Ideal) (φ := .f32) .bf16 (m ((c.tc : Thread nD τ).loc main_arg4)) bitsLt_bf16_f32 = _
  rw [h.a4, r_truncf]

theorem b2_o (h : Args m c x g dy w wo) :
    (V2 m ρ c main_v2_0 : (⟨2, ![4096, 1024]⟩ : Shape).Idx → EReal) = R2 (xout x (za x g w) wo) :=
  (W2_arr m ρ c 5).trans (Reg0.arr_5 (V1 m ρ) c x g w wo (b1_a0 ρ h) (b1_a1 ρ h) (b1_v0 ρ h) (b1_v0 ρ h) (b1_v1 ρ h))

theorem b2_z (h : Args m c x g dy w wo) :
    (V2 m ρ c main_v2_1 : (⟨2, ![4096, 2816]⟩ : Shape).Idx → EReal) = R2 (zg x g w) :=
  (W2_arr m ρ c 6).trans (Reg0.arr_6 (V1 m ρ) c x g w wo (b1_a0 ρ h) (b1_a1 ρ h) (b1_v0 ρ h) (b1_v0 ρ h) (b1_v1 ρ h))

theorem b2_u (h : Args m c x g dy w wo) :
    (V2 m ρ c main_v2_2 : (⟨2, ![4096, 2816]⟩ : Shape).Idx → EReal) = R2 (zu x g w) :=
  (W2_arr m ρ c 7).trans (Reg0.arr_7 (V1 m ρ) c x g w wo (b1_a0 ρ h) (b1_a1 ρ h) (b1_v0 ρ h) (b1_v0 ρ h) (b1_v1 ρ h))

theorem b2_a0 (h : Args m c x g dy w wo) :
    (V2 m ρ c main_arg0 : (⟨2, ![4096, 1024]⟩ : Shape).Idx → EReal) = R2 (x) :=
  (W2_of m ρ c main_arg0 (by decide)).trans (b1_a0 ρ h)

theorem b2_a1 (h : Args m c x g dy w wo) :
    (V2 m ρ c main_arg1 : (⟨2, ![1, 1024]⟩ : Shape).Idx → EReal) = R2 (g) :=
  (W2_of m ρ c main_arg1 (by decide)).trans (b1_a1 ρ h)

theorem b2_a2 (h : Args m c x g dy w wo) :
    (V2 m ρ c main_arg2 : (⟨2, ![4096, 1024]⟩ : Shape).Idx → EReal) = R2 (dy) :=
  (W2_of m ρ c main_arg2 (by decide)).trans (b1_a2 ρ h)

theorem b2_v0 (h : Args m c x g dy w wo) :
    (V2 m ρ c main_v0 : (⟨2, ![1024, 5632]⟩ : Shape).Idx → EReal) = R2 (w) :=
  (W2_of m ρ c main_v0 (by decide)).trans (b1_v0 ρ h)

theorem b2_v1 (h : Args m c x g dy w wo) :
    (V2 m ρ c main_v1 : (⟨2, ![2816, 1024]⟩ : Shape).Idx → EReal) = R2 (wo) :=
  (W2_of m ρ c main_v1 (by decide)).trans (b1_v1 ρ h)

theorem b3_dg (h : Args m c x g dy w wo) :
    (V3 m ρ c main_v3_0 : (⟨2, ![4096, 2816]⟩ : Shape).Idx → EReal) = R2 (zdg x g dy w wo) :=
  (W3_arr m ρ c 4).trans (Reg1.arr_4 (V2 m ρ) c dy (zg x g w) (zu x g w) wo (b2_a2 ρ h) (b2_z ρ h) (b2_u ρ h) (b2_v1 ρ h))

theorem b3_du (h : Args m c x g dy w wo) :
    (V3 m ρ c main_v3_1 : (⟨2, ![4096, 2816]⟩ : Shape).Idx → EReal) = R2 (zdu x g dy w wo) :=
  (W3_arr m ρ c 5).trans (Reg1.arr_5 (V2 m ρ) c dy (zg x g w) (zu x g w) wo (b2_a2 ρ h) (b2_z ρ h) (b2_u ρ h) (b2_v1 ρ h))

theorem b3_act (h : Args m c x g dy w wo) :
    (V3 m ρ c main_v3_2 : (⟨2, ![4096, 2816]⟩ : Shape).Idx → EReal) = R2 (za x g w) :=
  (W3_arr m ρ c 6).trans (Reg1.arr_6 (V2 m ρ) c dy (zg x g w) (zu x g w) wo (b2_a2 ρ h) (b2_z ρ h) (b2_u ρ h) (b2_v1 ρ h))

theorem b3_a0 (h : Args m c x g dy w wo) :
    (V3 m ρ c main_arg0 : (⟨2, ![4096, 1024]⟩ : Shape).Idx → EReal) = R2 (x) :=
  (W3_of m ρ c main_arg0 (by decide)).trans (b2_a0 ρ h)

theorem b3_a1 (h : Args m c x g dy w wo) :
    (V3 m ρ c main_arg1 : (⟨2, ![1, 1024]⟩ : Shape).Idx → EReal) = R2 (g) :=
  (W3_of m ρ c main_arg1 (by decide)).trans (b2_a1 ρ h)

theorem b3_a2 (h : Args m c x g dy w wo) :
    (V3 m ρ c main_arg2 : (⟨2, ![4096, 1024]⟩ : Shape).Idx → EReal) = R2 (dy) :=
  (W3_of m ρ c main_arg2 (by decide)).trans (b2_a2 ρ h)

theorem b3_v0 (h : Args m c x g dy w wo) :
    (V3 m ρ c main_v0 : (⟨2, ![1024, 5632]⟩ : Shape).Idx → EReal) = R2 (w) :=
  (W3_of m ρ c main_v0 (by decide)).trans (b2_v0 ρ h)

theorem b3_o (h : Args m c x g dy w wo) :
    (V3 m ρ c main_v2_0 : (⟨2, ![4096, 1024]⟩ : Shape).Idx → EReal) = R2 (xout x (za x g w) wo) :=
  (W3_of m ρ c main_v2_0 (by decide)).trans (b2_o ρ h)

theorem b4_dx (h : Args m c x g dy w wo) :
    (V4 m ρ c main_v4_0 : (⟨2, ![4096, 1024]⟩ : Shape).Idx → EReal) = R2 (dxs dy (zdh x g dy w wo) x g) :=
  (W4_arr m ρ c 7).trans (Reg2.arr_7 (V3 m ρ) c x g dy (zdg x g dy w wo) (zdu x g dy w wo) w (b3_a0 ρ h) (b3_a1 ρ h) (b3_a2 ρ h) (b3_dg ρ h) (b3_du ρ h) (b3_v0 ρ h) (b3_v0 ρ h))

theorem b4_dgm (h : Args m c x g dy w wo) :
    (V4 m ρ c main_v4_1 : (⟨2, ![1, 1024]⟩ : Shape).Idx → EReal) = R2 (dgs (zdh x g dy w wo) x) :=
  (W4_arr m ρ c 8).trans (Reg2.arr_8 (V3 m ρ) c x g dy (zdg x g dy w wo) (zdu x g dy w wo) w (b3_a0 ρ h) (b3_a1 ρ h) (b3_a2 ρ h) (b3_dg ρ h) (b3_du ρ h) (b3_v0 ρ h) (b3_v0 ρ h))

theorem b4_h (h : Args m c x g dy w wo) :
    (V4 m ρ c main_v4_2 : (⟨2, ![4096, 1024]⟩ : Shape).Idx → EReal) = R2 (hn x g) :=
  (W4_arr m ρ c 9).trans (Reg2.arr_9 (V3 m ρ) c x g dy (zdg x g dy w wo) (zdu x g dy w wo) w (b3_a0 ρ h) (b3_a1 ρ h) (b3_a2 ρ h) (b3_dg ρ h) (b3_du ρ h) (b3_v0 ρ h) (b3_v0 ρ h))

theorem b4_dyb (h : Args m c x g dy w wo) :
    (V4 m ρ c main_v4_3 : (⟨2, ![4096, 1024]⟩ : Shape).Idx → EReal) = R2 (half dy) :=
  (W4_arr m ρ c 10).trans (Reg2.arr_10 (V3 m ρ) c x g dy (zdg x g dy w wo) (zdu x g dy w wo) w (b3_a0 ρ h) (b3_a1 ρ h) (b3_a2 ρ h) (b3_dg ρ h) (b3_du ρ h) (b3_v0 ρ h) (b3_v0 ρ h))

theorem b4_o (h : Args m c x g dy w wo) :
    (V4 m ρ c main_v2_0 : (⟨2, ![4096, 1024]⟩ : Shape).Idx → EReal) = R2 (xout x (za x g w) wo) :=
  (W4_of m ρ c main_v2_0 (by decide)).trans (b3_o ρ h)

theorem b4_dg (h : Args m c x g dy w wo) :
    (V4 m ρ c main_v3_0 : (⟨2, ![4096, 2816]⟩ : Shape).Idx → EReal) = R2 (zdg x g dy w wo) :=
  (W4_of m ρ c main_v3_0 (by decide)).trans (b3_dg ρ h)

theorem b4_du (h : Args m c x g dy w wo) :
    (V4 m ρ c main_v3_1 : (⟨2, ![4096, 2816]⟩ : Shape).Idx → EReal) = R2 (zdu x g dy w wo) :=
  (W4_of m ρ c main_v3_1 (by decide)).trans (b3_du ρ h)

theorem b4_act (h : Args m c x g dy w wo) :
    (V4 m ρ c main_v3_2 : (⟨2, ![4096, 2816]⟩ : Shape).Idx → EReal) = R2 (za x g w) :=
  (W4_of m ρ c main_v3_2 (by decide)).trans (b3_act ρ h)

theorem b5_din (h : Args m c x g dy w wo) :
    (V5 m ρ c main_v5 : (⟨2, ![1024, 5632]⟩ : Shape).Idx → EReal) = R2 (beside (tmm (hn x g) (zdg x g dy w wo)) (tmm (hn x g) (zdu x g dy w wo))) :=
  (W5_arr m ρ c 3).trans (Reg3.arr_3 (V4 m ρ) c (hn x g) (zdg x g dy w wo) (zdu x g dy w wo) (b4_h ρ h) (b4_dg ρ h) (b4_du ρ h))

theorem b5_o (h : Args m c x g dy w wo) :
    (V5 m ρ c main_v2_0 : (⟨2, ![4096, 1024]⟩ : Shape).Idx → EReal) = R2 (xout x (za x g w) wo) :=
  (W5_of m ρ c main_v2_0 (by decide)).trans (b4_o ρ h)

theorem b5_dx (h : Args m c x g dy w wo) :
    (V5 m ρ c main_v4_0 : (⟨2, ![4096, 1024]⟩ : Shape).Idx → EReal) = R2 (dxs dy (zdh x g dy w wo) x g) :=
  (W5_of m ρ c main_v4_0 (by decide)).trans (b4_dx ρ h)

theorem b5_dgm (h : Args m c x g dy w wo) :
    (V5 m ρ c main_v4_1 : (⟨2, ![1, 1024]⟩ : Shape).Idx → EReal) = R2 (dgs (zdh x g dy w wo) x) :=
  (W5_of m ρ c main_v4_1 (by decide)).trans (b4_dgm ρ h)

theorem b5_act (h : Args m c x g dy w wo) :
    (V5 m ρ c main_v3_2 : (⟨2, ![4096, 2816]⟩ : Shape).Idx → EReal) = R2 (za x g w) :=
  (W5_of m ρ c main_v3_2 (by decide)).trans (b4_act ρ h)

theorem b5_dyb (h : Args m c x g dy w wo) :
    (V5 m ρ c main_v4_3 : (⟨2, ![4096, 1024]⟩ : Shape).Idx → EReal) = R2 (half dy) :=
  (W5_of m ρ c main_v4_3 (by decide)).trans (b4_dyb ρ h)

theorem b6_dout (h : Args m c x g dy w wo) :
    (V6 m ρ c main_v6 : (⟨2, ![2816, 1024]⟩ : Shape).Idx → EReal) = R2 (tmm (za x g w) (half dy)) :=
  (W6_arr m ρ c 2).trans (Reg4.arr_2 (V5 m ρ) c (za x g w) (half dy) (b5_act ρ h) (b5_dyb ρ h))

theorem b6_o (h : Args m c x g dy w wo) :
    (V6 m ρ c main_v2_0 : (⟨2, ![4096, 1024]⟩ : Shape).Idx → EReal) = R2 (xout x (za x g w) wo) :=
  (W6_of m ρ c main_v2_0 (by decide)).trans (b5_o ρ h)

theorem b6_dx (h : Args m c x g dy w wo) :
    (V6 m ρ c main_v4_0 : (⟨2, ![4096, 1024]⟩ : Shape).Idx → EReal) = R2 (dxs dy (zdh x g dy w wo) x g) :=
  (W6_of m ρ c main_v4_0 (by decide)).trans (b5_dx ρ h)

theorem b6_dgm (h : Args m c x g dy w wo) :
    (V6 m ρ c main_v4_1 : (⟨2, ![1, 1024]⟩ : Shape).Idx → EReal) = R2 (dgs (zdh x g dy w wo) x) :=
  (W6_of m ρ c main_v4_1 (by decide)).trans (b5_dgm ρ h)

theorem b6_din (h : Args m c x g dy w wo) :
    (V6 m ρ c main_v5 : (⟨2, ![1024, 5632]⟩ : Shape).Idx → EReal) = R2 (beside (tmm (hn x g) (zdg x g dy w wo)) (tmm (hn x g) (zdu x g dy w wo))) :=
  (W6_of m ρ c main_v5 (by decide)).trans (b5_din ρ h)

end Cert.Real

end
-- ==== Proof.Hand.RefValue.lean ====
/- The reference's five results, on real arguments: its operations one at a time, each the function of Spec.lean. -/
module

public import proofs.«01_k».proof.Proof.Hand.Cols
public import proofs.«01_k».proof.Proof.Hand.Spec
public import proofs.«01_k».proof.Proof.Gen.ReferenceIdeal.Run

@[expose] public section

set_option maxRecDepth 16384
set_option backward.isDefEq.respectTransparency false

noncomputable section

namespace Cert.Real.Ref

open Idealize.ShloMosaic hiding ix0 ix1 ix2 eq_ix1 eq_ix2
open Idealize.ShloMosaic.ValueIdx
open Cert.ReferenceIdeal Cert.ReferenceIdeal.Gen

variable (x dy : Fin 4096 → Fin 1024 → ℝ) (g : Fin 1 → Fin 1024 → ℝ) (w : Fin 1024 → Fin 5632 → ℝ) (wo : Fin 2816 → Fin 1024 → ℝ)

def vms (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
theorem vms_eq : vms (R2 x) = R2 (ms x) := by
  unfold vms
  rw [r_mulf, r_hsum_cols, r_hbcast_vec, splat_host_1024, splat_host_eps, r_hdivf _ _ fun _ _ => by norm_num, r_addf]
  rfl

def vr (x : FVec Ideal S4096x1024 .f32) : FVec Ideal S4096x1 .f32 :=
  Host.rsqrt (vms x)
theorem vr_eq : vr (R2 x) = R2 (rinv x) := by
  unfold vr
  rw [vms_eq, r_hrsqrt _ (ms_pos x)]
  rfl

def vc (x : FVec Ideal S4096x1024 .f32) : FVec Ideal S4096x1 .f32 :=
  mulf (broadcastInDim S4096x1 ![] bcast_S_S4096x1 (constant S_ .f32 0xBF000000#32)) (Host.divf (vr x) (vms x))
theorem vc_eq : vc (R2 x) = R2 fun t i => -(1 / 2) * (rinv x t i / ms x t i) := by
  unfold vc
  rw [vr_eq, vms_eq, r_hdivf _ _ fun t i => (ms_pos x t i).ne', splat_host_neg_half, r_mulf]

def vxh (x : FVec Ideal S4096x1024 .f32) : FVec Ideal S4096x1024 .f32 :=
  mulf x (broadcastInDim S4096x1024 ![0, 1] bcast_S4096x1_S4096x1024_0_1 (vr x))
theorem vxh_eq : vxh (R2 x) = R2 (xhat x) := by
  unfold vxh
  rw [vr_eq, r_hbcast_col, r_mulf]
  rfl

def vhn (x : FVec Ideal S4096x1024 .f32) (g : FVec Ideal S1x1024 .f32) : FVec Ideal S4096x1024 .f32 :=
  mulf (vxh x) (broadcastInDim S4096x1024 ![0, 1] bcast_S1x1024_S4096x1024_0_1 g)
theorem vhn_eq : vhn (R2 x) (R2 g) = R2 (hn x g) := by
  unfold vhn
  rw [vxh_eq, r_hbcast_row, r_mulf]
  rfl

def vp (x : FVec Ideal S4096x1024 .f32) (g : FVec Ideal S1x1024 .f32) (w : FVec Ideal S1024x5632 .f32) : FVec Ideal S4096x5632 .f32 :=
  Host.dotGeneral dot_S4096x1024_S1024x5632_S4096x5632_1_0_0_1_n_n none (vhn x g) w
theorem vp_eq : vp (R2 x) (R2 g) (R2 w) = R2 (mm (hn x g) w) := by
  unfold vp
  rw [vhn_eq, host_dot, r_nn dot_S4096x1024_S1024x5632_S4096x5632_1_0_0_1_n_n rfl]
  rfl

def vz (x : FVec Ideal S4096x1024 .f32) (g : FVec Ideal S1x1024 .f32) (w : FVec Ideal S1024x5632 .f32) : FVec Ideal S4096x2816 .f32 :=
  extractStridedSlice S4096x2816 ![0, 0] (vp x g w) slices_S4096x5632_S4096x2816_0_0
theorem vz_eq : vz (R2 x) (R2 g) (R2 w) = R2 (mm (hn x g) (lcol w)) := by
  unfold vz
  rw [vp_eq, r_slice _ 0 (by norm_num)]
  refine congrArg R2 (funext fun t => funext fun f => ?_)
  refine Finset.sum_congr rfl fun q _ => congrArg (fun r => hn x g t q * w q r) (Fin.ext ?_)
  exact Nat.zero_add _

def vu (x : FVec Ideal S4096x1024 .f32) (g : FVec Ideal S1x1024 .f32) (w : FVec Ideal S1024x5632 .f32) : FVec Ideal S4096x2816 .f32 :=
  extractStridedSlice S4096x2816 ![0, 2816] (vp x g w) slices_S4096x5632_S4096x2816_0_2816
theorem vu_eq : vu (R2 x) (R2 g) (R2 w) = R2 (mm (hn x g) (rcol w)) := by
  unfold vu
  rw [vp_eq, r_slice _ 2816 (by norm_num)]
  rfl

def vsg (x : FVec Ideal S4096x1024 .f32) (g : FVec Ideal S1x1024 .f32) (w : FVec Ideal S1024x5632 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf (vz x g w))))
theorem vsg_eq : vsg (R2 x) (R2 g) (R2 w) = R2 fun t f => sg ((mm (hn x g) (lcol w)) t f) := by
  unfold vsg
  rw [vz_eq, r_hnegf, r_hexp, splat_host_one, r_addf, r_hdivf _ _ fun t f => (add_pos one_pos (Real.exp_pos _)).ne']
  refine congrArg R2 (funext fun t => funext fun f => ?_)
  unfold sg
  rw [zero_sub]

def vds (x : FVec Ideal S4096x1024 .f32) (g : FVec Ideal S1x1024 .f32) (w : FVec Ideal S1024x5632 .f32) : FVec Ideal S4096x2816 .f32 :=
  mulf (vsg x g w) (subf (broadcastInDim S4096x2816 ![] bcast_S_S4096x2816 (constant S_ .f32 0x3F800000#32)) (vsg x g w))
theorem vds_eq : vds (R2 x) (R2 g) (R2 w) = R2 fun t f => sg ((mm (hn x g) (lcol w)) t f) * (1 - sg ((mm (hn x g) (lcol w)) t f)) := by
  unfold vds
  rw [vsg_eq, splat_host_one, r_subf, r_mulf]

def vsi (x : FVec Ideal S4096x1024 .f32) (g : FVec Ideal S1x1024 .f32) (w : FVec Ideal S1024x5632 .f32) : FVec Ideal S4096x2816 .f32 :=
  mulf (vz x g w) (vsg x g w)
theorem vsi_eq : vsi (R2 x) (R2 g) (R2 w) = R2 fun t f => (mm (hn x g) (lcol w)) t f * sg ((mm (hn x g) (lcol w)) t f) := by
  unfold vsi
  rw [vz_eq, vsg_eq, r_mulf]

def va (x : FVec Ideal S4096x1024 .f32) (g : FVec Ideal S1x1024 .f32) (w : FVec Ideal S1024x5632 .f32) : FVec Ideal S4096x2816 .f32 :=
  mulf (vsi x g w) (vu x g w)
theorem va_eq : va (R2 x) (R2 g) (R2 w) = R2 (act (mm (hn x g) (lcol w)) (mm (hn x g) (rcol w))) := by
  unfold va
  rw [vsi_eq, vu_eq, r_mulf]
  rfl

def vo (x : FVec Ideal S4096x1024 .f32) (g : FVec Ideal S1x1024 .f32) (w : FVec Ideal S1024x5632 .f32) (wo : FVec Ideal S2816x1024 .f32) : FVec Ideal S4096x1024 .f32 :=
  addf x (mulf (broadcastInDim S4096x1024 ![] bcast_S_S4096x1024 (constant S_ .f32 0x3F000000#32)) (Host.dotGeneral dot_S4096x2816_S2816x1024_S4096x1024_1_0_0_1_n_n none (va x g w) wo))
theorem vo_eq : vo (R2 x) (R2 g) (R2 w) (R2 wo) = R2 (xout x (act (mm (hn x g) (lcol w)) (mm (hn x g) (rcol w))) wo) := by
  unfold vo
  rw [va_eq, host_dot, r_nn dot_S4096x2816_S2816x1024_S4096x1024_1_0_0_1_n_n rfl, splat_host_half, r_mulf, r_addf]
  rfl

def vh (dy : FVec Ideal S4096x1024 .f32) : FVec Ideal S4096x1024 .f32 :=
  mulf (broadcastInDim S4096x1024 ![] bcast_S_S4096x1024 (constant S_ .f32 0x3F000000#32)) (shapeCast _ dy shapeCasts_S4096x1024_S4096x1024)
theorem vh_eq : vh (R2 dy) = R2 (half dy) := by
  unfold vh
  rw [shapeCast_self, splat_host_half, r_mulf]
  rfl

def vdo (x : FVec Ideal S4096x1024 .f32) (g : FVec Ideal S1x1024 .f32) (w : FVec Ideal S1024x5632 .f32) (dy : FVec Ideal S4096x1024 .f32) : FVec Ideal S2816x1024 .bf16 :=
  truncf .bf16 (transpose S2816x1024 [1, 0] (Host.dotGeneral dot_S4096x1024_S4096x2816_S1024x2816_0_0_1_1_n_n none (vh dy) (va x g w)) transposes_S1024x2816_S2816x1024_1_0) bitsLt_bf16_f32
theorem vdo_eq : vdo (R2 x) (R2 g) (R2 w) (R2 dy) = R2 (tmm (act (mm (hn x g) (lcol w)) (mm (hn x g) (rcol w))) (half dy)) := by
  unfold vdo
  rw [vh_eq, va_eq, host_dot, r_tn dot_S4096x1024_S4096x2816_S1024x2816_0_0_1_1_n_n rfl, r_transpose, r_truncf]
  refine congrArg R2 (funext fun t => funext fun f => ?_)
  exact Finset.sum_congr rfl fun q _ => mul_comm _ _

def vda (dy : FVec Ideal S4096x1024 .f32) (wo : FVec Ideal S2816x1024 .f32) : FVec Ideal S4096x2816 .f32 :=
  Host.dotGeneral dot_S4096x1024_S2816x1024_S4096x2816_1_1_0_0_n_n none (vh dy) wo
theorem vda_eq : vda (R2 dy) (R2 wo) = R2 (dact dy wo) := by
  unfold vda
  rw [vh_eq, host_dot, r_nt dot_S4096x1024_S2816x1024_S4096x2816_1_1_0_0_n_n rfl]
  rfl

def vdu (x : FVec Ideal S4096x1024 .f32) (g : FVec Ideal S1x1024 .f32) (w : FVec Ideal S1024x5632 .f32) (dy : FVec Ideal S4096x1024 .f32) (wo : FVec Ideal S2816x1024 .f32) : FVec Ideal S4096x2816 .f32 :=
  mulf (vsi x g w) (vda dy wo)
theorem vdu_eq : vdu (R2 x) (R2 g) (R2 w) (R2 dy) (R2 wo) = R2 (dup (dact dy wo) (mm (hn x g) (lcol w))) := by
  unfold vdu
  rw [vsi_eq, vda_eq, r_mulf]
  refine congrArg R2 (funext fun t => funext fun f => ?_)
  exact mul_comm _ _

def vdi (x : FVec Ideal S4096x1024 .f32) (g : FVec Ideal S1x1024 .f32) (w : FVec Ideal S1024x5632 .f32) (dy : FVec Ideal S4096x1024 .f32) (wo : FVec Ideal S2816x1024 .f32) : FVec Ideal S4096x2816 .f32 :=
  mulf (vda dy wo) (vu x g w)
def vdg (x : FVec Ideal S4096x1024 .f32) (g : FVec Ideal S1x1024 .f32) (w : FVec Ideal S1024x5632 .f32) (dy : FVec Ideal S4096x1024 .f32) (wo : FVec Ideal S2816x1024 .f32) : FVec Ideal S4096x2816 .f32 :=
  addf (mulf (vdi x g w dy wo) (vsg x g w)) (mulf (mulf (vz x g w) (vdi x g w dy wo)) (vds x g w))
theorem vdg_eq : vdg (R2 x) (R2 g) (R2 w) (R2 dy) (R2 wo) = R2 (dgate (dact dy wo) (mm (hn x g) (lcol w)) (mm (hn x g) (rcol w))) := by
  unfold vdg vdi
  rw [vda_eq, vu_eq, vsg_eq, vz_eq, vds_eq, r_mulf, r_mulf, r_mulf, r_mulf, r_addf]
  refine congrArg R2 (funext fun t => funext fun f => ?_)
  unfold dgate
  ring

/-- A sum over both halves of the columns. -/
theorem sum_beside (p q : Fin 4096 → Fin 2816 → ℝ) (w : Fin 1024 → Fin 5632 → ℝ) (t : Fin 4096) (j : Fin 1024) :
    ∑ f, beside p q t f * w j f = dhn p q (lcol w) (rcol w) t j := by
  have h := Fin.sum_univ_add (a := 2816) (b := 2816) fun f : Fin (2816 + 2816) => beside p q t f * w j f
  refine h.trans ?_
  unfold dhn mmt
  congr 1

/-- The rows' cotangent: the derivative of the reciprocal square root is minus half its cube. -/
theorem dx_real (dy dh x : Fin 4096 → Fin 1024 → ℝ) (g : Fin 1 → Fin 1024 → ℝ) (t : Fin 4096) (j : Fin 1024) :
    dy t j + dh t j * g 0 j * rinv x t 0
      + x t j * ((∑ q, x t q * (dh t q * g 0 q)) * (-(1 / 2) * (rinv x t 0 / ms x t 0)) / 1024)
      + (∑ q, x t q * (dh t q * g 0 q)) * (-(1 / 2) * (rinv x t 0 / ms x t 0)) / 1024 * x t j
      = dxs dy dh x g t j := by
  have hs : ∑ q, dh t q * g 0 q * xhat x t q = rinv x t 0 * ∑ q, x t q * (dh t q * g 0 q) := by
    rw [Finset.mul_sum]
    exact Finset.sum_congr rfl fun q _ => by unfold xhat; ring
  have hr : rinv x t 0 / ms x t 0 = rinv x t 0 * (rinv x t 0 * rinv x t 0) := by
    have hp := ms_pos x t 0
    have h1 : rinv x t 0 * rinv x t 0 = (ms x t 0)⁻¹ := by
      unfold rinv
      rw [← mul_inv, Real.mul_self_sqrt hp.le]
    rw [h1, div_eq_mul_inv]
  unfold dxs
  rw [hs, hr]
  unfold xhat
  ring

def vdp (x : FVec Ideal S4096x1024 .f32) (g : FVec Ideal S1x1024 .f32) (w : FVec Ideal S1024x5632 .f32) (dy : FVec Ideal S4096x1024 .f32) (wo : FVec Ideal S2816x1024 .f32) : FVec Ideal S4096x5632 .f32 :=
  concatenate S4096x5632 1 [⟨S4096x2816, vdg x g w dy wo⟩, ⟨S4096x2816, vdu x g w dy wo⟩] concatenates_S4096x2816_S4096x2816_S4096x5632_d1
theorem vdp_eq : vdp (R2 x) (R2 g) (R2 w) (R2 dy) (R2 wo) = R2 (beside (dgate (dact dy wo) (mm (hn x g) (lcol w)) (mm (hn x g) (rcol w))) (dup (dact dy wo) (mm (hn x g) (lcol w)))) := by
  unfold vdp
  rw [vdg_eq, vdu_eq]
  exact r_concat _ _ (by norm_num) _

def vdw (x : FVec Ideal S4096x1024 .f32) (g : FVec Ideal S1x1024 .f32) (w : FVec Ideal S1024x5632 .f32) (dy : FVec Ideal S4096x1024 .f32) (wo : FVec Ideal S2816x1024 .f32) : FVec Ideal S1024x5632 .bf16 :=
  truncf .bf16 (transpose S1024x5632 [1, 0] (Host.dotGeneral dot_S4096x5632_S4096x1024_S5632x1024_0_0_1_1_n_n none (vdp x g w dy wo) (vhn x g)) transposes_S5632x1024_S1024x5632_1_0) bitsLt_bf16_f32
theorem vdw_eq : vdw (R2 x) (R2 g) (R2 w) (R2 dy) (R2 wo) = R2 (beside (tmm (hn x g) (dgate (dact dy wo) (mm (hn x g) (lcol w)) (mm (hn x g) (rcol w)))) (tmm (hn x g) (dup (dact dy wo) (mm (hn x g) (lcol w))))) := by
  unfold vdw
  rw [vdp_eq, vhn_eq, host_dot, r_tn dot_S4096x5632_S4096x1024_S5632x1024_0_0_1_1_n_n rfl, r_transpose, r_truncf]
  refine congrArg R2 (funext fun i => funext fun j => ?_)
  unfold beside
  by_cases hj : j.val < 2816
  · rw [dif_pos hj]
    exact Finset.sum_congr rfl fun q _ => by rw [dif_pos hj, mul_comm]
  · rw [dif_neg hj]
    exact Finset.sum_congr rfl fun q _ => by rw [dif_neg hj, mul_comm]

def vdh (x : FVec Ideal S4096x1024 .f32) (g : FVec Ideal S1x1024 .f32) (w : FVec Ideal S1024x5632 .f32) (dy : FVec Ideal S4096x1024 .f32) (wo : FVec Ideal S2816x1024 .f32) : FVec Ideal S4096x1024 .f32 :=
  Host.dotGeneral dot_S4096x5632_S1024x5632_S4096x1024_1_1_0_0_n_n none (vdp x g w dy wo) w
theorem vdh_eq : vdh (R2 x) (R2 g) (R2 w) (R2 dy) (R2 wo) = R2 (dhn (dgate (dact dy wo) (mm (hn x g) (lcol w)) (mm (hn x g) (rcol w))) (dup (dact dy wo) (mm (hn x g) (lcol w))) (lcol w) (rcol w)) := by
  unfold vdh
  rw [vdp_eq, host_dot, r_nt dot_S4096x5632_S1024x5632_S4096x1024_1_1_0_0_n_n rfl]
  refine congrArg R2 (funext fun t => funext fun j => ?_)
  exact sum_beside _ _ _ t j

def vgg (x : FVec Ideal S4096x1024 .f32) (g : FVec Ideal S1x1024 .f32) (w : FVec Ideal S1024x5632 .f32) (dy : FVec Ideal S4096x1024 .f32) (wo : FVec Ideal S2816x1024 .f32) : FVec Ideal S1x1024 .f32 :=
  shapeCast _ (Host.reduceAdd (mulf (vxh x) (vdh x g w dy wo)) (constant S_ .f32 0x00000000#32) reducesTo_S4096x1024_S1024_d0 h_S_) shapeCasts_S1024_S1x1024
theorem vgg_eq : vgg (R2 x) (R2 g) (R2 w) (R2 dy) (R2 wo) = R2 (dgs (dhn (dgate (dact dy wo) (mm (hn x g) (lcol w)) (mm (hn x g) (rcol w))) (dup (dact dy wo) (mm (hn x g) (lcol w))) (lcol w) (rcol w)) x) := by
  unfold vgg
  rw [vxh_eq, vdh_eq, r_mulf, r_hsum_rows, r_cast_row]
  refine congrArg R2 (funext fun t => funext fun j => ?_)
  exact Finset.sum_congr rfl fun q _ => mul_comm _ _

def vm (x : FVec Ideal S4096x1024 .f32) (g : FVec Ideal S1x1024 .f32) (w : FVec Ideal S1024x5632 .f32) (dy : FVec Ideal S4096x1024 .f32) (wo : FVec Ideal S2816x1024 .f32) : FVec Ideal S4096x1024 .f32 :=
  mulf (vdh x g w dy wo) (broadcastInDim S4096x1024 ![0, 1] bcast_S1x1024_S4096x1024_0_1 g)
theorem vm_eq : vm (R2 x) (R2 g) (R2 w) (R2 dy) (R2 wo) = R2 fun t j => (dhn (dgate (dact dy wo) (mm (hn x g) (lcol w)) (mm (hn x g) (rcol w))) (dup (dact dy wo) (mm (hn x g) (lcol w))) (lcol w) (rcol w)) t j * g 0 j := by
  unfold vm
  rw [vdh_eq, r_hbcast_row, r_mulf]

def vq (x : FVec Ideal S4096x1024 .f32) (g : FVec Ideal S1x1024 .f32) (w : FVec Ideal S1024x5632 .f32) (dy : FVec Ideal S4096x1024 .f32) (wo : FVec Ideal S2816x1024 .f32) : FVec Ideal S4096x1 .f32 :=
  Host.divf (mulf (shapeCast _ (Host.reduceAdd (mulf x (vm x g w dy wo)) (constant S_ .f32 0x00000000#32) reducesTo_S4096x1024_S4096_d1 h_S_) shapeCasts_S4096_S4096x1) (vc x)) (broadcastInDim S4096x1 ![] bcast_S_S4096x1 (constant S_ .f32 0x44800000#32))
theorem vq_eq : vq (R2 x) (R2 g) (R2 w) (R2 dy) (R2 wo) = R2 fun t i => (∑ q, x t q * ((dhn (dgate (dact dy wo) (mm (hn x g) (lcol w)) (mm (hn x g) (rcol w))) (dup (dact dy wo) (mm (hn x g) (lcol w))) (lcol w) (rcol w)) t q * g 0 q)) * (-(1 / 2) * (rinv x t i / ms x t i)) / 1024 := by
  unfold vq
  rw [vm_eq, vc_eq, r_mulf, r_hsum_cols, r_cast_col, r_mulf, splat_host_1024, r_hdivf _ _ fun _ _ => by norm_num]

def vb (x : FVec Ideal S4096x1024 .f32) (g : FVec Ideal S1x1024 .f32) (w : FVec Ideal S1024x5632 .f32) (dy : FVec Ideal S4096x1024 .f32) (wo : FVec Ideal S2816x1024 .f32) : FVec Ideal S4096x1024 .f32 :=
  broadcastInDim S4096x1024 ![0] bcast_S4096_S4096x1024_0 (Host.reduceAdd (vq x g w dy wo) (constant S_ .f32 0x00000000#32) reducesTo_S4096x1_S4096_d1 h_S_)
theorem vb_eq : vb (R2 x) (R2 g) (R2 w) (R2 dy) (R2 wo) = R2 fun t _ => (∑ q, x t q * ((dhn (dgate (dact dy wo) (mm (hn x g) (lcol w)) (mm (hn x g) (rcol w))) (dup (dact dy wo) (mm (hn x g) (lcol w))) (lcol w) (rcol w)) t q * g 0 q)) * (-(1 / 2) * (rinv x t 0 / ms x t 0)) / 1024 := by
  unfold vb
  rw [vq_eq, r_hsum_cols, r_hbcast_vec]
  refine congrArg R2 (funext fun t => funext fun _ => ?_)
  exact Fin.sum_univ_one _

def vdx (x : FVec Ideal S4096x1024 .f32) (g : FVec Ideal S1x1024 .f32) (w : FVec Ideal S1024x5632 .f32) (dy : FVec Ideal S4096x1024 .f32) (wo : FVec Ideal S2816x1024 .f32) : FVec Ideal S4096x1024 .f32 :=
  addf (addf (addf dy (mulf (vm x g w dy wo) (broadcastInDim S4096x1024 ![0, 1] bcast_S4096x1_S4096x1024_0_1 (vr x)))) (mulf x (vb x g w dy wo))) (mulf (vb x g w dy wo) x)
theorem vdx_eq : vdx (R2 x) (R2 g) (R2 w) (R2 dy) (R2 wo) = R2 (dxs dy (dhn (dgate (dact dy wo) (mm (hn x g) (lcol w)) (mm (hn x g) (rcol w))) (dup (dact dy wo) (mm (hn x g) (lcol w))) (lcol w) (rcol w)) x g) := by
  unfold vdx
  rw [vm_eq, vr_eq, vb_eq, r_hbcast_col, r_mulf, r_addf, r_mulf, r_addf, r_mulf, r_addf]
  refine congrArg R2 (funext fun t => funext fun j => ?_)
  exact dx_real _ _ _ _ t j

end Cert.Real.Ref

end
-- ==== Proof.Hand.RefRun.lean ====
/- The reference's run on real arguments: its five results are the arrays of Spec.lean. -/
module

public import proofs.«01_k».proof.Proof.Hand.RefValue

@[expose] public section

set_option maxRecDepth 16384
set_option backward.isDefEq.respectTransparency false

noncomputable section

namespace Cert.Real.Ref

open Idealize.ShloMosaic hiding ix0 ix1 ix2 eq_ix1 eq_ix2
open Idealize.ShloMosaic.ValueIdx
open Cert.ReferenceIdeal Cert.ReferenceIdeal.Gen

variable (m : (ℓ : Loc nD τ sig) → Buf (Elt Ideal) ℓ) (c : Dev nD)

/-- The array an argument of the reference holds. -/
abbrev ax : FVec Ideal S4096x1024 .f32 := m ((c.tc : Thread nD τ).loc main_arg0)
abbrev ag : FVec Ideal S1x1024 .f32 := m ((c.tc : Thread nD τ).loc main_arg1)
abbrev ady : FVec Ideal S4096x1024 .f32 := m ((c.tc : Thread nD τ).loc main_arg2)
abbrev aw : FVec Ideal S1024x5632 .f32 := m ((c.tc : Thread nD τ).loc main_arg3)
abbrev awo : FVec Ideal S2816x1024 .f32 := m ((c.tc : Thread nD τ).loc main_arg4)

/-- The five results, each the composition of RefValue.lean. -/
theorem run_v (ρ : Dev nD → PrngReg) :
    θ_run defs (onTc (τ := τ) (main (F := Ideal))) ⟨m, fun _ => 0, ρ⟩ fun r => ∀ c : Dev nD,
      r.2.mem ((c.tc : Thread nD τ).loc main_v23) = vo (ax m c) (ag m c) (aw m c) (awo m c)
      ∧ r.2.mem ((c.tc : Thread nD τ).loc main_v56) = vdx (ax m c) (ag m c) (aw m c) (ady m c) (awo m c)
      ∧ r.2.mem ((c.tc : Thread nD τ).loc main_v39) = vgg (ax m c) (ag m c) (aw m c) (ady m c) (awo m c)
      ∧ r.2.mem ((c.tc : Thread nD τ).loc main_v57) = vdw (ax m c) (ag m c) (aw m c) (ady m c) (awo m c)
      ∧ r.2.mem ((c.tc : Thread nD τ).loc main_v58) = vdo (ax m c) (ag m c) (aw m c) (ady m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans rfl, (h c).2.1.trans rfl, (h c).2.2.1.trans rfl, (h c).2.2.2.1.trans rfl,
      (h c).2.2.2.2.1.trans rfl, (h c).2.2.2.2.2⟩)
    (Cert.ReferenceIdeal.Value.run m ρ)

/-- The reference's run leaves its arguments and every counter. -/
theorem quiet (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono
    (fun r h => ⟨fun c => (h c).2.2.2.2.2, sem_eq_zero_of_no_sems (by decide) r.2⟩)
    (Cert.ReferenceIdeal.Value.run m ρ)

end Cert.Real.Ref

end
-- ==== Proof.Attn.Ideal.lean ====
/- The side conditions of the attention kernel's idealized program. -/
module

public import proofs.«01_k».proof.Kernel2Ideal
public import Idealize.ShloMosaic.Lib.Affine
public import Idealize.ShloMosaic.Lib.Decide
public import Idealize.ShloMosaic.Lib.Exec

@[expose] public section

set_option synthInstance.maxSize 4096
set_option Elab.async false

namespace Cert.Kernel2Ideal.Gen

open Idealize.ShloMosaic Idealize.SL.Sem

theorem bcast_S4096_S4096x1_0 : S4096.BroadcastsInDim S4096x1 (![0] : Fin 1 → Fin S4096x1.rank) := by decide
theorem bcast_S4096_S1x4096_1 : S4096.BroadcastsInDim S1x4096 (![1] : Fin 1 → Fin S1x4096.rank) := by decide
theorem bcast_S1x4096_S4096x4096_0_1 : S1x4096.BroadcastsInDim S4096x4096 (![0, 1] : Fin 2 → Fin S4096x4096.rank) := by decide
theorem bcast_S4096x1_S4096x4096_0_1 : S4096x1.BroadcastsInDim S4096x4096 (![0, 1] : Fin 2 → Fin S4096x4096.rank) := by decide
theorem bcast_S_S4096x4096 : S_.BroadcastsInDim S4096x4096 (![] : Fin 0 → Fin S4096x4096.rank) := by decide
theorem bcast_S4096x4096_S1x4096x4096_1_2 : S4096x4096.BroadcastsInDim S1x4096x4096 (![1, 2] : Fin 2 → Fin S1x4096x4096.rank) := by decide
theorem bcast_S1x4096x4096_S8x4096x4096_0_1_2 : S1x4096x4096.BroadcastsInDim S8x4096x4096 (![0, 1, 2] : Fin 3 → Fin S8x4096x4096.rank) := by decide
theorem bcast_S_S8x4096x4096 : S_.BroadcastsInDim S8x4096x4096 (![] : Fin 0 → Fin S8x4096x4096.rank) := by decide
theorem reducesTo_S8x4096x4096_S8x4096_d2 : S8x4096x4096.ReducesTo [2] S8x4096 := by decide
theorem h_S_ : 0 < S_.numel := by decide
theorem bcast_S8x4096_S8x4096x1_0_1 : S8x4096.BroadcastsInDim S8x4096x1 (![0, 1] : Fin 2 → Fin S8x4096x1.rank) := by decide
theorem bcast_S8x4096x1_S8x4096x4096_0_1_2 : S8x4096x1.BroadcastsInDim S8x4096x4096 (![0, 1, 2] : Fin 3 → Fin S8x4096x4096.rank) := by decide
theorem transposes_S8x128x4096_S4096x8x128_2_0_1 : S8x128x4096.Transposes [2, 0, 1] S4096x8x128 := by decide
theorem shapeCasts_S8x4096x1_S8x4096 : S8x4096x1.ShapeCasts S8x4096 := by decide
theorem transposes_S8x4096_S4096x8_1_0 : S8x4096.Transposes [1, 0] S4096x8 := by decide
theorem bcast_S4096x8_S1x4096x8_1_2 : S4096x8.BroadcastsInDim S1x4096x8 (![1, 2] : Fin 2 → Fin S1x4096x8.rank) := by decide
theorem concatenates_S1x4096x8_S2x4096x8_S3x4096x8_d0 : Shape.Concatenates [S1x4096x8, S2x4096x8] S3x4096x8 0 := by decide
theorem reducesTo_S3x4096x8_S4096x8_d0 : S3x4096x8.ReducesTo [0] S4096x8 := by decide
theorem bcast_S_S4096x8 : S_.BroadcastsInDim S4096x8 (![] : Fin 0 → Fin S4096x8.rank) := by decide
theorem bcast_S1x4096x8_S3x4096x8_0_1_2 : S1x4096x8.BroadcastsInDim S3x4096x8 (![0, 1, 2] : Fin 3 → Fin S3x4096x8.rank) := by decide
theorem slices_S3x4096x8_S1x4096x8_0_0_0 : S3x4096x8.Slices ![0, 0, 0] S1x4096x8 := by decide
theorem shapeCasts_S1x4096x8_S4096x8 : S1x4096x8.ShapeCasts S4096x8 := by decide
theorem bcast_S4096x8_S4096x8x1_0_1 : S4096x8.BroadcastsInDim S4096x8x1 (![0, 1] : Fin 2 → Fin S4096x8x1.rank) := by decide
theorem bcast_S4096x8x1_S4096x8x128_0_1_2 : S4096x8x1.BroadcastsInDim S4096x8x128 (![0, 1, 2] : Fin 3 → Fin S4096x8x128.rank) := by decide
theorem slices_S3x4096x8_S2x4096x8_1_0_0 : S3x4096x8.Slices ![1, 0, 0] S2x4096x8 := by decide
theorem bcast_S2x4096x8_S2x4096x8x1_0_1_2 : S2x4096x8.BroadcastsInDim S2x4096x8x1 (![0, 1, 2] : Fin 3 → Fin S2x4096x8x1.rank) := by decide
theorem bcast_S2x4096x8x1_S2x4096x8x128_0_1_2_3 : S2x4096x8x1.BroadcastsInDim S2x4096x8x128 (![0, 1, 2, 3] : Fin 4 → Fin S2x4096x8x128.rank) := by decide
theorem reducesTo_S2x4096x8x128_S4096x8x128_d0 : S2x4096x8x128.ReducesTo [0] S4096x8x128 := by decide
theorem reducesTo_S4096x8x128_S4096x8_d2 : S4096x8x128.ReducesTo [2] S4096x8 := by decide
theorem shapeCasts_S4096x8x128_S4096x1024 : S4096x8x128.ShapeCasts S4096x1024 := by decide
theorem concatenates_S4096x1024_S4096x1024_S4096x1024_S4096x3072_d1 : Shape.Concatenates [S4096x1024, S4096x1024, S4096x1024] S4096x3072 1 := by decide
theorem bitsLt_bf16_f32 : FTy.bits .bf16 < FTy.bits .f32 := by decide
theorem inb_S128x1024_S128x1024_0_0 : ∀ a, (![0, 0] : Fin 2 → Nat) a + S128x1024.size a ≤ S128x1024.size a := by decide
theorem h_S128x1024 : 0 < S128x1024.numel := by decide
theorem shapeCasts_S128x1024_S128x1024 : S128x1024.ShapeCasts S128x1024 := by decide
theorem iota_S128x256_d0_w32 : S128x256.Iotas .tc 32 [0] := by decide
theorem iota_S128x256_d1_w32 : S128x256.Iotas .tc 32 [1] := by decide
theorem inb_S128x1024_S128x128_0_0 : ∀ a, (![0, 0] : Fin 2 → Nat) a + S128x128.size a ≤ S128x1024.size a := by decide
theorem h_S128x128 : 0 < S128x128.numel := by decide
theorem shapeCasts_S128x128_S128x128 : S128x128.ShapeCasts S128x128 := by decide
theorem concatenates_S128x128_S128x128_S256x128_d0 : Shape.Concatenates [S128x128, S128x128] S256x128 0 := by decide
theorem concatenates_S128x128_S128x128_S128x256_d1 : Shape.Concatenates [S128x128, S128x128] S128x256 1 := by decide
theorem transposes_S128x256_p1_0_S256x128 : S128x256.Transposes [1, 0] S256x128 := by decide
theorem inb_S128x1024_S128x128_0_128 : ∀ a, (![0, 128] : Fin 2 → Nat) a + S128x128.size a ≤ S128x1024.size a := by decide
theorem inb_S128x1024_S128x128_0_256 : ∀ a, (![0, 256] : Fin 2 → Nat) a + S128x128.size a ≤ S128x1024.size a := by decide
theorem inb_S128x1024_S128x128_0_384 : ∀ a, (![0, 384] : Fin 2 → Nat) a + S128x128.size a ≤ S128x1024.size a := by decide
theorem inb_S128x1024_S128x128_0_512 : ∀ a, (![0, 512] : Fin 2 → Nat) a + S128x128.size a ≤ S128x1024.size a := by decide
theorem inb_S128x1024_S128x128_0_640 : ∀ a, (![0, 640] : Fin 2 → Nat) a + S128x128.size a ≤ S128x1024.size a := by decide
theorem inb_S128x1024_S128x128_0_768 : ∀ a, (![0, 768] : Fin 2 → Nat) a + S128x128.size a ≤ S128x1024.size a := by decide
theorem inb_S128x1024_S128x128_0_896 : ∀ a, (![0, 896] : Fin 2 → Nat) a + S128x128.size a ≤ S128x1024.size a := by decide
theorem concatenates_S128x128_S128x128_S128x128_S128x128_S128x128_S128x128_S128x128_S128x128_S128x1024_d1 : Shape.Concatenates [S128x128, S128x128, S128x128, S128x128, S128x128, S128x128, S128x128, S128x128] S128x1024 1 := by decide
theorem packedbf16_S128x1024_S128x1024_0_0 : (Rect.unit (s := S128x1024) ![0, 0] S128x1024.size inb_S128x1024_S128x1024_0_0).PackedRows (EltTy.packing .bf16) := by decide
theorem slices_S256x128_o0_0_S128x128 : S256x128.Slices ![0, 0] S128x128 := by decide
theorem slices_S256x128_o128_0_S128x128 : S256x128.Slices ![128, 0] S128x128 := by decide
theorem dot_S4096x8x128_S4096x8x128_S8x4096x4096_2_2_0_0_1_1_wf : DotDims.WF S4096x8x128 S4096x8x128 S8x4096x4096 [2] [2] [0] [0] [1] [1] := by decide
theorem dot_S4096x8x128_S8x4096x4096_S8x128x4096_0_2_2_1_1_0_wf : DotDims.WF S4096x8x128 S8x4096x4096 S8x128x4096 [0] [2] [2] [1] [1] [0] := by decide
theorem dot_S128x128_S256x128_S128x256_1_1_0_0_n_n_wf : DotDims.WF S128x128 S256x128 S128x256 [1] [1] [0] [0] [] [] := by decide
theorem dot_S128x256_S256x128_S128x128_1_0_0_1_n_n_wf : DotDims.WF S128x256 S256x128 S128x128 [1] [0] [0] [1] [] [] := by decide
theorem dot_S128x128_S128x256_S128x256_0_0_1_1_n_n_wf : DotDims.WF S128x128 S128x256 S128x256 [0] [0] [1] [1] [] [] := by decide
theorem hrank0 : 0 < grid0.rank := by decide
theorem hstage0_0 : ∀ j, (stage0_0 j).IsWhole := fun | 0 => Memref.isWhole_whole _ | 1 => Memref.isWhole_whole _ | ⟨_ + 2, h⟩ => absurd h (Nat.not_lt.2 (Nat.le_add_left _ _))
theorem nbuf0_0 : grid0.bufCount reads0_0 false = 2 := by decide
theorem hreads0_0 : ∀ i i' : grid0.Coords, (∀ a, reads0_0 a = true → i a = i' a) → cc0_transform_0 i = cc0_transform_0 i' := fun i i' h => by unfold cc0_transform_0; rw [h 0 rfl, h 1 rfl]
theorem hinb0_0 : ∀ (i : grid0.Coords) a, (cc0_transform_0 i a + 1) * S128x1024.size a ≤ S4096x3072.size a := by decide +kernel
theorem hwx0_0 : ∀ i : grid0.Coords, EltTy.bits .bf16 = 32 ∨ (Rect.block (s := S4096x3072) S128x1024.size (cc0_transform_0 i) (hinb0_0 i)).WholeWords (EltTy.packing .bf16) := fun _ => .inr (Affine.block_words_dvd (of_decide_eq_true rfl) (by decide))
theorem hstage0_1 : ∀ j, (stage0_1 j).IsWhole := fun | 0 => Memref.isWhole_whole _ | 1 => Memref.isWhole_whole _ | ⟨_ + 2, h⟩ => absurd h (Nat.not_lt.2 (Nat.le_add_left _ _))
theorem nbuf0_1 : grid0.bufCount reads0_1 false = 2 := by decide
theorem hreads0_1 : ∀ i i' : grid0.Coords, (∀ a, reads0_1 a = true → i a = i' a) → cc0_transform_1 i = cc0_transform_1 i' := fun i i' h => by unfold cc0_transform_1; rw [h 0 rfl, h 1 rfl]
theorem hinb0_1 : ∀ (i : grid0.Coords) a, (cc0_transform_1 i a + 1) * S128x1024.size a ≤ S4096x3072.size a := by decide +kernel
theorem hwx0_1 : ∀ i : grid0.Coords, EltTy.bits .bf16 = 32 ∨ (Rect.block (s := S4096x3072) S128x1024.size (cc0_transform_1 i) (hinb0_1 i)).WholeWords (EltTy.packing .bf16) := fun _ => .inr (Affine.block_words_dvd (of_decide_eq_true rfl) (by decide))
theorem hstage0_2 : ∀ j, (stage0_2 j).IsWhole := fun | 0 => Memref.isWhole_whole _ | 1 => Memref.isWhole_whole _ | ⟨_ + 2, h⟩ => absurd h (Nat.not_lt.2 (Nat.le_add_left _ _))
theorem nbuf0_2 : grid0.bufCount reads0_2 false = 2 := by decide
theorem hreads0_2 : ∀ i i' : grid0.Coords, (∀ a, reads0_2 a = true → i a = i' a) → cc0_transform_2 i = cc0_transform_2 i' := fun i i' h => by unfold cc0_transform_2; rw [h 0 rfl, h 1 rfl]
theorem hinb0_2 : ∀ (i : grid0.Coords) a, (cc0_transform_2 i a + 1) * S128x1024.size a ≤ S4096x3072.size a := by decide +kernel
theorem hwx0_2 : ∀ i : grid0.Coords, EltTy.bits .bf16 = 32 ∨ (Rect.block (s := S4096x3072) S128x1024.size (cc0_transform_2 i) (hinb0_2 i)).WholeWords (EltTy.packing .bf16) := fun _ => .inr (Affine.block_words_dvd (of_decide_eq_true rfl) (by decide))
theorem hstage0_3 : ∀ j, (stage0_3 j).IsWhole := fun | 0 => Memref.isWhole_whole _ | 1 => Memref.isWhole_whole _ | ⟨_ + 2, h⟩ => absurd h (Nat.not_lt.2 (Nat.le_add_left _ _))
theorem nbuf0_3 : grid0.bufCount reads0_3 false = 2 := by decide
theorem hreads0_3 : ∀ i i' : grid0.Coords, (∀ a, reads0_3 a = true → i a = i' a) → cc0_transform_3 i = cc0_transform_3 i' := fun i i' h => by unfold cc0_transform_3; rw [h 0 rfl, h 1 rfl]
theorem hinb0_3 : ∀ (i : grid0.Coords) a, (cc0_transform_3 i a + 1) * S128x1024.size a ≤ S4096x3072.size a := by decide +kernel
theorem hwx0_3 : ∀ i : grid0.Coords, EltTy.bits .bf16 = 32 ∨ (Rect.block (s := S4096x3072) S128x1024.size (cc0_transform_3 i) (hinb0_3 i)).WholeWords (EltTy.packing .bf16) := fun _ => .inr (Affine.block_words_dvd (of_decide_eq_true rfl) (by decide))
theorem hstage0_4 : ∀ j, (stage0_4 j).IsWhole := fun | 0 => Memref.isWhole_whole _ | 1 => Memref.isWhole_whole _ | ⟨_ + 2, h⟩ => absurd h (Nat.not_lt.2 (Nat.le_add_left _ _))
theorem nbuf0_4 : grid0.bufCount reads0_4 false = 2 := by decide
theorem hreads0_4 : ∀ i i' : grid0.Coords, (∀ a, reads0_4 a = true → i a = i' a) → cc0_transform_4 i = cc0_transform_4 i' := fun i i' h => by unfold cc0_transform_4; rw [h 0 rfl, h 1 rfl]
theorem hinb0_4 : ∀ (i : grid0.Coords) a, (cc0_transform_4 i a + 1) * S128x1024.size a ≤ S4096x3072.size a := by decide +kernel
theorem hwx0_4 : ∀ i : grid0.Coords, EltTy.bits .bf16 = 32 ∨ (Rect.block (s := S4096x3072) S128x1024.size (cc0_transform_4 i) (hinb0_4 i)).WholeWords (EltTy.packing .bf16) := fun _ => .inr (Affine.block_words_dvd (of_decide_eq_true rfl) (by decide))
theorem hstage0_5 : ∀ j, (stage0_5 j).IsWhole := fun | 0 => Memref.isWhole_whole _ | 1 => Memref.isWhole_whole _ | ⟨_ + 2, h⟩ => absurd h (Nat.not_lt.2 (Nat.le_add_left _ _))
theorem nbuf0_5 : grid0.bufCount reads0_5 false = 2 := by decide
theorem hreads0_5 : ∀ i i' : grid0.Coords, (∀ a, reads0_5 a = true → i a = i' a) → cc0_transform_5 i = cc0_transform_5 i' := fun i i' h => by unfold cc0_transform_5; rw [h 0 rfl, h 1 rfl]
theorem hinb0_5 : ∀ (i : grid0.Coords) a, (cc0_transform_5 i a + 1) * S128x1024.size a ≤ S4096x1024.size a := by decide +kernel
theorem hwx0_5 : ∀ i : grid0.Coords, EltTy.bits .bf16 = 32 ∨ (Rect.block (s := S4096x1024) S128x1024.size (cc0_transform_5 i) (hinb0_5 i)).WholeWords (EltTy.packing .bf16) := fun _ => .inr (Affine.block_words_dvd (of_decide_eq_true rfl) (by decide))
theorem hstage0_6 : ∀ j, (stage0_6 j).IsWhole := fun | 0 => Memref.isWhole_whole _ | 1 => Memref.isWhole_whole _ | ⟨_ + 2, h⟩ => absurd h (Nat.not_lt.2 (Nat.le_add_left _ _))
theorem nbuf0_6 : grid0.bufCount reads0_6 false = 2 := by decide
theorem hreads0_6 : ∀ i i' : grid0.Coords, (∀ a, reads0_6 a = true → i a = i' a) → cc0_transform_6 i = cc0_transform_6 i' := fun i i' h => by unfold cc0_transform_6; rw [h 0 rfl, h 1 rfl]
theorem hinb0_6 : ∀ (i : grid0.Coords) a, (cc0_transform_6 i a + 1) * S128x1024.size a ≤ S4096x1024.size a := by decide +kernel
theorem hwx0_6 : ∀ i : grid0.Coords, EltTy.bits .f32 = 32 ∨ (Rect.block (s := S4096x1024) S128x1024.size (cc0_transform_6 i) (hinb0_6 i)).WholeWords (EltTy.packing .f32) := fun _ => .inl rfl
theorem hstage0_7 : ∀ j, (stage0_7 j).IsWhole := fun | 0 => Memref.isWhole_whole _ | 1 => Memref.isWhole_whole _ | ⟨_ + 2, h⟩ => absurd h (Nat.not_lt.2 (Nat.le_add_left _ _))
theorem nbuf0_7 : grid0.bufCount reads0_7 false = 2 := by decide
theorem hreads0_7 : ∀ i i' : grid0.Coords, (∀ a, reads0_7 a = true → i a = i' a) → cc0_transform_7 i = cc0_transform_7 i' := fun i i' h => by unfold cc0_transform_7; rw [h 0 rfl, h 1 rfl]
theorem hinb0_7 : ∀ (i : grid0.Coords) a, (cc0_transform_7 i a + 1) * S128x1024.size a ≤ S4096x1024.size a := by decide +kernel
theorem hwx0_7 : ∀ i : grid0.Coords, EltTy.bits .f32 = 32 ∨ (Rect.block (s := S4096x1024) S128x1024.size (cc0_transform_7 i) (hinb0_7 i)).WholeWords (EltTy.packing .f32) := fun _ => .inl rfl
theorem hstage0_8 : ∀ j, (stage0_8 j).IsWhole := fun | 0 => Memref.isWhole_whole _ | 1 => Memref.isWhole_whole _ | ⟨_ + 2, h⟩ => absurd h (Nat.not_lt.2 (Nat.le_add_left _ _))
theorem nbuf0_8 : grid0.bufCount reads0_8 false = 2 := by decide
theorem hreads0_8 : ∀ i i' : grid0.Coords, (∀ a, reads0_8 a = true → i a = i' a) → cc0_transform_8 i = cc0_transform_8 i' := fun i i' h => by unfold cc0_transform_8; rw [h 0 rfl, h 1 rfl]
theorem hinb0_8 : ∀ (i : grid0.Coords) a, (cc0_transform_8 i a + 1) * S128x1024.size a ≤ S4096x1024.size a := by decide +kernel
theorem hwx0_8 : ∀ i : grid0.Coords, EltTy.bits .bf16 = 32 ∨ (Rect.block (s := S4096x1024) S128x1024.size (cc0_transform_8 i) (hinb0_8 i)).WholeWords (EltTy.packing .bf16) := fun _ => .inr (Affine.block_words_dvd (of_decide_eq_true rfl) (by decide))
theorem hstage0_9 : ∀ j, (stage0_9 j).IsWhole := fun | 0 => Memref.isWhole_whole _ | 1 => Memref.isWhole_whole _ | ⟨_ + 2, h⟩ => absurd h (Nat.not_lt.2 (Nat.le_add_left _ _))
theorem nbuf0_9 : grid0.bufCount reads0_9 false = 2 := by decide
theorem hreads0_9 : ∀ i i' : grid0.Coords, (∀ a, reads0_9 a = true → i a = i' a) → cc0_transform_9 i = cc0_transform_9 i' := fun i i' h => by unfold cc0_transform_9; rw [h 0 rfl, h 1 rfl]
theorem hinb0_9 : ∀ (i : grid0.Coords) a, (cc0_transform_9 i a + 1) * S128x1024.size a ≤ S4096x1024.size a := by decide +kernel
theorem hwx0_9 : ∀ i : grid0.Coords, EltTy.bits .bf16 = 32 ∨ (Rect.block (s := S4096x1024) S128x1024.size (cc0_transform_9 i) (hinb0_9 i)).WholeWords (EltTy.packing .bf16) := fun _ => .inr (Affine.block_words_dvd (of_decide_eq_true rfl) (by decide))
theorem hstage0_10 : ∀ j, (stage0_10 j).IsWhole := fun | 0 => Memref.isWhole_whole _ | 1 => Memref.isWhole_whole _ | ⟨_ + 2, h⟩ => absurd h (Nat.not_lt.2 (Nat.le_add_left _ _))
theorem nbuf0_10 : grid0.bufCount reads0_10 false = 2 := by decide
theorem hreads0_10 : ∀ i i' : grid0.Coords, (∀ a, reads0_10 a = true → i a = i' a) → cc0_transform_10 i = cc0_transform_10 i' := fun i i' h => by unfold cc0_transform_10; rw [h 0 rfl, h 1 rfl]
theorem hinb0_10 : ∀ (i : grid0.Coords) a, (cc0_transform_10 i a + 1) * S128x1024.size a ≤ S4096x1024.size a := by decide +kernel
theorem hwx0_10 : ∀ i : grid0.Coords, EltTy.bits .bf16 = 32 ∨ (Rect.block (s := S4096x1024) S128x1024.size (cc0_transform_10 i) (hinb0_10 i)).WholeWords (EltTy.packing .bf16) := fun _ => .inr (Affine.block_words_dvd (of_decide_eq_true rfl) (by decide))

instance facts₀ : Cert.Kernel2Ideal.Facts₀ where
  bcast_S4096_S4096x1_0 := @bcast_S4096_S4096x1_0
  bcast_S4096_S1x4096_1 := @bcast_S4096_S1x4096_1
  bcast_S1x4096_S4096x4096_0_1 := @bcast_S1x4096_S4096x4096_0_1
  bcast_S4096x1_S4096x4096_0_1 := @bcast_S4096x1_S4096x4096_0_1
  bcast_S_S4096x4096 := @bcast_S_S4096x4096
  bcast_S4096x4096_S1x4096x4096_1_2 := @bcast_S4096x4096_S1x4096x4096_1_2
  bcast_S1x4096x4096_S8x4096x4096_0_1_2 := @bcast_S1x4096x4096_S8x4096x4096_0_1_2
  bcast_S_S8x4096x4096 := @bcast_S_S8x4096x4096
  reducesTo_S8x4096x4096_S8x4096_d2 := @reducesTo_S8x4096x4096_S8x4096_d2
  h_S_ := @h_S_
  bcast_S8x4096_S8x4096x1_0_1 := @bcast_S8x4096_S8x4096x1_0_1
  bcast_S8x4096x1_S8x4096x4096_0_1_2 := @bcast_S8x4096x1_S8x4096x4096_0_1_2
  transposes_S8x128x4096_S4096x8x128_2_0_1 := @transposes_S8x128x4096_S4096x8x128_2_0_1
  shapeCasts_S8x4096x1_S8x4096 := @shapeCasts_S8x4096x1_S8x4096
  transposes_S8x4096_S4096x8_1_0 := @transposes_S8x4096_S4096x8_1_0
  bcast_S4096x8_S1x4096x8_1_2 := @bcast_S4096x8_S1x4096x8_1_2
  concatenates_S1x4096x8_S2x4096x8_S3x4096x8_d0 := @concatenates_S1x4096x8_S2x4096x8_S3x4096x8_d0
  reducesTo_S3x4096x8_S4096x8_d0 := @reducesTo_S3x4096x8_S4096x8_d0
  bcast_S_S4096x8 := @bcast_S_S4096x8
  bcast_S1x4096x8_S3x4096x8_0_1_2 := @bcast_S1x4096x8_S3x4096x8_0_1_2
  slices_S3x4096x8_S1x4096x8_0_0_0 := @slices_S3x4096x8_S1x4096x8_0_0_0
  shapeCasts_S1x4096x8_S4096x8 := @shapeCasts_S1x4096x8_S4096x8
  bcast_S4096x8_S4096x8x1_0_1 := @bcast_S4096x8_S4096x8x1_0_1
  bcast_S4096x8x1_S4096x8x128_0_1_2 := @bcast_S4096x8x1_S4096x8x128_0_1_2
  slices_S3x4096x8_S2x4096x8_1_0_0 := @slices_S3x4096x8_S2x4096x8_1_0_0
  bcast_S2x4096x8_S2x4096x8x1_0_1_2 := @bcast_S2x4096x8_S2x4096x8x1_0_1_2
  bcast_S2x4096x8x1_S2x4096x8x128_0_1_2_3 := @bcast_S2x4096x8x1_S2x4096x8x128_0_1_2_3
  reducesTo_S2x4096x8x128_S4096x8x128_d0 := @reducesTo_S2x4096x8x128_S4096x8x128_d0
  reducesTo_S4096x8x128_S4096x8_d2 := @reducesTo_S4096x8x128_S4096x8_d2
  shapeCasts_S4096x8x128_S4096x1024 := @shapeCasts_S4096x8x128_S4096x1024
  concatenates_S4096x1024_S4096x1024_S4096x1024_S4096x3072_d1 := @concatenates_S4096x1024_S4096x1024_S4096x1024_S4096x3072_d1
  bitsLt_bf16_f32 := @bitsLt_bf16_f32
  inb_S128x1024_S128x1024_0_0 := @inb_S128x1024_S128x1024_0_0
  h_S128x1024 := @h_S128x1024
  shapeCasts_S128x1024_S128x1024 := @shapeCasts_S128x1024_S128x1024
  iota_S128x256_d0_w32 := @iota_S128x256_d0_w32
  iota_S128x256_d1_w32 := @iota_S128x256_d1_w32
  inb_S128x1024_S128x128_0_0 := @inb_S128x1024_S128x128_0_0
  h_S128x128 := @h_S128x128
  shapeCasts_S128x128_S128x128 := @shapeCasts_S128x128_S128x128
  concatenates_S128x128_S128x128_S256x128_d0 := @concatenates_S128x128_S128x128_S256x128_d0
  concatenates_S128x128_S128x128_S128x256_d1 := @concatenates_S128x128_S128x128_S128x256_d1
  transposes_S128x256_p1_0_S256x128 := @transposes_S128x256_p1_0_S256x128
  inb_S128x1024_S128x128_0_128 := @inb_S128x1024_S128x128_0_128
  inb_S128x1024_S128x128_0_256 := @inb_S128x1024_S128x128_0_256
  inb_S128x1024_S128x128_0_384 := @inb_S128x1024_S128x128_0_384
  inb_S128x1024_S128x128_0_512 := @inb_S128x1024_S128x128_0_512
  inb_S128x1024_S128x128_0_640 := @inb_S128x1024_S128x128_0_640
  inb_S128x1024_S128x128_0_768 := @inb_S128x1024_S128x128_0_768
  inb_S128x1024_S128x128_0_896 := @inb_S128x1024_S128x128_0_896
  concatenates_S128x128_S128x128_S128x128_S128x128_S128x128_S128x128_S128x128_S128x128_S128x1024_d1 := @concatenates_S128x128_S128x128_S128x128_S128x128_S128x128_S128x128_S128x128_S128x128_S128x1024_d1
  packedbf16_S128x1024_S128x1024_0_0 := @packedbf16_S128x1024_S128x1024_0_0
  slices_S256x128_o0_0_S128x128 := @slices_S256x128_o0_0_S128x128
  slices_S256x128_o128_0_S128x128 := @slices_S256x128_o128_0_S128x128
  dot_S4096x8x128_S4096x8x128_S8x4096x4096_2_2_0_0_1_1_wf := @dot_S4096x8x128_S4096x8x128_S8x4096x4096_2_2_0_0_1_1_wf
  dot_S4096x8x128_S8x4096x4096_S8x128x4096_0_2_2_1_1_0_wf := @dot_S4096x8x128_S8x4096x4096_S8x128x4096_0_2_2_1_1_0_wf
  dot_S128x128_S256x128_S128x256_1_1_0_0_n_n_wf := @dot_S128x128_S256x128_S128x256_1_1_0_0_n_n_wf
  dot_S128x256_S256x128_S128x128_1_0_0_1_n_n_wf := @dot_S128x256_S256x128_S128x128_1_0_0_1_n_n_wf
  dot_S128x128_S128x256_S128x256_0_0_1_1_n_n_wf := @dot_S128x128_S128x256_S128x256_0_0_1_1_n_n_wf
  hrank0 := @hrank0
  hstage0_0 := @hstage0_0
  nbuf0_0 := @nbuf0_0
  hreads0_0 := @hreads0_0
  hinb0_0 := @hinb0_0
  hwx0_0 := @hwx0_0
  hstage0_1 := @hstage0_1
  nbuf0_1 := @nbuf0_1
  hreads0_1 := @hreads0_1
  hinb0_1 := @hinb0_1
  hwx0_1 := @hwx0_1
  hstage0_2 := @hstage0_2
  nbuf0_2 := @nbuf0_2
  hreads0_2 := @hreads0_2
  hinb0_2 := @hinb0_2
  hwx0_2 := @hwx0_2
  hstage0_3 := @hstage0_3
  nbuf0_3 := @nbuf0_3
  hreads0_3 := @hreads0_3
  hinb0_3 := @hinb0_3
  hwx0_3 := @hwx0_3
  hstage0_4 := @hstage0_4
  nbuf0_4 := @nbuf0_4
  hreads0_4 := @hreads0_4
  hinb0_4 := @hinb0_4
  hwx0_4 := @hwx0_4
  hstage0_5 := @hstage0_5
  nbuf0_5 := @nbuf0_5
  hreads0_5 := @hreads0_5
  hinb0_5 := @hinb0_5
  hwx0_5 := @hwx0_5
  hstage0_6 := @hstage0_6
  nbuf0_6 := @nbuf0_6
  hreads0_6 := @hreads0_6
  hinb0_6 := @hinb0_6
  hwx0_6 := @hwx0_6
  hstage0_7 := @hstage0_7
  nbuf0_7 := @nbuf0_7
  hreads0_7 := @hreads0_7
  hinb0_7 := @hinb0_7
  hwx0_7 := @hwx0_7
  hstage0_8 := @hstage0_8
  nbuf0_8 := @nbuf0_8
  hreads0_8 := @hreads0_8
  hinb0_8 := @hinb0_8
  hwx0_8 := @hwx0_8
  hstage0_9 := @hstage0_9
  nbuf0_9 := @nbuf0_9
  hreads0_9 := @hreads0_9
  hinb0_9 := @hinb0_9
  hwx0_9 := @hwx0_9
  hstage0_10 := @hstage0_10
  nbuf0_10 := @nbuf0_10
  hreads0_10 := @hreads0_10
  hinb0_10 := @hinb0_10
  hwx0_10 := @hwx0_10

instance facts : Cert.Kernel2Ideal.Facts where

end Cert.Kernel2Ideal.Gen
-- ==== Proof.Attn.Facts.lean ====
/- The side conditions of the attention kernel's program before idealization: the same statements as those of its
   idealized program, whose proofs they take. -/
module

public import proofs.«01_k».proof.Kernel2
public import proofs.«01_k».proof.Proof.Attn.Ideal

@[expose] public section

namespace Cert.Kernel2.Gen

instance facts₀ : Cert.Kernel2.Facts₀ := { Cert.Kernel2Ideal.Gen.facts₀ with }
instance facts : Cert.Kernel2.Facts := { Cert.Kernel2Ideal.Gen.facts with }

end Cert.Kernel2.Gen
-- ==== Proof.Attn.Skeleton.lean ====
/- The attention kernel's body: its memory accesses, and the arrays it stores as functions of the arrays it loads. -/
module

public import proofs.«01_k».proof.Proof.Attn.Ideal

@[expose] public section

set_option synthInstance.maxSize 4096

noncomputable section

namespace Cert.Kernel2Ideal.Gen

open Idealize.ShloMosaic Idealize.SL.Sem

variable {F : FTy → Type} [FloatOps F]

noncomputable def k0_pay1 : FVec F S128x1024 .f32 :=
  have cst : F .f32 := Scalar.ofBits .f32 0x00000000#32
  have v9 : FVec F S128x1024 .f32 := broadcast S128x1024 cst
  have v12 : FVec F S128x1024 .f32 := shapeCast S128x1024 v9 shapeCasts_S128x1024_S128x1024
  v12

noncomputable def k0_pay2 : FVec F S128x1024 .f32 :=
  have cst_5 : F .f32 := Scalar.ofBits .f32 0x00000000#32
  have v13 : FVec F S128x1024 .f32 := broadcast S128x1024 cst_5
  have v16 : FVec F S128x1024 .f32 := shapeCast S128x1024 v13 shapeCasts_S128x1024_S128x1024
  v16

noncomputable def k0_pay3 (v61 : FVec F S256x128 .f32) (v97 : FVec F S256x128 .f32) (v133 : FVec F S256x128 .f32) (v169 : FVec F S256x128 .f32) (v205 : FVec F S256x128 .f32) (v241 : FVec F S256x128 .f32) (v277 : FVec F S256x128 .f32) (v313 : FVec F S256x128 .f32) : FVec F S128x1024 .f32 :=
  have v352 : FVec F S128x128 .f32 := extractStridedSlice S128x128 ![128, 0] v61 slices_S256x128_o128_0_S128x128
  have v353 : FVec F S128x128 .f32 := extractStridedSlice S128x128 ![128, 0] v97 slices_S256x128_o128_0_S128x128
  have v354 : FVec F S128x128 .f32 := extractStridedSlice S128x128 ![128, 0] v133 slices_S256x128_o128_0_S128x128
  have v355 : FVec F S128x128 .f32 := extractStridedSlice S128x128 ![128, 0] v169 slices_S256x128_o128_0_S128x128
  have v356 : FVec F S128x128 .f32 := extractStridedSlice S128x128 ![128, 0] v205 slices_S256x128_o128_0_S128x128
  have v357 : FVec F S128x128 .f32 := extractStridedSlice S128x128 ![128, 0] v241 slices_S256x128_o128_0_S128x128
  have v358 : FVec F S128x128 .f32 := extractStridedSlice S128x128 ![128, 0] v277 slices_S256x128_o128_0_S128x128
  have v359 : FVec F S128x128 .f32 := extractStridedSlice S128x128 ![128, 0] v313 slices_S256x128_o128_0_S128x128
  have v360 : FVec F S128x1024 .f32 := concatenate S128x1024 1 [⟨S128x128, v352⟩, ⟨S128x128, v353⟩, ⟨S128x128, v354⟩, ⟨S128x128, v355⟩, ⟨S128x128, v356⟩, ⟨S128x128, v357⟩, ⟨S128x128, v358⟩, ⟨S128x128, v359⟩] concatenates_S128x128_S128x128_S128x128_S128x128_S128x128_S128x128_S128x128_S128x128_S128x1024_d1
  have v363 : FVec F S128x1024 .f32 := shapeCast S128x1024 v360 shapeCasts_S128x1024_S128x1024
  v363

noncomputable def k0_pay4 (v9 : Vec F S128x1024 .f32) : FVec F S128x1024 .bf16 :=
  have v10 : FVec F S128x1024 .bf16 := truncf .bf16 v9 bitsLt_bf16_f32
  v10

noncomputable def k0_pay5 (v12 : Vec F S128x1024 .f32) : FVec F S128x1024 .bf16 :=
  have v13 : FVec F S128x1024 .bf16 := truncf .bf16 v12 bitsLt_bf16_f32
  v13

noncomputable def k0_pay6 (arg1 : BitVec 32) : IVec S128x256 1 :=
  have v9 : IVec S128x256 32 := iota .tc S128x256 32 [0] iota_S128x256_d0_w32
  have v10 : IVec S128x256 32 := iota .tc S128x256 32 [1] iota_S128x256_d1_w32
  have v11 : IVec S128x256 32 := broadcast S128x256 128#32
  have v12 : IVec S128x256 32 := addi v11 v9
  have v13 : IVec S128x256 32 := subi v12 v10
  let v14 : BitVec 1 := Scalar.cmpi .sgt arg1 0#32
  let v15 : BitVec 32 := Scalar.select v14 0#32 128#32
  have v16 : IVec S128x256 32 := broadcast S128x256 0#32
  have v17 : IVec S128x256 1 := cmpi .sge v13 v16
  have v18 : IVec S128x256 32 := broadcast S128x256 128#32
  have v19 : IVec S128x256 1 := cmpi .sle v13 v18
  have v20 : IVec S128x256 1 := andi v17 v19
  have v21 : IVec S128x256 32 := broadcast S128x256 v15
  have v22 : IVec S128x256 1 := cmpi .sge v10 v21
  have v23 : IVec S128x256 1 := andi v20 v22
  v23

noncomputable def k0_pay7 (v26 : Vec F S128x128 .bf16) : FVec F S128x128 .bf16 :=
  have v27 : FVec F S128x128 .bf16 := shapeCast S128x128 v26 shapeCasts_S128x128_S128x128
  v27

noncomputable def k0_pay8 (v28 : Vec F S128x128 .bf16) : FVec F S128x128 .bf16 :=
  have v29 : FVec F S128x128 .bf16 := shapeCast S128x128 v28 shapeCasts_S128x128_S128x128
  v29

noncomputable def k0_pay9 (v30 : Vec F S128x128 .bf16) (v32 : Vec F S128x128 .bf16) : FVec F S256x128 .bf16 :=
  have v31 : FVec F S128x128 .bf16 := shapeCast S128x128 v30 shapeCasts_S128x128_S128x128
  have v33 : FVec F S128x128 .bf16 := shapeCast S128x128 v32 shapeCasts_S128x128_S128x128
  have v34 : FVec F S256x128 .bf16 := concatenate S256x128 0 [⟨S128x128, v31⟩, ⟨S128x128, v33⟩] concatenates_S128x128_S128x128_S256x128_d0
  v34

noncomputable def k0_pay10 (v35 : Vec F S128x128 .bf16) (v37 : Vec F S128x128 .bf16) : FVec F S256x128 .bf16 :=
  have v36 : FVec F S128x128 .bf16 := shapeCast S128x128 v35 shapeCasts_S128x128_S128x128
  have v38 : FVec F S128x128 .bf16 := shapeCast S128x128 v37 shapeCasts_S128x128_S128x128
  have v39 : FVec F S256x128 .bf16 := concatenate S256x128 0 [⟨S128x128, v36⟩, ⟨S128x128, v38⟩] concatenates_S128x128_S128x128_S256x128_d0
  v39

noncomputable def k0_pay11 (v26 : Vec F S128x128 .bf16) (v30 : Vec F S128x128 .bf16) (v32 : Vec F S128x128 .bf16) : FVec F S128x256 .f32 :=
  have cst : FVec F S128x256 .f32 := constant S128x256 .f32 0x00000000#32
  have v40 : FVec F S128x256 .f32 := matmul dot_S128x128_S256x128_S128x256_1_1_0_0_n_n none (k0_pay7 v26) (k0_pay9 v30 v32) cst
  v40

noncomputable def k0_pay12 (v41 : Vec F S128x128 .f32) : FVec F S128x256 .f32 :=
  have v42 : FVec F S128x128 .f32 := shapeCast S128x128 v41 shapeCasts_S128x128_S128x128
  have v43 : FVec F S128x256 .f32 := concatenate S128x256 1 [⟨S128x128, v42⟩, ⟨S128x128, v42⟩] concatenates_S128x128_S128x128_S128x256_d1
  v43

noncomputable def k0_pay13 (v23 : IVec S128x256 1) (v40 : FVec F S128x256 .f32) (v43 : FVec F S128x256 .f32) : FVec F S128x256 .f32 :=
  have v44 : FVec F S128x256 .f32 := subf v40 v43
  have v45 : FVec F S128x256 .f32 := exp v44
  have cst_26 : F .f32 := Scalar.ofBits .f32 0x00000000#32
  have v46 : FVec F S128x256 .f32 := broadcast S128x256 cst_26
  have v47 : FVec F S128x256 .f32 := select v23 v45 v46
  v47

noncomputable def k0_pay14 (v23 : IVec S128x256 1) (v29 : FVec F S128x128 .bf16) (v39 : FVec F S256x128 .bf16) (v40 : FVec F S128x256 .f32) (v43 : FVec F S128x256 .f32) (v49 : Vec F S128x128 .f32) : FVec F S128x256 .bf16 :=
  have cst_27 : FVec F S128x256 .f32 := constant S128x256 .f32 0x00000000#32
  have v48 : FVec F S128x256 .f32 := matmul dot_S128x128_S256x128_S128x256_1_1_0_0_n_n none v29 v39 cst_27
  have v50 : FVec F S128x128 .f32 := shapeCast S128x128 v49 shapeCasts_S128x128_S128x128
  have v51 : FVec F S128x256 .f32 := concatenate S128x256 1 [⟨S128x128, v50⟩, ⟨S128x128, v50⟩] concatenates_S128x128_S128x128_S128x256_d1
  have v52 : FVec F S128x256 .f32 := subf v48 v51
  have v53 : FVec F S128x256 .f32 := mulf (k0_pay13 v23 v40 v43) v52
  have v54 : FVec F S128x256 .bf16 := truncf .bf16 v53 bitsLt_bf16_f32
  v54

noncomputable def k0_pay15 (v23 : IVec S128x256 1) (v29 : FVec F S128x128 .bf16) (v34 : FVec F S256x128 .bf16) (v39 : FVec F S256x128 .bf16) (v40 : FVec F S128x256 .f32) (v43 : FVec F S128x256 .f32) (v49 : Vec F S128x128 .f32) : FVec F S128x128 .bf16 :=
  have cst_30 : FVec F S128x128 .f32 := constant S128x128 .f32 0x00000000#32
  have v55 : FVec F S128x128 .f32 := matmul dot_S128x256_S256x128_S128x128_1_0_0_1_n_n none (k0_pay14 v23 v29 v39 v40 v43 v49) v34 cst_30
  have v56 : FVec F S128x128 .bf16 := truncf .bf16 v55 bitsLt_bf16_f32
  v56

noncomputable def k0_pay16 (v23 : IVec S128x256 1) (v27 : FVec F S128x128 .bf16) (v29 : FVec F S128x128 .bf16) (v39 : FVec F S256x128 .bf16) (v40 : FVec F S128x256 .f32) (v43 : FVec F S128x256 .f32) (v49 : Vec F S128x128 .f32) : FVec F S256x128 .f32 :=
  have cst_31 : FVec F S128x256 .f32 := constant S128x256 .f32 0x00000000#32
  have v57 : FVec F S128x256 .f32 := matmul dot_S128x128_S128x256_S128x256_0_0_1_1_n_n none v27 (k0_pay14 v23 v29 v39 v40 v43 v49) cst_31
  have v58 : FVec F S256x128 .f32 := transpose S256x128 [1, 0] v57 transposes_S128x256_p1_0_S256x128
  v58

noncomputable def k0_pay17 (v23 : IVec S128x256 1) (v29 : FVec F S128x128 .bf16) (v40 : FVec F S128x256 .f32) (v43 : FVec F S128x256 .f32) : FVec F S256x128 .f32 :=
  have v59 : FVec F S128x256 .bf16 := truncf .bf16 (k0_pay13 v23 v40 v43) bitsLt_bf16_f32
  have cst_32 : FVec F S128x256 .f32 := constant S128x256 .f32 0x00000000#32
  have v60 : FVec F S128x256 .f32 := matmul dot_S128x128_S128x256_S128x256_0_0_1_1_n_n none v29 v59 cst_32
  have v61 : FVec F S256x128 .f32 := transpose S256x128 [1, 0] v60 transposes_S128x256_p1_0_S256x128
  v61

noncomputable def k0_pay18 (v62 : Vec F S128x128 .bf16) : FVec F S128x128 .bf16 :=
  have v63 : FVec F S128x128 .bf16 := shapeCast S128x128 v62 shapeCasts_S128x128_S128x128
  v63

noncomputable def k0_pay19 (v64 : Vec F S128x128 .bf16) : FVec F S128x128 .bf16 :=
  have v65 : FVec F S128x128 .bf16 := shapeCast S128x128 v64 shapeCasts_S128x128_S128x128
  v65

noncomputable def k0_pay20 (v66 : Vec F S128x128 .bf16) (v68 : Vec F S128x128 .bf16) : FVec F S256x128 .bf16 :=
  have v67 : FVec F S128x128 .bf16 := shapeCast S128x128 v66 shapeCasts_S128x128_S128x128
  have v69 : FVec F S128x128 .bf16 := shapeCast S128x128 v68 shapeCasts_S128x128_S128x128
  have v70 : FVec F S256x128 .bf16 := concatenate S256x128 0 [⟨S128x128, v67⟩, ⟨S128x128, v69⟩] concatenates_S128x128_S128x128_S256x128_d0
  v70

noncomputable def k0_pay21 (v71 : Vec F S128x128 .bf16) (v73 : Vec F S128x128 .bf16) : FVec F S256x128 .bf16 :=
  have v72 : FVec F S128x128 .bf16 := shapeCast S128x128 v71 shapeCasts_S128x128_S128x128
  have v74 : FVec F S128x128 .bf16 := shapeCast S128x128 v73 shapeCasts_S128x128_S128x128
  have v75 : FVec F S256x128 .bf16 := concatenate S256x128 0 [⟨S128x128, v72⟩, ⟨S128x128, v74⟩] concatenates_S128x128_S128x128_S256x128_d0
  v75

noncomputable def k0_pay22 (v62 : Vec F S128x128 .bf16) (v66 : Vec F S128x128 .bf16) (v68 : Vec F S128x128 .bf16) (v77 : Vec F S128x128 .f32) : FVec F S128x256 .f32 :=
  have cst_44 : FVec F S128x256 .f32 := constant S128x256 .f32 0x00000000#32
  have v76 : FVec F S128x256 .f32 := matmul dot_S128x128_S256x128_S128x256_1_1_0_0_n_n none (k0_pay18 v62) (k0_pay20 v66 v68) cst_44
  have v78 : FVec F S128x128 .f32 := shapeCast S128x128 v77 shapeCasts_S128x128_S128x128
  have v79 : FVec F S128x256 .f32 := concatenate S128x256 1 [⟨S128x128, v78⟩, ⟨S128x128, v78⟩] concatenates_S128x128_S128x128_S128x256_d1
  have v80 : FVec F S128x256 .f32 := subf v76 v79
  have v81 : FVec F S128x256 .f32 := exp v80
  v81

noncomputable def k0_pay23 (v23 : IVec S128x256 1) (v81 : FVec F S128x256 .f32) : FVec F S128x256 .f32 :=
  have cst_47 : F .f32 := Scalar.ofBits .f32 0x00000000#32
  have v82 : FVec F S128x256 .f32 := broadcast S128x256 cst_47
  have v83 : FVec F S128x256 .f32 := select v23 v81 v82
  v83

noncomputable def k0_pay24 (v23 : IVec S128x256 1) (v65 : FVec F S128x128 .bf16) (v75 : FVec F S256x128 .bf16) (v81 : FVec F S128x256 .f32) (v85 : Vec F S128x128 .f32) : FVec F S128x256 .bf16 :=
  have cst_48 : FVec F S128x256 .f32 := constant S128x256 .f32 0x00000000#32
  have v84 : FVec F S128x256 .f32 := matmul dot_S128x128_S256x128_S128x256_1_1_0_0_n_n none v65 v75 cst_48
  have v86 : FVec F S128x128 .f32 := shapeCast S128x128 v85 shapeCasts_S128x128_S128x128
  have v87 : FVec F S128x256 .f32 := concatenate S128x256 1 [⟨S128x128, v86⟩, ⟨S128x128, v86⟩] concatenates_S128x128_S128x128_S128x256_d1
  have v88 : FVec F S128x256 .f32 := subf v84 v87
  have v89 : FVec F S128x256 .f32 := mulf (k0_pay23 v23 v81) v88
  have v90 : FVec F S128x256 .bf16 := truncf .bf16 v89 bitsLt_bf16_f32
  v90

noncomputable def k0_pay25 (v23 : IVec S128x256 1) (v65 : FVec F S128x128 .bf16) (v70 : FVec F S256x128 .bf16) (v75 : FVec F S256x128 .bf16) (v81 : FVec F S128x256 .f32) (v85 : Vec F S128x128 .f32) : FVec F S128x128 .bf16 :=
  have cst_51 : FVec F S128x128 .f32 := constant S128x128 .f32 0x00000000#32
  have v91 : FVec F S128x128 .f32 := matmul dot_S128x256_S256x128_S128x128_1_0_0_1_n_n none (k0_pay24 v23 v65 v75 v81 v85) v70 cst_51
  have v92 : FVec F S128x128 .bf16 := truncf .bf16 v91 bitsLt_bf16_f32
  v92

noncomputable def k0_pay26 (v23 : IVec S128x256 1) (v63 : FVec F S128x128 .bf16) (v65 : FVec F S128x128 .bf16) (v75 : FVec F S256x128 .bf16) (v81 : FVec F S128x256 .f32) (v85 : Vec F S128x128 .f32) : FVec F S256x128 .f32 :=
  have cst_52 : FVec F S128x256 .f32 := constant S128x256 .f32 0x00000000#32
  have v93 : FVec F S128x256 .f32 := matmul dot_S128x128_S128x256_S128x256_0_0_1_1_n_n none v63 (k0_pay24 v23 v65 v75 v81 v85) cst_52
  have v94 : FVec F S256x128 .f32 := transpose S256x128 [1, 0] v93 transposes_S128x256_p1_0_S256x128
  v94

noncomputable def k0_pay27 (v23 : IVec S128x256 1) (v65 : FVec F S128x128 .bf16) (v81 : FVec F S128x256 .f32) : FVec F S256x128 .f32 :=
  have v95 : FVec F S128x256 .bf16 := truncf .bf16 (k0_pay23 v23 v81) bitsLt_bf16_f32
  have cst_53 : FVec F S128x256 .f32 := constant S128x256 .f32 0x00000000#32
  have v96 : FVec F S128x256 .f32 := matmul dot_S128x128_S128x256_S128x256_0_0_1_1_n_n none v65 v95 cst_53
  have v97 : FVec F S256x128 .f32 := transpose S256x128 [1, 0] v96 transposes_S128x256_p1_0_S256x128
  v97

noncomputable def k0_pay28 (v98 : Vec F S128x128 .bf16) : FVec F S128x128 .bf16 :=
  have v99 : FVec F S128x128 .bf16 := shapeCast S128x128 v98 shapeCasts_S128x128_S128x128
  v99

noncomputable def k0_pay29 (v100 : Vec F S128x128 .bf16) : FVec F S128x128 .bf16 :=
  have v101 : FVec F S128x128 .bf16 := shapeCast S128x128 v100 shapeCasts_S128x128_S128x128
  v101

noncomputable def k0_pay30 (v102 : Vec F S128x128 .bf16) (v104 : Vec F S128x128 .bf16) : FVec F S256x128 .bf16 :=
  have v103 : FVec F S128x128 .bf16 := shapeCast S128x128 v102 shapeCasts_S128x128_S128x128
  have v105 : FVec F S128x128 .bf16 := shapeCast S128x128 v104 shapeCasts_S128x128_S128x128
  have v106 : FVec F S256x128 .bf16 := concatenate S256x128 0 [⟨S128x128, v103⟩, ⟨S128x128, v105⟩] concatenates_S128x128_S128x128_S256x128_d0
  v106

noncomputable def k0_pay31 (v107 : Vec F S128x128 .bf16) (v109 : Vec F S128x128 .bf16) : FVec F S256x128 .bf16 :=
  have v108 : FVec F S128x128 .bf16 := shapeCast S128x128 v107 shapeCasts_S128x128_S128x128
  have v110 : FVec F S128x128 .bf16 := shapeCast S128x128 v109 shapeCasts_S128x128_S128x128
  have v111 : FVec F S256x128 .bf16 := concatenate S256x128 0 [⟨S128x128, v108⟩, ⟨S128x128, v110⟩] concatenates_S128x128_S128x128_S256x128_d0
  v111

noncomputable def k0_pay32 (v98 : Vec F S128x128 .bf16) (v102 : Vec F S128x128 .bf16) (v104 : Vec F S128x128 .bf16) (v113 : Vec F S128x128 .f32) : FVec F S128x256 .f32 :=
  have cst_65 : FVec F S128x256 .f32 := constant S128x256 .f32 0x00000000#32
  have v112 : FVec F S128x256 .f32 := matmul dot_S128x128_S256x128_S128x256_1_1_0_0_n_n none (k0_pay28 v98) (k0_pay30 v102 v104) cst_65
  have v114 : FVec F S128x128 .f32 := shapeCast S128x128 v113 shapeCasts_S128x128_S128x128
  have v115 : FVec F S128x256 .f32 := concatenate S128x256 1 [⟨S128x128, v114⟩, ⟨S128x128, v114⟩] concatenates_S128x128_S128x128_S128x256_d1
  have v116 : FVec F S128x256 .f32 := subf v112 v115
  have v117 : FVec F S128x256 .f32 := exp v116
  v117

noncomputable def k0_pay33 : FVec F S128x256 .f32 :=
  have cst_68 : F .f32 := Scalar.ofBits .f32 0x00000000#32
  have v118 : FVec F S128x256 .f32 := broadcast S128x256 cst_68
  v118

noncomputable def k0_pay34 (v23 : IVec S128x256 1) (v117 : FVec F S128x256 .f32) (v118 : FVec F S128x256 .f32) : FVec F S128x256 .f32 :=
  have v119 : FVec F S128x256 .f32 := select v23 v117 v118
  v119

noncomputable def k0_pay35 (v23 : IVec S128x256 1) (v101 : FVec F S128x128 .bf16) (v111 : FVec F S256x128 .bf16) (v117 : FVec F S128x256 .f32) (v118 : FVec F S128x256 .f32) (v121 : Vec F S128x128 .f32) : FVec F S128x256 .bf16 :=
  have cst_69 : FVec F S128x256 .f32 := constant S128x256 .f32 0x00000000#32
  have v120 : FVec F S128x256 .f32 := matmul dot_S128x128_S256x128_S128x256_1_1_0_0_n_n none v101 v111 cst_69
  have v122 : FVec F S128x128 .f32 := shapeCast S128x128 v121 shapeCasts_S128x128_S128x128
  have v123 : FVec F S128x256 .f32 := concatenate S128x256 1 [⟨S128x128, v122⟩, ⟨S128x128, v122⟩] concatenates_S128x128_S128x128_S128x256_d1
  have v124 : FVec F S128x256 .f32 := subf v120 v123
  have v125 : FVec F S128x256 .f32 := mulf (k0_pay34 v23 v117 v118) v124
  have v126 : FVec F S128x256 .bf16 := truncf .bf16 v125 bitsLt_bf16_f32
  v126

noncomputable def k0_pay36 (v23 : IVec S128x256 1) (v101 : FVec F S128x128 .bf16) (v106 : FVec F S256x128 .bf16) (v111 : FVec F S256x128 .bf16) (v117 : FVec F S128x256 .f32) (v118 : FVec F S128x256 .f32) (v121 : Vec F S128x128 .f32) : FVec F S128x128 .bf16 :=
  have cst_72 : FVec F S128x128 .f32 := constant S128x128 .f32 0x00000000#32
  have v127 : FVec F S128x128 .f32 := matmul dot_S128x256_S256x128_S128x128_1_0_0_1_n_n none (k0_pay35 v23 v101 v111 v117 v118 v121) v106 cst_72
  have v128 : FVec F S128x128 .bf16 := truncf .bf16 v127 bitsLt_bf16_f32
  v128

noncomputable def k0_pay37 (v23 : IVec S128x256 1) (v99 : FVec F S128x128 .bf16) (v101 : FVec F S128x128 .bf16) (v111 : FVec F S256x128 .bf16) (v117 : FVec F S128x256 .f32) (v118 : FVec F S128x256 .f32) (v121 : Vec F S128x128 .f32) : FVec F S256x128 .f32 :=
  have cst_73 : FVec F S128x256 .f32 := constant S128x256 .f32 0x00000000#32
  have v129 : FVec F S128x256 .f32 := matmul dot_S128x128_S128x256_S128x256_0_0_1_1_n_n none v99 (k0_pay35 v23 v101 v111 v117 v118 v121) cst_73
  have v130 : FVec F S256x128 .f32 := transpose S256x128 [1, 0] v129 transposes_S128x256_p1_0_S256x128
  v130

noncomputable def k0_pay38 (v23 : IVec S128x256 1) (v101 : FVec F S128x128 .bf16) (v117 : FVec F S128x256 .f32) (v118 : FVec F S128x256 .f32) : FVec F S256x128 .f32 :=
  have v131 : FVec F S128x256 .bf16 := truncf .bf16 (k0_pay34 v23 v117 v118) bitsLt_bf16_f32
  have cst_74 : FVec F S128x256 .f32 := constant S128x256 .f32 0x00000000#32
  have v132 : FVec F S128x256 .f32 := matmul dot_S128x128_S128x256_S128x256_0_0_1_1_n_n none v101 v131 cst_74
  have v133 : FVec F S256x128 .f32 := transpose S256x128 [1, 0] v132 transposes_S128x256_p1_0_S256x128
  v133

noncomputable def k0_pay39 (v134 : Vec F S128x128 .bf16) : FVec F S128x128 .bf16 :=
  have v135 : FVec F S128x128 .bf16 := shapeCast S128x128 v134 shapeCasts_S128x128_S128x128
  v135

noncomputable def k0_pay40 (v136 : Vec F S128x128 .bf16) : FVec F S128x128 .bf16 :=
  have v137 : FVec F S128x128 .bf16 := shapeCast S128x128 v136 shapeCasts_S128x128_S128x128
  v137

noncomputable def k0_pay41 (v138 : Vec F S128x128 .bf16) (v140 : Vec F S128x128 .bf16) : FVec F S256x128 .bf16 :=
  have v139 : FVec F S128x128 .bf16 := shapeCast S128x128 v138 shapeCasts_S128x128_S128x128
  have v141 : FVec F S128x128 .bf16 := shapeCast S128x128 v140 shapeCasts_S128x128_S128x128
  have v142 : FVec F S256x128 .bf16 := concatenate S256x128 0 [⟨S128x128, v139⟩, ⟨S128x128, v141⟩] concatenates_S128x128_S128x128_S256x128_d0
  v142

noncomputable def k0_pay42 (v143 : Vec F S128x128 .bf16) (v145 : Vec F S128x128 .bf16) : FVec F S256x128 .bf16 :=
  have v144 : FVec F S128x128 .bf16 := shapeCast S128x128 v143 shapeCasts_S128x128_S128x128
  have v146 : FVec F S128x128 .bf16 := shapeCast S128x128 v145 shapeCasts_S128x128_S128x128
  have v147 : FVec F S256x128 .bf16 := concatenate S256x128 0 [⟨S128x128, v144⟩, ⟨S128x128, v146⟩] concatenates_S128x128_S128x128_S256x128_d0
  v147

noncomputable def k0_pay43 (v23 : IVec S128x256 1) (v134 : Vec F S128x128 .bf16) (v138 : Vec F S128x128 .bf16) (v140 : Vec F S128x128 .bf16) (v149 : Vec F S128x128 .f32) : FVec F S128x256 .f32 :=
  have cst_86 : FVec F S128x256 .f32 := constant S128x256 .f32 0x00000000#32
  have v148 : FVec F S128x256 .f32 := matmul dot_S128x128_S256x128_S128x256_1_1_0_0_n_n none (k0_pay39 v134) (k0_pay41 v138 v140) cst_86
  have v150 : FVec F S128x128 .f32 := shapeCast S128x128 v149 shapeCasts_S128x128_S128x128
  have v151 : FVec F S128x256 .f32 := concatenate S128x256 1 [⟨S128x128, v150⟩, ⟨S128x128, v150⟩] concatenates_S128x128_S128x128_S128x256_d1
  have v152 : FVec F S128x256 .f32 := subf v148 v151
  have v153 : FVec F S128x256 .f32 := exp v152
  have cst_89 : F .f32 := Scalar.ofBits .f32 0x00000000#32
  have v154 : FVec F S128x256 .f32 := broadcast S128x256 cst_89
  have v155 : FVec F S128x256 .f32 := select v23 v153 v154
  v155

noncomputable def k0_pay44 (v137 : FVec F S128x128 .bf16) (v147 : FVec F S256x128 .bf16) (v155 : FVec F S128x256 .f32) (cst_90 : FVec F S128x256 .f32) (v157 : Vec F S128x128 .f32) : FVec F S128x256 .bf16 :=
  have v156 : FVec F S128x256 .f32 := matmul dot_S128x128_S256x128_S128x256_1_1_0_0_n_n none v137 v147 cst_90
  have v158 : FVec F S128x128 .f32 := shapeCast S128x128 v157 shapeCasts_S128x128_S128x128
  have v159 : FVec F S128x256 .f32 := concatenate S128x256 1 [⟨S128x128, v158⟩, ⟨S128x128, v158⟩] concatenates_S128x128_S128x128_S128x256_d1
  have v160 : FVec F S128x256 .f32 := subf v156 v159
  have v161 : FVec F S128x256 .f32 := mulf v155 v160
  have v162 : FVec F S128x256 .bf16 := truncf .bf16 v161 bitsLt_bf16_f32
  v162

noncomputable def k0_pay45 (v137 : FVec F S128x128 .bf16) (v142 : FVec F S256x128 .bf16) (v147 : FVec F S256x128 .bf16) (v155 : FVec F S128x256 .f32) (cst_90 : FVec F S128x256 .f32) (v157 : Vec F S128x128 .f32) : FVec F S128x128 .bf16 :=
  have cst_93 : FVec F S128x128 .f32 := constant S128x128 .f32 0x00000000#32
  have v163 : FVec F S128x128 .f32 := matmul dot_S128x256_S256x128_S128x128_1_0_0_1_n_n none (k0_pay44 v137 v147 v155 cst_90 v157) v142 cst_93
  have v164 : FVec F S128x128 .bf16 := truncf .bf16 v163 bitsLt_bf16_f32
  v164

noncomputable def k0_pay46 (v135 : FVec F S128x128 .bf16) (v137 : FVec F S128x128 .bf16) (v147 : FVec F S256x128 .bf16) (v155 : FVec F S128x256 .f32) (cst_90 : FVec F S128x256 .f32) (v157 : Vec F S128x128 .f32) : FVec F S256x128 .f32 :=
  have cst_94 : FVec F S128x256 .f32 := constant S128x256 .f32 0x00000000#32
  have v165 : FVec F S128x256 .f32 := matmul dot_S128x128_S128x256_S128x256_0_0_1_1_n_n none v135 (k0_pay44 v137 v147 v155 cst_90 v157) cst_94
  have v166 : FVec F S256x128 .f32 := transpose S256x128 [1, 0] v165 transposes_S128x256_p1_0_S256x128
  v166

noncomputable def k0_pay47 (v137 : FVec F S128x128 .bf16) (v155 : FVec F S128x256 .f32) : FVec F S256x128 .f32 :=
  have v167 : FVec F S128x256 .bf16 := truncf .bf16 v155 bitsLt_bf16_f32
  have cst_95 : FVec F S128x256 .f32 := constant S128x256 .f32 0x00000000#32
  have v168 : FVec F S128x256 .f32 := matmul dot_S128x128_S128x256_S128x256_0_0_1_1_n_n none v137 v167 cst_95
  have v169 : FVec F S256x128 .f32 := transpose S256x128 [1, 0] v168 transposes_S128x256_p1_0_S256x128
  v169

noncomputable def k0_pay48 (v170 : Vec F S128x128 .bf16) : FVec F S128x128 .bf16 :=
  have v171 : FVec F S128x128 .bf16 := shapeCast S128x128 v170 shapeCasts_S128x128_S128x128
  v171

noncomputable def k0_pay49 (v172 : Vec F S128x128 .bf16) : FVec F S128x128 .bf16 :=
  have v173 : FVec F S128x128 .bf16 := shapeCast S128x128 v172 shapeCasts_S128x128_S128x128
  v173

noncomputable def k0_pay50 (v174 : Vec F S128x128 .bf16) (v176 : Vec F S128x128 .bf16) : FVec F S256x128 .bf16 :=
  have v175 : FVec F S128x128 .bf16 := shapeCast S128x128 v174 shapeCasts_S128x128_S128x128
  have v177 : FVec F S128x128 .bf16 := shapeCast S128x128 v176 shapeCasts_S128x128_S128x128
  have v178 : FVec F S256x128 .bf16 := concatenate S256x128 0 [⟨S128x128, v175⟩, ⟨S128x128, v177⟩] concatenates_S128x128_S128x128_S256x128_d0
  v178

noncomputable def k0_pay51 (v23 : IVec S128x256 1) (v170 : Vec F S128x128 .bf16) (v174 : Vec F S128x128 .bf16) (v176 : Vec F S128x128 .bf16) (v185 : Vec F S128x128 .f32) : FVec F S128x256 .f32 :=
  have cst_107 : FVec F S128x256 .f32 := constant S128x256 .f32 0x00000000#32
  have v184 : FVec F S128x256 .f32 := matmul dot_S128x128_S256x128_S128x256_1_1_0_0_n_n none (k0_pay48 v170) (k0_pay50 v174 v176) cst_107
  have v186 : FVec F S128x128 .f32 := shapeCast S128x128 v185 shapeCasts_S128x128_S128x128
  have v187 : FVec F S128x256 .f32 := concatenate S128x256 1 [⟨S128x128, v186⟩, ⟨S128x128, v186⟩] concatenates_S128x128_S128x128_S128x256_d1
  have v188 : FVec F S128x256 .f32 := subf v184 v187
  have v189 : FVec F S128x256 .f32 := exp v188
  have cst_110 : F .f32 := Scalar.ofBits .f32 0x00000000#32
  have v190 : FVec F S128x256 .f32 := broadcast S128x256 cst_110
  have v191 : FVec F S128x256 .f32 := select v23 v189 v190
  v191

noncomputable def k0_pay52 (v172 : Vec F S128x128 .bf16) (v179 : Vec F S128x128 .bf16) (v181 : Vec F S128x128 .bf16) : FVec F S128x256 .f32 :=
  have v180 : FVec F S128x128 .bf16 := shapeCast S128x128 v179 shapeCasts_S128x128_S128x128
  have v182 : FVec F S128x128 .bf16 := shapeCast S128x128 v181 shapeCasts_S128x128_S128x128
  have v183 : FVec F S256x128 .bf16 := concatenate S256x128 0 [⟨S128x128, v180⟩, ⟨S128x128, v182⟩] concatenates_S128x128_S128x128_S256x128_d0
  have cst_111 : FVec F S128x256 .f32 := constant S128x256 .f32 0x00000000#32
  have v192 : FVec F S128x256 .f32 := matmul dot_S128x128_S256x128_S128x256_1_1_0_0_n_n none (k0_pay49 v172) v183 cst_111
  v192

noncomputable def k0_pay53 (v191 : FVec F S128x256 .f32) (v192 : FVec F S128x256 .f32) (v193 : Vec F S128x128 .f32) : FVec F S128x256 .bf16 :=
  have v194 : FVec F S128x128 .f32 := shapeCast S128x128 v193 shapeCasts_S128x128_S128x128
  have v195 : FVec F S128x256 .f32 := concatenate S128x256 1 [⟨S128x128, v194⟩, ⟨S128x128, v194⟩] concatenates_S128x128_S128x128_S128x256_d1
  have v196 : FVec F S128x256 .f32 := subf v192 v195
  have v197 : FVec F S128x256 .f32 := mulf v191 v196
  have v198 : FVec F S128x256 .bf16 := truncf .bf16 v197 bitsLt_bf16_f32
  v198

noncomputable def k0_pay54 (v178 : FVec F S256x128 .bf16) (v191 : FVec F S128x256 .f32) (v192 : FVec F S128x256 .f32) (v193 : Vec F S128x128 .f32) : FVec F S128x128 .bf16 :=
  have cst_114 : FVec F S128x128 .f32 := constant S128x128 .f32 0x00000000#32
  have v199 : FVec F S128x128 .f32 := matmul dot_S128x256_S256x128_S128x128_1_0_0_1_n_n none (k0_pay53 v191 v192 v193) v178 cst_114
  have v200 : FVec F S128x128 .bf16 := truncf .bf16 v199 bitsLt_bf16_f32
  v200

noncomputable def k0_pay55 (v171 : FVec F S128x128 .bf16) (v191 : FVec F S128x256 .f32) (v192 : FVec F S128x256 .f32) (v193 : Vec F S128x128 .f32) : FVec F S256x128 .f32 :=
  have cst_115 : FVec F S128x256 .f32 := constant S128x256 .f32 0x00000000#32
  have v201 : FVec F S128x256 .f32 := matmul dot_S128x128_S128x256_S128x256_0_0_1_1_n_n none v171 (k0_pay53 v191 v192 v193) cst_115
  have v202 : FVec F S256x128 .f32 := transpose S256x128 [1, 0] v201 transposes_S128x256_p1_0_S256x128
  v202

noncomputable def k0_pay56 (v173 : FVec F S128x128 .bf16) (v191 : FVec F S128x256 .f32) : FVec F S256x128 .f32 :=
  have v203 : FVec F S128x256 .bf16 := truncf .bf16 v191 bitsLt_bf16_f32
  have cst_116 : FVec F S128x256 .f32 := constant S128x256 .f32 0x00000000#32
  have v204 : FVec F S128x256 .f32 := matmul dot_S128x128_S128x256_S128x256_0_0_1_1_n_n none v173 v203 cst_116
  have v205 : FVec F S256x128 .f32 := transpose S256x128 [1, 0] v204 transposes_S128x256_p1_0_S256x128
  v205

noncomputable def k0_pay57 (v206 : Vec F S128x128 .bf16) : FVec F S128x128 .bf16 :=
  have v207 : FVec F S128x128 .bf16 := shapeCast S128x128 v206 shapeCasts_S128x128_S128x128
  v207

noncomputable def k0_pay58 (v208 : Vec F S128x128 .bf16) : FVec F S128x128 .bf16 :=
  have v209 : FVec F S128x128 .bf16 := shapeCast S128x128 v208 shapeCasts_S128x128_S128x128
  v209

noncomputable def k0_pay59 (v210 : Vec F S128x128 .bf16) (v212 : Vec F S128x128 .bf16) : FVec F S256x128 .bf16 :=
  have v211 : FVec F S128x128 .bf16 := shapeCast S128x128 v210 shapeCasts_S128x128_S128x128
  have v213 : FVec F S128x128 .bf16 := shapeCast S128x128 v212 shapeCasts_S128x128_S128x128
  have v214 : FVec F S256x128 .bf16 := concatenate S256x128 0 [⟨S128x128, v211⟩, ⟨S128x128, v213⟩] concatenates_S128x128_S128x128_S256x128_d0
  v214

noncomputable def k0_pay60 (v23 : IVec S128x256 1) (v206 : Vec F S128x128 .bf16) (v210 : Vec F S128x128 .bf16) (v212 : Vec F S128x128 .bf16) (v221 : Vec F S128x128 .f32) : FVec F S128x256 .f32 :=
  have cst_128 : FVec F S128x256 .f32 := constant S128x256 .f32 0x00000000#32
  have v220 : FVec F S128x256 .f32 := matmul dot_S128x128_S256x128_S128x256_1_1_0_0_n_n none (k0_pay57 v206) (k0_pay59 v210 v212) cst_128
  have v222 : FVec F S128x128 .f32 := shapeCast S128x128 v221 shapeCasts_S128x128_S128x128
  have v223 : FVec F S128x256 .f32 := concatenate S128x256 1 [⟨S128x128, v222⟩, ⟨S128x128, v222⟩] concatenates_S128x128_S128x128_S128x256_d1
  have v224 : FVec F S128x256 .f32 := subf v220 v223
  have v225 : FVec F S128x256 .f32 := exp v224
  have cst_131 : F .f32 := Scalar.ofBits .f32 0x00000000#32
  have v226 : FVec F S128x256 .f32 := broadcast S128x256 cst_131
  have v227 : FVec F S128x256 .f32 := select v23 v225 v226
  v227

noncomputable def k0_pay61 (v208 : Vec F S128x128 .bf16) (v215 : Vec F S128x128 .bf16) (v217 : Vec F S128x128 .bf16) : FVec F S128x256 .f32 :=
  have v216 : FVec F S128x128 .bf16 := shapeCast S128x128 v215 shapeCasts_S128x128_S128x128
  have v218 : FVec F S128x128 .bf16 := shapeCast S128x128 v217 shapeCasts_S128x128_S128x128
  have v219 : FVec F S256x128 .bf16 := concatenate S256x128 0 [⟨S128x128, v216⟩, ⟨S128x128, v218⟩] concatenates_S128x128_S128x128_S256x128_d0
  have cst_132 : FVec F S128x256 .f32 := constant S128x256 .f32 0x00000000#32
  have v228 : FVec F S128x256 .f32 := matmul dot_S128x128_S256x128_S128x256_1_1_0_0_n_n none (k0_pay58 v208) v219 cst_132
  v228

noncomputable def k0_pay62 (v227 : FVec F S128x256 .f32) (v228 : FVec F S128x256 .f32) (v229 : Vec F S128x128 .f32) : FVec F S128x256 .bf16 :=
  have v230 : FVec F S128x128 .f32 := shapeCast S128x128 v229 shapeCasts_S128x128_S128x128
  have v231 : FVec F S128x256 .f32 := concatenate S128x256 1 [⟨S128x128, v230⟩, ⟨S128x128, v230⟩] concatenates_S128x128_S128x128_S128x256_d1
  have v232 : FVec F S128x256 .f32 := subf v228 v231
  have v233 : FVec F S128x256 .f32 := mulf v227 v232
  have v234 : FVec F S128x256 .bf16 := truncf .bf16 v233 bitsLt_bf16_f32
  v234

noncomputable def k0_pay63 (v214 : FVec F S256x128 .bf16) (v227 : FVec F S128x256 .f32) (v228 : FVec F S128x256 .f32) (v229 : Vec F S128x128 .f32) : FVec F S128x128 .bf16 :=
  have cst_135 : FVec F S128x128 .f32 := constant S128x128 .f32 0x00000000#32
  have v235 : FVec F S128x128 .f32 := matmul dot_S128x256_S256x128_S128x128_1_0_0_1_n_n none (k0_pay62 v227 v228 v229) v214 cst_135
  have v236 : FVec F S128x128 .bf16 := truncf .bf16 v235 bitsLt_bf16_f32
  v236

noncomputable def k0_pay64 (v207 : FVec F S128x128 .bf16) (v227 : FVec F S128x256 .f32) (v228 : FVec F S128x256 .f32) (v229 : Vec F S128x128 .f32) : FVec F S256x128 .f32 :=
  have cst_136 : FVec F S128x256 .f32 := constant S128x256 .f32 0x00000000#32
  have v237 : FVec F S128x256 .f32 := matmul dot_S128x128_S128x256_S128x256_0_0_1_1_n_n none v207 (k0_pay62 v227 v228 v229) cst_136
  have v238 : FVec F S256x128 .f32 := transpose S256x128 [1, 0] v237 transposes_S128x256_p1_0_S256x128
  v238

noncomputable def k0_pay65 (v209 : FVec F S128x128 .bf16) (v227 : FVec F S128x256 .f32) : FVec F S256x128 .f32 :=
  have v239 : FVec F S128x256 .bf16 := truncf .bf16 v227 bitsLt_bf16_f32
  have cst_137 : FVec F S128x256 .f32 := constant S128x256 .f32 0x00000000#32
  have v240 : FVec F S128x256 .f32 := matmul dot_S128x128_S128x256_S128x256_0_0_1_1_n_n none v209 v239 cst_137
  have v241 : FVec F S256x128 .f32 := transpose S256x128 [1, 0] v240 transposes_S128x256_p1_0_S256x128
  v241

noncomputable def k0_pay66 (v242 : Vec F S128x128 .bf16) : FVec F S128x128 .bf16 :=
  have v243 : FVec F S128x128 .bf16 := shapeCast S128x128 v242 shapeCasts_S128x128_S128x128
  v243

noncomputable def k0_pay67 (v244 : Vec F S128x128 .bf16) : FVec F S128x128 .bf16 :=
  have v245 : FVec F S128x128 .bf16 := shapeCast S128x128 v244 shapeCasts_S128x128_S128x128
  v245

noncomputable def k0_pay68 (v246 : Vec F S128x128 .bf16) (v248 : Vec F S128x128 .bf16) : FVec F S256x128 .bf16 :=
  have v247 : FVec F S128x128 .bf16 := shapeCast S128x128 v246 shapeCasts_S128x128_S128x128
  have v249 : FVec F S128x128 .bf16 := shapeCast S128x128 v248 shapeCasts_S128x128_S128x128
  have v250 : FVec F S256x128 .bf16 := concatenate S256x128 0 [⟨S128x128, v247⟩, ⟨S128x128, v249⟩] concatenates_S128x128_S128x128_S256x128_d0
  v250

noncomputable def k0_pay69 (v23 : IVec S128x256 1) (v242 : Vec F S128x128 .bf16) (v246 : Vec F S128x128 .bf16) (v248 : Vec F S128x128 .bf16) (v257 : Vec F S128x128 .f32) : FVec F S128x256 .f32 :=
  have cst_149 : FVec F S128x256 .f32 := constant S128x256 .f32 0x00000000#32
  have v256 : FVec F S128x256 .f32 := matmul dot_S128x128_S256x128_S128x256_1_1_0_0_n_n none (k0_pay66 v242) (k0_pay68 v246 v248) cst_149
  have v258 : FVec F S128x128 .f32 := shapeCast S128x128 v257 shapeCasts_S128x128_S128x128
  have v259 : FVec F S128x256 .f32 := concatenate S128x256 1 [⟨S128x128, v258⟩, ⟨S128x128, v258⟩] concatenates_S128x128_S128x128_S128x256_d1
  have v260 : FVec F S128x256 .f32 := subf v256 v259
  have v261 : FVec F S128x256 .f32 := exp v260
  have cst_152 : F .f32 := Scalar.ofBits .f32 0x00000000#32
  have v262 : FVec F S128x256 .f32 := broadcast S128x256 cst_152
  have v263 : FVec F S128x256 .f32 := select v23 v261 v262
  v263

noncomputable def k0_pay70 (v244 : Vec F S128x128 .bf16) (v251 : Vec F S128x128 .bf16) (v253 : Vec F S128x128 .bf16) : FVec F S128x256 .f32 :=
  have v252 : FVec F S128x128 .bf16 := shapeCast S128x128 v251 shapeCasts_S128x128_S128x128
  have v254 : FVec F S128x128 .bf16 := shapeCast S128x128 v253 shapeCasts_S128x128_S128x128
  have v255 : FVec F S256x128 .bf16 := concatenate S256x128 0 [⟨S128x128, v252⟩, ⟨S128x128, v254⟩] concatenates_S128x128_S128x128_S256x128_d0
  have cst_153 : FVec F S128x256 .f32 := constant S128x256 .f32 0x00000000#32
  have v264 : FVec F S128x256 .f32 := matmul dot_S128x128_S256x128_S128x256_1_1_0_0_n_n none (k0_pay67 v244) v255 cst_153
  v264

noncomputable def k0_pay71 (v265 : Vec F S128x128 .f32) : FVec F S128x256 .f32 :=
  have v266 : FVec F S128x128 .f32 := shapeCast S128x128 v265 shapeCasts_S128x128_S128x128
  have v267 : FVec F S128x256 .f32 := concatenate S128x256 1 [⟨S128x128, v266⟩, ⟨S128x128, v266⟩] concatenates_S128x128_S128x128_S128x256_d1
  v267

noncomputable def k0_pay72 (v263 : FVec F S128x256 .f32) (v264 : FVec F S128x256 .f32) (v267 : FVec F S128x256 .f32) : FVec F S128x256 .bf16 :=
  have v268 : FVec F S128x256 .f32 := subf v264 v267
  have v269 : FVec F S128x256 .f32 := mulf v263 v268
  have v270 : FVec F S128x256 .bf16 := truncf .bf16 v269 bitsLt_bf16_f32
  v270

noncomputable def k0_pay73 (v250 : FVec F S256x128 .bf16) (v263 : FVec F S128x256 .f32) (v264 : FVec F S128x256 .f32) (v267 : FVec F S128x256 .f32) : FVec F S128x128 .bf16 :=
  have cst_156 : FVec F S128x128 .f32 := constant S128x128 .f32 0x00000000#32
  have v271 : FVec F S128x128 .f32 := matmul dot_S128x256_S256x128_S128x128_1_0_0_1_n_n none (k0_pay72 v263 v264 v267) v250 cst_156
  have v272 : FVec F S128x128 .bf16 := truncf .bf16 v271 bitsLt_bf16_f32
  v272

noncomputable def k0_pay74 (v243 : FVec F S128x128 .bf16) (v263 : FVec F S128x256 .f32) (v264 : FVec F S128x256 .f32) (v267 : FVec F S128x256 .f32) : FVec F S256x128 .f32 :=
  have cst_157 : FVec F S128x256 .f32 := constant S128x256 .f32 0x00000000#32
  have v273 : FVec F S128x256 .f32 := matmul dot_S128x128_S128x256_S128x256_0_0_1_1_n_n none v243 (k0_pay72 v263 v264 v267) cst_157
  have v274 : FVec F S256x128 .f32 := transpose S256x128 [1, 0] v273 transposes_S128x256_p1_0_S256x128
  v274

noncomputable def k0_pay75 (v245 : FVec F S128x128 .bf16) (v263 : FVec F S128x256 .f32) : FVec F S256x128 .f32 :=
  have v275 : FVec F S128x256 .bf16 := truncf .bf16 v263 bitsLt_bf16_f32
  have cst_158 : FVec F S128x256 .f32 := constant S128x256 .f32 0x00000000#32
  have v276 : FVec F S128x256 .f32 := matmul dot_S128x128_S128x256_S128x256_0_0_1_1_n_n none v245 v275 cst_158
  have v277 : FVec F S256x128 .f32 := transpose S256x128 [1, 0] v276 transposes_S128x256_p1_0_S256x128
  v277

noncomputable def k0_pay76 (v278 : Vec F S128x128 .bf16) : FVec F S128x128 .bf16 :=
  have v279 : FVec F S128x128 .bf16 := shapeCast S128x128 v278 shapeCasts_S128x128_S128x128
  v279

noncomputable def k0_pay77 (v280 : Vec F S128x128 .bf16) : FVec F S128x128 .bf16 :=
  have v281 : FVec F S128x128 .bf16 := shapeCast S128x128 v280 shapeCasts_S128x128_S128x128
  v281

noncomputable def k0_pay78 (v282 : Vec F S128x128 .bf16) (v284 : Vec F S128x128 .bf16) : FVec F S256x128 .bf16 :=
  have v283 : FVec F S128x128 .bf16 := shapeCast S128x128 v282 shapeCasts_S128x128_S128x128
  have v285 : FVec F S128x128 .bf16 := shapeCast S128x128 v284 shapeCasts_S128x128_S128x128
  have v286 : FVec F S256x128 .bf16 := concatenate S256x128 0 [⟨S128x128, v283⟩, ⟨S128x128, v285⟩] concatenates_S128x128_S128x128_S256x128_d0
  v286

noncomputable def k0_pay79 (v23 : IVec S128x256 1) (v278 : Vec F S128x128 .bf16) (v282 : Vec F S128x128 .bf16) (v284 : Vec F S128x128 .bf16) (v293 : Vec F S128x128 .f32) : FVec F S128x256 .f32 :=
  have cst_170 : FVec F S128x256 .f32 := constant S128x256 .f32 0x00000000#32
  have v292 : FVec F S128x256 .f32 := matmul dot_S128x128_S256x128_S128x256_1_1_0_0_n_n none (k0_pay76 v278) (k0_pay78 v282 v284) cst_170
  have v294 : FVec F S128x128 .f32 := shapeCast S128x128 v293 shapeCasts_S128x128_S128x128
  have v295 : FVec F S128x256 .f32 := concatenate S128x256 1 [⟨S128x128, v294⟩, ⟨S128x128, v294⟩] concatenates_S128x128_S128x128_S128x256_d1
  have v296 : FVec F S128x256 .f32 := subf v292 v295
  have v297 : FVec F S128x256 .f32 := exp v296
  have cst_173 : F .f32 := Scalar.ofBits .f32 0x00000000#32
  have v298 : FVec F S128x256 .f32 := broadcast S128x256 cst_173
  have v299 : FVec F S128x256 .f32 := select v23 v297 v298
  v299

noncomputable def k0_pay80 (v23 : IVec S128x256 1) (v278 : Vec F S128x128 .bf16) (v280 : Vec F S128x128 .bf16) (v282 : Vec F S128x128 .bf16) (v284 : Vec F S128x128 .bf16) (v287 : Vec F S128x128 .bf16) (v289 : Vec F S128x128 .bf16) (v293 : Vec F S128x128 .f32) (v301 : Vec F S128x128 .f32) : FVec F S128x256 .f32 :=
  have v288 : FVec F S128x128 .bf16 := shapeCast S128x128 v287 shapeCasts_S128x128_S128x128
  have v290 : FVec F S128x128 .bf16 := shapeCast S128x128 v289 shapeCasts_S128x128_S128x128
  have v291 : FVec F S256x128 .bf16 := concatenate S256x128 0 [⟨S128x128, v288⟩, ⟨S128x128, v290⟩] concatenates_S128x128_S128x128_S256x128_d0
  have cst_174 : FVec F S128x256 .f32 := constant S128x256 .f32 0x00000000#32
  have v300 : FVec F S128x256 .f32 := matmul dot_S128x128_S256x128_S128x256_1_1_0_0_n_n none (k0_pay77 v280) v291 cst_174
  have v302 : FVec F S128x128 .f32 := shapeCast S128x128 v301 shapeCasts_S128x128_S128x128
  have v303 : FVec F S128x256 .f32 := concatenate S128x256 1 [⟨S128x128, v302⟩, ⟨S128x128, v302⟩] concatenates_S128x128_S128x128_S128x256_d1
  have v304 : FVec F S128x256 .f32 := subf v300 v303
  have v305 : FVec F S128x256 .f32 := mulf (k0_pay79 v23 v278 v282 v284 v293) v304
  v305

noncomputable def k0_pay81 (v305 : FVec F S128x256 .f32) : FVec F S128x256 .bf16 :=
  have v306 : FVec F S128x256 .bf16 := truncf .bf16 v305 bitsLt_bf16_f32
  v306

noncomputable def k0_pay82 (v279 : FVec F S128x128 .bf16) (v305 : FVec F S128x256 .f32) : FVec F S256x128 .f32 :=
  have cst_178 : FVec F S128x256 .f32 := constant S128x256 .f32 0x00000000#32
  have v309 : FVec F S128x256 .f32 := matmul dot_S128x128_S128x256_S128x256_0_0_1_1_n_n none v279 (k0_pay81 v305) cst_178
  have v310 : FVec F S256x128 .f32 := transpose S256x128 [1, 0] v309 transposes_S128x256_p1_0_S256x128
  v310

noncomputable def k0_pay83 (v281 : FVec F S128x128 .bf16) (v299 : FVec F S128x256 .f32) : FVec F S256x128 .f32 :=
  have v311 : FVec F S128x256 .bf16 := truncf .bf16 v299 bitsLt_bf16_f32
  have cst_179 : FVec F S128x256 .f32 := constant S128x256 .f32 0x00000000#32
  have v312 : FVec F S128x256 .f32 := matmul dot_S128x128_S128x256_S128x256_0_0_1_1_n_n none v281 v311 cst_179
  have v313 : FVec F S256x128 .f32 := transpose S256x128 [1, 0] v312 transposes_S128x256_p1_0_S256x128
  v313

noncomputable def k0_pay84 (v56 : FVec F S128x128 .bf16) (v92 : FVec F S128x128 .bf16) (v128 : FVec F S128x128 .bf16) (v164 : FVec F S128x128 .bf16) (v200 : FVec F S128x128 .bf16) (v236 : FVec F S128x128 .bf16) (v272 : FVec F S128x128 .bf16) (v286 : FVec F S256x128 .bf16) (v305 : FVec F S128x256 .f32) : FVec F S128x1024 .bf16 :=
  have cst_177 : FVec F S128x128 .f32 := constant S128x128 .f32 0x00000000#32
  have v307 : FVec F S128x128 .f32 := matmul dot_S128x256_S256x128_S128x128_1_0_0_1_n_n none (k0_pay81 v305) v286 cst_177
  have v308 : FVec F S128x128 .bf16 := truncf .bf16 v307 bitsLt_bf16_f32
  have v314 : FVec F S128x1024 .bf16 := concatenate S128x1024 1 [⟨S128x128, v56⟩, ⟨S128x128, v92⟩, ⟨S128x128, v128⟩, ⟨S128x128, v164⟩, ⟨S128x128, v200⟩, ⟨S128x128, v236⟩, ⟨S128x128, v272⟩, ⟨S128x128, v308⟩] concatenates_S128x128_S128x128_S128x128_S128x128_S128x128_S128x128_S128x128_S128x128_S128x1024_d1
  v314

noncomputable def k0_pay85 (v24 : Vec F S128x1024 .f32) (v58 : FVec F S256x128 .f32) (v94 : FVec F S256x128 .f32) (v130 : FVec F S256x128 .f32) (v166 : FVec F S256x128 .f32) (v202 : FVec F S256x128 .f32) (v238 : FVec F S256x128 .f32) (v274 : FVec F S256x128 .f32) (v279 : FVec F S128x128 .bf16) (v305 : FVec F S128x256 .f32) : FVec F S128x1024 .bf16 :=
  have v316 : FVec F S128x128 .f32 := extractStridedSlice S128x128 ![0, 0] v58 slices_S256x128_o0_0_S128x128
  have v317 : FVec F S128x128 .f32 := extractStridedSlice S128x128 ![0, 0] v94 slices_S256x128_o0_0_S128x128
  have v318 : FVec F S128x128 .f32 := extractStridedSlice S128x128 ![0, 0] v130 slices_S256x128_o0_0_S128x128
  have v319 : FVec F S128x128 .f32 := extractStridedSlice S128x128 ![0, 0] v166 slices_S256x128_o0_0_S128x128
  have v320 : FVec F S128x128 .f32 := extractStridedSlice S128x128 ![0, 0] v202 slices_S256x128_o0_0_S128x128
  have v321 : FVec F S128x128 .f32 := extractStridedSlice S128x128 ![0, 0] v238 slices_S256x128_o0_0_S128x128
  have v322 : FVec F S128x128 .f32 := extractStridedSlice S128x128 ![0, 0] v274 slices_S256x128_o0_0_S128x128
  have v323 : FVec F S128x128 .f32 := extractStridedSlice S128x128 ![0, 0] (k0_pay82 v279 v305) slices_S256x128_o0_0_S128x128
  have v324 : FVec F S128x1024 .f32 := concatenate S128x1024 1 [⟨S128x128, v316⟩, ⟨S128x128, v317⟩, ⟨S128x128, v318⟩, ⟨S128x128, v319⟩, ⟨S128x128, v320⟩, ⟨S128x128, v321⟩, ⟨S128x128, v322⟩, ⟨S128x128, v323⟩] concatenates_S128x128_S128x128_S128x128_S128x128_S128x128_S128x128_S128x128_S128x128_S128x1024_d1
  have v325 : FVec F S128x1024 .f32 := addf v24 v324
  have v326 : FVec F S128x1024 .bf16 := truncf .bf16 v325 bitsLt_bf16_f32
  v326

noncomputable def k0_pay86 (v25 : Vec F S128x1024 .f32) (v61 : FVec F S256x128 .f32) (v97 : FVec F S256x128 .f32) (v133 : FVec F S256x128 .f32) (v169 : FVec F S256x128 .f32) (v205 : FVec F S256x128 .f32) (v241 : FVec F S256x128 .f32) (v277 : FVec F S256x128 .f32) (v281 : FVec F S128x128 .bf16) (v299 : FVec F S128x256 .f32) : FVec F S128x1024 .bf16 :=
  have v328 : FVec F S128x128 .f32 := extractStridedSlice S128x128 ![0, 0] v61 slices_S256x128_o0_0_S128x128
  have v329 : FVec F S128x128 .f32 := extractStridedSlice S128x128 ![0, 0] v97 slices_S256x128_o0_0_S128x128
  have v330 : FVec F S128x128 .f32 := extractStridedSlice S128x128 ![0, 0] v133 slices_S256x128_o0_0_S128x128
  have v331 : FVec F S128x128 .f32 := extractStridedSlice S128x128 ![0, 0] v169 slices_S256x128_o0_0_S128x128
  have v332 : FVec F S128x128 .f32 := extractStridedSlice S128x128 ![0, 0] v205 slices_S256x128_o0_0_S128x128
  have v333 : FVec F S128x128 .f32 := extractStridedSlice S128x128 ![0, 0] v241 slices_S256x128_o0_0_S128x128
  have v334 : FVec F S128x128 .f32 := extractStridedSlice S128x128 ![0, 0] v277 slices_S256x128_o0_0_S128x128
  have v335 : FVec F S128x128 .f32 := extractStridedSlice S128x128 ![0, 0] (k0_pay83 v281 v299) slices_S256x128_o0_0_S128x128
  have v336 : FVec F S128x1024 .f32 := concatenate S128x1024 1 [⟨S128x128, v328⟩, ⟨S128x128, v329⟩, ⟨S128x128, v330⟩, ⟨S128x128, v331⟩, ⟨S128x128, v332⟩, ⟨S128x128, v333⟩, ⟨S128x128, v334⟩, ⟨S128x128, v335⟩] concatenates_S128x128_S128x128_S128x128_S128x128_S128x128_S128x128_S128x128_S128x128_S128x1024_d1
  have v337 : FVec F S128x1024 .f32 := addf v25 v336
  have v338 : FVec F S128x1024 .bf16 := truncf .bf16 v337 bitsLt_bf16_f32
  v338

noncomputable def k0_pay87 (v58 : FVec F S256x128 .f32) (v94 : FVec F S256x128 .f32) (v130 : FVec F S256x128 .f32) (v166 : FVec F S256x128 .f32) (v202 : FVec F S256x128 .f32) (v238 : FVec F S256x128 .f32) (v274 : FVec F S256x128 .f32) (v279 : FVec F S128x128 .bf16) (v305 : FVec F S128x256 .f32) : FVec F S128x1024 .f32 :=
  have v340 : FVec F S128x128 .f32 := extractStridedSlice S128x128 ![128, 0] v58 slices_S256x128_o128_0_S128x128
  have v341 : FVec F S128x128 .f32 := extractStridedSlice S128x128 ![128, 0] v94 slices_S256x128_o128_0_S128x128
  have v342 : FVec F S128x128 .f32 := extractStridedSlice S128x128 ![128, 0] v130 slices_S256x128_o128_0_S128x128
  have v343 : FVec F S128x128 .f32 := extractStridedSlice S128x128 ![128, 0] v166 slices_S256x128_o128_0_S128x128
  have v344 : FVec F S128x128 .f32 := extractStridedSlice S128x128 ![128, 0] v202 slices_S256x128_o128_0_S128x128
  have v345 : FVec F S128x128 .f32 := extractStridedSlice S128x128 ![128, 0] v238 slices_S256x128_o128_0_S128x128
  have v346 : FVec F S128x128 .f32 := extractStridedSlice S128x128 ![128, 0] v274 slices_S256x128_o128_0_S128x128
  have v347 : FVec F S128x128 .f32 := extractStridedSlice S128x128 ![128, 0] (k0_pay82 v279 v305) slices_S256x128_o128_0_S128x128
  have v348 : FVec F S128x1024 .f32 := concatenate S128x1024 1 [⟨S128x128, v340⟩, ⟨S128x128, v341⟩, ⟨S128x128, v342⟩, ⟨S128x128, v343⟩, ⟨S128x128, v344⟩, ⟨S128x128, v345⟩, ⟨S128x128, v346⟩, ⟨S128x128, v347⟩] concatenates_S128x128_S128x128_S128x128_S128x128_S128x128_S128x128_S128x128_S128x128_S128x1024_d1
  have v351 : FVec F S128x1024 .f32 := shapeCast S128x1024 v348 shapeCasts_S128x1024_S128x1024
  v351

noncomputable def cc0_attn_bwd_0_skel (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .f32) (harg13 : arg13.IsWhole) (arg14 : Memref sig .tc .vmem S128x1024 .f32) (harg14 : arg14.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v10 : Vec F S128x1024 .f32 ← Prog.lift (.load arg13 (Rect.unit (s := S128x1024) ![0, 0] S128x1024.size inb_S128x1024_S128x1024_0_0).toLoadRect (View.loadsAt_vmem h_S128x1024))
    Prog.lift (.store arg13 (Rect.unit (s := S128x1024) ![0, 0] S128x1024.size inb_S128x1024_S128x1024_0_0) (k0_pay1 (F := F)) Finset.univ (View.stores_vmem_bits_univ h_S128x1024 rfl) (.inl rfl))
    let v14 : Vec F S128x1024 .f32 ← Prog.lift (.load arg14 (Rect.unit (s := S128x1024) ![0, 0] S128x1024.size inb_S128x1024_S128x1024_0_0).toLoadRect (View.loadsAt_vmem h_S128x1024))
    Prog.lift (.store arg14 (Rect.unit (s := S128x1024) ![0, 0] S128x1024.size inb_S128x1024_S128x1024_0_0) (k0_pay2 (F := F)) Finset.univ (View.stores_vmem_bits_univ h_S128x1024 rfl) (.inl rfl))
    pure ⟨⟩
  else do
    pure ⟨⟩
  if k0_h2 : k0_cond2 i = 1#1 then do
    let ⟨v23, v24, v25, v27, v29, v34, v39, v40, v43⟩ : Σ' (v23 : IVec S128x256 1) (v24 : Vec F S128x1024 .f32) (v25 : Vec F S128x1024 .f32) (v27 : FVec F S128x128 .bf16) (v29 : FVec F S128x128 .bf16) (v34 : FVec F S256x128 .bf16) (v39 : FVec F S256x128 .bf16) (v40 : FVec F S128x256 .f32), FVec F S128x256 .f32 ← k0_part1 i arg2 harg2 arg3 harg3 arg4 harg4 arg5 harg5 arg6 harg6 arg7 harg7 arg8 harg8 arg9 harg9 arg10 harg10 arg11 harg11 arg12 harg12 arg13 harg13 arg14 harg14 arg1
    let ⟨v56, v58, v61, v63, v65, v70, v75, v81⟩ : Σ' (v56 : FVec F S128x128 .bf16) (v58 : FVec F S256x128 .f32) (v61 : FVec F S256x128 .f32) (v63 : FVec F S128x128 .bf16) (v65 : FVec F S128x128 .bf16) (v70 : FVec F S256x128 .bf16) (v75 : FVec F S256x128 .bf16), FVec F S128x256 .f32 ← k0_part2 i arg2 harg2 arg3 harg3 arg4 harg4 arg5 harg5 arg6 harg6 arg7 harg7 arg8 harg8 arg9 harg9 arg10 harg10 arg11 harg11 arg12 harg12 arg13 harg13 arg14 harg14 v23 v27 v29 v34 v39 v40 v43
    let ⟨v92, v94, v97, v99, v101, v106, v111, v117, v118⟩ : Σ' (v92 : FVec F S128x128 .bf16) (v94 : FVec F S256x128 .f32) (v97 : FVec F S256x128 .f32) (v99 : FVec F S128x128 .bf16) (v101 : FVec F S128x128 .bf16) (v106 : FVec F S256x128 .bf16) (v111 : FVec F S256x128 .bf16) (v117 : FVec F S128x256 .f32), FVec F S128x256 .f32 ← k0_part3 i arg2 harg2 arg3 harg3 arg4 harg4 arg5 harg5 arg6 harg6 arg7 harg7 arg8 harg8 arg9 harg9 arg10 harg10 arg11 harg11 arg12 harg12 arg13 harg13 arg14 harg14 v23 v63 v65 v70 v75 v81
    let ⟨v128, v130, v133, v135, v137, v142, v147, v155, cst_90⟩ : Σ' (v128 : FVec F S128x128 .bf16) (v130 : FVec F S256x128 .f32) (v133 : FVec F S256x128 .f32) (v135 : FVec F S128x128 .bf16) (v137 : FVec F S128x128 .bf16) (v142 : FVec F S256x128 .bf16) (v147 : FVec F S256x128 .bf16) (v155 : FVec F S128x256 .f32), FVec F S128x256 .f32 ← k0_part4 i arg2 harg2 arg3 harg3 arg4 harg4 arg5 harg5 arg6 harg6 arg7 harg7 arg8 harg8 arg9 harg9 arg10 harg10 arg11 harg11 arg12 harg12 arg13 harg13 arg14 harg14 v23 v99 v101 v106 v111 v117 v118
    let ⟨v164, v166, v169, v171, v173, v178, v191, v192⟩ : Σ' (v164 : FVec F S128x128 .bf16) (v166 : FVec F S256x128 .f32) (v169 : FVec F S256x128 .f32) (v171 : FVec F S128x128 .bf16) (v173 : FVec F S128x128 .bf16) (v178 : FVec F S256x128 .bf16) (v191 : FVec F S128x256 .f32), FVec F S128x256 .f32 ← k0_part5 i arg2 harg2 arg3 harg3 arg4 harg4 arg5 harg5 arg6 harg6 arg7 harg7 arg8 harg8 arg9 harg9 arg10 harg10 arg11 harg11 arg12 harg12 arg13 harg13 arg14 harg14 v23 v135 v137 v142 v147 v155 cst_90
    let ⟨v200, v202, v205, v207, v209, v214, v227, v228, v229⟩ : Σ' (v200 : FVec F S128x128 .bf16) (v202 : FVec F S256x128 .f32) (v205 : FVec F S256x128 .f32) (v207 : FVec F S128x128 .bf16) (v209 : FVec F S128x128 .bf16) (v214 : FVec F S256x128 .bf16) (v227 : FVec F S128x256 .f32) (v228 : FVec F S128x256 .f32), Vec F S128x128 .f32 ← k0_part6 i arg2 harg2 arg3 harg3 arg4 harg4 arg5 harg5 arg6 harg6 arg7 harg7 arg8 harg8 arg9 harg9 arg10 harg10 arg11 harg11 arg12 harg12 arg13 harg13 arg14 harg14 v23 v171 v173 v178 v191 v192
    let ⟨v236, v238, v241, v243, v245, v250, v263, v264, v267⟩ : Σ' (v236 : FVec F S128x128 .bf16) (v238 : FVec F S256x128 .f32) (v241 : FVec F S256x128 .f32) (v243 : FVec F S128x128 .bf16) (v245 : FVec F S128x128 .bf16) (v250 : FVec F S256x128 .bf16) (v263 : FVec F S128x256 .f32) (v264 : FVec F S128x256 .f32), FVec F S128x256 .f32 ← k0_part7 i arg2 harg2 arg3 harg3 arg4 harg4 arg5 harg5 arg6 harg6 arg7 harg7 arg8 harg8 arg9 harg9 arg10 harg10 arg11 harg11 arg12 harg12 arg13 harg13 arg14 harg14 v23 v207 v209 v214 v227 v228 v229
    let ⟨v272, v274, v277, v279, v281, v286, v299, v305⟩ : Σ' (v272 : FVec F S128x128 .bf16) (v274 : FVec F S256x128 .f32) (v277 : FVec F S256x128 .f32) (v279 : FVec F S128x128 .bf16) (v281 : FVec F S128x128 .bf16) (v286 : FVec F S256x128 .bf16) (v299 : FVec F S128x256 .f32), FVec F S128x256 .f32 ← k0_part8 i arg2 harg2 arg3 harg3 arg4 harg4 arg5 harg5 arg6 harg6 arg7 harg7 arg8 harg8 arg9 harg9 arg10 harg10 arg11 harg11 arg12 harg12 arg13 harg13 arg14 harg14 v23 v243 v245 v250 v263 v264 v267
    let ⟨v313, v351⟩ : Σ' (v313 : FVec F S256x128 .f32), FVec F S128x1024 .f32 ← k0_part9 i arg2 harg2 arg3 harg3 arg4 harg4 arg5 harg5 arg6 harg6 arg7 harg7 arg8 harg8 arg9 harg9 arg10 harg10 arg11 harg11 arg12 harg12 arg13 harg13 arg14 harg14 v24 v25 v56 v58 v61 v92 v94 v97 v128 v130 v133 v164 v166 v169 v200 v202 v205 v236 v238 v241 v272 v274 v277 v279 v281 v286 v299 v305
    Prog.lift (.store arg13 (Rect.unit (s := S128x1024) ![0, 0] S128x1024.size inb_S128x1024_S128x1024_0_0) v351 Finset.univ (View.stores_vmem_bits_univ h_S128x1024 rfl) (.inl rfl))
    let v361 : Vec F S128x1024 .f32 ← Prog.lift (.load arg14 (Rect.unit (s := S128x1024) ![0, 0] S128x1024.size inb_S128x1024_S128x1024_0_0).toLoadRect (View.loadsAt_vmem h_S128x1024))
    Prog.lift (.store arg14 (Rect.unit (s := S128x1024) ![0, 0] S128x1024.size inb_S128x1024_S128x1024_0_0) (k0_pay3 v61 v97 v133 v169 v205 v241 v277 v313) Finset.univ (View.stores_vmem_bits_univ h_S128x1024 rfl) (.inl rfl))
    pure ⟨⟩
  else do
    pure ⟨⟩
  if k0_h3 : k0_cond3 i = 1#1 then do
    let v9 : Vec F S128x1024 .f32 ← Prog.lift (.load arg13 (Rect.unit (s := S128x1024) ![0, 0] S128x1024.size inb_S128x1024_S128x1024_0_0).toLoadRect (View.loadsAt_vmem h_S128x1024))
    let v11 : Vec F S128x1024 .bf16 ← Prog.lift (.load arg11 (Rect.unit (s := S128x1024) ![0, 0] S128x1024.size inb_S128x1024_S128x1024_0_0).toLoadRect (View.loadsAt_vmem h_S128x1024))
    Prog.lift (.store arg11 (Rect.unit (s := S128x1024) ![0, 0] S128x1024.size inb_S128x1024_S128x1024_0_0) (k0_pay4 v9) Finset.univ (View.stores_vmem h_S128x1024 (harg11.storeExact_slice rfl _ packedbf16_S128x1024_S128x1024_0_0) (fun _ => rfl)) (.inl rfl))
    let v12 : Vec F S128x1024 .f32 ← Prog.lift (.load arg14 (Rect.unit (s := S128x1024) ![0, 0] S128x1024.size inb_S128x1024_S128x1024_0_0).toLoadRect (View.loadsAt_vmem h_S128x1024))
    let v14 : Vec F S128x1024 .bf16 ← Prog.lift (.load arg12 (Rect.unit (s := S128x1024) ![0, 0] S128x1024.size inb_S128x1024_S128x1024_0_0).toLoadRect (View.loadsAt_vmem h_S128x1024))
    Prog.lift (.store arg12 (Rect.unit (s := S128x1024) ![0, 0] S128x1024.size inb_S128x1024_S128x1024_0_0) (k0_pay5 v12) Finset.univ (View.stores_vmem h_S128x1024 (harg12.storeExact_slice rfl _ packedbf16_S128x1024_S128x1024_0_0) (fun _ => rfl)) (.inl rfl))
    pure ⟨⟩
  else do
    pure ⟨⟩
  pure ⟨⟩

set_option maxRecDepth 65536 in
theorem cc0_attn_bwd_0_eq_skeleton : cc0_attn_bwd_0 (F := F) = cc0_attn_bwd_0_skel (F := F) := rfl

noncomputable def k0_part1_skel (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .f32) (harg13 : arg13.IsWhole) (arg14 : Memref sig .tc .vmem S128x1024 .f32) (harg14 : arg14.IsWhole) (arg1 : BitVec 32) :
    Prog (TpuEff nD τ sig (Elt F) Λ₀ .tc) (Σ' (v23 : IVec S128x256 1) (v24 : Vec F S128x1024 .f32) (v25 : Vec F S128x1024 .f32) (v27 : FVec F S128x128 .bf16) (v29 : FVec F S128x128 .bf16) (v34 : FVec F S256x128 .bf16) (v39 : FVec F S256x128 .bf16) (v40 : FVec F S128x256 .f32), FVec F S128x256 .f32) := do
  let v24 : Vec F S128x1024 .f32 ← Prog.lift (.load arg13 (Rect.unit (s := S128x1024) ![0, 0] S128x1024.size inb_S128x1024_S128x1024_0_0).toLoadRect (View.loadsAt_vmem h_S128x1024))
  let v25 : Vec F S128x1024 .f32 ← Prog.lift (.load arg14 (Rect.unit (s := S128x1024) ![0, 0] S128x1024.size inb_S128x1024_S128x1024_0_0).toLoadRect (View.loadsAt_vmem h_S128x1024))
  let v26 : Vec F S128x128 .bf16 ← Prog.lift (.load arg2 (Rect.unit (s := S128x1024) ![0, 0] S128x128.size inb_S128x1024_S128x128_0_0).toLoadRect (View.loadsAt_vmem h_S128x128))
  let v28 : Vec F S128x128 .bf16 ← Prog.lift (.load arg7 (Rect.unit (s := S128x1024) ![0, 0] S128x128.size inb_S128x1024_S128x128_0_0).toLoadRect (View.loadsAt_vmem h_S128x128))
  let v30 : Vec F S128x128 .bf16 ← Prog.lift (.load arg4 (Rect.unit (s := S128x1024) ![0, 0] S128x128.size inb_S128x1024_S128x128_0_0).toLoadRect (View.loadsAt_vmem h_S128x128))
  let v32 : Vec F S128x128 .bf16 ← Prog.lift (.load arg3 (Rect.unit (s := S128x1024) ![0, 0] S128x128.size inb_S128x1024_S128x128_0_0).toLoadRect (View.loadsAt_vmem h_S128x128))
  let v35 : Vec F S128x128 .bf16 ← Prog.lift (.load arg6 (Rect.unit (s := S128x1024) ![0, 0] S128x128.size inb_S128x1024_S128x128_0_0).toLoadRect (View.loadsAt_vmem h_S128x128))
  let v37 : Vec F S128x128 .bf16 ← Prog.lift (.load arg5 (Rect.unit (s := S128x1024) ![0, 0] S128x128.size inb_S128x1024_S128x128_0_0).toLoadRect (View.loadsAt_vmem h_S128x128))
  let v41 : Vec F S128x128 .f32 ← Prog.lift (.load arg8 (Rect.unit (s := S128x1024) ![0, 0] S128x128.size inb_S128x1024_S128x128_0_0).toLoadRect (View.loadsAt_vmem h_S128x128))
  pure ⟨k0_pay6 arg1, v24, v25, k0_pay7 v26, k0_pay8 v28, k0_pay9 v30 v32, k0_pay10 v35 v37, k0_pay11 v26 v30 v32, k0_pay12 v41⟩

set_option maxRecDepth 65536 in
theorem k0_part1_eq_skeleton : k0_part1 (F := F) = k0_part1_skel (F := F) := rfl

noncomputable def k0_part2_skel (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .f32) (harg13 : arg13.IsWhole) (arg14 : Memref sig .tc .vmem S128x1024 .f32) (harg14 : arg14.IsWhole) (v23 : IVec S128x256 1) (v27 : FVec F S128x128 .bf16) (v29 : FVec F S128x128 .bf16) (v34 : FVec F S256x128 .bf16) (v39 : FVec F S256x128 .bf16) (v40 : FVec F S128x256 .f32) (v43 : FVec F S128x256 .f32) :
    Prog (TpuEff nD τ sig (Elt F) Λ₀ .tc) (Σ' (v56 : FVec F S128x128 .bf16) (v58 : FVec F S256x128 .f32) (v61 : FVec F S256x128 .f32) (v63 : FVec F S128x128 .bf16) (v65 : FVec F S128x128 .bf16) (v70 : FVec F S256x128 .bf16) (v75 : FVec F S256x128 .bf16), FVec F S128x256 .f32) := do
  let v49 : Vec F S128x128 .f32 ← Prog.lift (.load arg9 (Rect.unit (s := S128x1024) ![0, 0] S128x128.size inb_S128x1024_S128x128_0_0).toLoadRect (View.loadsAt_vmem h_S128x128))
  let v62 : Vec F S128x128 .bf16 ← Prog.lift (.load arg2 (Rect.unit (s := S128x1024) ![0, 128] S128x128.size inb_S128x1024_S128x128_0_128).toLoadRect (View.loadsAt_vmem h_S128x128))
  let v64 : Vec F S128x128 .bf16 ← Prog.lift (.load arg7 (Rect.unit (s := S128x1024) ![0, 128] S128x128.size inb_S128x1024_S128x128_0_128).toLoadRect (View.loadsAt_vmem h_S128x128))
  let v66 : Vec F S128x128 .bf16 ← Prog.lift (.load arg4 (Rect.unit (s := S128x1024) ![0, 128] S128x128.size inb_S128x1024_S128x128_0_128).toLoadRect (View.loadsAt_vmem h_S128x128))
  let v68 : Vec F S128x128 .bf16 ← Prog.lift (.load arg3 (Rect.unit (s := S128x1024) ![0, 128] S128x128.size inb_S128x1024_S128x128_0_128).toLoadRect (View.loadsAt_vmem h_S128x128))
  let v71 : Vec F S128x128 .bf16 ← Prog.lift (.load arg6 (Rect.unit (s := S128x1024) ![0, 128] S128x128.size inb_S128x1024_S128x128_0_128).toLoadRect (View.loadsAt_vmem h_S128x128))
  let v73 : Vec F S128x128 .bf16 ← Prog.lift (.load arg5 (Rect.unit (s := S128x1024) ![0, 128] S128x128.size inb_S128x1024_S128x128_0_128).toLoadRect (View.loadsAt_vmem h_S128x128))
  let v77 : Vec F S128x128 .f32 ← Prog.lift (.load arg8 (Rect.unit (s := S128x1024) ![0, 128] S128x128.size inb_S128x1024_S128x128_0_128).toLoadRect (View.loadsAt_vmem h_S128x128))
  pure ⟨k0_pay15 v23 v29 v34 v39 v40 v43 v49, k0_pay16 v23 v27 v29 v39 v40 v43 v49, k0_pay17 v23 v29 v40 v43, k0_pay18 v62, k0_pay19 v64, k0_pay20 v66 v68, k0_pay21 v71 v73, k0_pay22 v62 v66 v68 v77⟩

set_option maxRecDepth 65536 in
theorem k0_part2_eq_skeleton : k0_part2 (F := F) = k0_part2_skel (F := F) := rfl

noncomputable def k0_part3_skel (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .f32) (harg13 : arg13.IsWhole) (arg14 : Memref sig .tc .vmem S128x1024 .f32) (harg14 : arg14.IsWhole) (v23 : IVec S128x256 1) (v63 : FVec F S128x128 .bf16) (v65 : FVec F S128x128 .bf16) (v70 : FVec F S256x128 .bf16) (v75 : FVec F S256x128 .bf16) (v81 : FVec F S128x256 .f32) :
    Prog (TpuEff nD τ sig (Elt F) Λ₀ .tc) (Σ' (v92 : FVec F S128x128 .bf16) (v94 : FVec F S256x128 .f32) (v97 : FVec F S256x128 .f32) (v99 : FVec F S128x128 .bf16) (v101 : FVec F S128x128 .bf16) (v106 : FVec F S256x128 .bf16) (v111 : FVec F S256x128 .bf16) (v117 : FVec F S128x256 .f32), FVec F S128x256 .f32) := do
  let v85 : Vec F S128x128 .f32 ← Prog.lift (.load arg9 (Rect.unit (s := S128x1024) ![0, 128] S128x128.size inb_S128x1024_S128x128_0_128).toLoadRect (View.loadsAt_vmem h_S128x128))
  let v98 : Vec F S128x128 .bf16 ← Prog.lift (.load arg2 (Rect.unit (s := S128x1024) ![0, 256] S128x128.size inb_S128x1024_S128x128_0_256).toLoadRect (View.loadsAt_vmem h_S128x128))
  let v100 : Vec F S128x128 .bf16 ← Prog.lift (.load arg7 (Rect.unit (s := S128x1024) ![0, 256] S128x128.size inb_S128x1024_S128x128_0_256).toLoadRect (View.loadsAt_vmem h_S128x128))
  let v102 : Vec F S128x128 .bf16 ← Prog.lift (.load arg4 (Rect.unit (s := S128x1024) ![0, 256] S128x128.size inb_S128x1024_S128x128_0_256).toLoadRect (View.loadsAt_vmem h_S128x128))
  let v104 : Vec F S128x128 .bf16 ← Prog.lift (.load arg3 (Rect.unit (s := S128x1024) ![0, 256] S128x128.size inb_S128x1024_S128x128_0_256).toLoadRect (View.loadsAt_vmem h_S128x128))
  let v107 : Vec F S128x128 .bf16 ← Prog.lift (.load arg6 (Rect.unit (s := S128x1024) ![0, 256] S128x128.size inb_S128x1024_S128x128_0_256).toLoadRect (View.loadsAt_vmem h_S128x128))
  let v109 : Vec F S128x128 .bf16 ← Prog.lift (.load arg5 (Rect.unit (s := S128x1024) ![0, 256] S128x128.size inb_S128x1024_S128x128_0_256).toLoadRect (View.loadsAt_vmem h_S128x128))
  let v113 : Vec F S128x128 .f32 ← Prog.lift (.load arg8 (Rect.unit (s := S128x1024) ![0, 256] S128x128.size inb_S128x1024_S128x128_0_256).toLoadRect (View.loadsAt_vmem h_S128x128))
  pure ⟨k0_pay25 v23 v65 v70 v75 v81 v85, k0_pay26 v23 v63 v65 v75 v81 v85, k0_pay27 v23 v65 v81, k0_pay28 v98, k0_pay29 v100, k0_pay30 v102 v104, k0_pay31 v107 v109, k0_pay32 v98 v102 v104 v113, k0_pay33 (F := F)⟩

set_option maxRecDepth 65536 in
theorem k0_part3_eq_skeleton : k0_part3 (F := F) = k0_part3_skel (F := F) := rfl

noncomputable def k0_part4_skel (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .f32) (harg13 : arg13.IsWhole) (arg14 : Memref sig .tc .vmem S128x1024 .f32) (harg14 : arg14.IsWhole) (v23 : IVec S128x256 1) (v99 : FVec F S128x128 .bf16) (v101 : FVec F S128x128 .bf16) (v106 : FVec F S256x128 .bf16) (v111 : FVec F S256x128 .bf16) (v117 : FVec F S128x256 .f32) (v118 : FVec F S128x256 .f32) :
    Prog (TpuEff nD τ sig (Elt F) Λ₀ .tc) (Σ' (v128 : FVec F S128x128 .bf16) (v130 : FVec F S256x128 .f32) (v133 : FVec F S256x128 .f32) (v135 : FVec F S128x128 .bf16) (v137 : FVec F S128x128 .bf16) (v142 : FVec F S256x128 .bf16) (v147 : FVec F S256x128 .bf16) (v155 : FVec F S128x256 .f32), FVec F S128x256 .f32) := do
  let v121 : Vec F S128x128 .f32 ← Prog.lift (.load arg9 (Rect.unit (s := S128x1024) ![0, 256] S128x128.size inb_S128x1024_S128x128_0_256).toLoadRect (View.loadsAt_vmem h_S128x128))
  let v134 : Vec F S128x128 .bf16 ← Prog.lift (.load arg2 (Rect.unit (s := S128x1024) ![0, 384] S128x128.size inb_S128x1024_S128x128_0_384).toLoadRect (View.loadsAt_vmem h_S128x128))
  let v136 : Vec F S128x128 .bf16 ← Prog.lift (.load arg7 (Rect.unit (s := S128x1024) ![0, 384] S128x128.size inb_S128x1024_S128x128_0_384).toLoadRect (View.loadsAt_vmem h_S128x128))
  let v138 : Vec F S128x128 .bf16 ← Prog.lift (.load arg4 (Rect.unit (s := S128x1024) ![0, 384] S128x128.size inb_S128x1024_S128x128_0_384).toLoadRect (View.loadsAt_vmem h_S128x128))
  let v140 : Vec F S128x128 .bf16 ← Prog.lift (.load arg3 (Rect.unit (s := S128x1024) ![0, 384] S128x128.size inb_S128x1024_S128x128_0_384).toLoadRect (View.loadsAt_vmem h_S128x128))
  let v143 : Vec F S128x128 .bf16 ← Prog.lift (.load arg6 (Rect.unit (s := S128x1024) ![0, 384] S128x128.size inb_S128x1024_S128x128_0_384).toLoadRect (View.loadsAt_vmem h_S128x128))
  let v145 : Vec F S128x128 .bf16 ← Prog.lift (.load arg5 (Rect.unit (s := S128x1024) ![0, 384] S128x128.size inb_S128x1024_S128x128_0_384).toLoadRect (View.loadsAt_vmem h_S128x128))
  let v149 : Vec F S128x128 .f32 ← Prog.lift (.load arg8 (Rect.unit (s := S128x1024) ![0, 384] S128x128.size inb_S128x1024_S128x128_0_384).toLoadRect (View.loadsAt_vmem h_S128x128))
  have cst_90 : FVec F S128x256 .f32 := constant S128x256 .f32 0x00000000#32
  pure ⟨k0_pay36 v23 v101 v106 v111 v117 v118 v121, k0_pay37 v23 v99 v101 v111 v117 v118 v121, k0_pay38 v23 v101 v117 v118, k0_pay39 v134, k0_pay40 v136, k0_pay41 v138 v140, k0_pay42 v143 v145, k0_pay43 v23 v134 v138 v140 v149, cst_90⟩

set_option maxRecDepth 65536 in
theorem k0_part4_eq_skeleton : k0_part4 (F := F) = k0_part4_skel (F := F) := rfl

noncomputable def k0_part5_skel (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .f32) (harg13 : arg13.IsWhole) (arg14 : Memref sig .tc .vmem S128x1024 .f32) (harg14 : arg14.IsWhole) (v23 : IVec S128x256 1) (v135 : FVec F S128x128 .bf16) (v137 : FVec F S128x128 .bf16) (v142 : FVec F S256x128 .bf16) (v147 : FVec F S256x128 .bf16) (v155 : FVec F S128x256 .f32) (cst_90 : FVec F S128x256 .f32) :
    Prog (TpuEff nD τ sig (Elt F) Λ₀ .tc) (Σ' (v164 : FVec F S128x128 .bf16) (v166 : FVec F S256x128 .f32) (v169 : FVec F S256x128 .f32) (v171 : FVec F S128x128 .bf16) (v173 : FVec F S128x128 .bf16) (v178 : FVec F S256x128 .bf16) (v191 : FVec F S128x256 .f32), FVec F S128x256 .f32) := do
  let v157 : Vec F S128x128 .f32 ← Prog.lift (.load arg9 (Rect.unit (s := S128x1024) ![0, 384] S128x128.size inb_S128x1024_S128x128_0_384).toLoadRect (View.loadsAt_vmem h_S128x128))
  let v170 : Vec F S128x128 .bf16 ← Prog.lift (.load arg2 (Rect.unit (s := S128x1024) ![0, 512] S128x128.size inb_S128x1024_S128x128_0_512).toLoadRect (View.loadsAt_vmem h_S128x128))
  let v172 : Vec F S128x128 .bf16 ← Prog.lift (.load arg7 (Rect.unit (s := S128x1024) ![0, 512] S128x128.size inb_S128x1024_S128x128_0_512).toLoadRect (View.loadsAt_vmem h_S128x128))
  let v174 : Vec F S128x128 .bf16 ← Prog.lift (.load arg4 (Rect.unit (s := S128x1024) ![0, 512] S128x128.size inb_S128x1024_S128x128_0_512).toLoadRect (View.loadsAt_vmem h_S128x128))
  let v176 : Vec F S128x128 .bf16 ← Prog.lift (.load arg3 (Rect.unit (s := S128x1024) ![0, 512] S128x128.size inb_S128x1024_S128x128_0_512).toLoadRect (View.loadsAt_vmem h_S128x128))
  let v179 : Vec F S128x128 .bf16 ← Prog.lift (.load arg6 (Rect.unit (s := S128x1024) ![0, 512] S128x128.size inb_S128x1024_S128x128_0_512).toLoadRect (View.loadsAt_vmem h_S128x128))
  let v181 : Vec F S128x128 .bf16 ← Prog.lift (.load arg5 (Rect.unit (s := S128x1024) ![0, 512] S128x128.size inb_S128x1024_S128x128_0_512).toLoadRect (View.loadsAt_vmem h_S128x128))
  let v185 : Vec F S128x128 .f32 ← Prog.lift (.load arg8 (Rect.unit (s := S128x1024) ![0, 512] S128x128.size inb_S128x1024_S128x128_0_512).toLoadRect (View.loadsAt_vmem h_S128x128))
  pure ⟨k0_pay45 v137 v142 v147 v155 cst_90 v157, k0_pay46 v135 v137 v147 v155 cst_90 v157, k0_pay47 v137 v155, k0_pay48 v170, k0_pay49 v172, k0_pay50 v174 v176, k0_pay51 v23 v170 v174 v176 v185, k0_pay52 v172 v179 v181⟩

set_option maxRecDepth 65536 in
theorem k0_part5_eq_skeleton : k0_part5 (F := F) = k0_part5_skel (F := F) := rfl

noncomputable def k0_part6_skel (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .f32) (harg13 : arg13.IsWhole) (arg14 : Memref sig .tc .vmem S128x1024 .f32) (harg14 : arg14.IsWhole) (v23 : IVec S128x256 1) (v171 : FVec F S128x128 .bf16) (v173 : FVec F S128x128 .bf16) (v178 : FVec F S256x128 .bf16) (v191 : FVec F S128x256 .f32) (v192 : FVec F S128x256 .f32) :
    Prog (TpuEff nD τ sig (Elt F) Λ₀ .tc) (Σ' (v200 : FVec F S128x128 .bf16) (v202 : FVec F S256x128 .f32) (v205 : FVec F S256x128 .f32) (v207 : FVec F S128x128 .bf16) (v209 : FVec F S128x128 .bf16) (v214 : FVec F S256x128 .bf16) (v227 : FVec F S128x256 .f32) (v228 : FVec F S128x256 .f32), Vec F S128x128 .f32) := do
  let v193 : Vec F S128x128 .f32 ← Prog.lift (.load arg9 (Rect.unit (s := S128x1024) ![0, 512] S128x128.size inb_S128x1024_S128x128_0_512).toLoadRect (View.loadsAt_vmem h_S128x128))
  let v206 : Vec F S128x128 .bf16 ← Prog.lift (.load arg2 (Rect.unit (s := S128x1024) ![0, 640] S128x128.size inb_S128x1024_S128x128_0_640).toLoadRect (View.loadsAt_vmem h_S128x128))
  let v208 : Vec F S128x128 .bf16 ← Prog.lift (.load arg7 (Rect.unit (s := S128x1024) ![0, 640] S128x128.size inb_S128x1024_S128x128_0_640).toLoadRect (View.loadsAt_vmem h_S128x128))
  let v210 : Vec F S128x128 .bf16 ← Prog.lift (.load arg4 (Rect.unit (s := S128x1024) ![0, 640] S128x128.size inb_S128x1024_S128x128_0_640).toLoadRect (View.loadsAt_vmem h_S128x128))
  let v212 : Vec F S128x128 .bf16 ← Prog.lift (.load arg3 (Rect.unit (s := S128x1024) ![0, 640] S128x128.size inb_S128x1024_S128x128_0_640).toLoadRect (View.loadsAt_vmem h_S128x128))
  let v215 : Vec F S128x128 .bf16 ← Prog.lift (.load arg6 (Rect.unit (s := S128x1024) ![0, 640] S128x128.size inb_S128x1024_S128x128_0_640).toLoadRect (View.loadsAt_vmem h_S128x128))
  let v217 : Vec F S128x128 .bf16 ← Prog.lift (.load arg5 (Rect.unit (s := S128x1024) ![0, 640] S128x128.size inb_S128x1024_S128x128_0_640).toLoadRect (View.loadsAt_vmem h_S128x128))
  let v221 : Vec F S128x128 .f32 ← Prog.lift (.load arg8 (Rect.unit (s := S128x1024) ![0, 640] S128x128.size inb_S128x1024_S128x128_0_640).toLoadRect (View.loadsAt_vmem h_S128x128))
  let v229 : Vec F S128x128 .f32 ← Prog.lift (.load arg9 (Rect.unit (s := S128x1024) ![0, 640] S128x128.size inb_S128x1024_S128x128_0_640).toLoadRect (View.loadsAt_vmem h_S128x128))
  pure ⟨k0_pay54 v178 v191 v192 v193, k0_pay55 v171 v191 v192 v193, k0_pay56 v173 v191, k0_pay57 v206, k0_pay58 v208, k0_pay59 v210 v212, k0_pay60 v23 v206 v210 v212 v221, k0_pay61 v208 v215 v217, v229⟩

set_option maxRecDepth 65536 in
theorem k0_part6_eq_skeleton : k0_part6 (F := F) = k0_part6_skel (F := F) := rfl

noncomputable def k0_part7_skel (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .f32) (harg13 : arg13.IsWhole) (arg14 : Memref sig .tc .vmem S128x1024 .f32) (harg14 : arg14.IsWhole) (v23 : IVec S128x256 1) (v207 : FVec F S128x128 .bf16) (v209 : FVec F S128x128 .bf16) (v214 : FVec F S256x128 .bf16) (v227 : FVec F S128x256 .f32) (v228 : FVec F S128x256 .f32) (v229 : Vec F S128x128 .f32) :
    Prog (TpuEff nD τ sig (Elt F) Λ₀ .tc) (Σ' (v236 : FVec F S128x128 .bf16) (v238 : FVec F S256x128 .f32) (v241 : FVec F S256x128 .f32) (v243 : FVec F S128x128 .bf16) (v245 : FVec F S128x128 .bf16) (v250 : FVec F S256x128 .bf16) (v263 : FVec F S128x256 .f32) (v264 : FVec F S128x256 .f32), FVec F S128x256 .f32) := do
  let v242 : Vec F S128x128 .bf16 ← Prog.lift (.load arg2 (Rect.unit (s := S128x1024) ![0, 768] S128x128.size inb_S128x1024_S128x128_0_768).toLoadRect (View.loadsAt_vmem h_S128x128))
  let v244 : Vec F S128x128 .bf16 ← Prog.lift (.load arg7 (Rect.unit (s := S128x1024) ![0, 768] S128x128.size inb_S128x1024_S128x128_0_768).toLoadRect (View.loadsAt_vmem h_S128x128))
  let v246 : Vec F S128x128 .bf16 ← Prog.lift (.load arg4 (Rect.unit (s := S128x1024) ![0, 768] S128x128.size inb_S128x1024_S128x128_0_768).toLoadRect (View.loadsAt_vmem h_S128x128))
  let v248 : Vec F S128x128 .bf16 ← Prog.lift (.load arg3 (Rect.unit (s := S128x1024) ![0, 768] S128x128.size inb_S128x1024_S128x128_0_768).toLoadRect (View.loadsAt_vmem h_S128x128))
  let v251 : Vec F S128x128 .bf16 ← Prog.lift (.load arg6 (Rect.unit (s := S128x1024) ![0, 768] S128x128.size inb_S128x1024_S128x128_0_768).toLoadRect (View.loadsAt_vmem h_S128x128))
  let v253 : Vec F S128x128 .bf16 ← Prog.lift (.load arg5 (Rect.unit (s := S128x1024) ![0, 768] S128x128.size inb_S128x1024_S128x128_0_768).toLoadRect (View.loadsAt_vmem h_S128x128))
  let v257 : Vec F S128x128 .f32 ← Prog.lift (.load arg8 (Rect.unit (s := S128x1024) ![0, 768] S128x128.size inb_S128x1024_S128x128_0_768).toLoadRect (View.loadsAt_vmem h_S128x128))
  let v265 : Vec F S128x128 .f32 ← Prog.lift (.load arg9 (Rect.unit (s := S128x1024) ![0, 768] S128x128.size inb_S128x1024_S128x128_0_768).toLoadRect (View.loadsAt_vmem h_S128x128))
  pure ⟨k0_pay63 v214 v227 v228 v229, k0_pay64 v207 v227 v228 v229, k0_pay65 v209 v227, k0_pay66 v242, k0_pay67 v244, k0_pay68 v246 v248, k0_pay69 v23 v242 v246 v248 v257, k0_pay70 v244 v251 v253, k0_pay71 v265⟩

set_option maxRecDepth 65536 in
theorem k0_part7_eq_skeleton : k0_part7 (F := F) = k0_part7_skel (F := F) := rfl

noncomputable def k0_part8_skel (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .f32) (harg13 : arg13.IsWhole) (arg14 : Memref sig .tc .vmem S128x1024 .f32) (harg14 : arg14.IsWhole) (v23 : IVec S128x256 1) (v243 : FVec F S128x128 .bf16) (v245 : FVec F S128x128 .bf16) (v250 : FVec F S256x128 .bf16) (v263 : FVec F S128x256 .f32) (v264 : FVec F S128x256 .f32) (v267 : FVec F S128x256 .f32) :
    Prog (TpuEff nD τ sig (Elt F) Λ₀ .tc) (Σ' (v272 : FVec F S128x128 .bf16) (v274 : FVec F S256x128 .f32) (v277 : FVec F S256x128 .f32) (v279 : FVec F S128x128 .bf16) (v281 : FVec F S128x128 .bf16) (v286 : FVec F S256x128 .bf16) (v299 : FVec F S128x256 .f32), FVec F S128x256 .f32) := do
  let v278 : Vec F S128x128 .bf16 ← Prog.lift (.load arg2 (Rect.unit (s := S128x1024) ![0, 896] S128x128.size inb_S128x1024_S128x128_0_896).toLoadRect (View.loadsAt_vmem h_S128x128))
  let v280 : Vec F S128x128 .bf16 ← Prog.lift (.load arg7 (Rect.unit (s := S128x1024) ![0, 896] S128x128.size inb_S128x1024_S128x128_0_896).toLoadRect (View.loadsAt_vmem h_S128x128))
  let v282 : Vec F S128x128 .bf16 ← Prog.lift (.load arg4 (Rect.unit (s := S128x1024) ![0, 896] S128x128.size inb_S128x1024_S128x128_0_896).toLoadRect (View.loadsAt_vmem h_S128x128))
  let v284 : Vec F S128x128 .bf16 ← Prog.lift (.load arg3 (Rect.unit (s := S128x1024) ![0, 896] S128x128.size inb_S128x1024_S128x128_0_896).toLoadRect (View.loadsAt_vmem h_S128x128))
  let v287 : Vec F S128x128 .bf16 ← Prog.lift (.load arg6 (Rect.unit (s := S128x1024) ![0, 896] S128x128.size inb_S128x1024_S128x128_0_896).toLoadRect (View.loadsAt_vmem h_S128x128))
  let v289 : Vec F S128x128 .bf16 ← Prog.lift (.load arg5 (Rect.unit (s := S128x1024) ![0, 896] S128x128.size inb_S128x1024_S128x128_0_896).toLoadRect (View.loadsAt_vmem h_S128x128))
  let v293 : Vec F S128x128 .f32 ← Prog.lift (.load arg8 (Rect.unit (s := S128x1024) ![0, 896] S128x128.size inb_S128x1024_S128x128_0_896).toLoadRect (View.loadsAt_vmem h_S128x128))
  let v301 : Vec F S128x128 .f32 ← Prog.lift (.load arg9 (Rect.unit (s := S128x1024) ![0, 896] S128x128.size inb_S128x1024_S128x128_0_896).toLoadRect (View.loadsAt_vmem h_S128x128))
  pure ⟨k0_pay73 v250 v263 v264 v267, k0_pay74 v243 v263 v264 v267, k0_pay75 v245 v263, k0_pay76 v278, k0_pay77 v280, k0_pay78 v282 v284, k0_pay79 v23 v278 v282 v284 v293, k0_pay80 v23 v278 v280 v282 v284 v287 v289 v293 v301⟩

set_option maxRecDepth 65536 in
theorem k0_part8_eq_skeleton : k0_part8 (F := F) = k0_part8_skel (F := F) := rfl

noncomputable def k0_part9_skel (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .f32) (harg13 : arg13.IsWhole) (arg14 : Memref sig .tc .vmem S128x1024 .f32) (harg14 : arg14.IsWhole) (v24 : Vec F S128x1024 .f32) (v25 : Vec F S128x1024 .f32) (v56 : FVec F S128x128 .bf16) (v58 : FVec F S256x128 .f32) (v61 : FVec F S256x128 .f32) (v92 : FVec F S128x128 .bf16) (v94 : FVec F S256x128 .f32) (v97 : FVec F S256x128 .f32) (v128 : FVec F S128x128 .bf16) (v130 : FVec F S256x128 .f32) (v133 : FVec F S256x128 .f32) (v164 : FVec F S128x128 .bf16) (v166 : FVec F S256x128 .f32) (v169 : FVec F S256x128 .f32) (v200 : FVec F S128x128 .bf16) (v202 : FVec F S256x128 .f32) (v205 : FVec F S256x128 .f32) (v236 : FVec F S128x128 .bf16) (v238 : FVec F S256x128 .f32) (v241 : FVec F S256x128 .f32) (v272 : FVec F S128x128 .bf16) (v274 : FVec F S256x128 .f32) (v277 : FVec F S256x128 .f32) (v279 : FVec F S128x128 .bf16) (v281 : FVec F S128x128 .bf16) (v286 : FVec F S256x128 .bf16) (v299 : FVec F S128x256 .f32) (v305 : FVec F S128x256 .f32) :
    Prog (TpuEff nD τ sig (Elt F) Λ₀ .tc) (Σ' (v313 : FVec F S256x128 .f32), FVec F S128x1024 .f32) := do
  let v315 : Vec F S128x1024 .bf16 ← Prog.lift (.load arg10 (Rect.unit (s := S128x1024) ![0, 0] S128x1024.size inb_S128x1024_S128x1024_0_0).toLoadRect (View.loadsAt_vmem h_S128x1024))
  Prog.lift (.store arg10 (Rect.unit (s := S128x1024) ![0, 0] S128x1024.size inb_S128x1024_S128x1024_0_0) (k0_pay84 v56 v92 v128 v164 v200 v236 v272 v286 v305) Finset.univ (View.stores_vmem h_S128x1024 (harg10.storeExact_slice rfl _ packedbf16_S128x1024_S128x1024_0_0) (fun _ => rfl)) (.inl rfl))
  let v327 : Vec F S128x1024 .bf16 ← Prog.lift (.load arg11 (Rect.unit (s := S128x1024) ![0, 0] S128x1024.size inb_S128x1024_S128x1024_0_0).toLoadRect (View.loadsAt_vmem h_S128x1024))
  Prog.lift (.store arg11 (Rect.unit (s := S128x1024) ![0, 0] S128x1024.size inb_S128x1024_S128x1024_0_0) (k0_pay85 v24 v58 v94 v130 v166 v202 v238 v274 v279 v305) Finset.univ (View.stores_vmem h_S128x1024 (harg11.storeExact_slice rfl _ packedbf16_S128x1024_S128x1024_0_0) (fun _ => rfl)) (.inl rfl))
  let v339 : Vec F S128x1024 .bf16 ← Prog.lift (.load arg12 (Rect.unit (s := S128x1024) ![0, 0] S128x1024.size inb_S128x1024_S128x1024_0_0).toLoadRect (View.loadsAt_vmem h_S128x1024))
  Prog.lift (.store arg12 (Rect.unit (s := S128x1024) ![0, 0] S128x1024.size inb_S128x1024_S128x1024_0_0) (k0_pay86 v25 v61 v97 v133 v169 v205 v241 v277 v281 v299) Finset.univ (View.stores_vmem h_S128x1024 (harg12.storeExact_slice rfl _ packedbf16_S128x1024_S128x1024_0_0) (fun _ => rfl)) (.inl rfl))
  let v349 : Vec F S128x1024 .f32 ← Prog.lift (.load arg13 (Rect.unit (s := S128x1024) ![0, 0] S128x1024.size inb_S128x1024_S128x1024_0_0).toLoadRect (View.loadsAt_vmem h_S128x1024))
  pure ⟨k0_pay83 v281 v299, k0_pay87 v58 v94 v130 v166 v202 v238 v274 v279 v305⟩

set_option maxRecDepth 65536 in
theorem k0_part9_eq_skeleton : k0_part9 (F := F) = k0_part9_skel (F := F) := rfl

end Cert.Kernel2Ideal.Gen

end
-- ==== Proof.Attn.Heads.lean ====
/- The attention kernel's block arithmetic, head by head: `x0` is the block of queries, `x1` and `x2` the blocks of keys at
   the queries' place and before it, `x3` and `x4` the values', `x5` the cotangent's block, `x6` and `x7` the logarithms of
   the softmax's denominators and the products of cotangent and output, each held across a head's columns. -/
module

public import proofs.«01_k».proof.Proof.Attn.Skeleton
public import Idealize.ShloMosaic.Lib.Pipeline.Value

@[expose] public section

set_option maxRecDepth 16384

noncomputable section

namespace Cert.Kernel2Ideal.Gen

open Idealize.ShloMosaic

variable {F : FTy → Type} [FloatOps F] {φ : FTy}

theorem hd_inb (h : Fin 8) : ∀ a, (![0, 128 * h.val] : Fin 2 → ℕ) a + S128x128.size a ≤ S128x1024.size a := by
  revert h; decide
/-- Head `h`'s columns of a block. -/
def hd (h : Fin 8) (x : FVec F S128x1024 φ) : FVec F S128x128 φ :=
  shapeCast S128x128 (extractStridedSlice S128x128 ![0, 128 * h.val] x ⟨rfl, hd_inb h⟩) shapeCasts_S128x128_S128x128

/-- Eight heads' columns side by side. -/
def cat8 (A : Fin 8 → FVec F S128x128 φ) : FVec F S128x1024 φ :=
  concatenate S128x1024 1 [⟨S128x128, A 0⟩, ⟨S128x128, A 1⟩, ⟨S128x128, A 2⟩, ⟨S128x128, A 3⟩, ⟨S128x128, A 4⟩, ⟨S128x128, A 5⟩, ⟨S128x128, A 6⟩, ⟨S128x128, A 7⟩]
    concatenates_S128x128_S128x128_S128x128_S128x128_S128x128_S128x128_S128x128_S128x128_S128x1024_d1
/-- Two blocks of rows one above the other. -/
def cat2 (a b : FVec F S128x128 φ) : FVec F S256x128 φ :=
  concatenate S256x128 0 [⟨S128x128, a⟩, ⟨S128x128, b⟩] concatenates_S128x128_S128x128_S256x128_d0
/-- A block of columns twice. -/
def twice (a : FVec F S128x128 φ) : FVec F S128x256 φ :=
  concatenate S128x256 1 [⟨S128x128, a⟩, ⟨S128x128, a⟩] concatenates_S128x128_S128x128_S128x256_d1

variable (v23 : IVec S128x256 1) (x0 x1 x2 x3 x4 x5 : FVec F S128x1024 .bf16) (x6 x7 : FVec F S128x1024 .f32) (h : Fin 8)

/-- The attention's weights, masked. -/
def pH : FVec F S128x256 .f32 :=
  select v23 (exp (subf (matmul dot_S128x128_S256x128_S128x256_1_1_0_0_n_n none (hd h x0) (cat2 (hd h x2) (hd h x1)) (constant S128x256 .f32 0x00000000#32)) (twice (hd h x6))))
    (broadcast S128x256 (Scalar.ofBits .f32 0x00000000#32))
/-- The scores' cotangent. -/
def dsH : FVec F S128x256 .bf16 :=
  truncf .bf16 (mulf (pH v23 x0 x1 x2 x6 h)
    (subf (matmul dot_S128x128_S256x128_S128x256_1_1_0_0_n_n none (hd h x5) (cat2 (hd h x4) (hd h x3)) (constant S128x256 .f32 0x00000000#32)) (twice (hd h x7)))) bitsLt_bf16_f32
/-- The queries' cotangent. -/
def dqH : FVec F S128x128 .bf16 :=
  truncf .bf16 (matmul dot_S128x256_S256x128_S128x128_1_0_0_1_n_n none (dsH v23 x0 x1 x2 x3 x4 x5 x6 x7 h) (cat2 (hd h x2) (hd h x1)) (constant S128x128 .f32 0x00000000#32)) bitsLt_bf16_f32
/-- What the block of queries adds to the keys' cotangent: the block before and the block at its place. -/
def dkH : FVec F S256x128 .f32 :=
  transpose S256x128 [1, 0] (matmul dot_S128x128_S128x256_S128x256_0_0_1_1_n_n none (hd h x0) (dsH v23 x0 x1 x2 x3 x4 x5 x6 x7 h) (constant S128x256 .f32 0x00000000#32)) transposes_S128x256_p1_0_S256x128
/-- The same for the values. -/
def dvH : FVec F S256x128 .f32 :=
  transpose S256x128 [1, 0] (matmul dot_S128x128_S128x256_S128x256_0_0_1_1_n_n none (hd h x5) (truncf .bf16 (pH v23 x0 x1 x2 x6 h) bitsLt_bf16_f32) (constant S128x256 .f32 0x00000000#32)) transposes_S128x256_p1_0_S256x128

/-- The rows of the block before, and of the block at the queries' place. -/
def fst (a : FVec F S256x128 φ) : FVec F S128x128 φ := extractStridedSlice S128x128 ![0, 0] a slices_S256x128_o0_0_S128x128
def snd (a : FVec F S256x128 φ) : FVec F S128x128 φ := extractStridedSlice S128x128 ![128, 0] a slices_S256x128_o128_0_S128x128

/-- The block of the queries' cotangent the body leaves, and what it carries on for the keys and the values. -/
def dqT : FVec F S128x1024 .bf16 := cat8 (dqH v23 x0 x1 x2 x3 x4 x5 x6 x7)
def ckT : FVec F S128x1024 .f32 := cat8 fun h => snd (dkH v23 x0 x1 x2 x3 x4 x5 x6 x7 h)
def cvT : FVec F S128x1024 .f32 := cat8 fun h => snd (dvH v23 x0 x1 x2 x5 x6 h)
/-- The blocks of the keys' and the values' cotangents it leaves, given what it was carried. -/
def dkT (ck : FVec F S128x1024 .f32) : FVec F S128x1024 .bf16 :=
  truncf .bf16 (addf ck (cat8 fun h => fst (dkH v23 x0 x1 x2 x3 x4 x5 x6 x7 h))) bitsLt_bf16_f32
def dvT (cv : FVec F S128x1024 .f32) : FVec F S128x1024 .bf16 :=
  truncf .bf16 (addf cv (cat8 fun h => fst (dvH v23 x0 x1 x2 x5 x6 h))) bitsLt_bf16_f32

end Cert.Kernel2Ideal.Gen

end
-- ==== Proof.Attn.Launch.lean ====
/- The attention kernel's call: what the host part before it leaves in each buffer's place. -/
module

public import proofs.«01_k».proof.Proof.Attn.Ideal
public import Idealize.ShloMosaic.Lib.Pipeline.Kit
public import Idealize.ShloMosaic.Lib.Pipeline.Regions

@[expose] public section

set_option maxRecDepth 1096

noncomputable section

namespace Cert.Kernel2Ideal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 1 → List (DmaSem sig) :=
  fun | 0 => Pipeline.specSems spec0 | ⟨_ + 1, h⟩ => absurd h (Nat.not_lt.2 (Nat.le_add_left _ _))
theorem semsDistinct : ∀ p : Fin 1, (semTab p).Nodup := by decide
theorem semsDisjoint : ∀ p p' : Fin 1, p ≠ p' → (semTab p).Forall (· ∉ semTab p') := by decide
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

theorem winFacts₀0 : Pipeline.WinFacts₀ spec0 := by decide
theorem sharedIn0 : Pipeline.SharedIn spec0 := by decide
theorem block_pos0 : ∀ w : Fin 11, 0 < (spec0 w).block.numel := by decide
theorem arr_whole0 : ∀ w : Fin 11, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | ⟨_ + 11, h⟩ => absurd h (Nat.not_lt.2 (Nat.le_add_left _ _))
theorem stage_whole0 : ∀ (w : Fin 11) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | ⟨_ + 11, h⟩ => absurd h (Nat.not_lt.2 (Nat.le_add_left _ _))
theorem launch₀0 : Pipeline.LaunchFacts₀ (nD := nD) (τ := τ) cfgs 0 := ⟨cellOf_inj, winFacts₀0, sharedIn0, block_pos0, arr_whole0, stage_whole0⟩

theorem N_0 : grid0.N = 33 := by decide

theorem bigSep_W0 {M : Type} [URA M] (Φ : Fin 11 → sProp M) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f)) :=
  Pipeline.scopedRest_eq_of_list spec0 c [cc0_scratch0, cc0_scratch1] (by decide) (by decide)

abbrev hostOps0 : List (HloOp τ sig (Elt F)) :=
  [ StableHlo.nullary main_v0 (iotaInDim S4096 32 0),
    StableHlo.unary main_v0 main_v1 (broadcastInDim S4096x1 ![0] bcast_S4096_S4096x1_0 : (⟨S4096, .i32⟩ : BufTy).Contents (Elt F) → (⟨S4096x1, .i32⟩ : BufTy).Contents (Elt F)),
    StableHlo.nullary main_v2 (iotaInDim S4096 32 0),
    StableHlo.unary main_v2 main_v3 (broadcastInDim S1x4096 ![1] bcast_S4096_S1x4096_1 : (⟨S4096, .i32⟩ : BufTy).Contents (Elt F) → (⟨S1x4096, .i32⟩ : BufTy).Contents (Elt F)),
    StableHlo.unary main_v3 main_v4 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v1 main_v5 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v4 main_v5 main_v6 (cmpi .sle : (⟨S4096x4096, .i32⟩ : BufTy).Contents (Elt F) → (⟨S4096x4096, .i32⟩ : BufTy).Contents (Elt F) → (⟨S4096x4096, .i1⟩ : BufTy).Contents (Elt F)),
    StableHlo.unary main_v1 main_v7 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v3 main_v8 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v7 main_v8 main_v9 (subi : (⟨S4096x4096, .i32⟩ : BufTy).Contents (Elt F) → (⟨S4096x4096, .i32⟩ : BufTy).Contents (Elt F) → (⟨S4096x4096, .i32⟩ : BufTy).Contents (Elt F)),
    StableHlo.nullary main_c (constantI S_ 32 128#32),
    StableHlo.unary main_c main_v10 (broadcastInDim S4096x4096 ![] bcast_S_S4096x4096 : (⟨S_, .i32⟩ : BufTy).Contents (Elt F) → (⟨S4096x4096, .i32⟩ : BufTy).Contents (Elt F)),
    StableHlo.binary main_v9 main_v10 main_v11 (cmpi .sle : (⟨S4096x4096, .i32⟩ : BufTy).Contents (Elt F) → (⟨S4096x4096, .i32⟩ : BufTy).Contents (Elt F) → (⟨S4096x4096, .i1⟩ : BufTy).Contents (Elt F)),
    StableHlo.binary main_v6 main_v11 main_v12 (andi : (⟨S4096x4096, .i1⟩ : BufTy).Contents (Elt F) → (⟨S4096x4096, .i1⟩ : BufTy).Contents (Elt F) → (⟨S4096x4096, .i1⟩ : BufTy).Contents (Elt F)),
    StableHlo.binary main_arg0 main_arg1 main_v13 ((fun l r => Host.dotGeneral dot_S4096x8x128_S4096x8x128_S8x4096x4096_2_2_0_0_1_1 none l r) : (⟨S4096x8x128, .f32⟩ : BufTy).Contents (Elt F) → (⟨S4096x8x128, .f32⟩ : BufTy).Contents (Elt F) → (⟨S8x4096x4096, .f32⟩ : BufTy).Contents (Elt F)),
    StableHlo.unary main_v12 main_v14 (broadcastInDim S1x4096x4096 ![1, 2] bcast_S4096x4096_S1x4096x4096_1_2 : (⟨S4096x4096, .i1⟩ : BufTy).Contents (Elt F) → (⟨S1x4096x4096, .i1⟩ : BufTy).Contents (Elt F)),
    StableHlo.nullary main_cst (constant S_ .f32 0xFF800000#32) ]
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub ..⟩
abbrev hostOps0_1 : List (HloOp τ sig (Elt F)) :=
  [ StableHlo.TRef.unary (.of main_cst : StableHlo.TRef sig ⟨S_, .f32⟩) (.of main_call0_v0 : StableHlo.TRef sig ⟨S_, .f32⟩) id,
    StableHlo.TRef.unary (.of main_v14 : StableHlo.TRef sig ⟨S1x4096x4096, .i1⟩) (.of main_call0_v1 : StableHlo.TRef sig ⟨S8x4096x4096, .i1⟩) (broadcastInDim S8x4096x4096 ![0, 1, 2] bcast_S1x4096x4096_S8x4096x4096_0_1_2),
    StableHlo.TRef.unary (.of main_call0_v0 : StableHlo.TRef sig ⟨S_, .f32⟩) (.of main_call0_v2 : StableHlo.TRef sig ⟨S8x4096x4096, .f32⟩) (broadcastInDim S8x4096x4096 ![] bcast_S_S8x4096x4096),
    StableHlo.TRef.ternary (.of main_call0_v1 : StableHlo.TRef sig ⟨S8x4096x4096, .i1⟩) (.of main_v13 : StableHlo.TRef sig ⟨S8x4096x4096, .f32⟩) (.of main_call0_v2 : StableHlo.TRef sig ⟨S8x4096x4096, .f32⟩) (.of main_v15 : StableHlo.TRef sig ⟨S8x4096x4096, .f32⟩) select ]
theorem hostOps0_1_sub : (hostOps0_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
set_option maxHeartbeats 40000000 in
abbrev hostOps0_2 : List (HloOp τ sig (Elt F)) :=
  ( StableHlo.nullary main_cst_0 (constant S_ .f32 0xFF800000#32)
  :: StableHlo.binary main_v15 main_cst_0 main_v16 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F))
  :: StableHlo.unary main_v16 main_v17 (broadcastInDim S8x4096x1 ![0, 1] bcast_S8x4096_S8x4096x1_0_1 : (⟨S8x4096, .f32⟩ : BufTy).Contents (Elt F) → (⟨S8x4096x1, .f32⟩ : BufTy).Contents (Elt F))
  :: StableHlo.unary main_v17 main_v18 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F))
  :: StableHlo.binary main_v15 main_v18 main_v19 (subf : (⟨S8x4096x4096, .f32⟩ : BufTy).Contents (Elt F) → (⟨S8x4096x4096, .f32⟩ : BufTy).Contents (Elt F) → (⟨S8x4096x4096, .f32⟩ : BufTy).Contents (Elt F))
  :: StableHlo.unary main_v19 main_v20 (Host.exp : (⟨S8x4096x4096, .f32⟩ : BufTy).Contents (Elt F) → (⟨S8x4096x4096, .f32⟩ : BufTy).Contents (Elt F))
  :: StableHlo.nullary main_cst_1 (constant S_ .f32 0x00000000#32)
  :: StableHlo.binary main_v20 main_cst_1 main_v21 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F))
  :: StableHlo.unary main_v21 main_v22 (broadcastInDim S8x4096x1 ![0, 1] bcast_S8x4096_S8x4096x1_0_1 : (⟨S8x4096, .f32⟩ : BufTy).Contents (Elt F) → (⟨S8x4096x1, .f32⟩ : BufTy).Contents (Elt F))
  :: StableHlo.unary main_v22 main_v23 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F))
  :: StableHlo.binary main_v20 main_v23 main_v24 (Host.divf : (⟨S8x4096x4096, .f32⟩ : BufTy).Contents (Elt F) → (⟨S8x4096x4096, .f32⟩ : BufTy).Contents (Elt F) → (⟨S8x4096x4096, .f32⟩ : BufTy).Contents (Elt F))
  :: StableHlo.binary main_arg2 main_v24 main_v25 ((fun l r => Host.dotGeneral dot_S4096x8x128_S8x4096x4096_S8x128x4096_0_2_2_1_1_0 none l r) : (⟨S4096x8x128, .f32⟩ : BufTy).Contents (Elt F) → (⟨S8x4096x4096, .f32⟩ : BufTy).Contents (Elt F) → (⟨S8x128x4096, .f32⟩ : BufTy).Contents (Elt F))
  :: StableHlo.unary main_v25 main_v26 ((transpose S4096x8x128 [2, 0, 1] · transposes_S8x128x4096_S4096x8x128_2_0_1) : (⟨S8x128x4096, .f32⟩ : BufTy).Contents (Elt F) → (⟨S4096x8x128, .f32⟩ : BufTy).Contents (Elt F))
  :: StableHlo.unary main_v22 main_v27 (Host.log : (⟨S8x4096x1, .f32⟩ : BufTy).Contents (Elt F) → (⟨S8x4096x1, .f32⟩ : BufTy).Contents (Elt F))
  :: StableHlo.binary main_v17 main_v27 main_v28 (addf : (⟨S8x4096x1, .f32⟩ : BufTy).Contents (Elt F) → (⟨S8x4096x1, .f32⟩ : BufTy).Contents (Elt F) → (⟨S8x4096x1, .f32⟩ : BufTy).Contents (Elt F))
  :: StableHlo.reshape main_v28 main_v29 (rfl : (.f32 : EltTy) = .f32) shapeCasts_S8x4096x1_S8x4096
  :: StableHlo.unary main_v29 main_v30 ((transpose S4096x8 [1, 0] · transposes_S8x4096_S4096x8_1_0) : (⟨S8x4096, .f32⟩ : BufTy).Contents (Elt F) → (⟨S4096x8, .f32⟩ : BufTy).Contents (Elt F))
  :: StableHlo.unary main_v30 main_v31 (broadcastInDim S1x4096x8 ![1, 2] bcast_S4096x8_S1x4096x8_1_2 : (⟨S4096x8, .f32⟩ : BufTy).Contents (Elt F) → (⟨S1x4096x8, .f32⟩ : BufTy).Contents (Elt F))
  :: StableHlo.binary main_v31 main_arg4 main_v32 ((fun a b => concatenate S3x4096x8 0 [⟨S1x4096x8, a⟩, ⟨S2x4096x8, b⟩] concatenates_S1x4096x8_S2x4096x8_S3x4096x8_d0) : (⟨S1x4096x8, .f32⟩ : BufTy).Contents (Elt F) → (⟨S2x4096x8, .f32⟩ : BufTy).Contents (Elt F) → (⟨S3x4096x8, .f32⟩ : BufTy).Contents (Elt F))
  :: StableHlo.nullary main_cst_2 (constant S_ .f32 0xFF800000#32)
  :: StableHlo.binary main_v32 main_cst_2 main_v33 ((fun x v => Host.reduce FloatOps.maximumf x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F))
  :: StableHlo.nullary main_cst_3 (constant S_ .f32 0xFF800000#32)
  :: StableHlo.unary main_cst_3 main_v34 (broadcastInDim S4096x8 ![] bcast_S_S4096x8 : (⟨S_, .f32⟩ : BufTy).Contents (Elt F) → (⟨S4096x8, .f32⟩ : BufTy).Contents (Elt F))
  :: StableHlo.binary main_v34 main_v33 main_v35 (maximumf : (⟨S4096x8, .f32⟩ : BufTy).Contents (Elt F) → (⟨S4096x8, .f32⟩ : BufTy).Contents (Elt F) → (⟨S4096x8, .f32⟩ : BufTy).Contents (Elt F))
  :: StableHlo.unary main_v35 main_v36 (broadcastInDim S1x4096x8 ![1, 2] bcast_S4096x8_S1x4096x8_1_2 : (⟨S4096x8, .f32⟩ : BufTy).Contents (Elt F) → (⟨S1x4096x8, .f32⟩ : BufTy).Contents (Elt F))
  :: StableHlo.unary main_v36 main_v37 (broadcastInDim S3x4096x8 ![0, 1, 2] bcast_S1x4096x8_S3x4096x8_0_1_2 : (⟨S1x4096x8, .f32⟩ : BufTy).Contents (Elt F) → (⟨S3x4096x8, .f32⟩ : BufTy).Contents (Elt F))
  :: StableHlo.binary main_v32 main_v37 main_v38 (subf : (⟨S3x4096x8, .f32⟩ : BufTy).Contents (Elt F) → (⟨S3x4096x8, .f32⟩ : BufTy).Contents (Elt F) → (⟨S3x4096x8, .f32⟩ : BufTy).Contents (Elt F))
  :: StableHlo.unary main_v38 main_v39 (Host.exp : (⟨S3x4096x8, .f32⟩ : BufTy).Contents (Elt F) → (⟨S3x4096x8, .f32⟩ : BufTy).Contents (Elt F))
  :: StableHlo.nullary main_cst_4 (constant S_ .f32 0x00000000#32)
  :: StableHlo.binary main_v39 main_cst_4 main_v40 ((fun x v => Host.reduceAdd x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F))
  :: StableHlo.unary main_v40 main_v41 (broadcastInDim S1x4096x8 ![1, 2] bcast_S4096x8_S1x4096x8_1_2 : (⟨S4096x8, .f32⟩ : BufTy).Contents (Elt F) → (⟨S1x4096x8, .f32⟩ : BufTy).Contents (Elt F))
  :: StableHlo.unary main_v41 main_v42 (broadcastInDim S3x4096x8 ![0, 1, 2] bcast_S1x4096x8_S3x4096x8_0_1_2 : (⟨S1x4096x8, .f32⟩ : BufTy).Contents (Elt F) → (⟨S3x4096x8, .f32⟩ : BufTy).Contents (Elt F))
  :: StableHlo.binary main_v39 main_v42 main_v43 (Host.divf : (⟨S3x4096x8, .f32⟩ : BufTy).Contents (Elt F) → (⟨S3x4096x8, .f32⟩ : BufTy).Contents (Elt F) → (⟨S3x4096x8, .f32⟩ : BufTy).Contents (Elt F))
  :: StableHlo.unary main_v43 main_v44 ((extractStridedSlice S1x4096x8 ![0, 0, 0] · slices_S3x4096x8_S1x4096x8_0_0_0) : (⟨S3x4096x8, .f32⟩ : BufTy).Contents (Elt F) → (⟨S1x4096x8, .f32⟩ : BufTy).Contents (Elt F))
  :: StableHlo.reshape main_v44 main_v45 (rfl : (.f32 : EltTy) = .f32) shapeCasts_S1x4096x8_S4096x8
  :: StableHlo.unary main_v45 main_v46 (broadcastInDim S4096x8x1 ![0, 1] bcast_S4096x8_S4096x8x1_0_1 : (⟨S4096x8, .f32⟩ : BufTy).Contents (Elt F) → (⟨S4096x8x1, .f32⟩ : BufTy).Contents (Elt F))
  :: StableHlo.unary main_v46 main_v47 (broadcastInDim S4096x8x128 ![0, 1, 2] bcast_S4096x8x1_S4096x8x128_0_1_2 : (⟨S4096x8x1, .f32⟩ : BufTy).Contents (Elt F) → (⟨S4096x8x128, .f32⟩ : BufTy).Contents (Elt F))
  :: StableHlo.binary main_v47 main_v26 main_v48 (mulf : (⟨S4096x8x128, .f32⟩ : BufTy).Contents (Elt F) → (⟨S4096x8x128, .f32⟩ : BufTy).Contents (Elt F) → (⟨S4096x8x128, .f32⟩ : BufTy).Contents (Elt F))
  :: StableHlo.unary main_v43 main_v49 ((extractStridedSlice S2x4096x8 ![1, 0, 0] · slices_S3x4096x8_S2x4096x8_1_0_0) : (⟨S3x4096x8, .f32⟩ : BufTy).Contents (Elt F) → (⟨S2x4096x8, .f32⟩ : BufTy).Contents (Elt F))
  :: StableHlo.unary main_v49 main_v50 (broadcastInDim S2x4096x8x1 ![0, 1, 2] bcast_S2x4096x8_S2x4096x8x1_0_1_2 : (⟨S2x4096x8, .f32⟩ : BufTy).Contents (Elt F) → (⟨S2x4096x8x1, .f32⟩ : BufTy).Contents (Elt F))
  :: StableHlo.unary main_v50 main_v51 (broadcastInDim S2x4096x8x128 ![0, 1, 2, 3] bcast_S2x4096x8x1_S2x4096x8x128_0_1_2_3 : (⟨S2x4096x8x1, .f32⟩ : BufTy).Contents (Elt F) → (⟨S2x4096x8x128, .f32⟩ : BufTy).Contents (Elt F))
  :: StableHlo.binary main_v51 main_arg3 main_v52 (mulf : (⟨S2x4096x8x128, .f32⟩ : BufTy).Contents (Elt F) → (⟨S2x4096x8x128, .f32⟩ : BufTy).Contents (Elt F) → (⟨S2x4096x8x128, .f32⟩ : BufTy).Contents (Elt F))
  :: StableHlo.nullary main_cst_5 (constant S_ .f32 0x00000000#32)
  :: StableHlo.binary main_v52 main_cst_5 main_v53 ((fun x v => Host.reduceAdd x v reducesTo_S2x4096x8x128_S4096x8x128_d0 h_S_) : (⟨S2x4096x8x128, .f32⟩ : BufTy).Contents (Elt F) → (⟨S_, .f32⟩ : BufTy).Contents (Elt F) → (⟨S4096x8x128, .f32⟩ : BufTy).Contents (Elt F))
  :: StableHlo.binary main_v48 main_v53 main_v54 (addf : (⟨S4096x8x128, .f32⟩ : BufTy).Contents (Elt F) → (⟨S4096x8x128, .f32⟩ : BufTy).Contents (Elt F) → (⟨S4096x8x128, .f32⟩ : BufTy).Contents (Elt F))
  :: StableHlo.unary main_v30 main_v55 (broadcastInDim S1x4096x8 ![1, 2] bcast_S4096x8_S1x4096x8_1_2 : (⟨S4096x8, .f32⟩ : BufTy).Contents (Elt F) → (⟨S1x4096x8, .f32⟩ : BufTy).Contents (Elt F))
  :: StableHlo.binary main_v55 main_arg4 main_v56 ((fun a b => concatenate S3x4096x8 0 [⟨S1x4096x8, a⟩, ⟨S2x4096x8, b⟩] concatenates_S1x4096x8_S2x4096x8_S3x4096x8_d0) : (⟨S1x4096x8, .f32⟩ : BufTy).Contents (Elt F) → (⟨S2x4096x8, .f32⟩ : BufTy).Contents (Elt F) → (⟨S3x4096x8, .f32⟩ : BufTy).Contents (Elt F))
  :: StableHlo.nullary main_cst_6 (constant S_ .f32 0xFF800000#32)
  :: StableHlo.binary main_v56 main_cst_6 main_v57 ((fun x v => Host.reduce FloatOps.maximumf x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F))
  :: StableHlo.unary main_v57 main_v58 (broadcastInDim S1x4096x8 ![1, 2] bcast_S4096x8_S1x4096x8_1_2 : (⟨S4096x8, .f32⟩ : BufTy).Contents (Elt F) → (⟨S1x4096x8, .f32⟩ : BufTy).Contents (Elt F))
  :: StableHlo.unary main_v58 main_v59 (broadcastInDim S3x4096x8 ![0, 1, 2] bcast_S1x4096x8_S3x4096x8_0_1_2 : (⟨S1x4096x8, .f32⟩ : BufTy).Contents (Elt F) → (⟨S3x4096x8, .f32⟩ : BufTy).Contents (Elt F))
  :: StableHlo.binary main_v56 main_v59 main_v60 (subf : (⟨S3x4096x8, .f32⟩ : BufTy).Contents (Elt F) → (⟨S3x4096x8, .f32⟩ : BufTy).Contents (Elt F) → (⟨S3x4096x8, .f32⟩ : BufTy).Contents (Elt F))
  :: StableHlo.unary main_v60 main_v61 (Host.exp : (⟨S3x4096x8, .f32⟩ : BufTy).Contents (Elt F) → (⟨S3x4096x8, .f32⟩ : BufTy).Contents (Elt F))
  :: StableHlo.nullary main_cst_7 (constant S_ .f32 0x00000000#32)
  :: StableHlo.binary main_v61 main_cst_7 main_v62 ((fun x v => Host.reduceAdd x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F))
  :: StableHlo.unary main_v62 main_v63 (Host.log : (⟨S4096x8, .f32⟩ : BufTy).Contents (Elt F) → (⟨S4096x8, .f32⟩ : BufTy).Contents (Elt F))
  :: StableHlo.binary main_v57 main_v63 main_v64 (addf : (⟨S4096x8, .f32⟩ : BufTy).Contents (Elt F) → (⟨S4096x8, .f32⟩ : BufTy).Contents (Elt F) → (⟨S4096x8, .f32⟩ : BufTy).Contents (Elt F))
  :: StableHlo.binary main_arg5 main_v54 main_v65 (mulf : (⟨S4096x8x128, .f32⟩ : BufTy).Contents (Elt F) → (⟨S4096x8x128, .f32⟩ : BufTy).Contents (Elt F) → (⟨S4096x8x128, .f32⟩ : BufTy).Contents (Elt F))
  :: StableHlo.nullary main_cst_8 (constant S_ .f32 0x00000000#32)
  :: StableHlo.binary main_v65 main_cst_8 main_v66 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F))
  :: StableHlo.reshape main_arg0 main_v67 (rfl : (.f32 : EltTy) = .f32) shapeCasts_S4096x8x128_S4096x1024
  :: StableHlo.reshape main_arg1 main_v68 (rfl : (.f32 : EltTy) = .f32) shapeCasts_S4096x8x128_S4096x1024
  :: StableHlo.reshape main_arg2 main_v69 (rfl : (.f32 : EltTy) = .f32) shapeCasts_S4096x8x128_S4096x1024
  :: StableHlo.nary ![main_v67, main_v68, main_v69] main_v70 (fun u => (concatenate S4096x3072 1 [⟨S4096x1024, (u 0 : (⟨S4096x1024, .f32⟩ : BufTy).Contents (Elt F))⟩, ⟨S4096x1024, (u 1 : (⟨S4096x1024, .f32⟩ : BufTy).Contents (Elt F))⟩, ⟨S4096x1024, (u 2 : (⟨S4096x1024, .f32⟩ : BufTy).Contents (Elt F))⟩] concatenates_S4096x1024_S4096x1024_S4096x1024_S4096x3072_d1 : (⟨S4096x3072, .f32⟩ : BufTy).Contents (Elt F)))
  :: StableHlo.unary main_v70 main_v71 ((truncf .bf16 · bitsLt_bf16_f32) : (⟨S4096x3072, .f32⟩ : BufTy).Contents (Elt F) → (⟨S4096x3072, .bf16⟩ : BufTy).Contents (Elt F))
  :: StableHlo.reshape main_arg5 main_v72 (rfl : (.f32 : EltTy) = .f32) shapeCasts_S4096x8x128_S4096x1024
  :: StableHlo.unary main_v72 main_v73 ((truncf .bf16 · bitsLt_bf16_f32) : (⟨S4096x1024, .f32⟩ : BufTy).Contents (Elt F) → (⟨S4096x1024, .bf16⟩ : BufTy).Contents (Elt F))
  :: StableHlo.unary main_v64 main_v74 (broadcastInDim S4096x8x1 ![0, 1] bcast_S4096x8_S4096x8x1_0_1 : (⟨S4096x8, .f32⟩ : BufTy).Contents (Elt F) → (⟨S4096x8x1, .f32⟩ : BufTy).Contents (Elt F))
  :: StableHlo.unary main_v74 main_v75 (broadcastInDim S4096x8x128 ![0, 1, 2] bcast_S4096x8x1_S4096x8x128_0_1_2 : (⟨S4096x8x1, .f32⟩ : BufTy).Contents (Elt F) → (⟨S4096x8x128, .f32⟩ : BufTy).Contents (Elt F))
  :: StableHlo.reshape main_v75 main_v76 (rfl : (.f32 : EltTy) = .f32) shapeCasts_S4096x8x128_S4096x1024
  :: StableHlo.unary main_v66 main_v77 (broadcastInDim S4096x8x1 ![0, 1] bcast_S4096x8_S4096x8x1_0_1 : (⟨S4096x8, .f32⟩ : BufTy).Contents (Elt F) → (⟨S4096x8x1, .f32⟩ : BufTy).Contents (Elt F))
  :: StableHlo.unary main_v77 main_v78 (broadcastInDim S4096x8x128 ![0, 1, 2] bcast_S4096x8x1_S4096x8x128_0_1_2 : (⟨S4096x8x1, .f32⟩ : BufTy).Contents (Elt F) → (⟨S4096x8x128, .f32⟩ : BufTy).Contents (Elt F))
  :: StableHlo.reshape main_v78 main_v79 (rfl : (.f32 : EltTy) = .f32) shapeCasts_S4096x8x128_S4096x1024
  :: [] )
set_option maxHeartbeats 40000000 in
theorem hostOps0_2_sub : (hostOps0_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.reshape_bufs_sub .., StableHlo.reshape_bufs_sub .., StableHlo.nary_bufs_sub .., StableHlo.unary_bufs_sub .., StableHlo.reshape_bufs_sub .., StableHlo.unary_bufs_sub .., StableHlo.unary_bufs_sub .., StableHlo.unary_bufs_sub .., StableHlo.reshape_bufs_sub .., StableHlo.unary_bufs_sub .., StableHlo.unary_bufs_sub .., StableHlo.reshape_bufs_sub ..⟩
abbrev main_part0_ops0 : List (HloOp τ sig (Elt F)) :=
  [ StableHlo.nullary main_v0 (iotaInDim S4096 32 0),
    StableHlo.unary main_v0 main_v1 (broadcastInDim S4096x1 ![0] bcast_S4096_S4096x1_0 : (⟨S4096, .i32⟩ : BufTy).Contents (Elt F) → (⟨S4096x1, .i32⟩ : BufTy).Contents (Elt F)),
    StableHlo.nullary main_v2 (iotaInDim S4096 32 0),
    StableHlo.unary main_v2 main_v3 (broadcastInDim S1x4096 ![1] bcast_S4096_S1x4096_1 : (⟨S4096, .i32⟩ : BufTy).Contents (Elt F) → (⟨S1x4096, .i32⟩ : BufTy).Contents (Elt F)),
    StableHlo.unary main_v3 main_v4 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v1 main_v5 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v4 main_v5 main_v6 (cmpi .sle : (⟨S4096x4096, .i32⟩ : BufTy).Contents (Elt F) → (⟨S4096x4096, .i32⟩ : BufTy).Contents (Elt F) → (⟨S4096x4096, .i1⟩ : BufTy).Contents (Elt F)),
    StableHlo.unary main_v1 main_v7 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v3 main_v8 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v7 main_v8 main_v9 (subi : (⟨S4096x4096, .i32⟩ : BufTy).Contents (Elt F) → (⟨S4096x4096, .i32⟩ : BufTy).Contents (Elt F) → (⟨S4096x4096, .i32⟩ : BufTy).Contents (Elt F)),
    StableHlo.nullary main_c (constantI S_ 32 128#32),
    StableHlo.unary main_c main_v10 (broadcastInDim S4096x4096 ![] bcast_S_S4096x4096 : (⟨S_, .i32⟩ : BufTy).Contents (Elt F) → (⟨S4096x4096, .i32⟩ : BufTy).Contents (Elt F)),
    StableHlo.binary main_v9 main_v10 main_v11 (cmpi .sle : (⟨S4096x4096, .i32⟩ : BufTy).Contents (Elt F) → (⟨S4096x4096, .i32⟩ : BufTy).Contents (Elt F) → (⟨S4096x4096, .i1⟩ : BufTy).Contents (Elt F)),
    StableHlo.binary main_v6 main_v11 main_v12 (andi : (⟨S4096x4096, .i1⟩ : BufTy).Contents (Elt F) → (⟨S4096x4096, .i1⟩ : BufTy).Contents (Elt F) → (⟨S4096x4096, .i1⟩ : BufTy).Contents (Elt F)),
    StableHlo.binary main_arg0 main_arg1 main_v13 ((fun l r => Host.dotGeneral dot_S4096x8x128_S4096x8x128_S8x4096x4096_2_2_0_0_1_1 none l r) : (⟨S4096x8x128, .f32⟩ : BufTy).Contents (Elt F) → (⟨S4096x8x128, .f32⟩ : BufTy).Contents (Elt F) → (⟨S8x4096x4096, .f32⟩ : BufTy).Contents (Elt F)),
    StableHlo.unary main_v12 main_v14 (broadcastInDim S1x4096x4096 ![1, 2] bcast_S4096x4096_S1x4096x4096_1_2 : (⟨S4096x4096, .i1⟩ : BufTy).Contents (Elt F) → (⟨S1x4096x4096, .i1⟩ : BufTy).Contents (Elt F)),
    StableHlo.nullary main_cst (constant S_ .f32 0xFF800000#32) ]
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub ..⟩
abbrev main_part0_ops1 : List (HloOp τ sig (Elt F)) :=
  [ StableHlo.TRef.unary (.of main_cst : StableHlo.TRef sig ⟨S_, .f32⟩) (.of main_call0_v0 : StableHlo.TRef sig ⟨S_, .f32⟩) id,
    StableHlo.TRef.unary (.of main_v14 : StableHlo.TRef sig ⟨S1x4096x4096, .i1⟩) (.of main_call0_v1 : StableHlo.TRef sig ⟨S8x4096x4096, .i1⟩) (broadcastInDim S8x4096x4096 ![0, 1, 2] bcast_S1x4096x4096_S8x4096x4096_0_1_2),
    StableHlo.TRef.unary (.of main_call0_v0 : StableHlo.TRef sig ⟨S_, .f32⟩) (.of main_call0_v2 : StableHlo.TRef sig ⟨S8x4096x4096, .f32⟩) (broadcastInDim S8x4096x4096 ![] bcast_S_S8x4096x4096),
    StableHlo.TRef.ternary (.of main_call0_v1 : StableHlo.TRef sig ⟨S8x4096x4096, .i1⟩) (.of main_v13 : StableHlo.TRef sig ⟨S8x4096x4096, .f32⟩) (.of main_call0_v2 : StableHlo.TRef sig ⟨S8x4096x4096, .f32⟩) (.of main_v15 : StableHlo.TRef sig ⟨S8x4096x4096, .f32⟩) select ]
theorem main_part0_ops1_sub : (main_part0_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
abbrev main_part0_ops2 : List (HloOp τ sig (Elt F)) :=
  ( StableHlo.nullary main_cst_0 (constant S_ .f32 0xFF800000#32)
  :: StableHlo.binary main_v15 main_cst_0 main_v16 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F))
  :: StableHlo.unary main_v16 main_v17 (broadcastInDim S8x4096x1 ![0, 1] bcast_S8x4096_S8x4096x1_0_1 : (⟨S8x4096, .f32⟩ : BufTy).Contents (Elt F) → (⟨S8x4096x1, .f32⟩ : BufTy).Contents (Elt F))
  :: StableHlo.unary main_v17 main_v18 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F))
  :: StableHlo.binary main_v15 main_v18 main_v19 (subf : (⟨S8x4096x4096, .f32⟩ : BufTy).Contents (Elt F) → (⟨S8x4096x4096, .f32⟩ : BufTy).Contents (Elt F) → (⟨S8x4096x4096, .f32⟩ : BufTy).Contents (Elt F))
  :: StableHlo.unary main_v19 main_v20 (Host.exp : (⟨S8x4096x4096, .f32⟩ : BufTy).Contents (Elt F) → (⟨S8x4096x4096, .f32⟩ : BufTy).Contents (Elt F))
  :: StableHlo.nullary main_cst_1 (constant S_ .f32 0x00000000#32)
  :: StableHlo.binary main_v20 main_cst_1 main_v21 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F))
  :: StableHlo.unary main_v21 main_v22 (broadcastInDim S8x4096x1 ![0, 1] bcast_S8x4096_S8x4096x1_0_1 : (⟨S8x4096, .f32⟩ : BufTy).Contents (Elt F) → (⟨S8x4096x1, .f32⟩ : BufTy).Contents (Elt F))
  :: StableHlo.unary main_v22 main_v23 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F))
  :: StableHlo.binary main_v20 main_v23 main_v24 (Host.divf : (⟨S8x4096x4096, .f32⟩ : BufTy).Contents (Elt F) → (⟨S8x4096x4096, .f32⟩ : BufTy).Contents (Elt F) → (⟨S8x4096x4096, .f32⟩ : BufTy).Contents (Elt F))
  :: StableHlo.binary main_arg2 main_v24 main_v25 ((fun l r => Host.dotGeneral dot_S4096x8x128_S8x4096x4096_S8x128x4096_0_2_2_1_1_0 none l r) : (⟨S4096x8x128, .f32⟩ : BufTy).Contents (Elt F) → (⟨S8x4096x4096, .f32⟩ : BufTy).Contents (Elt F) → (⟨S8x128x4096, .f32⟩ : BufTy).Contents (Elt F))
  :: StableHlo.unary main_v25 main_v26 ((transpose S4096x8x128 [2, 0, 1] · transposes_S8x128x4096_S4096x8x128_2_0_1) : (⟨S8x128x4096, .f32⟩ : BufTy).Contents (Elt F) → (⟨S4096x8x128, .f32⟩ : BufTy).Contents (Elt F))
  :: StableHlo.unary main_v22 main_v27 (Host.log : (⟨S8x4096x1, .f32⟩ : BufTy).Contents (Elt F) → (⟨S8x4096x1, .f32⟩ : BufTy).Contents (Elt F))
  :: StableHlo.binary main_v17 main_v27 main_v28 (addf : (⟨S8x4096x1, .f32⟩ : BufTy).Contents (Elt F) → (⟨S8x4096x1, .f32⟩ : BufTy).Contents (Elt F) → (⟨S8x4096x1, .f32⟩ : BufTy).Contents (Elt F))
  :: StableHlo.reshape main_v28 main_v29 (rfl : (.f32 : EltTy) = .f32) shapeCasts_S8x4096x1_S8x4096
  :: StableHlo.unary main_v29 main_v30 ((transpose S4096x8 [1, 0] · transposes_S8x4096_S4096x8_1_0) : (⟨S8x4096, .f32⟩ : BufTy).Contents (Elt F) → (⟨S4096x8, .f32⟩ : BufTy).Contents (Elt F))
  :: StableHlo.unary main_v30 main_v31 (broadcastInDim S1x4096x8 ![1, 2] bcast_S4096x8_S1x4096x8_1_2 : (⟨S4096x8, .f32⟩ : BufTy).Contents (Elt F) → (⟨S1x4096x8, .f32⟩ : BufTy).Contents (Elt F))
  :: StableHlo.binary main_v31 main_arg4 main_v32 ((fun a b => concatenate S3x4096x8 0 [⟨S1x4096x8, a⟩, ⟨S2x4096x8, b⟩] concatenates_S1x4096x8_S2x4096x8_S3x4096x8_d0) : (⟨S1x4096x8, .f32⟩ : BufTy).Contents (Elt F) → (⟨S2x4096x8, .f32⟩ : BufTy).Contents (Elt F) → (⟨S3x4096x8, .f32⟩ : BufTy).Contents (Elt F))
  :: StableHlo.nullary main_cst_2 (constant S_ .f32 0xFF800000#32)
  :: StableHlo.binary main_v32 main_cst_2 main_v33 ((fun x v => Host.reduce FloatOps.maximumf x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F))
  :: StableHlo.nullary main_cst_3 (constant S_ .f32 0xFF800000#32)
  :: StableHlo.unary main_cst_3 main_v34 (broadcastInDim S4096x8 ![] bcast_S_S4096x8 : (⟨S_, .f32⟩ : BufTy).Contents (Elt F) → (⟨S4096x8, .f32⟩ : BufTy).Contents (Elt F))
  :: StableHlo.binary main_v34 main_v33 main_v35 (maximumf : (⟨S4096x8, .f32⟩ : BufTy).Contents (Elt F) → (⟨S4096x8, .f32⟩ : BufTy).Contents (Elt F) → (⟨S4096x8, .f32⟩ : BufTy).Contents (Elt F))
  :: StableHlo.unary main_v35 main_v36 (broadcastInDim S1x4096x8 ![1, 2] bcast_S4096x8_S1x4096x8_1_2 : (⟨S4096x8, .f32⟩ : BufTy).Contents (Elt F) → (⟨S1x4096x8, .f32⟩ : BufTy).Contents (Elt F))
  :: StableHlo.unary main_v36 main_v37 (broadcastInDim S3x4096x8 ![0, 1, 2] bcast_S1x4096x8_S3x4096x8_0_1_2 : (⟨S1x4096x8, .f32⟩ : BufTy).Contents (Elt F) → (⟨S3x4096x8, .f32⟩ : BufTy).Contents (Elt F))
  :: StableHlo.binary main_v32 main_v37 main_v38 (subf : (⟨S3x4096x8, .f32⟩ : BufTy).Contents (Elt F) → (⟨S3x4096x8, .f32⟩ : BufTy).Contents (Elt F) → (⟨S3x4096x8, .f32⟩ : BufTy).Contents (Elt F))
  :: StableHlo.unary main_v38 main_v39 (Host.exp : (⟨S3x4096x8, .f32⟩ : BufTy).Contents (Elt F) → (⟨S3x4096x8, .f32⟩ : BufTy).Contents (Elt F))
  :: StableHlo.nullary main_cst_4 (constant S_ .f32 0x00000000#32)
  :: StableHlo.binary main_v39 main_cst_4 main_v40 ((fun x v => Host.reduceAdd x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F))
  :: StableHlo.unary main_v40 main_v41 (broadcastInDim S1x4096x8 ![1, 2] bcast_S4096x8_S1x4096x8_1_2 : (⟨S4096x8, .f32⟩ : BufTy).Contents (Elt F) → (⟨S1x4096x8, .f32⟩ : BufTy).Contents (Elt F))
  :: StableHlo.unary main_v41 main_v42 (broadcastInDim S3x4096x8 ![0, 1, 2] bcast_S1x4096x8_S3x4096x8_0_1_2 : (⟨S1x4096x8, .f32⟩ : BufTy).Contents (Elt F) → (⟨S3x4096x8, .f32⟩ : BufTy).Contents (Elt F))
  :: StableHlo.binary main_v39 main_v42 main_v43 (Host.divf : (⟨S3x4096x8, .f32⟩ : BufTy).Contents (Elt F) → (⟨S3x4096x8, .f32⟩ : BufTy).Contents (Elt F) → (⟨S3x4096x8, .f32⟩ : BufTy).Contents (Elt F))
  :: StableHlo.unary main_v43 main_v44 ((extractStridedSlice S1x4096x8 ![0, 0, 0] · slices_S3x4096x8_S1x4096x8_0_0_0) : (⟨S3x4096x8, .f32⟩ : BufTy).Contents (Elt F) → (⟨S1x4096x8, .f32⟩ : BufTy).Contents (Elt F))
  :: StableHlo.reshape main_v44 main_v45 (rfl : (.f32 : EltTy) = .f32) shapeCasts_S1x4096x8_S4096x8
  :: StableHlo.unary main_v45 main_v46 (broadcastInDim S4096x8x1 ![0, 1] bcast_S4096x8_S4096x8x1_0_1 : (⟨S4096x8, .f32⟩ : BufTy).Contents (Elt F) → (⟨S4096x8x1, .f32⟩ : BufTy).Contents (Elt F))
  :: StableHlo.unary main_v46 main_v47 (broadcastInDim S4096x8x128 ![0, 1, 2] bcast_S4096x8x1_S4096x8x128_0_1_2 : (⟨S4096x8x1, .f32⟩ : BufTy).Contents (Elt F) → (⟨S4096x8x128, .f32⟩ : BufTy).Contents (Elt F))
  :: StableHlo.binary main_v47 main_v26 main_v48 (mulf : (⟨S4096x8x128, .f32⟩ : BufTy).Contents (Elt F) → (⟨S4096x8x128, .f32⟩ : BufTy).Contents (Elt F) → (⟨S4096x8x128, .f32⟩ : BufTy).Contents (Elt F))
  :: StableHlo.unary main_v43 main_v49 ((extractStridedSlice S2x4096x8 ![1, 0, 0] · slices_S3x4096x8_S2x4096x8_1_0_0) : (⟨S3x4096x8, .f32⟩ : BufTy).Contents (Elt F) → (⟨S2x4096x8, .f32⟩ : BufTy).Contents (Elt F))
  :: StableHlo.unary main_v49 main_v50 (broadcastInDim S2x4096x8x1 ![0, 1, 2] bcast_S2x4096x8_S2x4096x8x1_0_1_2 : (⟨S2x4096x8, .f32⟩ : BufTy).Contents (Elt F) → (⟨S2x4096x8x1, .f32⟩ : BufTy).Contents (Elt F))
  :: StableHlo.unary main_v50 main_v51 (broadcastInDim S2x4096x8x128 ![0, 1, 2, 3] bcast_S2x4096x8x1_S2x4096x8x128_0_1_2_3 : (⟨S2x4096x8x1, .f32⟩ : BufTy).Contents (Elt F) → (⟨S2x4096x8x128, .f32⟩ : BufTy).Contents (Elt F))
  :: StableHlo.binary main_v51 main_arg3 main_v52 (mulf : (⟨S2x4096x8x128, .f32⟩ : BufTy).Contents (Elt F) → (⟨S2x4096x8x128, .f32⟩ : BufTy).Contents (Elt F) → (⟨S2x4096x8x128, .f32⟩ : BufTy).Contents (Elt F))
  :: [] )
theorem main_part0_ops2_sub : (main_part0_ops2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub ..⟩
theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (Pipeline.Sig Λ₀ (Fin 1) fun p => (pcfgs (F := F) p).Adm) .tc) PUnit) := by
  rewrite [StableHlo.chainK_seq_cons, Pipeline.chainK_cons]
  chain_rfl

abbrev main_part1_ops0 : List (HloOp τ sig (Elt F)) :=
  [ StableHlo.nullary main_cst_5 (constant S_ .f32 0x00000000#32),
    StableHlo.binary main_v52 main_cst_5 main_v53 ((fun x v => Host.reduceAdd x v reducesTo_S2x4096x8x128_S4096x8x128_d0 h_S_) : (⟨S2x4096x8x128, .f32⟩ : BufTy).Contents (Elt F) → (⟨S_, .f32⟩ : BufTy).Contents (Elt F) → (⟨S4096x8x128, .f32⟩ : BufTy).Contents (Elt F)),
    StableHlo.binary main_v48 main_v53 main_v54 (addf : (⟨S4096x8x128, .f32⟩ : BufTy).Contents (Elt F) → (⟨S4096x8x128, .f32⟩ : BufTy).Contents (Elt F) → (⟨S4096x8x128, .f32⟩ : BufTy).Contents (Elt F)),
    StableHlo.unary main_v30 main_v55 (broadcastInDim S1x4096x8 ![1, 2] bcast_S4096x8_S1x4096x8_1_2 : (⟨S4096x8, .f32⟩ : BufTy).Contents (Elt F) → (⟨S1x4096x8, .f32⟩ : BufTy).Contents (Elt F)),
    StableHlo.binary main_v55 main_arg4 main_v56 ((fun a b => concatenate S3x4096x8 0 [⟨S1x4096x8, a⟩, ⟨S2x4096x8, b⟩] concatenates_S1x4096x8_S2x4096x8_S3x4096x8_d0) : (⟨S1x4096x8, .f32⟩ : BufTy).Contents (Elt F) → (⟨S2x4096x8, .f32⟩ : BufTy).Contents (Elt F) → (⟨S3x4096x8, .f32⟩ : BufTy).Contents (Elt F)),
    StableHlo.nullary main_cst_6 (constant S_ .f32 0xFF800000#32),
    StableHlo.binary main_v56 main_cst_6 main_v57 ((fun x v => Host.reduce FloatOps.maximumf x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F)),
    StableHlo.unary main_v57 main_v58 (broadcastInDim S1x4096x8 ![1, 2] bcast_S4096x8_S1x4096x8_1_2 : (⟨S4096x8, .f32⟩ : BufTy).Contents (Elt F) → (⟨S1x4096x8, .f32⟩ : BufTy).Contents (Elt F)),
    StableHlo.unary main_v58 main_v59 (broadcastInDim S3x4096x8 ![0, 1, 2] bcast_S1x4096x8_S3x4096x8_0_1_2 : (⟨S1x4096x8, .f32⟩ : BufTy).Contents (Elt F) → (⟨S3x4096x8, .f32⟩ : BufTy).Contents (Elt F)),
    StableHlo.binary main_v56 main_v59 main_v60 (subf : (⟨S3x4096x8, .f32⟩ : BufTy).Contents (Elt F) → (⟨S3x4096x8, .f32⟩ : BufTy).Contents (Elt F) → (⟨S3x4096x8, .f32⟩ : BufTy).Contents (Elt F)),
    StableHlo.unary main_v60 main_v61 (Host.exp : (⟨S3x4096x8, .f32⟩ : BufTy).Contents (Elt F) → (⟨S3x4096x8, .f32⟩ : BufTy).Contents (Elt F)),
    StableHlo.nullary main_cst_7 (constant S_ .f32 0x00000000#32),
    StableHlo.binary main_v61 main_cst_7 main_v62 ((fun x v => Host.reduceAdd x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F)),
    StableHlo.unary main_v62 main_v63 (Host.log : (⟨S4096x8, .f32⟩ : BufTy).Contents (Elt F) → (⟨S4096x8, .f32⟩ : BufTy).Contents (Elt F)),
    StableHlo.binary main_v57 main_v63 main_v64 (addf : (⟨S4096x8, .f32⟩ : BufTy).Contents (Elt F) → (⟨S4096x8, .f32⟩ : BufTy).Contents (Elt F) → (⟨S4096x8, .f32⟩ : BufTy).Contents (Elt F)),
    StableHlo.binary main_arg5 main_v54 main_v65 (mulf : (⟨S4096x8x128, .f32⟩ : BufTy).Contents (Elt F) → (⟨S4096x8x128, .f32⟩ : BufTy).Contents (Elt F) → (⟨S4096x8x128, .f32⟩ : BufTy).Contents (Elt F)),
    StableHlo.nullary main_cst_8 (constant S_ .f32 0x00000000#32),
    StableHlo.binary main_v65 main_cst_8 main_v66 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F)),
    StableHlo.reshape main_arg0 main_v67 (rfl : (.f32 : EltTy) = .f32) shapeCasts_S4096x8x128_S4096x1024,
    StableHlo.reshape main_arg1 main_v68 (rfl : (.f32 : EltTy) = .f32) shapeCasts_S4096x8x128_S4096x1024,
    StableHlo.reshape main_arg2 main_v69 (rfl : (.f32 : EltTy) = .f32) shapeCasts_S4096x8x128_S4096x1024,
    StableHlo.nary ![main_v67, main_v68, main_v69] main_v70 (fun u => (concatenate S4096x3072 1 [⟨S4096x1024, (u 0 : (⟨S4096x1024, .f32⟩ : BufTy).Contents (Elt F))⟩, ⟨S4096x1024, (u 1 : (⟨S4096x1024, .f32⟩ : BufTy).Contents (Elt F))⟩, ⟨S4096x1024, (u 2 : (⟨S4096x1024, .f32⟩ : BufTy).Contents (Elt F))⟩] concatenates_S4096x1024_S4096x1024_S4096x1024_S4096x3072_d1 : (⟨S4096x3072, .f32⟩ : BufTy).Contents (Elt F))),
    StableHlo.unary main_v70 main_v71 ((truncf .bf16 · bitsLt_bf16_f32) : (⟨S4096x3072, .f32⟩ : BufTy).Contents (Elt F) → (⟨S4096x3072, .bf16⟩ : BufTy).Contents (Elt F)),
    StableHlo.reshape main_arg5 main_v72 (rfl : (.f32 : EltTy) = .f32) shapeCasts_S4096x8x128_S4096x1024,
    StableHlo.unary main_v72 main_v73 ((truncf .bf16 · bitsLt_bf16_f32) : (⟨S4096x1024, .f32⟩ : BufTy).Contents (Elt F) → (⟨S4096x1024, .bf16⟩ : BufTy).Contents (Elt F)),
    StableHlo.unary main_v64 main_v74 (broadcastInDim S4096x8x1 ![0, 1] bcast_S4096x8_S4096x8x1_0_1 : (⟨S4096x8, .f32⟩ : BufTy).Contents (Elt F) → (⟨S4096x8x1, .f32⟩ : BufTy).Contents (Elt F)),
    StableHlo.unary main_v74 main_v75 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    StableHlo.reshape main_v75 main_v76 (rfl : (.f32 : EltTy) = .f32) shapeCasts_S4096x8x128_S4096x1024,
    StableHlo.unary main_v66 main_v77 (broadcastInDim S4096x8x1 ![0, 1] bcast_S4096x8_S4096x8x1_0_1 : (⟨S4096x8, .f32⟩ : BufTy).Contents (Elt F) → (⟨S4096x8x1, .f32⟩ : BufTy).Contents (Elt F)),
    StableHlo.unary main_v77 main_v78 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    StableHlo.reshape main_v78 main_v79 (rfl : (.f32 : EltTy) = .f32) shapeCasts_S4096x8x128_S4096x1024 ]
theorem main_part1_ops0_sub : (main_part1_ops0 : List (HloOp τ sig (Elt F))).Forall fun op => op.bufs ⊆ StableHlo.tcRefs τ sig :=
  ⟨StableHlo.nullary_bufs_sub .., StableHlo.binary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.reshape_bufs_sub .., StableHlo.reshape_bufs_sub .., StableHlo.nary_bufs_sub .., StableHlo.unary_bufs_sub .., StableHlo.reshape_bufs_sub .., StableHlo.unary_bufs_sub .., StableHlo.unary_bufs_sub .., StableHlo.unary_bufs_sub .., StableHlo.reshape_bufs_sub .., StableHlo.unary_bufs_sub .., StableHlo.unary_bufs_sub .., StableHlo.reshape_bufs_sub ..⟩
theorem main_part1_chain (c : Dev nD) : main_part1 (F := F) c = (Pipeline.chain
  [ StableHlo.seq main_part1_ops0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

theorem main_chain_windows (c : Dev nD) : main (F := F) c = (Pipeline.chain
  [ StableHlo.seq main_part0_ops0,
    StableHlo.seq main_part0_ops1,
    StableHlo.seq main_part0_ops2,
    StableHlo.seq main_part1_ops0,
    Prog.lift (.customCall (Pipeline.entry 0) ()) ] : Prog (TpuEff nD τ sig (Elt F) (Pipeline.Sig Λ₀ (Fin 1) fun p => (pcfgs (F := F) p).Adm) .tc) PUnit) := by
  show (main_part0 (F := F) c >>= fun _ => main_part1 (F := F) c) = _
  rewrite [main_part1_chain, main_part0_chain, Pipeline.chainK_bind_chain]
  chain_rfl

abbrev main_groups (c : Dev nD) : List (StableHlo.Group nD τ sig (Elt F) (Pipeline.Sig Λ₀ (Fin 1) fun p => (pcfgs (F := F) p).Adm)) :=
  [ .ops [main_part0_ops0],
    .ops [main_part0_ops1],
    .ops [main_part0_ops2, main_part1_ops0],
    .prog (Prog.lift (.customCall (Pipeline.entry 0) ())) ]

theorem main_chain_cut (c : Dev nD) : (Pipeline.chain
  [ StableHlo.seq main_part0_ops0,
    StableHlo.seq main_part0_ops1,
    StableHlo.seq main_part0_ops2,
    StableHlo.seq main_part1_ops0,
    Prog.lift (.customCall (Pipeline.entry 0) ()) ] : Prog (TpuEff nD τ sig (Elt F) (Pipeline.Sig Λ₀ (Fin 1) fun p => (pcfgs (F := F) p).Adm) .tc) PUnit) = Pipeline.chain ((main_groups (F := F) c).flatMap StableHlo.Group.cut) := by
  chain_rfl

theorem main_chain_whole (c : Dev nD) : Pipeline.chain ((main_groups (F := F) c).map StableHlo.Group.whole) = (Pipeline.chain
  [ StableHlo.seq hostOps0,
    StableHlo.seq hostOps0_1,
    StableHlo.seq hostOps0_2,
    Prog.lift (.customCall (Pipeline.entry 0) ()) ] : Prog (TpuEff nD τ sig (Elt F) (Pipeline.Sig Λ₀ (Fin 1) fun p => (pcfgs (F := F) p).Adm) .tc) PUnit) := by
  chain_rfl

theorem main_chain (c : Dev nD) : main (F := F) c = (Pipeline.chain
  [ StableHlo.seq hostOps0,
    StableHlo.seq hostOps0_1,
    StableHlo.seq hostOps0_2,
    Prog.lift (.customCall (Pipeline.entry 0) ()) ] : Prog (TpuEff nD τ sig (Elt F) (Pipeline.Sig Λ₀ (Fin 1) fun p => (pcfgs (F := F) p).Adm) .tc) PUnit) :=
  (main_chain_windows (F := F) c).trans <| (main_chain_cut (F := F) c).trans <|
    (StableHlo.chain_cut_eq_whole (main_groups (F := F) c)).trans (main_chain_whole (F := F) c)

end Cert.Kernel2Ideal.Gen

end
-- ==== Proof.Attn.Points.lean ====
/- The points of the attention kernel's grid. -/
module

public import proofs.«01_k».proof.Proof.Attn.Ideal
public import Idealize.ShloMosaic.Lib.Pipeline.Kit

@[expose] public section

noncomputable section

namespace Cert.Kernel2Ideal.Gen

open Idealize.ShloMosaic Idealize.ShloMosaic.TcCoe
open Idealize.SL Idealize.SL.Sem

variable {F : FTy → Type} [FloatOps F]

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)
abbrev st0_10 (t : Fin cfg0.N) := (cfg0.win 10).stage (cfg0.slots t 10)

abbrev bodyAt0 (t : Fin cfg0.N) : Prog (TpuEff nD τ sig (Elt F) Λ₀ .tc) PUnit :=
  cc0_attn_bwd_0 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _)

end Cert.Kernel2Ideal.Gen

end
-- ==== Proof.Attn.Kit.lean ====
/- The attention kernel's call and its operands. -/
module

public import proofs.«01_k».proof.Proof.Attn.Launch
public import proofs.«01_k».proof.Proof.Attn.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem args_of (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

end Cert.Kernel2Ideal.Gen

end
-- ==== Proof.Attn.Runs.lean ====
/- The attention kernel's body on whole blocks, in its three cases: at the grid's first point the carried blocks are set to
   zero first; at its last point only the carried blocks are written out. -/
module

public import proofs.«01_k».proof.Proof.Attn.Heads
public import proofs.«01_k».proof.Proof.Attn.Kit
public import proofs.«01_k».proof.Proof.Hand.Cols

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Real (hz2)

variable {F : FTy → Type} [FloatOps F]

local notation "𝕄" => MT nD τ sig Unit (Elt F) ℕ (UR sig nD τ) ℕ

/-- The body's conditions: at the grid's first point, before its last, and at its last. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1
abbrev cond0_2 (i : grid0.Coords) : Prop := k0_cond3 i = 1#1

/-- A buffer whose last store was of the whole of it holds what was stored. -/
theorem read_writes_whole {Val : EltTy → Type} [∀ e, Nonempty (Val e)] {sig : RefSig} {κ : Kind} {sp : Space} {e : EltTy} {S : Shape} (v : View sig κ sp S e) (f : v.ty.Contents Val)
    {off : Fin S.rank → ℕ} (h : off = fun _ => 0) (inb : ∀ a, off a + S.size a ≤ S.size a) (w : S.Idx → Val e) (L : List (View.Piece Val S e)) :
    v.read Val (v.writes Val f (⟨Rect.unit off S.size inb, w⟩ :: L)) = w := by
  rw [View.read_writes_eq_canon _ _ _ fun y => ⟨_, List.mem_cons_self, ?_⟩, View.canon_cons_unit_zero h]
  exact View.mem_set_unit_zero h inb y

variable (c : Dev nD) (i : grid0.Coords)
  (arg2 : Memref sig .tc .vmem S128x1024 .bf16) (harg2 : arg2.IsWhole)
  (arg3 : Memref sig .tc .vmem S128x1024 .bf16) (harg3 : arg3.IsWhole)
  (arg4 : Memref sig .tc .vmem S128x1024 .bf16) (harg4 : arg4.IsWhole)
  (arg5 : Memref sig .tc .vmem S128x1024 .bf16) (harg5 : arg5.IsWhole)
  (arg6 : Memref sig .tc .vmem S128x1024 .bf16) (harg6 : arg6.IsWhole)
  (arg7 : Memref sig .tc .vmem S128x1024 .bf16) (harg7 : arg7.IsWhole)
  (arg8 : Memref sig .tc .vmem S128x1024 .f32) (harg8 : arg8.IsWhole)
  (arg9 : Memref sig .tc .vmem S128x1024 .f32) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S128x1024 .f32) (harg13 : arg13.IsWhole)
  (arg14 : Memref sig .tc .vmem S128x1024 .f32) (harg14 : arg14.IsWhole)
  (x0 x1 x2 x3 x4 x5 : Vec F S128x1024 .bf16) (x6 x7 ck cv : Vec F S128x1024 .f32) (x8 : Vec F S128x1024 .bf16)

set_option maxHeartbeats 4000000 in
/-- A point between the first and the last. -/
theorem runB (hc0 : ¬cond0_0 i) (hc1 : cond0_1 i) (hc2 : ¬cond0_2 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare ck ∗ owns (c : Thread nD τ) arg14 fullShare cv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dqT (k0_pay6 (BitVec.ofNat 32 (i 1).val)) x0 x1 x2 x3 x4 x5 x6 x7) ∗ owns (c : Thread nD τ) arg11 fullShare (dkT (k0_pay6 (BitVec.ofNat 32 (i 1).val)) x0 x1 x2 x3 x4 x5 x6 x7 ck) ∗ owns (c : Thread nD τ) arg12 fullShare (dvT (k0_pay6 (BitVec.ofNat 32 (i 1).val)) x0 x1 x2 x5 x6 cv) ∗ owns (c : Thread nD τ) arg13 fullShare (ckT (k0_pay6 (BitVec.ofNat 32 (i 1).val)) x0 x1 x2 x3 x4 x5 x6 x7) ∗ owns (c : Thread nD τ) arg14 fullShare (cvT (k0_pay6 (BitVec.ofNat 32 (i 1).val)) x0 x1 x2 x5 x6)) -∗ K ⟨⟩))
      ⊢ wp frame (wpE (defs₀ (F := F)) Variants.none c none) E (cc0_attn_bwd_0 i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_0_eq_skeleton]; unfold cc0_attn_bwd_0_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0; obtain rfl := harg14.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, harg13.read_unread, harg14.read_unread, View.ld_unit_zero (S := S128x1024) hz2]; simp only [View.ld_unit]; simp only [k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]; rfl)
  isplitl [H9]
  · iexists _; isplitr; swap; · iexact H9
    ipureintro
    (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, harg13.read_unread, harg14.read_unread, View.ld_unit_zero (S := S128x1024) hz2]; simp only [View.ld_unit]; simp only [k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]; rfl)
  isplitl [H10]
  · iexists _; isplitr; swap; · iexact H10
    ipureintro
    (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, harg13.read_unread, harg14.read_unread, View.ld_unit_zero (S := S128x1024) hz2]; simp only [View.ld_unit]; simp only [k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]; rfl)
  isplitl [HS0]
  · iexists _; isplitr; swap; · iexact HS0
    ipureintro
    (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, harg13.read_unread, harg14.read_unread, View.ld_unit_zero (S := S128x1024) hz2]; simp only [View.ld_unit]; simp only [k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]; exact (shapeCast_self _ _).trans rfl)
  iexists _; isplitr; swap; · iexact HS1
  ipureintro
  (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, harg13.read_unread, harg14.read_unread, View.ld_unit_zero (S := S128x1024) hz2]; simp only [View.ld_unit]; simp only [k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]; exact (shapeCast_self _ _).trans rfl)
set_option maxHeartbeats 4000000 in
/-- The grid's first point. -/
theorem runA (hc0 : cond0_0 i) (hc1 : cond0_1 i) (hc2 : ¬cond0_2 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dqT (k0_pay6 (BitVec.ofNat 32 (i 1).val)) x0 x1 x2 x3 x4 x5 x6 x7) ∗ owns (c : Thread nD τ) arg11 fullShare (dkT (k0_pay6 (BitVec.ofNat 32 (i 1).val)) x0 x1 x2 x3 x4 x5 x6 x7 k0_pay1) ∗ owns (c : Thread nD τ) arg12 fullShare (dvT (k0_pay6 (BitVec.ofNat 32 (i 1).val)) x0 x1 x2 x5 x6 k0_pay2) ∗ owns (c : Thread nD τ) arg13 fullShare (ckT (k0_pay6 (BitVec.ofNat 32 (i 1).val)) x0 x1 x2 x3 x4 x5 x6 x7) ∗ owns (c : Thread nD τ) arg14 fullShare (cvT (k0_pay6 (BitVec.ofNat 32 (i 1).val)) x0 x1 x2 x5 x6)) -∗ K ⟨⟩))
      ⊢ wp frame (wpE (defs₀ (F := F)) Variants.none c none) E (cc0_attn_bwd_0 i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_0_eq_skeleton]; unfold cc0_attn_bwd_0_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, View.readCov_unit_zero (S := S128x1024) _ hz2, View.ld_unit_zero (S := S128x1024) hz2]; simp only [View.ld_unit]; simp only [k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]; rfl)
  isplitl [H9]
  · iexists _; isplitr; swap; · iexact H9
    ipureintro
    (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, View.readCov_unit_zero (S := S128x1024) _ hz2, View.ld_unit_zero (S := S128x1024) hz2]; simp only [View.ld_unit]; simp only [k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]; rfl)
  isplitl [H10]
  · iexists _; isplitr; swap; · iexact H10
    ipureintro
    (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, View.readCov_unit_zero (S := S128x1024) _ hz2, View.ld_unit_zero (S := S128x1024) hz2]; simp only [View.ld_unit]; simp only [k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]; rfl)
  isplitl [HS0]
  · iexists _; isplitr; swap; · iexact HS0
    ipureintro
    (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, View.readCov_unit_zero (S := S128x1024) _ hz2, View.ld_unit_zero (S := S128x1024) hz2]; simp only [View.ld_unit]; simp only [k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]; exact (shapeCast_self _ _).trans rfl)
  iexists _; isplitr; swap; · iexact HS1
  ipureintro
  (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, View.readCov_unit_zero (S := S128x1024) _ hz2, View.ld_unit_zero (S := S128x1024) hz2]; simp only [View.ld_unit]; simp only [k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]; exact (shapeCast_self _ _).trans rfl)
set_option maxHeartbeats 4000000 in
/-- The grid's last point. -/
theorem runC (hc0 : ¬cond0_0 i) (hc1 : ¬cond0_1 i) (hc2 : cond0_2 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare ck ∗ owns (c : Thread nD τ) arg14 fullShare cv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay4 ck) ∗ owns (c : Thread nD τ) arg12 fullShare (k0_pay5 cv) ∗ owns (c : Thread nD τ) arg13 fullShare ck ∗ owns (c : Thread nD τ) arg14 fullShare cv) -∗ K ⟨⟩))
      ⊢ wp frame (wpE (defs₀ (F := F)) Variants.none c none) E (cc0_attn_bwd_0 i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_0_eq_skeleton]; unfold cc0_attn_bwd_0_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0; obtain rfl := harg14.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    exact harg10.read_unread _
  isplitl [H9]
  · iexists _; isplitr; swap; · iexact H9
    ipureintro
    (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, harg13.read_unread, harg14.read_unread, View.ld_unit_zero (S := S128x1024) hz2])
  isplitl [H10]
  · iexists _; isplitr; swap; · iexact H10
    ipureintro
    (rw [read_writes_whole (S := S128x1024) _ _ hz2]; sl_unfold_words; simp only [View.readAt_eq_ld, harg2.read_unread, harg3.read_unread, harg4.read_unread, harg5.read_unread, harg6.read_unread, harg7.read_unread, harg8.read_unread, harg9.read_unread, harg13.read_unread, harg14.read_unread, View.ld_unit_zero (S := S128x1024) hz2])
  isplitl [HS0]
  · iexists _; isplitr; swap; · iexact HS0
    ipureintro
    exact harg13.read_unread _
  iexists _; isplitr; swap; · iexact HS1
  ipureintro
  exact harg14.read_unread _

end Cert.Kernel2Ideal.Gen

end
-- ==== Proof.Attn.Frame.lean ====
/- The attention kernel's frame with its outputs' contents: what the carried blocks hold before each point, what each point leaves,
   and the run of the whole call. -/
module

public import proofs.«01_k».proof.Proof.Attn.Runs
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hcond0_0 : ∀ t : Fin cfg0.N, cond0_0 (grid0.coords t) ↔ t.val % 33 = 0 :=
  (by decide +kernel : ∀ t : Fin grid0.N, cond0_0 (grid0.coords t) ↔ t.val % 33 = 0)
theorem hcond0_1 : ∀ t : Fin cfg0.N, cond0_1 (grid0.coords t) ↔ t.val < 32 :=
  (by decide +kernel : ∀ t : Fin grid0.N, cond0_1 (grid0.coords t) ↔ t.val < 32)
theorem hcond0_2 : ∀ t : Fin cfg0.N, cond0_2 (grid0.coords t) ↔ t.val % 33 = 32 :=
  (by decide +kernel : ∀ t : Fin grid0.N, cond0_2 (grid0.coords t) ↔ t.val % 33 = 32)

theorem liveAt0_0 : ∀ t : Fin cfg0.N, cfg0.idle 0 (grid0.coords t) = false := fun _ => rfl
abbrev ms0_0 (t : Fin cfg0.N) : Memref sig .tc .vmem S128x1024 .bf16 := win0_0.stage (cfg0.slots t 0)
theorem hs0_0 (t : Fin cfg0.N) : (ms0_0 t).IsWhole := hstage0_0 ((cfg0.slots t 0).cast nbuf0_0)
theorem liveAt0_1 : ∀ t : Fin cfg0.N, cfg0.idle 1 (grid0.coords t) = false := fun _ => rfl
abbrev ms0_1 (t : Fin cfg0.N) : Memref sig .tc .vmem S128x1024 .bf16 := win0_1.stage (cfg0.slots t 1)
theorem hs0_1 (t : Fin cfg0.N) : (ms0_1 t).IsWhole := hstage0_1 ((cfg0.slots t 1).cast nbuf0_1)
theorem liveAt0_2 : ∀ t : Fin cfg0.N, cfg0.idle 2 (grid0.coords t) = false := fun _ => rfl
abbrev ms0_2 (t : Fin cfg0.N) : Memref sig .tc .vmem S128x1024 .bf16 := win0_2.stage (cfg0.slots t 2)
theorem hs0_2 (t : Fin cfg0.N) : (ms0_2 t).IsWhole := hstage0_2 ((cfg0.slots t 2).cast nbuf0_2)
theorem liveAt0_3 : ∀ t : Fin cfg0.N, cfg0.idle 3 (grid0.coords t) = false := fun _ => rfl
abbrev ms0_3 (t : Fin cfg0.N) : Memref sig .tc .vmem S128x1024 .bf16 := win0_3.stage (cfg0.slots t 3)
theorem hs0_3 (t : Fin cfg0.N) : (ms0_3 t).IsWhole := hstage0_3 ((cfg0.slots t 3).cast nbuf0_3)
theorem liveAt0_4 : ∀ t : Fin cfg0.N, cfg0.idle 4 (grid0.coords t) = false := fun _ => rfl
abbrev ms0_4 (t : Fin cfg0.N) : Memref sig .tc .vmem S128x1024 .bf16 := win0_4.stage (cfg0.slots t 4)
theorem hs0_4 (t : Fin cfg0.N) : (ms0_4 t).IsWhole := hstage0_4 ((cfg0.slots t 4).cast nbuf0_4)
theorem liveAt0_5 : ∀ t : Fin cfg0.N, cfg0.idle 5 (grid0.coords t) = false := fun _ => rfl
abbrev ms0_5 (t : Fin cfg0.N) : Memref sig .tc .vmem S128x1024 .bf16 := win0_5.stage (cfg0.slots t 5)
theorem hs0_5 (t : Fin cfg0.N) : (ms0_5 t).IsWhole := hstage0_5 ((cfg0.slots t 5).cast nbuf0_5)
theorem liveAt0_6 : ∀ t : Fin cfg0.N, cfg0.idle 6 (grid0.coords t) = false := fun _ => rfl
abbrev ms0_6 (t : Fin cfg0.N) : Memref sig .tc .vmem S128x1024 .f32 := win0_6.stage (cfg0.slots t 6)
theorem hs0_6 (t : Fin cfg0.N) : (ms0_6 t).IsWhole := hstage0_6 ((cfg0.slots t 6).cast nbuf0_6)
theorem liveAt0_7 : ∀ t : Fin cfg0.N, cfg0.idle 7 (grid0.coords t) = false := fun _ => rfl
abbrev ms0_7 (t : Fin cfg0.N) : Memref sig .tc .vmem S128x1024 .f32 := win0_7.stage (cfg0.slots t 7)
theorem hs0_7 (t : Fin cfg0.N) : (ms0_7 t).IsWhole := hstage0_7 ((cfg0.slots t 7).cast nbuf0_7)
theorem liveAt0_8 : ∀ t : Fin cfg0.N, cfg0.idle 8 (grid0.coords t) = false ∨ (cfg0.win 8).flush t = true :=
  (by decide +kernel : ∀ t : Fin grid0.N, idle0 8 (grid0.coords t) = false ∨ win0_8.flush t = true)
abbrev ms0_8 (t : Fin cfg0.N) : Memref sig .tc .vmem S128x1024 .bf16 := win0_8.stage (cfg0.slots t 8)
theorem hs0_8 (t : Fin cfg0.N) : (ms0_8 t).IsWhole := hstage0_8 ((cfg0.slots t 8).cast nbuf0_8)
theorem liveAt0_9 : ∀ t : Fin cfg0.N, cfg0.idle 9 (grid0.coords t) = false :=
  (by decide +kernel : ∀ t : Fin grid0.N, idle0 9 (grid0.coords t) = false)
abbrev ms0_9 (t : Fin cfg0.N) : Memref sig .tc .vmem S128x1024 .bf16 := win0_9.stage (cfg0.slots t 9)
theorem hs0_9 (t : Fin cfg0.N) : (ms0_9 t).IsWhole := hstage0_9 ((cfg0.slots t 9).cast nbuf0_9)
theorem liveAt0_10 : ∀ t : Fin cfg0.N, cfg0.idle 10 (grid0.coords t) = false :=
  (by decide +kernel : ∀ t : Fin grid0.N, idle0 10 (grid0.coords t) = false)
abbrev ms0_10 (t : Fin cfg0.N) : Memref sig .tc .vmem S128x1024 .bf16 := win0_10.stage (cfg0.slots t 10)
theorem hs0_10 (t : Fin cfg0.N) : (ms0_10 t).IsWhole := hstage0_10 ((cfg0.slots t 10).cast nbuf0_10)
abbrev scM0_0 : Memref sig .tc .vmem S128x1024 .f32 := Memref.whole cc0_scratch0
abbrev scM0_1 : Memref sig .tc .vmem S128x1024 .f32 := Memref.whole cc0_scratch1

theorem PhiA0_eq (c : Dev nD) :
    (Pipeline.ΦA spec0 c : sProp 𝕄) = iprop(((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ) (ρ : Dev nD → PrngReg) (c : Dev nD)

/-- The mask at point `t`. -/
def msk (t : Fin cfg0.N) : IVec S128x256 1 := k0_pay6 (BitVec.ofNat 32 (grid0.coords t 1).val)
/-- What point `t` leaves for the point after it, for dk and for dv. -/
def ckP (t : Fin cfg0.N) : Vec F S128x1024 .f32 :=
  ckT (msk t) (iblk m c 0 t) (iblk m c 1 t) (iblk m c 2 t) (iblk m c 3 t) (iblk m c 4 t) (iblk m c 5 t) (iblk m c 6 t) (iblk m c 7 t)
def cvP (t : Fin cfg0.N) : Vec F S128x1024 .f32 :=
  cvT (msk t) (iblk m c 0 t) (iblk m c 1 t) (iblk m c 2 t) (iblk m c 5 t) (iblk m c 6 t)
/-- The point whose blocks `t` carries over. -/
def prev (t : ℕ) : Fin cfg0.N := ⟨min (t - 1) 31, Nat.lt_of_le_of_lt (Nat.min_le_right _ _) (by decide +kernel : 31 < grid0.N)⟩
/-- The last point at or before `t` that computes. -/
def here (t : ℕ) : Fin cfg0.N := ⟨min t 31, Nat.lt_of_le_of_lt (Nat.min_le_right _ _) (by decide +kernel : 31 < grid0.N)⟩
/-- The carried blocks before point `t`. -/
def ckAt (t : ℕ) : Vec F S128x1024 .f32 := if t = 0 then k0_pay1 else ckP m c (prev t)
def cvAt (t : ℕ) : Vec F S128x1024 .f32 := if t = 0 then k0_pay2 else cvP m c (prev t)
/-- What point `t` leaves in the three outputs. -/
def dqO (t : Fin cfg0.N) : Vec F S128x1024 .bf16 :=
  dqT (msk (here t.val)) (iblk m c 0 (here t.val)) (iblk m c 1 (here t.val)) (iblk m c 2 (here t.val)) (iblk m c 3 (here t.val)) (iblk m c 4 (here t.val)) (iblk m c 5 (here t.val)) (iblk m c 6 (here t.val)) (iblk m c 7 (here t.val))
def dkO (t : Fin cfg0.N) : Vec F S128x1024 .bf16 :=
  if t.val < 32 then dkT (msk t) (iblk m c 0 t) (iblk m c 1 t) (iblk m c 2 t) (iblk m c 3 t) (iblk m c 4 t) (iblk m c 5 t) (iblk m c 6 t) (iblk m c 7 t) (ckAt m c t.val)
  else k0_pay4 (ckAt m c t.val)
def dvO (t : Fin cfg0.N) : Vec F S128x1024 .bf16 :=
  if t.val < 32 then dvT (msk t) (iblk m c 0 t) (iblk m c 1 t) (iblk m c 2 t) (iblk m c 5 t) (iblk m c 6 t) (cvAt m c t.val)
  else k0_pay5 (cvAt m c t.val)

/-- The carried blocks' invariant: anything before the first point, afterwards what the point before left. -/
def Inv (t : ℕ) : sProp 𝕄 :=
  if t = 0 then Pipeline.ΦA spec0 c
  else iprop((owns (c : Thread nD τ) scM0_0 fullShare (ckAt m c t) ∗ owns (c : Thread nD τ) scM0_1 fullShare (cvAt m c t)) ∗ (∃ r, prngReg c r))

/-- The proof data of the call on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqO m c t
    | ⟨9, _⟩ => dkO m c t
    | ⟨10, _⟩ => dvO m c t
  Φ t := Inv m c t.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqO m c t := by dsimp only [dats]
theorem after0_9 (c : Dev nD) (t : Fin cfg0.N) : (dats m 0 c).after 9 t = dkO m c t := by dsimp only [dats]
theorem after0_10 (c : Dev nD) (t : Fin cfg0.N) : (dats m 0 c).after 10 t = dvO m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem leaves0_0 (c : Dev nD) (t : Fin cfg0.N) : (dats m 0 c).leavesExact 0 t = owns (c : Thread nD τ) (ms0_0 t) fullShare (iblk m c 0 t) := by
  rw [← after0_0 m c t]
theorem leaves0_1 (c : Dev nD) (t : Fin cfg0.N) : (dats m 0 c).leavesExact 1 t = owns (c : Thread nD τ) (ms0_1 t) fullShare (iblk m c 1 t) := by
  rw [← after0_1 m c t]
theorem leaves0_2 (c : Dev nD) (t : Fin cfg0.N) : (dats m 0 c).leavesExact 2 t = owns (c : Thread nD τ) (ms0_2 t) fullShare (iblk m c 2 t) := by
  rw [← after0_2 m c t]
theorem leaves0_3 (c : Dev nD) (t : Fin cfg0.N) : (dats m 0 c).leavesExact 3 t = owns (c : Thread nD τ) (ms0_3 t) fullShare (iblk m c 3 t) := by
  rw [← after0_3 m c t]
theorem leaves0_4 (c : Dev nD) (t : Fin cfg0.N) : (dats m 0 c).leavesExact 4 t = owns (c : Thread nD τ) (ms0_4 t) fullShare (iblk m c 4 t) := by
  rw [← after0_4 m c t]
theorem leaves0_5 (c : Dev nD) (t : Fin cfg0.N) : (dats m 0 c).leavesExact 5 t = owns (c : Thread nD τ) (ms0_5 t) fullShare (iblk m c 5 t) := by
  rw [← after0_5 m c t]
theorem leaves0_6 (c : Dev nD) (t : Fin cfg0.N) : (dats m 0 c).leavesExact 6 t = owns (c : Thread nD τ) (ms0_6 t) fullShare (iblk m c 6 t) := by
  rw [← after0_6 m c t]
theorem leaves0_7 (c : Dev nD) (t : Fin cfg0.N) : (dats m 0 c).leavesExact 7 t = owns (c : Thread nD τ) (ms0_7 t) fullShare (iblk m c 7 t) := by
  rw [← after0_7 m c t]
theorem leaves0_8 (c : Dev nD) (t : Fin cfg0.N) : (dats m 0 c).leavesExact 8 t = owns (c : Thread nD τ) (ms0_8 t) fullShare (dqO m c t) := by
  rw [← after0_8 m c t]; unfold Dat.leavesExact; rcases liveAt0_8 t with h | h
  · rw [h]
  · rw [h]; split <;> rfl
theorem leaves0_9 (c : Dev nD) (t : Fin cfg0.N) : (dats m 0 c).leavesExact 9 t = owns (c : Thread nD τ) (ms0_9 t) fullShare (dkO m c t) := by
  rw [← after0_9 m c t]; unfold Dat.leavesExact; rw [liveAt0_9 t]
theorem leaves0_10 (c : Dev nD) (t : Fin cfg0.N) : (dats m 0 c).leavesExact 10 t = owns (c : Thread nD τ) (ms0_10 t) fullShare (dvO m c t) := by
  rw [← after0_10 m c t]; unfold Dat.leavesExact; rw [liveAt0_10 t]

theorem flush31 : win0_8.flush ⟨31, (by decide +kernel : 31 < grid0.N)⟩ = false := by decide +kernel
theorem live31 : ∀ h, cfg0.idle 8 (cfg0.grid.coords ⟨31, h⟩) = false := (by decide +kernel : ∀ h, idle0 8 (grid0.coords ⟨31, h⟩) = false)
/-- At the last point the dq buffer still holds what the point before left. -/
theorem before0_8 (c : Dev nD) (t : Fin cfg0.N) (h : t.val = 32) (d) : (dats m 0 c).before 8 t d = dqO m c t := by
  obtain ⟨t, ht⟩ := t
  subst h
  rw [Dat.before_of_pos _ 8 _ (show (32 : ℕ) ≠ 0 by decide) ((cfg0.win 8).fetch_out rfl _)]
  show (if (cfg0.win 8).flush ⟨31, (by decide +kernel : 31 < grid0.N)⟩ = true then d else (dats m 0 c).left 8 ⟨31, (by decide +kernel : 31 < grid0.N)⟩ d) = _
  rw [show (cfg0.win 8).flush ⟨31, (by decide +kernel : 31 < grid0.N)⟩ = false from flush31, if_neg Bool.false_ne_true]
  unfold Dat.left
  rw [live31]
  unfold Dat.kept
  show (cfg0.win 8).fill _ d ((cfg0.win 8).cut _ ((dats m 0 c).after 8 _)) = _
  rw [Pipeline.fill_of_clip_none (cfg := cfg0) 8 _ (fun _ => rfl) d ((dats m 0 c).after 8 _), Window.fill_cut, after0_8]
  rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem Phi_castSucc (t : Fin cfg0.N) : (dats m 0 c).Φ t.castSucc = Inv m c t.val := rfl
theorem Phi_succ (t : Fin cfg0.N) : (dats m 0 c).Φ t.succ = iprop((owns (c : Thread nD τ) scM0_0 fullShare (ckP m c (here t.val)) ∗ owns (c : Thread nD τ) scM0_1 fullShare (cvP m c (here t.val))) ∗ (∃ r, prngReg c r)) := by
  show Inv m c (t.val + 1) = _
  unfold Inv ckAt cvAt
  rw [if_neg (Nat.succ_ne_zero _), if_neg (Nat.succ_ne_zero _), if_neg (Nat.succ_ne_zero _)]
  rfl

theorem here_of_lt (t : Fin cfg0.N) (h : t.val < 32) : here t.val = t := Fin.ext (by show min t.val 31 = t.val; omega)

set_option maxHeartbeats 4000000 in
/-- The body at any point, in its three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, leaves0_0, leaves0_1, leaves0_2, leaves0_3, leaves0_4, leaves0_5, leaves0_6, leaves0_7, leaves0_8, leaves0_9, leaves0_10]
  rw [Phi_succ, Phi_castSucc,
    show (dats m 0 c).owesAt () t.succ = (dats m 0 c).owesAt () t.castSucc from rfl]
  have hN : t.val < 33 := lt_of_lt_of_eq t.isLt (show cfg0.N = 33 from N_0)
  by_cases h1 : t.val < 32
  · have h2 : ¬cond0_2 (grid0.coords t) := fun h => by have := (hcond0_2 t).mp h; omega
    have e1 := (hcond0_1 t).mpr h1
    unfold dqO dkO dvO
    rw [if_pos h1, if_pos h1, here_of_lt t h1]
    unfold ckP cvP
    by_cases h0 : t.val = 0
    · have e0 := (hcond0_0 t).mpr (by omega)
      unfold Inv ckAt cvAt
      rw [if_pos h0, if_pos h0, if_pos h0, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) e0 e1 h2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have e0 : ¬cond0_0 (grid0.coords t) := fun h => by have := (hcond0_0 t).mp h; omega
      unfold Inv
      rw [if_neg h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (ckAt m c t.val) (cvAt m c t.val) e0 e1 h2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · have h32 : t.val = 32 := by omega
    have e1 : ¬cond0_1 (grid0.coords t) := fun h => h1 ((hcond0_1 t).mp h)
    have e2 := (hcond0_2 t).mpr (by omega)
    have e0 : ¬cond0_0 (grid0.coords t) := fun h => by have := (hcond0_0 t).mp h; omega
    simp only [before0_8 m c t h32]
    unfold dkO dvO Inv ckAt cvAt
    have hp : prev t.val = here t.val := Fin.ext (by show min (t.val - 1) 31 = min t.val 31; omega)
    rw [if_neg h1, if_neg h1, if_neg (by omega), if_neg (by omega), if_neg (by omega), hp]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (ckP m c (here t.val)) (cvP m c (here t.val)) (dqO m c t) e0 e1 e2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA spec0 c ⊢ (dats m 0 c).Φ 0 := by
  show _ ⊢ Inv m c 0
  unfold Inv; rw [if_pos rfl]

theorem inv_out (c : Dev nD) : (dats m 0 c).Φ (Fin.last cfg0.N) ⊢ Pipeline.ΦA spec0 c := by
  show Inv m c 33 ⊢ _
  unfold Inv; rw [if_neg (by decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The whole call: every run of it ends, with every input unchanged, the outputs' blocks as the points left them, and every counter
    at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_in m) (hout := inv_out m)

end Cert.Kernel2Ideal.Gen

end
-- ==== Proof.Attn.Same.lean ====
/- The attention kernel's frames, of its program before and after idealization: the two texts are one, so one run serves both. -/
module

public import proofs.«01_k».proof.Proof.Attn.Facts
public import proofs.«01_k».proof.Proof.Attn.Frame

@[expose] public section

set_option maxRecDepth 16384
set_option maxHeartbeats 8000000

noncomputable section

namespace Cert.Attn

open Idealize.ShloMosaic Idealize.ShloMosaic.TcCoe Idealize.SL.Sem

section Run

open Cert.Kernel2Ideal Cert.Kernel2Ideal.Gen

variable {F : FTy → Type} [FloatOps F] (m : (ℓ : Loc nD τ sig) → Buf (Elt F) ℓ) (ρ : Dev nD → PrngReg)

/-- The run leaves its arguments and every counter. -/
theorem quiet : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => args_of m (dats m) r h.1 c, h.2⟩) (run_main_quiescent m ρ)

end Run

/-- The two programs' body tables are one. -/
theorem bodies {F : FTy → Type} [FloatOps F] : Cert.Kernel2.defs₀ (F := F) = Cert.Kernel2Ideal.defs₀ (F := F) := by
  refine congrArg (Defs.onTc (nD := Cert.Kernel2.nD) (τ := Cert.Kernel2.τ) (sig := Cert.Kernel2.sig) (Val := Elt F) (Λ := Cert.Kernel2.Λ₀)) (funext fun l => funext fun a => ?_)
  match l, a with
  | 0, (t, s) => rfl
  | ⟨_ + 1, h⟩, _ => exact absurd h (Nat.not_lt.2 (Nat.le_add_left _ _))

theorem tables {F : FTy → Type} [FloatOps F] : Cert.Kernel2.defs (F := F) = Cert.Kernel2Ideal.defs (F := F) :=
  congrArg (Pipeline.defs (Cert.Kernel2.pcfgs (F := F))) bodies

theorem first {F : FTy → Type} [FloatOps F] (d : Dev 1) : Cert.Kernel2.main_part0 (F := F) d = Cert.Kernel2Ideal.main_part0 (F := F) d := rfl

theorem second {F : FTy → Type} [FloatOps F] (d : Dev 1) : Cert.Kernel2.main_part1 (F := F) d = Cert.Kernel2Ideal.main_part1 (F := F) d := rfl

theorem mains {F : FTy → Type} [FloatOps F] : Cert.Kernel2.main (F := F) = Cert.Kernel2Ideal.main (F := F) :=
  funext fun d => congrArg₂ (fun a b => Prog.bind a fun _ => b) (first d) (second d)

/-- The same of the program before idealization. -/
theorem quiet_bits (m : (ℓ : Loc Cert.Kernel2.nD Cert.Kernel2.τ Cert.Kernel2.sig) → Buf (Elt Bits) ℓ) (ρ : Dev Cert.Kernel2.nD → PrngReg) :
    θ_run (Cert.Kernel2.defs (F := Bits)) (onTc (τ := Cert.Kernel2.τ) (Cert.Kernel2.main (F := Bits))) ⟨m, fun _ => 0, ρ⟩ fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0 :=
  by rw [tables, mains]; exact quiet (F := Bits) m ρ

end Cert.Attn

end
-- ==== Proof.Attn.RefFacts.lean ====
/- The side conditions of the attention reference. -/
module

public import proofs.«01_k».proof.Reference2Ideal
public import Idealize.ShloMosaic.Lib.Affine
public import Idealize.ShloMosaic.Lib.Decide
public import Idealize.ShloMosaic.Lib.Exec

@[expose] public section

set_option synthInstance.maxSize 4096
set_option Elab.async false

namespace Cert.Reference2Ideal.Gen

open Idealize.ShloMosaic Idealize.SL.Sem

theorem bcast_S4096_S4096x1_0 : S4096.BroadcastsInDim S4096x1 (![0] : Fin 1 → Fin S4096x1.rank) := by decide
theorem bcast_S4096_S1x4096_1 : S4096.BroadcastsInDim S1x4096 (![1] : Fin 1 → Fin S1x4096.rank) := by decide
theorem bcast_S1x4096_S4096x4096_0_1 : S1x4096.BroadcastsInDim S4096x4096 (![0, 1] : Fin 2 → Fin S4096x4096.rank) := by decide
theorem bcast_S4096x1_S4096x4096_0_1 : S4096x1.BroadcastsInDim S4096x4096 (![0, 1] : Fin 2 → Fin S4096x4096.rank) := by decide
theorem bcast_S_S4096x4096 : S_.BroadcastsInDim S4096x4096 (![] : Fin 0 → Fin S4096x4096.rank) := by decide
theorem bcast_S4096x4096_S1x4096x4096_1_2 : S4096x4096.BroadcastsInDim S1x4096x4096 (![1, 2] : Fin 2 → Fin S1x4096x4096.rank) := by decide
theorem bcast_S1x4096x4096_S8x4096x4096_0_1_2 : S1x4096x4096.BroadcastsInDim S8x4096x4096 (![0, 1, 2] : Fin 3 → Fin S8x4096x4096.rank) := by decide
theorem bcast_S_S8x4096x4096 : S_.BroadcastsInDim S8x4096x4096 (![] : Fin 0 → Fin S8x4096x4096.rank) := by decide
theorem reducesTo_S8x4096x4096_S8x4096_d2 : S8x4096x4096.ReducesTo [2] S8x4096 := by decide
theorem h_S_ : 0 < S_.numel := by decide
theorem shapeCasts_S8x4096_S8x4096x1 : S8x4096.ShapeCasts S8x4096x1 := by decide
theorem bcast_S8x4096x1_S8x4096x4096_0_1_2 : S8x4096x1.BroadcastsInDim S8x4096x4096 (![0, 1, 2] : Fin 3 → Fin S8x4096x4096.rank) := by decide
theorem bcast_S8x4096_S8x4096x1_0_1 : S8x4096.BroadcastsInDim S8x4096x1 (![0, 1] : Fin 2 → Fin S8x4096x1.rank) := by decide
theorem bcast_S_S8x4096x1 : S_.BroadcastsInDim S8x4096x1 (![] : Fin 0 → Fin S8x4096x1.rank) := by decide
theorem transposes_S8x128x4096_S4096x8x128_2_0_1 : S8x128x4096.Transposes [2, 0, 1] S4096x8x128 := by decide
theorem shapeCasts_S8x4096x1_S8x4096 : S8x4096x1.ShapeCasts S8x4096 := by decide
theorem transposes_S8x4096_S4096x8_1_0 : S8x4096.Transposes [1, 0] S4096x8 := by decide
theorem bcast_S4096x8_S1x4096x8_1_2 : S4096x8.BroadcastsInDim S1x4096x8 (![1, 2] : Fin 2 → Fin S1x4096x8.rank) := by decide
theorem concatenates_S1x4096x8_S2x4096x8_S3x4096x8_d0 : Shape.Concatenates [S1x4096x8, S2x4096x8] S3x4096x8 0 := by decide
theorem bcast_S_S2x4096x8 : S_.BroadcastsInDim S2x4096x8 (![] : Fin 0 → Fin S2x4096x8.rank) := by decide
theorem reducesTo_S3x4096x8_S4096x8_d0 : S3x4096x8.ReducesTo [0] S4096x8 := by decide
theorem shapeCasts_S4096x8_S1x4096x8 : S4096x8.ShapeCasts S1x4096x8 := by decide
theorem bcast_S1x4096x8_S3x4096x8_0_1_2 : S1x4096x8.BroadcastsInDim S3x4096x8 (![0, 1, 2] : Fin 3 → Fin S3x4096x8.rank) := by decide
theorem bcast_S_S4096x8 : S_.BroadcastsInDim S4096x8 (![] : Fin 0 → Fin S4096x8.rank) := by decide
theorem bcast_S_S1x4096x8 : S_.BroadcastsInDim S1x4096x8 (![] : Fin 0 → Fin S1x4096x8.rank) := by decide
theorem slices_S3x4096x8_S1x4096x8_0_0_0 : S3x4096x8.Slices ![0, 0, 0] S1x4096x8 := by decide
theorem shapeCasts_S1x4096x8_S4096x8 : S1x4096x8.ShapeCasts S4096x8 := by decide
theorem bcast_S4096x8_S4096x8x1_0_1 : S4096x8.BroadcastsInDim S4096x8x1 (![0, 1] : Fin 2 → Fin S4096x8x1.rank) := by decide
theorem bcast_S4096x8x1_S4096x8x128_0_1_2 : S4096x8x1.BroadcastsInDim S4096x8x128 (![0, 1, 2] : Fin 3 → Fin S4096x8x128.rank) := by decide
theorem slices_S3x4096x8_S2x4096x8_1_0_0 : S3x4096x8.Slices ![1, 0, 0] S2x4096x8 := by decide
theorem bcast_S2x4096x8_S2x4096x8x1_0_1_2 : S2x4096x8.BroadcastsInDim S2x4096x8x1 (![0, 1, 2] : Fin 3 → Fin S2x4096x8x1.rank) := by decide
theorem bcast_S2x4096x8x1_S2x4096x8x128_0_1_2_3 : S2x4096x8x1.BroadcastsInDim S2x4096x8x128 (![0, 1, 2, 3] : Fin 4 → Fin S2x4096x8x128.rank) := by decide
theorem reducesTo_S2x4096x8x128_S4096x8x128_d0 : S2x4096x8x128.ReducesTo [0] S4096x8x128 := by decide
theorem shapeCasts_S4096x8x128_S4096x8x128 : S4096x8x128.ShapeCasts S4096x8x128 := by decide
theorem bcast_S4096x8x128_S2x4096x8x128_1_2_3 : S4096x8x128.BroadcastsInDim S2x4096x8x128 (![1, 2, 3] : Fin 3 → Fin S2x4096x8x128.rank) := by decide
theorem reducesTo_S2x4096x8x128_S2x4096x8_d3 : S2x4096x8x128.ReducesTo [3] S2x4096x8 := by decide
theorem shapeCasts_S2x4096x8_S2x4096x8x1 : S2x4096x8.ShapeCasts S2x4096x8x1 := by decide
theorem reducesTo_S2x4096x8x1_S2x4096x8_d3 : S2x4096x8x1.ReducesTo [3] S2x4096x8 := by decide
theorem pads_S2x4096x8_S3x4096x8_100_000_000 : S2x4096x8.Pads (![1, 0, 0] : Fin 3 → Nat) ![0, 0, 0] ![0, 0, 0] S3x4096x8 := by decide
theorem reducesTo_S4096x8x128_S4096x8_d2 : S4096x8x128.ReducesTo [2] S4096x8 := by decide
theorem shapeCasts_S4096x8_S4096x8x1 : S4096x8.ShapeCasts S4096x8x1 := by decide
theorem reducesTo_S4096x8x1_S4096x8_d2 : S4096x8x1.ReducesTo [2] S4096x8 := by decide
theorem pads_S1x4096x8_S3x4096x8_020_000_000 : S1x4096x8.Pads (![0, 0, 0] : Fin 3 → Nat) ![2, 0, 0] ![0, 0, 0] S3x4096x8 := by decide
theorem reducesTo_S1x4096x8_S4096x8_d0 : S1x4096x8.ReducesTo [0] S4096x8 := by decide
theorem bcast_S4096x8_S3x4096x8_1_2 : S4096x8.BroadcastsInDim S3x4096x8 (![1, 2] : Fin 2 → Fin S3x4096x8.rank) := by decide
theorem transposes_S4096x8_S8x4096_1_0 : S4096x8.Transposes [1, 0] S8x4096 := by decide
theorem transposes_S4096x8x128_S8x128x4096_1_2_0 : S4096x8x128.Transposes [1, 2, 0] S8x128x4096 := by decide
theorem reducesTo_S8x4096x1_S8x4096_d2 : S8x4096x1.ReducesTo [2] S8x4096 := by decide
theorem bcast_S8x4096_S8x4096x4096_0_1 : S8x4096.BroadcastsInDim S8x4096x4096 (![0, 1] : Fin 2 → Fin S8x4096x4096.rank) := by decide
theorem transposes_S8x4096x128_S4096x8x128_1_0_2 : S8x4096x128.Transposes [1, 0, 2] S4096x8x128 := by decide
theorem shapeCasts_S4096x8x128_S4096x1024 : S4096x8x128.ShapeCasts S4096x1024 := by decide
theorem bitsLt_bf16_f32 : FTy.bits .bf16 < FTy.bits .f32 := by decide
theorem dot_S4096x8x128_S4096x8x128_S8x4096x4096_2_2_0_0_1_1_wf : DotDims.WF S4096x8x128 S4096x8x128 S8x4096x4096 [2] [2] [0] [0] [1] [1] := by decide
theorem dot_S4096x8x128_S8x4096x4096_S8x128x4096_0_2_2_1_1_0_wf : DotDims.WF S4096x8x128 S8x4096x4096 S8x128x4096 [0] [2] [2] [1] [1] [0] := by decide
theorem dot_S8x128x4096_S4096x8x128_S8x4096x4096_1_2_2_0_0_1_wf : DotDims.WF S8x128x4096 S4096x8x128 S8x4096x4096 [1] [2] [2] [0] [0] [1] := by decide
theorem dot_S8x128x4096_S8x4096x4096_S8x128x4096_2_1_1_2_0_0_wf : DotDims.WF S8x128x4096 S8x4096x4096 S8x128x4096 [2] [1] [1] [2] [0] [0] := by decide
theorem dot_S8x4096x4096_S4096x8x128_S8x4096x128_1_0_2_2_0_1_wf : DotDims.WF S8x4096x4096 S4096x8x128 S8x4096x128 [1] [0] [2] [2] [0] [1] := by decide
theorem dot_S8x4096x4096_S4096x8x128_S8x4096x128_2_0_1_2_0_1_wf : DotDims.WF S8x4096x4096 S4096x8x128 S8x4096x128 [2] [0] [1] [2] [0] [1] := by decide

instance facts₀ : Cert.Reference2Ideal.Facts₀ where
  bcast_S4096_S4096x1_0 := @bcast_S4096_S4096x1_0
  bcast_S4096_S1x4096_1 := @bcast_S4096_S1x4096_1
  bcast_S1x4096_S4096x4096_0_1 := @bcast_S1x4096_S4096x4096_0_1
  bcast_S4096x1_S4096x4096_0_1 := @bcast_S4096x1_S4096x4096_0_1
  bcast_S_S4096x4096 := @bcast_S_S4096x4096
  bcast_S4096x4096_S1x4096x4096_1_2 := @bcast_S4096x4096_S1x4096x4096_1_2
  bcast_S1x4096x4096_S8x4096x4096_0_1_2 := @bcast_S1x4096x4096_S8x4096x4096_0_1_2
  bcast_S_S8x4096x4096 := @bcast_S_S8x4096x4096
  reducesTo_S8x4096x4096_S8x4096_d2 := @reducesTo_S8x4096x4096_S8x4096_d2
  h_S_ := @h_S_
  shapeCasts_S8x4096_S8x4096x1 := @shapeCasts_S8x4096_S8x4096x1
  bcast_S8x4096x1_S8x4096x4096_0_1_2 := @bcast_S8x4096x1_S8x4096x4096_0_1_2
  bcast_S8x4096_S8x4096x1_0_1 := @bcast_S8x4096_S8x4096x1_0_1
  bcast_S_S8x4096x1 := @bcast_S_S8x4096x1
  transposes_S8x128x4096_S4096x8x128_2_0_1 := @transposes_S8x128x4096_S4096x8x128_2_0_1
  shapeCasts_S8x4096x1_S8x4096 := @shapeCasts_S8x4096x1_S8x4096
  transposes_S8x4096_S4096x8_1_0 := @transposes_S8x4096_S4096x8_1_0
  bcast_S4096x8_S1x4096x8_1_2 := @bcast_S4096x8_S1x4096x8_1_2
  concatenates_S1x4096x8_S2x4096x8_S3x4096x8_d0 := @concatenates_S1x4096x8_S2x4096x8_S3x4096x8_d0
  bcast_S_S2x4096x8 := @bcast_S_S2x4096x8
  reducesTo_S3x4096x8_S4096x8_d0 := @reducesTo_S3x4096x8_S4096x8_d0
  shapeCasts_S4096x8_S1x4096x8 := @shapeCasts_S4096x8_S1x4096x8
  bcast_S1x4096x8_S3x4096x8_0_1_2 := @bcast_S1x4096x8_S3x4096x8_0_1_2
  bcast_S_S4096x8 := @bcast_S_S4096x8
  bcast_S_S1x4096x8 := @bcast_S_S1x4096x8
  slices_S3x4096x8_S1x4096x8_0_0_0 := @slices_S3x4096x8_S1x4096x8_0_0_0
  shapeCasts_S1x4096x8_S4096x8 := @shapeCasts_S1x4096x8_S4096x8
  bcast_S4096x8_S4096x8x1_0_1 := @bcast_S4096x8_S4096x8x1_0_1
  bcast_S4096x8x1_S4096x8x128_0_1_2 := @bcast_S4096x8x1_S4096x8x128_0_1_2
  slices_S3x4096x8_S2x4096x8_1_0_0 := @slices_S3x4096x8_S2x4096x8_1_0_0
  bcast_S2x4096x8_S2x4096x8x1_0_1_2 := @bcast_S2x4096x8_S2x4096x8x1_0_1_2
  bcast_S2x4096x8x1_S2x4096x8x128_0_1_2_3 := @bcast_S2x4096x8x1_S2x4096x8x128_0_1_2_3
  reducesTo_S2x4096x8x128_S4096x8x128_d0 := @reducesTo_S2x4096x8x128_S4096x8x128_d0
  shapeCasts_S4096x8x128_S4096x8x128 := @shapeCasts_S4096x8x128_S4096x8x128
  bcast_S4096x8x128_S2x4096x8x128_1_2_3 := @bcast_S4096x8x128_S2x4096x8x128_1_2_3
  reducesTo_S2x4096x8x128_S2x4096x8_d3 := @reducesTo_S2x4096x8x128_S2x4096x8_d3
  shapeCasts_S2x4096x8_S2x4096x8x1 := @shapeCasts_S2x4096x8_S2x4096x8x1
  reducesTo_S2x4096x8x1_S2x4096x8_d3 := @reducesTo_S2x4096x8x1_S2x4096x8_d3
  pads_S2x4096x8_S3x4096x8_100_000_000 := @pads_S2x4096x8_S3x4096x8_100_000_000
  reducesTo_S4096x8x128_S4096x8_d2 := @reducesTo_S4096x8x128_S4096x8_d2
  shapeCasts_S4096x8_S4096x8x1 := @shapeCasts_S4096x8_S4096x8x1
  reducesTo_S4096x8x1_S4096x8_d2 := @reducesTo_S4096x8x1_S4096x8_d2
  pads_S1x4096x8_S3x4096x8_020_000_000 := @pads_S1x4096x8_S3x4096x8_020_000_000
  reducesTo_S1x4096x8_S4096x8_d0 := @reducesTo_S1x4096x8_S4096x8_d0
  bcast_S4096x8_S3x4096x8_1_2 := @bcast_S4096x8_S3x4096x8_1_2
  transposes_S4096x8_S8x4096_1_0 := @transposes_S4096x8_S8x4096_1_0
  transposes_S4096x8x128_S8x128x4096_1_2_0 := @transposes_S4096x8x128_S8x128x4096_1_2_0
  reducesTo_S8x4096x1_S8x4096_d2 := @reducesTo_S8x4096x1_S8x4096_d2
  bcast_S8x4096_S8x4096x4096_0_1 := @bcast_S8x4096_S8x4096x4096_0_1
  transposes_S8x4096x128_S4096x8x128_1_0_2 := @transposes_S8x4096x128_S4096x8x128_1_0_2
  shapeCasts_S4096x8x128_S4096x1024 := @shapeCasts_S4096x8x128_S4096x1024
  bitsLt_bf16_f32 := @bitsLt_bf16_f32
  dot_S4096x8x128_S4096x8x128_S8x4096x4096_2_2_0_0_1_1_wf := @dot_S4096x8x128_S4096x8x128_S8x4096x4096_2_2_0_0_1_1_wf
  dot_S4096x8x128_S8x4096x4096_S8x128x4096_0_2_2_1_1_0_wf := @dot_S4096x8x128_S8x4096x4096_S8x128x4096_0_2_2_1_1_0_wf
  dot_S8x128x4096_S4096x8x128_S8x4096x4096_1_2_2_0_0_1_wf := @dot_S8x128x4096_S4096x8x128_S8x4096x4096_1_2_2_0_0_1_wf
  dot_S8x128x4096_S8x4096x4096_S8x128x4096_2_1_1_2_0_0_wf := @dot_S8x128x4096_S8x4096x4096_S8x128x4096_2_1_1_2_0_0_wf
  dot_S8x4096x4096_S4096x8x128_S8x4096x128_1_0_2_2_0_1_wf := @dot_S8x4096x4096_S4096x8x128_S8x4096x128_1_0_2_2_0_1_wf
  dot_S8x4096x4096_S4096x8x128_S8x4096x128_2_0_1_2_0_1_wf := @dot_S8x4096x4096_S4096x8x128_S8x4096x128_2_0_1_2_0_1_wf

instance facts : Cert.Reference2Ideal.Facts where

end Cert.Reference2Ideal.Gen
-- ==== Proof.Attn.RefRun.lean ====
/- The attention reference's run, its results as compositions of its operations. -/
module

public import proofs.«01_k».proof.Proof.Attn.RefFacts
public import Idealize.ShloMosaic.Lib.StableHlo.Run
public import Idealize.ShloMosaic.Lib.Pipeline.Frame

@[expose] public section

set_option maxRecDepth 8192
set_option Elab.async false

noncomputable section

namespace Cert.Reference2Ideal.Value

open Cert.Reference2Ideal Cert.Reference2Ideal.Gen Idealize.ShloMosaic Idealize.ShloMosaic.TcCoe Idealize.SL.Sem Idealize.ShloMosaic.StableHlo

variable {F : FTy → Type} [FloatOps F]

def fn_main_v40 : (⟨S1x4096x8, .f32⟩ : BufTy).Contents (Elt F) → (⟨S2x4096x8, .f32⟩ : BufTy).Contents (Elt F) → (⟨S3x4096x8, .f32⟩ : BufTy).Contents (Elt F) :=
  (fun a b => concatenate S3x4096x8 0 [⟨S1x4096x8, a⟩, ⟨S2x4096x8, b⟩] concatenates_S1x4096x8_S2x4096x8_S3x4096x8_d0)

abbrev ops_part0_0 : List (HloOp τ sig (Elt F)) :=
  [ nullary main_v0 (iotaInDim S4096 32 0),
    unary main_v0 main_v1 (broadcastInDim S4096x1 ![0] bcast_S4096_S4096x1_0 : (⟨S4096, .i32⟩ : BufTy).Contents (Elt F) → (⟨S4096x1, .i32⟩ : BufTy).Contents (Elt F)),
    nullary main_v2 (iotaInDim S4096 32 0),
    unary main_v2 main_v3 (broadcastInDim S1x4096 ![1] bcast_S4096_S1x4096_1 : (⟨S4096, .i32⟩ : BufTy).Contents (Elt F) → (⟨S1x4096, .i32⟩ : BufTy).Contents (Elt F)),
    unary main_v3 main_v4 (broadcastInDim S4096x4096 ![0, 1] bcast_S1x4096_S4096x4096_0_1 : (⟨S1x4096, .i32⟩ : BufTy).Contents (Elt F) → (⟨S4096x4096, .i32⟩ : BufTy).Contents (Elt F)),
    unary main_v1 main_v5 (broadcastInDim S4096x4096 ![0, 1] bcast_S4096x1_S4096x4096_0_1 : (⟨S4096x1, .i32⟩ : BufTy).Contents (Elt F) → (⟨S4096x4096, .i32⟩ : BufTy).Contents (Elt F)),
    binary main_v4 main_v5 main_v6 (cmpi .sle : (⟨S4096x4096, .i32⟩ : BufTy).Contents (Elt F) → (⟨S4096x4096, .i32⟩ : BufTy).Contents (Elt F) → (⟨S4096x4096, .i1⟩ : BufTy).Contents (Elt F)),
    unary main_v1 main_v7 (broadcastInDim S4096x4096 ![0, 1] bcast_S4096x1_S4096x4096_0_1 : (⟨S4096x1, .i32⟩ : BufTy).Contents (Elt F) → (⟨S4096x4096, .i32⟩ : BufTy).Contents (Elt F)),
    unary main_v3 main_v8 (broadcastInDim S4096x4096 ![0, 1] bcast_S1x4096_S4096x4096_0_1 : (⟨S1x4096, .i32⟩ : BufTy).Contents (Elt F) → (⟨S4096x4096, .i32⟩ : BufTy).Contents (Elt F)),
    binary main_v7 main_v8 main_v9 (subi : (⟨S4096x4096, .i32⟩ : BufTy).Contents (Elt F) → (⟨S4096x4096, .i32⟩ : BufTy).Contents (Elt F) → (⟨S4096x4096, .i32⟩ : BufTy).Contents (Elt F)),
    nullary main_c (constantI S_ 32 128#32),
    unary main_c main_v10 (broadcastInDim S4096x4096 ![] bcast_S_S4096x4096 : (⟨S_, .i32⟩ : BufTy).Contents (Elt F) → (⟨S4096x4096, .i32⟩ : BufTy).Contents (Elt F)),
    binary main_v9 main_v10 main_v11 (cmpi .sle : (⟨S4096x4096, .i32⟩ : BufTy).Contents (Elt F) → (⟨S4096x4096, .i32⟩ : BufTy).Contents (Elt F) → (⟨S4096x4096, .i1⟩ : BufTy).Contents (Elt F)),
    binary main_v6 main_v11 main_v12 (andi : (⟨S4096x4096, .i1⟩ : BufTy).Contents (Elt F) → (⟨S4096x4096, .i1⟩ : BufTy).Contents (Elt F) → (⟨S4096x4096, .i1⟩ : BufTy).Contents (Elt F)),
    binary main_arg0 main_arg1 main_v13 ((fun l r => Host.dotGeneral dot_S4096x8x128_S4096x8x128_S8x4096x4096_2_2_0_0_1_1 none l r) : (⟨S4096x8x128, .f32⟩ : BufTy).Contents (Elt F) → (⟨S4096x8x128, .f32⟩ : BufTy).Contents (Elt F) → (⟨S8x4096x4096, .f32⟩ : BufTy).Contents (Elt F)),
    unary main_v12 main_v14 (broadcastInDim S1x4096x4096 ![1, 2] bcast_S4096x4096_S1x4096x4096_1_2 : (⟨S4096x4096, .i1⟩ : BufTy).Contents (Elt F) → (⟨S1x4096x4096, .i1⟩ : BufTy).Contents (Elt F)),
    nullary main_cst (constant S_ .f32 0xFF800000#32),
    TRef.unary (TRef.of (T := ⟨S_, .f32⟩) main_cst) (TRef.of (T := ⟨S_, .f32⟩) main_call0_v0) id,
    TRef.unary (TRef.of (T := ⟨S1x4096x4096, .i1⟩) main_v14) (TRef.of (T := ⟨S8x4096x4096, .i1⟩) main_v15_1) (broadcastInDim S8x4096x4096 ![0, 1, 2] bcast_S1x4096x4096_S8x4096x4096_0_1_2),
    TRef.unary (TRef.of (T := ⟨S_, .f32⟩) main_call0_v0) (TRef.of (T := ⟨S8x4096x4096, .f32⟩) main_call0_v2) (broadcastInDim S8x4096x4096 ![] bcast_S_S8x4096x4096),
    TRef.ternary (TRef.of (T := ⟨S8x4096x4096, .i1⟩) main_v15_1) (TRef.of (T := ⟨S8x4096x4096, .f32⟩) main_v13) (TRef.of (T := ⟨S8x4096x4096, .f32⟩) main_call0_v2) (TRef.of (T := ⟨S8x4096x4096, .f32⟩) main_v15_0) select,
    TRef.nullary (TRef.of (T := ⟨S_, .f32⟩) main_call0_cst) (constant S_ .f32 0x00000000#32),
    TRef.unary (TRef.of (T := ⟨S_, .f32⟩) main_call0_cst) (TRef.of (T := ⟨S8x4096x4096, .f32⟩) main_v15_2) (broadcastInDim S8x4096x4096 ![] bcast_S_S8x4096x4096),
    nullary main_cst_0 (constant S_ .f32 0xFF800000#32),
    binary main_v15_0 main_cst_0 main_v16 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v16 main_v17 (rfl : (.f32 : EltTy) = .f32) shapeCasts_S8x4096_S8x4096x1,
    unary main_v17 main_v18 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v15_0 main_v18 main_v19 (cmpf .oeq : (⟨S8x4096x4096, .f32⟩ : BufTy).Contents (Elt F) → (⟨S8x4096x4096, .f32⟩ : BufTy).Contents (Elt F) → (⟨S8x4096x4096, .i1⟩ : BufTy).Contents (Elt F)),
    unary main_v19 main_v20 (uitofp .f32 : (⟨S8x4096x4096, .i1⟩ : BufTy).Contents (Elt F) → (⟨S8x4096x4096, .f32⟩ : BufTy).Contents (Elt F)),
    nullary main_cst_1 (constant S_ .f32 0x00000000#32) ]

abbrev ops_part0_1 : List (HloOp τ sig (Elt F)) :=
  [ binary main_v20 main_cst_1 main_v21 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    unary main_v16 main_v22 (broadcastInDim S8x4096x1 ![0, 1] bcast_S8x4096_S8x4096x1_0_1 : (⟨S8x4096, .f32⟩ : BufTy).Contents (Elt F) → (⟨S8x4096x1, .f32⟩ : BufTy).Contents (Elt F)),
    unary main_v22 main_v23 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v15_0 main_v23 main_v24 (subf : (⟨S8x4096x4096, .f32⟩ : BufTy).Contents (Elt F) → (⟨S8x4096x4096, .f32⟩ : BufTy).Contents (Elt F) → (⟨S8x4096x4096, .f32⟩ : BufTy).Contents (Elt F)),
    unary main_v24 main_v25 (Host.exp : (⟨S8x4096x4096, .f32⟩ : BufTy).Contents (Elt F) → (⟨S8x4096x4096, .f32⟩ : BufTy).Contents (Elt F)),
    nullary main_cst_2 (constant S_ .f32 0x00000000#32),
    binary main_v25 main_cst_2 main_v26 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    unary main_v26 main_v27 (broadcastInDim S8x4096x1 ![0, 1] bcast_S8x4096_S8x4096x1_0_1 : (⟨S8x4096, .f32⟩ : BufTy).Contents (Elt F) → (⟨S8x4096x1, .f32⟩ : BufTy).Contents (Elt F)),
    unary main_v27 main_v28 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v25 main_v28 main_v29 (Host.divf : (⟨S8x4096x4096, .f32⟩ : BufTy).Contents (Elt F) → (⟨S8x4096x4096, .f32⟩ : BufTy).Contents (Elt F) → (⟨S8x4096x4096, .f32⟩ : BufTy).Contents (Elt F)),
    binary main_v27 main_v27 main_v30 (mulf : (⟨S8x4096x1, .f32⟩ : BufTy).Contents (Elt F) → (⟨S8x4096x1, .f32⟩ : BufTy).Contents (Elt F) → (⟨S8x4096x1, .f32⟩ : BufTy).Contents (Elt F)),
    nullary main_cst_3 (constant S_ .f32 0x3F800000#32),
    unary main_cst_3 main_v31 (broadcastInDim S8x4096x1 ![] bcast_S_S8x4096x1 : (⟨S_, .f32⟩ : BufTy).Contents (Elt F) → (⟨S8x4096x1, .f32⟩ : BufTy).Contents (Elt F)),
    binary main_v31 main_v30 main_v32 (Host.divf : (⟨S8x4096x1, .f32⟩ : BufTy).Contents (Elt F) → (⟨S8x4096x1, .f32⟩ : BufTy).Contents (Elt F) → (⟨S8x4096x1, .f32⟩ : BufTy).Contents (Elt F)),
    binary main_arg2 main_v29 main_v33 ((fun l r => Host.dotGeneral dot_S4096x8x128_S8x4096x4096_S8x128x4096_0_2_2_1_1_0 none l r) : (⟨S4096x8x128, .f32⟩ : BufTy).Contents (Elt F) → (⟨S8x4096x4096, .f32⟩ : BufTy).Contents (Elt F) → (⟨S8x128x4096, .f32⟩ : BufTy).Contents (Elt F)),
    unary main_v33 main_v34 ((transpose S4096x8x128 [2, 0, 1] · transposes_S8x128x4096_S4096x8x128_2_0_1) : (⟨S8x128x4096, .f32⟩ : BufTy).Contents (Elt F) → (⟨S4096x8x128, .f32⟩ : BufTy).Contents (Elt F)),
    unary main_v27 main_v35 (Host.log : (⟨S8x4096x1, .f32⟩ : BufTy).Contents (Elt F) → (⟨S8x4096x1, .f32⟩ : BufTy).Contents (Elt F)),
    binary main_v22 main_v35 main_v36 (addf : (⟨S8x4096x1, .f32⟩ : BufTy).Contents (Elt F) → (⟨S8x4096x1, .f32⟩ : BufTy).Contents (Elt F) → (⟨S8x4096x1, .f32⟩ : BufTy).Contents (Elt F)),
    reshape main_v36 main_v37 (rfl : (.f32 : EltTy) = .f32) shapeCasts_S8x4096x1_S8x4096,
    unary main_v37 main_v38 ((transpose S4096x8 [1, 0] · transposes_S8x4096_S4096x8_1_0) : (⟨S8x4096, .f32⟩ : BufTy).Contents (Elt F) → (⟨S4096x8, .f32⟩ : BufTy).Contents (Elt F)),
    unary main_v38 main_v39 (broadcastInDim S1x4096x8 ![1, 2] bcast_S4096x8_S1x4096x8_1_2 : (⟨S4096x8, .f32⟩ : BufTy).Contents (Elt F) → (⟨S1x4096x8, .f32⟩ : BufTy).Contents (Elt F)),
    binary main_v39 main_arg4 main_v40 (fn_main_v40 (F := F)),
    nullary main_cst_4 (constant S_ .f32 0x00000000#32),
    unary main_cst_4 main_v41 (broadcastInDim S2x4096x8 ![] bcast_S_S2x4096x8 : (⟨S_, .f32⟩ : BufTy).Contents (Elt F) → (⟨S2x4096x8, .f32⟩ : BufTy).Contents (Elt F)),
    nullary main_cst_5 (constant S_ .f32 0xFF800000#32),
    binary main_v40 main_cst_5 main_v42 ((fun x v => Host.reduce FloatOps.maximumf x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F)),
    reshape main_v42 main_v43 (rfl : (.f32 : EltTy) = .f32) shapeCasts_S4096x8_S1x4096x8,
    unary main_v43 main_v44 (broadcastInDim S3x4096x8 ![0, 1, 2] bcast_S1x4096x8_S3x4096x8_0_1_2 : (⟨S1x4096x8, .f32⟩ : BufTy).Contents (Elt F) → (⟨S3x4096x8, .f32⟩ : BufTy).Contents (Elt F)),
    binary main_v40 main_v44 main_v45 (cmpf .oeq : (⟨S3x4096x8, .f32⟩ : BufTy).Contents (Elt F) → (⟨S3x4096x8, .f32⟩ : BufTy).Contents (Elt F) → (⟨S3x4096x8, .i1⟩ : BufTy).Contents (Elt F)),
    unary main_v45 main_v46 (uitofp .f32 : (⟨S3x4096x8, .i1⟩ : BufTy).Contents (Elt F) → (⟨S3x4096x8, .f32⟩ : BufTy).Contents (Elt F)) ]

abbrev ops_part0_2 : List (HloOp τ sig (Elt F)) :=
  [ nullary main_cst_6 (constant S_ .f32 0x00000000#32),
    binary main_v46 main_cst_6 main_v47 ((fun x v => Host.reduceAdd x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F)),
    nullary main_cst_7 (constant S_ .f32 0xFF800000#32),
    unary main_cst_7 main_v48 (broadcastInDim S4096x8 ![] bcast_S_S4096x8 : (⟨S_, .f32⟩ : BufTy).Contents (Elt F) → (⟨S4096x8, .f32⟩ : BufTy).Contents (Elt F)),
    binary main_v48 main_v42 main_v49 (maximumf : (⟨S4096x8, .f32⟩ : BufTy).Contents (Elt F) → (⟨S4096x8, .f32⟩ : BufTy).Contents (Elt F) → (⟨S4096x8, .f32⟩ : BufTy).Contents (Elt F)) ]

def ops_part0 : List (HloOp τ sig (Elt F)) :=
  ops_part0_0 ++ (ops_part0_1 ++ (ops_part0_2))

abbrev ops_part1 : List (HloOp τ sig (Elt F)) :=
  [ nullary main_cst_8 (constant S_ .f32 0xFF800000#32),
    unary main_cst_8 main_v50 (broadcastInDim S4096x8 ![] bcast_S_S4096x8 : (⟨S_, .f32⟩ : BufTy).Contents (Elt F) → (⟨S4096x8, .f32⟩ : BufTy).Contents (Elt F)),
    binary main_v42 main_v50 main_v51 (cmpf .ogt : (⟨S4096x8, .f32⟩ : BufTy).Contents (Elt F) → (⟨S4096x8, .f32⟩ : BufTy).Contents (Elt F) → (⟨S4096x8, .i1⟩ : BufTy).Contents (Elt F)),
    nullary main_cst_9 (constant S_ .f32 0xFF800000#32),
    unary main_cst_9 main_v52 (broadcastInDim S4096x8 ![] bcast_S_S4096x8 : (⟨S_, .f32⟩ : BufTy).Contents (Elt F) → (⟨S4096x8, .f32⟩ : BufTy).Contents (Elt F)),
    binary main_v42 main_v52 main_v53 (cmpf .oeq : (⟨S4096x8, .f32⟩ : BufTy).Contents (Elt F) → (⟨S4096x8, .f32⟩ : BufTy).Contents (Elt F) → (⟨S4096x8, .i1⟩ : BufTy).Contents (Elt F)),
    nullary main_cst_10 (constant S_ .f32 0x3F800000#32),
    unary main_cst_10 main_v54 (broadcastInDim S4096x8 ![] bcast_S_S4096x8 : (⟨S_, .f32⟩ : BufTy).Contents (Elt F) → (⟨S4096x8, .f32⟩ : BufTy).Contents (Elt F)),
    nullary main_cst_11 (constant S_ .f32 0x00000000#32),
    unary main_cst_11 main_v55 (broadcastInDim S4096x8 ![] bcast_S_S4096x8 : (⟨S_, .f32⟩ : BufTy).Contents (Elt F) → (⟨S4096x8, .f32⟩ : BufTy).Contents (Elt F)),
    nullary main_cst_12 (constant S_ .f32 0x3F000000#32),
    unary main_cst_12 main_v56 (broadcastInDim S4096x8 ![] bcast_S_S4096x8 : (⟨S_, .f32⟩ : BufTy).Contents (Elt F) → (⟨S4096x8, .f32⟩ : BufTy).Contents (Elt F)),
    ternary main_v53 main_v56 main_v55 main_v57 (select : (⟨S4096x8, .i1⟩ : BufTy).Contents (Elt F) → (⟨S4096x8, .f32⟩ : BufTy).Contents (Elt F) → (⟨S4096x8, .f32⟩ : BufTy).Contents (Elt F) → (⟨S4096x8, .f32⟩ : BufTy).Contents (Elt F)),
    ternary main_v51 main_v54 main_v57 main_v58 (select : (⟨S4096x8, .i1⟩ : BufTy).Contents (Elt F) → (⟨S4096x8, .f32⟩ : BufTy).Contents (Elt F) → (⟨S4096x8, .f32⟩ : BufTy).Contents (Elt F) → (⟨S4096x8, .f32⟩ : BufTy).Contents (Elt F)),
    unary main_v49 main_v59 (broadcastInDim S1x4096x8 ![1, 2] bcast_S4096x8_S1x4096x8_1_2 : (⟨S4096x8, .f32⟩ : BufTy).Contents (Elt F) → (⟨S1x4096x8, .f32⟩ : BufTy).Contents (Elt F)),
    unary main_v59 main_v60 (broadcastInDim S3x4096x8 ![0, 1, 2] bcast_S1x4096x8_S3x4096x8_0_1_2 : (⟨S1x4096x8, .f32⟩ : BufTy).Contents (Elt F) → (⟨S3x4096x8, .f32⟩ : BufTy).Contents (Elt F)),
    binary main_v40 main_v60 main_v61 (subf : (⟨S3x4096x8, .f32⟩ : BufTy).Contents (Elt F) → (⟨S3x4096x8, .f32⟩ : BufTy).Contents (Elt F) → (⟨S3x4096x8, .f32⟩ : BufTy).Contents (Elt F)),
    unary main_v61 main_v62 (Host.exp : (⟨S3x4096x8, .f32⟩ : BufTy).Contents (Elt F) → (⟨S3x4096x8, .f32⟩ : BufTy).Contents (Elt F)),
    nullary main_cst_13 (constant S_ .f32 0x00000000#32),
    binary main_v62 main_cst_13 main_v63 ((fun x v => Host.reduceAdd x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F)),
    unary main_v63 main_v64 (broadcastInDim S1x4096x8 ![1, 2] bcast_S4096x8_S1x4096x8_1_2 : (⟨S4096x8, .f32⟩ : BufTy).Contents (Elt F) → (⟨S1x4096x8, .f32⟩ : BufTy).Contents (Elt F)),
    unary main_v64 main_v65 (broadcastInDim S3x4096x8 ![0, 1, 2] bcast_S1x4096x8_S3x4096x8_0_1_2 : (⟨S1x4096x8, .f32⟩ : BufTy).Contents (Elt F) → (⟨S3x4096x8, .f32⟩ : BufTy).Contents (Elt F)),
    binary main_v62 main_v65 main_v66 (Host.divf : (⟨S3x4096x8, .f32⟩ : BufTy).Contents (Elt F) → (⟨S3x4096x8, .f32⟩ : BufTy).Contents (Elt F) → (⟨S3x4096x8, .f32⟩ : BufTy).Contents (Elt F)),
    binary main_v64 main_v64 main_v67 (mulf : (⟨S1x4096x8, .f32⟩ : BufTy).Contents (Elt F) → (⟨S1x4096x8, .f32⟩ : BufTy).Contents (Elt F) → (⟨S1x4096x8, .f32⟩ : BufTy).Contents (Elt F)),
    nullary main_cst_14 (constant S_ .f32 0x3F800000#32),
    unary main_cst_14 main_v68 (broadcastInDim S1x4096x8 ![] bcast_S_S1x4096x8 : (⟨S_, .f32⟩ : BufTy).Contents (Elt F) → (⟨S1x4096x8, .f32⟩ : BufTy).Contents (Elt F)),
    binary main_v68 main_v67 main_v69 (Host.divf : (⟨S1x4096x8, .f32⟩ : BufTy).Contents (Elt F) → (⟨S1x4096x8, .f32⟩ : BufTy).Contents (Elt F) → (⟨S1x4096x8, .f32⟩ : BufTy).Contents (Elt F)),
    unary main_v66 main_v70 ((extractStridedSlice S1x4096x8 ![0, 0, 0] · slices_S3x4096x8_S1x4096x8_0_0_0) : (⟨S3x4096x8, .f32⟩ : BufTy).Contents (Elt F) → (⟨S1x4096x8, .f32⟩ : BufTy).Contents (Elt F)),
    reshape main_v70 main_v71 (rfl : (.f32 : EltTy) = .f32) shapeCasts_S1x4096x8_S4096x8,
    unary main_v71 main_v72 (broadcastInDim S4096x8x1 ![0, 1] bcast_S4096x8_S4096x8x1_0_1 : (⟨S4096x8, .f32⟩ : BufTy).Contents (Elt F) → (⟨S4096x8x1, .f32⟩ : BufTy).Contents (Elt F)),
    unary main_v72 main_v73 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    binary main_v73 main_v34 main_v74 (mulf : (⟨S4096x8x128, .f32⟩ : BufTy).Contents (Elt F) → (⟨S4096x8x128, .f32⟩ : BufTy).Contents (Elt F) → (⟨S4096x8x128, .f32⟩ : BufTy).Contents (Elt F)),
    unary main_v66 main_v75 ((extractStridedSlice S2x4096x8 ![1, 0, 0] · slices_S3x4096x8_S2x4096x8_1_0_0) : (⟨S3x4096x8, .f32⟩ : BufTy).Contents (Elt F) → (⟨S2x4096x8, .f32⟩ : BufTy).Contents (Elt F)),
    unary main_v75 main_v76 (broadcastInDim S2x4096x8x1 ![0, 1, 2] bcast_S2x4096x8_S2x4096x8x1_0_1_2 : (⟨S2x4096x8, .f32⟩ : BufTy).Contents (Elt F) → (⟨S2x4096x8x1, .f32⟩ : BufTy).Contents (Elt F)),
    unary main_v76 main_v77 (broadcastInDim S2x4096x8x128 ![0, 1, 2, 3] bcast_S2x4096x8x1_S2x4096x8x128_0_1_2_3 : (⟨S2x4096x8x1, .f32⟩ : BufTy).Contents (Elt F) → (⟨S2x4096x8x128, .f32⟩ : BufTy).Contents (Elt F)),
    binary main_v77 main_arg3 main_v78 (mulf : (⟨S2x4096x8x128, .f32⟩ : BufTy).Contents (Elt F) → (⟨S2x4096x8x128, .f32⟩ : BufTy).Contents (Elt F) → (⟨S2x4096x8x128, .f32⟩ : BufTy).Contents (Elt F)),
    nullary main_cst_15 (constant S_ .f32 0x00000000#32),
    binary main_v78 main_cst_15 main_v79 ((fun x v => Host.reduceAdd x v reducesTo_S2x4096x8x128_S4096x8x128_d0 h_S_) : (⟨S2x4096x8x128, .f32⟩ : BufTy).Contents (Elt F) → (⟨S_, .f32⟩ : BufTy).Contents (Elt F) → (⟨S4096x8x128, .f32⟩ : BufTy).Contents (Elt F)),
    binary main_v74 main_v79 main_v80 (addf : (⟨S4096x8x128, .f32⟩ : BufTy).Contents (Elt F) → (⟨S4096x8x128, .f32⟩ : BufTy).Contents (Elt F) → (⟨S4096x8x128, .f32⟩ : BufTy).Contents (Elt F)),
    reshape main_arg5 main_v81 (rfl : (.f32 : EltTy) = .f32) shapeCasts_S4096x8x128_S4096x8x128,
    reshape main_arg5 main_v82 (rfl : (.f32 : EltTy) = .f32) shapeCasts_S4096x8x128_S4096x8x128,
    unary main_v82 main_v83 (broadcastInDim S2x4096x8x128 ![1, 2, 3] bcast_S4096x8x128_S2x4096x8x128_1_2_3 : (⟨S4096x8x128, .f32⟩ : BufTy).Contents (Elt F) → (⟨S2x4096x8x128, .f32⟩ : BufTy).Contents (Elt F)),
    binary main_v83 main_arg3 main_v84 (mulf : (⟨S2x4096x8x128, .f32⟩ : BufTy).Contents (Elt F) → (⟨S2x4096x8x128, .f32⟩ : BufTy).Contents (Elt F) → (⟨S2x4096x8x128, .f32⟩ : BufTy).Contents (Elt F)),
    nullary main_cst_16 (constant S_ .f32 0x00000000#32),
    binary main_v84 main_cst_16 main_v85 ((fun x v => Host.reduceAdd x v reducesTo_S2x4096x8x128_S2x4096x8_d3 h_S_) : (⟨S2x4096x8x128, .f32⟩ : BufTy).Contents (Elt F) → (⟨S_, .f32⟩ : BufTy).Contents (Elt F) → (⟨S2x4096x8, .f32⟩ : BufTy).Contents (Elt F)),
    reshape main_v85 main_v86 (rfl : (.f32 : EltTy) = .f32) shapeCasts_S2x4096x8_S2x4096x8x1,
    nullary main_cst_17 (constant S_ .f32 0x00000000#32),
    binary main_v86 main_cst_17 main_v87 ((fun x v => Host.reduceAdd x v reducesTo_S2x4096x8x1_S2x4096x8_d3 h_S_) : (⟨S2x4096x8x1, .f32⟩ : BufTy).Contents (Elt F) → (⟨S_, .f32⟩ : BufTy).Contents (Elt F) → (⟨S2x4096x8, .f32⟩ : BufTy).Contents (Elt F)),
    nullary main_cst_18 (constant S_ .f32 0x00000000#32),
    binary main_v87 main_cst_18 main_v88 ((fun x v => pad S3x4096x8 ![1, 0, 0] ![0, 0, 0] ![0, 0, 0] x v pads_S2x4096x8_S3x4096x8_100_000_000 h_S_) : (⟨S2x4096x8, .f32⟩ : BufTy).Contents (Elt F) → (⟨S_, .f32⟩ : BufTy).Contents (Elt F) → (⟨S3x4096x8, .f32⟩ : BufTy).Contents (Elt F)),
    unary main_v72 main_v89 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    binary main_v89 main_v81 main_v90 (mulf : (⟨S4096x8x128, .f32⟩ : BufTy).Contents (Elt F) → (⟨S4096x8x128, .f32⟩ : BufTy).Contents (Elt F) → (⟨S4096x8x128, .f32⟩ : BufTy).Contents (Elt F)),
    binary main_v81 main_v34 main_v91 (mulf : (⟨S4096x8x128, .f32⟩ : BufTy).Contents (Elt F) → (⟨S4096x8x128, .f32⟩ : BufTy).Contents (Elt F) → (⟨S4096x8x128, .f32⟩ : BufTy).Contents (Elt F)),
    nullary main_cst_19 (constant S_ .f32 0x00000000#32),
    binary main_v91 main_cst_19 main_v92 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F)),
    reshape main_v92 main_v93 (rfl : (.f32 : EltTy) = .f32) shapeCasts_S4096x8_S4096x8x1,
    nullary main_cst_20 (constant S_ .f32 0x00000000#32),
    binary main_v93 main_cst_20 main_v94 ((fun x v => Host.reduceAdd x v reducesTo_S4096x8x1_S4096x8_d2 h_S_) : (⟨S4096x8x1, .f32⟩ : BufTy).Contents (Elt F) → (⟨S_, .f32⟩ : BufTy).Contents (Elt F) → (⟨S4096x8, .f32⟩ : BufTy).Contents (Elt F)),
    unary main_v94 main_v95 (broadcastInDim S1x4096x8 ![1, 2] bcast_S4096x8_S1x4096x8_1_2 : (⟨S4096x8, .f32⟩ : BufTy).Contents (Elt F) → (⟨S1x4096x8, .f32⟩ : BufTy).Contents (Elt F)),
    nullary main_cst_21 (constant S_ .f32 0x00000000#32) ]

abbrev ops_part2_0 : List (HloOp τ sig (Elt F)) :=
  [ binary main_v95 main_cst_21 main_v96 ((fun x v => pad S3x4096x8 ![0, 0, 0] ![2, 0, 0] ![0, 0, 0] x v pads_S1x4096x8_S3x4096x8_020_000_000 h_S_) : (⟨S1x4096x8, .f32⟩ : BufTy).Contents (Elt F) → (⟨S_, .f32⟩ : BufTy).Contents (Elt F) → (⟨S3x4096x8, .f32⟩ : BufTy).Contents (Elt F)),
    binary main_v88 main_v96 main_v97 (addf : (⟨S3x4096x8, .f32⟩ : BufTy).Contents (Elt F) → (⟨S3x4096x8, .f32⟩ : BufTy).Contents (Elt F) → (⟨S3x4096x8, .f32⟩ : BufTy).Contents (Elt F)),
    unary main_v69 main_v98 (broadcastInDim S3x4096x8 ![0, 1, 2] bcast_S1x4096x8_S3x4096x8_0_1_2 : (⟨S1x4096x8, .f32⟩ : BufTy).Contents (Elt F) → (⟨S3x4096x8, .f32⟩ : BufTy).Contents (Elt F)),
    binary main_v97 main_v98 main_v99 (mulf : (⟨S3x4096x8, .f32⟩ : BufTy).Contents (Elt F) → (⟨S3x4096x8, .f32⟩ : BufTy).Contents (Elt F) → (⟨S3x4096x8, .f32⟩ : BufTy).Contents (Elt F)),
    binary main_v99 main_v62 main_v100 (mulf : (⟨S3x4096x8, .f32⟩ : BufTy).Contents (Elt F) → (⟨S3x4096x8, .f32⟩ : BufTy).Contents (Elt F) → (⟨S3x4096x8, .f32⟩ : BufTy).Contents (Elt F)),
    nullary main_cst_22 (constant S_ .f32 0x00000000#32),
    binary main_v100 main_cst_22 main_v101 ((fun x v => Host.reduceAdd x v reducesTo_S3x4096x8_S4096x8_d0 h_S_) : (⟨S3x4096x8, .f32⟩ : BufTy).Contents (Elt F) → (⟨S_, .f32⟩ : BufTy).Contents (Elt F) → (⟨S4096x8, .f32⟩ : BufTy).Contents (Elt F)),
    reshape main_v101 main_v102 (rfl : (.f32 : EltTy) = .f32) shapeCasts_S4096x8_S1x4096x8,
    unary main_v102 main_v103 (Host.negf : (⟨S1x4096x8, .f32⟩ : BufTy).Contents (Elt F) → (⟨S1x4096x8, .f32⟩ : BufTy).Contents (Elt F)),
    unary main_v64 main_v104 (broadcastInDim S3x4096x8 ![0, 1, 2] bcast_S1x4096x8_S3x4096x8_0_1_2 : (⟨S1x4096x8, .f32⟩ : BufTy).Contents (Elt F) → (⟨S3x4096x8, .f32⟩ : BufTy).Contents (Elt F)),
    binary main_v97 main_v104 main_v105 (Host.divf : (⟨S3x4096x8, .f32⟩ : BufTy).Contents (Elt F) → (⟨S3x4096x8, .f32⟩ : BufTy).Contents (Elt F) → (⟨S3x4096x8, .f32⟩ : BufTy).Contents (Elt F)),
    nullary main_cst_23 (constant S_ .f32 0x00000000#32),
    binary main_v103 main_cst_23 main_v106 ((fun x v => Host.reduceAdd x v reducesTo_S1x4096x8_S4096x8_d0 h_S_) : (⟨S1x4096x8, .f32⟩ : BufTy).Contents (Elt F) → (⟨S_, .f32⟩ : BufTy).Contents (Elt F) → (⟨S4096x8, .f32⟩ : BufTy).Contents (Elt F)),
    unary main_v106 main_v107 (broadcastInDim S3x4096x8 ![1, 2] bcast_S4096x8_S3x4096x8_1_2 : (⟨S4096x8, .f32⟩ : BufTy).Contents (Elt F) → (⟨S3x4096x8, .f32⟩ : BufTy).Contents (Elt F)),
    binary main_v105 main_v107 main_v108 (addf : (⟨S3x4096x8, .f32⟩ : BufTy).Contents (Elt F) → (⟨S3x4096x8, .f32⟩ : BufTy).Contents (Elt F) → (⟨S3x4096x8, .f32⟩ : BufTy).Contents (Elt F)),
    binary main_v108 main_v62 main_v109 (mulf : (⟨S3x4096x8, .f32⟩ : BufTy).Contents (Elt F) → (⟨S3x4096x8, .f32⟩ : BufTy).Contents (Elt F) → (⟨S3x4096x8, .f32⟩ : BufTy).Contents (Elt F)),
    unary main_v109 main_v110 ((extractStridedSlice S1x4096x8 ![0, 0, 0] · slices_S3x4096x8_S1x4096x8_0_0_0) : (⟨S3x4096x8, .f32⟩ : BufTy).Contents (Elt F) → (⟨S1x4096x8, .f32⟩ : BufTy).Contents (Elt F)),
    unary main_v109 main_v111 ((extractStridedSlice S2x4096x8 ![1, 0, 0] · slices_S3x4096x8_S2x4096x8_1_0_0) : (⟨S3x4096x8, .f32⟩ : BufTy).Contents (Elt F) → (⟨S2x4096x8, .f32⟩ : BufTy).Contents (Elt F)),
    nullary main_cst_24 (constant S_ .f32 0x00000000#32),
    binary main_v110 main_cst_24 main_v112 ((fun x v => Host.reduceAdd x v reducesTo_S1x4096x8_S4096x8_d0 h_S_) : (⟨S1x4096x8, .f32⟩ : BufTy).Contents (Elt F) → (⟨S_, .f32⟩ : BufTy).Contents (Elt F) → (⟨S4096x8, .f32⟩ : BufTy).Contents (Elt F)),
    unary main_v112 main_v113 ((transpose S8x4096 [1, 0] · transposes_S4096x8_S8x4096_1_0) : (⟨S4096x8, .f32⟩ : BufTy).Contents (Elt F) → (⟨S8x4096, .f32⟩ : BufTy).Contents (Elt F)),
    unary main_v113 main_v114 (broadcastInDim S8x4096x1 ![0, 1] bcast_S8x4096_S8x4096x1_0_1 : (⟨S8x4096, .f32⟩ : BufTy).Contents (Elt F) → (⟨S8x4096x1, .f32⟩ : BufTy).Contents (Elt F)),
    binary main_v114 main_v27 main_v115 (Host.divf : (⟨S8x4096x1, .f32⟩ : BufTy).Contents (Elt F) → (⟨S8x4096x1, .f32⟩ : BufTy).Contents (Elt F) → (⟨S8x4096x1, .f32⟩ : BufTy).Contents (Elt F)),
    unary main_v90 main_v116 ((transpose S8x128x4096 [1, 2, 0] · transposes_S4096x8x128_S8x128x4096_1_2_0) : (⟨S4096x8x128, .f32⟩ : BufTy).Contents (Elt F) → (⟨S8x128x4096, .f32⟩ : BufTy).Contents (Elt F)),
    binary main_v116 main_arg2 main_v117 ((fun l r => Host.dotGeneral dot_S8x128x4096_S4096x8x128_S8x4096x4096_1_2_2_0_0_1 none l r) : (⟨S8x128x4096, .f32⟩ : BufTy).Contents (Elt F) → (⟨S4096x8x128, .f32⟩ : BufTy).Contents (Elt F) → (⟨S8x4096x4096, .f32⟩ : BufTy).Contents (Elt F)),
    binary main_v116 main_v29 main_v118 ((fun l r => Host.dotGeneral dot_S8x128x4096_S8x4096x4096_S8x128x4096_2_1_1_2_0_0 none l r) : (⟨S8x128x4096, .f32⟩ : BufTy).Contents (Elt F) → (⟨S8x4096x4096, .f32⟩ : BufTy).Contents (Elt F) → (⟨S8x128x4096, .f32⟩ : BufTy).Contents (Elt F)),
    unary main_v118 main_v119 ((transpose S4096x8x128 [2, 0, 1] · transposes_S8x128x4096_S4096x8x128_2_0_1) : (⟨S8x128x4096, .f32⟩ : BufTy).Contents (Elt F) → (⟨S4096x8x128, .f32⟩ : BufTy).Contents (Elt F)),
    unary main_v32 main_v120 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v117 main_v120 main_v121 (mulf : (⟨S8x4096x4096, .f32⟩ : BufTy).Contents (Elt F) → (⟨S8x4096x4096, .f32⟩ : BufTy).Contents (Elt F) → (⟨S8x4096x4096, .f32⟩ : BufTy).Contents (Elt F)),
    binary main_v121 main_v25 main_v122 (mulf : (⟨S8x4096x4096, .f32⟩ : BufTy).Contents (Elt F) → (⟨S8x4096x4096, .f32⟩ : BufTy).Contents (Elt F) → (⟨S8x4096x4096, .f32⟩ : BufTy).Contents (Elt F)) ]

abbrev ops_part2_1 : List (HloOp τ sig (Elt F)) :=
  [ nullary main_cst_25 (constant S_ .f32 0x00000000#32),
    binary main_v122 main_cst_25 main_v123 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v123 main_v124 (rfl : (.f32 : EltTy) = .f32) shapeCasts_S8x4096_S8x4096x1,
    unary main_v124 main_v125 (Host.negf : (⟨S8x4096x1, .f32⟩ : BufTy).Contents (Elt F) → (⟨S8x4096x1, .f32⟩ : BufTy).Contents (Elt F)),
    binary main_v115 main_v125 main_v126 (addf : (⟨S8x4096x1, .f32⟩ : BufTy).Contents (Elt F) → (⟨S8x4096x1, .f32⟩ : BufTy).Contents (Elt F) → (⟨S8x4096x1, .f32⟩ : BufTy).Contents (Elt F)),
    unary main_v27 main_v127 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v117 main_v127 main_v128 (Host.divf : (⟨S8x4096x4096, .f32⟩ : BufTy).Contents (Elt F) → (⟨S8x4096x4096, .f32⟩ : BufTy).Contents (Elt F) → (⟨S8x4096x4096, .f32⟩ : BufTy).Contents (Elt F)),
    nullary main_cst_26 (constant S_ .f32 0x00000000#32),
    binary main_v126 main_cst_26 main_v129 ((fun x v => Host.reduceAdd x v reducesTo_S8x4096x1_S8x4096_d2 h_S_) : (⟨S8x4096x1, .f32⟩ : BufTy).Contents (Elt F) → (⟨S_, .f32⟩ : BufTy).Contents (Elt F) → (⟨S8x4096, .f32⟩ : BufTy).Contents (Elt F)),
    unary main_v129 main_v130 (broadcastInDim S8x4096x4096 ![0, 1] bcast_S8x4096_S8x4096x4096_0_1 : (⟨S8x4096, .f32⟩ : BufTy).Contents (Elt F) → (⟨S8x4096x4096, .f32⟩ : BufTy).Contents (Elt F)),
    binary main_v128 main_v130 main_v131 (addf : (⟨S8x4096x4096, .f32⟩ : BufTy).Contents (Elt F) → (⟨S8x4096x4096, .f32⟩ : BufTy).Contents (Elt F) → (⟨S8x4096x4096, .f32⟩ : BufTy).Contents (Elt F)),
    binary main_v131 main_v25 main_v132 (mulf : (⟨S8x4096x4096, .f32⟩ : BufTy).Contents (Elt F) → (⟨S8x4096x4096, .f32⟩ : BufTy).Contents (Elt F) → (⟨S8x4096x4096, .f32⟩ : BufTy).Contents (Elt F)),
    unary main_v132 main_v133 (Host.negf : (⟨S8x4096x4096, .f32⟩ : BufTy).Contents (Elt F) → (⟨S8x4096x4096, .f32⟩ : BufTy).Contents (Elt F)),
    nullary main_cst_27 (constant S_ .f32 0x00000000#32),
    binary main_v133 main_cst_27 main_v134 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v134 main_v135 (rfl : (.f32 : EltTy) = .f32) shapeCasts_S8x4096_S8x4096x1,
    binary main_v114 main_v135 main_v136 (addf : (⟨S8x4096x1, .f32⟩ : BufTy).Contents (Elt F) → (⟨S8x4096x1, .f32⟩ : BufTy).Contents (Elt F) → (⟨S8x4096x1, .f32⟩ : BufTy).Contents (Elt F)),
    nullary main_cst_28 (constant S_ .f32 0x00000000#32),
    binary main_v136 main_cst_28 main_v137 ((fun x v => Host.reduceAdd x v reducesTo_S8x4096x1_S8x4096_d2 h_S_) : (⟨S8x4096x1, .f32⟩ : BufTy).Contents (Elt F) → (⟨S_, .f32⟩ : BufTy).Contents (Elt F) → (⟨S8x4096, .f32⟩ : BufTy).Contents (Elt F)),
    binary main_v137 main_v21 main_v138 (Host.divf : (⟨S8x4096, .f32⟩ : BufTy).Contents (Elt F) → (⟨S8x4096, .f32⟩ : BufTy).Contents (Elt F) → (⟨S8x4096, .f32⟩ : BufTy).Contents (Elt F)),
    unary main_v138 main_v139 (broadcastInDim S8x4096x4096 ![0, 1] bcast_S8x4096_S8x4096x4096_0_1 : (⟨S8x4096, .f32⟩ : BufTy).Contents (Elt F) → (⟨S8x4096x4096, .f32⟩ : BufTy).Contents (Elt F)),
    binary main_v139 main_v20 main_v140 (mulf : (⟨S8x4096x4096, .f32⟩ : BufTy).Contents (Elt F) → (⟨S8x4096x4096, .f32⟩ : BufTy).Contents (Elt F) → (⟨S8x4096x4096, .f32⟩ : BufTy).Contents (Elt F)),
    binary main_v132 main_v140 main_v141 (addf : (⟨S8x4096x4096, .f32⟩ : BufTy).Contents (Elt F) → (⟨S8x4096x4096, .f32⟩ : BufTy).Contents (Elt F) → (⟨S8x4096x4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x4096x4096, .f32⟩) main_call1_v0) (broadcastInDim S8x4096x4096 ![] bcast_S_S8x4096x4096),
    TRef.ternary (TRef.of (T := ⟨S8x4096x4096, .i1⟩) main_v15_1) (TRef.of (T := ⟨S8x4096x4096, .f32⟩) main_v141) (TRef.of (T := ⟨S8x4096x4096, .f32⟩) main_call1_v0) (TRef.of (T := ⟨S8x4096x4096, .f32⟩) main_v142) select,
    binary main_v142 main_arg0 main_v143 ((fun l r => Host.dotGeneral dot_S8x4096x4096_S4096x8x128_S8x4096x128_1_0_2_2_0_1 none l r) : (⟨S8x4096x4096, .f32⟩ : BufTy).Contents (Elt F) → (⟨S4096x8x128, .f32⟩ : BufTy).Contents (Elt F) → (⟨S8x4096x128, .f32⟩ : BufTy).Contents (Elt F)),
    unary main_v143 main_v144 ((transpose S4096x8x128 [1, 0, 2] · transposes_S8x4096x128_S4096x8x128_1_0_2) : (⟨S8x4096x128, .f32⟩ : BufTy).Contents (Elt F) → (⟨S4096x8x128, .f32⟩ : BufTy).Contents (Elt F)),
    binary main_v142 main_arg1 main_v145 ((fun l r => Host.dotGeneral dot_S8x4096x4096_S4096x8x128_S8x4096x128_2_0_1_2_0_1 none l r) : (⟨S8x4096x4096, .f32⟩ : BufTy).Contents (Elt F) → (⟨S4096x8x128, .f32⟩ : BufTy).Contents (Elt F) → (⟨S8x4096x128, .f32⟩ : BufTy).Contents (Elt F)),
    unary main_v145 main_v146 ((transpose S4096x8x128 [1, 0, 2] · transposes_S8x4096x128_S4096x8x128_1_0_2) : (⟨S8x4096x128, .f32⟩ : BufTy).Contents (Elt F) → (⟨S4096x8x128, .f32⟩ : BufTy).Contents (Elt F)) ]

abbrev ops_part2_2 : List (HloOp τ sig (Elt F)) :=
  [ reshape main_v146 main_v147 (rfl : (.f32 : EltTy) = .f32) shapeCasts_S4096x8x128_S4096x1024,
    unary main_v147 main_v148 ((truncf .bf16 · bitsLt_bf16_f32) : (⟨S4096x1024, .f32⟩ : BufTy).Contents (Elt F) → (⟨S4096x1024, .bf16⟩ : BufTy).Contents (Elt F)) ]

def ops_part2 : List (HloOp τ sig (Elt F)) :=
  ops_part2_0 ++ (ops_part2_1 ++ (ops_part2_2))

abbrev ops_part3 : List (HloOp τ sig (Elt F)) :=
  [ reshape main_v144 main_v149 (rfl : (.f32 : EltTy) = .f32) shapeCasts_S4096x8x128_S4096x1024,
    unary main_v149 main_v150 ((truncf .bf16 · bitsLt_bf16_f32) : (⟨S4096x1024, .f32⟩ : BufTy).Contents (Elt F) → (⟨S4096x1024, .bf16⟩ : BufTy).Contents (Elt F)),
    reshape main_v119 main_v151 (rfl : (.f32 : EltTy) = .f32) shapeCasts_S4096x8x128_S4096x1024,
    unary main_v151 main_v152 ((truncf .bf16 · bitsLt_bf16_f32) : (⟨S4096x1024, .f32⟩ : BufTy).Contents (Elt F) → (⟨S4096x1024, .bf16⟩ : BufTy).Contents (Elt F)) ]

abbrev ops : List (HloOp τ sig (Elt F)) :=
  ops_part0 ++ (ops_part1 ++ (ops_part2 ++ (ops_part3)))

set_option maxHeartbeats 4000000 in
theorem main_part0_eq (c : Dev nD) : main_part0 (F := F) c = seq ops_part0 := rfl
theorem main_part1_eq (c : Dev nD) : main_part1 (F := F) c = seq ops_part1 := rfl
set_option maxHeartbeats 4000000 in
theorem main_part2_eq (c : Dev nD) : main_part2 (F := F) c = seq ops_part2 := rfl
theorem main_part3_eq (c : Dev nD) : main_part3 (F := F) c = seq ops_part3 := rfl
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_part0_0_sub : (ops_part0_0 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., unary_bufs_sub .., nullary_bufs_sub .., unary_bufs_sub .., unary_bufs_sub .., unary_bufs_sub .., ternary_bufs_sub .., nullary_bufs_sub .., unary_bufs_sub .., nullary_bufs_sub .., binary_bufs_sub .., reshape_bufs_sub .., unary_bufs_sub .., binary_bufs_sub .., unary_bufs_sub .., nullary_bufs_sub ..⟩
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part0_1_sub : (ops_part0_1 : List (HloOp τ sig (Elt F))).Forall fun op => op.bufs ⊆ tcRefs τ sig :=
  ⟨binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub .., reshape_bufs_sub .., unary_bufs_sub .., unary_bufs_sub .., binary_bufs_sub .., nullary_bufs_sub .., unary_bufs_sub .., nullary_bufs_sub .., binary_bufs_sub .., reshape_bufs_sub .., unary_bufs_sub .., binary_bufs_sub .., unary_bufs_sub ..⟩
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part0_2_sub : (ops_part0_2 : List (HloOp τ sig (Elt F))).Forall fun op => op.bufs ⊆ tcRefs τ sig :=
  ⟨nullary_bufs_sub .., binary_bufs_sub .., nullary_bufs_sub .., unary_bufs_sub .., binary_bufs_sub ..⟩
theorem ops_part0_2_fresh : (ops_part0_2 : List (HloOp τ sig (Elt F))).Forall fun op => op.fresh = ∅ :=
  ⟨rfl, rfl, rfl, rfl, rfl⟩
theorem ops_part1_sub : (ops_part1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., unary_bufs_sub .., reshape_bufs_sub .., unary_bufs_sub .., unary_bufs_sub .., binary_bufs_sub .., unary_bufs_sub .., unary_bufs_sub .., unary_bufs_sub .., binary_bufs_sub .., nullary_bufs_sub .., binary_bufs_sub .., binary_bufs_sub .., reshape_bufs_sub .., reshape_bufs_sub .., unary_bufs_sub .., binary_bufs_sub .., nullary_bufs_sub .., binary_bufs_sub .., reshape_bufs_sub .., nullary_bufs_sub .., binary_bufs_sub .., nullary_bufs_sub .., binary_bufs_sub .., unary_bufs_sub .., binary_bufs_sub .., binary_bufs_sub .., nullary_bufs_sub .., binary_bufs_sub .., reshape_bufs_sub .., nullary_bufs_sub .., binary_bufs_sub .., unary_bufs_sub .., nullary_bufs_sub ..⟩
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part2_0_sub : (ops_part2_0 : List (HloOp τ sig (Elt F))).Forall fun op => op.bufs ⊆ tcRefs τ sig :=
  ⟨binary_bufs_sub .., binary_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub .., unary_bufs_sub .., unary_bufs_sub .., nullary_bufs_sub .., binary_bufs_sub .., unary_bufs_sub .., unary_bufs_sub .., binary_bufs_sub .., unary_bufs_sub .., binary_bufs_sub .., binary_bufs_sub .., unary_bufs_sub .., unary_bufs_sub .., binary_bufs_sub .., binary_bufs_sub ..⟩
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part2_1_sub : (ops_part2_1 : List (HloOp τ sig (Elt F))).Forall fun op => op.bufs ⊆ tcRefs τ sig :=
  ⟨nullary_bufs_sub .., binary_bufs_sub .., reshape_bufs_sub .., unary_bufs_sub .., binary_bufs_sub .., unary_bufs_sub .., binary_bufs_sub .., nullary_bufs_sub .., binary_bufs_sub .., unary_bufs_sub .., binary_bufs_sub .., binary_bufs_sub .., unary_bufs_sub .., nullary_bufs_sub .., binary_bufs_sub .., reshape_bufs_sub .., binary_bufs_sub .., nullary_bufs_sub .., binary_bufs_sub .., binary_bufs_sub .., unary_bufs_sub .., binary_bufs_sub .., binary_bufs_sub .., nullary_bufs_sub .., unary_bufs_sub .., ternary_bufs_sub .., binary_bufs_sub .., unary_bufs_sub .., binary_bufs_sub .., unary_bufs_sub ..⟩
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part2_2_sub : (ops_part2_2 : List (HloOp τ sig (Elt F))).Forall fun op => op.bufs ⊆ tcRefs τ sig :=
  ⟨reshape_bufs_sub .., unary_bufs_sub ..⟩
theorem ops_part2_2_fresh : (ops_part2_2 : List (HloOp τ sig (Elt F))).Forall fun op => op.fresh = ∅ :=
  ⟨rfl, rfl⟩
theorem ops_part3_sub : (ops_part3 : List (HloOp τ sig (Elt F))).Forall fun op => op.bufs ⊆ tcRefs τ sig :=
  ⟨reshape_bufs_sub .., unary_bufs_sub .., reshape_bufs_sub .., unary_bufs_sub ..⟩
theorem ops_part3_fresh : (ops_part3 : List (HloOp τ sig (Elt F))).Forall fun op => op.fresh = ∅ :=
  ⟨rfl, rfl, rfl, rfl⟩
theorem ops_sub : (ops : List (HloOp τ sig (Elt F))).Forall fun op => op.bufs ⊆ tcRefs τ sig :=
  List.forall_iff_forall_mem.mpr fun op h => by
    simp only [ops, ops_part0, ops_part2, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ := fun op h => by
    simp only [ops, ops_part0, ops_part2, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

def res_main_v1 (V0 : Valuation τ sig (Elt F)) : (Proc.devRef .tc main_v1 : DevRef τ sig).ty.Contents (Elt F) :=
  broadcastInDim S4096x1 ![0] bcast_S4096_S4096x1_0 (iotaInDim S4096 32 0)

def res_main_v3 (V0 : Valuation τ sig (Elt F)) : (Proc.devRef .tc main_v3 : DevRef τ sig).ty.Contents (Elt F) :=
  broadcastInDim S1x4096 ![1] bcast_S4096_S1x4096_1 (iotaInDim S4096 32 0)

def res_main_v15_1 (V0 : Valuation τ sig (Elt F)) : (Proc.devRef .tc main_v15_1 : DevRef τ sig).ty.Contents (Elt F) :=
  broadcastInDim S8x4096x4096 ![0, 1, 2] bcast_S1x4096x4096_S8x4096x4096_0_1_2 (broadcastInDim S1x4096x4096 ![1, 2] bcast_S4096x4096_S1x4096x4096_1_2 (andi (cmpi .sle (broadcastInDim S4096x4096 ![0, 1] bcast_S1x4096_S4096x4096_0_1 (res_main_v3 V0)) (broadcastInDim S4096x4096 ![0, 1] bcast_S4096x1_S4096x4096_0_1 (res_main_v1 V0))) (cmpi .sle (subi (broadcastInDim S4096x4096 ![0, 1] bcast_S4096x1_S4096x4096_0_1 (res_main_v1 V0)) (broadcastInDim S4096x4096 ![0, 1] bcast_S1x4096_S4096x4096_0_1 (res_main_v3 V0))) (broadcastInDim S4096x4096 ![] bcast_S_S4096x4096 (constantI S_ 32 128#32)))))

def res_main_v15_0 (V0 : Valuation τ sig (Elt F)) : (Proc.devRef .tc main_v15_0 : DevRef τ sig).ty.Contents (Elt F) :=
  select (res_main_v15_1 V0) (Host.dotGeneral dot_S4096x8x128_S4096x8x128_S8x4096x4096_2_2_0_0_1_1 none (V0 (Proc.devRef .tc main_arg0)) (V0 (Proc.devRef .tc main_arg1))) (broadcastInDim S8x4096x4096 ![] bcast_S_S8x4096x4096 (id (constant S_ .f32 0xFF800000#32)))

def res_main_v16 (V0 : Valuation τ sig (Elt F)) : (Proc.devRef .tc main_v16 : DevRef τ sig).ty.Contents (Elt F) :=
  Host.reduce FloatOps.maximumf (res_main_v15_0 V0) (constant S_ .f32 0xFF800000#32) reducesTo_S8x4096x4096_S8x4096_d2 h_S_

def res_main_v20 (V0 : Valuation τ sig (Elt F)) : (Proc.devRef .tc main_v20 : DevRef τ sig).ty.Contents (Elt F) :=
  uitofp .f32 (cmpf .oeq (res_main_v15_0 V0) (broadcastInDim S8x4096x4096 ![0, 1, 2] bcast_S8x4096x1_S8x4096x4096_0_1_2 (shapeCast _ (res_main_v16 V0) shapeCasts_S8x4096_S8x4096x1)))

def res_main_v22 (V0 : Valuation τ sig (Elt F)) : (Proc.devRef .tc main_v22 : DevRef τ sig).ty.Contents (Elt F) :=
  broadcastInDim S8x4096x1 ![0, 1] bcast_S8x4096_S8x4096x1_0_1 (res_main_v16 V0)

def res_main_v25 (V0 : Valuation τ sig (Elt F)) : (Proc.devRef .tc main_v25 : DevRef τ sig).ty.Contents (Elt F) :=
  Host.exp (subf (res_main_v15_0 V0) (broadcastInDim S8x4096x4096 ![0, 1, 2] bcast_S8x4096x1_S8x4096x4096_0_1_2 (res_main_v22 V0)))

def res_main_v27 (V0 : Valuation τ sig (Elt F)) : (Proc.devRef .tc main_v27 : DevRef τ sig).ty.Contents (Elt F) :=
  broadcastInDim S8x4096x1 ![0, 1] bcast_S8x4096_S8x4096x1_0_1 (Host.reduceAdd (res_main_v25 V0) (constant S_ .f32 0x00000000#32) reducesTo_S8x4096x4096_S8x4096_d2 h_S_)

def res_main_v29 (V0 : Valuation τ sig (Elt F)) : (Proc.devRef .tc main_v29 : DevRef τ sig).ty.Contents (Elt F) :=
  Host.divf (res_main_v25 V0) (broadcastInDim S8x4096x4096 ![0, 1, 2] bcast_S8x4096x1_S8x4096x4096_0_1_2 (res_main_v27 V0))

def res_main_v34 (V0 : Valuation τ sig (Elt F)) : (Proc.devRef .tc main_v34 : DevRef τ sig).ty.Contents (Elt F) :=
  transpose S4096x8x128 [2, 0, 1] (Host.dotGeneral dot_S4096x8x128_S8x4096x4096_S8x128x4096_0_2_2_1_1_0 none (V0 (Proc.devRef .tc main_arg2)) (res_main_v29 V0)) transposes_S8x128x4096_S4096x8x128_2_0_1

def res_main_v40 (V0 : Valuation τ sig (Elt F)) : (Proc.devRef .tc main_v40 : DevRef τ sig).ty.Contents (Elt F) :=
  concatenate S3x4096x8 0 [⟨S1x4096x8, (broadcastInDim S1x4096x8 ![1, 2] bcast_S4096x8_S1x4096x8_1_2 (transpose S4096x8 [1, 0] (shapeCast _ (addf (res_main_v22 V0) (Host.log (res_main_v27 V0))) shapeCasts_S8x4096x1_S8x4096) transposes_S8x4096_S4096x8_1_0))⟩, ⟨S2x4096x8, (V0 (Proc.devRef .tc main_arg4))⟩] concatenates_S1x4096x8_S2x4096x8_S3x4096x8_d0

def res_main_v42 (V0 : Valuation τ sig (Elt F)) : (Proc.devRef .tc main_v42 : DevRef τ sig).ty.Contents (Elt F) :=
  Host.reduce FloatOps.maximumf (res_main_v40 V0) (constant S_ .f32 0xFF800000#32) reducesTo_S3x4096x8_S4096x8_d0 h_S_

def res_main_v62 (V0 : Valuation τ sig (Elt F)) : (Proc.devRef .tc main_v62 : DevRef τ sig).ty.Contents (Elt F) :=
  Host.exp (subf (res_main_v40 V0) (broadcastInDim S3x4096x8 ![0, 1, 2] bcast_S1x4096x8_S3x4096x8_0_1_2 (broadcastInDim S1x4096x8 ![1, 2] bcast_S4096x8_S1x4096x8_1_2 (maximumf (broadcastInDim S4096x8 ![] bcast_S_S4096x8 (constant S_ .f32 0xFF800000#32)) (res_main_v42 V0)))))

def res_main_v64 (V0 : Valuation τ sig (Elt F)) : (Proc.devRef .tc main_v64 : DevRef τ sig).ty.Contents (Elt F) :=
  broadcastInDim S1x4096x8 ![1, 2] bcast_S4096x8_S1x4096x8_1_2 (Host.reduceAdd (res_main_v62 V0) (constant S_ .f32 0x00000000#32) reducesTo_S3x4096x8_S4096x8_d0 h_S_)

def res_main_v66 (V0 : Valuation τ sig (Elt F)) : (Proc.devRef .tc main_v66 : DevRef τ sig).ty.Contents (Elt F) :=
  Host.divf (res_main_v62 V0) (broadcastInDim S3x4096x8 ![0, 1, 2] bcast_S1x4096x8_S3x4096x8_0_1_2 (res_main_v64 V0))

def res_main_v72 (V0 : Valuation τ sig (Elt F)) : (Proc.devRef .tc main_v72 : DevRef τ sig).ty.Contents (Elt F) :=
  broadcastInDim S4096x8x1 ![0, 1] bcast_S4096x8_S4096x8x1_0_1 (shapeCast _ (extractStridedSlice S1x4096x8 ![0, 0, 0] (res_main_v66 V0) slices_S3x4096x8_S1x4096x8_0_0_0) shapeCasts_S1x4096x8_S4096x8)

def res_main_v81 (V0 : Valuation τ sig (Elt F)) : (Proc.devRef .tc main_v81 : DevRef τ sig).ty.Contents (Elt F) :=
  shapeCast _ (V0 (Proc.devRef .tc main_arg5)) shapeCasts_S4096x8x128_S4096x8x128

def res_main_v97 (V0 : Valuation τ sig (Elt F)) : (Proc.devRef .tc main_v97 : DevRef τ sig).ty.Contents (Elt F) :=
  addf (pad S3x4096x8 ![1, 0, 0] ![0, 0, 0] ![0, 0, 0] (Host.reduceAdd (shapeCast _ (Host.reduceAdd (mulf (broadcastInDim S2x4096x8x128 ![1, 2, 3] bcast_S4096x8x128_S2x4096x8x128_1_2_3 (shapeCast _ (V0 (Proc.devRef .tc main_arg5)) shapeCasts_S4096x8x128_S4096x8x128)) (V0 (Proc.devRef .tc main_arg3))) (constant S_ .f32 0x00000000#32) reducesTo_S2x4096x8x128_S2x4096x8_d3 h_S_) shapeCasts_S2x4096x8_S2x4096x8x1) (constant S_ .f32 0x00000000#32) reducesTo_S2x4096x8x1_S2x4096x8_d3 h_S_) (constant S_ .f32 0x00000000#32) pads_S2x4096x8_S3x4096x8_100_000_000 h_S_) (pad S3x4096x8 ![0, 0, 0] ![2, 0, 0] ![0, 0, 0] (broadcastInDim S1x4096x8 ![1, 2] bcast_S4096x8_S1x4096x8_1_2 (Host.reduceAdd (shapeCast _ (Host.reduceAdd (mulf (res_main_v81 V0) (res_main_v34 V0)) (constant S_ .f32 0x00000000#32) reducesTo_S4096x8x128_S4096x8_d2 h_S_) shapeCasts_S4096x8_S4096x8x1) (constant S_ .f32 0x00000000#32) reducesTo_S4096x8x1_S4096x8_d2 h_S_)) (constant S_ .f32 0x00000000#32) pads_S1x4096x8_S3x4096x8_020_000_000 h_S_)

def res_main_v109 (V0 : Valuation τ sig (Elt F)) : (Proc.devRef .tc main_v109 : DevRef τ sig).ty.Contents (Elt F) :=
  mulf (addf (Host.divf (res_main_v97 V0) (broadcastInDim S3x4096x8 ![0, 1, 2] bcast_S1x4096x8_S3x4096x8_0_1_2 (res_main_v64 V0))) (broadcastInDim S3x4096x8 ![1, 2] bcast_S4096x8_S3x4096x8_1_2 (Host.reduceAdd (Host.negf (shapeCast _ (Host.reduceAdd (mulf (mulf (res_main_v97 V0) (broadcastInDim S3x4096x8 ![0, 1, 2] bcast_S1x4096x8_S3x4096x8_0_1_2 (Host.divf (broadcastInDim S1x4096x8 ![] bcast_S_S1x4096x8 (constant S_ .f32 0x3F800000#32)) (mulf (res_main_v64 V0) (res_main_v64 V0))))) (res_main_v62 V0)) (constant S_ .f32 0x00000000#32) reducesTo_S3x4096x8_S4096x8_d0 h_S_) shapeCasts_S4096x8_S1x4096x8)) (constant S_ .f32 0x00000000#32) reducesTo_S1x4096x8_S4096x8_d0 h_S_))) (res_main_v62 V0)

def res_main_v114 (V0 : Valuation τ sig (Elt F)) : (Proc.devRef .tc main_v114 : DevRef τ sig).ty.Contents (Elt F) :=
  broadcastInDim S8x4096x1 ![0, 1] bcast_S8x4096_S8x4096x1_0_1 (transpose S8x4096 [1, 0] (Host.reduceAdd (extractStridedSlice S1x4096x8 ![0, 0, 0] (res_main_v109 V0) slices_S3x4096x8_S1x4096x8_0_0_0) (constant S_ .f32 0x00000000#32) reducesTo_S1x4096x8_S4096x8_d0 h_S_) transposes_S4096x8_S8x4096_1_0)

def res_main_v116 (V0 : Valuation τ sig (Elt F)) : (Proc.devRef .tc main_v116 : DevRef τ sig).ty.Contents (Elt F) :=
  transpose S8x128x4096 [1, 2, 0] (mulf (broadcastInDim S4096x8x128 ![0, 1, 2] bcast_S4096x8x1_S4096x8x128_0_1_2 (res_main_v72 V0)) (res_main_v81 V0)) transposes_S4096x8x128_S8x128x4096_1_2_0

def res_main_v117 (V0 : Valuation τ sig (Elt F)) : (Proc.devRef .tc main_v117 : DevRef τ sig).ty.Contents (Elt F) :=
  Host.dotGeneral dot_S8x128x4096_S4096x8x128_S8x4096x4096_1_2_2_0_0_1 none (res_main_v116 V0) (V0 (Proc.devRef .tc main_arg2))

def res_main_v132 (V0 : Valuation τ sig (Elt F)) : (Proc.devRef .tc main_v132 : DevRef τ sig).ty.Contents (Elt F) :=
  mulf (addf (Host.divf (res_main_v117 V0) (broadcastInDim S8x4096x4096 ![0, 1, 2] bcast_S8x4096x1_S8x4096x4096_0_1_2 (res_main_v27 V0))) (broadcastInDim S8x4096x4096 ![0, 1] bcast_S8x4096_S8x4096x4096_0_1 (Host.reduceAdd (addf (Host.divf (res_main_v114 V0) (res_main_v27 V0)) (Host.negf (shapeCast _ (Host.reduceAdd (mulf (mulf (res_main_v117 V0) (broadcastInDim S8x4096x4096 ![0, 1, 2] bcast_S8x4096x1_S8x4096x4096_0_1_2 (Host.divf (broadcastInDim S8x4096x1 ![] bcast_S_S8x4096x1 (constant S_ .f32 0x3F800000#32)) (mulf (res_main_v27 V0) (res_main_v27 V0))))) (res_main_v25 V0)) (constant S_ .f32 0x00000000#32) reducesTo_S8x4096x4096_S8x4096_d2 h_S_) shapeCasts_S8x4096_S8x4096x1))) (constant S_ .f32 0x00000000#32) reducesTo_S8x4096x1_S8x4096_d2 h_S_))) (res_main_v25 V0)

def res_main_v142 (V0 : Valuation τ sig (Elt F)) : (Proc.devRef .tc main_v142 : DevRef τ sig).ty.Contents (Elt F) :=
  select (res_main_v15_1 V0) (addf (res_main_v132 V0) (mulf (broadcastInDim S8x4096x4096 ![0, 1] bcast_S8x4096_S8x4096x4096_0_1 (Host.divf (Host.reduceAdd (addf (res_main_v114 V0) (shapeCast _ (Host.reduceAdd (Host.negf (res_main_v132 V0)) (constant S_ .f32 0x00000000#32) reducesTo_S8x4096x4096_S8x4096_d2 h_S_) shapeCasts_S8x4096_S8x4096x1)) (constant S_ .f32 0x00000000#32) reducesTo_S8x4096x1_S8x4096_d2 h_S_) (Host.reduceAdd (res_main_v20 V0) (constant S_ .f32 0x00000000#32) reducesTo_S8x4096x4096_S8x4096_d2 h_S_))) (res_main_v20 V0))) (broadcastInDim S8x4096x4096 ![] bcast_S_S8x4096x4096 (constant S_ .f32 0x00000000#32))

def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl

def val0_1 (V0 : Valuation τ sig (Elt F)) : Valuation τ sig (Elt F) := after ops_part0_0 (val0 V0)
abbrev ops_part0_0_W : List (Ref sig .tc) := [main_v0, main_v1, main_v2, main_v3, main_v4, main_v5, main_v6, main_v7, main_v8, main_v9, main_c, main_v10, main_v11, main_v12, main_v13, main_v14, main_cst, main_call0_v0, main_v15_1, main_call0_v2, main_v15_0, main_call0_cst, main_v15_2, main_cst_0, main_v16, main_v17, main_v18, main_v19, main_v20, main_cst_1]
theorem ops_part0_0_writes : (ops_part0_0 : List (HloOp τ sig (Elt F))).Forall fun op => op.writes ⊆ (ops_part0_0_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
set_option maxHeartbeats 2000000 in
theorem val0_1_main_v15_1 (V0 : Valuation τ sig (Elt F)) : val0_1 V0 (no_index (Proc.devRef .tc main_v15_1)) = res_main_v15_1 V0 := by
  unfold val0_1
  simp only [ops_part0_0, TRef.nullary, TRef.ternary, TRef.unary, TRef.toBuf, TRef.ofBuf, cast_eq]
  after_results_simp
  all_goals rfl
set_option maxHeartbeats 2000000 in
theorem val0_1_main_v15_0 (V0 : Valuation τ sig (Elt F)) : val0_1 V0 (no_index (Proc.devRef .tc main_v15_0)) = res_main_v15_0 V0 := by
  unfold val0_1
  simp only [ops_part0_0, TRef.nullary, TRef.ternary, TRef.unary, TRef.toBuf, TRef.ofBuf, cast_eq]
  after_results_simp
  simp only [val0_main_arg1, val0_main_arg0] <;> rfl
set_option maxHeartbeats 2000000 in
theorem val0_1_main_v16 (V0 : Valuation τ sig (Elt F)) : val0_1 V0 (no_index (Proc.devRef .tc main_v16)) = res_main_v16 V0 := by
  unfold val0_1
  simp only [ops_part0_0, TRef.nullary, TRef.ternary, TRef.unary, TRef.toBuf, TRef.ofBuf, cast_eq]
  after_results_simp
  simp only [val0_main_arg1, val0_main_arg0] <;> rfl
set_option maxHeartbeats 2000000 in
theorem val0_1_main_v20 (V0 : Valuation τ sig (Elt F)) : val0_1 V0 (no_index (Proc.devRef .tc main_v20)) = res_main_v20 V0 := by
  unfold val0_1
  simp only [ops_part0_0, TRef.nullary, TRef.ternary, TRef.unary, TRef.toBuf, TRef.ofBuf, cast_eq]
  after_results_simp
  simp only [val0_main_arg1, val0_main_arg0] <;> rfl
set_option maxHeartbeats 2000000 in
theorem val0_1_main_cst_1 (V0 : Valuation τ sig (Elt F)) : val0_1 V0 (no_index (Proc.devRef .tc main_cst_1)) = constant S_ .f32 0x00000000#32 := by
  unfold val0_1
  simp only [ops_part0_0, TRef.nullary, TRef.ternary, TRef.unary, TRef.toBuf, TRef.ofBuf, cast_eq]
  after_results_simp
  all_goals rfl

def val0_2 (V0 : Valuation τ sig (Elt F)) : Valuation τ sig (Elt F) := after ops_part0_1 (val0_1 V0)
abbrev ops_part0_1_W : List (Ref sig .tc) := [main_v21, main_v22, main_v23, main_v24, main_v25, main_cst_2, main_v26, main_v27, main_v28, main_v29, main_v30, main_cst_3, main_v31, main_v32, main_v33, main_v34, main_v35, main_v36, main_v37, main_v38, main_v39, main_v40, main_cst_4, main_v41, main_cst_5, main_v42, main_v43, main_v44, main_v45, main_v46]
theorem ops_part0_1_writes : (ops_part0_1 : List (HloOp τ sig (Elt F))).Forall fun op => op.writes ⊆ (ops_part0_1_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_v15_1 (V0 : Valuation τ sig (Elt F)) : val0_2 V0 (no_index (Proc.devRef .tc main_v15_1)) = res_main_v15_1 V0 :=
  (val0_2_keep V0 main_v15_1 (by decide)).trans (val0_1_main_v15_1 V0)
theorem val0_2_main_v20 (V0 : Valuation τ sig (Elt F)) : val0_2 V0 (no_index (Proc.devRef .tc main_v20)) = res_main_v20 V0 :=
  (val0_2_keep V0 main_v20 (by decide)).trans (val0_1_main_v20 V0)
set_option maxHeartbeats 2000000 in
theorem val0_2_main_v21 (V0 : Valuation τ sig (Elt F)) : val0_2 V0 (no_index (Proc.devRef .tc main_v21)) = Host.reduceAdd (res_main_v20 V0) (constant S_ .f32 0x00000000#32) reducesTo_S8x4096x4096_S8x4096_d2 h_S_ := by
  unfold val0_2
  simp only [ops_part0_1]
  after_results_simp
  simp only [val0_1_main_cst_1, val0_1_main_v20] <;> rfl
set_option maxHeartbeats 2000000 in
theorem val0_2_main_v25 (V0 : Valuation τ sig (Elt F)) : val0_2 V0 (no_index (Proc.devRef .tc main_v25)) = res_main_v25 V0 := by
  unfold val0_2
  simp only [ops_part0_1]
  after_results_simp
  simp only [val0_1_main_v16, val0_1_main_v15_0] <;> rfl
set_option maxHeartbeats 2000000 in
theorem val0_2_main_v27 (V0 : Valuation τ sig (Elt F)) : val0_2 V0 (no_index (Proc.devRef .tc main_v27)) = res_main_v27 V0 := by
  unfold val0_2
  simp only [ops_part0_1]
  after_results_simp
  simp only [val0_1_main_v16, val0_1_main_v15_0] <;> rfl
set_option maxHeartbeats 2000000 in
theorem val0_2_main_v29 (V0 : Valuation τ sig (Elt F)) : val0_2 V0 (no_index (Proc.devRef .tc main_v29)) = res_main_v29 V0 := by
  unfold val0_2
  simp only [ops_part0_1]
  after_results_simp
  simp only [val0_1_main_v16, val0_1_main_v15_0] <;> rfl
set_option maxHeartbeats 2000000 in
theorem val0_2_main_v32 (V0 : Valuation τ sig (Elt F)) : val0_2 V0 (no_index (Proc.devRef .tc main_v32)) = Host.divf (broadcastInDim S8x4096x1 ![] bcast_S_S8x4096x1 (constant S_ .f32 0x3F800000#32)) (mulf (res_main_v27 V0) (res_main_v27 V0)) := by
  unfold val0_2
  simp only [ops_part0_1]
  after_results_simp
  simp only [val0_1_main_v16, val0_1_main_v15_0] <;> rfl
set_option maxHeartbeats 2000000 in
theorem val0_2_main_v34 (V0 : Valuation τ sig (Elt F)) : val0_2 V0 (no_index (Proc.devRef .tc main_v34)) = res_main_v34 V0 := by
  unfold val0_2
  simp only [ops_part0_1]
  after_results_simp
  simp only [val0_1_main_v16, val0_1_main_v15_0, val0_1_main_arg2] <;> rfl
set_option maxHeartbeats 2000000 in
theorem val0_2_main_v40 (V0 : Valuation τ sig (Elt F)) : val0_2 V0 (no_index (Proc.devRef .tc main_v40)) = res_main_v40 V0 := by
  unfold val0_2
  simp only [ops_part0_1]
  after_results_simp
  simp only [val0_1_main_arg4, val0_1_main_v15_0, val0_1_main_v16] <;> rfl
set_option maxHeartbeats 2000000 in
theorem val0_2_main_v42 (V0 : Valuation τ sig (Elt F)) : val0_2 V0 (no_index (Proc.devRef .tc main_v42)) = res_main_v42 V0 := by
  unfold val0_2
  simp only [ops_part0_1]
  after_results_simp
  simp only [val0_1_main_arg4, val0_1_main_v15_0, val0_1_main_v16] <;> rfl
set_option maxHeartbeats 2000000 in
theorem val0_2_main_v46 (V0 : Valuation τ sig (Elt F)) : val0_2 V0 (no_index (Proc.devRef .tc main_v46)) = uitofp .f32 (cmpf .oeq (res_main_v40 V0) (broadcastInDim S3x4096x8 ![0, 1, 2] bcast_S1x4096x8_S3x4096x8_0_1_2 (shapeCast _ (res_main_v42 V0) shapeCasts_S4096x8_S1x4096x8))) := by
  unfold val0_2
  simp only [ops_part0_1]
  after_results_simp
  simp only [val0_1_main_arg4, val0_1_main_v15_0, val0_1_main_v16] <;> rfl

def val1 (V0 : Valuation τ sig (Elt F)) : Valuation τ sig (Elt F) := after ops_part0_2 (val0_2 V0)
abbrev ops_part0_2_W : List (Ref sig .tc) := [main_cst_6, main_v47, main_cst_7, main_v48, main_v49]
theorem ops_part0_2_writes : (ops_part0_2 : List (HloOp τ sig (Elt F))).Forall fun op => op.writes ⊆ (ops_part0_2_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_v15_1 (V0 : Valuation τ sig (Elt F)) : val1 V0 (no_index (Proc.devRef .tc main_v15_1)) = res_main_v15_1 V0 :=
  (val1_keep V0 main_v15_1 (by decide)).trans (val0_2_main_v15_1 V0)
theorem val1_main_v20 (V0 : Valuation τ sig (Elt F)) : val1 V0 (no_index (Proc.devRef .tc main_v20)) = res_main_v20 V0 :=
  (val1_keep V0 main_v20 (by decide)).trans (val0_2_main_v20 V0)
theorem val1_main_v21 (V0 : Valuation τ sig (Elt F)) : val1 V0 (no_index (Proc.devRef .tc main_v21)) = Host.reduceAdd (res_main_v20 V0) (constant S_ .f32 0x00000000#32) reducesTo_S8x4096x4096_S8x4096_d2 h_S_ :=
  (val1_keep V0 main_v21 (by decide)).trans (val0_2_main_v21 V0)
theorem val1_main_v25 (V0 : Valuation τ sig (Elt F)) : val1 V0 (no_index (Proc.devRef .tc main_v25)) = res_main_v25 V0 :=
  (val1_keep V0 main_v25 (by decide)).trans (val0_2_main_v25 V0)
theorem val1_main_v27 (V0 : Valuation τ sig (Elt F)) : val1 V0 (no_index (Proc.devRef .tc main_v27)) = res_main_v27 V0 :=
  (val1_keep V0 main_v27 (by decide)).trans (val0_2_main_v27 V0)
theorem val1_main_v29 (V0 : Valuation τ sig (Elt F)) : val1 V0 (no_index (Proc.devRef .tc main_v29)) = res_main_v29 V0 :=
  (val1_keep V0 main_v29 (by decide)).trans (val0_2_main_v29 V0)
theorem val1_main_v32 (V0 : Valuation τ sig (Elt F)) : val1 V0 (no_index (Proc.devRef .tc main_v32)) = Host.divf (broadcastInDim S8x4096x1 ![] bcast_S_S8x4096x1 (constant S_ .f32 0x3F800000#32)) (mulf (res_main_v27 V0) (res_main_v27 V0)) :=
  (val1_keep V0 main_v32 (by decide)).trans (val0_2_main_v32 V0)
theorem val1_main_v34 (V0 : Valuation τ sig (Elt F)) : val1 V0 (no_index (Proc.devRef .tc main_v34)) = res_main_v34 V0 :=
  (val1_keep V0 main_v34 (by decide)).trans (val0_2_main_v34 V0)
theorem val1_main_v40 (V0 : Valuation τ sig (Elt F)) : val1 V0 (no_index (Proc.devRef .tc main_v40)) = res_main_v40 V0 :=
  (val1_keep V0 main_v40 (by decide)).trans (val0_2_main_v40 V0)
theorem val1_main_v42 (V0 : Valuation τ sig (Elt F)) : val1 V0 (no_index (Proc.devRef .tc main_v42)) = res_main_v42 V0 :=
  (val1_keep V0 main_v42 (by decide)).trans (val0_2_main_v42 V0)
theorem val1_main_v49 (V0 : Valuation τ sig (Elt F)) : val1 V0 (no_index (Proc.devRef .tc main_v49)) = maximumf (broadcastInDim S4096x8 ![] bcast_S_S4096x8 (constant S_ .f32 0xFF800000#32)) (res_main_v42 V0) := by
  unfold val1
  simp only [ops_part0_2]
  after_results_simp
  simp only [val0_2_main_v42] <;> rfl

def val2 (V0 : Valuation τ sig (Elt F)) : Valuation τ sig (Elt F) := after ops_part1 (val1 V0)
abbrev ops_part1_W : List (Ref sig .tc) := [main_cst_8, main_v50, main_v51, main_cst_9, main_v52, main_v53, main_cst_10, main_v54, main_cst_11, main_v55, main_cst_12, main_v56, main_v57, main_v58, main_v59, main_v60, main_v61, main_v62, main_cst_13, main_v63, main_v64, main_v65, main_v66, main_v67, main_cst_14, main_v68, main_v69, main_v70, main_v71, main_v72, main_v73, main_v74, main_v75, main_v76, main_v77, main_v78, main_cst_15, main_v79, main_v80, main_v81, main_v82, main_v83, main_v84, main_cst_16, main_v85, main_v86, main_cst_17, main_v87, main_cst_18, main_v88, main_v89, main_v90, main_v91, main_cst_19, main_v92, main_v93, main_cst_20, main_v94, main_v95, main_cst_21]
theorem ops_part1_writes : (ops_part1 : List (HloOp τ sig (Elt F))).Forall fun op => op.writes ⊆ (ops_part1_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_v15_1 (V0 : Valuation τ sig (Elt F)) : val2 V0 (no_index (Proc.devRef .tc main_v15_1)) = res_main_v15_1 V0 :=
  (val2_keep V0 main_v15_1 (by decide)).trans (val1_main_v15_1 V0)
theorem val2_main_v20 (V0 : Valuation τ sig (Elt F)) : val2 V0 (no_index (Proc.devRef .tc main_v20)) = res_main_v20 V0 :=
  (val2_keep V0 main_v20 (by decide)).trans (val1_main_v20 V0)
theorem val2_main_v21 (V0 : Valuation τ sig (Elt F)) : val2 V0 (no_index (Proc.devRef .tc main_v21)) = Host.reduceAdd (res_main_v20 V0) (constant S_ .f32 0x00000000#32) reducesTo_S8x4096x4096_S8x4096_d2 h_S_ :=
  (val2_keep V0 main_v21 (by decide)).trans (val1_main_v21 V0)
theorem val2_main_v25 (V0 : Valuation τ sig (Elt F)) : val2 V0 (no_index (Proc.devRef .tc main_v25)) = res_main_v25 V0 :=
  (val2_keep V0 main_v25 (by decide)).trans (val1_main_v25 V0)
theorem val2_main_v27 (V0 : Valuation τ sig (Elt F)) : val2 V0 (no_index (Proc.devRef .tc main_v27)) = res_main_v27 V0 :=
  (val2_keep V0 main_v27 (by decide)).trans (val1_main_v27 V0)
theorem val2_main_v29 (V0 : Valuation τ sig (Elt F)) : val2 V0 (no_index (Proc.devRef .tc main_v29)) = res_main_v29 V0 :=
  (val2_keep V0 main_v29 (by decide)).trans (val1_main_v29 V0)
theorem val2_main_v32 (V0 : Valuation τ sig (Elt F)) : val2 V0 (no_index (Proc.devRef .tc main_v32)) = Host.divf (broadcastInDim S8x4096x1 ![] bcast_S_S8x4096x1 (constant S_ .f32 0x3F800000#32)) (mulf (res_main_v27 V0) (res_main_v27 V0)) :=
  (val2_keep V0 main_v32 (by decide)).trans (val1_main_v32 V0)
set_option maxHeartbeats 2000000 in
theorem val2_main_v62 (V0 : Valuation τ sig (Elt F)) : val2 V0 (no_index (Proc.devRef .tc main_v62)) = res_main_v62 V0 := by
  unfold val2
  simp only [ops_part1]
  after_results_simp
  simp only [val1_main_v49, val1_main_v40] <;> rfl
set_option maxHeartbeats 2000000 in
theorem val2_main_v64 (V0 : Valuation τ sig (Elt F)) : val2 V0 (no_index (Proc.devRef .tc main_v64)) = res_main_v64 V0 := by
  unfold val2
  simp only [ops_part1]
  after_results_simp
  simp only [val1_main_v49, val1_main_v40] <;> rfl
set_option maxHeartbeats 2000000 in
theorem val2_main_v69 (V0 : Valuation τ sig (Elt F)) : val2 V0 (no_index (Proc.devRef .tc main_v69)) = Host.divf (broadcastInDim S1x4096x8 ![] bcast_S_S1x4096x8 (constant S_ .f32 0x3F800000#32)) (mulf (res_main_v64 V0) (res_main_v64 V0)) := by
  unfold val2
  simp only [ops_part1]
  after_results_simp
  simp only [val1_main_v49, val1_main_v40] <;> rfl
set_option maxHeartbeats 2000000 in
theorem val2_main_v88 (V0 : Valuation τ sig (Elt F)) : val2 V0 (no_index (Proc.devRef .tc main_v88)) = pad S3x4096x8 ![1, 0, 0] ![0, 0, 0] ![0, 0, 0] (Host.reduceAdd (shapeCast _ (Host.reduceAdd (mulf (broadcastInDim S2x4096x8x128 ![1, 2, 3] bcast_S4096x8x128_S2x4096x8x128_1_2_3 (shapeCast _ (V0 (Proc.devRef .tc main_arg5)) shapeCasts_S4096x8x128_S4096x8x128)) (V0 (Proc.devRef .tc main_arg3))) (constant S_ .f32 0x00000000#32) reducesTo_S2x4096x8x128_S2x4096x8_d3 h_S_) shapeCasts_S2x4096x8_S2x4096x8x1) (constant S_ .f32 0x00000000#32) reducesTo_S2x4096x8x1_S2x4096x8_d3 h_S_) (constant S_ .f32 0x00000000#32) pads_S2x4096x8_S3x4096x8_100_000_000 h_S_ := by
  unfold val2
  simp only [ops_part1]
  after_results_simp
  simp only [val1_main_arg3, val1_main_arg5] <;> rfl
set_option maxHeartbeats 2000000 in
theorem val2_main_v90 (V0 : Valuation τ sig (Elt F)) : val2 V0 (no_index (Proc.devRef .tc main_v90)) = mulf (broadcastInDim S4096x8x128 ![0, 1, 2] bcast_S4096x8x1_S4096x8x128_0_1_2 (res_main_v72 V0)) (res_main_v81 V0) := by
  unfold val2
  simp only [ops_part1]
  after_results_simp
  simp only [val1_main_arg5, val1_main_v49, val1_main_v40] <;> rfl
set_option maxHeartbeats 2000000 in
theorem val2_main_v95 (V0 : Valuation τ sig (Elt F)) : val2 V0 (no_index (Proc.devRef .tc main_v95)) = broadcastInDim S1x4096x8 ![1, 2] bcast_S4096x8_S1x4096x8_1_2 (Host.reduceAdd (shapeCast _ (Host.reduceAdd (mulf (res_main_v81 V0) (res_main_v34 V0)) (constant S_ .f32 0x00000000#32) reducesTo_S4096x8x128_S4096x8_d2 h_S_) shapeCasts_S4096x8_S4096x8x1) (constant S_ .f32 0x00000000#32) reducesTo_S4096x8x1_S4096x8_d2 h_S_) := by
  unfold val2
  simp only [ops_part1]
  after_results_simp
  simp only [val1_main_v34, val1_main_arg5] <;> rfl
set_option maxHeartbeats 2000000 in
theorem val2_main_cst_21 (V0 : Valuation τ sig (Elt F)) : val2 V0 (no_index (Proc.devRef .tc main_cst_21)) = constant S_ .f32 0x00000000#32 := by
  unfold val2
  simp only [ops_part1]
  after_results_simp
  all_goals rfl

def val2_1 (V0 : Valuation τ sig (Elt F)) : Valuation τ sig (Elt F) := after ops_part2_0 (val2 V0)
abbrev ops_part2_0_W : List (Ref sig .tc) := [main_v96, main_v97, main_v98, main_v99, main_v100, main_cst_22, main_v101, main_v102, main_v103, main_v104, main_v105, main_cst_23, main_v106, main_v107, main_v108, main_v109, main_v110, main_v111, main_cst_24, main_v112, main_v113, main_v114, main_v115, main_v116, main_v117, main_v118, main_v119, main_v120, main_v121, main_v122]
theorem ops_part2_0_writes : (ops_part2_0 : List (HloOp τ sig (Elt F))).Forall fun op => op.writes ⊆ (ops_part2_0_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_arg5 (V0 : Valuation τ sig (Elt F)) : val2_1 V0 (no_index (Proc.devRef .tc main_arg5)) = V0 (Proc.devRef .tc main_arg5) :=
  (val2_1_keep V0 main_arg5 (by decide)).trans (val2_main_arg5 V0)
theorem val2_1_main_v15_1 (V0 : Valuation τ sig (Elt F)) : val2_1 V0 (no_index (Proc.devRef .tc main_v15_1)) = res_main_v15_1 V0 :=
  (val2_1_keep V0 main_v15_1 (by decide)).trans (val2_main_v15_1 V0)
theorem val2_1_main_v20 (V0 : Valuation τ sig (Elt F)) : val2_1 V0 (no_index (Proc.devRef .tc main_v20)) = res_main_v20 V0 :=
  (val2_1_keep V0 main_v20 (by decide)).trans (val2_main_v20 V0)
theorem val2_1_main_v21 (V0 : Valuation τ sig (Elt F)) : val2_1 V0 (no_index (Proc.devRef .tc main_v21)) = Host.reduceAdd (res_main_v20 V0) (constant S_ .f32 0x00000000#32) reducesTo_S8x4096x4096_S8x4096_d2 h_S_ :=
  (val2_1_keep V0 main_v21 (by decide)).trans (val2_main_v21 V0)
theorem val2_1_main_v25 (V0 : Valuation τ sig (Elt F)) : val2_1 V0 (no_index (Proc.devRef .tc main_v25)) = res_main_v25 V0 :=
  (val2_1_keep V0 main_v25 (by decide)).trans (val2_main_v25 V0)
theorem val2_1_main_v27 (V0 : Valuation τ sig (Elt F)) : val2_1 V0 (no_index (Proc.devRef .tc main_v27)) = res_main_v27 V0 :=
  (val2_1_keep V0 main_v27 (by decide)).trans (val2_main_v27 V0)
set_option maxHeartbeats 2000000 in
theorem val2_1_main_v114 (V0 : Valuation τ sig (Elt F)) : val2_1 V0 (no_index (Proc.devRef .tc main_v114)) = res_main_v114 V0 := by
  unfold val2_1
  simp only [ops_part2_0]
  after_results_simp
  simp only [val2_main_v62, val2_main_v69, val2_main_cst_21, val2_main_v95, val2_main_v88, val2_main_v64] <;> rfl
set_option maxHeartbeats 2000000 in
theorem val2_1_main_v115 (V0 : Valuation τ sig (Elt F)) : val2_1 V0 (no_index (Proc.devRef .tc main_v115)) = Host.divf (res_main_v114 V0) (res_main_v27 V0) := by
  unfold val2_1
  simp only [ops_part2_0]
  after_results_simp
  simp only [val2_main_v27, val2_main_v62, val2_main_v69, val2_main_cst_21, val2_main_v95, val2_main_v88, val2_main_v64] <;> rfl
set_option maxHeartbeats 2000000 in
theorem val2_1_main_v117 (V0 : Valuation τ sig (Elt F)) : val2_1 V0 (no_index (Proc.devRef .tc main_v117)) = res_main_v117 V0 := by
  unfold val2_1
  simp only [ops_part2_0]
  after_results_simp
  simp only [val2_main_arg2, val2_main_v90] <;> rfl
set_option maxHeartbeats 2000000 in
theorem val2_1_main_v119 (V0 : Valuation τ sig (Elt F)) : val2_1 V0 (no_index (Proc.devRef .tc main_v119)) = transpose S4096x8x128 [2, 0, 1] (Host.dotGeneral dot_S8x128x4096_S8x4096x4096_S8x128x4096_2_1_1_2_0_0 none (res_main_v116 V0) (res_main_v29 V0)) transposes_S8x128x4096_S4096x8x128_2_0_1 := by
  unfold val2_1
  simp only [ops_part2_0]
  after_results_simp
  simp only [val2_main_v29, val2_main_v90] <;> rfl
set_option maxHeartbeats 2000000 in
theorem val2_1_main_v122 (V0 : Valuation τ sig (Elt F)) : val2_1 V0 (no_index (Proc.devRef .tc main_v122)) = mulf (mulf (res_main_v117 V0) (broadcastInDim S8x4096x4096 ![0, 1, 2] bcast_S8x4096x1_S8x4096x4096_0_1_2 (Host.divf (broadcastInDim S8x4096x1 ![] bcast_S_S8x4096x1 (constant S_ .f32 0x3F800000#32)) (mulf (res_main_v27 V0) (res_main_v27 V0))))) (res_main_v25 V0) := by
  unfold val2_1
  simp only [ops_part2_0]
  after_results_simp
  simp only [val2_main_v25, val2_main_v32, val2_main_arg2, val2_main_v90] <;> rfl

def val2_2 (V0 : Valuation τ sig (Elt F)) : Valuation τ sig (Elt F) := after ops_part2_1 (val2_1 V0)
abbrev ops_part2_1_W : List (Ref sig .tc) := [main_cst_25, main_v123, main_v124, main_v125, main_v126, main_v127, main_v128, main_cst_26, main_v129, main_v130, main_v131, main_v132, main_v133, main_cst_27, main_v134, main_v135, main_v136, main_cst_28, main_v137, main_v138, main_v139, main_v140, main_v141, main_call1_cst, main_call1_v0, main_v142, main_v143, main_v144, main_v145, main_v146]
theorem ops_part2_1_writes : (ops_part2_1 : List (HloOp τ sig (Elt F))).Forall fun op => op.writes ⊆ (ops_part2_1_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_arg5 (V0 : Valuation τ sig (Elt F)) : val2_2 V0 (no_index (Proc.devRef .tc main_arg5)) = V0 (Proc.devRef .tc main_arg5) :=
  (val2_2_keep V0 main_arg5 (by decide)).trans (val2_1_main_arg5 V0)
theorem val2_2_main_v119 (V0 : Valuation τ sig (Elt F)) : val2_2 V0 (no_index (Proc.devRef .tc main_v119)) = transpose S4096x8x128 [2, 0, 1] (Host.dotGeneral dot_S8x128x4096_S8x4096x4096_S8x128x4096_2_1_1_2_0_0 none (res_main_v116 V0) (res_main_v29 V0)) transposes_S8x128x4096_S4096x8x128_2_0_1 :=
  (val2_2_keep V0 main_v119 (by decide)).trans (val2_1_main_v119 V0)
set_option maxHeartbeats 2000000 in
theorem val2_2_main_v144 (V0 : Valuation τ sig (Elt F)) : val2_2 V0 (no_index (Proc.devRef .tc main_v144)) = transpose S4096x8x128 [1, 0, 2] (Host.dotGeneral dot_S8x4096x4096_S4096x8x128_S8x4096x128_1_0_2_2_0_1 none (res_main_v142 V0) (V0 (Proc.devRef .tc main_arg0))) transposes_S8x4096x128_S4096x8x128_1_0_2 := by
  unfold val2_2
  simp only [ops_part2_1, TRef.nullary, TRef.ternary, TRef.unary, TRef.toBuf, TRef.ofBuf, cast_eq]
  after_results_simp
  simp only [val2_1_main_arg0, val2_1_main_v20, val2_1_main_v21, val2_1_main_v114, val2_1_main_v25, val2_1_main_v122, val2_1_main_v115, val2_1_main_v27, val2_1_main_v117, val2_1_main_v15_1] <;> rfl
set_option maxHeartbeats 2000000 in
theorem val2_2_main_v146 (V0 : Valuation τ sig (Elt F)) : val2_2 V0 (no_index (Proc.devRef .tc main_v146)) = transpose S4096x8x128 [1, 0, 2] (Host.dotGeneral dot_S8x4096x4096_S4096x8x128_S8x4096x128_2_0_1_2_0_1 none (res_main_v142 V0) (V0 (Proc.devRef .tc main_arg1))) transposes_S8x4096x128_S4096x8x128_1_0_2 := by
  unfold val2_2
  simp only [ops_part2_1, TRef.nullary, TRef.ternary, TRef.unary, TRef.toBuf, TRef.ofBuf, cast_eq]
  after_results_simp
  simp only [val2_1_main_arg1, val2_1_main_v20, val2_1_main_v21, val2_1_main_v114, val2_1_main_v25, val2_1_main_v122, val2_1_main_v115, val2_1_main_v27, val2_1_main_v117, val2_1_main_v15_1] <;> rfl

def val3 (V0 : Valuation τ sig (Elt F)) : Valuation τ sig (Elt F) := after ops_part2_2 (val2_2 V0)
abbrev ops_part2_2_W : List (Ref sig .tc) := [main_v147, main_v148]
theorem ops_part2_2_writes : (ops_part2_2 : List (HloOp τ sig (Elt F))).Forall fun op => op.writes ⊆ (ops_part2_2_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_2_main_arg5 V0)
theorem val3_main_v119 (V0 : Valuation τ sig (Elt F)) : val3 V0 (no_index (Proc.devRef .tc main_v119)) = transpose S4096x8x128 [2, 0, 1] (Host.dotGeneral dot_S8x128x4096_S8x4096x4096_S8x128x4096_2_1_1_2_0_0 none (res_main_v116 V0) (res_main_v29 V0)) transposes_S8x128x4096_S4096x8x128_2_0_1 :=
  (val3_keep V0 main_v119 (by decide)).trans (val2_2_main_v119 V0)
theorem val3_main_v144 (V0 : Valuation τ sig (Elt F)) : val3 V0 (no_index (Proc.devRef .tc main_v144)) = transpose S4096x8x128 [1, 0, 2] (Host.dotGeneral dot_S8x4096x4096_S4096x8x128_S8x4096x128_1_0_2_2_0_1 none (res_main_v142 V0) (V0 (Proc.devRef .tc main_arg0))) transposes_S8x4096x128_S4096x8x128_1_0_2 :=
  (val3_keep V0 main_v144 (by decide)).trans (val2_2_main_v144 V0)
theorem val3_main_v148 (V0 : Valuation τ sig (Elt F)) : val3 V0 (no_index (Proc.devRef .tc main_v148)) = truncf .bf16 (shapeCast _ (transpose S4096x8x128 [1, 0, 2] (Host.dotGeneral dot_S8x4096x4096_S4096x8x128_S8x4096x128_2_0_1_2_0_1 none (res_main_v142 V0) (V0 (Proc.devRef .tc main_arg1))) transposes_S8x4096x128_S4096x8x128_1_0_2) shapeCasts_S4096x8x128_S4096x1024) bitsLt_bf16_f32 := by
  unfold val3
  simp only [ops_part2_2]
  after_results_simp
  simp only [val2_2_main_v146] <;> rfl

def val4 (V0 : Valuation τ sig (Elt F)) : Valuation τ sig (Elt F) := after ops_part3 (val3 V0)
abbrev ops_part3_W : List (Ref sig .tc) := [main_v149, main_v150, main_v151, main_v152]
theorem ops_part3_writes : (ops_part3 : List (HloOp τ sig (Elt F))).Forall fun op => op.writes ⊆ (ops_part3_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_v148 (V0 : Valuation τ sig (Elt F)) : val4 V0 (no_index (Proc.devRef .tc main_v148)) = truncf .bf16 (shapeCast _ (transpose S4096x8x128 [1, 0, 2] (Host.dotGeneral dot_S8x4096x4096_S4096x8x128_S8x4096x128_2_0_1_2_0_1 none (res_main_v142 V0) (V0 (Proc.devRef .tc main_arg1))) transposes_S8x4096x128_S4096x8x128_1_0_2) shapeCasts_S4096x8x128_S4096x1024) bitsLt_bf16_f32 :=
  (val4_keep V0 main_v148 (by decide)).trans (val3_main_v148 V0)
theorem val4_main_v150 (V0 : Valuation τ sig (Elt F)) : val4 V0 (no_index (Proc.devRef .tc main_v150)) = truncf .bf16 (shapeCast _ (transpose S4096x8x128 [1, 0, 2] (Host.dotGeneral dot_S8x4096x4096_S4096x8x128_S8x4096x128_1_0_2_2_0_1 none (res_main_v142 V0) (V0 (Proc.devRef .tc main_arg0))) transposes_S8x4096x128_S4096x8x128_1_0_2) shapeCasts_S4096x8x128_S4096x1024) bitsLt_bf16_f32 := by
  unfold val4
  simp only [ops_part3]
  after_results_simp
  simp only [val3_main_v144] <;> rfl
theorem val4_main_v152 (V0 : Valuation τ sig (Elt F)) : val4 V0 (no_index (Proc.devRef .tc main_v152)) = truncf .bf16 (shapeCast _ (transpose S4096x8x128 [2, 0, 1] (Host.dotGeneral dot_S8x128x4096_S8x4096x4096_S8x128x4096_2_1_1_2_0_0 none (res_main_v116 V0) (res_main_v29 V0)) transposes_S8x128x4096_S4096x8x128_2_0_1) shapeCasts_S4096x8x128_S4096x1024) bitsLt_bf16_f32 := by
  unfold val4
  simp only [ops_part3]
  after_results_simp
  simp only [val3_main_v119] <;> rfl

theorem after_ops (V0 : Valuation τ sig (Elt F)) : after ops V0 = val4 V0 := by
  simp only [ops, ops_part0, ops_part2, after_append]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v148) = truncf .bf16 (shapeCast _ (transpose S4096x8x128 [1, 0, 2] (Host.dotGeneral dot_S8x4096x4096_S4096x8x128_S8x4096x128_2_0_1_2_0_1 none (res_main_v142 (launchContents m c)) ((launchContents m c) (Proc.devRef .tc main_arg1))) transposes_S8x4096x128_S4096x8x128_1_0_2) shapeCasts_S4096x8x128_S4096x1024) bitsLt_bf16_f32
      ∧ r.2.mem ((c.tc : Thread nD τ).loc main_v150) = truncf .bf16 (shapeCast _ (transpose S4096x8x128 [1, 0, 2] (Host.dotGeneral dot_S8x4096x4096_S4096x8x128_S8x4096x128_1_0_2_2_0_1 none (res_main_v142 (launchContents m c)) ((launchContents m c) (Proc.devRef .tc main_arg0))) transposes_S8x4096x128_S4096x8x128_1_0_2) shapeCasts_S4096x8x128_S4096x1024) bitsLt_bf16_f32
      ∧ r.2.mem ((c.tc : Thread nD τ).loc main_v152) = truncf .bf16 (shapeCast _ (transpose S4096x8x128 [2, 0, 1] (Host.dotGeneral dot_S8x128x4096_S8x4096x4096_S8x128x4096_2_1_1_2_0_0 none (res_main_v116 (launchContents m c)) (res_main_v29 (launchContents m c))) transposes_S8x128x4096_S4096x8x128_2_0_1) shapeCasts_S4096x8x128_S4096x1024) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v148).trans ((congrFun (after_ops (launchContents m c)) (Proc.devRef .tc main_v148)).trans (val4_main_v148 (launchContents m c))),
      (h c main_v150).trans ((congrFun (after_ops (launchContents m c)) (Proc.devRef .tc main_v150)).trans (val4_main_v150 (launchContents m c))),
      (h c main_v152).trans ((congrFun (after_ops (launchContents m c)) (Proc.devRef .tc main_v152)).trans (val4_main_v152 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c))),
      (h c main_arg5).trans ((congrFun (after_ops (launchContents m c)) (Proc.devRef .tc main_arg5)).trans (val4_main_arg5 (launchContents m c)))⟩)
    (run_seq scopedRefs_eq scopedSems_eq defs main (fun _ => ops) main_eq (fun _ => ops_sub) m ρ fun _ => ops_fresh)

end Cert.Reference2Ideal.Value

end
-- ==== Proof.Attn.Real.lean ====
/- The attention gradient over the reals: the two ways of writing it, and that they agree. -/
module

public import Mathlib.Analysis.SpecialFunctions.Log.Basic
public import Mathlib.Data.EReal.Operations
public import Mathlib.Tactic.FieldSimp
public import Mathlib.Tactic.LinearCombination

@[expose] public section

noncomputable section

namespace Cert.Attn

open Finset

/-- A finite sum of reals, among the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert x s hx ih => rw [Finset.sum_insert hx, Finset.sum_insert hx, ih, EReal.coe_add]

/-- The arguments as real arrays, with the two shifts that the exponentials are taken at. -/
structure Reals where
  q : Fin 4096 → Fin 8 → Fin 128 → ℝ
  k : Fin 4096 → Fin 8 → Fin 128 → ℝ
  v : Fin 4096 → Fin 8 → Fin 128 → ℝ
  o : Fin 2 → Fin 4096 → Fin 8 → Fin 128 → ℝ
  a : Fin 2 → Fin 4096 → Fin 8 → ℝ
  g : Fin 4096 → Fin 8 → Fin 128 → ℝ
  m : Fin 8 → Fin 4096 → ℝ
  t : Fin 4096 → Fin 8 → ℝ

/-- The keys that a query sees: itself and the 128 before it. -/
abbrev ok (i j : Fin 4096) : Prop := j.val ≤ i.val ∧ i.val ≤ j.val + 128

/-- The head of a column, and the column inside it. -/
def hh (c : Fin 1024) : Fin 8 := ⟨c.val / 128, by omega⟩
def el (c : Fin 1024) : Fin 128 := ⟨c.val % 128, by omega⟩

namespace Reals

variable (x : Reals)

/-- A score. -/
def sc (h : Fin 8) (i j : Fin 4096) : ℝ := ∑ e, x.q i h e * x.k j h e
/-- A weight before its row is divided. -/
def p (h : Fin 8) (i j : Fin 4096) : ℝ := if ok i j then Real.exp (x.sc h i j - x.m h i) else 0
/-- A row's sum. -/
def l (h : Fin 8) (i : Fin 4096) : ℝ := ∑ j, x.p h i j
/-- The group's output. -/
def og (i : Fin 4096) (h : Fin 8) (e : Fin 128) : ℝ := ∑ j, x.v j h e * (x.p h i j / x.l h i)
/-- The three groups' log-denominators. -/
def lr (r : Fin 3) (i : Fin 4096) (h : Fin 8) : ℝ :=
  if _ : r.val < 1 then x.m h i + Real.log (x.l h i) else x.a ⟨r.val - 1, by omega⟩ i h
/-- A group's weight before division. -/
def ee (r : Fin 3) (i : Fin 4096) (h : Fin 8) : ℝ := Real.exp (x.lr r i h - x.t i h)
/-- The sum of the groups' weights. -/
def s (i : Fin 4096) (h : Fin 8) : ℝ := ∑ r, x.ee r i h
/-- A group's weight. -/
def w (r : Fin 3) (i : Fin 4096) (h : Fin 8) : ℝ := x.ee r i h / x.s i h
/-- The merged output. -/
def om (i : Fin 4096) (h : Fin 8) (e : Fin 128) : ℝ :=
  x.w 0 i h * x.og i h e + ∑ r : Fin 2, x.w r.succ i h * x.o r i h e
/-- The log-denominator of all the groups together. -/
def total (i : Fin 4096) (h : Fin 8) : ℝ := x.t i h + Real.log (x.s i h)
/-- The row's inner product of the output and its gradient. -/
def delta (i : Fin 4096) (h : Fin 8) : ℝ := ∑ e, x.g i h e * x.om i h e
/-- The weight that the kernel recomputes. -/
def pk (h : Fin 8) (i j : Fin 4096) : ℝ := if ok i j then Real.exp (x.sc h i j - x.total i h) else 0
/-- The score's gradient, as the kernel writes it. -/
def ds (h : Fin 8) (i j : Fin 4096) : ℝ := x.pk h i j * ((∑ e, x.g i h e * x.v j h e) - x.delta i h)

/-- The gradient of a group's weight. -/
def u (r : Fin 3) (i : Fin 4096) (h : Fin 8) : ℝ :=
  (if c : 1 ≤ r.val ∧ r.val - 1 < 2 then ∑ e, x.g i h e * x.o ⟨r.val - 1, c.2⟩ i h e else 0)
    + if r.val < 1 then ∑ e, x.g i h e * x.og i h e else 0
/-- The gradient of the group's log-denominator. -/
def dl (i : Fin 4096) (h : Fin 8) : ℝ :=
  (x.u 0 i h / x.s i h + -(∑ r, x.u r i h * (1 / (x.s i h * x.s i h)) * x.ee r i h)) * x.ee 0 i h
/-- The gradient of a divided weight. -/
def dp (h : Fin 8) (i j : Fin 4096) : ℝ := ∑ e, x.w 0 i h * x.g i h e * x.v j h e
/-- The score's gradient, as the reference writes it. -/
def dr (h : Fin 8) (i j : Fin 4096) : ℝ :=
  (x.dp h i j / x.l h i
    + (x.dl i h / x.l h i + -(∑ j, x.dp h i j * (1 / (x.l h i * x.l h i)) * x.p h i j))) * x.p h i j

/-- The three gradients, as arrays of 1024 columns. -/
def dq (i : Fin 4096) (c : Fin 1024) : ℝ := ∑ j, x.ds (hh c) i j * x.k j (hh c) (el c)
def dk (j : Fin 4096) (c : Fin 1024) : ℝ := ∑ i, x.q i (hh c) (el c) * x.ds (hh c) i j
def dv (j : Fin 4096) (c : Fin 1024) : ℝ := ∑ i, x.g i (hh c) (el c) * x.pk (hh c) i j

theorem l_pos (h : Fin 8) (i : Fin 4096) : 0 < x.l h i := by
  refine Finset.sum_pos' (fun j _ => ?_) ⟨i, mem_univ _, ?_⟩
  · unfold p
    split
    · exact (Real.exp_pos _).le
    · exact le_rfl
  · unfold p
    rw [if_pos ⟨le_rfl, by omega⟩]
    exact Real.exp_pos _

theorem s_pos (i : Fin 4096) (h : Fin 8) : 0 < x.s i h :=
  Finset.sum_pos (fun _ _ => Real.exp_pos _) ⟨0, mem_univ _⟩

/-- The recomputed weight is the group's divided weight times the group's share. -/
theorem pk_eq (h : Fin 8) (i j : Fin 4096) : x.pk h i j = x.w 0 i h * (x.p h i j / x.l h i) := by
  have hl := x.l_pos h i
  have hs := x.s_pos i h
  unfold pk w p
  split
  · have e : x.ee 0 i h = Real.exp (x.m h i) * x.l h i / Real.exp (x.t i h) := by
      unfold ee lr
      rw [dif_pos (by decide), Real.exp_sub, Real.exp_add, Real.exp_log hl]
    rw [e, total, Real.exp_sub, Real.exp_sub, Real.exp_add, Real.exp_log hs]
    have := Real.exp_pos (x.m h i)
    have := Real.exp_pos (x.t i h)
    field_simp
  · simp

/-- The sum of a row's recomputed weights against a row of values is the group's output. -/
theorem dp_sum (h : Fin 8) (i : Fin 4096) :
    ∑ j, x.dp h i j * x.p h i j = x.l h i * (x.w 0 i h * ∑ e, x.g i h e * x.og i h e) := by
  have hl := (x.l_pos h i).ne'
  unfold dp og
  simp only [Finset.sum_mul, Finset.mul_sum]
  rw [Finset.sum_comm]
  refine Finset.sum_congr rfl fun e _ => Finset.sum_congr rfl fun j _ => ?_
  field_simp

/-- The group's log-denominator's gradient is the group's share of the excess over the row's inner product. -/
theorem dl_eq (h : Fin 8) (i : Fin 4096) :
    x.dl i h = x.w 0 i h * ((∑ e, x.g i h e * x.og i h e) - x.delta i h) := by
  have hs := (x.s_pos i h).ne'
  have hd : x.delta i h = ∑ r, x.w r i h * x.u r i h := by
    have e0 : x.u 0 i h = ∑ e, x.g i h e * x.og i h e := by simp [u]
    have e1 : x.u 1 i h = ∑ e, x.g i h e * x.o 0 i h e := by simp [u]
    have e2 : x.u 2 i h = ∑ e, x.g i h e * x.o 1 i h e := by simp [u]
    rw [Fin.sum_univ_three, e0, e1, e2]
    unfold delta om
    simp only [Fin.sum_univ_two, Finset.mul_sum, ← Finset.sum_add_distrib]
    refine Finset.sum_congr rfl fun e _ => ?_
    have s0 : Fin.succ (0 : Fin 2) = 1 := rfl
    have s1 : Fin.succ (1 : Fin 2) = 2 := rfl
    rw [s0, s1]
    ring
  have e0 : x.u 0 i h = ∑ e, x.g i h e * x.og i h e := by simp [u]
  rw [hd, ← e0]
  unfold dl w
  simp only [Fin.sum_univ_three]
  field_simp
  ring

/-- The two gradients of a score agree. -/
theorem dr_eq (h : Fin 8) (i j : Fin 4096) : x.dr h i j = x.ds h i j := by
  have hl := (x.l_pos h i).ne'
  have e : ∑ j, x.dp h i j * (1 / (x.l h i * x.l h i)) * x.p h i j
      = x.w 0 i h * (∑ e, x.g i h e * x.og i h e) / x.l h i := by
    have := x.dp_sum h i
    rw [show (∑ j, x.dp h i j * (1 / (x.l h i * x.l h i)) * x.p h i j)
      = (∑ j, x.dp h i j * x.p h i j) * (1 / (x.l h i * x.l h i)) by
        rw [Finset.sum_mul]; exact Finset.sum_congr rfl fun _ _ => by ring, this]
    field_simp
  have e2 : x.dp h i j = x.w 0 i h * ∑ e, x.g i h e * x.v j h e := by
    unfold dp
    rw [Finset.mul_sum]
    exact Finset.sum_congr rfl fun _ _ => by ring
  unfold dr ds
  rw [e, dl_eq, e2, pk_eq]
  field_simp
  ring

/-- A row of the scores' gradients sums to the log-denominator's gradient. -/
theorem dr_sum (h : Fin 8) (i : Fin 4096) : ∑ j, x.dr h i j = x.dl i h := by
  have hl := (x.l_pos h i).ne'
  simp only [dr_eq, ds, pk_eq, dl_eq]
  have := x.dp_sum h i
  have e2 (j) : x.dp h i j = x.w 0 i h * ∑ e, x.g i h e * x.v j h e := by
    unfold dp
    rw [Finset.mul_sum]
    exact Finset.sum_congr rfl fun _ _ => by ring
  have hsum : ∑ j, x.p h i j = x.l h i := rfl
  have e3 (j) : x.w 0 i h * (x.p h i j / x.l h i) * ((∑ e, x.g i h e * x.v j h e) - x.delta i h)
      = (x.dp h i j * x.p h i j) * (1 / x.l h i) - x.p h i j * (x.w 0 i h * x.delta i h / x.l h i) := by
    rw [e2]
    field_simp
  simp only [e3, Finset.sum_sub_distrib, ← Finset.sum_mul, this, hsum]
  field_simp

theorem p_not (h : Fin 8) (i j : Fin 4096) (c : ¬ ok i j) : x.p h i j = 0 := if_neg c

theorem pk_not (h : Fin 8) (i j : Fin 4096) (c : ¬ ok i j) : x.pk h i j = 0 := if_neg c

theorem ds_not (h : Fin 8) (i j : Fin 4096) (c : ¬ ok i j) : x.ds h i j = 0 := by
  rw [ds, pk, if_neg c, zero_mul]

end Reals

end Cert.Attn

end
-- ==== Proof.Attn.RefVal.lean ====
/- The attention reference's arrays, entry by entry, as real numbers. -/
module

public import proofs.«01_k».proof.Proof.Attn.RefRun
public import proofs.«01_k».proof.Proof.Attn.Real
public import Idealize.ShloMosaic.Lib.Pointwise

@[expose] public section

set_option maxRecDepth 16384
set_option backward.isDefEq.respectTransparency false

noncomputable section

namespace Cert.Attn

open Cert.Reference2Ideal Cert.Reference2Ideal.Gen Cert.Reference2Ideal.Value Idealize.ShloMosaic Idealize.ShloMosaic.TcCoe Idealize.SL.Sem Idealize.ShloMosaic.StableHlo

/-! ## Reals among the extended reals -/

theorem div_real {x y : ℝ} (h : y ≠ 0) : Ideal.div (x : EReal) (y : EReal) = ((x / y : ℝ) : EReal) := by
  rw [Ideal.div_coe h, ← EReal.coe_mul, mul_one_div]

theorem log_real {y : ℝ} (h : 0 < y) : Ideal.log (y : EReal) = ((Real.log y : ℝ) : EReal) := by
  rw [Ideal.log_coe, if_neg h.not_ge]

theorem ofBits_bot : Ideal.ofBits .f32 0xFF800000#32 = (⊥ : EReal) := by simp [Ideal.ofBits, Ideal.ieee]

/-- A maximum over finitely many extended reals, none the top and one not the bottom, is a real that is attained. -/
theorem fold_max {n : ℕ} (f : Fin n → EReal) (i : Fin n) (hi : f i ≠ ⊥) (ht : ∀ j, f j ≠ ⊤) :
    ((((Finset.univ : Finset (Fin n)).fold max ⊥ f).toReal : ℝ) : EReal) = (Finset.univ : Finset (Fin n)).fold max ⊥ f
      ∧ ∃ j, f j = (Finset.univ : Finset (Fin n)).fold max ⊥ f := by
  have hb : (Finset.univ : Finset (Fin n)).fold max ⊥ f ≠ ⊥ :=
    ((Finset.lt_fold_max _).2 (.inr ⟨i, Finset.mem_univ _, bot_lt_iff_ne_bot.2 hi⟩)).ne'
  have hne : (Finset.univ : Finset (Fin n)).fold max ⊥ f ≠ ⊤ :=
    ((Finset.fold_max_lt _).2 ⟨bot_lt_top, fun j _ => lt_top_iff_ne_top.2 (ht j)⟩).ne
  refine ⟨EReal.coe_toReal hne hb, ?_⟩
  rcases (Finset.le_fold_max _).1 (le_refl ((Finset.univ : Finset (Fin n)).fold max ⊥ f)) with h | ⟨j, hj, h⟩
  · exact absurd (le_bot_iff.1 h) hb
  · exact ⟨j, le_antisymm ((Finset.le_fold_max _).2 (.inr ⟨j, hj, le_rfl⟩)) h⟩

/-- An entry of an array of rank three, among the extended reals. -/
def at3 {a b c : ℕ} (v : FVec Ideal (⟨3, ![a, b, c]⟩ : Shape) .f32) (i : Fin a) (j : Fin b) (k : Fin c) : EReal := v (ix3 i j k)

/-- The mask's bit. -/
theorem mask_bit (i j : Fin 4096) :
    IntOp.andi (IntOp.cmpi .sle (BitVec.ofNat 32 j.val) (BitVec.ofNat 32 i.val))
      (IntOp.cmpi .sle (IntOp.subi (BitVec.ofNat 32 i.val) (BitVec.ofNat 32 j.val)) 128#32) = if ok i j then 1#1 else 0#1 := by
  have e1 : (BitVec.ofNat 32 j.val).sle (BitVec.ofNat 32 i.val) = decide (j.val ≤ i.val) := by
    rw [BitVec.sle_eq_decide, BitVec.toInt_ofNat', BitVec.toInt_ofNat']
    refine decide_eq_decide.2 ?_
    rw [Int.bmod_def, Int.bmod_def]
    split <;> split <;> omega
  have e2 : (BitVec.ofNat 32 i.val - BitVec.ofNat 32 j.val).sle 128#32 = decide (i.val ≤ j.val + 128) := by
    rw [BitVec.sle_eq_decide, BitVec.toInt_sub, BitVec.toInt_ofNat', BitVec.toInt_ofNat']
    refine decide_eq_decide.2 ?_
    have h : (128#32 : BitVec 32).toInt = 128 := by decide
    rw [h]
    have b (n : ℕ) (hn : n < 4096) : ((n : ℤ).bmod (2 ^ 32)) = n := by
      rw [Int.bmod_def]
      split <;> omega
    rw [b _ i.2, b _ j.2, Int.bmod_def]
    split <;> omega
  show BitVec.ofBool _ &&& BitVec.ofBool _ = _
  have e1' : (BitVec.ofNat 32 j.val).sle (BitVec.ofNat 32 i.val) = decide (j.val ≤ i.val) := e1
  show BitVec.ofBool ((BitVec.ofNat 32 j.val).sle (BitVec.ofNat 32 i.val))
    &&& BitVec.ofBool ((BitVec.ofNat 32 i.val - BitVec.ofNat 32 j.val).sle 128#32) = _
  rw [e1, e2]
  by_cases c1 : j.val ≤ i.val <;> by_cases c2 : i.val ≤ j.val + 128 <;> simp [c1, c2, ok]

/-- The arguments' entries are the real arrays', and so are the rows' maxima. -/
structure Reads0 (V0 : Valuation τ sig (Elt Ideal)) (x : Reals) : Prop where
  q : ∀ i h e, (V0 (Proc.devRef .tc main_arg0) (ix3 i h e) : EReal) = ((x.q i h e : ℝ) : EReal)
  k : ∀ i h e, (V0 (Proc.devRef .tc main_arg1) (ix3 i h e) : EReal) = ((x.k i h e : ℝ) : EReal)
  v : ∀ i h e, (V0 (Proc.devRef .tc main_arg2) (ix3 i h e) : EReal) = ((x.v i h e : ℝ) : EReal)
  o : ∀ r i h e, (V0 (Proc.devRef .tc main_arg3) (ix4 r i h e) : EReal) = ((x.o r i h e : ℝ) : EReal)
  a : ∀ r i h, (V0 (Proc.devRef .tc main_arg4) (ix3 r i h) : EReal) = ((x.a r i h : ℝ) : EReal)
  g : ∀ i h e, (V0 (Proc.devRef .tc main_arg5) (ix3 i h e) : EReal) = ((x.g i h e : ℝ) : EReal)

variable {V0 : Valuation τ sig (Elt Ideal)} {x : Reals}

theorem v15_1 (h : Fin 8) (i j : Fin 4096) : res_main_v15_1 V0 (ix3 h i j) = if ok i j then 1#1 else 0#1 := by
  unfold res_main_v15_1 res_main_v1 res_main_v3
  pointwise
  exact mask_bit i j

theorem v15_0 (R : Reads0 V0 x) (h : Fin 8) (i j : Fin 4096) :
    (res_main_v15_0 V0 (ix3 h i j) : EReal) = if ok i j then ((x.sc h i j : ℝ) : EReal) else ⊥ := by
  unfold res_main_v15_0
  pointwise [v15_1, R.q, R.k]
  split
  · rw [ValueIdx.select_one]
    simp only [← EReal.coe_mul, sum_coe]
    rfl
  · rw [ValueIdx.select_zero]
    exact ofBits_bot

theorem v16_fold (h : Fin 8) (i : Fin 4096) : (res_main_v16 V0 (ix2 h i) : EReal)
    = (Finset.univ : Finset (Fin 4096)).fold max ⊥ fun j => at3 (res_main_v15_0 V0) h i j := by
  unfold res_main_v16
  pointwise
  rw [ofBits_bot]
  exact Shape.ReducesTo.fold_fiber_r3_a2 reducesTo_S8x4096x4096_S8x4096_d2 (ix2 h i) (α := EReal) max ⊥ (res_main_v15_0 V0)

theorem v16_max (R : Reads0 V0 x) (h : Fin 8) (i : Fin 4096) :
    (((res_main_v16 V0 (ix2 h i) : EReal).toReal : ℝ) : EReal) = res_main_v16 V0 (ix2 h i)
      ∧ ∃ j, at3 (res_main_v15_0 V0) h i j = res_main_v16 V0 (ix2 h i) := by
  rw [v16_fold]
  refine fold_max _ i ?_ fun j => ?_
  · rw [at3, v15_0 R, if_pos ⟨le_rfl, by omega⟩]
    exact EReal.coe_ne_bot _
  · rw [at3, v15_0 R]
    split
    · exact EReal.coe_ne_top _
    · exact bot_ne_top

/-- The rows' maxima too are the real arrays'. -/
structure Reads1 (V0 : Valuation τ sig (Elt Ideal)) (x : Reals) : Prop extends Reads0 V0 x where
  m : ∀ h i, (res_main_v16 V0 (ix2 h i) : EReal) = ((x.m h i : ℝ) : EReal)

theorem v22 (R : Reads1 V0 x) (h : Fin 8) (i : Fin 4096) (z : Fin 1) :
    (res_main_v22 V0 (ix3 h i z) : EReal) = ((x.m h i : ℝ) : EReal) := by
  unfold res_main_v22
  pointwise [R.m]

theorem v25 (R : Reads1 V0 x) (h : Fin 8) (i j : Fin 4096) :
    (res_main_v25 V0 (ix3 h i j) : EReal) = ((x.p h i j : ℝ) : EReal) := by
  unfold res_main_v25
  pointwise [v22 R, v15_0 R.toReads0]
  unfold Reals.p
  split
  · rw [← EReal.coe_sub, Ideal.exp_coe]
  · rw [EReal.bot_sub, Ideal.exp_bot, EReal.coe_zero]

theorem v27 (R : Reads1 V0 x) (h : Fin 8) (i : Fin 4096) (z : Fin 1) :
    (res_main_v27 V0 (ix3 h i z) : EReal) = ((x.l h i : ℝ) : EReal) := by
  unfold res_main_v27
  pointwise [v25 R]
  exact sum_coe _ _

theorem v29 (R : Reads1 V0 x) (h : Fin 8) (i j : Fin 4096) :
    (res_main_v29 V0 (ix3 h i j) : EReal) = ((x.p h i j / x.l h i : ℝ) : EReal) := by
  unfold res_main_v29
  pointwise [v25 R, v27 R]
  exact div_real (x.l_pos h i).ne'

theorem v34 (R : Reads1 V0 x) (i : Fin 4096) (h : Fin 8) (e : Fin 128) :
    (res_main_v34 V0 (ix3 i h e) : EReal) = ((x.og i h e : ℝ) : EReal) := by
  unfold res_main_v34
  pointwise [v29 R, R.v]
  simp only [← EReal.coe_mul]
  exact sum_coe _ _

/-- Three arrays stacked, the first by itself. -/
theorem cat3 (A : FVec Ideal S1x4096x8 .f32) (B : FVec Ideal S2x4096x8 .f32) (r : Fin 3) (i : Fin 4096) (h : Fin 8) :
    concatenate S3x4096x8 0 [⟨S1x4096x8, A⟩, ⟨S2x4096x8, B⟩] concatenates_S1x4096x8_S2x4096x8_S3x4096x8_d0 (ix3 r i h)
      = if c : r.val < 1 then A (ix3 ⟨r.val, c⟩ i h) else B (ix3 ⟨r.val - 1, by omega⟩ i h) := by
  pointwise

theorem lse_read (m l : FVec Ideal S8x4096x1 .f32) (z : Fin 1) (i : Fin 4096) (h : Fin 8) :
    broadcastInDim S1x4096x8 ![1, 2] bcast_S4096x8_S1x4096x8_1_2 (transpose S4096x8 [1, 0] (shapeCast _ (addf m (Host.log l)) shapeCasts_S8x4096x1_S8x4096) transposes_S8x4096_S4096x8_1_0) (ix3 z i h)
      = m (ix3 h i 0) + Ideal.log (l (ix3 h i 0)) := by
  pointwise

theorem v40 (R : Reads1 V0 x) (r : Fin 3) (i : Fin 4096) (h : Fin 8) :
    (res_main_v40 V0 (ix3 r i h) : EReal) = ((x.lr r i h : ℝ) : EReal) := by
  unfold res_main_v40
  refine (cat3 _ _ r i h).trans ?_
  unfold Reals.lr
  by_cases c : r.val < 1
  · rw [dif_pos c, dif_pos c, lse_read, v22 R, v27 R, log_real (x.l_pos h i), ← EReal.coe_add]
  · rw [dif_neg c, dif_neg c]
    exact R.a _ i h

theorem v42_fold (i : Fin 4096) (h : Fin 8) : (res_main_v42 V0 (ix2 i h) : EReal)
    = (Finset.univ : Finset (Fin 3)).fold max ⊥ fun r => at3 (res_main_v40 V0) r i h := by
  unfold res_main_v42
  pointwise
  rw [ofBits_bot]
  exact Shape.ReducesTo.fold_fiber_r3_a0 reducesTo_S3x4096x8_S4096x8_d0 (ix2 i h) (α := EReal) max ⊥ (res_main_v40 V0)

theorem v42_max (R : Reads1 V0 x) (i : Fin 4096) (h : Fin 8) :
    (((res_main_v42 V0 (ix2 i h) : EReal).toReal : ℝ) : EReal) = res_main_v42 V0 (ix2 i h) := by
  rw [v42_fold]
  refine (fold_max _ (0 : Fin 3) ?_ fun j => ?_).1
  · rw [at3, v40 R]
    exact EReal.coe_ne_bot _
  · rw [at3, v40 R]
    exact EReal.coe_ne_top _

/-- The greatest of the three groups' log-denominators too. -/
structure Reads (V0 : Valuation τ sig (Elt Ideal)) (x : Reals) : Prop extends Reads1 V0 x where
  t : ∀ i h, (res_main_v42 V0 (ix2 i h) : EReal) = ((x.t i h : ℝ) : EReal)

/-- Arguments whose entries are all real are read by some real arrays. -/
theorem exists_reads (R : Reads0 V0 x) : ∃ y : Reals, Reads V0 y := by
  obtain ⟨m, hm⟩ : ∃ m : Fin 8 → Fin 4096 → ℝ, ∀ h i, (res_main_v16 V0 (ix2 h i) : EReal) = ((m h i : ℝ) : EReal) :=
    ⟨_, fun h i => (v16_max R h i).1.symm⟩
  have R1 : Reads1 V0 { x with m := m } := ⟨⟨R.q, R.k, R.v, R.o, R.a, R.g⟩, hm⟩
  obtain ⟨t, ht⟩ : ∃ t : Fin 4096 → Fin 8 → ℝ, ∀ i h, (res_main_v42 V0 (ix2 i h) : EReal) = ((t i h : ℝ) : EReal) :=
    ⟨_, fun i h => (v42_max R1 i h).symm⟩
  exact ⟨{ x with m := m, t := t }, ⟨⟨R.q, R.k, R.v, R.o, R.a, R.g⟩, hm⟩, ht⟩

theorem v62 (R : Reads V0 x) (r : Fin 3) (i : Fin 4096) (h : Fin 8) :
    (res_main_v62 V0 (ix3 r i h) : EReal) = ((x.ee r i h : ℝ) : EReal) := by
  unfold res_main_v62 Reals.ee
  pointwise [v40 R.toReads1, R.t, ofBits_bot]
  rw [max_eq_right bot_le, ← EReal.coe_sub, Ideal.exp_coe]

theorem v64 (R : Reads V0 x) (z : Fin 1) (i : Fin 4096) (h : Fin 8) :
    (res_main_v64 V0 (ix3 z i h) : EReal) = ((x.s i h : ℝ) : EReal) := by
  unfold res_main_v64
  pointwise [v62 R]
  exact sum_coe _ _

theorem v66 (R : Reads V0 x) (r : Fin 3) (i : Fin 4096) (h : Fin 8) :
    (res_main_v66 V0 (ix3 r i h) : EReal) = ((x.w r i h : ℝ) : EReal) := by
  unfold res_main_v66
  pointwise [v62 R, v64 R]
  exact div_real (x.s_pos i h).ne'

theorem v72 (R : Reads V0 x) (i : Fin 4096) (h : Fin 8) (z : Fin 1) :
    (res_main_v72 V0 (ix3 i h z) : EReal) = ((x.w 0 i h : ℝ) : EReal) := by
  unfold res_main_v72
  pointwise [v66 R]

theorem v81 (R : Reads V0 x) (i : Fin 4096) (h : Fin 8) (e : Fin 128) :
    (res_main_v81 V0 (ix3 i h e) : EReal) = ((x.g i h e : ℝ) : EReal) := by
  unfold res_main_v81
  pointwise [R.g]

theorem v97 (R : Reads V0 x) (r : Fin 3) (i : Fin 4096) (h : Fin 8) :
    (res_main_v97 V0 (ix3 r i h) : EReal) = ((x.u r i h : ℝ) : EReal) := by
  unfold res_main_v97 Reals.u
  pointwise [v81 R, v34 R.toReads1, R.g, R.o]
  simp only [← EReal.coe_mul, sum_coe, Finset.univ_unique, Finset.sum_singleton]
  split <;> split <;> simp only [← EReal.coe_add, ← EReal.coe_zero]

theorem v114 (R : Reads V0 x) (h : Fin 8) (i : Fin 4096) (z : Fin 1) :
    (res_main_v114 V0 (ix3 h i z) : EReal) = ((x.dl i h : ℝ) : EReal) := by
  have hs := (x.s_pos i h).ne'
  unfold res_main_v114 res_main_v109 Reals.dl
  pointwise [v97 R, v64 R, v62 R]
  simp only [Finset.univ_unique, Finset.sum_singleton]
  simp only [← EReal.coe_one, ← EReal.coe_mul, div_real hs, div_real (mul_ne_zero hs hs), sum_coe, ← EReal.coe_neg, ← EReal.coe_add]

theorem v116 (R : Reads V0 x) (h : Fin 8) (e : Fin 128) (i : Fin 4096) :
    (res_main_v116 V0 (ix3 h e i) : EReal) = ((x.w 0 i h * x.g i h e : ℝ) : EReal) := by
  unfold res_main_v116
  pointwise [v72 R, v81 R]
  exact (EReal.coe_mul _ _).symm

theorem v117 (R : Reads V0 x) (h : Fin 8) (i j : Fin 4096) :
    (res_main_v117 V0 (ix3 h i j) : EReal) = ((x.dp h i j : ℝ) : EReal) := by
  unfold res_main_v117
  pointwise [v116 R, R.v]
  simp only [← EReal.coe_mul]
  exact sum_coe _ _

theorem v132 (R : Reads V0 x) (h : Fin 8) (i j : Fin 4096) :
    (res_main_v132 V0 (ix3 h i j) : EReal) = ((x.dr h i j : ℝ) : EReal) := by
  have hl := (x.l_pos h i).ne'
  unfold res_main_v132 Reals.dr
  pointwise [v117 R, v27 R.toReads1, v114 R, v25 R.toReads1]
  simp only [Finset.univ_unique, Finset.sum_singleton]
  simp only [← EReal.coe_one, ← EReal.coe_mul, div_real hl, div_real (mul_ne_zero hl hl), sum_coe, ← EReal.coe_neg, ← EReal.coe_add]

/-- The number of a row's entries that attain its maximum, at least one. -/
theorem v20_sum (R : Reads V0 x) (h : Fin 8) (i : Fin 4096) :
    (∀ j, ∃ c : ℝ, at3 (res_main_v20 V0) h i j = ((c : ℝ) : EReal))
      ∧ ∃ c : ℝ, c ≠ 0 ∧ (∑ j : Fin 4096, at3 (res_main_v20 V0) h i j) = ((c : ℝ) : EReal) := by
  classical
  have e (j) : at3 (res_main_v20 V0) h i j
      = (((if at3 (res_main_v15_0 V0) h i j = res_main_v16 V0 (ix2 h i) then 1 else 0 : ℝ)) : EReal) := by
    unfold at3 res_main_v20
    pointwise
    have cc : at3 (res_main_v15_0 V0) h i j = res_main_v15_0 V0 (ix3 h i j) := rfl
    rw [← cc]
    by_cases c : at3 (res_main_v15_0 V0) h i j = res_main_v16 V0 (ix2 h i)
    · rw [if_pos c, decide_eq_true c]
      show (((1 : ℕ) : ℝ) : EReal) = _
      norm_num
    · rw [if_neg c, decide_eq_false c]
      show (((0 : ℕ) : ℝ) : EReal) = _
      norm_num
  refine ⟨fun j => ⟨_, e j⟩, _, ?_, (Finset.sum_congr rfl fun j _ => e j).trans (sum_coe _ _)⟩
  obtain ⟨j, hj⟩ := (v16_max R.toReads0 h i).2
  refine (Finset.sum_pos' (fun k _ => ?_) ⟨j, Finset.mem_univ _, ?_⟩).ne'
  · split <;> norm_num
  · rw [if_pos hj]
    norm_num

theorem v142 (R : Reads V0 x) (h : Fin 8) (i j : Fin 4096) :
    (res_main_v142 V0 (ix3 h i j) : EReal) = ((x.ds h i j : ℝ) : EReal) := by
  obtain ⟨hc, n, hn, en⟩ := v20_sum R h i
  obtain ⟨c, ec⟩ := hc j
  unfold res_main_v142
  pointwise [v15_1, v132 R, v114 R]
  unfold at3 at en ec
  rw [en, ec]
  by_cases o : ok i j
  · rw [if_pos o, ValueIdx.select_one]
    simp only [Finset.univ_unique, Finset.sum_singleton]
    simp only [← EReal.coe_neg, sum_coe, ← EReal.coe_add, div_real hn, ← EReal.coe_mul, Finset.sum_neg_distrib, x.dr_sum,
      add_neg_cancel, zero_div, zero_mul, add_zero]
    rw [x.dr_eq]
  · rw [if_neg o, ValueIdx.select_zero, x.ds_not h i j o, EReal.coe_zero]

end Cert.Attn

end
-- ==== Proof.Attn.Pre.lean ====
/- The attention precondition: every entry of the six arguments is finite, so each is an array of reals. -/
module

public import proofs.«01_k».proof.Proof.Hand.Pre
public import proofs.«01_k».proof.Pre_finite2
public import proofs.«01_k».proof.Proof.Attn.RefVal

@[expose] public section

set_option maxRecDepth 16384
set_option backward.isDefEq.respectTransparency false

noncomputable section

namespace Cert.Attn

open Idealize.ShloMosaic Idealize.ShloMosaic.TcCoe Cert.Reference2Ideal

/-- The shape relations that the predicate takes. -/
theorem preFacts : Cert.Pre_finite2.Facts where
  bcast_S_S4096x8x128 := by decide
  reducesTo_S4096x8x128_S_d0_1_2 := by decide
  h_S_ := by decide
  bcast_S_S2x4096x8x128 := by decide
  reducesTo_S2x4096x8x128_S_d0_1_2_3 := by decide
  bcast_S_S2x4096x8 := by decide
  reducesTo_S2x4096x8_S_d0_1_2 := by decide

/-- An array all of whose entries pass the test is an array of reals. -/
theorem real_of_all {s : Shape} {ds : List (Fin s.rank)} (x : FVec Ideal s .f32) (bd : Fin 0 → Fin s.rank)
    (hb : (⟨0, ![]⟩ : Shape).BroadcastsInDim s bd)
    (hr : s.ReducesTo ds (⟨0, ![]⟩ : Shape)) (hu : 0 < (⟨0, ![]⟩ : Shape).numel) (j : (⟨0, ![]⟩ : Shape).Idx)
    (e : Host.reduce IntOp.andi (cmpf .olt (Host.absf x) (broadcastInDim s bd hb (constant (F := Ideal) (⟨0, ![]⟩ : Shape) .f32 0x7F800000#32))) (constantI (⟨0, ![]⟩ : Shape) 1 1#1) hr hu j = 1#1)
    (i : s.Idx) : (x i : EReal) = (((x i : EReal).toReal : ℝ) : EReal) := by
  haveI : Subsingleton (⟨0, ![]⟩ : Shape).Idx := ⟨fun p q => funext fun k => k.elim0⟩
  have h := Host.reduce_andi_all _ _ hr hu j e i
  have h' : BitVec.ofBool (decide (max (x i : EReal) (-(x i : EReal)) < Ideal.ofBits .f32 0x7F800000#32)) = 1#1 := h
  rw [Cert.Real.ofBits_top] at h'
  have h2 : max (x i : EReal) (-(x i : EReal)) < ⊤ := by
    by_contra hn
    rw [decide_eq_false hn] at h'
    exact absurd h' (by decide)
  exact (Cert.Real.real_of_lt _ h2).symm

/-- The predicate, true, gives the arguments as arrays of reals, and with them every array that the reference computes. -/
theorem reads_of_pre (V0 : Valuation τ sig (Elt Ideal))
    (h : @Cert.Pre_finite2.fn preFacts Ideal _ (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) = fun _ => 1#1) :
    ∃ y, Reads V0 y := by
  have both (p q : BitVec 1) : IntOp.andi p q = 1#1 → p = 1#1 ∧ q = 1#1 := by revert p q; decide
  have h0 := congrFun h (fun k => k.elim0)
  obtain ⟨h1, e5⟩ := both _ _ h0
  obtain ⟨h2, e4⟩ := both _ _ h1
  obtain ⟨h3, e3⟩ := both _ _ h2
  obtain ⟨h4, e2⟩ := both _ _ h3
  obtain ⟨e0, e1⟩ := both _ _ h4
  refine exists_reads (x := {
    q := fun i h e => (V0 (Proc.devRef .tc main_arg0) (ix3 i h e) : EReal).toReal
    k := fun i h e => (V0 (Proc.devRef .tc main_arg1) (ix3 i h e) : EReal).toReal
    v := fun i h e => (V0 (Proc.devRef .tc main_arg2) (ix3 i h e) : EReal).toReal
    o := fun r i h e => (V0 (Proc.devRef .tc main_arg3) (ix4 r i h e) : EReal).toReal
    a := fun r i h => (V0 (Proc.devRef .tc main_arg4) (ix3 r i h) : EReal).toReal
    g := fun i h e => (V0 (Proc.devRef .tc main_arg5) (ix3 i h e) : EReal).toReal
    m := 0, t := 0 }) ⟨?_, ?_, ?_, ?_, ?_, ?_⟩
  · exact fun i h e => real_of_all _ _ _ _ _ _ e0 _
  · exact fun i h e => real_of_all _ _ _ _ _ _ e1 _
  · exact fun i h e => real_of_all _ _ _ _ _ _ e2 _
  · exact fun r i h e => real_of_all _ _ _ _ _ _ e3 _
  · exact fun r i h => real_of_all _ _ _ _ _ _ e4 _
  · exact fun i h e => real_of_all _ _ _ _ _ _ e5 _

end Cert.Attn

end
-- ==== Proof.Attn.Host.lean ====
/- What the attention kernel's host part hands its call, in the reference's terms. -/
module

public import proofs.«01_k».proof.Proof.Attn.RefVal
public import proofs.«01_k».proof.Proof.Attn.Kit
public import Idealize.ShloMosaic.Lib.StableHlo.RunRead

@[expose] public section

set_option maxRecDepth 16384
set_option backward.isDefEq.respectTransparency false

noncomputable section

namespace Cert.Attn

open Cert.Kernel2Ideal Cert.Kernel2Ideal.Gen Idealize.ShloMosaic Idealize.ShloMosaic.TcCoe Idealize.ShloMosaic.StableHlo
open Cert.Reference2Ideal.Value (res_main_v22 res_main_v27 res_main_v34)

/-- The reference's arguments, held by the kernel's. -/
structure Same (m : (ℓ : Loc nD τ sig) → Buf (Elt Ideal) ℓ) (c : Dev nD)
    (V0 : Valuation Cert.Reference2Ideal.τ Cert.Reference2Ideal.sig (Elt Ideal)) : Prop where
  a0 : m (c, Proc.devRef .tc main_arg0) = V0 (Proc.devRef .tc Cert.Reference2Ideal.main_arg0)
  a1 : m (c, Proc.devRef .tc main_arg1) = V0 (Proc.devRef .tc Cert.Reference2Ideal.main_arg1)
  a2 : m (c, Proc.devRef .tc main_arg2) = V0 (Proc.devRef .tc Cert.Reference2Ideal.main_arg2)
  a3 : m (c, Proc.devRef .tc main_arg3) = V0 (Proc.devRef .tc Cert.Reference2Ideal.main_arg3)
  a4 : m (c, Proc.devRef .tc main_arg4) = V0 (Proc.devRef .tc Cert.Reference2Ideal.main_arg4)
  a5 : m (c, Proc.devRef .tc main_arg5) = V0 (Proc.devRef .tc Cert.Reference2Ideal.main_arg5)

variable {m : (ℓ : Loc nD τ sig) → Buf (Elt Ideal) ℓ} {c : Dev nD}
    {V0 : Valuation Cert.Reference2Ideal.τ Cert.Reference2Ideal.sig (Elt Ideal)}

theorem h22 (S : Same m c V0) : V m c main_v22 = res_main_v27 V0 := by
  unfold V
  simp only [hostOps0, hostOps0_1, hostOps0_2, List.flatten_cons, List.flatten_nil, List.append_nil, List.cons_append, List.nil_append]
  after_reads_simp
  simp only [S.a0, S.a1]
  rfl
theorem h17 (S : Same m c V0) : V m c main_v17 = res_main_v22 V0 := by
  unfold V
  simp only [hostOps0, hostOps0_1, hostOps0_2, List.flatten_cons, List.flatten_nil, List.append_nil, List.cons_append, List.nil_append]
  after_reads_simp
  simp only [S.a0, S.a1]
  rfl
theorem h26 (S : Same m c V0) : V m c main_v26 = res_main_v34 V0 := by
  unfold V
  simp only [hostOps0, hostOps0_1, hostOps0_2, List.flatten_cons, List.flatten_nil, List.append_nil, List.cons_append, List.nil_append]
  after_reads_simp
  simp only [S.a0, S.a1, S.a2]
  rfl

/-- Three arrays, the first by itself. -/
def three (a : FVec Ideal S1x4096x8 .f32) (b : FVec Ideal S2x4096x8 .f32) : FVec Ideal S3x4096x8 .f32 :=
  concatenate S3x4096x8 0 [⟨S1x4096x8, a⟩, ⟨S2x4096x8, b⟩] concatenates_S1x4096x8_S2x4096x8_S3x4096x8_d0
/-- The first array's logarithms. -/
def lseA (m l : FVec Ideal S8x4096x1 .f32) : FVec Ideal S1x4096x8 .f32 :=
  broadcastInDim S1x4096x8 ![1, 2] bcast_S4096x8_S1x4096x8_1_2 (transpose S4096x8 [1, 0] (shapeCast S8x4096 (addf m (Host.log l)) shapeCasts_S8x4096x1_S8x4096) transposes_S8x4096_S4096x8_1_0)
theorem s31 : V m c main_v31 = lseA (V m c main_v17) (V m c main_v22) := by
  unfold V
  simp only [hostOps0, hostOps0_1, hostOps0_2, List.flatten_cons, List.flatten_nil, List.append_nil, List.cons_append, List.nil_append]
  after_reads_simp
  rfl
theorem s55 : V m c main_v55 = lseA (V m c main_v17) (V m c main_v22) := by
  unfold V
  simp only [hostOps0, hostOps0_1, hostOps0_2, List.flatten_cons, List.flatten_nil, List.append_nil, List.cons_append, List.nil_append]
  after_reads_simp
  rfl
theorem s32 (A : FVec Ideal S1x4096x8 .f32) (B : FVec Ideal S2x4096x8 .f32) (hA : A = V m c main_v31) (hB : B = V m c main_arg4) :
    V m c main_v32 = three A B := by
  unfold V
  simp only [hostOps0, hostOps0_1, hostOps0_2, List.flatten_cons, List.flatten_nil, List.append_nil, List.cons_append, List.nil_append]
  after_reads_simp
  refine congrArg₂ three ?_ ?_
  · rw [hA]
    unfold V
    simp only [hostOps0, hostOps0_1, hostOps0_2, List.flatten_cons, List.flatten_nil, List.append_nil, List.cons_append, List.nil_append]
    after_reads_simp
  · rw [hB]
    unfold V
    simp only [hostOps0, hostOps0_1, hostOps0_2, List.flatten_cons, List.flatten_nil, List.append_nil, List.cons_append, List.nil_append]
    after_reads_simp

theorem s56 (A : FVec Ideal S1x4096x8 .f32) (B : FVec Ideal S2x4096x8 .f32) (hA : A = V m c main_v55) (hB : B = V m c main_arg4) :
    V m c main_v56 = three A B := by
  unfold V
  simp only [hostOps0, hostOps0_1, hostOps0_2, List.flatten_cons, List.flatten_nil, List.append_nil, List.cons_append, List.nil_append]
  after_reads_simp
  refine congrArg₂ three ?_ ?_
  · rw [hA]
    unfold V
    simp only [hostOps0, hostOps0_1, hostOps0_2, List.flatten_cons, List.flatten_nil, List.append_nil, List.cons_append, List.nil_append]
    after_reads_simp
  · rw [hB]
    unfold V
    simp only [hostOps0, hostOps0_1, hostOps0_2, List.flatten_cons, List.flatten_nil, List.append_nil, List.cons_append, List.nil_append]
    after_reads_simp

/-- The greatest of three, and the logarithm of the sum of their exponentials. -/
def topA (l : FVec Ideal S3x4096x8 .f32) : FVec Ideal S4096x8 .f32 :=
  Host.reduce FloatOps.maximumf l (constant (F := Ideal) S_ .f32 0xFF800000#32) reducesTo_S3x4096x8_S4096x8_d0 h_S_
def totA (l : FVec Ideal S3x4096x8 .f32) (t : FVec Ideal S4096x8 .f32) : FVec Ideal S4096x8 .f32 :=
  addf t (Host.log (Host.reduceAdd (Host.exp (subf l (broadcastInDim S3x4096x8 ![0, 1, 2] bcast_S1x4096x8_S3x4096x8_0_1_2 (broadcastInDim S1x4096x8 ![1, 2] bcast_S4096x8_S1x4096x8_1_2 t)))) (constant (F := Ideal) S_ .f32 0x00000000#32) reducesTo_S3x4096x8_S4096x8_d0 h_S_))
/-- The three weights. -/
def expA (l : FVec Ideal S3x4096x8 .f32) : FVec Ideal S3x4096x8 .f32 :=
  Host.exp (subf l (broadcastInDim S3x4096x8 ![0, 1, 2] bcast_S1x4096x8_S3x4096x8_0_1_2 (broadcastInDim S1x4096x8 ![1, 2] bcast_S4096x8_S1x4096x8_1_2 (maximumf (broadcastInDim S4096x8 ![] bcast_S_S4096x8 (constant (F := Ideal) S_ .f32 0xFF800000#32)) (topA l)))))
def wA (e : FVec Ideal S3x4096x8 .f32) : FVec Ideal S3x4096x8 .f32 :=
  Host.divf e (broadcastInDim S3x4096x8 ![0, 1, 2] bcast_S1x4096x8_S3x4096x8_0_1_2 (broadcastInDim S1x4096x8 ![1, 2] bcast_S4096x8_S1x4096x8_1_2 (Host.reduceAdd e (constant (F := Ideal) S_ .f32 0x00000000#32) reducesTo_S3x4096x8_S4096x8_d0 h_S_)))
/-- The merged output. -/
def omA (w : FVec Ideal S3x4096x8 .f32) (o : FVec Ideal S4096x8x128 .f32) (r : FVec Ideal S2x4096x8x128 .f32) : FVec Ideal S4096x8x128 .f32 :=
  addf (mulf (broadcastInDim S4096x8x128 ![0, 1, 2] bcast_S4096x8x1_S4096x8x128_0_1_2 (broadcastInDim S4096x8x1 ![0, 1] bcast_S4096x8_S4096x8x1_0_1 (shapeCast S4096x8 (extractStridedSlice S1x4096x8 ![0, 0, 0] w slices_S3x4096x8_S1x4096x8_0_0_0) shapeCasts_S1x4096x8_S4096x8))) o)
    (Host.reduceAdd (mulf (broadcastInDim S2x4096x8x128 ![0, 1, 2, 3] bcast_S2x4096x8x1_S2x4096x8x128_0_1_2_3 (broadcastInDim S2x4096x8x1 ![0, 1, 2] bcast_S2x4096x8_S2x4096x8x1_0_1_2 (extractStridedSlice S2x4096x8 ![1, 0, 0] w slices_S3x4096x8_S2x4096x8_1_0_0))) r)
      (constant (F := Ideal) S_ .f32 0x00000000#32) reducesTo_S2x4096x8x128_S4096x8x128_d0 h_S_)
def deltaA (g o : FVec Ideal S4096x8x128 .f32) : FVec Ideal S4096x8 .f32 :=
  Host.reduceAdd (mulf g o) (constant (F := Ideal) S_ .f32 0x00000000#32) reducesTo_S4096x8x128_S4096x8_d2 h_S_
/-- A number of each head, across the head's columns; the heads side by side. -/
def lanesA (a : FVec Ideal S4096x8 .f32) : FVec Ideal S4096x1024 .f32 :=
  shapeCast S4096x1024 (broadcastInDim S4096x8x128 ![0, 1, 2] bcast_S4096x8x1_S4096x8x128_0_1_2 (broadcastInDim S4096x8x1 ![0, 1] bcast_S4096x8_S4096x8x1_0_1 a)) shapeCasts_S4096x8x128_S4096x1024
def flatA (a : FVec Ideal S4096x8x128 .f32) : FVec Ideal S4096x1024 .f32 := shapeCast S4096x1024 a shapeCasts_S4096x8x128_S4096x1024
def roundA (a : FVec Ideal S4096x1024 .f32) : FVec Ideal S4096x1024 .bf16 := truncf .bf16 a bitsLt_bf16_f32
/-- Three arrays side by side, rounded. -/
def side (a b d : FVec Ideal S4096x1024 .f32) : FVec Ideal S4096x3072 .bf16 :=
  truncf .bf16 (concatenate S4096x3072 1 [⟨S4096x1024, a⟩, ⟨S4096x1024, b⟩, ⟨S4096x1024, d⟩] concatenates_S4096x1024_S4096x1024_S4096x1024_S4096x3072_d1) bitsLt_bf16_f32

theorem s57 : V m c main_v57 = topA (V m c main_v56) := by
  unfold V
  simp only [hostOps0, hostOps0_1, hostOps0_2, List.flatten_cons, List.flatten_nil, List.append_nil, List.cons_append, List.nil_append]
  after_reads_simp
  rfl
theorem s64 : V m c main_v64 = totA (V m c main_v56) (V m c main_v57) := by
  unfold V
  simp only [hostOps0, hostOps0_1, hostOps0_2, List.flatten_cons, List.flatten_nil, List.append_nil, List.cons_append, List.nil_append]
  after_reads_simp
  rfl
theorem s39 : V m c main_v39 = expA (V m c main_v32) := by
  unfold V
  simp only [hostOps0, hostOps0_1, hostOps0_2, List.flatten_cons, List.flatten_nil, List.append_nil, List.cons_append, List.nil_append]
  after_reads_simp
  rfl
theorem s43 : V m c main_v43 = wA (V m c main_v39) := by
  unfold V
  simp only [hostOps0, hostOps0_1, hostOps0_2, List.flatten_cons, List.flatten_nil, List.append_nil, List.cons_append, List.nil_append]
  after_reads_simp
  rfl
theorem s54 : V m c main_v54 = omA (V m c main_v43) (V m c main_v26) (V m c main_arg3) := by
  unfold V
  simp only [hostOps0, hostOps0_1, hostOps0_2, List.flatten_cons, List.flatten_nil, List.append_nil, List.cons_append, List.nil_append]
  after_reads_simp
  rfl
theorem s66 : V m c main_v66 = deltaA (V m c main_arg5) (V m c main_v54) := by
  unfold V
  simp only [hostOps0, hostOps0_1, hostOps0_2, List.flatten_cons, List.flatten_nil, List.append_nil, List.cons_append, List.nil_append]
  after_reads_simp
  rfl
theorem s76 : V m c main_v76 = lanesA (V m c main_v64) := by
  unfold V
  simp only [hostOps0, hostOps0_1, hostOps0_2, List.flatten_cons, List.flatten_nil, List.append_nil, List.cons_append, List.nil_append]
  after_reads_simp
  rfl
theorem s79 : V m c main_v79 = lanesA (V m c main_v66) := by
  unfold V
  simp only [hostOps0, hostOps0_1, hostOps0_2, List.flatten_cons, List.flatten_nil, List.append_nil, List.cons_append, List.nil_append]
  after_reads_simp
  rfl
theorem s73 : V m c main_v73 = roundA (flatA (V m c main_arg5)) := by
  unfold V
  simp only [hostOps0, hostOps0_1, hostOps0_2, List.flatten_cons, List.flatten_nil, List.append_nil, List.cons_append, List.nil_append]
  after_reads_simp
  rfl
theorem s67 : V m c main_v67 = flatA (V m c main_arg0) := by
  unfold V
  simp only [hostOps0, hostOps0_1, hostOps0_2, List.flatten_cons, List.flatten_nil, List.append_nil, List.cons_append, List.nil_append]
  after_reads_simp
  rfl
theorem s68 : V m c main_v68 = flatA (V m c main_arg1) := by
  unfold V
  simp only [hostOps0, hostOps0_1, hostOps0_2, List.flatten_cons, List.flatten_nil, List.append_nil, List.cons_append, List.nil_append]
  after_reads_simp
  rfl
theorem s69 : V m c main_v69 = flatA (V m c main_arg2) := by
  unfold V
  simp only [hostOps0, hostOps0_1, hostOps0_2, List.flatten_cons, List.flatten_nil, List.append_nil, List.cons_append, List.nil_append]
  after_reads_simp
  rfl
theorem s71 : V m c main_v71 = side (V m c main_v67) (V m c main_v68) (V m c main_v69) := by
  unfold V
  simp only [hostOps0, hostOps0_1, hostOps0_2, List.flatten_cons, List.flatten_nil, List.append_nil, List.cons_append, List.nil_append]
  after_reads_simp
  rfl

end Cert.Attn

end
-- ==== Proof.Attn.Tiles.lean ====
/- The attention gradient's sums, cut into blocks of 128 rows. -/
module

public import proofs.«01_k».proof.Proof.Attn.Real
public import Mathlib.Logic.Equiv.Fin.Basic

@[expose] public section

noncomputable section

namespace Cert.Attn

open Finset

/-- Row `r` of block `t`. -/
def row (t : Fin 32) (r : Fin 128) : Fin 4096 := ⟨128 * t.val + r.val, by omega⟩
/-- The block before, and block 0 itself. -/
def pb (t : Fin 32) : Fin 32 := ⟨t.val - 1, by omega⟩
/-- A function of a block's two blocks of keys: the block before first. -/
def two {α : Type} (a b : Fin 128 → α) (c : Fin 256) : α :=
  if h : c.val < 128 then a ⟨c.val, h⟩ else b ⟨c.val - 128, by omega⟩
/-- The key in column `c` at block `t`. -/
def key (t : Fin 32) (c : Fin 256) : Fin 4096 := two (row (pb t)) (row t) c
/-- The columns that are not read twice at block 0. -/
abbrev live (t : Fin 32) (c : Fin 256) : Prop := 0 < t.val ∨ 128 ≤ c.val
/-- The mask that the kernel computes. -/
abbrev okb (t : Fin 32) (r : Fin 128) (c : Fin 256) : Prop := live t c ∧ r.val ≤ c.val ∧ c.val ≤ 128 + r.val

theorem two_comp {α β : Type} (f : α → β) (a b : Fin 128 → α) (c : Fin 256) : f (two a b c) = two (fun i => f (a i)) (fun i => f (b i)) c := by
  unfold two
  split <;> rfl

theorem okb_iff (t : Fin 32) (r : Fin 128) (c : Fin 256) : okb t r c ↔ live t c ∧ ok (row t r) (key t c) := by
  unfold okb ok key two live
  split
  · show _ ↔ _ ∧ 128 * (t.val - 1) + c.val ≤ 128 * t.val + r.val ∧ 128 * t.val + r.val ≤ 128 * (t.val - 1) + c.val + 128
    omega
  · show _ ↔ _ ∧ 128 * t.val + (c.val - 128) ≤ 128 * t.val + r.val ∧ 128 * t.val + r.val ≤ 128 * t.val + (c.val - 128) + 128
    omega

theorem sum_rows (f : Fin 4096 → ℝ) : ∑ i, f i = ∑ t : Fin 32, ∑ r : Fin 128, f (row t r) := by
  rw [← Fintype.sum_prod_type']
  refine (Equiv.sum_comp (finProdFinEquiv (m := 32) (n := 128)) f).symm.trans (Finset.sum_congr rfl fun y _ => congrArg f (Fin.ext ?_))
  show y.2.val + 128 * y.1.val = 128 * y.1.val + y.2.val
  omega

theorem sum_two (f : Fin 256 → ℝ) : ∑ c, f c = (∑ r : Fin 128, f ⟨r.val, by omega⟩) + ∑ r : Fin 128, f ⟨128 + r.val, by omega⟩ := by
  have h := Fin.sum_univ_add (M := ℝ) (a := 128) (b := 128) f
  exact h

theorem key_own (t : Fin 32) (s : Fin 128) : key t ⟨128 + s.val, by omega⟩ = row t s := by
  unfold key two
  rw [dif_neg (by show ¬ (128 + s.val < 128); omega)]
  exact congrArg (row t) (Fin.ext (by show 128 + s.val - 128 = s.val; omega))
theorem key_prev (t : Fin 32) (s : Fin 128) : key t ⟨s.val, by omega⟩ = row (pb t) s := by
  unfold key two
  rw [dif_pos (by exact s.isLt)]

/-- A sum over the keys that a query sees, as a sum over its block's two blocks of keys. -/
theorem sum_keys (t : Fin 32) (r : Fin 128) (f : Fin 4096 → ℝ) (hf : ∀ j, ¬ ok (row t r) j → f j = 0) :
    ∑ c : Fin 256, (if live t c then f (key t c) else 0) = ∑ j, f j := by
  have z (b : Fin 32) (h1 : b ≠ t) (h2 : b.val + 1 ≠ t.val) : ∑ s : Fin 128, f (row b s) = 0 := by
    refine Finset.sum_eq_zero fun s _ => hf _ fun h => ?_
    have h3 : b.val ≠ t.val := fun e => h1 (Fin.ext e)
    have h4 : 128 * b.val + s.val ≤ 128 * t.val + r.val := h.1
    have h5 : 128 * t.val + r.val ≤ 128 * b.val + s.val + 128 := h.2
    omega
  have e1 (s : Fin 128) : (if live t ⟨128 + s.val, by omega⟩ then f (key t ⟨128 + s.val, by omega⟩) else 0) = f (row t s) := by
    rw [if_pos (.inr (by show 128 ≤ 128 + s.val; omega))]
    rw [key_own]
  rw [sum_two, sum_rows, Finset.sum_congr rfl fun s _ => e1 s]
  by_cases h : 0 < t.val
  · have hp : pb t ≠ t := fun e => by have := congrArg Fin.val e; have : t.val - 1 = t.val := this; omega
    rw [Finset.sum_eq_add (pb t) t hp (fun b _ hb => z b hb.2 fun e => hb.1 (Fin.ext (by show b.val = t.val - 1; omega)))
      (fun h => absurd (mem_univ _) h) (fun h => absurd (mem_univ _) h)]
    refine congrArg (· + _) (Finset.sum_congr rfl fun s _ => ?_)
    rw [if_pos (.inl h), key_prev]
  · rw [Finset.sum_eq_single t (fun b _ hb => z b hb (by omega)) (fun h => absurd (mem_univ _) h)]
    refine (congrArg (· + _) (Finset.sum_eq_zero fun s _ => ?_)).trans (zero_add _)
    rw [if_neg]
    rintro (h1 | h1)
    · exact h h1
    · have : 128 ≤ s.val := h1
      omega

/-- A sum over the queries that see a key, as the sum over the key's block and over the next. -/
theorem sum_queries (b : Fin 32) (s : Fin 128) (f : Fin 4096 → ℝ) (hf : ∀ i, ¬ ok i (row b s) → f i = 0) :
    ∑ i, f i = (∑ r : Fin 128, f (row b r)) + if h : b.val + 1 < 32 then ∑ r : Fin 128, f (row ⟨b.val + 1, h⟩ r) else 0 := by
  have z (t : Fin 32) (h1 : t ≠ b) (h2 : t.val ≠ b.val + 1) : ∑ r : Fin 128, f (row t r) = 0 := by
    refine Finset.sum_eq_zero fun r _ => hf _ fun h => ?_
    have h3 : t.val ≠ b.val := fun e => h1 (Fin.ext e)
    have h4 : 128 * b.val + s.val ≤ 128 * t.val + r.val := h.1
    have h5 : 128 * t.val + r.val ≤ 128 * b.val + s.val + 128 := h.2
    omega
  rw [sum_rows]
  split
  · rename_i h
    refine Finset.sum_eq_add b ⟨b.val + 1, h⟩ (fun e => ?_) (fun t _ ht => z t ht.1 fun e => ht.2 (Fin.ext e))
      (fun h => absurd (mem_univ _) h) (fun h => absurd (mem_univ _) h)
    have : b.val = b.val + 1 := congrArg Fin.val e
    omega
  · rw [add_zero]
    exact Finset.sum_eq_single b (fun t _ ht => z t ht (by omega)) fun h => absurd (mem_univ _) h

end Cert.Attn

end
-- ==== Proof.Attn.Block.lean ====
/- One block of the attention kernel's call, entry by entry, as real numbers. -/
module

public import proofs.«01_k».proof.Proof.Attn.Heads
public import proofs.«01_k».proof.Proof.Attn.Tiles
public import Idealize.ShloMosaic.Lib.Pointwise
public import Idealize.ShloMosaic.Lib.Pipeline.Value

@[expose] public section

set_option maxRecDepth 16384
set_option backward.isDefEq.respectTransparency false

noncomputable section

namespace Cert.Attn

open Cert.Kernel2Ideal Cert.Kernel2Ideal.Gen Idealize.ShloMosaic

/-! ## The pieces -/

/-- A head's column. -/
def col (h : Fin 8) (e : Fin 128) : Fin 1024 := ⟨128 * h.val + e.val, by omega⟩

theorem hh_col (h : Fin 8) (e : Fin 128) : hh (col h e) = h := Fin.ext (by show (128 * h.val + e.val) / 128 = h.val; omega)
theorem el_col (h : Fin 8) (e : Fin 128) : el (col h e) = e := Fin.ext (by show (128 * h.val + e.val) % 128 = e.val; omega)

section Pieces
variable {φ : FTy}

theorem hd_read (h : Fin 8) (X : FVec Ideal S128x1024 φ) (r e : Fin 128) : hd h X (ix2 r e) = X (ix2 r (col h e)) := by
  unfold hd col
  pointwise

theorem cat8_read (A : Fin 8 → FVec Ideal S128x128 φ) (r : Fin 128) (c : Fin 1024) : cat8 A (ix2 r c) = A (hh c) (ix2 r (el c)) :=
  concatenate_ofFn_apply (t := S128x1024) (s₁ := S128x128) 1 A
    concatenates_S128x128_S128x128_S128x128_S128x128_S128x128_S128x128_S128x128_S128x128_S128x1024_d1 rfl 128 rfl (ix2 r c) (hh c) rfl
    (ix2 r (el c)) rfl fun b hb => by
      match b with
      | ⟨0, _⟩ => rfl
      | ⟨1, _⟩ => exact absurd rfl hb

theorem cat2_read (a b : FVec Ideal S128x128 φ) (c : Fin 256) (e : Fin 128) :
    cat2 a b (ix2 c e) = two (fun r => a (ix2 r e)) (fun r => b (ix2 r e)) c := by
  unfold cat2 two
  pointwise

theorem twice_read (a : FVec Ideal S128x128 φ) (r : Fin 128) (c : Fin 256) :
    twice a (ix2 r c) = two (fun s => a (ix2 r s)) (fun s => a (ix2 r s)) c := by
  unfold twice two
  pointwise

theorem fst_read (a : FVec Ideal S256x128 φ) (r e : Fin 128) : fst a (ix2 r e) = a (ix2 ⟨r.val, by omega⟩ e) := by
  unfold fst
  pointwise
theorem snd_read (a : FVec Ideal S256x128 φ) (r e : Fin 128) : snd a (ix2 r e) = a (ix2 ⟨128 + r.val, by omega⟩ e) := by
  unfold snd
  pointwise

end Pieces

/-- The mask's bits. -/
theorem msk_bit (t : Fin 32) (r : Fin 128) (c : Fin 256) :
    k0_pay6 (BitVec.ofNat 32 t.val) (ix2 r c) = if okb t r c then 1#1 else 0#1 := by
  have b (n : ℤ) (h0 : -4096 < n) (h1 : n < 4096) : n.bmod (2 ^ 32) = n := by
    rw [Int.bmod_def]
    split <;> omega
  have tn (n : ℕ) : (BitVec.ofNat 32 n).toInt = (n : ℤ).bmod (2 ^ 32) := by rw [BitVec.toInt_ofNat']
  have hd : (128#32 + BitVec.ofNat 32 r.val - BitVec.ofNat 32 c.val).toInt = 128 + (r.val : ℤ) - c.val := by
    rw [BitVec.toInt_sub, BitVec.toInt_add, tn r.val, tn c.val, show (128#32 : BitVec 32).toInt = 128 by decide,
      b r.val (by omega) (by omega), b c.val (by omega) (by omega), b (128 + r.val) (by omega) (by omega), b _ (by omega) (by omega)]
  have e1 : (0#32).sle (128#32 + BitVec.ofNat 32 r.val - BitVec.ofNat 32 c.val) = decide (c.val ≤ 128 + r.val) := by
    rw [BitVec.sle_eq_decide, hd]
    refine decide_eq_decide.2 ?_
    show (0 : ℤ) ≤ _ ↔ _
    omega
  have e2 : (128#32 + BitVec.ofNat 32 r.val - BitVec.ofNat 32 c.val).sle 128#32 = decide (r.val ≤ c.val) := by
    rw [BitVec.sle_eq_decide, hd, show (128#32 : BitVec 32).toInt = 128 by decide]
    refine decide_eq_decide.2 ?_
    omega
  have e3 : (0#32).slt (BitVec.ofNat 32 t.val) = decide (0 < t.val) := by
    rw [BitVec.slt_eq_decide, tn t.val, b t.val (by omega) (by omega)]
    refine decide_eq_decide.2 ?_
    show (0 : ℤ) < _ ↔ _
    omega
  have e4 (n : BitVec 32) (k : ℕ) (hk : n.toInt = k) : n.sle (BitVec.ofNat 32 c.val) = decide (k ≤ c.val) := by
    rw [BitVec.sle_eq_decide, tn c.val, b c.val (by omega) (by omega), hk]
    refine decide_eq_decide.2 ?_
    omega
  unfold k0_pay6
  pointwise
  show (BitVec.ofBool ((0#32).sle (128#32 + BitVec.ofNat 32 r.val - BitVec.ofNat 32 c.val))
      &&& BitVec.ofBool ((128#32 + BitVec.ofNat 32 r.val - BitVec.ofNat 32 c.val).sle 128#32))
      &&& BitVec.ofBool ((Scalar.select (BitVec.ofBool ((0#32).slt (BitVec.ofNat 32 t.val))) 0#32 128#32).sle (BitVec.ofNat 32 c.val)) = _
  rw [e1, e2, e3]
  by_cases h : 0 < t.val
  · rw [decide_eq_true h]
    show _ &&& BitVec.ofBool ((0#32).sle (BitVec.ofNat 32 c.val)) = _
    rw [e4 0#32 0 rfl]
    by_cases c1 : c.val ≤ 128 + r.val <;> by_cases c2 : r.val ≤ c.val <;> simp [c1, c2, okb, live, h]
  · rw [decide_eq_false h]
    show _ &&& BitVec.ofBool ((128#32).sle (BitVec.ofNat 32 c.val)) = _
    rw [e4 128#32 128 (by decide)]
    by_cases c1 : c.val ≤ 128 + r.val <;> by_cases c2 : r.val ≤ c.val <;> by_cases c3 : 128 ≤ c.val <;> simp [c1, c2, c3, okb, live, h]

/-! ## A block -/

/-- What a block's eight inputs hold, head by head. -/
structure Inputs (x : Reals) (t : Fin 32) (x0 x1 x2 x3 x4 x5 : FVec Ideal S128x1024 .bf16) (x6 x7 : FVec Ideal S128x1024 .f32) : Prop where
  q : ∀ r c, (x0 (ix2 r c) : EReal) = ((x.q (row t r) (hh c) (el c) : ℝ) : EReal)
  k : ∀ r c, (x1 (ix2 r c) : EReal) = ((x.k (row t r) (hh c) (el c) : ℝ) : EReal)
  kp : ∀ r c, (x2 (ix2 r c) : EReal) = ((x.k (row (pb t) r) (hh c) (el c) : ℝ) : EReal)
  v : ∀ r c, (x3 (ix2 r c) : EReal) = ((x.v (row t r) (hh c) (el c) : ℝ) : EReal)
  vp : ∀ r c, (x4 (ix2 r c) : EReal) = ((x.v (row (pb t) r) (hh c) (el c) : ℝ) : EReal)
  g : ∀ r c, (x5 (ix2 r c) : EReal) = ((x.g (row t r) (hh c) (el c) : ℝ) : EReal)
  total : ∀ r c, (x6 (ix2 r c) : EReal) = ((x.total (row t r) (hh c) : ℝ) : EReal)
  delta : ∀ r c, (x7 (ix2 r c) : EReal) = ((x.delta (row t r) (hh c) : ℝ) : EReal)

variable {x : Reals} {t : Fin 32} {x0 x1 x2 x3 x4 x5 : FVec Ideal S128x1024 .bf16} {x6 x7 : FVec Ideal S128x1024 .f32}

theorem k2_read (I : Inputs x t x0 x1 x2 x3 x4 x5 x6 x7) (h : Fin 8) (c : Fin 256) (e : Fin 128) :
    (cat2 (hd h x2) (hd h x1) (ix2 c e) : EReal) = ((x.k (key t c) h e : ℝ) : EReal) := by
  rw [cat2_read]
  unfold key two
  split
  · refine (hd_read h x2 _ e).trans ?_
    rw [I.kp, hh_col, el_col]
  · refine (hd_read h x1 _ e).trans ?_
    rw [I.k, hh_col, el_col]

theorem v2_read (I : Inputs x t x0 x1 x2 x3 x4 x5 x6 x7) (h : Fin 8) (c : Fin 256) (e : Fin 128) :
    (cat2 (hd h x4) (hd h x3) (ix2 c e) : EReal) = ((x.v (key t c) h e : ℝ) : EReal) := by
  rw [cat2_read]
  unfold key two
  split
  · refine (hd_read h x4 _ e).trans ?_
    rw [I.vp, hh_col, el_col]
  · refine (hd_read h x3 _ e).trans ?_
    rw [I.v, hh_col, el_col]

theorem t2_read (I : Inputs x t x0 x1 x2 x3 x4 x5 x6 x7) (h : Fin 8) (r : Fin 128) (c : Fin 256) :
    (twice (hd h x6) (ix2 r c) : EReal) = ((x.total (row t r) h : ℝ) : EReal) := by
  rw [twice_read]
  unfold two
  split <;> exact (hd_read h x6 _ _).trans (by rw [I.total, hh_col])

theorem d2_read (I : Inputs x t x0 x1 x2 x3 x4 x5 x6 x7) (h : Fin 8) (r : Fin 128) (c : Fin 256) :
    (twice (hd h x7) (ix2 r c) : EReal) = ((x.delta (row t r) h : ℝ) : EReal) := by
  rw [twice_read]
  unfold two
  split <;> exact (hd_read h x7 _ _).trans (by rw [I.delta, hh_col])

/-- A block's weights. -/
theorem pH_read (I : Inputs x t x0 x1 x2 x3 x4 x5 x6 x7) (h : Fin 8) (r : Fin 128) (c : Fin 256) :
    (pH (k0_pay6 (BitVec.ofNat 32 t.val)) x0 x1 x2 x6 h (ix2 r c) : EReal)
      = (((if live t c then x.pk h (row t r) (key t c) else 0 : ℝ)) : EReal) := by
  unfold pH
  pointwise [msk_bit, k2_read I, t2_read I, hd_read, I.q, hh_col, el_col]
  have e := okb_iff t r c
  by_cases o : okb t r c
  · rw [if_pos o, ValueIdx.select_one, if_pos o.1, Reals.pk, if_pos (e.1 o).2]
    simp only [← EReal.coe_mul, sum_coe, ← EReal.coe_sub, Ideal.exp_coe]
    rfl
  · rw [if_neg o, ValueIdx.select_zero]
    by_cases l : live t c
    · rw [if_pos l, Reals.pk, if_neg fun k => o (e.2 ⟨l, k⟩), EReal.coe_zero]
    · rw [if_neg l, EReal.coe_zero]

/-- A block's scores' gradients. -/
theorem dsH_read (I : Inputs x t x0 x1 x2 x3 x4 x5 x6 x7) (h : Fin 8) (r : Fin 128) (c : Fin 256) :
    (dsH (k0_pay6 (BitVec.ofNat 32 t.val)) x0 x1 x2 x3 x4 x5 x6 x7 h (ix2 r c) : EReal)
      = (((if live t c then x.ds h (row t r) (key t c) else 0 : ℝ)) : EReal) := by
  unfold dsH
  pointwise [pH_read I, v2_read I, d2_read I, hd_read, I.g, hh_col, el_col]
  simp only [← EReal.coe_mul, sum_coe, ← EReal.coe_sub]
  refine congrArg _ ?_
  by_cases l : live t c
  · rw [if_pos l, if_pos l, Reals.ds]
  · rw [if_neg l, if_neg l, zero_mul]

theorem dqH_read (I : Inputs x t x0 x1 x2 x3 x4 x5 x6 x7) (h : Fin 8) (r e : Fin 128) :
    (dqH (k0_pay6 (BitVec.ofNat 32 t.val)) x0 x1 x2 x3 x4 x5 x6 x7 h (ix2 r e) : EReal)
      = ((∑ j, x.ds h (row t r) j * x.k j h e : ℝ) : EReal) := by
  unfold dqH
  pointwise [dsH_read I, k2_read I]
  simp only [← EReal.coe_mul, sum_coe]
  refine congrArg _ ((Finset.sum_congr rfl fun c _ => ?_).trans
    (sum_keys t r (fun j => x.ds h (row t r) j * x.k j h e) fun j hj => by rw [x.ds_not _ _ _ hj, zero_mul]))
  by_cases l : live t c
  · rw [if_pos l, if_pos l]
  · rw [if_neg l, if_neg l, zero_mul]

theorem dkH_read (I : Inputs x t x0 x1 x2 x3 x4 x5 x6 x7) (h : Fin 8) (c : Fin 256) (e : Fin 128) (l : live t c) :
    (dkH (k0_pay6 (BitVec.ofNat 32 t.val)) x0 x1 x2 x3 x4 x5 x6 x7 h (ix2 c e) : EReal)
      = ((∑ r, x.q (row t r) h e * x.ds h (row t r) (key t c) : ℝ) : EReal) := by
  unfold dkH
  pointwise [dsH_read I, hd_read, I.q, hh_col, el_col]
  simp only [if_pos l, ← EReal.coe_mul, sum_coe]

theorem dvH_read (I : Inputs x t x0 x1 x2 x3 x4 x5 x6 x7) (h : Fin 8) (c : Fin 256) (e : Fin 128) (l : live t c) :
    (dvH (k0_pay6 (BitVec.ofNat 32 t.val)) x0 x1 x2 x5 x6 h (ix2 c e) : EReal)
      = ((∑ r, x.g (row t r) h e * x.pk h (row t r) (key t c) : ℝ) : EReal) := by
  unfold dvH
  pointwise [pH_read I, hd_read, I.g, hh_col, el_col]
  simp only [if_pos l, ← EReal.coe_mul, sum_coe]

end Cert.Attn

end
-- ==== Proof.Attn.KArr.lean ====
/- The attention kernel's blocks and results, as real arrays. -/
module

public import proofs.«01_k».proof.Proof.Attn.Frame
public import proofs.«01_k».proof.Proof.Attn.Block

@[expose] public section

set_option maxRecDepth 16384
set_option backward.isDefEq.respectTransparency false

noncomputable section

namespace Cert.Attn

open Cert.Kernel2Ideal Cert.Kernel2Ideal.Gen Idealize.ShloMosaic Idealize.ShloMosaic.TcCoe
open Idealize.ShloMosaic.Pipeline (Dat Cfg Window)

/-- A real array of 4096 rows and 1024 columns. -/
def ar (A : Fin 4096 → Fin 1024 → ℝ) : S4096x1024.Idx → EReal := fun i => ((A (i 0) (i 1) : ℝ) : EReal)

theorem coords1 : ∀ t : Fin cfg0.N, (grid0.coords t 1).val = t.val :=
  (by decide +kernel : ∀ t : Fin grid0.N, (grid0.coords t 1).val = t.val)
theorem ix_0 : ∀ t : Fin cfg0.N, t.val < 32 → win0_0.index t 0 = t.val ∧ win0_0.index t 1 = 0 :=
  (by decide +kernel : ∀ t : Fin grid0.N, t.val < 32 → win0_0.index t 0 = t.val ∧ win0_0.index t 1 = 0)
theorem ix_1 : ∀ t : Fin cfg0.N, t.val < 32 → win0_1.index t 0 = t.val ∧ win0_1.index t 1 = 1 :=
  (by decide +kernel : ∀ t : Fin grid0.N, t.val < 32 → win0_1.index t 0 = t.val ∧ win0_1.index t 1 = 1)
theorem ix_2 : ∀ t : Fin cfg0.N, t.val < 32 → win0_2.index t 0 = t.val - 1 ∧ win0_2.index t 1 = 1 :=
  (by decide +kernel : ∀ t : Fin grid0.N, t.val < 32 → win0_2.index t 0 = t.val - 1 ∧ win0_2.index t 1 = 1)
theorem ix_3 : ∀ t : Fin cfg0.N, t.val < 32 → win0_3.index t 0 = t.val ∧ win0_3.index t 1 = 2 :=
  (by decide +kernel : ∀ t : Fin grid0.N, t.val < 32 → win0_3.index t 0 = t.val ∧ win0_3.index t 1 = 2)
theorem ix_4 : ∀ t : Fin cfg0.N, t.val < 32 → win0_4.index t 0 = t.val - 1 ∧ win0_4.index t 1 = 2 :=
  (by decide +kernel : ∀ t : Fin grid0.N, t.val < 32 → win0_4.index t 0 = t.val - 1 ∧ win0_4.index t 1 = 2)
theorem ix_5 : ∀ t : Fin cfg0.N, t.val < 32 → win0_5.index t 0 = t.val ∧ win0_5.index t 1 = 0 :=
  (by decide +kernel : ∀ t : Fin grid0.N, t.val < 32 → win0_5.index t 0 = t.val ∧ win0_5.index t 1 = 0)
theorem ix_6 : ∀ t : Fin cfg0.N, t.val < 32 → win0_6.index t 0 = t.val ∧ win0_6.index t 1 = 0 :=
  (by decide +kernel : ∀ t : Fin grid0.N, t.val < 32 → win0_6.index t 0 = t.val ∧ win0_6.index t 1 = 0)
theorem ix_7 : ∀ t : Fin cfg0.N, t.val < 32 → win0_7.index t 0 = t.val ∧ win0_7.index t 1 = 0 :=
  (by decide +kernel : ∀ t : Fin grid0.N, t.val < 32 → win0_7.index t 0 = t.val ∧ win0_7.index t 1 = 0)
theorem ix_8 : ∀ t : Fin cfg0.N, win0_8.index t 0 = min t.val 31 ∧ win0_8.index t 1 = 0 :=
  (by decide +kernel : ∀ t : Fin grid0.N, win0_8.index t 0 = min t.val 31 ∧ win0_8.index t 1 = 0)
theorem xs_8 : ∀ t : Fin cfg0.N, win0_8.xsize (grid0.coords t) 0 = 128 ∧ win0_8.xsize (grid0.coords t) 1 = 1024 :=
  (by decide +kernel : ∀ t : Fin grid0.N, win0_8.xsize (grid0.coords t) 0 = 128 ∧ win0_8.xsize (grid0.coords t) 1 = 1024)
theorem ix_9 : ∀ t : Fin cfg0.N, win0_9.index t 0 = t.val - 1 ∧ win0_9.index t 1 = 0 :=
  (by decide +kernel : ∀ t : Fin grid0.N, win0_9.index t 0 = t.val - 1 ∧ win0_9.index t 1 = 0)
theorem xs_9 : ∀ t : Fin cfg0.N, win0_9.xsize (grid0.coords t) 0 = 128 ∧ win0_9.xsize (grid0.coords t) 1 = 1024 :=
  (by decide +kernel : ∀ t : Fin grid0.N, win0_9.xsize (grid0.coords t) 0 = 128 ∧ win0_9.xsize (grid0.coords t) 1 = 1024)
theorem ix_10 : ∀ t : Fin cfg0.N, win0_10.index t 0 = t.val - 1 ∧ win0_10.index t 1 = 0 :=
  (by decide +kernel : ∀ t : Fin grid0.N, win0_10.index t 0 = t.val - 1 ∧ win0_10.index t 1 = 0)
theorem xs_10 : ∀ t : Fin cfg0.N, win0_10.xsize (grid0.coords t) 0 = 128 ∧ win0_10.xsize (grid0.coords t) 1 = 1024 :=
  (by decide +kernel : ∀ t : Fin grid0.N, win0_10.xsize (grid0.coords t) 0 = 128 ∧ win0_10.xsize (grid0.coords t) 1 = 1024)
theorem fl_pos_9 : ∀ t : Fin cfg0.N, (cfg0.win 9).flush t = true → 0 < t.val :=
  (by decide +kernel : ∀ t : Fin grid0.N, win0_9.flush t = true → 0 < t.val)
theorem fl_at_9 : ∀ t : Fin cfg0.N, 0 < t.val → (cfg0.win 9).flush t = true :=
  (by decide +kernel : ∀ t : Fin grid0.N, 0 < t.val → win0_9.flush t = true)
theorem fl_pos_10 : ∀ t : Fin cfg0.N, (cfg0.win 10).flush t = true → 0 < t.val :=
  (by decide +kernel : ∀ t : Fin grid0.N, win0_10.flush t = true → 0 < t.val)
theorem fl_at_10 : ∀ t : Fin cfg0.N, 0 < t.val → (cfg0.win 10).flush t = true :=
  (by decide +kernel : ∀ t : Fin grid0.N, 0 < t.val → win0_10.flush t = true)
theorem fl_at_8 : ∀ t : Fin cfg0.N, t.val ≠ 31 → (cfg0.win 8).flush t = true :=
  (by decide +kernel : ∀ t : Fin grid0.N, t.val ≠ 31 → win0_8.flush t = true)

theorem lt33 (t : Fin cfg0.N) : t.val - 1 < 32 := by
  have h : cfg0.N = 33 := N_0
  have := t.isLt
  omega

/-- What the arrays the call is given hold. -/
structure Host (m : (ℓ : Loc nD τ sig) → Buf (Elt Ideal) ℓ) (c : Dev nD) (x : Reals) : Prop where
  q : ∀ (i : Fin 4096) (b : Fin 1024), (V m c main_v71 (ix2 i (⟨b.val, by omega⟩ : Fin 3072)) : EReal) = ((x.q i (hh b) (el b) : ℝ) : EReal)
  k : ∀ (i : Fin 4096) (b : Fin 1024), (V m c main_v71 (ix2 i (⟨1024 + b.val, by omega⟩ : Fin 3072)) : EReal) = ((x.k i (hh b) (el b) : ℝ) : EReal)
  v : ∀ (i : Fin 4096) (b : Fin 1024), (V m c main_v71 (ix2 i (⟨2048 + b.val, by omega⟩ : Fin 3072)) : EReal) = ((x.v i (hh b) (el b) : ℝ) : EReal)
  g : ∀ (i : Fin 4096) (b : Fin 1024), (V m c main_v73 (ix2 i b) : EReal) = ((x.g i (hh b) (el b) : ℝ) : EReal)
  total : ∀ (i : Fin 4096) (b : Fin 1024), (V m c main_v76 (ix2 i b) : EReal) = ((x.total i (hh b) : ℝ) : EReal)
  delta : ∀ (i : Fin 4096) (b : Fin 1024), (V m c main_v79 (ix2 i b) : EReal) = ((x.delta i (hh b) : ℝ) : EReal)

variable {m : (ℓ : Loc nD τ sig) → Buf (Elt Ideal) ℓ} {c : Dev nD} {x : Reals}

theorem blk_0 (H : Host m c x) (t : Fin cfg0.N) (T : Fin 32) (e : t.val = T.val) (r : Fin 128) (b : Fin 1024) :
    (iblk m c 0 t (ix2 r b) : EReal) = ((x.q (row T r) (hh b) (el b) : ℝ) : EReal) := by
  have lt : t.val < 32 := e ▸ T.isLt
  unfold iblk
  rw [View.read_apply]
  show V m c main_v71 _ = _
  rw [← H.q]
  refine congrArg (V m c main_v71) ?_
  funext a; apply Fin.ext
  match a with
  | ⟨0, _⟩ => show win0_0.index t 0 * 128 + 1 * r.val = 128 * T.val + r.val; rw [(ix_0 t lt).1, e]; omega
  | ⟨1, _⟩ => show win0_0.index t 1 * 1024 + 1 * b.val = b.val; rw [(ix_0 t lt).2]; omega
theorem blk_1 (H : Host m c x) (t : Fin cfg0.N) (T : Fin 32) (e : t.val = T.val) (r : Fin 128) (b : Fin 1024) :
    (iblk m c 1 t (ix2 r b) : EReal) = ((x.k (row T r) (hh b) (el b) : ℝ) : EReal) := by
  have lt : t.val < 32 := e ▸ T.isLt
  unfold iblk
  rw [View.read_apply]
  show V m c main_v71 _ = _
  rw [← H.k]
  refine congrArg (V m c main_v71) ?_
  funext a; apply Fin.ext
  match a with
  | ⟨0, _⟩ => show win0_1.index t 0 * 128 + 1 * r.val = 128 * T.val + r.val; rw [(ix_1 t lt).1, e]; omega
  | ⟨1, _⟩ => show win0_1.index t 1 * 1024 + 1 * b.val = 1024 + b.val; rw [(ix_1 t lt).2]; omega
theorem blk_2 (H : Host m c x) (t : Fin cfg0.N) (T : Fin 32) (e : t.val = T.val) (r : Fin 128) (b : Fin 1024) :
    (iblk m c 2 t (ix2 r b) : EReal) = ((x.k (row (pb T) r) (hh b) (el b) : ℝ) : EReal) := by
  have lt : t.val < 32 := e ▸ T.isLt
  unfold iblk
  rw [View.read_apply]
  show V m c main_v71 _ = _
  rw [← H.k]
  refine congrArg (V m c main_v71) ?_
  funext a; apply Fin.ext
  match a with
  | ⟨0, _⟩ => show win0_2.index t 0 * 128 + 1 * r.val = 128 * (T.val - 1) + r.val; rw [(ix_2 t lt).1, e]; omega
  | ⟨1, _⟩ => show win0_2.index t 1 * 1024 + 1 * b.val = 1024 + b.val; rw [(ix_2 t lt).2]; omega
theorem blk_3 (H : Host m c x) (t : Fin cfg0.N) (T : Fin 32) (e : t.val = T.val) (r : Fin 128) (b : Fin 1024) :
    (iblk m c 3 t (ix2 r b) : EReal) = ((x.v (row T r) (hh b) (el b) : ℝ) : EReal) := by
  have lt : t.val < 32 := e ▸ T.isLt
  unfold iblk
  rw [View.read_apply]
  show V m c main_v71 _ = _
  rw [← H.v]
  refine congrArg (V m c main_v71) ?_
  funext a; apply Fin.ext
  match a with
  | ⟨0, _⟩ => show win0_3.index t 0 * 128 + 1 * r.val = 128 * T.val + r.val; rw [(ix_3 t lt).1, e]; omega
  | ⟨1, _⟩ => show win0_3.index t 1 * 1024 + 1 * b.val = 2048 + b.val; rw [(ix_3 t lt).2]; omega
theorem blk_4 (H : Host m c x) (t : Fin cfg0.N) (T : Fin 32) (e : t.val = T.val) (r : Fin 128) (b : Fin 1024) :
    (iblk m c 4 t (ix2 r b) : EReal) = ((x.v (row (pb T) r) (hh b) (el b) : ℝ) : EReal) := by
  have lt : t.val < 32 := e ▸ T.isLt
  unfold iblk
  rw [View.read_apply]
  show V m c main_v71 _ = _
  rw [← H.v]
  refine congrArg (V m c main_v71) ?_
  funext a; apply Fin.ext
  match a with
  | ⟨0, _⟩ => show win0_4.index t 0 * 128 + 1 * r.val = 128 * (T.val - 1) + r.val; rw [(ix_4 t lt).1, e]; omega
  | ⟨1, _⟩ => show win0_4.index t 1 * 1024 + 1 * b.val = 2048 + b.val; rw [(ix_4 t lt).2]; omega
theorem blk_5 (H : Host m c x) (t : Fin cfg0.N) (T : Fin 32) (e : t.val = T.val) (r : Fin 128) (b : Fin 1024) :
    (iblk m c 5 t (ix2 r b) : EReal) = ((x.g (row T r) (hh b) (el b) : ℝ) : EReal) := by
  have lt : t.val < 32 := e ▸ T.isLt
  unfold iblk
  rw [View.read_apply]
  show V m c main_v73 _ = _
  rw [← H.g]
  refine congrArg (V m c main_v73) ?_
  funext a; apply Fin.ext
  match a with
  | ⟨0, _⟩ => show win0_5.index t 0 * 128 + 1 * r.val = 128 * T.val + r.val; rw [(ix_5 t lt).1, e]; omega
  | ⟨1, _⟩ => show win0_5.index t 1 * 1024 + 1 * b.val = b.val; rw [(ix_5 t lt).2]; omega
theorem blk_6 (H : Host m c x) (t : Fin cfg0.N) (T : Fin 32) (e : t.val = T.val) (r : Fin 128) (b : Fin 1024) :
    (iblk m c 6 t (ix2 r b) : EReal) = ((x.total (row T r) (hh b) : ℝ) : EReal) := by
  have lt : t.val < 32 := e ▸ T.isLt
  unfold iblk
  rw [View.read_apply]
  show V m c main_v76 _ = _
  rw [← H.total]
  refine congrArg (V m c main_v76) ?_
  funext a; apply Fin.ext
  match a with
  | ⟨0, _⟩ => show win0_6.index t 0 * 128 + 1 * r.val = 128 * T.val + r.val; rw [(ix_6 t lt).1, e]; omega
  | ⟨1, _⟩ => show win0_6.index t 1 * 1024 + 1 * b.val = b.val; rw [(ix_6 t lt).2]; omega
theorem blk_7 (H : Host m c x) (t : Fin cfg0.N) (T : Fin 32) (e : t.val = T.val) (r : Fin 128) (b : Fin 1024) :
    (iblk m c 7 t (ix2 r b) : EReal) = ((x.delta (row T r) (hh b) : ℝ) : EReal) := by
  have lt : t.val < 32 := e ▸ T.isLt
  unfold iblk
  rw [View.read_apply]
  show V m c main_v79 _ = _
  rw [← H.delta]
  refine congrArg (V m c main_v79) ?_
  funext a; apply Fin.ext
  match a with
  | ⟨0, _⟩ => show win0_7.index t 0 * 128 + 1 * r.val = 128 * T.val + r.val; rw [(ix_7 t lt).1, e]; omega
  | ⟨1, _⟩ => show win0_7.index t 1 * 1024 + 1 * b.val = b.val; rw [(ix_7 t lt).2]; omega

/-- A point's eight input blocks. -/
theorem inputs (H : Host m c x) (t : Fin cfg0.N) (T : Fin 32) (e : t.val = T.val) :
    Inputs x T (iblk m c 0 t) (iblk m c 1 t) (iblk m c 2 t) (iblk m c 3 t) (iblk m c 4 t) (iblk m c 5 t) (iblk m c 6 t) (iblk m c 7 t) :=
  ⟨blk_0 H t T e, blk_1 H t T e, blk_2 H t T e, blk_3 H t T e, blk_4 H t T e, blk_5 H t T e, blk_6 H t T e, blk_7 H t T e⟩

theorem msk_eq (t : Fin cfg0.N) (T : Fin 32) (e : t.val = T.val) : msk t = k0_pay6 (BitVec.ofNat 32 T.val) := by
  unfold msk
  rw [coords1, e]

theorem dqO_read (H : Host m c x) (t : Fin cfg0.N) (r : Fin 128) (b : Fin 1024) :
    (dqO m c t (ix2 r b) : EReal) = ((x.dq (row ⟨min t.val 31, by omega⟩ r) b : ℝ) : EReal) := by
  unfold dqO dqT
  rw [cat8_read, msk_eq (here t.val) ⟨min t.val 31, by omega⟩ rfl]
  exact dqH_read (inputs H (here t.val) ⟨min t.val 31, by omega⟩ rfl) _ _ _

theorem ckP_read (H : Host m c x) (t : Fin cfg0.N) (T : Fin 32) (e : t.val = T.val) (r : Fin 128) (b : Fin 1024) :
    (ckP m c t (ix2 r b) : EReal) = ((∑ s, x.q (row T s) (hh b) (el b) * x.ds (hh b) (row T s) (row T r) : ℝ) : EReal) := by
  unfold ckP ckT
  rw [cat8_read, snd_read, msk_eq t T e]
  refine (dkH_read (inputs H t T e) _ _ _ (.inr (by show 128 ≤ 128 + r.val; omega))).trans ?_
  rw [key_own]

theorem dkO_read (H : Host m c x) (t : Fin cfg0.N) (h0 : 0 < t.val) (r : Fin 128) (b : Fin 1024) :
    (dkO m c t (ix2 r b) : EReal) = ((x.dk (row ⟨t.val - 1, lt33 t⟩ r) b : ℝ) : EReal) := by
  have hs := sum_queries ⟨t.val - 1, lt33 t⟩ r
    (fun i => x.q i (hh b) (el b) * x.ds (hh b) i (row ⟨t.val - 1, lt33 t⟩ r)) fun i hi => by rw [x.ds_not _ _ _ hi, mul_zero]
  have hp : (prev t.val).val = t.val - 1 := by have := lt33 t; show min (t.val - 1) 31 = _; omega
  have hc := ckP_read H (prev t.val) ⟨t.val - 1, lt33 t⟩ hp r b
  unfold dkO ckAt Reals.dk
  rw [if_neg (by omega : ¬ t.val = 0), hs]
  by_cases h : t.val < 32
  · have e : t.val - 1 + 1 = t.val := by omega
    rw [if_pos h, dif_pos (by show t.val - 1 + 1 < 32; omega), EReal.coe_add]
    unfold dkT
    refine (congrArg₂ (· + ·) hc ?_ : _ = (_ + _ : EReal))
    rw [cat8_read, fst_read, msk_eq t ⟨t.val, h⟩ rfl]
    refine (dkH_read (inputs H t ⟨t.val, h⟩ rfl) _ _ _ (.inl h0)).trans (congrArg _ (Finset.sum_congr rfl fun s _ => ?_))
    rw [key_prev]
    simp only [e]
    rfl
  · rw [if_neg h, dif_neg (by show ¬ (t.val - 1 + 1 < 32); omega), add_zero]
    exact hc

theorem cvP_read (H : Host m c x) (t : Fin cfg0.N) (T : Fin 32) (e : t.val = T.val) (r : Fin 128) (b : Fin 1024) :
    (cvP m c t (ix2 r b) : EReal) = ((∑ s, x.g (row T s) (hh b) (el b) * x.pk (hh b) (row T s) (row T r) : ℝ) : EReal) := by
  unfold cvP cvT
  rw [cat8_read, snd_read, msk_eq t T e]
  refine (dvH_read (inputs H t T e) _ _ _ (.inr (by show 128 ≤ 128 + r.val; omega))).trans ?_
  rw [key_own]

theorem dvO_read (H : Host m c x) (t : Fin cfg0.N) (h0 : 0 < t.val) (r : Fin 128) (b : Fin 1024) :
    (dvO m c t (ix2 r b) : EReal) = ((x.dv (row ⟨t.val - 1, lt33 t⟩ r) b : ℝ) : EReal) := by
  have hs := sum_queries ⟨t.val - 1, lt33 t⟩ r
    (fun i => x.g i (hh b) (el b) * x.pk (hh b) i (row ⟨t.val - 1, lt33 t⟩ r)) fun i hi => by rw [x.pk_not _ _ _ hi, mul_zero]
  have hp : (prev t.val).val = t.val - 1 := by have := lt33 t; show min (t.val - 1) 31 = _; omega
  have hc := cvP_read H (prev t.val) ⟨t.val - 1, lt33 t⟩ hp r b
  unfold dvO cvAt Reals.dv
  rw [if_neg (by omega : ¬ t.val = 0), hs]
  by_cases h : t.val < 32
  · have e : t.val - 1 + 1 = t.val := by omega
    rw [if_pos h, dif_pos (by show t.val - 1 + 1 < 32; omega), EReal.coe_add]
    unfold dvT
    refine (congrArg₂ (· + ·) hc ?_ : _ = (_ + _ : EReal))
    rw [cat8_read, fst_read, msk_eq t ⟨t.val, h⟩ rfl]
    refine (dvH_read (inputs H t ⟨t.val, h⟩ rfl) _ _ _ (.inl h0)).trans (congrArg _ (Finset.sum_congr rfl fun s _ => ?_))
    rw [key_prev]
    simp only [e]
    rfl
  · rw [if_neg h, dif_neg (by show ¬ (t.val - 1 + 1 < 32); omega), add_zero]
    exact hc

theorem fl_8 (H : Host m c x) (t : Fin cfg0.N) :
    (dats m 0 c).flushed 8 t = ((cfg0.win 8).blk t).view.read (Elt Ideal) (ar x.dq) := by
  show (cfg0.win 8).cut (grid0.coords t) ((dats m 0 c).after 8 t) = _
  rw [after0_8]
  funext y
  rw [View.read_apply]
  refine ((congrArg (dqO m c t) (?_ : _ = ix2 (n0 := 128) (n1 := 1024) (y 0) (y 1))).trans (dqO_read H t (y 0) (y 1))).trans
    (congrArg (ar x.dq) (?_ : ix2 (row ⟨min t.val 31, by omega⟩ (y 0)) (y 1) = _))
  · funext a
    match a with
    | ⟨0, _⟩ => rfl
    | ⟨1, _⟩ => rfl
  funext a; apply Fin.ext
  match a with
  | ⟨0, _⟩ => show 128 * min t.val 31 + (y 0).val = win0_8.index t 0 * 128 + 1 * (y 0).val; rw [(ix_8 t).1]; omega
  | ⟨1, _⟩ => show (y 1).val = win0_8.index t 1 * 1024 + 1 * (y 1).val; rw [(ix_8 t).2]; omega

theorem arr_8 (H : Host m c x) : ((dats m 0 c).arrAt 8 cfg0.N : S4096x1024.Idx → EReal) = ar x.dq :=
  Dat.arrAt_eq_of_cover _ 8 _ (fun t _ => fl_8 H t) fun i => by
  have hN : cfg0.N = 33 := N_0
  have h0 : (i 0 : ℕ) < 4096 := (i 0).isLt
  have h1 : (i 1 : ℕ) < 1024 := (i 1).isLt
  obtain ⟨t, ht, ht31⟩ : ∃ t : Fin cfg0.N, min t.val 31 = (i 0 : ℕ) / 128 ∧ t.val ≠ 31 := by
    by_cases h : (i 0 : ℕ) / 128 = 31
    · exact ⟨⟨32, by omega⟩, h.symm, by show (32 : ℕ) ≠ 31; omega⟩
    · exact ⟨⟨(i 0 : ℕ) / 128, by omega⟩, by show min ((i 0 : ℕ) / 128) 31 = _; omega, h⟩
  refine ⟨t, fl_at_8 t ht31, ?_⟩
  show i ∈ ((View.whole main_v80_0).slice (win0_8.rect t)).set
  rw [View.set_slice_whole, Rect.mem_set_unit]
  intro a
  match a with
  | ⟨0, _⟩ =>
    show win0_8.index _ 0 * 128 ≤ (i 0 : ℕ) ∧ (i 0 : ℕ) < win0_8.index _ 0 * 128 + win0_8.xsize (grid0.coords _) 0
    rw [(ix_8 _).1, (xs_8 _).1, ht]; omega
  | ⟨1, _⟩ =>
    show win0_8.index _ 1 * 1024 ≤ (i 1 : ℕ) ∧ (i 1 : ℕ) < win0_8.index _ 1 * 1024 + win0_8.xsize (grid0.coords _) 1
    rw [(ix_8 _).2, (xs_8 _).2]; omega

theorem fl_9 (H : Host m c x) (t : Fin cfg0.N) (h0 : 0 < t.val) :
    (dats m 0 c).flushed 9 t = ((cfg0.win 9).blk t).view.read (Elt Ideal) (ar x.dk) := by
  show (cfg0.win 9).cut (grid0.coords t) ((dats m 0 c).after 9 t) = _
  rw [after0_9]
  funext y
  rw [View.read_apply]
  refine ((congrArg (dkO m c t) (?_ : _ = ix2 (n0 := 128) (n1 := 1024) (y 0) (y 1))).trans (dkO_read H t h0 (y 0) (y 1))).trans
    (congrArg (ar x.dk) (?_ : ix2 (row ⟨t.val - 1, lt33 t⟩ (y 0)) (y 1) = _))
  · funext a
    match a with
    | ⟨0, _⟩ => rfl
    | ⟨1, _⟩ => rfl
  funext a; apply Fin.ext
  match a with
  | ⟨0, _⟩ => show 128 * (t.val - 1) + (y 0).val = win0_9.index t 0 * 128 + 1 * (y 0).val; rw [(ix_9 t).1]; omega
  | ⟨1, _⟩ => show (y 1).val = win0_9.index t 1 * 1024 + 1 * (y 1).val; rw [(ix_9 t).2]; omega

theorem arr_9 (H : Host m c x) : ((dats m 0 c).arrAt 9 cfg0.N : S4096x1024.Idx → EReal) = ar x.dk :=
  Dat.arrAt_eq_of_cover _ 9 _ (fun t h => fl_9 H t (fl_pos_9 t h)) fun i => by
  have hN : cfg0.N = 33 := N_0
  have h0 : (i 0 : ℕ) < 4096 := (i 0).isLt
  have h1 : (i 1 : ℕ) < 1024 := (i 1).isLt
  obtain ⟨t, ht, htp⟩ : ∃ t : Fin cfg0.N, t.val - 1 = (i 0 : ℕ) / 128 ∧ 0 < t.val :=
    ⟨⟨(i 0 : ℕ) / 128 + 1, by omega⟩, by show (i 0 : ℕ) / 128 + 1 - 1 = _; omega, by show 0 < (i 0 : ℕ) / 128 + 1; omega⟩
  refine ⟨t, fl_at_9 t htp, ?_⟩
  show i ∈ ((View.whole main_v80_1).slice (win0_9.rect t)).set
  rw [View.set_slice_whole, Rect.mem_set_unit]
  intro a
  match a with
  | ⟨0, _⟩ =>
    show win0_9.index _ 0 * 128 ≤ (i 0 : ℕ) ∧ (i 0 : ℕ) < win0_9.index _ 0 * 128 + win0_9.xsize (grid0.coords _) 0
    rw [(ix_9 _).1, (xs_9 _).1, ht]; omega
  | ⟨1, _⟩ =>
    show win0_9.index _ 1 * 1024 ≤ (i 1 : ℕ) ∧ (i 1 : ℕ) < win0_9.index _ 1 * 1024 + win0_9.xsize (grid0.coords _) 1
    rw [(ix_9 _).2, (xs_9 _).2]; omega

theorem fl_10 (H : Host m c x) (t : Fin cfg0.N) (h0 : 0 < t.val) :
    (dats m 0 c).flushed 10 t = ((cfg0.win 10).blk t).view.read (Elt Ideal) (ar x.dv) := by
  show (cfg0.win 10).cut (grid0.coords t) ((dats m 0 c).after 10 t) = _
  rw [after0_10]
  funext y
  rw [View.read_apply]
  refine ((congrArg (dvO m c t) (?_ : _ = ix2 (n0 := 128) (n1 := 1024) (y 0) (y 1))).trans (dvO_read H t h0 (y 0) (y 1))).trans
    (congrArg (ar x.dv) (?_ : ix2 (row ⟨t.val - 1, lt33 t⟩ (y 0)) (y 1) = _))
  · funext a
    match a with
    | ⟨0, _⟩ => rfl
    | ⟨1, _⟩ => rfl
  funext a; apply Fin.ext
  match a with
  | ⟨0, _⟩ => show 128 * (t.val - 1) + (y 0).val = win0_10.index t 0 * 128 + 1 * (y 0).val; rw [(ix_10 t).1]; omega
  | ⟨1, _⟩ => show (y 1).val = win0_10.index t 1 * 1024 + 1 * (y 1).val; rw [(ix_10 t).2]; omega

theorem arr_10 (H : Host m c x) : ((dats m 0 c).arrAt 10 cfg0.N : S4096x1024.Idx → EReal) = ar x.dv :=
  Dat.arrAt_eq_of_cover _ 10 _ (fun t h => fl_10 H t (fl_pos_10 t h)) fun i => by
  have hN : cfg0.N = 33 := N_0
  have h0 : (i 0 : ℕ) < 4096 := (i 0).isLt
  have h1 : (i 1 : ℕ) < 1024 := (i 1).isLt
  obtain ⟨t, ht, htp⟩ : ∃ t : Fin cfg0.N, t.val - 1 = (i 0 : ℕ) / 128 ∧ 0 < t.val :=
    ⟨⟨(i 0 : ℕ) / 128 + 1, by omega⟩, by show (i 0 : ℕ) / 128 + 1 - 1 = _; omega, by show 0 < (i 0 : ℕ) / 128 + 1; omega⟩
  refine ⟨t, fl_at_10 t htp, ?_⟩
  show i ∈ ((View.whole main_v80_2).slice (win0_10.rect t)).set
  rw [View.set_slice_whole, Rect.mem_set_unit]
  intro a
  match a with
  | ⟨0, _⟩ =>
    show win0_10.index _ 0 * 128 ≤ (i 0 : ℕ) ∧ (i 0 : ℕ) < win0_10.index _ 0 * 128 + win0_10.xsize (grid0.coords _) 0
    rw [(ix_10 _).1, (xs_10 _).1, ht]; omega
  | ⟨1, _⟩ =>
    show win0_10.index _ 1 * 1024 ≤ (i 1 : ℕ) ∧ (i 1 : ℕ) < win0_10.index _ 1 * 1024 + win0_10.xsize (grid0.coords _) 1
    rw [(ix_10 _).2, (xs_10 _).2]; omega

end Cert.Attn

end
-- ==== Proof.Attn.HostVal.lean ====
/- What the attention kernel's call is handed, as real numbers. -/
module

public import proofs.«01_k».proof.Proof.Attn.Host
public import proofs.«01_k».proof.Proof.Attn.KArr

@[expose] public section

set_option maxRecDepth 16384
set_option backward.isDefEq.respectTransparency false

noncomputable section

namespace Cert.Attn

open Cert.Kernel2Ideal Cert.Kernel2Ideal.Gen Idealize.ShloMosaic Idealize.ShloMosaic.TcCoe Idealize.ShloMosaic.StableHlo

variable {x : Reals}

/-! ## Each step's entries -/

theorem lseA_read (m l : FVec Ideal S8x4096x1 .f32) (z : Fin 1) (i : Fin 4096) (h : Fin 8) :
    (lseA m l (ix3 z i h) : EReal) = m (ix3 h i 0) + Ideal.log (l (ix3 h i 0)) := by
  unfold lseA
  pointwise

theorem three_read (A : FVec Ideal S1x4096x8 .f32) (B : FVec Ideal S2x4096x8 .f32) (r : Fin 3) (i : Fin 4096) (h : Fin 8) :
    three A B (ix3 r i h) = if c : r.val < 1 then A (ix3 ⟨r.val, c⟩ i h) else B (ix3 ⟨r.val - 1, by omega⟩ i h) := by
  unfold three
  pointwise

theorem topA_read (l : FVec Ideal S3x4096x8 .f32) (i : Fin 4096) (h : Fin 8) :
    (topA l (ix2 i h) : EReal) = (Finset.univ : Finset (Fin 3)).fold max ⊥ fun r => at3 l r i h := by
  unfold topA
  pointwise
  rw [ofBits_bot]
  rfl

theorem totA_read {l : FVec Ideal S3x4096x8 .f32} {t : FVec Ideal S4096x8 .f32}
    (hl : ∀ r i h, (l (ix3 r i h) : EReal) = ((x.lr r i h : ℝ) : EReal)) (ht : ∀ i h, (t (ix2 i h) : EReal) = ((x.t i h : ℝ) : EReal))
    (i : Fin 4096) (h : Fin 8) : (totA l t (ix2 i h) : EReal) = ((x.total i h : ℝ) : EReal) := by
  unfold totA Reals.total
  pointwise [hl, ht]
  simp only [← EReal.coe_sub, Ideal.exp_coe]
  rw [sum_coe, log_real, ← EReal.coe_add]
  · rfl
  · exact x.s_pos i h

theorem expA_read {l : FVec Ideal S3x4096x8 .f32}
    (hl : ∀ r i h, (l (ix3 r i h) : EReal) = ((x.lr r i h : ℝ) : EReal)) (ht : ∀ i h, (topA l (ix2 i h) : EReal) = ((x.t i h : ℝ) : EReal))
    (r : Fin 3) (i : Fin 4096) (h : Fin 8) : (expA l (ix3 r i h) : EReal) = ((x.ee r i h : ℝ) : EReal) := by
  unfold expA Reals.ee
  pointwise [hl, ht, ofBits_bot]
  rw [max_eq_right bot_le, ← EReal.coe_sub, Ideal.exp_coe]

theorem wA_read {e : FVec Ideal S3x4096x8 .f32} (he : ∀ r i h, (e (ix3 r i h) : EReal) = ((x.ee r i h : ℝ) : EReal))
    (r : Fin 3) (i : Fin 4096) (h : Fin 8) : (wA e (ix3 r i h) : EReal) = ((x.w r i h : ℝ) : EReal) := by
  unfold wA
  pointwise [he]
  rw [sum_coe]
  exact div_real (x.s_pos i h).ne'

theorem omA_read {w : FVec Ideal S3x4096x8 .f32} {o : FVec Ideal S4096x8x128 .f32} {r : FVec Ideal S2x4096x8x128 .f32}
    (hw : ∀ r i h, (w (ix3 r i h) : EReal) = ((x.w r i h : ℝ) : EReal)) (ho : ∀ i h e, (o (ix3 i h e) : EReal) = ((x.og i h e : ℝ) : EReal))
    (hr : ∀ a i h e, (r (ix4 a i h e) : EReal) = ((x.o a i h e : ℝ) : EReal)) (i : Fin 4096) (h : Fin 8) (e : Fin 128) :
    (omA w o r (ix3 i h e) : EReal) = ((x.om i h e : ℝ) : EReal) := by
  unfold omA Reals.om
  pointwise [hw, ho, hr]
  simp only [← EReal.coe_mul]
  rw [sum_coe, ← EReal.coe_add]
  refine congrArg _ (congrArg _ (Finset.sum_congr rfl fun a _ => congrArg (· * x.o a i h e) (congrArg (x.w · i h) (Fin.ext ?_))))
  simp [Fin.val_succ, Nat.add_comm]

theorem deltaA_read {g o : FVec Ideal S4096x8x128 .f32} (hg : ∀ i h e, (g (ix3 i h e) : EReal) = ((x.g i h e : ℝ) : EReal))
    (ho : ∀ i h e, (o (ix3 i h e) : EReal) = ((x.om i h e : ℝ) : EReal)) (i : Fin 4096) (h : Fin 8) :
    (deltaA g o (ix2 i h) : EReal) = ((x.delta i h : ℝ) : EReal) := by
  unfold deltaA
  pointwise [hg, ho]
  simp only [← EReal.coe_mul]
  exact sum_coe _ _

theorem lanesA_read (a : FVec Ideal S4096x8 .f32) (i : Fin 4096) (c : Fin 1024) : lanesA a (ix2 i c) = a (ix2 i (hh c)) := by
  unfold lanesA
  pointwise
  rfl

theorem flatA_read (a : FVec Ideal S4096x8x128 .f32) (i : Fin 4096) (c : Fin 1024) : flatA a (ix2 i c) = a (ix3 i (hh c) (el c)) := by
  unfold flatA
  pointwise
  rfl

theorem roundA_read (a : FVec Ideal S4096x1024 .f32) (i : Fin 4096) (c : Fin 1024) : (roundA a (ix2 i c) : EReal) = a (ix2 i c) := by
  unfold roundA
  pointwise

theorem side_read (a b d : FVec Ideal S4096x1024 .f32) (i : Fin 4096) (c : Fin 1024) :
    (side a b d (ix2 i (⟨c.val, by omega⟩ : Fin 3072)) : EReal) = a (ix2 i c)
      ∧ (side a b d (ix2 i (⟨1024 + c.val, by omega⟩ : Fin 3072)) : EReal) = b (ix2 i c)
      ∧ (side a b d (ix2 i (⟨2048 + c.val, by omega⟩ : Fin 3072)) : EReal) = d (ix2 i c) := by
  unfold side
  refine ⟨?_, ?_, ?_⟩
  · pointwise
  · pointwise
  · pointwise
    rw [dif_neg (by show ¬ (2048 + c.val < 1024); omega), dif_neg (by show ¬ (2048 + c.val - 1024 < 1024); omega)]
    exact congrArg (fun k => d (ix2 i k)) (Fin.ext (by show 2048 + c.val - 1024 - 1024 = c.val; omega))

/-! ## The call's inputs -/

variable {m : (ℓ : Loc nD τ sig) → Buf (Elt Ideal) ℓ} {c : Dev nD}
    {V0 : Valuation Cert.Reference2Ideal.τ Cert.Reference2Ideal.sig (Elt Ideal)}

/-- The merged maxima of the same three logarithms. -/
theorem top_read (R : Reads V0 x) {l : FVec Ideal S3x4096x8 .f32} (hl : ∀ r i h, (l (ix3 r i h) : EReal) = ((x.lr r i h : ℝ) : EReal))
    (i : Fin 4096) (h : Fin 8) : (topA l (ix2 i h) : EReal) = ((x.t i h : ℝ) : EReal) := by
  rw [topA_read, ← R.t, v42_fold]
  exact congrArg (fun f => (Finset.univ : Finset (Fin 3)).fold max ⊥ f)
    (funext fun r => (hl r i h).trans (v40 R.toReads1 r i h).symm)

theorem host (S : Same m c V0) (R : Reads V0 x) : Host m c x := by
  have a0 : V m c main_arg0 = V0 (Proc.devRef .tc Cert.Reference2Ideal.main_arg0) := (V_main_arg0 m c).trans S.a0
  have a1 : V m c main_arg1 = V0 (Proc.devRef .tc Cert.Reference2Ideal.main_arg1) := (V_main_arg1 m c).trans S.a1
  have a2 : V m c main_arg2 = V0 (Proc.devRef .tc Cert.Reference2Ideal.main_arg2) := (V_main_arg2 m c).trans S.a2
  have a3 : V m c main_arg3 = V0 (Proc.devRef .tc Cert.Reference2Ideal.main_arg3) := (V_main_arg3 m c).trans S.a3
  have a4 : V m c main_arg4 = V0 (Proc.devRef .tc Cert.Reference2Ideal.main_arg4) := (V_main_arg4 m c).trans S.a4
  have a5 : V m c main_arg5 = V0 (Proc.devRef .tc Cert.Reference2Ideal.main_arg5) := (V_main_arg5 m c).trans S.a5
  have hl : ∀ r i h, (three (lseA (V m c main_v17) (V m c main_v22)) (V m c main_arg4) (ix3 r i h) : EReal) = ((x.lr r i h : ℝ) : EReal) := by
    intro r i h
    rw [three_read]
    unfold Reals.lr
    by_cases k : r.val < 1
    · rw [dif_pos k, dif_pos k, lseA_read, h17 S, h22 S]
      rw [v22 R.toReads1, v27 R.toReads1, log_real (x.l_pos h i), ← EReal.coe_add]
    · rw [dif_neg k, dif_neg k, a4]
      exact R.a _ _ _
  have l32 := s32 (m := m) (c := c) _ _ s31.symm rfl
  have l56 := s56 (m := m) (c := c) _ _ s55.symm rfl
  have ht := top_read R hl
  have hg : ∀ i h e, (V m c main_arg5 (ix3 i h e) : EReal) = ((x.g i h e : ℝ) : EReal) := by rw [a5]; exact R.g
  have ho : ∀ i h e, (V m c main_v26 (ix3 i h e) : EReal) = ((x.og i h e : ℝ) : EReal) := by rw [h26 S]; exact v34 R.toReads1
  have hr : ∀ a i h e, (V m c main_arg3 (ix4 a i h e) : EReal) = ((x.o a i h e : ℝ) : EReal) := by rw [a3]; exact R.o
  have hq : ∀ i h e, (V m c main_arg0 (ix3 i h e) : EReal) = ((x.q i h e : ℝ) : EReal) := by rw [a0]; exact R.q
  have hk : ∀ i h e, (V m c main_arg1 (ix3 i h e) : EReal) = ((x.k i h e : ℝ) : EReal) := by rw [a1]; exact R.k
  have hv : ∀ i h e, (V m c main_arg2 (ix3 i h e) : EReal) = ((x.v i h e : ℝ) : EReal) := by rw [a2]; exact R.v
  constructor
  · intro i b
    rw [s71, s67, s68, s69]
    exact (side_read _ _ _ i b).1.trans ((flatA_read _ i b).trans (hq _ _ _))
  · intro i b
    rw [s71, s67, s68, s69]
    exact (side_read _ _ _ i b).2.1.trans ((flatA_read _ i b).trans (hk _ _ _))
  · intro i b
    rw [s71, s67, s68, s69]
    exact (side_read _ _ _ i b).2.2.trans ((flatA_read _ i b).trans (hv _ _ _))
  · intro i b
    rw [s73]
    exact (roundA_read _ i b).trans ((flatA_read _ i b).trans (hg _ _ _))
  · intro i b
    rw [s76, s64, s57, l56]
    exact (lanesA_read _ i b).trans (totA_read hl ht _ _)
  · intro i b
    rw [s79, s66, s54, s43, s39, l32]
    exact (lanesA_read _ i b).trans (deltaA_read hg (omA_read (wA_read (expA_read hl ht)) ho hr) _ _)

end Cert.Attn

end
-- ==== Proof.Attn.RefOut.lean ====
/- The attention reference's three results, entry by entry. -/
module

public import proofs.«01_k».proof.Proof.Attn.RefVal

@[expose] public section

set_option maxRecDepth 16384
set_option backward.isDefEq.respectTransparency false

noncomputable section

namespace Cert.Attn

open Cert.Reference2Ideal Cert.Reference2Ideal.Gen Cert.Reference2Ideal.Value Idealize.ShloMosaic Idealize.ShloMosaic.TcCoe Idealize.SL.Sem Idealize.ShloMosaic.StableHlo

/-- Heads side by side. -/
theorem flat_read (A : FVec Ideal S4096x8x128 .f32) (i : Fin 4096) (c : Fin 1024) :
    (truncf (F := Ideal) .bf16 (shapeCast S4096x1024 A shapeCasts_S4096x8x128_S4096x1024) bitsLt_bf16_f32 (ix2 i c) : EReal) = A (ix3 i (hh c) (el c)) := by
  pointwise []
  rfl

variable {V0 : Valuation τ sig (Elt Ideal)} {x : Reals}

theorem dq_ref (R : Reads V0 x) (i : Fin 4096) (c : Fin 1024) :
    ((truncf (F := Ideal) .bf16 (shapeCast S4096x1024 (transpose S4096x8x128 [1, 0, 2] (Host.dotGeneral dot_S8x4096x4096_S4096x8x128_S8x4096x128_2_0_1_2_0_1 none (φ₁ := .f32) (φ₂ := .f32) (res_main_v142 V0) (V0 (Proc.devRef .tc main_arg1))) transposes_S8x4096x128_S4096x8x128_1_0_2) shapeCasts_S4096x8x128_S4096x1024) bitsLt_bf16_f32 : FVec Ideal S4096x1024 .bf16) (ix2 i c) : EReal)
      = ((x.dq i c : ℝ) : EReal) := by
  refine (flat_read _ i c).trans ?_
  pointwise [v142 R, R.k]
  simp only [← EReal.coe_mul]
  exact sum_coe _ _

theorem dk_ref (R : Reads V0 x) (j : Fin 4096) (c : Fin 1024) :
    ((truncf (F := Ideal) .bf16 (shapeCast S4096x1024 (transpose S4096x8x128 [1, 0, 2] (Host.dotGeneral dot_S8x4096x4096_S4096x8x128_S8x4096x128_1_0_2_2_0_1 none (φ₁ := .f32) (φ₂ := .f32) (res_main_v142 V0) (V0 (Proc.devRef .tc main_arg0))) transposes_S8x4096x128_S4096x8x128_1_0_2) shapeCasts_S4096x8x128_S4096x1024) bitsLt_bf16_f32 : FVec Ideal S4096x1024 .bf16) (ix2 j c) : EReal)
      = ((x.dk j c : ℝ) : EReal) := by
  refine (flat_read _ j c).trans ?_
  pointwise [v142 R, R.q]
  simp only [← EReal.coe_mul, mul_comm (x.ds _ _ _)]
  exact sum_coe _ _

theorem dv_ref (R : Reads V0 x) (j : Fin 4096) (c : Fin 1024) :
    ((truncf (F := Ideal) .bf16 (shapeCast S4096x1024 (transpose S4096x8x128 [2, 0, 1] (Host.dotGeneral dot_S8x128x4096_S8x4096x4096_S8x128x4096_2_1_1_2_0_0 none (φ₁ := .f32) (φ₂ := .f32) (res_main_v116 V0) (res_main_v29 V0)) transposes_S8x128x4096_S4096x8x128_2_0_1) shapeCasts_S4096x8x128_S4096x1024) bitsLt_bf16_f32 : FVec Ideal S4096x1024 .bf16) (ix2 j c) : EReal)
      = ((x.dv j c : ℝ) : EReal) := by
  refine (flat_read _ j c).trans ?_
  pointwise [v116 R, v29 R.toReads1]
  simp only [← EReal.coe_mul]
  refine (sum_coe _ _).trans (congrArg _ (Finset.sum_congr rfl fun i _ => ?_))
  rw [x.pk_eq]
  ring

end Cert.Attn

end
-- ==== Proof.Attn.Value.lean ====
/- The attention claim: on finite arguments the kernel's three results and the reference's are the same arrays. -/
module

public import proofs.«01_k».proof.Defs
public import proofs.«01_k».proof.Proof.Attn.Pre
public import proofs.«01_k».proof.Proof.Attn.HostVal
public import proofs.«01_k».proof.Proof.Attn.KArr
public import proofs.«01_k».proof.Proof.Attn.RefOut

@[expose] public section

set_option maxRecDepth 16384
set_option backward.isDefEq.respectTransparency false

noncomputable section

namespace Cert.Attn

open Idealize.ShloMosaic Idealize.ShloMosaic.TcCoe Idealize.ShloMosaic.StableHlo Idealize.SL.Sem

/-- The reference's run leaves its arguments and has no counter. -/
theorem ref_quiet (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0 :=
  (θ_run Cert.Reference2Ideal.defs _ _).mono (fun r h => ⟨fun c => (h c).2.2.2, sem_eq_zero_of_no_sems (by decide) r.2⟩)
    (Cert.Reference2Ideal.Value.run m ρ)

/-- Each of the kernel's three result windows holds, at the run's end, its array. -/
theorem results {m : (ℓ : Loc Cert.Kernel2Ideal.nD Cert.Kernel2Ideal.τ Cert.Kernel2Ideal.sig) → Buf (Elt Ideal) ℓ}
    {x : Dev Cert.Kernel2Ideal.nD → Reals} (H : ∀ c, Host m c (x c)) (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩ fun r => ∀ c : Dev Cert.Kernel2Ideal.nD,
      r.2.mem ((c.tc : Thread Cert.Kernel2Ideal.nD Cert.Kernel2Ideal.τ).loc Cert.Kernel2Ideal.main_v80_0) = ar (x c).dq
      ∧ r.2.mem ((c.tc : Thread Cert.Kernel2Ideal.nD Cert.Kernel2Ideal.τ).loc Cert.Kernel2Ideal.main_v80_1) = ar (x c).dk
      ∧ r.2.mem ((c.tc : Thread Cert.Kernel2Ideal.nD Cert.Kernel2Ideal.τ).loc Cert.Kernel2Ideal.main_v80_2) = ar (x c).dv
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5) :=
  (θ_run Cert.Kernel2Ideal.defs _ _).mono (fun r h c =>
    ⟨((h.1 c).1 8).trans (arr_8 (H c)), ((h.1 c).1 9).trans (arr_9 (H c)), ((h.1 c).1 10).trans (arr_10 (H c)),
      Cert.Kernel2Ideal.Gen.args_of m (Cert.Kernel2Ideal.Gen.dats m) r h.1 c⟩) (Cert.Kernel2Ideal.Gen.run_main_quiescent m ρ)

/-- Two arrays with the same real entries are one. -/
theorem eq_ar {v : FVec Ideal Cert.Kernel2Ideal.S4096x1024 .bf16} {A : Fin 4096 → Fin 1024 → ℝ}
    (h : ∀ i c, (v (ix2 i c) : EReal) = ((A i c : ℝ) : EReal)) : v = ar A :=
  funext fun i => by
    rw [eq_ix2 i]
    exact h (i 0) (i 1)

theorem value : Cert.algebraic_Kernel2Ideal_Reference2Ideal_pre_finite2 (hKernel2Ideal := Cert.Kernel2Ideal.Gen.facts)
    (hReference2Ideal := Cert.Reference2Ideal.Gen.facts) (hPre_finite2 := preFacts) := by
  intro m ρ m' ρ' hp ha
  have S : ∀ c, Same m c (launchContents m' c) := fun c =>
    ⟨(ha c).1.symm, (ha c).2.1.symm, (ha c).2.2.1.symm, (ha c).2.2.2.1.symm, (ha c).2.2.2.2.1.symm, (ha c).2.2.2.2.2.symm⟩
  have key : ∀ c, ∃ y, Reads (launchContents m' c) y := fun c => reads_of_pre _ (by
    rw [← (S c).a0, ← (S c).a1, ← (S c).a2, ← (S c).a3, ← (S c).a4, ← (S c).a5]
    exact hp c)
  choose y R using key
  refine ⟨fun c => ar (y c).dq, fun c => ar (y c).dk, fun c => ar (y c).dv, results (fun c => host (S c) (R c)) ρ, ?_⟩
  refine (θ_run Cert.Reference2Ideal.defs _ _).mono (fun r h c => ?_) (Cert.Reference2Ideal.Value.run m' ρ')
  obtain ⟨h0, h1, h2, hargs⟩ := h c
  exact ⟨h0.trans (eq_ar (dq_ref (R c))), h1.trans (eq_ar (dk_ref (R c))), h2.trans (eq_ar (dv_ref (R c))), hargs⟩

end Cert.Attn

end
-- ==== Proof.Prod.Ideal.lean ====
/- The side conditions of the two weight products' program. -/
module

public import proofs.«01_k».proof.Kernel3Ideal
public import Idealize.ShloMosaic.Lib.Affine
public import Idealize.ShloMosaic.Lib.Decide
public import Idealize.ShloMosaic.Lib.Exec

@[expose] public section

set_option synthInstance.maxSize 4096
set_option Elab.async false

namespace Cert.Kernel3Ideal.Gen

open Idealize.ShloMosaic Idealize.SL.Sem

theorem bitsLt_bf16_f32 : FTy.bits .bf16 < FTy.bits .f32 := by decide
theorem inb_S4096x1024_S4096x1024_0_0 : ∀ a, (![0, 0] : Fin 2 → Nat) a + S4096x1024.size a ≤ S4096x1024.size a := by decide
theorem h_S4096x1024 : 0 < S4096x1024.numel := by decide
theorem shapeCasts_S4096x1024_S4096x1024 : S4096x1024.ShapeCasts S4096x1024 := by decide
theorem inb_S4096x256_S4096x256_0_0 : ∀ a, (![0, 0] : Fin 2 → Nat) a + S4096x256.size a ≤ S4096x256.size a := by decide
theorem h_S4096x256 : 0 < S4096x256.numel := by decide
theorem inb_S1024x256_S1024x256_0_0 : ∀ a, (![0, 0] : Fin 2 → Nat) a + S1024x256.size a ≤ S1024x256.size a := by decide
theorem h_S1024x256 : 0 < S1024x256.numel := by decide
theorem packedbf16_S1024x256_S1024x256_0_0 : (Rect.unit (s := S1024x256) ![0, 0] S1024x256.size inb_S1024x256_S1024x256_0_0).PackedRows (EltTy.packing .bf16) := by decide
theorem inb_S4096x512_S4096x512_0_0 : ∀ a, (![0, 0] : Fin 2 → Nat) a + S4096x512.size a ≤ S4096x512.size a := by decide
theorem h_S4096x512 : 0 < S4096x512.numel := by decide
theorem shapeCasts_S4096x512_S4096x512 : S4096x512.ShapeCasts S4096x512 := by decide
theorem inb_S1024x512_S1024x512_0_0 : ∀ a, (![0, 0] : Fin 2 → Nat) a + S1024x512.size a ≤ S1024x512.size a := by decide
theorem h_S1024x512 : 0 < S1024x512.numel := by decide
theorem packedbf16_S1024x512_S1024x512_0_0 : (Rect.unit (s := S1024x512) ![0, 0] S1024x512.size inb_S1024x512_S1024x512_0_0).PackedRows (EltTy.packing .bf16) := by decide
theorem dot_S4096x1024_S4096x256_S1024x256_0_0_1_1_n_n_wf : DotDims.WF S4096x1024 S4096x256 S1024x256 [0] [0] [1] [1] [] [] := by decide
theorem dot_S4096x1024_S4096x512_S1024x512_0_0_1_1_n_n_wf : DotDims.WF S4096x1024 S4096x512 S1024x512 [0] [0] [1] [1] [] [] := by decide
theorem hrank0 : 0 < grid0.rank := by decide
theorem hstage0_0 : ∀ j, (stage0_0 j).IsWhole := fun | 0 => Memref.isWhole_whole _ | ⟨_ + 1, h⟩ => absurd h (Nat.not_lt.2 (Nat.le_add_left _ _))
theorem nbuf0_0 : grid0.bufCount reads0_0 false = 1 := by decide
theorem hreads0_0 : ∀ i i' : grid0.Coords, (∀ a, reads0_0 a = true → i a = i' a) → cc0_transform_0 i = cc0_transform_0 i' := fun i i' h => by unfold cc0_transform_0; rw [h 0 rfl]
theorem hinb0_0 : ∀ (i : grid0.Coords) a, (cc0_transform_0 i a + 1) * S4096x1024.size a ≤ S4096x1024.size a := by decide +kernel
theorem hwx0_0 : ∀ i : grid0.Coords, EltTy.bits .bf16 = 32 ∨ (Rect.block (s := S4096x1024) S4096x1024.size (cc0_transform_0 i) (hinb0_0 i)).WholeWords (EltTy.packing .bf16) := fun _ => .inr (Affine.block_words_dvd (of_decide_eq_true rfl) (by decide))
theorem hstage0_1 : ∀ j, (stage0_1 j).IsWhole := fun | 0 => Memref.isWhole_whole _ | 1 => Memref.isWhole_whole _ | ⟨_ + 2, h⟩ => absurd h (Nat.not_lt.2 (Nat.le_add_left _ _))
theorem nbuf0_1 : grid0.bufCount reads0_1 false = 2 := by decide
theorem hreads0_1 : ∀ i i' : grid0.Coords, (∀ a, reads0_1 a = true → i a = i' a) → cc0_transform_1 i = cc0_transform_1 i' := fun i i' h => by unfold cc0_transform_1; rw [h 1 rfl]
theorem hinb0_1 : ∀ (i : grid0.Coords) a, (cc0_transform_1 i a + 1) * S4096x256.size a ≤ S4096x1024.size a := by decide +kernel
theorem hwx0_1 : ∀ i : grid0.Coords, EltTy.bits .f32 = 32 ∨ (Rect.block (s := S4096x1024) S4096x256.size (cc0_transform_1 i) (hinb0_1 i)).WholeWords (EltTy.packing .f32) := fun _ => .inl rfl
theorem hstage0_2 : ∀ j, (stage0_2 j).IsWhole := fun | 0 => Memref.isWhole_whole _ | 1 => Memref.isWhole_whole _ | ⟨_ + 2, h⟩ => absurd h (Nat.not_lt.2 (Nat.le_add_left _ _))
theorem nbuf0_2 : grid0.bufCount reads0_2 false = 2 := by decide
theorem hreads0_2 : ∀ i i' : grid0.Coords, (∀ a, reads0_2 a = true → i a = i' a) → cc0_transform_2 i = cc0_transform_2 i' := fun i i' h => by unfold cc0_transform_2; rw [h 1 rfl]
theorem hinb0_2 : ∀ (i : grid0.Coords) a, (cc0_transform_2 i a + 1) * S1024x256.size a ≤ S1024x1024.size a := by decide +kernel
theorem hwx0_2 : ∀ i : grid0.Coords, EltTy.bits .bf16 = 32 ∨ (Rect.block (s := S1024x1024) S1024x256.size (cc0_transform_2 i) (hinb0_2 i)).WholeWords (EltTy.packing .bf16) := fun _ => .inr (Affine.block_words_dvd (of_decide_eq_true rfl) (by decide))
theorem hrank1 : 0 < grid1.rank := by decide
theorem hstage1_0 : ∀ j, (stage1_0 j).IsWhole := fun | 0 => Memref.isWhole_whole _ | ⟨_ + 1, h⟩ => absurd h (Nat.not_lt.2 (Nat.le_add_left _ _))
theorem nbuf1_0 : grid1.bufCount reads1_0 false = 1 := by decide
theorem hreads1_0 : ∀ i i' : grid1.Coords, (∀ a, reads1_0 a = true → i a = i' a) → cc1_transform_0 i = cc1_transform_0 i' := fun i i' h => by unfold cc1_transform_0; rw [h 0 rfl]
theorem hinb1_0 : ∀ (i : grid1.Coords) a, (cc1_transform_0 i a + 1) * S4096x1024.size a ≤ S4096x1024.size a := by decide +kernel
theorem hwx1_0 : ∀ i : grid1.Coords, EltTy.bits .bf16 = 32 ∨ (Rect.block (s := S4096x1024) S4096x1024.size (cc1_transform_0 i) (hinb1_0 i)).WholeWords (EltTy.packing .bf16) := fun _ => .inr (Affine.block_words_dvd (of_decide_eq_true rfl) (by decide))
theorem hstage1_1 : ∀ j, (stage1_1 j).IsWhole := fun | 0 => Memref.isWhole_whole _ | 1 => Memref.isWhole_whole _ | ⟨_ + 2, h⟩ => absurd h (Nat.not_lt.2 (Nat.le_add_left _ _))
theorem nbuf1_1 : grid1.bufCount reads1_1 false = 2 := by decide
theorem hreads1_1 : ∀ i i' : grid1.Coords, (∀ a, reads1_1 a = true → i a = i' a) → cc1_transform_1 i = cc1_transform_1 i' := fun i i' h => by unfold cc1_transform_1; rw [h 1 rfl]
theorem hinb1_1 : ∀ (i : grid1.Coords) a, (cc1_transform_1 i a + 1) * S4096x512.size a ≤ S4096x2048.size a := by decide +kernel
theorem hwx1_1 : ∀ i : grid1.Coords, EltTy.bits .bf16 = 32 ∨ (Rect.block (s := S4096x2048) S4096x512.size (cc1_transform_1 i) (hinb1_1 i)).WholeWords (EltTy.packing .bf16) := fun _ => .inr (Affine.block_words_dvd (of_decide_eq_true rfl) (by decide))
theorem hstage1_2 : ∀ j, (stage1_2 j).IsWhole := fun | 0 => Memref.isWhole_whole _ | 1 => Memref.isWhole_whole _ | ⟨_ + 2, h⟩ => absurd h (Nat.not_lt.2 (Nat.le_add_left _ _))
theorem nbuf1_2 : grid1.bufCount reads1_2 false = 2 := by decide
theorem hreads1_2 : ∀ i i' : grid1.Coords, (∀ a, reads1_2 a = true → i a = i' a) → cc1_transform_2 i = cc1_transform_2 i' := fun i i' h => by unfold cc1_transform_2; rw [h 1 rfl]
theorem hinb1_2 : ∀ (i : grid1.Coords) a, (cc1_transform_2 i a + 1) * S1024x512.size a ≤ S1024x2048.size a := by decide +kernel
theorem hwx1_2 : ∀ i : grid1.Coords, EltTy.bits .bf16 = 32 ∨ (Rect.block (s := S1024x2048) S1024x512.size (cc1_transform_2 i) (hinb1_2 i)).WholeWords (EltTy.packing .bf16) := fun _ => .inr (Affine.block_words_dvd (of_decide_eq_true rfl) (by decide))

instance facts₀ : Cert.Kernel3Ideal.Facts₀ where
  bitsLt_bf16_f32 := @bitsLt_bf16_f32
  inb_S4096x1024_S4096x1024_0_0 := @inb_S4096x1024_S4096x1024_0_0
  h_S4096x1024 := @h_S4096x1024
  shapeCasts_S4096x1024_S4096x1024 := @shapeCasts_S4096x1024_S4096x1024
  inb_S4096x256_S4096x256_0_0 := @inb_S4096x256_S4096x256_0_0
  h_S4096x256 := @h_S4096x256
  inb_S1024x256_S1024x256_0_0 := @inb_S1024x256_S1024x256_0_0
  h_S1024x256 := @h_S1024x256
  packedbf16_S1024x256_S1024x256_0_0 := @packedbf16_S1024x256_S1024x256_0_0
  inb_S4096x512_S4096x512_0_0 := @inb_S4096x512_S4096x512_0_0
  h_S4096x512 := @h_S4096x512
  shapeCasts_S4096x512_S4096x512 := @shapeCasts_S4096x512_S4096x512
  inb_S1024x512_S1024x512_0_0 := @inb_S1024x512_S1024x512_0_0
  h_S1024x512 := @h_S1024x512
  packedbf16_S1024x512_S1024x512_0_0 := @packedbf16_S1024x512_S1024x512_0_0
  dot_S4096x1024_S4096x256_S1024x256_0_0_1_1_n_n_wf := @dot_S4096x1024_S4096x256_S1024x256_0_0_1_1_n_n_wf
  dot_S4096x1024_S4096x512_S1024x512_0_0_1_1_n_n_wf := @dot_S4096x1024_S4096x512_S1024x512_0_0_1_1_n_n_wf
  hrank0 := @hrank0
  hstage0_0 := @hstage0_0
  nbuf0_0 := @nbuf0_0
  hreads0_0 := @hreads0_0
  hinb0_0 := @hinb0_0
  hwx0_0 := @hwx0_0
  hstage0_1 := @hstage0_1
  nbuf0_1 := @nbuf0_1
  hreads0_1 := @hreads0_1
  hinb0_1 := @hinb0_1
  hwx0_1 := @hwx0_1
  hstage0_2 := @hstage0_2
  nbuf0_2 := @nbuf0_2
  hreads0_2 := @hreads0_2
  hinb0_2 := @hinb0_2
  hwx0_2 := @hwx0_2
  hrank1 := @hrank1
  hstage1_0 := @hstage1_0
  nbuf1_0 := @nbuf1_0
  hreads1_0 := @hreads1_0
  hinb1_0 := @hinb1_0
  hwx1_0 := @hwx1_0
  hstage1_1 := @hstage1_1
  nbuf1_1 := @nbuf1_1
  hreads1_1 := @hreads1_1
  hinb1_1 := @hinb1_1
  hwx1_1 := @hwx1_1
  hstage1_2 := @hstage1_2
  nbuf1_2 := @nbuf1_2
  hreads1_2 := @hreads1_2
  hinb1_2 := @hinb1_2
  hwx1_2 := @hwx1_2

instance facts : Cert.Kernel3Ideal.Facts where

end Cert.Kernel3Ideal.Gen
-- ==== Proof.Prod.Launch.lean ====
/- The launch of the two weight products. -/
module

public import proofs.«01_k».proof.Proof.Prod.Ideal
public import Idealize.ShloMosaic.Lib.Pipeline.Kit
public import Idealize.ShloMosaic.Lib.Pipeline.Regions

@[expose] public section

noncomputable section

namespace Cert.Kernel3Ideal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 2 → List (DmaSem sig) :=
  fun | 0 => Pipeline.specSems spec0 | 1 => Pipeline.specSems spec1 | ⟨_ + 2, h⟩ => absurd h (Nat.not_lt.2 (Nat.le_add_left _ _))
theorem semsDistinct : ∀ p : Fin 2, (semTab p).Nodup := by decide
theorem semsDisjoint : ∀ p p' : Fin 2, p ≠ p' → (semTab p).Forall (· ∉ semTab p') := by decide
theorem cellOf_inj : Function.Injective (Pipeline.cellOf (nD := nD) (τ := τ) cfgs) :=
  Pipeline.cellOf_injective_of_table cfgs semTab (fun | 0 => rfl | 1 => rfl | ⟨_ + 2, h⟩ => absurd h (Nat.not_lt.2 (Nat.le_add_left _ _))) semsDistinct semsDisjoint

theorem winFacts0 : Pipeline.WinFacts spec0 := by decide
theorem block_pos0 : ∀ w : Fin 3, 0 < (spec0 w).block.numel := by decide
theorem arr_whole0 : ∀ w : Fin 3, (spec0 w).arr.IsWhole := fun | 0 => Memref.isWhole_whole _ | 1 => Memref.isWhole_whole _ | 2 => Memref.isWhole_whole _ | ⟨_ + 3, h⟩ => absurd h (Nat.not_lt.2 (Nat.le_add_left _ _))
theorem stage_whole0 : ∀ (w : Fin 3) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | ⟨_ + 3, h⟩ => absurd h (Nat.not_lt.2 (Nat.le_add_left _ _))
theorem launch0 : Pipeline.LaunchFacts (nD := nD) (τ := τ) cfgs 0 := ⟨cellOf_inj, winFacts0, block_pos0, arr_whole0, stage_whole0⟩

theorem N_0 : grid0.N = 4 := by decide
def t0_0 : Fin grid0.N := ⟨0, by rw [N_0]; decide⟩
def t0_1 : Fin grid0.N := ⟨1, by rw [N_0]; decide⟩
def t0_2 : Fin grid0.N := ⟨2, by rw [N_0]; decide⟩
def t0_3 : Fin grid0.N := ⟨3, by rw [N_0]; decide⟩
theorem fin_N0 (t : Fin grid0.N) : t = t0_0 ∨ t = t0_1 ∨ t = t0_2 ∨ t = t0_3 := by
  obtain ⟨t, ht⟩ := t; have := N_0; simp only [t0_0, t0_1, t0_2, t0_3, Fin.mk.injEq]; omega

theorem bigSep_W0 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc1_stg0_0), ((c : Thread nD τ).loc cc1_stg0_0) ↦{fullShare} f) ∗ (∃ f : Buf Val ((c : Thread nD τ).loc cc1_stg1_0), ((c : Thread nD τ).loc cc1_stg1_0) ↦{fullShare} f) ∗ (∃ f : Buf Val ((c : Thread nD τ).loc cc1_stg1_1), ((c : Thread nD τ).loc cc1_stg1_1) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f)) :=
  Pipeline.scopedRest_eq_of_list spec0 c [cc1_stg0_0, cc1_stg1_0, cc1_stg1_1, cc1_stg2_0, cc1_stg2_1] (by decide) (by decide)
theorem unscopedRest0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec0 c V : sProp (MT nD τ sig Ix Val Name U Lvl))
      = iprop((((c : Thread nD τ).loc main_arg0) ↦{fullShare} V main_arg0) ∗ (((c : Thread nD τ).loc main_arg2) ↦{fullShare} V main_arg2) ∗ (((c : Thread nD τ).loc main_arg3) ↦{fullShare} V main_arg3) ∗ (((c : Thread nD τ).loc main_v2) ↦{fullShare} V main_v2) ∗ (((c : Thread nD τ).loc main_v3) ↦{fullShare} V main_v3) ∗ (((c : Thread nD τ).loc main_v4) ↦{fullShare} V main_v4)) :=
  Pipeline.unscopedRest_eq_of_list spec0 c V [main_arg0, main_arg2, main_arg3, main_v2, main_v3, main_v4] (by decide) (by decide)

theorem winFacts1 : Pipeline.WinFacts spec1 := by decide
theorem block_pos1 : ∀ w : Fin 3, 0 < (spec1 w).block.numel := by decide
theorem arr_whole1 : ∀ w : Fin 3, (spec1 w).arr.IsWhole := fun | 0 => Memref.isWhole_whole _ | 1 => Memref.isWhole_whole _ | 2 => Memref.isWhole_whole _ | ⟨_ + 3, h⟩ => absurd h (Nat.not_lt.2 (Nat.le_add_left _ _))
theorem stage_whole1 : ∀ (w : Fin 3) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | ⟨_ + 3, h⟩ => absurd h (Nat.not_lt.2 (Nat.le_add_left _ _))
theorem launch1 : Pipeline.LaunchFacts (nD := nD) (τ := τ) cfgs 1 := ⟨cellOf_inj, winFacts1, block_pos1, arr_whole1, stage_whole1⟩

theorem N_1 : grid1.N = 4 := by decide
def t1_0 : Fin grid1.N := ⟨0, by rw [N_1]; decide⟩
def t1_1 : Fin grid1.N := ⟨1, by rw [N_1]; decide⟩
def t1_2 : Fin grid1.N := ⟨2, by rw [N_1]; decide⟩
def t1_3 : Fin grid1.N := ⟨3, by rw [N_1]; decide⟩
theorem fin_N1 (t : Fin grid1.N) : t = t1_0 ∨ t = t1_1 ∨ t = t1_2 ∨ t = t1_3 := by
  obtain ⟨t, ht⟩ := t; have := N_1; simp only [t1_0, t1_1, t1_2, t1_3, Fin.mk.injEq]; omega

theorem bigSep_W1 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ
theorem scopedRest1_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f)) :=
  Pipeline.scopedRest_eq_of_list spec1 c [cc0_stg0_0, cc0_stg1_0, cc0_stg1_1, cc0_stg2_0, cc0_stg2_1] (by decide) (by decide)
theorem unscopedRest1_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec1 c V : sProp (MT nD τ sig Ix Val Name U Lvl))
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_v0) ↦{fullShare} V main_v0) ∗ (((c : Thread nD τ).loc main_v1) ↦{fullShare} V main_v1)) :=
  Pipeline.unscopedRest_eq_of_list spec1 c V [main_arg0, main_arg1, main_arg2, main_arg3, main_v0, main_v1] (by decide) (by decide)

abbrev hostOps0 : List (HloOp τ sig (Elt F)) :=
  [ StableHlo.unary main_arg0 main_v0 ((truncf .bf16 · bitsLt_bf16_f32) : (⟨S4096x1024, .f32⟩ : BufTy).Contents (Elt F) → (⟨S4096x1024, .bf16⟩ : BufTy).Contents (Elt F)) ]
theorem hostOps0_sub : (hostOps0 : List (HloOp τ sig (Elt F))).Forall fun op => op.bufs ⊆ StableHlo.tcRefs τ sig :=
  StableHlo.unary_bufs_sub ..
abbrev hostOps1 : List (HloOp τ sig (Elt F)) :=
  [ StableHlo.unary main_arg2 main_v2 ((truncf .bf16 · bitsLt_bf16_f32) : (⟨S4096x1024, .f32⟩ : BufTy).Contents (Elt F) → (⟨S4096x1024, .bf16⟩ : BufTy).Contents (Elt F)),
    StableHlo.unary main_arg3 main_v3 ((truncf .bf16 · bitsLt_bf16_f32) : (⟨S4096x2048, .f32⟩ : BufTy).Contents (Elt F) → (⟨S4096x2048, .bf16⟩ : BufTy).Contents (Elt F)) ]
theorem hostOps1_sub : (hostOps1 : List (HloOp τ sig (Elt F))).Forall fun op => op.bufs ⊆ StableHlo.tcRefs τ sig :=
  ⟨StableHlo.unary_bufs_sub .., StableHlo.unary_bufs_sub ..⟩
theorem main_chain (c : Dev nD) : main (F := F) c = (Pipeline.chain
  [ StableHlo.seq hostOps0,
    Prog.lift (.customCall (Pipeline.entry 0) ()),
    StableHlo.seq hostOps1,
    Prog.lift (.customCall (Pipeline.entry 1) ()) ] : Prog (TpuEff nD τ sig (Elt F) (Pipeline.Sig Λ₀ (Fin 2) fun p => (pcfgs (F := F) p).Adm) .tc) PUnit) := by
  rewrite [StableHlo.chain_seq_cons, Pipeline.chain_cons, StableHlo.chain_seq_cons, Pipeline.chain_cons]
  chain_rfl

theorem main_segs {Ix : Type} [DecidableEq Ix] {Name : Type} [DecidableEq Name] {U : Type} [URA U] {Lvl : Type} [Preorder Lvl]
    (a : (p : Fin 2) → (pcfgs (F := F) p).Adm) (pdats : (p : Fin 2) → (c : Dev nD) → Pipeline.Dat τ (Elt F) Ix Name U Lvl (Pipeline.pin (pcfgs (F := F)) a p) c)
    (ι : Ix) (𝒱 : Variants) (L : GSem nD τ sig → Finset Ix) (lv : GSem nD τ sig → Ix → Lvl)
    (H0 : Pipeline.HostSeg (Ix := Ix) (Name := Name) (U := U) (Lvl := Lvl) (pcfgs (F := F)) defs₀ 𝒱 L lv) (H1 : Pipeline.HostSeg (Ix := Ix) (Name := Name) (U := U) (Lvl := Lvl) (pcfgs (F := F)) defs₀ 𝒱 L lv)
    (R0 : Pipeline.RegionSeg (pcfgs (F := F)) a pdats ι defs₀ 𝒱 L lv 0) (R1 : Pipeline.RegionSeg (pcfgs (F := F)) a pdats ι defs₀ 𝒱 L lv 1)
    (h0 : H0.prog = StableHlo.seq hostOps0) (h1 : H1.prog = StableHlo.seq hostOps1)
    (c : Dev nD) :
    main c = Pipeline.Seg.run [.host H0, .region R0, .host H1, .region R1] := by
  simp only [Pipeline.Seg.run]
  rw [h0, h1]
  rfl

end Cert.Kernel3Ideal.Gen

end
-- ==== Proof.Prod.Skeleton.lean ====
/- The shapes of the two weight products' bodies and of their main program. -/
module

public import proofs.«01_k».proof.Proof.Prod.Ideal

@[expose] public section

set_option synthInstance.maxSize 4096

noncomputable section

namespace Cert.Kernel3Ideal.Gen

open Idealize.ShloMosaic Idealize.SL.Sem

variable {F : FTy → Type} [FloatOps F]

noncomputable def k0_pay1 (v0 : Vec F S4096x1024 .bf16) (v2 : Vec F S4096x256 .f32) : FVec F S1024x256 .bf16 :=
  have v1 : FVec F S4096x1024 .bf16 := shapeCast S4096x1024 v0 shapeCasts_S4096x1024_S4096x1024
  have v3 : FVec F S4096x256 .bf16 := truncf .bf16 v2 bitsLt_bf16_f32
  have cst : FVec F S1024x256 .f32 := constant S1024x256 .f32 0x00000000#32
  have v4 : FVec F S1024x256 .f32 := matmul dot_S4096x1024_S4096x256_S1024x256_0_0_1_1_n_n none v1 v3 cst
  have cst_3 : F .f32 := Scalar.ofBits .f32 0x3F800000#32
  have v5 : FVec F S1024x256 .f32 := broadcast S1024x256 cst_3
  have v6 : FVec F S1024x256 .f32 := mulf v4 v5
  have v7 : FVec F S1024x256 .bf16 := truncf .bf16 v6 bitsLt_bf16_f32
  v7

noncomputable def cc0_attn_dw_o_skel (i : grid0.Coords) (arg2 : Memref sig .tc .vmem S4096x1024 .bf16) (harg2 : arg2.IsWhole) (arg3 : Memref sig .tc .vmem S4096x256 .f32) (harg3 : arg3.IsWhole) (arg4 : Memref sig .tc .vmem S1024x256 .bf16) (harg4 : arg4.IsWhole) :
    Prog (TpuEff nD τ sig (Elt F) Λ₀ .tc) PUnit := do
  let v0 : Vec F S4096x1024 .bf16 ← Prog.lift (.load arg2 (Rect.unit (s := S4096x1024) ![0, 0] S4096x1024.size inb_S4096x1024_S4096x1024_0_0).toLoadRect (View.loadsAt_vmem h_S4096x1024))
  let v2 : Vec F S4096x256 .f32 ← Prog.lift (.load arg3 (Rect.unit (s := S4096x256) ![0, 0] S4096x256.size inb_S4096x256_S4096x256_0_0).toLoadRect (View.loadsAt_vmem h_S4096x256))
  let v8 : Vec F S1024x256 .bf16 ← Prog.lift (.load arg4 (Rect.unit (s := S1024x256) ![0, 0] S1024x256.size inb_S1024x256_S1024x256_0_0).toLoadRect (View.loadsAt_vmem h_S1024x256))
  Prog.lift (.store arg4 (Rect.unit (s := S1024x256) ![0, 0] S1024x256.size inb_S1024x256_S1024x256_0_0) (k0_pay1 v0 v2) Finset.univ (View.stores_vmem h_S1024x256 (harg4.storeExact_slice rfl _ packedbf16_S1024x256_S1024x256_0_0) (fun _ => rfl)) (.inl rfl))
  pure ⟨⟩

set_option maxRecDepth 65536 in
theorem cc0_attn_dw_o_eq_skeleton : cc0_attn_dw_o (F := F) = cc0_attn_dw_o_skel (F := F) := rfl

noncomputable def k1_pay1 (v0 : Vec F S4096x1024 .bf16) (v2 : Vec F S4096x512 .bf16) : FVec F S1024x512 .bf16 :=
  have v1 : FVec F S4096x1024 .bf16 := shapeCast S4096x1024 v0 shapeCasts_S4096x1024_S4096x1024
  have v3 : FVec F S4096x512 .bf16 := shapeCast S4096x512 v2 shapeCasts_S4096x512_S4096x512
  have cst : FVec F S1024x512 .f32 := constant S1024x512 .f32 0x00000000#32
  have v4 : FVec F S1024x512 .f32 := matmul dot_S4096x1024_S4096x512_S1024x512_0_0_1_1_n_n none v1 v3 cst
  have cst_3 : F .f32 := Scalar.ofBits .f32 0x3F800000#32
  have v5 : FVec F S1024x512 .f32 := broadcast S1024x512 cst_3
  have v6 : FVec F S1024x512 .f32 := mulf v4 v5
  have v7 : FVec F S1024x512 .bf16 := truncf .bf16 v6 bitsLt_bf16_f32
  v7

noncomputable def cc1_conv_dw_pw1_skel (i : grid1.Coords) (arg2 : Memref sig .tc .vmem S4096x1024 .bf16) (harg2 : arg2.IsWhole) (arg3 : Memref sig .tc .vmem S4096x512 .bf16) (harg3 : arg3.IsWhole) (arg4 : Memref sig .tc .vmem S1024x512 .bf16) (harg4 : arg4.IsWhole) :
    Prog (TpuEff nD τ sig (Elt F) Λ₀ .tc) PUnit := do
  let v0 : Vec F S4096x1024 .bf16 ← Prog.lift (.load arg2 (Rect.unit (s := S4096x1024) ![0, 0] S4096x1024.size inb_S4096x1024_S4096x1024_0_0).toLoadRect (View.loadsAt_vmem h_S4096x1024))
  let v2 : Vec F S4096x512 .bf16 ← Prog.lift (.load arg3 (Rect.unit (s := S4096x512) ![0, 0] S4096x512.size inb_S4096x512_S4096x512_0_0).toLoadRect (View.loadsAt_vmem h_S4096x512))
  let v8 : Vec F S1024x512 .bf16 ← Prog.lift (.load arg4 (Rect.unit (s := S1024x512) ![0, 0] S1024x512.size inb_S1024x512_S1024x512_0_0).toLoadRect (View.loadsAt_vmem h_S1024x512))
  Prog.lift (.store arg4 (Rect.unit (s := S1024x512) ![0, 0] S1024x512.size inb_S1024x512_S1024x512_0_0) (k1_pay1 v0 v2) Finset.univ (View.stores_vmem h_S1024x512 (harg4.storeExact_slice rfl _ packedbf16_S1024x512_S1024x512_0_0) (fun _ => rfl)) (.inl rfl))
  pure ⟨⟩

set_option maxRecDepth 65536 in
theorem cc1_conv_dw_pw1_eq_skeleton : cc1_conv_dw_pw1 (F := F) = cc1_conv_dw_pw1_skel (F := F) := rfl

end Cert.Kernel3Ideal.Gen

end
-- ==== Proof.Prod.Points.lean ====
/- The grids of the two weight products, point by point. -/
module

public import proofs.«01_k».proof.Proof.Prod.Ideal
public import Idealize.ShloMosaic.Lib.Pipeline.Kit

@[expose] public section

noncomputable section

namespace Cert.Kernel3Ideal.Gen

open Idealize.ShloMosaic Idealize.ShloMosaic.TcCoe
open Idealize.SL Idealize.SL.Sem

variable {F : FTy → Type} [FloatOps F]

theorem fetch0_0 : ∀ t : Fin cfg0.N, (cfg0.win 0).fetch t = true ↔ t.val % 4 = 0 :=
  (fun t => Pipeline.Window.fetch_oneBlock win0_0 rfl (by decide) (n := 4) (by decide) t : ∀ t : Fin grid0.N, win0_0.fetch t = true ↔ t.val % 4 = 0)
theorem fetch0_1 : ∀ t : Fin cfg0.N, (cfg0.win 1).fetch t = true :=
  (fun t => (Pipeline.Window.fetch_reads win0_1 rfl 1 (by decide) (by decide) (Pipeline.Window.sep_of_coord cc0_transform_1 1 1 (fun _ => rfl) (by decide)) (P := 1) (by decide) t).mpr (Nat.mod_one _) : ∀ t : Fin grid0.N, win0_1.fetch t = true)
theorem flush0_2 : ∀ t : Fin cfg0.N, (cfg0.win 2).flush t = true :=
  (fun t => (Pipeline.Window.flush_reads win0_2 rfl 1 (by decide) (by decide) (Pipeline.Window.sep_of_coord cc0_transform_2 1 1 (fun _ => rfl) (by decide)) (P := 1) (m := 0) (by decide) rfl t).mpr (Nat.mod_one _) : ∀ t : Fin grid0.N, win0_2.flush t = true)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)

abbrev bodyAt0 (t : Fin cfg0.N) : Prog (TpuEff nD τ sig (Elt F) Λ₀ .tc) PUnit :=
  cc0_attn_dw_o (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

theorem fetch1_0 : ∀ t : Fin cfg1.N, (cfg1.win 0).fetch t = true ↔ t.val % 4 = 0 :=
  (fun t => Pipeline.Window.fetch_oneBlock win1_0 rfl (by decide) (n := 4) (by decide) t : ∀ t : Fin grid1.N, win1_0.fetch t = true ↔ t.val % 4 = 0)
theorem fetch1_1 : ∀ t : Fin cfg1.N, (cfg1.win 1).fetch t = true :=
  (fun t => (Pipeline.Window.fetch_reads win1_1 rfl 1 (by decide) (by decide) (Pipeline.Window.sep_of_coord cc1_transform_1 1 1 (fun _ => rfl) (by decide)) (P := 1) (by decide) t).mpr (Nat.mod_one _) : ∀ t : Fin grid1.N, win1_1.fetch t = true)
theorem flush1_2 : ∀ t : Fin cfg1.N, (cfg1.win 2).flush t = true :=
  (fun t => (Pipeline.Window.flush_reads win1_2 rfl 1 (by decide) (by decide) (Pipeline.Window.sep_of_coord cc1_transform_2 1 1 (fun _ => rfl) (by decide)) (P := 1) (m := 0) (by decide) rfl t).mpr (Nat.mod_one _) : ∀ t : Fin grid1.N, win1_2.flush t = true)

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)

abbrev bodyAt1 (t : Fin cfg1.N) : Prog (TpuEff nD τ sig (Elt F) Λ₀ .tc) PUnit :=
  cc1_conv_dw_pw1 (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2))

end Cert.Kernel3Ideal.Gen

end
-- ==== Proof.Prod.Frame.lean ====
/- The run of the two weight products: each region's proof data, its body's triple, and the whole program's segments. -/
module

public import proofs.«01_k».proof.Proof.Prod.Launch
public import proofs.«01_k».proof.Proof.Prod.Skeleton
public import proofs.«01_k».proof.Proof.Prod.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S4096x1024 := Rect.unit (s := S4096x1024) ![0, 0] S4096x1024.size inb_S4096x1024_S4096x1024_0_0
abbrev r0_1 : Rect S4096x256 := Rect.unit (s := S4096x256) ![0, 0] S4096x256.size inb_S4096x256_S4096x256_0_0
abbrev r0_2 : Rect S1024x256 := Rect.unit (s := S1024x256) ![0, 0] S1024x256.size inb_S1024x256_S1024x256_0_0

def out0_2 (x0 : Vec F S4096x1024 .bf16) (x1 : Vec F S4096x256 .f32) : Vec F S1024x256 .bf16 :=
  View.canon [⟨r0_2, k0_pay1 (View.ld x0 r0_0) (View.ld x1 r0_1)⟩]

theorem cover0_2 (p0 : Vec F S1024x256 .bf16) (y : S1024x256.Idx) :
    ∃ pc ∈ ([⟨r0_2, p0⟩] : List (View.Piece (Elt F) S1024x256 .bf16)), y ∈ pc.1.set :=
  View.cover_of_tiled [⟨r0_2, p0⟩] S1024x256.size (by rfl) y

set_option maxHeartbeats 1000000 in
theorem sound_kernel0 (c : Dev nD) (E : Set ℕ) (i : grid0.Coords) (arg2 : Memref sig .tc .vmem S4096x1024 .bf16) (harg2 : arg2.IsWhole) (arg3 : Memref sig .tc .vmem S4096x256 .f32) (harg3 : arg3.IsWhole) (arg4 : Memref sig .tc .vmem S1024x256 .bf16) (harg4 : arg4.IsWhole)
    (x0 : Vec F S4096x1024 .bf16) (x1 : Vec F S4096x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0_attn_dw_o i arg2 harg2 arg3 harg3 arg4 harg4) K := by
  simp only [cc0_attn_dw_o_eq_skeleton]; unfold cc0_attn_dw_o_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S4096x1024 := Rect.unit (s := S4096x1024) ![0, 0] S4096x1024.size inb_S4096x1024_S4096x1024_0_0
abbrev r1_1 : Rect S4096x512 := Rect.unit (s := S4096x512) ![0, 0] S4096x512.size inb_S4096x512_S4096x512_0_0
abbrev r1_2 : Rect S1024x512 := Rect.unit (s := S1024x512) ![0, 0] S1024x512.size inb_S1024x512_S1024x512_0_0

def out1_2 (x0 : Vec F S4096x1024 .bf16) (x1 : Vec F S4096x512 .bf16) : Vec F S1024x512 .bf16 :=
  View.canon [⟨r1_2, k1_pay1 (View.ld x0 r1_0) (View.ld x1 r1_1)⟩]

theorem cover1_2 (p0 : Vec F S1024x512 .bf16) (y : S1024x512.Idx) :
    ∃ pc ∈ ([⟨r1_2, p0⟩] : List (View.Piece (Elt F) S1024x512 .bf16)), y ∈ pc.1.set :=
  View.cover_of_tiled [⟨r1_2, p0⟩] S1024x512.size (by rfl) y

set_option maxHeartbeats 1000000 in
theorem sound_kernel1 (c : Dev nD) (E : Set ℕ) (i : grid1.Coords) (arg2 : Memref sig .tc .vmem S4096x1024 .bf16) (harg2 : arg2.IsWhole) (arg3 : Memref sig .tc .vmem S4096x512 .bf16) (harg3 : arg3.IsWhole) (arg4 : Memref sig .tc .vmem S1024x512 .bf16) (harg4 : arg4.IsWhole)
    (x0 : Vec F S4096x1024 .bf16) (x1 : Vec F S4096x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_conv_dw_pw1 i arg2 harg2 arg3 harg3 arg4 harg4) K := by
  simp only [cc1_conv_dw_pw1_eq_skeleton]; unfold cc1_conv_dw_pw1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every buffer the run keeps ends at the contents of the last boundary, and every counter at zero. -/
theorem run_main : θ_run defs (onTc (τ := τ) (main (F := F))) ⟨m, fun _ => 0, ρ⟩ (fun r => (∀ c : Dev nD,
      ∀ b ∈ Pipeline.ucRefs τ sig, r.2.mem ((c.tc : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c b hb, funext fun g => hz g (.inr (no_unscoped g.2))⟩)

end Cert.Kernel3Ideal.Gen

end
-- ==== Proof.Prod.Same.lean ====
/- The two weight products' frames, before and after idealization: the two texts are one, so one run serves both. -/
module

public import proofs.«01_k».proof.Defs
public import proofs.«01_k».proof.Proof.Prod.Frame

@[expose] public section

set_option maxRecDepth 16384
set_option maxHeartbeats 8000000

noncomputable section

namespace Cert.Kernel3.Gen

instance facts₀ : Cert.Kernel3.Facts₀ := { Cert.Kernel3Ideal.Gen.facts₀ with }
instance facts : Cert.Kernel3.Facts := { Cert.Kernel3Ideal.Gen.facts with }

end Cert.Kernel3.Gen

namespace Cert.Prod

open Idealize.ShloMosaic Idealize.ShloMosaic.TcCoe Idealize.SL.Sem

section Run

open Cert.Kernel3Ideal Cert.Kernel3Ideal.Gen

variable {F : FTy → Type} [FloatOps F] (m : (ℓ : Loc nD τ sig) → Buf (Elt F) ℓ) (ρ : Dev nD → PrngReg)

/-- The run leaves its arguments and every counter. -/
theorem quiet : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => ⟨(h.1 c _ (mem_uc main_arg0 (by decide))).trans (W4_main_arg0 m ρ c), (h.1 c _ (mem_uc main_arg1 (by decide))).trans (W4_main_arg1 m ρ c),
    (h.1 c _ (mem_uc main_arg2 (by decide))).trans (W4_main_arg2 m ρ c), (h.1 c _ (mem_uc main_arg3 (by decide))).trans (W4_main_arg3 m ρ c)⟩, h.2⟩) (run_main m ρ)

end Run

/-- The two programs' body tables are one. -/
theorem bodies {F : FTy → Type} [FloatOps F] : Cert.Kernel3.defs₀ (F := F) = Cert.Kernel3Ideal.defs₀ (F := F) := by
  refine congrArg (Defs.onTc (nD := Cert.Kernel3.nD) (τ := Cert.Kernel3.τ) (sig := Cert.Kernel3.sig) (Val := Elt F) (Λ := Cert.Kernel3.Λ₀)) (funext fun l => funext fun a => ?_)
  match l, a with
  | 0, (t, s) => rfl
  | 1, (t, s) => rfl
  | ⟨_ + 2, h⟩, _ => exact absurd h (Nat.not_lt.2 (Nat.le_add_left _ _))

theorem tables {F : FTy → Type} [FloatOps F] : Cert.Kernel3.defs (F := F) = Cert.Kernel3Ideal.defs (F := F) :=
  congrArg (Pipeline.defs (Cert.Kernel3.pcfgs (F := F))) bodies

theorem mains {F : FTy → Type} [FloatOps F] : Cert.Kernel3.main (F := F) = Cert.Kernel3Ideal.main (F := F) := rfl

/-- The same of the program before idealization. -/
theorem quiet_bits (m : (ℓ : Loc Cert.Kernel3.nD Cert.Kernel3.τ Cert.Kernel3.sig) → Buf (Elt Bits) ℓ) (ρ : Dev Cert.Kernel3.nD → PrngReg) :
    θ_run (Cert.Kernel3.defs (F := Bits)) (onTc (τ := Cert.Kernel3.τ) (Cert.Kernel3.main (F := Bits))) ⟨m, fun _ => 0, ρ⟩ fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0 :=
  by rw [tables, mains]; exact quiet (F := Bits) m ρ

end Cert.Prod

end
-- ==== Proof.Prod.Sums.lean ====
/- The sum over the tokens of the products of two arrays' entries, and the terms of the two programs that equal it. -/
module

public import proofs.«01_k».proof.Proof.Hand.Up

@[expose] public section

set_option maxRecDepth 16384
set_option backward.isDefEq.respectTransparency false

noncomputable section

namespace Cert.Prod

open Idealize.ShloMosaic hiding ix0 ix1 ix2 eq_ix1 eq_ix2
open Idealize.ShloMosaic.ValueIdx
open Cert.Real

variable {k a b : ℕ} {φ₁ φ₂ : FTy}

/-- Both arrays summed over their rows: `Xᵀ Y`, of extended reals. -/
def overRows (X : (⟨2, ![k, a]⟩ : Shape).Idx → EReal) (Y : (⟨2, ![k, b]⟩ : Shape).Idx → EReal) : (⟨2, ![a, b]⟩ : Shape).Idx → EReal :=
  fun y => ∑ q : Fin k, X (ix2 q (y 0)) * Y (ix2 q (y 1))

/-- The product with a zero accumulator. -/
theorem matmul_eq (d : DotDims ⟨2, ![k, a]⟩ ⟨2, ![k, b]⟩ ⟨2, ![a, b]⟩) (hd : d = tnDims a k b) (X : FVec Ideal ⟨2, ![k, a]⟩ φ₁) (Y : FVec Ideal ⟨2, ![k, b]⟩ φ₂) :
    matmul (F := Ideal) d none X Y (constant (F := Ideal) ⟨2, ![a, b]⟩ .f32 0x00000000#32) = overRows X Y := by
  subst hd
  funext y
  obtain ⟨i, j, rfl⟩ : ∃ i j, y = ix2 i j := ⟨y 0, y 1, eq_ix2 y⟩
  refine (tn_read none X Y _ i j).trans ?_
  show Ideal.ofBits .f32 0x00000000#32 + _ = _
  rw [ofBits_zero, EReal.coe_zero, zero_add]
  rfl

/-- A body's stored value: the product times one. -/
theorem stored_eq (d : DotDims ⟨2, ![k, a]⟩ ⟨2, ![k, b]⟩ ⟨2, ![a, b]⟩) (hd : d = tnDims a k b) (h : FTy.bits .bf16 < FTy.bits .f32)
    (X : FVec Ideal ⟨2, ![k, a]⟩ φ₁) (Y : FVec Ideal ⟨2, ![k, b]⟩ φ₂) :
    truncf (F := Ideal) (φ := .f32) .bf16 (mulf (matmul (F := Ideal) d none X Y (constant (F := Ideal) ⟨2, ![a, b]⟩ .f32 0x00000000#32))
      (broadcast (⟨2, ![a, b]⟩ : Shape) (Scalar.ofBits (F := Ideal) .f32 0x3F800000#32))) h = overRows X Y := by
  rw [matmul_eq d hd]
  funext y
  show overRows X Y y * Ideal.ofBits .f32 0x3F800000#32 = _
  rw [ofBits_one, EReal.coe_one, mul_one]

/-- The reference takes the product the other way round and transposes it. -/
theorem transposed_eq (d : DotDims ⟨2, ![k, b]⟩ ⟨2, ![k, a]⟩ ⟨2, ![b, a]⟩) (hd : d = tnDims b k a) (ht : (⟨2, ![b, a]⟩ : Shape).Transposes [1, 0] ⟨2, ![a, b]⟩)
    (h : FTy.bits .bf16 < FTy.bits .f32) (X : FVec Ideal ⟨2, ![k, a]⟩ .f32) (Y : FVec Ideal ⟨2, ![k, b]⟩ .f32) :
    truncf (F := Ideal) (φ := .f32) .bf16 (transpose (⟨2, ![a, b]⟩ : Shape) [1, 0] (Host.dotGeneral (F := Ideal) d none Y X) ht) h = overRows X Y := by
  rw [host_dot, matmul_eq d hd]
  funext y
  obtain ⟨i, j, rfl⟩ : ∃ i j, y = ix2 i j := ⟨y 0, y 1, eq_ix2 y⟩
  refine (transpose_apply [1, 0] (overRows Y X) ht (ix2 i j) (ix2 j i) fun d => ?_).trans (Finset.sum_congr rfl fun q _ => mul_comm _ _)
  match d with
  | ⟨0, _⟩ => rfl
  | ⟨1, _⟩ => rfl

end Cert.Prod

end
-- ==== Proof.Prod.Value.lean ====
/- The two weight products' run: each region's result is the sum over the tokens, column block by column block. -/
module

public import proofs.«01_k».proof.Proof.Hand.Cols
public import proofs.«01_k».proof.Proof.Prod.Sums
public import proofs.«01_k».proof.Proof.Prod.Frame

@[expose] public section

set_option maxRecDepth 16384
set_option backward.isDefEq.respectTransparency false

noncomputable section

namespace Cert.Prod

open Idealize.ShloMosaic hiding ix0 ix1 ix2 eq_ix1 eq_ix2
open Idealize.ShloMosaic.ValueIdx
open Idealize.ShloMosaic.Pipeline
open Cert.Kernel3Ideal Cert.Kernel3Ideal.Gen Cert.Real

variable (V : (c : Dev nD) → (b : Ref sig .tc) → Buf (Elt Ideal) (c.tc.loc b)) (c : Dev nD)

namespace Reg0

/-- The column of the right operand that column `p` of tile `t` is. -/
def col (t : Fin cfg0.N) (p : Fin 256) : Fin 1024 := ⟨t.val * 256 + p.val, by
  have h : cfg0.N = 4 := N_0
  have := t.isLt; have := p.isLt; omega⟩

theorem ix : ∀ t : Fin cfg0.N, (win0_0.index t 0 = 0 ∧ win0_0.index t 1 = 0) ∧ (win0_1.index t 0 = 0 ∧ win0_1.index t 1 = t.val)
    ∧ (win0_2.index t 0 = 0 ∧ win0_2.index t 1 = t.val) ∧ win0_2.xsize (grid0.coords t) 0 = 1024 ∧ win0_2.xsize (grid0.coords t) 1 = 256 :=
  (by decide +kernel : ∀ t : Fin grid0.N, (win0_0.index t 0 = 0 ∧ win0_0.index t 1 = 0) ∧ (win0_1.index t 0 = 0 ∧ win0_1.index t 1 = t.val)
    ∧ (win0_2.index t 0 = 0 ∧ win0_2.index t 1 = t.val) ∧ win0_2.xsize (grid0.coords t) 0 = 1024 ∧ win0_2.xsize (grid0.coords t) 1 = 256)

theorem blk_0 (t : Fin cfg0.N) : (iblk0 (F := Ideal) V c 0 t : (⟨2, ![4096, 1024]⟩ : Shape).Idx → EReal) = V c main_v0 := by
  unfold iblk0
  funext y
  rw [View.read_apply]
  refine congrArg (V c main_v0) (?_ : _ = y)
  funext a; apply Fin.ext
  match a with
  | ⟨0, _⟩ => show win0_0.index t 0 * 4096 + 1 * (y 0).val = (y 0).val; rw [(ix t).1.1]; omega
  | ⟨1, _⟩ => show win0_0.index t 1 * 1024 + 1 * (y 1).val = (y 1).val; rw [(ix t).1.2]; omega

theorem blk_1 (t : Fin cfg0.N) : (iblk0 (F := Ideal) V c 1 t : (⟨2, ![4096, 256]⟩ : Shape).Idx → EReal)
    = fun y => (V c main_arg1 : (⟨2, ![4096, 1024]⟩ : Shape).Idx → EReal) (ix2 (y 0) (col t (y 1))) := by
  unfold iblk0
  funext y
  rw [View.read_apply]
  refine congrArg (V c main_arg1) (?_ : _ = ix2 (y 0) (col t (y 1)))
  funext a; apply Fin.ext
  match a with
  | ⟨0, _⟩ => show win0_1.index t 0 * 4096 + 1 * (y 0).val = (y 0).val; rw [(ix t).2.1.1]; omega
  | ⟨1, _⟩ => show win0_1.index t 1 * 256 + 1 * (y 1).val = t.val * 256 + (y 1).val; rw [(ix t).2.1.2]; omega

theorem fl (t : Fin cfg0.N) :
    (dat0 (F := Ideal) V c).flushed 2 t = ((cfg0.win 2).blk t).view.read (Elt Ideal) (overRows (k := 4096) (a := 1024) (b := 1024) (V c main_v0) (V c main_arg1)) := by
  show (cfg0.win 2).cut (grid0.coords t) ((dat0 V c).after 2 t) = _
  rw [after0_2, blk_0 V c t, blk_1 V c t]
  unfold out0_2
  rw [View.canon_unit_zero hz2]
  simp only [View.ld_unit_zero (S := S4096x1024) hz2, View.ld_unit_zero (S := S4096x256) hz2]
  unfold k0_pay1
  dsimp only
  rw [shapeCast_self]
  erw [stored_eq dot_S4096x1024_S4096x256_S1024x256_0_0_1_1_n_n rfl]
  funext y
  rw [View.read_apply]
  refine Eq.trans ?_ (congrArg (overRows (k := 4096) (a := 1024) (b := 1024) (V c main_v0) (V c main_arg1)) (?_ : ix2 (y 0) (col t (y 1)) = _))
  · rfl
  funext a; apply Fin.ext
  match a with
  | ⟨0, _⟩ => show (y 0).val = win0_2.index t 0 * 1024 + 1 * (y 0).val; rw [(ix t).2.2.1.1]; omega
  | ⟨1, _⟩ => show t.val * 256 + (y 1).val = win0_2.index t 1 * 256 + 1 * (y 1).val; rw [(ix t).2.2.1.2]; omega

theorem arr : ((dat0 (F := Ideal) V c).arrAt 2 cfg0.N : (⟨2, ![1024, 1024]⟩ : Shape).Idx → EReal) = overRows (k := 4096) (V c main_v0) (V c main_arg1) :=
  Dat.arrAt_eq_of_cover _ 2 _ (fun t _ => fl V c t) fun i => by
  have hN : cfg0.N = 4 := N_0
  have h0 : (i 0 : ℕ) < 1024 := (i 0).isLt
  have h1 : (i 1 : ℕ) < 1024 := (i 1).isLt
  have ht : (i 1 : ℕ) / 256 < cfg0.N := by omega
  refine ⟨⟨(i 1 : ℕ) / 256, ht⟩, flush0_2 _, ?_⟩
  show i ∈ ((View.whole main_v1).slice (win0_2.rect ⟨(i 1 : ℕ) / 256, ht⟩)).set
  rw [View.set_slice_whole, Rect.mem_set_unit]
  intro a
  match a with
  | ⟨0, _⟩ =>
    show win0_2.index _ 0 * 1024 ≤ (i 0 : ℕ) ∧ (i 0 : ℕ) < win0_2.index _ 0 * 1024 + win0_2.xsize (grid0.coords _) 0
    rw [(ix _).2.2.1.1, (ix _).2.2.2.1]; omega
  | ⟨1, _⟩ =>
    show win0_2.index _ 1 * 256 ≤ (i 1 : ℕ) ∧ (i 1 : ℕ) < win0_2.index _ 1 * 256 + win0_2.xsize (grid0.coords _) 1
    rw [(ix _).2.2.1.2, (ix _).2.2.2.2]; dsimp only; omega

end Reg0

namespace Reg1

/-- The column of the right operand that column `p` of tile `t` is. -/
def col (t : Fin cfg1.N) (p : Fin 512) : Fin 2048 := ⟨t.val * 512 + p.val, by
  have h : cfg1.N = 4 := N_1
  have := t.isLt; have := p.isLt; omega⟩

theorem ix : ∀ t : Fin cfg1.N, (win1_0.index t 0 = 0 ∧ win1_0.index t 1 = 0) ∧ (win1_1.index t 0 = 0 ∧ win1_1.index t 1 = t.val)
    ∧ (win1_2.index t 0 = 0 ∧ win1_2.index t 1 = t.val) ∧ win1_2.xsize (grid1.coords t) 0 = 1024 ∧ win1_2.xsize (grid1.coords t) 1 = 512 :=
  (by decide +kernel : ∀ t : Fin grid1.N, (win1_0.index t 0 = 0 ∧ win1_0.index t 1 = 0) ∧ (win1_1.index t 0 = 0 ∧ win1_1.index t 1 = t.val)
    ∧ (win1_2.index t 0 = 0 ∧ win1_2.index t 1 = t.val) ∧ win1_2.xsize (grid1.coords t) 0 = 1024 ∧ win1_2.xsize (grid1.coords t) 1 = 512)

theorem blk_0 (t : Fin cfg1.N) : (iblk1 (F := Ideal) V c 0 t : (⟨2, ![4096, 1024]⟩ : Shape).Idx → EReal) = V c main_v2 := by
  unfold iblk1
  funext y
  rw [View.read_apply]
  refine congrArg (V c main_v2) (?_ : _ = y)
  funext a; apply Fin.ext
  match a with
  | ⟨0, _⟩ => show win1_0.index t 0 * 4096 + 1 * (y 0).val = (y 0).val; rw [(ix t).1.1]; omega
  | ⟨1, _⟩ => show win1_0.index t 1 * 1024 + 1 * (y 1).val = (y 1).val; rw [(ix t).1.2]; omega

theorem blk_1 (t : Fin cfg1.N) : (iblk1 (F := Ideal) V c 1 t : (⟨2, ![4096, 512]⟩ : Shape).Idx → EReal)
    = fun y => (V c main_v3 : (⟨2, ![4096, 2048]⟩ : Shape).Idx → EReal) (ix2 (y 0) (col t (y 1))) := by
  unfold iblk1
  funext y
  rw [View.read_apply]
  refine congrArg (V c main_v3) (?_ : _ = ix2 (y 0) (col t (y 1)))
  funext a; apply Fin.ext
  match a with
  | ⟨0, _⟩ => show win1_1.index t 0 * 4096 + 1 * (y 0).val = (y 0).val; rw [(ix t).2.1.1]; omega
  | ⟨1, _⟩ => show win1_1.index t 1 * 512 + 1 * (y 1).val = t.val * 512 + (y 1).val; rw [(ix t).2.1.2]; omega

theorem fl (t : Fin cfg1.N) :
    (dat1 (F := Ideal) V c).flushed 2 t = ((cfg1.win 2).blk t).view.read (Elt Ideal) (overRows (k := 4096) (a := 1024) (b := 2048) (V c main_v2) (V c main_v3)) := by
  show (cfg1.win 2).cut (grid1.coords t) ((dat1 V c).after 2 t) = _
  rw [after1_2, blk_0 V c t, blk_1 V c t]
  unfold out1_2
  rw [View.canon_unit_zero hz2]
  simp only [View.ld_unit_zero (S := S4096x1024) hz2, View.ld_unit_zero (S := S4096x512) hz2]
  unfold k1_pay1
  dsimp only
  rw [shapeCast_self, shapeCast_self]
  erw [stored_eq dot_S4096x1024_S4096x512_S1024x512_0_0_1_1_n_n rfl]
  funext y
  rw [View.read_apply]
  refine Eq.trans ?_ (congrArg (overRows (k := 4096) (a := 1024) (b := 2048) (V c main_v2) (V c main_v3)) (?_ : ix2 (y 0) (col t (y 1)) = _))
  · rfl
  funext a; apply Fin.ext
  match a with
  | ⟨0, _⟩ => show (y 0).val = win1_2.index t 0 * 1024 + 1 * (y 0).val; rw [(ix t).2.2.1.1]; omega
  | ⟨1, _⟩ => show t.val * 512 + (y 1).val = win1_2.index t 1 * 512 + 1 * (y 1).val; rw [(ix t).2.2.1.2]; omega

theorem arr : ((dat1 (F := Ideal) V c).arrAt 2 cfg1.N : (⟨2, ![1024, 2048]⟩ : Shape).Idx → EReal) = overRows (k := 4096) (V c main_v2) (V c main_v3) :=
  Dat.arrAt_eq_of_cover _ 2 _ (fun t _ => fl V c t) fun i => by
  have hN : cfg1.N = 4 := N_1
  have h0 : (i 0 : ℕ) < 1024 := (i 0).isLt
  have h1 : (i 1 : ℕ) < 2048 := (i 1).isLt
  have ht : (i 1 : ℕ) / 512 < cfg1.N := by omega
  refine ⟨⟨(i 1 : ℕ) / 512, ht⟩, flush1_2 _, ?_⟩
  show i ∈ ((View.whole main_v4).slice (win1_2.rect ⟨(i 1 : ℕ) / 512, ht⟩)).set
  rw [View.set_slice_whole, Rect.mem_set_unit]
  intro a
  match a with
  | ⟨0, _⟩ =>
    show win1_2.index _ 0 * 1024 ≤ (i 0 : ℕ) ∧ (i 0 : ℕ) < win1_2.index _ 0 * 1024 + win1_2.xsize (grid1.coords _) 0
    rw [(ix _).2.2.1.1, (ix _).2.2.2.1]; omega
  | ⟨1, _⟩ =>
    show win1_2.index _ 1 * 512 ≤ (i 1 : ℕ) ∧ (i 1 : ℕ) < win1_2.index _ 1 * 512 + win1_2.xsize (grid1.coords _) 1
    rw [(ix _).2.2.1.2, (ix _).2.2.2.2]; dsimp only; omega

end Reg1

variable (m : (ℓ : Loc nD τ sig) → Buf (Elt Ideal) ℓ) (ρ : Dev nD → PrngReg)

theorem out_0 : (W4 m ρ c (Proc.devRef .tc main_v1) : (⟨2, ![1024, 1024]⟩ : Shape).Idx → EReal)
    = overRows (k := 4096) (m ((c.tc : Thread nD τ).loc main_arg0)) (m ((c.tc : Thread nD τ).loc main_arg1)) :=
  (W4_of m ρ c main_v1 (by decide)).trans ((W3_of m ρ c main_v1 (by decide)).trans ((W2_arr m ρ c 2).trans ((Reg0.arr (V1 m ρ) c).trans
    (congrArg₂ (overRows (k := 4096)) (show V1 m ρ c main_v0 = _ from rfl) (W1_args m ρ c main_arg1 (by decide))))))

theorem out_1 : (W4 m ρ c (Proc.devRef .tc main_v4) : (⟨2, ![1024, 2048]⟩ : Shape).Idx → EReal)
    = overRows (k := 4096) (m ((c.tc : Thread nD τ).loc main_arg2)) (m ((c.tc : Thread nD τ).loc main_arg3)) :=
  (W4_arr m ρ c 2).trans ((Reg1.arr (V3 m ρ) c).trans (congrArg₂ (overRows (k := 4096))
    (show V3 m ρ c main_v2 = _ from W2_args m ρ c main_arg2 (by decide)) (show V3 m ρ c main_v3 = _ from W2_args m ρ c main_arg3 (by decide))))

/-- The run: its two results, its arguments and every counter. -/
theorem run : θ_run defs (onTc (τ := τ) (main (F := Ideal))) ⟨m, fun _ => 0, ρ⟩ fun r => ∀ c : Dev nD,
      r.2.mem ((c.tc : Thread nD τ).loc main_v1) = overRows (k := 4096) (a := 1024) (b := 1024) (m ((c.tc : Thread nD τ).loc main_arg0)) (m ((c.tc : Thread nD τ).loc main_arg1))
      ∧ r.2.mem ((c.tc : Thread nD τ).loc main_v4) = overRows (k := 4096) (a := 1024) (b := 2048) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c _ (mem_uc main_v1 (by decide))).trans (out_0 c m ρ), (h.1 c _ (mem_uc main_v4 (by decide))).trans (out_1 c m ρ),
    (h.1 c _ (mem_uc main_arg0 (by decide))).trans (W4_main_arg0 m ρ c), (h.1 c _ (mem_uc main_arg1 (by decide))).trans (W4_main_arg1 m ρ c),
    (h.1 c _ (mem_uc main_arg2 (by decide))).trans (W4_main_arg2 m ρ c), (h.1 c _ (mem_uc main_arg3 (by decide))).trans (W4_main_arg3 m ρ c)⟩) (run_main m ρ)

end Cert.Prod

end
-- ==== Proof.Prod.RefFacts.lean ====
/- The side conditions of the products' reference. -/
module

public import proofs.«01_k».proof.Reference3Ideal
public import Idealize.ShloMosaic.Lib.Affine
public import Idealize.ShloMosaic.Lib.Decide
public import Idealize.ShloMosaic.Lib.Exec

@[expose] public section

set_option synthInstance.maxSize 4096
set_option Elab.async false

namespace Cert.Reference3Ideal.Gen

open Idealize.ShloMosaic Idealize.SL.Sem

theorem bcast_S_S1024x1024 : S_.BroadcastsInDim S1024x1024 (![] : Fin 0 → Fin S1024x1024.rank) := by decide
theorem bcast_S_S1024x2048 : S_.BroadcastsInDim S1024x2048 (![] : Fin 0 → Fin S1024x2048.rank) := by decide
theorem transposes_S2048x1024_S1024x2048_1_0 : S2048x1024.Transposes [1, 0] S1024x2048 := by decide
theorem transposes_S1024x1024_S1024x1024_1_0 : S1024x1024.Transposes [1, 0] S1024x1024 := by decide
theorem bitsLt_bf16_f32 : FTy.bits .bf16 < FTy.bits .f32 := by decide
theorem dot_S4096x1024_S1024x1024_S4096x1024_1_0_0_1_n_n_wf : DotDims.WF S4096x1024 S1024x1024 S4096x1024 [1] [0] [0] [1] [] [] := by decide
theorem dot_S4096x1024_S1024x2048_S4096x2048_1_0_0_1_n_n_wf : DotDims.WF S4096x1024 S1024x2048 S4096x2048 [1] [0] [0] [1] [] [] := by decide
theorem dot_S4096x2048_S4096x1024_S2048x1024_0_0_1_1_n_n_wf : DotDims.WF S4096x2048 S4096x1024 S2048x1024 [0] [0] [1] [1] [] [] := by decide
theorem dot_S4096x1024_S4096x1024_S1024x1024_0_0_1_1_n_n_wf : DotDims.WF S4096x1024 S4096x1024 S1024x1024 [0] [0] [1] [1] [] [] := by decide

instance facts₀ : Cert.Reference3Ideal.Facts₀ where
  bcast_S_S1024x1024 := @bcast_S_S1024x1024
  bcast_S_S1024x2048 := @bcast_S_S1024x2048
  transposes_S2048x1024_S1024x2048_1_0 := @transposes_S2048x1024_S1024x2048_1_0
  transposes_S1024x1024_S1024x1024_1_0 := @transposes_S1024x1024_S1024x1024_1_0
  bitsLt_bf16_f32 := @bitsLt_bf16_f32
  dot_S4096x1024_S1024x1024_S4096x1024_1_0_0_1_n_n_wf := @dot_S4096x1024_S1024x1024_S4096x1024_1_0_0_1_n_n_wf
  dot_S4096x1024_S1024x2048_S4096x2048_1_0_0_1_n_n_wf := @dot_S4096x1024_S1024x2048_S4096x2048_1_0_0_1_n_n_wf
  dot_S4096x2048_S4096x1024_S2048x1024_0_0_1_1_n_n_wf := @dot_S4096x2048_S4096x1024_S2048x1024_0_0_1_1_n_n_wf
  dot_S4096x1024_S4096x1024_S1024x1024_0_0_1_1_n_n_wf := @dot_S4096x1024_S4096x1024_S1024x1024_0_0_1_1_n_n_wf

instance facts : Cert.Reference3Ideal.Facts where

end Cert.Reference3Ideal.Gen
-- ==== Proof.Prod.Ref.lean ====
/- The products' reference: its operations, its run and its two results. -/
module

public import proofs.«01_k».proof.Proof.Prod.RefFacts
public import proofs.«01_k».proof.Proof.Prod.Sums
public import Idealize.ShloMosaic.Lib.StableHlo.Run

@[expose] public section

set_option maxRecDepth 16384
set_option backward.isDefEq.respectTransparency false

noncomputable section

namespace Cert.Prod.Ref

open Idealize.ShloMosaic hiding ix0 ix1 ix2 eq_ix1 eq_ix2
open Idealize.ShloMosaic.ValueIdx
open Idealize.ShloMosaic.TcCoe Idealize.SL.Sem Idealize.ShloMosaic.StableHlo
open Cert.Reference3Ideal Cert.Reference3Ideal.Gen

section Run

variable {F : FTy → Type} [FloatOps F]

/-- The contents of a buffer of one shape and element type. -/
abbrev Ct (F : FTy → Type) (S : Shape) (e : EltTy) : Type := (⟨S, e⟩ : BufTy).Contents (Elt F)

/-- The operations of the reference, in order. -/
abbrev ops : List (HloOp τ sig (Elt F)) :=
  [nullary main_cst (constant S_ .f32 0x00000000#32),
   unary main_cst main_v0 (broadcastInDim S1024x1024 ![] bcast_S_S1024x1024 : Ct F S_ .f32 → Ct F S1024x1024 .f32),
   nullary main_cst_0 (constant S_ .f32 0x00000000#32),
   unary main_cst_0 main_v1 (broadcastInDim S1024x2048 ![] bcast_S_S1024x2048 : Ct F S_ .f32 → Ct F S1024x2048 .f32),
   binary main_arg0 main_v0 main_v2 ((fun l r => Host.dotGeneral dot_S4096x1024_S1024x1024_S4096x1024_1_0_0_1_n_n none l r) : Ct F S4096x1024 .f32 → Ct F S1024x1024 .f32 → Ct F S4096x1024 .f32),
   binary main_arg2 main_v1 main_v3 ((fun l r => Host.dotGeneral dot_S4096x1024_S1024x2048_S4096x2048_1_0_0_1_n_n none l r) : Ct F S4096x1024 .f32 → Ct F S1024x2048 .f32 → Ct F S4096x2048 .f32),
   binary main_arg3 main_arg2 main_v4 ((fun l r => Host.dotGeneral dot_S4096x2048_S4096x1024_S2048x1024_0_0_1_1_n_n none l r) : Ct F S4096x2048 .f32 → Ct F S4096x1024 .f32 → Ct F S2048x1024 .f32),
   unary main_v4 main_v5 ((transpose S1024x2048 [1, 0] · transposes_S2048x1024_S1024x2048_1_0) : Ct F S2048x1024 .f32 → Ct F S1024x2048 .f32),
   binary main_arg1 main_arg0 main_v6 ((fun l r => Host.dotGeneral dot_S4096x1024_S4096x1024_S1024x1024_0_0_1_1_n_n none l r) : Ct F S4096x1024 .f32 → Ct F S4096x1024 .f32 → Ct F S1024x1024 .f32),
   unary main_v6 main_v7 ((transpose S1024x1024 [1, 0] · transposes_S1024x1024_S1024x1024_1_0) : Ct F S1024x1024 .f32 → Ct F S1024x1024 .f32),
   unary main_v7 main_v8 ((truncf .bf16 · bitsLt_bf16_f32) : Ct F S1024x1024 .f32 → Ct F S1024x1024 .bf16),
   unary main_v5 main_v9 ((truncf .bf16 · bitsLt_bf16_f32) : Ct F S1024x2048 .f32 → Ct F S1024x2048 .bf16)]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., nullary_bufs_sub .., unary_bufs_sub .., binary_bufs_sub .., binary_bufs_sub .., binary_bufs_sub .., unary_bufs_sub .., binary_bufs_sub .., unary_bufs_sub .., unary_bufs_sub .., unary_bufs_sub ..⟩

end Run

variable (m : (ℓ : Loc nD τ sig) → Buf (Elt Ideal) ℓ) (ρ : Dev nD → PrngReg)

/-- The two results are the sums over the tokens; the arguments stay, and so does every counter. -/
theorem run : θ_run defs (onTc (τ := τ) (main (F := Ideal))) ⟨m, fun _ => 0, ρ⟩ fun r => (∀ c : Dev nD,
      r.2.mem ((c.tc : Thread nD τ).loc main_v8) = overRows (m ((c.tc : Thread nD τ).loc main_arg0)) (m ((c.tc : Thread nD τ).loc main_arg1))
      ∧ r.2.mem ((c.tc : Thread nD τ).loc main_v9) = overRows (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => ⟨
      (h c main_v8).trans (Eq.trans (by simp only [ops]; after_results_simp <;> rfl) (transposed_eq dot_S4096x1024_S4096x1024_S1024x1024_0_0_1_1_n_n rfl transposes_S1024x1024_S1024x1024_1_0 bitsLt_bf16_f32 _ _)),
      (h c main_v9).trans (Eq.trans (by simp only [ops]; after_results_simp <;> rfl) (transposed_eq dot_S4096x2048_S4096x1024_S2048x1024_0_0_1_1_n_n rfl transposes_S2048x1024_S1024x2048_1_0 bitsLt_bf16_f32 _ _)),
      (h c main_arg0).trans (by simp only [ops]; after_results_simp <;> rfl),
      (h c main_arg1).trans (by simp only [ops]; after_results_simp <;> rfl),
      (h c main_arg2).trans (by simp only [ops]; after_results_simp <;> rfl),
      (h c main_arg3).trans (by simp only [ops]; after_results_simp <;> rfl)⟩, sem_eq_zero_of_no_sems (by decide) r.2⟩)
    (run_seq scopedRefs_eq scopedSems_eq defs main (fun _ => ops) main_eq (fun _ => ops_sub) m ρ)

end Cert.Prod.Ref

end
-- ==== Proof.Proj.Ideal.lean ====
/- The side conditions of the three calls that write the projection's gradient. -/
module

public import proofs.«01_k».proof.Kernel4Ideal
public import Idealize.ShloMosaic.Lib.Affine
public import Idealize.ShloMosaic.Lib.Decide
public import Idealize.ShloMosaic.Lib.Exec

@[expose] public section

set_option synthInstance.maxSize 4096
set_option Elab.async false

namespace Cert.Kernel4Ideal.Gen

open Idealize.ShloMosaic Idealize.SL.Sem

theorem slices_S4096x9216_S4096x1024_0_0 : S4096x9216.Slices ![0, 0] S4096x1024 := by decide
theorem slices_S4096x9216_S4096x1024_0_1024 : S4096x9216.Slices ![0, 1024] S4096x1024 := by decide
theorem slices_S4096x9216_S4096x1024_0_2048 : S4096x9216.Slices ![0, 2048] S4096x1024 := by decide
theorem slices_S4096x9216_S4096x1024_0_3072 : S4096x9216.Slices ![0, 3072] S4096x1024 := by decide
theorem slices_S4096x9216_S4096x1024_0_4096 : S4096x9216.Slices ![0, 4096] S4096x1024 := by decide
theorem slices_S4096x9216_S4096x1024_0_5120 : S4096x9216.Slices ![0, 5120] S4096x1024 := by decide
theorem slices_S4096x9216_S4096x1024_0_6144 : S4096x9216.Slices ![0, 6144] S4096x1024 := by decide
theorem slices_S4096x9216_S4096x1024_0_7168 : S4096x9216.Slices ![0, 7168] S4096x1024 := by decide
theorem slices_S4096x9216_S4096x1024_0_8192 : S4096x9216.Slices ![0, 8192] S4096x1024 := by decide
theorem bitsLt_bf16_f32 : FTy.bits .bf16 < FTy.bits .f32 := by decide
theorem inb_S4096x1024_S4096x1024_0_0 : ∀ a, (![0, 0] : Fin 2 → Nat) a + S4096x1024.size a ≤ S4096x1024.size a := by decide
theorem h_S4096x1024 : 0 < S4096x1024.numel := by decide
theorem shapeCasts_S4096x1024_S4096x1024 : S4096x1024.ShapeCasts S4096x1024 := by decide
theorem inb_S4096x512_S4096x512_0_0 : ∀ a, (![0, 0] : Fin 2 → Nat) a + S4096x512.size a ≤ S4096x512.size a := by decide
theorem h_S4096x512 : 0 < S4096x512.numel := by decide
theorem shapeCasts_S4096x512_S4096x512 : S4096x512.ShapeCasts S4096x512 := by decide
theorem inb_S1024x512_S1024x512_0_0 : ∀ a, (![0, 0] : Fin 2 → Nat) a + S1024x512.size a ≤ S1024x512.size a := by decide
theorem h_S1024x512 : 0 < S1024x512.numel := by decide
theorem packedbf16_S1024x512_S1024x512_0_0 : (Rect.unit (s := S1024x512) ![0, 0] S1024x512.size inb_S1024x512_S1024x512_0_0).PackedRows (EltTy.packing .bf16) := by decide
theorem dot_S4096x1024_S4096x512_S1024x512_0_0_1_1_n_n_wf : DotDims.WF S4096x1024 S4096x512 S1024x512 [0] [0] [1] [1] [] [] := by decide
theorem hrank0 : 0 < grid0.rank := by decide
theorem hstage0_0 : ∀ j, (stage0_0 j).IsWhole := fun | 0 => Memref.isWhole_whole _ | ⟨_ + 1, h⟩ => absurd h (Nat.not_lt.2 (Nat.le_add_left _ _))
theorem nbuf0_0 : grid0.bufCount reads0_0 true = 1 := by decide
theorem hreads0_0 : ∀ i i' : grid0.Coords, (∀ a, reads0_0 a = true → i a = i' a) → cc0_transform_0 i = cc0_transform_0 i' := fun _ _ _ => rfl
theorem hinb0_0 : ∀ (i : grid0.Coords) a, (cc0_transform_0 i a + 1) * S4096x1024.size a ≤ S4096x1024.size a := by decide +kernel
theorem hwx0_0 : ∀ i : grid0.Coords, EltTy.bits .bf16 = 32 ∨ (Rect.block (s := S4096x1024) S4096x1024.size (cc0_transform_0 i) (hinb0_0 i)).WholeWords (EltTy.packing .bf16) := fun _ => .inr (Affine.block_words_dvd (of_decide_eq_true rfl) (by decide))
theorem hstage0_1 : ∀ j, (stage0_1 j).IsWhole := fun | 0 => Memref.isWhole_whole _ | 1 => Memref.isWhole_whole _ | ⟨_ + 2, h⟩ => absurd h (Nat.not_lt.2 (Nat.le_add_left _ _))
theorem nbuf0_1 : grid0.bufCount reads0_1 false = 2 := by decide
theorem hreads0_1 : ∀ i i' : grid0.Coords, (∀ a, reads0_1 a = true → i a = i' a) → cc0_transform_1 i = cc0_transform_1 i' := fun i i' h => by unfold cc0_transform_1; rw [h 0 rfl]
theorem hinb0_1 : ∀ (i : grid0.Coords) a, (cc0_transform_1 i a + 1) * S4096x512.size a ≤ S4096x1024.size a := by decide +kernel
theorem hwx0_1 : ∀ i : grid0.Coords, EltTy.bits .bf16 = 32 ∨ (Rect.block (s := S4096x1024) S4096x512.size (cc0_transform_1 i) (hinb0_1 i)).WholeWords (EltTy.packing .bf16) := fun _ => .inr (Affine.block_words_dvd (of_decide_eq_true rfl) (by decide))
theorem hstage0_2 : ∀ j, (stage0_2 j).IsWhole := fun | 0 => Memref.isWhole_whole _ | 1 => Memref.isWhole_whole _ | ⟨_ + 2, h⟩ => absurd h (Nat.not_lt.2 (Nat.le_add_left _ _))
theorem nbuf0_2 : grid0.bufCount reads0_2 false = 2 := by decide
theorem hreads0_2 : ∀ i i' : grid0.Coords, (∀ a, reads0_2 a = true → i a = i' a) → cc0_transform_2 i = cc0_transform_2 i' := fun i i' h => by unfold cc0_transform_2; rw [h 0 rfl]
theorem hinb0_2 : ∀ (i : grid0.Coords) a, (cc0_transform_2 i a + 1) * S4096x512.size a ≤ S4096x1024.size a := by decide +kernel
theorem hwx0_2 : ∀ i : grid0.Coords, EltTy.bits .bf16 = 32 ∨ (Rect.block (s := S4096x1024) S4096x512.size (cc0_transform_2 i) (hinb0_2 i)).WholeWords (EltTy.packing .bf16) := fun _ => .inr (Affine.block_words_dvd (of_decide_eq_true rfl) (by decide))
theorem hstage0_3 : ∀ j, (stage0_3 j).IsWhole := fun | 0 => Memref.isWhole_whole _ | 1 => Memref.isWhole_whole _ | ⟨_ + 2, h⟩ => absurd h (Nat.not_lt.2 (Nat.le_add_left _ _))
theorem nbuf0_3 : grid0.bufCount reads0_3 false = 2 := by decide
theorem hreads0_3 : ∀ i i' : grid0.Coords, (∀ a, reads0_3 a = true → i a = i' a) → cc0_transform_3 i = cc0_transform_3 i' := fun i i' h => by unfold cc0_transform_3; rw [h 0 rfl]
theorem hinb0_3 : ∀ (i : grid0.Coords) a, (cc0_transform_3 i a + 1) * S4096x512.size a ≤ S4096x1024.size a := by decide +kernel
theorem hwx0_3 : ∀ i : grid0.Coords, EltTy.bits .bf16 = 32 ∨ (Rect.block (s := S4096x1024) S4096x512.size (cc0_transform_3 i) (hinb0_3 i)).WholeWords (EltTy.packing .bf16) := fun _ => .inr (Affine.block_words_dvd (of_decide_eq_true rfl) (by decide))
theorem hstage0_4 : ∀ j, (stage0_4 j).IsWhole := fun | 0 => Memref.isWhole_whole _ | 1 => Memref.isWhole_whole _ | ⟨_ + 2, h⟩ => absurd h (Nat.not_lt.2 (Nat.le_add_left _ _))
theorem nbuf0_4 : grid0.bufCount reads0_4 false = 2 := by decide
theorem hreads0_4 : ∀ i i' : grid0.Coords, (∀ a, reads0_4 a = true → i a = i' a) → cc0_transform_4 i = cc0_transform_4 i' := fun i i' h => by unfold cc0_transform_4; rw [h 0 rfl]
theorem hinb0_4 : ∀ (i : grid0.Coords) a, (cc0_transform_4 i a + 1) * S1024x512.size a ≤ S1024x9216.size a := by decide +kernel
theorem hwx0_4 : ∀ i : grid0.Coords, EltTy.bits .bf16 = 32 ∨ (Rect.block (s := S1024x9216) S1024x512.size (cc0_transform_4 i) (hinb0_4 i)).WholeWords (EltTy.packing .bf16) := fun _ => .inr (Affine.block_words_dvd (of_decide_eq_true rfl) (by decide))
theorem hrank1 : 0 < grid1.rank := by decide
theorem hstage1_0 : ∀ j, (stage1_0 j).IsWhole := fun | 0 => Memref.isWhole_whole _ | ⟨_ + 1, h⟩ => absurd h (Nat.not_lt.2 (Nat.le_add_left _ _))
theorem nbuf1_0 : grid1.bufCount reads1_0 true = 1 := by decide
theorem hreads1_0 : ∀ i i' : grid1.Coords, (∀ a, reads1_0 a = true → i a = i' a) → cc1_transform_0 i = cc1_transform_0 i' := fun _ _ _ => rfl
theorem hinb1_0 : ∀ (i : grid1.Coords) a, (cc1_transform_0 i a + 1) * S4096x1024.size a ≤ S4096x1024.size a := by decide +kernel
theorem hwx1_0 : ∀ i : grid1.Coords, EltTy.bits .bf16 = 32 ∨ (Rect.block (s := S4096x1024) S4096x1024.size (cc1_transform_0 i) (hinb1_0 i)).WholeWords (EltTy.packing .bf16) := fun _ => .inr (Affine.block_words_dvd (of_decide_eq_true rfl) (by decide))
theorem hstage1_1 : ∀ j, (stage1_1 j).IsWhole := fun | 0 => Memref.isWhole_whole _ | 1 => Memref.isWhole_whole _ | ⟨_ + 2, h⟩ => absurd h (Nat.not_lt.2 (Nat.le_add_left _ _))
theorem nbuf1_1 : grid1.bufCount reads1_1 false = 2 := by decide
theorem hreads1_1 : ∀ i i' : grid1.Coords, (∀ a, reads1_1 a = true → i a = i' a) → cc1_transform_1 i = cc1_transform_1 i' := fun i i' h => by unfold cc1_transform_1; rw [h 0 rfl]
theorem hinb1_1 : ∀ (i : grid1.Coords) a, (cc1_transform_1 i a + 1) * S4096x512.size a ≤ S4096x1024.size a := by decide +kernel
theorem hwx1_1 : ∀ i : grid1.Coords, EltTy.bits .bf16 = 32 ∨ (Rect.block (s := S4096x1024) S4096x512.size (cc1_transform_1 i) (hinb1_1 i)).WholeWords (EltTy.packing .bf16) := fun _ => .inr (Affine.block_words_dvd (of_decide_eq_true rfl) (by decide))
theorem hstage1_2 : ∀ j, (stage1_2 j).IsWhole := fun | 0 => Memref.isWhole_whole _ | 1 => Memref.isWhole_whole _ | ⟨_ + 2, h⟩ => absurd h (Nat.not_lt.2 (Nat.le_add_left _ _))
theorem nbuf1_2 : grid1.bufCount reads1_2 false = 2 := by decide
theorem hreads1_2 : ∀ i i' : grid1.Coords, (∀ a, reads1_2 a = true → i a = i' a) → cc1_transform_2 i = cc1_transform_2 i' := fun i i' h => by unfold cc1_transform_2; rw [h 0 rfl]
theorem hinb1_2 : ∀ (i : grid1.Coords) a, (cc1_transform_2 i a + 1) * S4096x512.size a ≤ S4096x1024.size a := by decide +kernel
theorem hwx1_2 : ∀ i : grid1.Coords, EltTy.bits .bf16 = 32 ∨ (Rect.block (s := S4096x1024) S4096x512.size (cc1_transform_2 i) (hinb1_2 i)).WholeWords (EltTy.packing .bf16) := fun _ => .inr (Affine.block_words_dvd (of_decide_eq_true rfl) (by decide))
theorem hstage1_3 : ∀ j, (stage1_3 j).IsWhole := fun | 0 => Memref.isWhole_whole _ | 1 => Memref.isWhole_whole _ | ⟨_ + 2, h⟩ => absurd h (Nat.not_lt.2 (Nat.le_add_left _ _))
theorem nbuf1_3 : grid1.bufCount reads1_3 false = 2 := by decide
theorem hreads1_3 : ∀ i i' : grid1.Coords, (∀ a, reads1_3 a = true → i a = i' a) → cc1_transform_3 i = cc1_transform_3 i' := fun i i' h => by unfold cc1_transform_3; rw [h 0 rfl]
theorem hinb1_3 : ∀ (i : grid1.Coords) a, (cc1_transform_3 i a + 1) * S4096x512.size a ≤ S4096x1024.size a := by decide +kernel
theorem hwx1_3 : ∀ i : grid1.Coords, EltTy.bits .bf16 = 32 ∨ (Rect.block (s := S4096x1024) S4096x512.size (cc1_transform_3 i) (hinb1_3 i)).WholeWords (EltTy.packing .bf16) := fun _ => .inr (Affine.block_words_dvd (of_decide_eq_true rfl) (by decide))
theorem hstage1_4 : ∀ j, (stage1_4 j).IsWhole := fun | 0 => Memref.isWhole_whole _ | 1 => Memref.isWhole_whole _ | ⟨_ + 2, h⟩ => absurd h (Nat.not_lt.2 (Nat.le_add_left _ _))
theorem nbuf1_4 : grid1.bufCount reads1_4 false = 2 := by decide
theorem hreads1_4 : ∀ i i' : grid1.Coords, (∀ a, reads1_4 a = true → i a = i' a) → cc1_transform_5 i = cc1_transform_5 i' := fun i i' h => by unfold cc1_transform_5; rw [h 0 rfl]
theorem hinb1_4 : ∀ (i : grid1.Coords) a, (cc1_transform_5 i a + 1) * S1024x512.size a ≤ S1024x9216.size a := by decide +kernel
theorem hwx1_4 : ∀ i : grid1.Coords, EltTy.bits .bf16 = 32 ∨ (Rect.block (s := S1024x9216) S1024x512.size (cc1_transform_5 i) (hinb1_4 i)).WholeWords (EltTy.packing .bf16) := fun _ => .inr (Affine.block_words_dvd (of_decide_eq_true rfl) (by decide))
theorem hrank2 : 0 < grid2.rank := by decide
theorem hstage2_0 : ∀ j, (stage2_0 j).IsWhole := fun | 0 => Memref.isWhole_whole _ | ⟨_ + 1, h⟩ => absurd h (Nat.not_lt.2 (Nat.le_add_left _ _))
theorem nbuf2_0 : grid2.bufCount reads2_0 true = 1 := by decide
theorem hreads2_0 : ∀ i i' : grid2.Coords, (∀ a, reads2_0 a = true → i a = i' a) → cc2_transform_0 i = cc2_transform_0 i' := fun _ _ _ => rfl
theorem hinb2_0 : ∀ (i : grid2.Coords) a, (cc2_transform_0 i a + 1) * S4096x1024.size a ≤ S4096x1024.size a := by decide +kernel
theorem hwx2_0 : ∀ i : grid2.Coords, EltTy.bits .bf16 = 32 ∨ (Rect.block (s := S4096x1024) S4096x1024.size (cc2_transform_0 i) (hinb2_0 i)).WholeWords (EltTy.packing .bf16) := fun _ => .inr (Affine.block_words_dvd (of_decide_eq_true rfl) (by decide))
theorem hstage2_1 : ∀ j, (stage2_1 j).IsWhole := fun | 0 => Memref.isWhole_whole _ | 1 => Memref.isWhole_whole _ | ⟨_ + 2, h⟩ => absurd h (Nat.not_lt.2 (Nat.le_add_left _ _))
theorem nbuf2_1 : grid2.bufCount reads2_1 false = 2 := by decide
theorem hreads2_1 : ∀ i i' : grid2.Coords, (∀ a, reads2_1 a = true → i a = i' a) → cc2_transform_1 i = cc2_transform_1 i' := fun i i' h => by unfold cc2_transform_1; rw [h 0 rfl]
theorem hinb2_1 : ∀ (i : grid2.Coords) a, (cc2_transform_1 i a + 1) * S4096x512.size a ≤ S4096x1024.size a := by decide +kernel
theorem hwx2_1 : ∀ i : grid2.Coords, EltTy.bits .bf16 = 32 ∨ (Rect.block (s := S4096x1024) S4096x512.size (cc2_transform_1 i) (hinb2_1 i)).WholeWords (EltTy.packing .bf16) := fun _ => .inr (Affine.block_words_dvd (of_decide_eq_true rfl) (by decide))
theorem hstage2_2 : ∀ j, (stage2_2 j).IsWhole := fun | 0 => Memref.isWhole_whole _ | 1 => Memref.isWhole_whole _ | ⟨_ + 2, h⟩ => absurd h (Nat.not_lt.2 (Nat.le_add_left _ _))
theorem nbuf2_2 : grid2.bufCount reads2_2 false = 2 := by decide
theorem hreads2_2 : ∀ i i' : grid2.Coords, (∀ a, reads2_2 a = true → i a = i' a) → cc2_transform_2 i = cc2_transform_2 i' := fun i i' h => by unfold cc2_transform_2; rw [h 0 rfl]
theorem hinb2_2 : ∀ (i : grid2.Coords) a, (cc2_transform_2 i a + 1) * S4096x512.size a ≤ S4096x1024.size a := by decide +kernel
theorem hwx2_2 : ∀ i : grid2.Coords, EltTy.bits .bf16 = 32 ∨ (Rect.block (s := S4096x1024) S4096x512.size (cc2_transform_2 i) (hinb2_2 i)).WholeWords (EltTy.packing .bf16) := fun _ => .inr (Affine.block_words_dvd (of_decide_eq_true rfl) (by decide))
theorem hstage2_3 : ∀ j, (stage2_3 j).IsWhole := fun | 0 => Memref.isWhole_whole _ | 1 => Memref.isWhole_whole _ | ⟨_ + 2, h⟩ => absurd h (Nat.not_lt.2 (Nat.le_add_left _ _))
theorem nbuf2_3 : grid2.bufCount reads2_3 false = 2 := by decide
theorem hreads2_3 : ∀ i i' : grid2.Coords, (∀ a, reads2_3 a = true → i a = i' a) → cc2_transform_3 i = cc2_transform_3 i' := fun i i' h => by unfold cc2_transform_3; rw [h 0 rfl]
theorem hinb2_3 : ∀ (i : grid2.Coords) a, (cc2_transform_3 i a + 1) * S4096x512.size a ≤ S4096x1024.size a := by decide +kernel
theorem hwx2_3 : ∀ i : grid2.Coords, EltTy.bits .bf16 = 32 ∨ (Rect.block (s := S4096x1024) S4096x512.size (cc2_transform_3 i) (hinb2_3 i)).WholeWords (EltTy.packing .bf16) := fun _ => .inr (Affine.block_words_dvd (of_decide_eq_true rfl) (by decide))
theorem hstage2_4 : ∀ j, (stage2_4 j).IsWhole := fun | 0 => Memref.isWhole_whole _ | 1 => Memref.isWhole_whole _ | ⟨_ + 2, h⟩ => absurd h (Nat.not_lt.2 (Nat.le_add_left _ _))
theorem nbuf2_4 : grid2.bufCount reads2_4 false = 2 := by decide
theorem hreads2_4 : ∀ i i' : grid2.Coords, (∀ a, reads2_4 a = true → i a = i' a) → cc2_transform_5 i = cc2_transform_5 i' := fun i i' h => by unfold cc2_transform_5; rw [h 0 rfl]
theorem hinb2_4 : ∀ (i : grid2.Coords) a, (cc2_transform_5 i a + 1) * S1024x512.size a ≤ S1024x9216.size a := by decide +kernel
theorem hwx2_4 : ∀ i : grid2.Coords, EltTy.bits .bf16 = 32 ∨ (Rect.block (s := S1024x9216) S1024x512.size (cc2_transform_5 i) (hinb2_4 i)).WholeWords (EltTy.packing .bf16) := fun _ => .inr (Affine.block_words_dvd (of_decide_eq_true rfl) (by decide))

instance facts₀ : Cert.Kernel4Ideal.Facts₀ where
  slices_S4096x9216_S4096x1024_0_0 := @slices_S4096x9216_S4096x1024_0_0
  slices_S4096x9216_S4096x1024_0_1024 := @slices_S4096x9216_S4096x1024_0_1024
  slices_S4096x9216_S4096x1024_0_2048 := @slices_S4096x9216_S4096x1024_0_2048
  slices_S4096x9216_S4096x1024_0_3072 := @slices_S4096x9216_S4096x1024_0_3072
  slices_S4096x9216_S4096x1024_0_4096 := @slices_S4096x9216_S4096x1024_0_4096
  slices_S4096x9216_S4096x1024_0_5120 := @slices_S4096x9216_S4096x1024_0_5120
  slices_S4096x9216_S4096x1024_0_6144 := @slices_S4096x9216_S4096x1024_0_6144
  slices_S4096x9216_S4096x1024_0_7168 := @slices_S4096x9216_S4096x1024_0_7168
  slices_S4096x9216_S4096x1024_0_8192 := @slices_S4096x9216_S4096x1024_0_8192
  bitsLt_bf16_f32 := @bitsLt_bf16_f32
  inb_S4096x1024_S4096x1024_0_0 := @inb_S4096x1024_S4096x1024_0_0
  h_S4096x1024 := @h_S4096x1024
  shapeCasts_S4096x1024_S4096x1024 := @shapeCasts_S4096x1024_S4096x1024
  inb_S4096x512_S4096x512_0_0 := @inb_S4096x512_S4096x512_0_0
  h_S4096x512 := @h_S4096x512
  shapeCasts_S4096x512_S4096x512 := @shapeCasts_S4096x512_S4096x512
  inb_S1024x512_S1024x512_0_0 := @inb_S1024x512_S1024x512_0_0
  h_S1024x512 := @h_S1024x512
  packedbf16_S1024x512_S1024x512_0_0 := @packedbf16_S1024x512_S1024x512_0_0
  dot_S4096x1024_S4096x512_S1024x512_0_0_1_1_n_n_wf := @dot_S4096x1024_S4096x512_S1024x512_0_0_1_1_n_n_wf
  hrank0 := @hrank0
  hstage0_0 := @hstage0_0
  nbuf0_0 := @nbuf0_0
  hreads0_0 := @hreads0_0
  hinb0_0 := @hinb0_0
  hwx0_0 := @hwx0_0
  hstage0_1 := @hstage0_1
  nbuf0_1 := @nbuf0_1
  hreads0_1 := @hreads0_1
  hinb0_1 := @hinb0_1
  hwx0_1 := @hwx0_1
  hstage0_2 := @hstage0_2
  nbuf0_2 := @nbuf0_2
  hreads0_2 := @hreads0_2
  hinb0_2 := @hinb0_2
  hwx0_2 := @hwx0_2
  hstage0_3 := @hstage0_3
  nbuf0_3 := @nbuf0_3
  hreads0_3 := @hreads0_3
  hinb0_3 := @hinb0_3
  hwx0_3 := @hwx0_3
  hstage0_4 := @hstage0_4
  nbuf0_4 := @nbuf0_4
  hreads0_4 := @hreads0_4
  hinb0_4 := @hinb0_4
  hwx0_4 := @hwx0_4
  hrank1 := @hrank1
  hstage1_0 := @hstage1_0
  nbuf1_0 := @nbuf1_0
  hreads1_0 := @hreads1_0
  hinb1_0 := @hinb1_0
  hwx1_0 := @hwx1_0
  hstage1_1 := @hstage1_1
  nbuf1_1 := @nbuf1_1
  hreads1_1 := @hreads1_1
  hinb1_1 := @hinb1_1
  hwx1_1 := @hwx1_1
  hstage1_2 := @hstage1_2
  nbuf1_2 := @nbuf1_2
  hreads1_2 := @hreads1_2
  hinb1_2 := @hinb1_2
  hwx1_2 := @hwx1_2
  hstage1_3 := @hstage1_3
  nbuf1_3 := @nbuf1_3
  hreads1_3 := @hreads1_3
  hinb1_3 := @hinb1_3
  hwx1_3 := @hwx1_3
  hstage1_4 := @hstage1_4
  nbuf1_4 := @nbuf1_4
  hreads1_4 := @hreads1_4
  hinb1_4 := @hinb1_4
  hwx1_4 := @hwx1_4
  hrank2 := @hrank2
  hstage2_0 := @hstage2_0
  nbuf2_0 := @nbuf2_0
  hreads2_0 := @hreads2_0
  hinb2_0 := @hinb2_0
  hwx2_0 := @hwx2_0
  hstage2_1 := @hstage2_1
  nbuf2_1 := @nbuf2_1
  hreads2_1 := @hreads2_1
  hinb2_1 := @hinb2_1
  hwx2_1 := @hwx2_1
  hstage2_2 := @hstage2_2
  nbuf2_2 := @nbuf2_2
  hreads2_2 := @hreads2_2
  hinb2_2 := @hinb2_2
  hwx2_2 := @hwx2_2
  hstage2_3 := @hstage2_3
  nbuf2_3 := @nbuf2_3
  hreads2_3 := @hreads2_3
  hinb2_3 := @hinb2_3
  hwx2_3 := @hwx2_3
  hstage2_4 := @hstage2_4
  nbuf2_4 := @nbuf2_4
  hreads2_4 := @hreads2_4
  hinb2_4 := @hinb2_4
  hwx2_4 := @hwx2_4

instance facts : Cert.Kernel4Ideal.Facts where

end Cert.Kernel4Ideal.Gen
-- ==== Proof.Proj.Launch.lean ====
/- The launch of the three calls that write the projection's gradient. -/
module

public import proofs.«01_k».proof.Proof.Proj.Ideal
public import Idealize.ShloMosaic.Lib.Pipeline.Kit
public import Idealize.ShloMosaic.Lib.Pipeline.Regions

@[expose] public section

noncomputable section

namespace Cert.Kernel4Ideal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 3 → List (DmaSem sig) :=
  fun | 0 => Pipeline.specSems spec0 | 1 => Pipeline.specSems spec1 | 2 => Pipeline.specSems spec2 | ⟨_ + 3, h⟩ => absurd h (Nat.not_lt.2 (Nat.le_add_left _ _))
theorem semsDistinct : ∀ p : Fin 3, (semTab p).Nodup := by decide
theorem semsDisjoint : ∀ p p' : Fin 3, p ≠ p' → (semTab p).Forall (· ∉ semTab p') := by decide
theorem cellOf_inj : Function.Injective (Pipeline.cellOf (nD := nD) (τ := τ) cfgs) :=
  Pipeline.cellOf_injective_of_table cfgs semTab (fun | 0 => rfl | 1 => rfl | 2 => rfl | ⟨_ + 3, h⟩ => absurd h (Nat.not_lt.2 (Nat.le_add_left _ _))) semsDistinct semsDisjoint

theorem winFacts0 : Pipeline.WinFacts spec0 := by decide
theorem block_pos0 : ∀ w : Fin 5, 0 < (spec0 w).block.numel := by decide
theorem arr_whole0 : ∀ w : Fin 5, (spec0 w).arr.IsWhole := fun | 0 => Memref.isWhole_whole _ | 1 => Memref.isWhole_whole _ | 2 => Memref.isWhole_whole _ | 3 => Memref.isWhole_whole _ | 4 => Memref.isWhole_whole _ | ⟨_ + 5, h⟩ => absurd h (Nat.not_lt.2 (Nat.le_add_left _ _))
theorem stage_whole0 : ∀ (w : Fin 5) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | ⟨_ + 5, h⟩ => absurd h (Nat.not_lt.2 (Nat.le_add_left _ _))
theorem launch0 : Pipeline.LaunchFacts (nD := nD) (τ := τ) cfgs 0 := ⟨cellOf_inj, winFacts0, block_pos0, arr_whole0, stage_whole0⟩

theorem N_0 : grid0.N = 6 := by decide
def t0_0 : Fin grid0.N := ⟨0, by rw [N_0]; decide⟩
def t0_1 : Fin grid0.N := ⟨1, by rw [N_0]; decide⟩
def t0_2 : Fin grid0.N := ⟨2, by rw [N_0]; decide⟩
def t0_3 : Fin grid0.N := ⟨3, by rw [N_0]; decide⟩
def t0_4 : Fin grid0.N := ⟨4, by rw [N_0]; decide⟩
def t0_5 : Fin grid0.N := ⟨5, by rw [N_0]; decide⟩
theorem fin_N0 (t : Fin grid0.N) : t = t0_0 ∨ t = t0_1 ∨ t = t0_2 ∨ t = t0_3 ∨ t = t0_4 ∨ t = t0_5 := by
  obtain ⟨t, ht⟩ := t; have := N_0; simp only [t0_0, t0_1, t0_2, t0_3, t0_4, t0_5, Fin.mk.injEq]; omega

theorem bigSep_W0 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc1_stg0_0), ((c : Thread nD τ).loc cc1_stg0_0) ↦{fullShare} f) ∗ (∃ f : Buf Val ((c : Thread nD τ).loc cc1_stg1_0), ((c : Thread nD τ).loc cc1_stg1_0) ↦{fullShare} f) ∗ (∃ f : Buf Val ((c : Thread nD τ).loc cc1_stg1_1), ((c : Thread nD τ).loc cc1_stg1_1) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg3_1), ((c : Thread nD τ).loc cc1_stg3_1) ↦{fullShare} f) ∗ (∃ f : Buf Val ((c : Thread nD τ).loc cc1_stg4_0), ((c : Thread nD τ).loc cc1_stg4_0) ↦{fullShare} f) ∗ (∃ f : Buf Val ((c : Thread nD τ).loc cc1_stg4_1), ((c : Thread nD τ).loc cc1_stg4_1) ↦{fullShare} f) ∗ (∃ f : Buf Val ((c : Thread nD τ).loc cc2_stg0_0), ((c : Thread nD τ).loc cc2_stg0_0) ↦{fullShare} f) ∗ (∃ f : Buf Val ((c : Thread nD τ).loc cc2_stg1_0), ((c : Thread nD τ).loc cc2_stg1_0) ↦{fullShare} f) ∗ (∃ f : Buf Val ((c : Thread nD τ).loc cc2_stg1_1), ((c : Thread nD τ).loc cc2_stg1_1) ↦{fullShare} f) ∗ (∃ f : Buf Val ((c : Thread nD τ).loc cc2_stg2_0), ((c : Thread nD τ).loc cc2_stg2_0) ↦{fullShare} f) ∗ (∃ f : Buf Val ((c : Thread nD τ).loc cc2_stg2_1), ((c : Thread nD τ).loc cc2_stg2_1) ↦{fullShare} f) ∗ (∃ f : Buf Val ((c : Thread nD τ).loc cc2_stg3_0), ((c : Thread nD τ).loc cc2_stg3_0) ↦{fullShare} f) ∗ (∃ f : Buf Val ((c : Thread nD τ).loc cc2_stg3_1), ((c : Thread nD τ).loc cc2_stg3_1) ↦{fullShare} f) ∗ (∃ f : Buf Val ((c : Thread nD τ).loc cc2_stg4_0), ((c : Thread nD τ).loc cc2_stg4_0) ↦{fullShare} f) ∗ (∃ f : Buf Val ((c : Thread nD τ).loc cc2_stg4_1), ((c : Thread nD τ).loc cc2_stg4_1) ↦{fullShare} f)) :=
  Pipeline.scopedRest_eq_of_list spec0 c [cc1_stg0_0, cc1_stg1_0, cc1_stg1_1, cc1_stg2_0, cc1_stg2_1, cc1_stg3_0, cc1_stg3_1, cc1_stg4_0, cc1_stg4_1, cc2_stg0_0, cc2_stg1_0, cc2_stg1_1, cc2_stg2_0, cc2_stg2_1, cc2_stg3_0, cc2_stg3_1, cc2_stg4_0, cc2_stg4_1] (by decide) (by decide)
theorem unscopedRest0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec0 c V : sProp (MT nD τ sig Ix Val Name U Lvl))
      = iprop((((c : Thread nD τ).loc main_arg0) ↦{fullShare} V main_arg0) ∗ (((c : Thread nD τ).loc main_arg1) ↦{fullShare} V main_arg1) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_v7) ↦{fullShare} V main_v7) ∗ (((c : Thread nD τ).loc main_v8) ↦{fullShare} V main_v8) ∗ (((c : Thread nD τ).loc main_v11) ↦{fullShare} V main_v11) ∗ (((c : Thread nD τ).loc main_v12) ↦{fullShare} V main_v12)) :=
  Pipeline.unscopedRest_eq_of_list spec0 c V [main_arg0, main_arg1, main_v3, main_v4, main_v5, main_v6, main_v7, main_v8, main_v11, main_v12] (by decide) (by decide)

theorem winFacts1 : Pipeline.WinFacts spec1 := by decide
theorem block_pos1 : ∀ w : Fin 5, 0 < (spec1 w).block.numel := by decide
theorem arr_whole1 : ∀ w : Fin 5, (spec1 w).arr.IsWhole := fun | 0 => Memref.isWhole_whole _ | 1 => Memref.isWhole_whole _ | 2 => Memref.isWhole_whole _ | 3 => Memref.isWhole_whole _ | 4 => Memref.isWhole_whole _ | ⟨_ + 5, h⟩ => absurd h (Nat.not_lt.2 (Nat.le_add_left _ _))
theorem stage_whole1 : ∀ (w : Fin 5) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | ⟨_ + 5, h⟩ => absurd h (Nat.not_lt.2 (Nat.le_add_left _ _))
theorem launch1 : Pipeline.LaunchFacts (nD := nD) (τ := τ) cfgs 1 := ⟨cellOf_inj, winFacts1, block_pos1, arr_whole1, stage_whole1⟩

theorem N_1 : grid1.N = 6 := by decide
def t1_0 : Fin grid1.N := ⟨0, by rw [N_1]; decide⟩
def t1_1 : Fin grid1.N := ⟨1, by rw [N_1]; decide⟩
def t1_2 : Fin grid1.N := ⟨2, by rw [N_1]; decide⟩
def t1_3 : Fin grid1.N := ⟨3, by rw [N_1]; decide⟩
def t1_4 : Fin grid1.N := ⟨4, by rw [N_1]; decide⟩
def t1_5 : Fin grid1.N := ⟨5, by rw [N_1]; decide⟩
theorem fin_N1 (t : Fin grid1.N) : t = t1_0 ∨ t = t1_1 ∨ t = t1_2 ∨ t = t1_3 ∨ t = t1_4 ∨ t = t1_5 := by
  obtain ⟨t, ht⟩ := t; have := N_1; simp only [t1_0, t1_1, t1_2, t1_3, t1_4, t1_5, Fin.mk.injEq]; omega

theorem bigSep_W1 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ
theorem scopedRest1_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_stg3_0), ((c : Thread nD τ).loc cc0_stg3_0) ↦{fullShare} f) ∗ (∃ f : Buf Val ((c : Thread nD τ).loc cc0_stg3_1), ((c : Thread nD τ).loc cc0_stg3_1) ↦{fullShare} f) ∗ (∃ f : Buf Val ((c : Thread nD τ).loc cc0_stg4_0), ((c : Thread nD τ).loc cc0_stg4_0) ↦{fullShare} f) ∗ (∃ f : Buf Val ((c : Thread nD τ).loc cc0_stg4_1), ((c : Thread nD τ).loc cc0_stg4_1) ↦{fullShare} f) ∗ (∃ f : Buf Val ((c : Thread nD τ).loc cc2_stg0_0), ((c : Thread nD τ).loc cc2_stg0_0) ↦{fullShare} f) ∗ (∃ f : Buf Val ((c : Thread nD τ).loc cc2_stg1_0), ((c : Thread nD τ).loc cc2_stg1_0) ↦{fullShare} f) ∗ (∃ f : Buf Val ((c : Thread nD τ).loc cc2_stg1_1), ((c : Thread nD τ).loc cc2_stg1_1) ↦{fullShare} f) ∗ (∃ f : Buf Val ((c : Thread nD τ).loc cc2_stg2_0), ((c : Thread nD τ).loc cc2_stg2_0) ↦{fullShare} f) ∗ (∃ f : Buf Val ((c : Thread nD τ).loc cc2_stg2_1), ((c : Thread nD τ).loc cc2_stg2_1) ↦{fullShare} f) ∗ (∃ f : Buf Val ((c : Thread nD τ).loc cc2_stg3_0), ((c : Thread nD τ).loc cc2_stg3_0) ↦{fullShare} f) ∗ (∃ f : Buf Val ((c : Thread nD τ).loc cc2_stg3_1), ((c : Thread nD τ).loc cc2_stg3_1) ↦{fullShare} f) ∗ (∃ f : Buf Val ((c : Thread nD τ).loc cc2_stg4_0), ((c : Thread nD τ).loc cc2_stg4_0) ↦{fullShare} f) ∗ (∃ f : Buf Val ((c : Thread nD τ).loc cc2_stg4_1), ((c : Thread nD τ).loc cc2_stg4_1) ↦{fullShare} f)) :=
  Pipeline.scopedRest_eq_of_list spec1 c [cc0_stg0_0, cc0_stg1_0, cc0_stg1_1, cc0_stg2_0, cc0_stg2_1, cc0_stg3_0, cc0_stg3_1, cc0_stg4_0, cc0_stg4_1, cc2_stg0_0, cc2_stg1_0, cc2_stg1_1, cc2_stg2_0, cc2_stg2_1, cc2_stg3_0, cc2_stg3_1, cc2_stg4_0, cc2_stg4_1] (by decide) (by decide)
theorem unscopedRest1_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec1 c V : sProp (MT nD τ sig Ix Val Name U Lvl))
      = iprop((((c : Thread nD τ).loc main_arg0) ↦{fullShare} V main_arg0) ∗ (((c : Thread nD τ).loc main_arg1) ↦{fullShare} V main_arg1) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v6) ↦{fullShare} V main_v6) ∗ (((c : Thread nD τ).loc main_v7) ↦{fullShare} V main_v7) ∗ (((c : Thread nD τ).loc main_v8) ↦{fullShare} V main_v8) ∗ (((c : Thread nD τ).loc main_v10) ↦{fullShare} V main_v10) ∗ (((c : Thread nD τ).loc main_v12) ↦{fullShare} V main_v12)) :=
  Pipeline.unscopedRest_eq_of_list spec1 c V [main_arg0, main_arg1, main_v0, main_v1, main_v2, main_v6, main_v7, main_v8, main_v10, main_v12] (by decide) (by decide)

theorem winFacts2 : Pipeline.WinFacts spec2 := by decide
theorem block_pos2 : ∀ w : Fin 5, 0 < (spec2 w).block.numel := by decide
theorem arr_whole2 : ∀ w : Fin 5, (spec2 w).arr.IsWhole := fun | 0 => Memref.isWhole_whole _ | 1 => Memref.isWhole_whole _ | 2 => Memref.isWhole_whole _ | 3 => Memref.isWhole_whole _ | 4 => Memref.isWhole_whole _ | ⟨_ + 5, h⟩ => absurd h (Nat.not_lt.2 (Nat.le_add_left _ _))
theorem stage_whole2 : ∀ (w : Fin 5) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | 3 => fun s => hstage2_3 (s.cast nbuf2_3) | 4 => fun s => hstage2_4 (s.cast nbuf2_4) | ⟨_ + 5, h⟩ => absurd h (Nat.not_lt.2 (Nat.le_add_left _ _))
theorem launch2 : Pipeline.LaunchFacts (nD := nD) (τ := τ) cfgs 2 := ⟨cellOf_inj, winFacts2, block_pos2, arr_whole2, stage_whole2⟩

theorem N_2 : grid2.N = 6 := by decide
def t2_0 : Fin grid2.N := ⟨0, by rw [N_2]; decide⟩
def t2_1 : Fin grid2.N := ⟨1, by rw [N_2]; decide⟩
def t2_2 : Fin grid2.N := ⟨2, by rw [N_2]; decide⟩
def t2_3 : Fin grid2.N := ⟨3, by rw [N_2]; decide⟩
def t2_4 : Fin grid2.N := ⟨4, by rw [N_2]; decide⟩
def t2_5 : Fin grid2.N := ⟨5, by rw [N_2]; decide⟩
theorem fin_N2 (t : Fin grid2.N) : t = t2_0 ∨ t = t2_1 ∨ t = t2_2 ∨ t = t2_3 ∨ t = t2_4 ∨ t = t2_5 := by
  obtain ⟨t, ht⟩ := t; have := N_2; simp only [t2_0, t2_1, t2_2, t2_3, t2_4, t2_5, Fin.mk.injEq]; omega

theorem bigSep_W2 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ
theorem scopedRest2_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_stg3_0), ((c : Thread nD τ).loc cc0_stg3_0) ↦{fullShare} f) ∗ (∃ f : Buf Val ((c : Thread nD τ).loc cc0_stg3_1), ((c : Thread nD τ).loc cc0_stg3_1) ↦{fullShare} f) ∗ (∃ f : Buf Val ((c : Thread nD τ).loc cc0_stg4_0), ((c : Thread nD τ).loc cc0_stg4_0) ↦{fullShare} f) ∗ (∃ f : Buf Val ((c : Thread nD τ).loc cc0_stg4_1), ((c : Thread nD τ).loc cc0_stg4_1) ↦{fullShare} f) ∗ (∃ f : Buf Val ((c : Thread nD τ).loc cc1_stg0_0), ((c : Thread nD τ).loc cc1_stg0_0) ↦{fullShare} f) ∗ (∃ f : Buf Val ((c : Thread nD τ).loc cc1_stg1_0), ((c : Thread nD τ).loc cc1_stg1_0) ↦{fullShare} f) ∗ (∃ f : Buf Val ((c : Thread nD τ).loc cc1_stg1_1), ((c : Thread nD τ).loc cc1_stg1_1) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg3_1), ((c : Thread nD τ).loc cc1_stg3_1) ↦{fullShare} f) ∗ (∃ f : Buf Val ((c : Thread nD τ).loc cc1_stg4_0), ((c : Thread nD τ).loc cc1_stg4_0) ↦{fullShare} f) ∗ (∃ f : Buf Val ((c : Thread nD τ).loc cc1_stg4_1), ((c : Thread nD τ).loc cc1_stg4_1) ↦{fullShare} f)) :=
  Pipeline.scopedRest_eq_of_list spec2 c [cc0_stg0_0, cc0_stg1_0, cc0_stg1_1, cc0_stg2_0, cc0_stg2_1, cc0_stg3_0, cc0_stg3_1, cc0_stg4_0, cc0_stg4_1, cc1_stg0_0, cc1_stg1_0, cc1_stg1_1, cc1_stg2_0, cc1_stg2_1, cc1_stg3_0, cc1_stg3_1, cc1_stg4_0, cc1_stg4_1] (by decide) (by decide)
theorem unscopedRest2_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec2 c V : sProp (MT nD τ sig Ix Val Name U Lvl))
      = iprop((((c : Thread nD τ).loc main_arg0) ↦{fullShare} V main_arg0) ∗ (((c : Thread nD τ).loc main_arg1) ↦{fullShare} V main_arg1) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v10) ↦{fullShare} V main_v10) ∗ (((c : Thread nD τ).loc main_v11) ↦{fullShare} V main_v11)) :=
  Pipeline.unscopedRest_eq_of_list spec2 c V [main_arg0, main_arg1, main_v0, main_v1, main_v2, main_v3, main_v4, main_v5, main_v10, main_v11] (by decide) (by decide)

abbrev hostOps0 : List (HloOp τ sig (Elt F)) :=
  [ StableHlo.unary main_arg1 main_v0 ((extractStridedSlice S4096x1024 ![0, 0] · slices_S4096x9216_S4096x1024_0_0) : (⟨S4096x9216, .bf16⟩ : BufTy).Contents (Elt F) → (⟨S4096x1024, .bf16⟩ : BufTy).Contents (Elt F)),
    StableHlo.unary main_arg1 main_v1 ((extractStridedSlice S4096x1024 ![0, 1024] · slices_S4096x9216_S4096x1024_0_1024) : (⟨S4096x9216, .bf16⟩ : BufTy).Contents (Elt F) → (⟨S4096x1024, .bf16⟩ : BufTy).Contents (Elt F)),
    StableHlo.unary main_arg1 main_v2 ((extractStridedSlice S4096x1024 ![0, 2048] · slices_S4096x9216_S4096x1024_0_2048) : (⟨S4096x9216, .bf16⟩ : BufTy).Contents (Elt F) → (⟨S4096x1024, .bf16⟩ : BufTy).Contents (Elt F)),
    StableHlo.unary main_arg1 main_v3 ((extractStridedSlice S4096x1024 ![0, 3072] · slices_S4096x9216_S4096x1024_0_3072) : (⟨S4096x9216, .bf16⟩ : BufTy).Contents (Elt F) → (⟨S4096x1024, .bf16⟩ : BufTy).Contents (Elt F)),
    StableHlo.unary main_arg1 main_v4 ((extractStridedSlice S4096x1024 ![0, 4096] · slices_S4096x9216_S4096x1024_0_4096) : (⟨S4096x9216, .bf16⟩ : BufTy).Contents (Elt F) → (⟨S4096x1024, .bf16⟩ : BufTy).Contents (Elt F)),
    StableHlo.unary main_arg1 main_v5 ((extractStridedSlice S4096x1024 ![0, 5120] · slices_S4096x9216_S4096x1024_0_5120) : (⟨S4096x9216, .bf16⟩ : BufTy).Contents (Elt F) → (⟨S4096x1024, .bf16⟩ : BufTy).Contents (Elt F)),
    StableHlo.unary main_arg1 main_v6 ((extractStridedSlice S4096x1024 ![0, 6144] · slices_S4096x9216_S4096x1024_0_6144) : (⟨S4096x9216, .bf16⟩ : BufTy).Contents (Elt F) → (⟨S4096x1024, .bf16⟩ : BufTy).Contents (Elt F)),
    StableHlo.unary main_arg1 main_v7 ((extractStridedSlice S4096x1024 ![0, 7168] · slices_S4096x9216_S4096x1024_0_7168) : (⟨S4096x9216, .bf16⟩ : BufTy).Contents (Elt F) → (⟨S4096x1024, .bf16⟩ : BufTy).Contents (Elt F)),
    StableHlo.unary main_arg1 main_v8 ((extractStridedSlice S4096x1024 ![0, 8192] · slices_S4096x9216_S4096x1024_0_8192) : (⟨S4096x9216, .bf16⟩ : BufTy).Contents (Elt F) → (⟨S4096x1024, .bf16⟩ : BufTy).Contents (Elt F)),
    StableHlo.unary main_arg0 main_v9 ((truncf .bf16 · bitsLt_bf16_f32) : (⟨S4096x1024, .f32⟩ : BufTy).Contents (Elt F) → (⟨S4096x1024, .bf16⟩ : BufTy).Contents (Elt F)) ]
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev hostOps1 : List (HloOp τ sig (Elt F)) :=
  [ StableHlo.unary main_v10 main_v11 id ]
theorem hostOps1_sub : (hostOps1 : List (HloOp τ sig (Elt F))).Forall fun op => op.bufs ⊆ StableHlo.tcRefs τ sig :=
  StableHlo.unary_bufs_sub ..
abbrev hostOps2 : List (HloOp τ sig (Elt F)) :=
  [ StableHlo.unary main_v11 main_v12 id ]
theorem hostOps2_sub : (hostOps2 : List (HloOp τ sig (Elt F))).Forall fun op => op.bufs ⊆ StableHlo.tcRefs τ sig :=
  StableHlo.unary_bufs_sub ..
theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()) ] : Prog (TpuEff nD τ sig (Elt F) (Pipeline.Sig Λ₀ (Fin 3) fun p => (pcfgs (F := F) p).Adm) .tc) PUnit) := by
  rewrite [StableHlo.chain_seq_cons, Pipeline.chain_cons, StableHlo.chain_seq_cons, Pipeline.chain_cons, StableHlo.chain_seq_cons, Pipeline.chain_cons]
  chain_rfl

theorem main_segs {Ix : Type} [DecidableEq Ix] {Name : Type} [DecidableEq Name] {U : Type} [URA U] {Lvl : Type} [Preorder Lvl]
    (a : (p : Fin 3) → (pcfgs (F := F) p).Adm) (pdats : (p : Fin 3) → (c : Dev nD) → Pipeline.Dat τ (Elt F) Ix Name U Lvl (Pipeline.pin (pcfgs (F := F)) a p) c)
    (ι : Ix) (𝒱 : Variants) (L : GSem nD τ sig → Finset Ix) (lv : GSem nD τ sig → Ix → Lvl)
    (H0 : Pipeline.HostSeg (Ix := Ix) (Name := Name) (U := U) (Lvl := Lvl) (pcfgs (F := F)) defs₀ 𝒱 L lv) (H1 : Pipeline.HostSeg (Ix := Ix) (Name := Name) (U := U) (Lvl := Lvl) (pcfgs (F := F)) defs₀ 𝒱 L lv) (H2 : Pipeline.HostSeg (Ix := Ix) (Name := Name) (U := U) (Lvl := Lvl) (pcfgs (F := F)) defs₀ 𝒱 L lv)
    (R0 : Pipeline.RegionSeg (pcfgs (F := F)) a pdats ι defs₀ 𝒱 L lv 0) (R1 : Pipeline.RegionSeg (pcfgs (F := F)) a pdats ι defs₀ 𝒱 L lv 1) (R2 : Pipeline.RegionSeg (pcfgs (F := F)) a pdats ι defs₀ 𝒱 L lv 2)
    (h0 : H0.prog = StableHlo.seq hostOps0) (h1 : H1.prog = StableHlo.seq hostOps1) (h2 : H2.prog = StableHlo.seq hostOps2)
    (c : Dev nD) :
    main c = Pipeline.Seg.run [.host H0, .region R0, .host H1, .region R1, .host H2, .region R2] := by
  simp only [Pipeline.Seg.run]
  rw [h0, h1, h2]
  rfl

end Cert.Kernel4Ideal.Gen

end
-- ==== Proof.Proj.Body.lean ====
/- The body that the three calls share: at each point of the grid one of three right operands is multiplied. -/
module

public import proofs.«01_k».proof.Proof.Proj.Ideal
public import Idealize.ShloMosaic.Lib.Pipeline.FrameBody
public import Idealize.ShloMosaic.Lib.Ring
public import Idealize.ShloMosaic.Lib.Tactic
public import Idealize.ShloMosaic.Lib.WordCmp

@[expose] public section

set_option synthInstance.maxSize 4096
set_option maxRecDepth 65536

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a branch stores: the transpose of the left block times the right block. -/
def product (x : Vec F S4096x1024 .bf16) (y : Vec F S4096x512 .bf16) : FVec F S1024x512 .bf16 :=
  truncf .bf16 (matmul dot_S4096x1024_S4096x512_S1024x512_0_0_1_1_n_n none (shapeCast S4096x1024 x shapeCasts_S4096x1024_S4096x1024)
    (shapeCast S4096x512 y shapeCasts_S4096x512_S4096x512) (constant S1024x512 .f32 0x00000000#32)) bitsLt_bf16_f32

/-- The body's loads and stores. -/
def part (i : grid0.Coords) (a1 : Memref sig .tc .vmem S4096x1024 .bf16) (h1 : a1.IsWhole) (a2 : Memref sig .tc .vmem S4096x512 .bf16) (h2 : a2.IsWhole)
    (a3 : Memref sig .tc .vmem S4096x512 .bf16) (h3 : a3.IsWhole) (a4 : Memref sig .tc .vmem S4096x512 .bf16) (h4 : a4.IsWhole) (a5 : Memref sig .tc .vmem S1024x512 .bf16) (h5 : a5.IsWhole) :
    Prog (TpuEff nD τ sig (Elt F) Λ₀ .tc) PUnit := do
  if h : k0_cond1 i = 1#1 then do
    let x : Vec F S4096x1024 .bf16 ← Prog.lift (.load a1 (Rect.unit (s := S4096x1024) ![0, 0] S4096x1024.size inb_S4096x1024_S4096x1024_0_0).toLoadRect (View.loadsAt_vmem h_S4096x1024))
    let y : Vec F S4096x512 .bf16 ← Prog.lift (.load a2 (Rect.unit (s := S4096x512) ![0, 0] S4096x512.size inb_S4096x512_S4096x512_0_0).toLoadRect (View.loadsAt_vmem h_S4096x512))
    let z : Vec F S1024x512 .bf16 ← Prog.lift (.load a5 (Rect.unit (s := S1024x512) ![0, 0] S1024x512.size inb_S1024x512_S1024x512_0_0).toLoadRect (View.loadsAt_vmem h_S1024x512))
    Prog.lift (.store a5 (Rect.unit (s := S1024x512) ![0, 0] S1024x512.size inb_S1024x512_S1024x512_0_0) (product x y) Finset.univ (View.stores_vmem h_S1024x512 (h5.storeExact_slice rfl _ packedbf16_S1024x512_S1024x512_0_0) (fun _ => rfl)) (.inl rfl))
    pure ⟨⟩
  else do
    pure ⟨⟩
  if h : k0_cond2 i = 1#1 then do
    let x : Vec F S4096x1024 .bf16 ← Prog.lift (.load a1 (Rect.unit (s := S4096x1024) ![0, 0] S4096x1024.size inb_S4096x1024_S4096x1024_0_0).toLoadRect (View.loadsAt_vmem h_S4096x1024))
    let y : Vec F S4096x512 .bf16 ← Prog.lift (.load a3 (Rect.unit (s := S4096x512) ![0, 0] S4096x512.size inb_S4096x512_S4096x512_0_0).toLoadRect (View.loadsAt_vmem h_S4096x512))
    let z : Vec F S1024x512 .bf16 ← Prog.lift (.load a5 (Rect.unit (s := S1024x512) ![0, 0] S1024x512.size inb_S1024x512_S1024x512_0_0).toLoadRect (View.loadsAt_vmem h_S1024x512))
    Prog.lift (.store a5 (Rect.unit (s := S1024x512) ![0, 0] S1024x512.size inb_S1024x512_S1024x512_0_0) (product x y) Finset.univ (View.stores_vmem h_S1024x512 (h5.storeExact_slice rfl _ packedbf16_S1024x512_S1024x512_0_0) (fun _ => rfl)) (.inl rfl))
    pure ⟨⟩
  else do
    pure ⟨⟩
  if h : k0_cond3 i = 1#1 then do
    let x : Vec F S4096x1024 .bf16 ← Prog.lift (.load a1 (Rect.unit (s := S4096x1024) ![0, 0] S4096x1024.size inb_S4096x1024_S4096x1024_0_0).toLoadRect (View.loadsAt_vmem h_S4096x1024))
    let y : Vec F S4096x512 .bf16 ← Prog.lift (.load a4 (Rect.unit (s := S4096x512) ![0, 0] S4096x512.size inb_S4096x512_S4096x512_0_0).toLoadRect (View.loadsAt_vmem h_S4096x512))
    let z : Vec F S1024x512 .bf16 ← Prog.lift (.load a5 (Rect.unit (s := S1024x512) ![0, 0] S1024x512.size inb_S1024x512_S1024x512_0_0).toLoadRect (View.loadsAt_vmem h_S1024x512))
    Prog.lift (.store a5 (Rect.unit (s := S1024x512) ![0, 0] S1024x512.size inb_S1024x512_S1024x512_0_0) (product x y) Finset.univ (View.stores_vmem h_S1024x512 (h5.storeExact_slice rfl _ packedbf16_S1024x512_S1024x512_0_0) (fun _ => rfl)) (.inl rfl))
    pure ⟨⟩
  else do
    pure ⟨⟩
  pure ⟨⟩

theorem cc0_eq (i : grid0.Coords) (a1 : Memref sig .tc .vmem S4096x1024 .bf16) (h1 : a1.IsWhole) (a2 : Memref sig .tc .vmem S4096x512 .bf16) (h2 : a2.IsWhole)
    (a3 : Memref sig .tc .vmem S4096x512 .bf16) (h3 : a3.IsWhole) (a4 : Memref sig .tc .vmem S4096x512 .bf16) (h4 : a4.IsWhole) (a5 : Memref sig .tc .vmem S1024x512 .bf16) (h5 : a5.IsWhole) :
    cc0_attn_dw_qkv_0 (F := F) i a1 h1 a2 h2 a3 h3 a4 h4 a5 h5 = part i a1 h1 a2 h2 a3 h3 a4 h4 a5 h5 := rfl

/-- The second and the third call's bodies are the first's: neither touches the array it continues. -/
theorem cc1_eq (i : grid0.Coords) (a1 : Memref sig .tc .vmem S4096x1024 .bf16) (h1 : a1.IsWhole) (a2 : Memref sig .tc .vmem S4096x512 .bf16) (h2 : a2.IsWhole)
    (a3 : Memref sig .tc .vmem S4096x512 .bf16) (h3 : a3.IsWhole) (a4 : Memref sig .tc .vmem S4096x512 .bf16) (h4 : a4.IsWhole) (a5 : Memref sig .tc .vmem S1024x512 .bf16) (h5 : a5.IsWhole)
    (b : Memref sig .tc .hbm S1024x9216 .bf16) (hb : b.IsWhole) :
    cc1_attn_dw_qkv_1 (F := F) i a1 h1 a2 h2 a3 h3 a4 h4 b hb a5 h5 = part i a1 h1 a2 h2 a3 h3 a4 h4 a5 h5 := rfl
theorem cc2_eq (i : grid0.Coords) (a1 : Memref sig .tc .vmem S4096x1024 .bf16) (h1 : a1.IsWhole) (a2 : Memref sig .tc .vmem S4096x512 .bf16) (h2 : a2.IsWhole)
    (a3 : Memref sig .tc .vmem S4096x512 .bf16) (h3 : a3.IsWhole) (a4 : Memref sig .tc .vmem S4096x512 .bf16) (h4 : a4.IsWhole) (a5 : Memref sig .tc .vmem S1024x512 .bf16) (h5 : a5.IsWhole)
    (b : Memref sig .tc .hbm S1024x9216 .bf16) (hb : b.IsWhole) :
    cc2_attn_dw_qkv_2 (F := F) i a1 h1 a2 h2 a3 h3 a4 h4 b hb a5 h5 = part i a1 h1 a2 h2 a3 h3 a4 h4 a5 h5 := rfl

/-- Exactly one branch is taken: the first at two points, the second at the next two, the third at the last two. -/
theorem conds : ∀ t : Fin grid0.N, (t.val < 2 → k0_cond1 (grid0.coords t) = 1#1 ∧ ¬ k0_cond2 (grid0.coords t) = 1#1 ∧ ¬ k0_cond3 (grid0.coords t) = 1#1)
    ∧ (2 ≤ t.val → t.val < 4 → ¬ k0_cond1 (grid0.coords t) = 1#1 ∧ k0_cond2 (grid0.coords t) = 1#1 ∧ ¬ k0_cond3 (grid0.coords t) = 1#1)
    ∧ (4 ≤ t.val → ¬ k0_cond1 (grid0.coords t) = 1#1 ∧ ¬ k0_cond2 (grid0.coords t) = 1#1 ∧ k0_cond3 (grid0.coords t) = 1#1) := by decide +kernel

/-- The right operand's block at a point. -/
def chosen (n : ℕ) (x1 x2 x3 : Vec F S4096x512 .bf16) : Vec F S4096x512 .bf16 := if n < 2 then x1 else if n < 4 then x2 else x3

/-- The block that the body leaves. -/
def left (n : ℕ) (x0 : Vec F S4096x1024 .bf16) (x1 x2 x3 : Vec F S4096x512 .bf16) : Vec F S1024x512 .bf16 :=
  View.canon [(⟨Rect.unit (s := S1024x512) ![0, 0] S1024x512.size inb_S1024x512_S1024x512_0_0,
    product (View.ld x0 (Rect.unit (s := S4096x1024) ![0, 0] S4096x1024.size inb_S4096x1024_S4096x1024_0_0)) (View.ld (chosen n x1 x2 x3) (Rect.unit (s := S4096x512) ![0, 0] S4096x512.size inb_S4096x512_S4096x512_0_0))⟩ : View.Piece (Elt F) S1024x512 .bf16)]

theorem covered (p : Vec F S1024x512 .bf16) (y : S1024x512.Idx) :
    ∃ pc ∈ [(⟨Rect.unit (s := S1024x512) ![0, 0] S1024x512.size inb_S1024x512_S1024x512_0_0, p⟩ : View.Piece (Elt F) S1024x512 .bf16)], y ∈ pc.1.set :=
  View.cover_of_tiled [⟨Rect.unit (s := S1024x512) ![0, 0] S1024x512.size inb_S1024x512_S1024x512_0_0, p⟩] S1024x512.size (by rfl) y

set_option maxHeartbeats 2000000 in
/-- The body's triple: from the four operands' blocks it leaves `left` in the result's buffer. -/
theorem sound_part (c : Dev nD) (E : Set ℕ) (t : Fin grid0.N) (a1 : Memref sig .tc .vmem S4096x1024 .bf16) (h1 : a1.IsWhole) (a2 : Memref sig .tc .vmem S4096x512 .bf16) (h2 : a2.IsWhole)
    (a3 : Memref sig .tc .vmem S4096x512 .bf16) (h3 : a3.IsWhole) (a4 : Memref sig .tc .vmem S4096x512 .bf16) (h4 : a4.IsWhole) (a5 : Memref sig .tc .vmem S1024x512 .bf16) (h5 : a5.IsWhole)
    (x0 : Vec F S4096x1024 .bf16) (x1 x2 x3 : Vec F S4096x512 .bf16) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare (left t.val x0 x1 x2 x3)) -∗ K ⟨⟩))
      ⊢ wp frame (wpE (defs₀ (F := F)) Variants.none c none) E (part (grid0.coords t) a1 h1 a2 h2 a3 h3 a4 h4 a5 h5) K := by
  have hk : (k0_cond1 (grid0.coords t) = 1#1 ∧ ¬ k0_cond2 (grid0.coords t) = 1#1 ∧ ¬ k0_cond3 (grid0.coords t) = 1#1 ∧ chosen t.val x1 x2 x3 = x1)
      ∨ (¬ k0_cond1 (grid0.coords t) = 1#1 ∧ k0_cond2 (grid0.coords t) = 1#1 ∧ ¬ k0_cond3 (grid0.coords t) = 1#1 ∧ chosen t.val x1 x2 x3 = x2)
      ∨ (¬ k0_cond1 (grid0.coords t) = 1#1 ∧ ¬ k0_cond2 (grid0.coords t) = 1#1 ∧ k0_cond3 (grid0.coords t) = 1#1 ∧ chosen t.val x1 x2 x3 = x3) := by
    obtain ⟨ha, hb, hc⟩ := conds t
    by_cases h1 : t.val < 2
    · exact .inl ⟨(ha h1).1, (ha h1).2.1, (ha h1).2.2, if_pos h1⟩
    · by_cases h2 : t.val < 4
      · have h := hb (by omega) h2
        exact .inr (.inl ⟨h.1, h.2.1, h.2.2, (if_neg h1).trans (if_pos h2)⟩)
      · have h := hc (by omega)
        exact .inr (.inr ⟨h.1, h.2.1, h.2.2, (if_neg h1).trans (if_neg h2)⟩)
  unfold part owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  rcases hk with ⟨hc1, hc2, hc3, hl⟩ | ⟨hc1, hc2, hc3, hl⟩ | ⟨hc1, hc2, hc3, hl⟩
  all_goals
    sl_exec (disch := first | sl_exact hc1 | sl_exact hc2 | sl_exact hc3)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists _; isplitr
    swap; · iexact H4
    ipureintro
    rw [left, hl]
    exact View.read_writes_eq_canon _ _ _ (covered _)

end Cert.Kernel4Ideal.Gen

end
-- ==== Proof.Proj.Points.lean ====
/- The grids of the three calls, point by point. -/
module

public import proofs.«01_k».proof.Proof.Proj.Ideal
public import Idealize.ShloMosaic.Lib.Pipeline.Kit

@[expose] public section

noncomputable section

namespace Cert.Kernel4Ideal.Gen

open Idealize.ShloMosaic Idealize.ShloMosaic.TcCoe
open Idealize.SL Idealize.SL.Sem

variable {F : FTy → Type} [FloatOps F]

theorem fetch0_0 : ∀ t : Fin cfg0.N, (cfg0.win 0).fetch t = true ↔ t.val % 6 = 0 :=
  (fun t => Pipeline.Window.fetch_const win0_0 rfl (fun _ _ => rfl) (n := 6) (by decide) t : ∀ t : Fin grid0.N, win0_0.fetch t = true ↔ t.val % 6 = 0)
theorem fetch0_2 : ∀ t : Fin cfg0.N, (cfg0.win 2).fetch t = true ↔ t.val % 3 = 0 :=
  (by decide +kernel : ∀ t : Fin grid0.N, win0_2.fetch t = true ↔ t.val % 3 = 0)
theorem flush0_4 : ∀ t : Fin cfg0.N, (cfg0.win 4).flush t = true :=
  (by decide +kernel : ∀ t : Fin grid0.N, win0_4.flush t = true)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)

abbrev bodyAt0 (t : Fin cfg0.N) : Prog (TpuEff nD τ sig (Elt F) Λ₀ .tc) PUnit :=
  cc0_attn_dw_qkv_0 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))

theorem fetch1_0 : ∀ t : Fin cfg1.N, (cfg1.win 0).fetch t = true ↔ t.val % 6 = 0 :=
  (fun t => Pipeline.Window.fetch_const win1_0 rfl (fun _ _ => rfl) (n := 6) (by decide) t : ∀ t : Fin grid1.N, win1_0.fetch t = true ↔ t.val % 6 = 0)
theorem fetch1_2 : ∀ t : Fin cfg1.N, (cfg1.win 2).fetch t = true ↔ t.val % 3 = 0 :=
  (by decide +kernel : ∀ t : Fin grid1.N, win1_2.fetch t = true ↔ t.val % 3 = 0)
theorem flush1_4 : ∀ t : Fin cfg1.N, (cfg1.win 4).flush t = true :=
  (by decide +kernel : ∀ t : Fin grid1.N, win1_4.flush t = true)

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev st1_4 (t : Fin cfg1.N) := (cfg1.win 4).stage (cfg1.slots t 4)

abbrev bodyAt1 (t : Fin cfg1.N) : Prog (TpuEff nD τ sig (Elt F) Λ₀ .tc) PUnit :=
  cc1_attn_dw_qkv_1 (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole main_v10) (Memref.isWhole_whole _) (win1_4.stage (cfg1.slots t 4)) (hstage1_4 ((cfg1.slots t 4).cast nbuf1_4))

theorem fetch2_0 : ∀ t : Fin cfg2.N, (cfg2.win 0).fetch t = true ↔ t.val % 6 = 0 :=
  (fun t => Pipeline.Window.fetch_const win2_0 rfl (fun _ _ => rfl) (n := 6) (by decide) t : ∀ t : Fin grid2.N, win2_0.fetch t = true ↔ t.val % 6 = 0)
theorem fetch2_2 : ∀ t : Fin cfg2.N, (cfg2.win 2).fetch t = true ↔ t.val % 3 = 0 :=
  (by decide +kernel : ∀ t : Fin grid2.N, win2_2.fetch t = true ↔ t.val % 3 = 0)
theorem flush2_4 : ∀ t : Fin cfg2.N, (cfg2.win 4).flush t = true :=
  (by decide +kernel : ∀ t : Fin grid2.N, win2_4.flush t = true)

abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev st2_4 (t : Fin cfg2.N) := (cfg2.win 4).stage (cfg2.slots t 4)

abbrev bodyAt2 (t : Fin cfg2.N) : Prog (TpuEff nD τ sig (Elt F) Λ₀ .tc) PUnit :=
  cc2_attn_dw_qkv_2 (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole main_v11) (Memref.isWhole_whole _) (win2_4.stage (cfg2.slots t 4)) (hstage2_4 ((cfg2.slots t 4).cast nbuf2_4))

end Cert.Kernel4Ideal.Gen

end
-- ==== Proof.Proj.Frame.lean ====
module

public import proofs.«01_k».proof.Proof.Proj.Launch
public import proofs.«01_k».proof.Proof.Proj.Body
public import proofs.«01_k».proof.Proof.Proj.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)section Regions
variable (V : (c : Dev nD) → (b : Ref sig .tc) → Buf (Elt F) ((c : Thread nD τ).loc b))

/-- The block of window `w` at point `t` of the first call, in its array at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the first call's body leaves in each buffer. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => left t.val (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_4 (c : Dev nD) (t : Fin cfg0.N) :
    (dat0 V c).after 4 t = left t.val (iblk0 V c 0 t) (iblk0 V c 1 t) (iblk0 V c 2 t) (iblk0 V c 3 t) := by dsimp only [dat0]
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem live0 : ∀ t : Fin cfg0.N, cfg0.idle 4 (grid0.coords t) = false := by decide +kernel

theorem defs₀_row0 (t : Fin cfg0.N) : defs₀ (F := F) .tc cfg0.body (cfg0.bodyArgs t (cfg0.slots t)) = bodyAt0 t := by
  unfold defs₀; rw [Defs.onTc_tc]

def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d)))

def bodyPost0 (c : Dev nD) (t : Fin cfg0.N) : sProp 𝕄 :=
  iprop((dat0 V c).Φ t.castSucc ∗ (dat0 V c).owesAt () t.castSucc
    ∗ owns (c : Thread nD τ) (win0_0.stage (cfg0.slots t 0)) fullShare (iblk0 V c 0 t)
    ∗ owns (c : Thread nD τ) (win0_1.stage (cfg0.slots t 1)) fullShare (iblk0 V c 1 t)
    ∗ owns (c : Thread nD τ) (win0_2.stage (cfg0.slots t 2)) fullShare (iblk0 V c 2 t)
    ∗ owns (c : Thread nD τ) (win0_3.stage (cfg0.slots t 3)) fullShare (iblk0 V c 3 t)
    ∗ (dat0 V c).leavesExact 4 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).leavesExact 4 t = owns (c : Thread nD τ) (win0_4.stage (cfg0.slots t 4)) fullShare ((dat0 V c).after 4 t) from by
    unfold Dat.leavesExact; rw [live0 t], after0_4, cc0_eq]
  iintro ⟨HΦ, Ho, ⟨%d0, H0⟩, ⟨%d1, H1⟩, ⟨%d2, H2⟩, ⟨%d3, H3⟩, ⟨%d4, H4⟩⟩
  iapply (sound_part c Set.univ t _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The first call's body meets its contract at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The block of window `w` at point `t` of the second call, in its array at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the second call's body leaves in each buffer. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => left t.val (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_4 (c : Dev nD) (t : Fin cfg1.N) :
    (dat1 V c).after 4 t = left t.val (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem live1 : ∀ t : Fin cfg1.N, cfg1.idle 4 (grid1.coords t) = false := by decide +kernel

theorem defs₀_row1 (t : Fin cfg1.N) : defs₀ (F := F) .tc cfg1.body (cfg1.bodyArgs t (cfg1.slots t)) = bodyAt1 t := by
  unfold defs₀; rw [Defs.onTc_tc]

def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))

def bodyPost1 (c : Dev nD) (t : Fin cfg1.N) : sProp 𝕄 :=
  iprop((dat1 V c).Φ t.castSucc ∗ (dat1 V c).owesAt () t.castSucc
    ∗ owns (c : Thread nD τ) (win1_0.stage (cfg1.slots t 0)) fullShare (iblk1 V c 0 t)
    ∗ owns (c : Thread nD τ) (win1_1.stage (cfg1.slots t 1)) fullShare (iblk1 V c 1 t)
    ∗ owns (c : Thread nD τ) (win1_2.stage (cfg1.slots t 2)) fullShare (iblk1 V c 2 t)
    ∗ owns (c : Thread nD τ) (win1_3.stage (cfg1.slots t 3)) fullShare (iblk1 V c 3 t)
    ∗ (dat1 V c).leavesExact 4 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).leavesExact 4 t = owns (c : Thread nD τ) (win1_4.stage (cfg1.slots t 4)) fullShare ((dat1 V c).after 4 t) from by
    unfold Dat.leavesExact; rw [live1 t], after1_4, cc1_eq]
  iintro ⟨HΦ, Ho, ⟨%d0, H0⟩, ⟨%d1, H1⟩, ⟨%d2, H2⟩, ⟨%d3, H3⟩, ⟨%d4, H4⟩⟩
  iapply (sound_part c Set.univ t _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The second call's body meets its contract at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The block of window `w` at point `t` of the third call, in its array at entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the third call's body leaves in each buffer. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => left t.val (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_4 (c : Dev nD) (t : Fin cfg2.N) :
    (dat2 V c).after 4 t = left t.val (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem live2 : ∀ t : Fin cfg2.N, cfg2.idle 4 (grid2.coords t) = false := by decide +kernel

theorem defs₀_row2 (t : Fin cfg2.N) : defs₀ (F := F) .tc cfg2.body (cfg2.bodyArgs t (cfg2.slots t)) = bodyAt2 t := by
  unfold defs₀; rw [Defs.onTc_tc]

def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d)))

def bodyPost2 (c : Dev nD) (t : Fin cfg2.N) : sProp 𝕄 :=
  iprop((dat2 V c).Φ t.castSucc ∗ (dat2 V c).owesAt () t.castSucc
    ∗ owns (c : Thread nD τ) (win2_0.stage (cfg2.slots t 0)) fullShare (iblk2 V c 0 t)
    ∗ owns (c : Thread nD τ) (win2_1.stage (cfg2.slots t 1)) fullShare (iblk2 V c 1 t)
    ∗ owns (c : Thread nD τ) (win2_2.stage (cfg2.slots t 2)) fullShare (iblk2 V c 2 t)
    ∗ owns (c : Thread nD τ) (win2_3.stage (cfg2.slots t 3)) fullShare (iblk2 V c 3 t)
    ∗ (dat2 V c).leavesExact 4 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).leavesExact 4 t = owns (c : Thread nD τ) (win2_4.stage (cfg2.slots t 4)) fullShare ((dat2 V c).after 4 t) from by
    unfold Dat.leavesExact; rw [live2 t], after2_4, cc2_eq]
  iintro ⟨HΦ, Ho, ⟨%d0, H0⟩, ⟨%d1, H1⟩, ⟨%d2, H2⟩, ⟨%d3, H3⟩, ⟨%d4, H4⟩⟩
  iapply (sound_part c Set.univ t _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The third call's body meets its contract at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

abbrev argRefs : List (Ref sig .tc) := [main_arg0, main_arg1]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v11]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v12]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every buffer the run keeps ends at the contents of the last boundary, and every counter at zero. -/
theorem run_main : θ_run defs (onTc (τ := τ) (main (F := F))) ⟨m, fun _ => 0, ρ⟩ (fun r => (∀ c : Dev nD,
      ∀ b ∈ Pipeline.ucRefs τ sig, r.2.mem ((c.tc : Thread nD τ).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c b hb => h c b hb, funext fun g => hz g (.inr (no_unscoped g.2))⟩)

end Cert.Kernel4Ideal.Gen

end
-- ==== Proof.Proj.Same.lean ====
/- The three calls' frames, before and after idealization: the two texts are one, so one run serves both. -/
module

public import proofs.«01_k».proof.Defs
public import proofs.«01_k».proof.Proof.Proj.Frame

@[expose] public section

set_option maxRecDepth 16384
set_option maxHeartbeats 8000000

noncomputable section

namespace Cert.Kernel4.Gen

instance facts₀ : Cert.Kernel4.Facts₀ := { Cert.Kernel4Ideal.Gen.facts₀ with }
instance facts : Cert.Kernel4.Facts := { Cert.Kernel4Ideal.Gen.facts with }

end Cert.Kernel4.Gen

namespace Cert.Proj

open Idealize.ShloMosaic Idealize.ShloMosaic.TcCoe Idealize.SL.Sem

section Run

open Cert.Kernel4Ideal Cert.Kernel4Ideal.Gen

variable {F : FTy → Type} [FloatOps F] (m : (ℓ : Loc nD τ sig) → Buf (Elt F) ℓ) (ρ : Dev nD → PrngReg)

/-- The run leaves its arguments and every counter. -/
theorem quiet : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h.1 c _ (mem_uc main_arg0 (by decide))).trans (W6_main_arg0 m ρ c),
    (h.1 c _ (mem_uc main_arg1 (by decide))).trans (W6_main_arg1 m ρ c)⟩, h.2⟩) (run_main m ρ)

end Run

/-- The two programs' body tables are one. -/
theorem bodies {F : FTy → Type} [FloatOps F] : Cert.Kernel4.defs₀ (F := F) = Cert.Kernel4Ideal.defs₀ (F := F) := by
  refine congrArg (Defs.onTc (nD := Cert.Kernel4.nD) (τ := Cert.Kernel4.τ) (sig := Cert.Kernel4.sig) (Val := Elt F) (Λ := Cert.Kernel4.Λ₀)) (funext fun l => funext fun a => ?_)
  match l, a with
  | 0, (t, s) => rfl
  | 1, (t, s) => rfl
  | 2, (t, s) => rfl
  | ⟨_ + 3, h⟩, _ => exact absurd h (Nat.not_lt.2 (Nat.le_add_left _ _))

theorem tables {F : FTy → Type} [FloatOps F] : Cert.Kernel4.defs (F := F) = Cert.Kernel4Ideal.defs (F := F) :=
  congrArg (Pipeline.defs (Cert.Kernel4.pcfgs (F := F))) bodies

theorem mains {F : FTy → Type} [FloatOps F] : Cert.Kernel4.main (F := F) = Cert.Kernel4Ideal.main (F := F) := rfl

/-- The same of the program before idealization. -/
theorem quiet_bits (m : (ℓ : Loc Cert.Kernel4.nD Cert.Kernel4.τ Cert.Kernel4.sig) → Buf (Elt Bits) ℓ) (ρ : Dev Cert.Kernel4.nD → PrngReg) :
    θ_run (Cert.Kernel4.defs (F := Bits)) (onTc (τ := Cert.Kernel4.τ) (Cert.Kernel4.main (F := Bits))) ⟨m, fun _ => 0, ρ⟩ fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0 :=
  by rw [tables, mains]; exact quiet (F := Bits) m ρ

end Cert.Proj

end
-- ==== Proof.Proj.Value.lean ====
/- The three calls' run: each call writes its third of the columns of the product, and leaves the others as they were. -/
module

public import proofs.«01_k».proof.Proof.Hand.Cols
public import proofs.«01_k».proof.Proof.Prod.Sums
public import proofs.«01_k».proof.Proof.Proj.Frame

@[expose] public section

set_option maxRecDepth 16384
set_option backward.isDefEq.respectTransparency false

noncomputable section

namespace Cert.Proj

open Idealize.ShloMosaic hiding ix0 ix1 ix2 eq_ix1 eq_ix2
open Idealize.ShloMosaic.ValueIdx
open Idealize.ShloMosaic.Pipeline
open Cert.Kernel4Ideal Cert.Kernel4Ideal.Gen Cert.Real Cert.Prod

/-- Column `p` of a run of columns that starts at column `o`. -/
def col {n : ℕ} (o : ℕ) (p : Fin n) : Fin 9216 := Fin.ofNat 9216 (o + p.val)

/-- The run of `n` columns of `D` that starts at column `o`. -/
def cols (n : ℕ) (D : (⟨2, ![4096, 9216]⟩ : Shape).Idx → EReal) (o : ℕ) : (⟨2, ![4096, n]⟩ : Shape).Idx → EReal := fun y => D (ix2 (y 0) (col o (y 1)))

theorem slice_eq (o : ℕ) (ho : o + 1024 ≤ 9216) (h : S4096x9216.Slices ![0, o] S4096x1024) (D : (⟨2, ![4096, 9216]⟩ : Shape).Idx → EReal) :
    extractStridedSlice S4096x1024 ![0, o] D h = cols 1024 D o :=
  funext fun y => extractStridedSlice_apply _ _ _ _ _ fun a => by
    have h1 : (y 1).val < 1024 := (y 1).isLt
    match a with
    | ⟨0, _⟩ => show (y 0).val = 0 + (y 0).val; omega
    | ⟨1, _⟩ => show (o + (y 1).val) % 9216 = o + (y 1).val; omega

theorem left_eq (n : ℕ) (x0 : (⟨2, ![4096, 1024]⟩ : Shape).Idx → EReal) (x1 x2 x3 : (⟨2, ![4096, 512]⟩ : Shape).Idx → EReal) :
    left (F := Ideal) n x0 x1 x2 x3 = overRows (k := 4096) (a := 1024) (b := 512) x0 (chosen (F := Ideal) n x1 x2 x3) := by
  unfold left
  rw [View.canon_unit_zero hz2]
  simp only [View.ld_unit_zero (S := S4096x1024) hz2, View.ld_unit_zero (S := S4096x512) hz2]
  unfold product
  rw [shapeCast_self, shapeCast_self]
  exact matmul_eq (φ₁ := .bf16) (φ₂ := .bf16) dot_S4096x1024_S4096x512_S1024x512_0_0_1_1_n_n rfl x0 (chosen (F := Ideal) n x1 x2 x3)

variable (V : (c : Dev nD) → (b : Ref sig .tc) → Buf (Elt Ideal) (c.tc.loc b)) (c : Dev nD)
variable (X : (⟨2, ![4096, 1024]⟩ : Shape).Idx → EReal) (D : (⟨2, ![4096, 9216]⟩ : Shape).Idx → EReal)

namespace Call0

theorem ix : ∀ t : Fin cfg0.N, (win0_0.index t 0 = 0 ∧ win0_0.index t 1 = 0)
    ∧ (win0_1.index t 0 = 0 ∧ (t.val < 2 → win0_1.index t 1 = t.val)) ∧ (win0_2.index t 0 = 0 ∧ (2 ≤ t.val → t.val < 4 → win0_2.index t 1 = t.val - 2))
    ∧ (win0_3.index t 0 = 0 ∧ (4 ≤ t.val → win0_3.index t 1 = t.val - 4)) ∧ (win0_4.index t 0 = 0 ∧ win0_4.index t 1 = t.val + 0)
    ∧ win0_4.xsize (grid0.coords t) 0 = 1024 ∧ win0_4.xsize (grid0.coords t) 1 = 512 :=
  (by decide +kernel : ∀ t : Fin grid0.N, (win0_0.index t 0 = 0 ∧ win0_0.index t 1 = 0)
    ∧ (win0_1.index t 0 = 0 ∧ (t.val < 2 → win0_1.index t 1 = t.val)) ∧ (win0_2.index t 0 = 0 ∧ (2 ≤ t.val → t.val < 4 → win0_2.index t 1 = t.val - 2))
    ∧ (win0_3.index t 0 = 0 ∧ (4 ≤ t.val → win0_3.index t 1 = t.val - 4)) ∧ (win0_4.index t 0 = 0 ∧ win0_4.index t 1 = t.val + 0)
    ∧ win0_4.xsize (grid0.coords t) 0 = 1024 ∧ win0_4.xsize (grid0.coords t) 1 = 512)

theorem blk_0 (t : Fin cfg0.N) : (iblk0 (F := Ideal) V c 0 t : (⟨2, ![4096, 1024]⟩ : Shape).Idx → EReal) = V c main_v9 := by
  unfold iblk0
  funext y
  rw [View.read_apply]
  refine congrArg (V c main_v9) (?_ : _ = y)
  funext a; apply Fin.ext
  match a with
  | ⟨0, _⟩ => show win0_0.index t 0 * 4096 + 1 * (y 0).val = (y 0).val; rw [(ix t).1.1]; omega
  | ⟨1, _⟩ => show win0_0.index t 1 * 1024 + 1 * (y 1).val = (y 1).val; rw [(ix t).1.2]; omega

/-- At each point the block taken is the point's run of columns. -/
theorem picked (h1 : V c main_v0 = cols 1024 D 0) (h2 : V c main_v1 = cols 1024 D 1024) (h3 : V c main_v2 = cols 1024 D 2048) (t : Fin cfg0.N) :
    chosen (F := Ideal) t.val (iblk0 V c 1 t) (iblk0 V c 2 t) (iblk0 V c 3 t) = cols 512 D (0 + 512 * t.val) := by
  have hN : cfg0.N = 6 := N_0
  have ht := t.isLt
  funext y
  have hy : (y 1).val < 512 := (y 1).isLt
  unfold chosen
  split_ifs with ha hb
  · unfold iblk0
    rw [View.read_apply]
    refine (congrFun h1 _).trans (congrArg D ?_)
    funext a; apply Fin.ext
    match a with
    | ⟨0, _⟩ => show win0_1.index t 0 * 4096 + 1 * (y 0).val = (y 0).val; rw [(ix t).2.1.1]; omega
    | ⟨1, _⟩ => show (0 + (win0_1.index t 1 * 512 + 1 * (y 1).val)) % 9216 = (0 + 512 * t.val + (y 1).val) % 9216; rw [(ix t).2.1.2 ha]; omega
  · unfold iblk0
    rw [View.read_apply]
    refine (congrFun h2 _).trans (congrArg D ?_)
    funext a; apply Fin.ext
    match a with
    | ⟨0, _⟩ => show win0_2.index t 0 * 4096 + 1 * (y 0).val = (y 0).val; rw [(ix t).2.2.1.1]; omega
    | ⟨1, _⟩ => show (1024 + (win0_2.index t 1 * 512 + 1 * (y 1).val)) % 9216 = (0 + 512 * t.val + (y 1).val) % 9216; rw [(ix t).2.2.1.2 (by omega) hb]; omega
  · unfold iblk0
    rw [View.read_apply]
    refine (congrFun h3 _).trans (congrArg D ?_)
    funext a; apply Fin.ext
    match a with
    | ⟨0, _⟩ => show win0_3.index t 0 * 4096 + 1 * (y 0).val = (y 0).val; rw [(ix t).2.2.2.1.1]; omega
    | ⟨1, _⟩ => show (2048 + (win0_3.index t 1 * 512 + 1 * (y 1).val)) % 9216 = (0 + 512 * t.val + (y 1).val) % 9216; rw [(ix t).2.2.2.1.2 (by omega)]; omega

theorem fl (h0 : V c main_v9 = X) (h1 : V c main_v0 = cols 1024 D 0) (h2 : V c main_v1 = cols 1024 D 1024) (h3 : V c main_v2 = cols 1024 D 2048) (t : Fin cfg0.N) :
    (dat0 (F := Ideal) V c).flushed 4 t = ((cfg0.win 4).blk t).view.read (Elt Ideal) (overRows (k := 4096) (a := 1024) (b := 9216) X D) := by
  show (cfg0.win 4).cut (grid0.coords t) ((dat0 V c).after 4 t) = _
  have hN : cfg0.N = 6 := N_0
  have ht := t.isLt
  rw [after0_4, left_eq, picked V c D h1 h2 h3 t, blk_0 V c t, h0]
  funext y
  rw [View.read_apply]
  have hy : (y 1).val < 512 := (y 1).isLt
  refine Eq.trans ?_ (congrArg (overRows (k := 4096) (a := 1024) (b := 9216) X D) (?_ : ix2 (y 0) (col (0 + 512 * t.val) (y 1)) = _))
  · rfl
  funext a; apply Fin.ext
  match a with
  | ⟨0, _⟩ => show (y 0).val = win0_4.index t 0 * 1024 + 1 * (y 0).val; rw [(ix t).2.2.2.2.1.1]; omega
  | ⟨1, _⟩ => show (0 + 512 * t.val + (y 1).val) % 9216 = win0_4.index t 1 * 512 + 1 * (y 1).val; rw [(ix t).2.2.2.2.1.2]; omega

set_option maxHeartbeats 1000000 in
theorem mem (t : Fin cfg0.N) (i : (⟨2, ![1024, 9216]⟩ : Shape).Idx) :
    i ∈ ((cfg0.win 4).blk t).view.set ↔ 512 * (t.val + 0) ≤ (i 1).val ∧ (i 1).val < 512 * (t.val + 0) + 512 := by
  show i ∈ ((View.whole main_v10).slice (win0_4.rect t)).set ↔ _
  rw [View.set_slice_whole, Rect.mem_set_unit]
  have h0 : (i 0 : ℕ) < 1024 := (i 0).isLt
  constructor
  · intro h
    have h' : win0_4.index t 1 * 512 ≤ (i 1 : ℕ) ∧ (i 1 : ℕ) < win0_4.index t 1 * 512 + win0_4.xsize (grid0.coords t) 1 := h 1
    rw [(ix t).2.2.2.2.1.2, (ix t).2.2.2.2.2.2] at h'
    omega
  · intro h a
    match a with
    | ⟨0, _⟩ =>
      show win0_4.index t 0 * 1024 ≤ (i 0 : ℕ) ∧ (i 0 : ℕ) < win0_4.index t 0 * 1024 + win0_4.xsize (grid0.coords t) 0
      rw [(ix t).2.2.2.2.1.1, (ix t).2.2.2.2.2.1]; omega
    | ⟨1, _⟩ =>
      show win0_4.index t 1 * 512 ≤ (i 1 : ℕ) ∧ (i 1 : ℕ) < win0_4.index t 1 * 512 + win0_4.xsize (grid0.coords t) 1
      rw [(ix t).2.2.2.2.1.2, (ix t).2.2.2.2.2.2]; omega

/-- The call's own columns hold the product. -/
theorem own (h0 : V c main_v9 = X) (h1 : V c main_v0 = cols 1024 D 0) (h2 : V c main_v1 = cols 1024 D 1024) (h3 : V c main_v2 = cols 1024 D 2048)
    (i : (⟨2, ![1024, 9216]⟩ : Shape).Idx) (hl : 0 ≤ (i 1).val) (hr : (i 1).val < 0 + 3072) :
    (dat0 (F := Ideal) V c).arrAt 4 cfg0.N i = overRows (k := 4096) (a := 1024) (b := 9216) X D i := by
  have hN : cfg0.N = 6 := N_0
  have ht : (i 1 : ℕ) / 512 - 0 < cfg0.N := by omega
  exact Dat.arrAt_apply_of_mem _ 4 _ (fun t _ => fl V c X D h0 h1 h2 h3 t) cfg0.N ⟨(i 1 : ℕ) / 512 - 0, ht⟩ i ht (flush0_4 _)
    ((mem _ i).2 (by dsimp only; omega))

/-- The other columns stay. -/
theorem other (i : (⟨2, ![1024, 9216]⟩ : Shape).Idx) (h : (i 1).val < 0 ∨ 0 + 3072 ≤ (i 1).val) :
    (dat0 (F := Ideal) V c).arrAt 4 cfg0.N i = V c main_v10 i := by
  refine (Dat.arrAt_apply_of_forall_not_mem (dat0 (F := Ideal) V c) 4 cfg0.N i ?_).trans (congrFun (A_eq0 V c 4) i)
  intro t _ _ hi
  have hN : cfg0.N = 6 := N_0
  have ht := t.isLt
  have := (mem t i).1 hi
  omega

end Call0

namespace Call1

theorem ix : ∀ t : Fin cfg1.N, (win1_0.index t 0 = 0 ∧ win1_0.index t 1 = 0)
    ∧ (win1_1.index t 0 = 0 ∧ (t.val < 2 → win1_1.index t 1 = t.val)) ∧ (win1_2.index t 0 = 0 ∧ (2 ≤ t.val → t.val < 4 → win1_2.index t 1 = t.val - 2))
    ∧ (win1_3.index t 0 = 0 ∧ (4 ≤ t.val → win1_3.index t 1 = t.val - 4)) ∧ (win1_4.index t 0 = 0 ∧ win1_4.index t 1 = t.val + 6)
    ∧ win1_4.xsize (grid1.coords t) 0 = 1024 ∧ win1_4.xsize (grid1.coords t) 1 = 512 :=
  (by decide +kernel : ∀ t : Fin grid1.N, (win1_0.index t 0 = 0 ∧ win1_0.index t 1 = 0)
    ∧ (win1_1.index t 0 = 0 ∧ (t.val < 2 → win1_1.index t 1 = t.val)) ∧ (win1_2.index t 0 = 0 ∧ (2 ≤ t.val → t.val < 4 → win1_2.index t 1 = t.val - 2))
    ∧ (win1_3.index t 0 = 0 ∧ (4 ≤ t.val → win1_3.index t 1 = t.val - 4)) ∧ (win1_4.index t 0 = 0 ∧ win1_4.index t 1 = t.val + 6)
    ∧ win1_4.xsize (grid1.coords t) 0 = 1024 ∧ win1_4.xsize (grid1.coords t) 1 = 512)

theorem blk_0 (t : Fin cfg1.N) : (iblk1 (F := Ideal) V c 0 t : (⟨2, ![4096, 1024]⟩ : Shape).Idx → EReal) = V c main_v9 := by
  unfold iblk1
  funext y
  rw [View.read_apply]
  refine congrArg (V c main_v9) (?_ : _ = y)
  funext a; apply Fin.ext
  match a with
  | ⟨0, _⟩ => show win1_0.index t 0 * 4096 + 1 * (y 0).val = (y 0).val; rw [(ix t).1.1]; omega
  | ⟨1, _⟩ => show win1_0.index t 1 * 1024 + 1 * (y 1).val = (y 1).val; rw [(ix t).1.2]; omega

/-- At each point the block taken is the point's run of columns. -/
theorem picked (h1 : V c main_v3 = cols 1024 D 3072) (h2 : V c main_v4 = cols 1024 D 4096) (h3 : V c main_v5 = cols 1024 D 5120) (t : Fin cfg1.N) :
    chosen (F := Ideal) t.val (iblk1 V c 1 t) (iblk1 V c 2 t) (iblk1 V c 3 t) = cols 512 D (3072 + 512 * t.val) := by
  have hN : cfg1.N = 6 := N_1
  have ht := t.isLt
  funext y
  have hy : (y 1).val < 512 := (y 1).isLt
  unfold chosen
  split_ifs with ha hb
  · unfold iblk1
    rw [View.read_apply]
    refine (congrFun h1 _).trans (congrArg D ?_)
    funext a; apply Fin.ext
    match a with
    | ⟨0, _⟩ => show win1_1.index t 0 * 4096 + 1 * (y 0).val = (y 0).val; rw [(ix t).2.1.1]; omega
    | ⟨1, _⟩ => show (3072 + (win1_1.index t 1 * 512 + 1 * (y 1).val)) % 9216 = (3072 + 512 * t.val + (y 1).val) % 9216; rw [(ix t).2.1.2 ha]; omega
  · unfold iblk1
    rw [View.read_apply]
    refine (congrFun h2 _).trans (congrArg D ?_)
    funext a; apply Fin.ext
    match a with
    | ⟨0, _⟩ => show win1_2.index t 0 * 4096 + 1 * (y 0).val = (y 0).val; rw [(ix t).2.2.1.1]; omega
    | ⟨1, _⟩ => show (4096 + (win1_2.index t 1 * 512 + 1 * (y 1).val)) % 9216 = (3072 + 512 * t.val + (y 1).val) % 9216; rw [(ix t).2.2.1.2 (by omega) hb]; omega
  · unfold iblk1
    rw [View.read_apply]
    refine (congrFun h3 _).trans (congrArg D ?_)
    funext a; apply Fin.ext
    match a with
    | ⟨0, _⟩ => show win1_3.index t 0 * 4096 + 1 * (y 0).val = (y 0).val; rw [(ix t).2.2.2.1.1]; omega
    | ⟨1, _⟩ => show (5120 + (win1_3.index t 1 * 512 + 1 * (y 1).val)) % 9216 = (3072 + 512 * t.val + (y 1).val) % 9216; rw [(ix t).2.2.2.1.2 (by omega)]; omega

theorem fl (h0 : V c main_v9 = X) (h1 : V c main_v3 = cols 1024 D 3072) (h2 : V c main_v4 = cols 1024 D 4096) (h3 : V c main_v5 = cols 1024 D 5120) (t : Fin cfg1.N) :
    (dat1 (F := Ideal) V c).flushed 4 t = ((cfg1.win 4).blk t).view.read (Elt Ideal) (overRows (k := 4096) (a := 1024) (b := 9216) X D) := by
  show (cfg1.win 4).cut (grid1.coords t) ((dat1 V c).after 4 t) = _
  have hN : cfg1.N = 6 := N_1
  have ht := t.isLt
  rw [after1_4, left_eq, picked V c D h1 h2 h3 t, blk_0 V c t, h0]
  funext y
  rw [View.read_apply]
  have hy : (y 1).val < 512 := (y 1).isLt
  refine Eq.trans ?_ (congrArg (overRows (k := 4096) (a := 1024) (b := 9216) X D) (?_ : ix2 (y 0) (col (3072 + 512 * t.val) (y 1)) = _))
  · rfl
  funext a; apply Fin.ext
  match a with
  | ⟨0, _⟩ => show (y 0).val = win1_4.index t 0 * 1024 + 1 * (y 0).val; rw [(ix t).2.2.2.2.1.1]; omega
  | ⟨1, _⟩ => show (3072 + 512 * t.val + (y 1).val) % 9216 = win1_4.index t 1 * 512 + 1 * (y 1).val; rw [(ix t).2.2.2.2.1.2]; omega

set_option maxHeartbeats 1000000 in
theorem mem (t : Fin cfg1.N) (i : (⟨2, ![1024, 9216]⟩ : Shape).Idx) :
    i ∈ ((cfg1.win 4).blk t).view.set ↔ 512 * (t.val + 6) ≤ (i 1).val ∧ (i 1).val < 512 * (t.val + 6) + 512 := by
  show i ∈ ((View.whole main_v11).slice (win1_4.rect t)).set ↔ _
  rw [View.set_slice_whole, Rect.mem_set_unit]
  have h0 : (i 0 : ℕ) < 1024 := (i 0).isLt
  constructor
  · intro h
    have h' : win1_4.index t 1 * 512 ≤ (i 1 : ℕ) ∧ (i 1 : ℕ) < win1_4.index t 1 * 512 + win1_4.xsize (grid1.coords t) 1 := h 1
    rw [(ix t).2.2.2.2.1.2, (ix t).2.2.2.2.2.2] at h'
    omega
  · intro h a
    match a with
    | ⟨0, _⟩ =>
      show win1_4.index t 0 * 1024 ≤ (i 0 : ℕ) ∧ (i 0 : ℕ) < win1_4.index t 0 * 1024 + win1_4.xsize (grid1.coords t) 0
      rw [(ix t).2.2.2.2.1.1, (ix t).2.2.2.2.2.1]; omega
    | ⟨1, _⟩ =>
      show win1_4.index t 1 * 512 ≤ (i 1 : ℕ) ∧ (i 1 : ℕ) < win1_4.index t 1 * 512 + win1_4.xsize (grid1.coords t) 1
      rw [(ix t).2.2.2.2.1.2, (ix t).2.2.2.2.2.2]; omega

/-- The call's own columns hold the product. -/
theorem own (h0 : V c main_v9 = X) (h1 : V c main_v3 = cols 1024 D 3072) (h2 : V c main_v4 = cols 1024 D 4096) (h3 : V c main_v5 = cols 1024 D 5120)
    (i : (⟨2, ![1024, 9216]⟩ : Shape).Idx) (hl : 3072 ≤ (i 1).val) (hr : (i 1).val < 3072 + 3072) :
    (dat1 (F := Ideal) V c).arrAt 4 cfg1.N i = overRows (k := 4096) (a := 1024) (b := 9216) X D i := by
  have hN : cfg1.N = 6 := N_1
  have ht : (i 1 : ℕ) / 512 - 6 < cfg1.N := by omega
  exact Dat.arrAt_apply_of_mem _ 4 _ (fun t _ => fl V c X D h0 h1 h2 h3 t) cfg1.N ⟨(i 1 : ℕ) / 512 - 6, ht⟩ i ht (flush1_4 _)
    ((mem _ i).2 (by dsimp only; omega))

/-- The other columns stay. -/
theorem other (i : (⟨2, ![1024, 9216]⟩ : Shape).Idx) (h : (i 1).val < 3072 ∨ 3072 + 3072 ≤ (i 1).val) :
    (dat1 (F := Ideal) V c).arrAt 4 cfg1.N i = V c main_v11 i := by
  refine (Dat.arrAt_apply_of_forall_not_mem (dat1 (F := Ideal) V c) 4 cfg1.N i ?_).trans (congrFun (A_eq1 V c 4) i)
  intro t _ _ hi
  have hN : cfg1.N = 6 := N_1
  have ht := t.isLt
  have := (mem t i).1 hi
  omega

end Call1

namespace Call2

theorem ix : ∀ t : Fin cfg2.N, (win2_0.index t 0 = 0 ∧ win2_0.index t 1 = 0)
    ∧ (win2_1.index t 0 = 0 ∧ (t.val < 2 → win2_1.index t 1 = t.val)) ∧ (win2_2.index t 0 = 0 ∧ (2 ≤ t.val → t.val < 4 → win2_2.index t 1 = t.val - 2))
    ∧ (win2_3.index t 0 = 0 ∧ (4 ≤ t.val → win2_3.index t 1 = t.val - 4)) ∧ (win2_4.index t 0 = 0 ∧ win2_4.index t 1 = t.val + 12)
    ∧ win2_4.xsize (grid2.coords t) 0 = 1024 ∧ win2_4.xsize (grid2.coords t) 1 = 512 :=
  (by decide +kernel : ∀ t : Fin grid2.N, (win2_0.index t 0 = 0 ∧ win2_0.index t 1 = 0)
    ∧ (win2_1.index t 0 = 0 ∧ (t.val < 2 → win2_1.index t 1 = t.val)) ∧ (win2_2.index t 0 = 0 ∧ (2 ≤ t.val → t.val < 4 → win2_2.index t 1 = t.val - 2))
    ∧ (win2_3.index t 0 = 0 ∧ (4 ≤ t.val → win2_3.index t 1 = t.val - 4)) ∧ (win2_4.index t 0 = 0 ∧ win2_4.index t 1 = t.val + 12)
    ∧ win2_4.xsize (grid2.coords t) 0 = 1024 ∧ win2_4.xsize (grid2.coords t) 1 = 512)

theorem blk_0 (t : Fin cfg2.N) : (iblk2 (F := Ideal) V c 0 t : (⟨2, ![4096, 1024]⟩ : Shape).Idx → EReal) = V c main_v9 := by
  unfold iblk2
  funext y
  rw [View.read_apply]
  refine congrArg (V c main_v9) (?_ : _ = y)
  funext a; apply Fin.ext
  match a with
  | ⟨0, _⟩ => show win2_0.index t 0 * 4096 + 1 * (y 0).val = (y 0).val; rw [(ix t).1.1]; omega
  | ⟨1, _⟩ => show win2_0.index t 1 * 1024 + 1 * (y 1).val = (y 1).val; rw [(ix t).1.2]; omega

/-- At each point the block taken is the point's run of columns. -/
theorem picked (h1 : V c main_v6 = cols 1024 D 6144) (h2 : V c main_v7 = cols 1024 D 7168) (h3 : V c main_v8 = cols 1024 D 8192) (t : Fin cfg2.N) :
    chosen (F := Ideal) t.val (iblk2 V c 1 t) (iblk2 V c 2 t) (iblk2 V c 3 t) = cols 512 D (6144 + 512 * t.val) := by
  have hN : cfg2.N = 6 := N_2
  have ht := t.isLt
  funext y
  have hy : (y 1).val < 512 := (y 1).isLt
  unfold chosen
  split_ifs with ha hb
  · unfold iblk2
    rw [View.read_apply]
    refine (congrFun h1 _).trans (congrArg D ?_)
    funext a; apply Fin.ext
    match a with
    | ⟨0, _⟩ => show win2_1.index t 0 * 4096 + 1 * (y 0).val = (y 0).val; rw [(ix t).2.1.1]; omega
    | ⟨1, _⟩ => show (6144 + (win2_1.index t 1 * 512 + 1 * (y 1).val)) % 9216 = (6144 + 512 * t.val + (y 1).val) % 9216; rw [(ix t).2.1.2 ha]; omega
  · unfold iblk2
    rw [View.read_apply]
    refine (congrFun h2 _).trans (congrArg D ?_)
    funext a; apply Fin.ext
    match a with
    | ⟨0, _⟩ => show win2_2.index t 0 * 4096 + 1 * (y 0).val = (y 0).val; rw [(ix t).2.2.1.1]; omega
    | ⟨1, _⟩ => show (7168 + (win2_2.index t 1 * 512 + 1 * (y 1).val)) % 9216 = (6144 + 512 * t.val + (y 1).val) % 9216; rw [(ix t).2.2.1.2 (by omega) hb]; omega
  · unfold iblk2
    rw [View.read_apply]
    refine (congrFun h3 _).trans (congrArg D ?_)
    funext a; apply Fin.ext
    match a with
    | ⟨0, _⟩ => show win2_3.index t 0 * 4096 + 1 * (y 0).val = (y 0).val; rw [(ix t).2.2.2.1.1]; omega
    | ⟨1, _⟩ => show (8192 + (win2_3.index t 1 * 512 + 1 * (y 1).val)) % 9216 = (6144 + 512 * t.val + (y 1).val) % 9216; rw [(ix t).2.2.2.1.2 (by omega)]; omega

theorem fl (h0 : V c main_v9 = X) (h1 : V c main_v6 = cols 1024 D 6144) (h2 : V c main_v7 = cols 1024 D 7168) (h3 : V c main_v8 = cols 1024 D 8192) (t : Fin cfg2.N) :
    (dat2 (F := Ideal) V c).flushed 4 t = ((cfg2.win 4).blk t).view.read (Elt Ideal) (overRows (k := 4096) (a := 1024) (b := 9216) X D) := by
  show (cfg2.win 4).cut (grid2.coords t) ((dat2 V c).after 4 t) = _
  have hN : cfg2.N = 6 := N_2
  have ht := t.isLt
  rw [after2_4, left_eq, picked V c D h1 h2 h3 t, blk_0 V c t, h0]
  funext y
  rw [View.read_apply]
  have hy : (y 1).val < 512 := (y 1).isLt
  refine Eq.trans ?_ (congrArg (overRows (k := 4096) (a := 1024) (b := 9216) X D) (?_ : ix2 (y 0) (col (6144 + 512 * t.val) (y 1)) = _))
  · rfl
  funext a; apply Fin.ext
  match a with
  | ⟨0, _⟩ => show (y 0).val = win2_4.index t 0 * 1024 + 1 * (y 0).val; rw [(ix t).2.2.2.2.1.1]; omega
  | ⟨1, _⟩ => show (6144 + 512 * t.val + (y 1).val) % 9216 = win2_4.index t 1 * 512 + 1 * (y 1).val; rw [(ix t).2.2.2.2.1.2]; omega

set_option maxHeartbeats 1000000 in
theorem mem (t : Fin cfg2.N) (i : (⟨2, ![1024, 9216]⟩ : Shape).Idx) :
    i ∈ ((cfg2.win 4).blk t).view.set ↔ 512 * (t.val + 12) ≤ (i 1).val ∧ (i 1).val < 512 * (t.val + 12) + 512 := by
  show i ∈ ((View.whole main_v12).slice (win2_4.rect t)).set ↔ _
  rw [View.set_slice_whole, Rect.mem_set_unit]
  have h0 : (i 0 : ℕ) < 1024 := (i 0).isLt
  constructor
  · intro h
    have h' : win2_4.index t 1 * 512 ≤ (i 1 : ℕ) ∧ (i 1 : ℕ) < win2_4.index t 1 * 512 + win2_4.xsize (grid2.coords t) 1 := h 1
    rw [(ix t).2.2.2.2.1.2, (ix t).2.2.2.2.2.2] at h'
    omega
  · intro h a
    match a with
    | ⟨0, _⟩ =>
      show win2_4.index t 0 * 1024 ≤ (i 0 : ℕ) ∧ (i 0 : ℕ) < win2_4.index t 0 * 1024 + win2_4.xsize (grid2.coords t) 0
      rw [(ix t).2.2.2.2.1.1, (ix t).2.2.2.2.2.1]; omega
    | ⟨1, _⟩ =>
      show win2_4.index t 1 * 512 ≤ (i 1 : ℕ) ∧ (i 1 : ℕ) < win2_4.index t 1 * 512 + win2_4.xsize (grid2.coords t) 1
      rw [(ix t).2.2.2.2.1.2, (ix t).2.2.2.2.2.2]; omega

/-- The call's own columns hold the product. -/
theorem own (h0 : V c main_v9 = X) (h1 : V c main_v6 = cols 1024 D 6144) (h2 : V c main_v7 = cols 1024 D 7168) (h3 : V c main_v8 = cols 1024 D 8192)
    (i : (⟨2, ![1024, 9216]⟩ : Shape).Idx) (hl : 6144 ≤ (i 1).val) (hr : (i 1).val < 6144 + 3072) :
    (dat2 (F := Ideal) V c).arrAt 4 cfg2.N i = overRows (k := 4096) (a := 1024) (b := 9216) X D i := by
  have hN : cfg2.N = 6 := N_2
  have ht : (i 1 : ℕ) / 512 - 12 < cfg2.N := by omega
  exact Dat.arrAt_apply_of_mem _ 4 _ (fun t _ => fl V c X D h0 h1 h2 h3 t) cfg2.N ⟨(i 1 : ℕ) / 512 - 12, ht⟩ i ht (flush2_4 _)
    ((mem _ i).2 (by dsimp only; omega))

/-- The other columns stay. -/
theorem other (i : (⟨2, ![1024, 9216]⟩ : Shape).Idx) (h : (i 1).val < 6144 ∨ 6144 + 3072 ≤ (i 1).val) :
    (dat2 (F := Ideal) V c).arrAt 4 cfg2.N i = V c main_v12 i := by
  refine (Dat.arrAt_apply_of_forall_not_mem (dat2 (F := Ideal) V c) 4 cfg2.N i ?_).trans (congrFun (A_eq2 V c 4) i)
  intro t _ _ hi
  have hN : cfg2.N = 6 := N_2
  have ht := t.isLt
  have := (mem t i).1 hi
  omega

end Call2

variable (m : (ℓ : Loc nD τ sig) → Buf (Elt Ideal) ℓ) (ρ : Dev nD → PrngReg)

/-- What the host's operations before the first call leave in a buffer. -/
theorem slices : (V1 m ρ c main_v9 = m ((c.tc : Thread nD τ).loc main_arg0))
    ∧ (V1 m ρ c main_v0 = cols 1024 (m ((c.tc : Thread nD τ).loc main_arg1)) 0) ∧ (V1 m ρ c main_v1 = cols 1024 (m ((c.tc : Thread nD τ).loc main_arg1)) 1024)
    ∧ (V1 m ρ c main_v2 = cols 1024 (m ((c.tc : Thread nD τ).loc main_arg1)) 2048) ∧ (V1 m ρ c main_v3 = cols 1024 (m ((c.tc : Thread nD τ).loc main_arg1)) 3072)
    ∧ (V1 m ρ c main_v4 = cols 1024 (m ((c.tc : Thread nD τ).loc main_arg1)) 4096) ∧ (V1 m ρ c main_v5 = cols 1024 (m ((c.tc : Thread nD τ).loc main_arg1)) 5120)
    ∧ (V1 m ρ c main_v6 = cols 1024 (m ((c.tc : Thread nD τ).loc main_arg1)) 6144) ∧ (V1 m ρ c main_v7 = cols 1024 (m ((c.tc : Thread nD τ).loc main_arg1)) 7168)
    ∧ (V1 m ρ c main_v8 = cols 1024 (m ((c.tc : Thread nD τ).loc main_arg1)) 8192) :=
  ⟨rfl, slice_eq 0 (by omega) slices_S4096x9216_S4096x1024_0_0 _, slice_eq 1024 (by omega) slices_S4096x9216_S4096x1024_0_1024 _,
    slice_eq 2048 (by omega) slices_S4096x9216_S4096x1024_0_2048 _, slice_eq 3072 (by omega) slices_S4096x9216_S4096x1024_0_3072 _,
    slice_eq 4096 (by omega) slices_S4096x9216_S4096x1024_0_4096 _, slice_eq 5120 (by omega) slices_S4096x9216_S4096x1024_0_5120 _,
    slice_eq 6144 (by omega) slices_S4096x9216_S4096x1024_0_6144 _, slice_eq 7168 (by omega) slices_S4096x9216_S4096x1024_0_7168 _,
    slice_eq 8192 (by omega) slices_S4096x9216_S4096x1024_0_8192 _⟩

theorem keep3 (r : Ref sig .tc) (h1 : r ∉ hostOps1_W) (h0 : ∀ w : Fin cfg0.W, Pipeline.arrRef spec0 w = r → (cfg0.win w).isOut = false) :
    V3 m ρ c r = V1 m ρ c r := (W3_of m ρ c r h1).trans (W2_of m ρ c r h0)
theorem keep5 (r : Ref sig .tc) (h2 : r ∉ hostOps2_W) (h1 : ∀ w : Fin cfg1.W, Pipeline.arrRef spec1 w = r → (cfg1.win w).isOut = false) :
    V5 m ρ c r = V3 m ρ c r := (W5_of m ρ c r h2).trans (W4_of m ρ c r h1)

theorem out : (W6 m ρ c (Proc.devRef .tc main_v12) : (⟨2, ![1024, 9216]⟩ : Shape).Idx → EReal)
    = overRows (k := 4096) (m ((c.tc : Thread nD τ).loc main_arg0)) (m ((c.tc : Thread nD τ).loc main_arg1)) := by
  obtain ⟨hx, s0, s1, s2, s3, s4, s5, s6, s7, s8⟩ := slices c m ρ
  funext i
  have hi : (i 1 : ℕ) < 9216 := (i 1).isLt
  refine (congrFun (W6_arr m ρ c 4) i).trans ?_
  by_cases h2 : 6144 ≤ (i 1 : ℕ)
  · exact Call2.own (V5 m ρ) c _ _ ((keep5 c m ρ main_v9 (by decide) (by decide)).trans ((keep3 c m ρ main_v9 (by decide) (by decide)).trans hx))
      ((keep5 c m ρ main_v6 (by decide) (by decide)).trans ((keep3 c m ρ main_v6 (by decide) (by decide)).trans s6))
      ((keep5 c m ρ main_v7 (by decide) (by decide)).trans ((keep3 c m ρ main_v7 (by decide) (by decide)).trans s7))
      ((keep5 c m ρ main_v8 (by decide) (by decide)).trans ((keep3 c m ρ main_v8 (by decide) (by decide)).trans s8)) i h2 (by omega)
  refine (Call2.other (V5 m ρ) c i (by omega)).trans ?_
  refine (show V5 m ρ c main_v12 i = W4 m ρ c (Proc.devRef .tc main_v11) i from rfl).trans ((congrFun (W4_arr m ρ c 4) i).trans ?_)
  by_cases h1 : 3072 ≤ (i 1 : ℕ)
  · exact Call1.own (V3 m ρ) c _ _ ((keep3 c m ρ main_v9 (by decide) (by decide)).trans hx) ((keep3 c m ρ main_v3 (by decide) (by decide)).trans s3)
      ((keep3 c m ρ main_v4 (by decide) (by decide)).trans s4) ((keep3 c m ρ main_v5 (by decide) (by decide)).trans s5) i h1 (by omega)
  refine (Call1.other (V3 m ρ) c i (by omega)).trans ?_
  refine (show V3 m ρ c main_v11 i = W2 m ρ c (Proc.devRef .tc main_v10) i from rfl).trans ((congrFun (W2_arr m ρ c 4) i).trans ?_)
  exact Call0.own (V1 m ρ) c _ _ hx s0 s1 s2 i (by omega) (by omega)

/-- The run: its result, its arguments and every counter. -/
theorem run : θ_run defs (onTc (τ := τ) (main (F := Ideal))) ⟨m, fun _ => 0, ρ⟩ fun r => ∀ c : Dev nD,
      r.2.mem ((c.tc : Thread nD τ).loc main_v12) = overRows (k := 4096) (a := 1024) (b := 9216) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c _ (mem_uc main_v12 (by decide))).trans (out c m ρ),
    (h.1 c _ (mem_uc main_arg0 (by decide))).trans (W6_main_arg0 m ρ c), (h.1 c _ (mem_uc main_arg1 (by decide))).trans (W6_main_arg1 m ρ c)⟩) (run_main m ρ)

end Cert.Proj

end
-- ==== Proof.Proj.RefFacts.lean ====
/- The side conditions of the projection's reference. -/
module

public import proofs.«01_k».proof.Reference4Ideal
public import Idealize.ShloMosaic.Lib.Affine
public import Idealize.ShloMosaic.Lib.Decide
public import Idealize.ShloMosaic.Lib.Exec

@[expose] public section

set_option synthInstance.maxSize 4096
set_option Elab.async false

namespace Cert.Reference4Ideal.Gen

open Idealize.ShloMosaic Idealize.SL.Sem

theorem bcast_S_S1024x9216 : S_.BroadcastsInDim S1024x9216 (![] : Fin 0 → Fin S1024x9216.rank) := by decide
theorem bitsLt_bf16_f32 : FTy.bits .bf16 < FTy.bits .f32 := by decide
theorem transposes_S9216x1024_S1024x9216_1_0 : S9216x1024.Transposes [1, 0] S1024x9216 := by decide
theorem dot_S4096x1024_S1024x9216_S4096x9216_1_0_0_1_n_n_wf : DotDims.WF S4096x1024 S1024x9216 S4096x9216 [1] [0] [0] [1] [] [] := by decide
theorem dot_S4096x9216_S4096x1024_S9216x1024_0_0_1_1_n_n_wf : DotDims.WF S4096x9216 S4096x1024 S9216x1024 [0] [0] [1] [1] [] [] := by decide

instance facts₀ : Cert.Reference4Ideal.Facts₀ where
  bcast_S_S1024x9216 := @bcast_S_S1024x9216
  bitsLt_bf16_f32 := @bitsLt_bf16_f32
  transposes_S9216x1024_S1024x9216_1_0 := @transposes_S9216x1024_S1024x9216_1_0
  dot_S4096x1024_S1024x9216_S4096x9216_1_0_0_1_n_n_wf := @dot_S4096x1024_S1024x9216_S4096x9216_1_0_0_1_n_n_wf
  dot_S4096x9216_S4096x1024_S9216x1024_0_0_1_1_n_n_wf := @dot_S4096x9216_S4096x1024_S9216x1024_0_0_1_1_n_n_wf

instance facts : Cert.Reference4Ideal.Facts where

end Cert.Reference4Ideal.Gen
-- ==== Proof.Proj.Ref.lean ====
/- The reference of the input projections' weight gradient: its operations, its run and its result. -/
module

public import proofs.«01_k».proof.Proof.Proj.RefFacts
public import proofs.«01_k».proof.Proof.Prod.Sums
public import Idealize.ShloMosaic.Lib.StableHlo.Run

@[expose] public section

set_option maxRecDepth 16384
set_option backward.isDefEq.respectTransparency false

noncomputable section

namespace Cert.Proj.Ref

open Idealize.ShloMosaic hiding ix0 ix1 ix2 eq_ix1 eq_ix2
open Idealize.ShloMosaic.ValueIdx
open Idealize.ShloMosaic.TcCoe Idealize.SL.Sem Idealize.ShloMosaic.StableHlo
open Cert.Reference4Ideal Cert.Reference4Ideal.Gen Cert.Prod

section Run

variable {F : FTy → Type} [FloatOps F]

/-- The contents of a buffer of one shape and element type. -/
abbrev Ct (F : FTy → Type) (S : Shape) (e : EltTy) : Type := (⟨S, e⟩ : BufTy).Contents (Elt F)

/-- The operations of the reference, in order. -/
abbrev ops : List (HloOp τ sig (Elt F)) :=
  [nullary main_cst (constant S_ .f32 0x00000000#32),
   unary main_cst main_v0 (broadcastInDim S1024x9216 ![] bcast_S_S1024x9216 : Ct F S_ .f32 → Ct F S1024x9216 .f32),
   binary main_arg0 main_v0 main_v1 ((fun l r => Host.dotGeneral dot_S4096x1024_S1024x9216_S4096x9216_1_0_0_1_n_n none l r) : Ct F S4096x1024 .f32 → Ct F S1024x9216 .f32 → Ct F S4096x9216 .f32),
   unary main_arg1 main_v2 ((extf .f32 · bitsLt_bf16_f32) : Ct F S4096x9216 .bf16 → Ct F S4096x9216 .f32),
   binary main_v2 main_arg0 main_v3 ((fun l r => Host.dotGeneral dot_S4096x9216_S4096x1024_S9216x1024_0_0_1_1_n_n none l r) : Ct F S4096x9216 .f32 → Ct F S4096x1024 .f32 → Ct F S9216x1024 .f32),
   unary main_v3 main_v4 ((transpose S1024x9216 [1, 0] · transposes_S9216x1024_S1024x9216_1_0) : Ct F S9216x1024 .f32 → Ct F S1024x9216 .f32),
   unary main_v4 main_v5 ((truncf .bf16 · bitsLt_bf16_f32) : Ct F S1024x9216 .f32 → Ct F S1024x9216 .bf16)]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub ..⟩

end Run

variable (m : (ℓ : Loc nD τ sig) → Buf (Elt Ideal) ℓ) (ρ : Dev nD → PrngReg)

/-- The result is the sum over the tokens; the arguments stay, and so does every counter. -/
theorem run : θ_run defs (onTc (τ := τ) (main (F := Ideal))) ⟨m, fun _ => 0, ρ⟩ fun r => (∀ c : Dev nD,
      r.2.mem ((c.tc : Thread nD τ).loc main_v5) = overRows (k := 4096) (a := 1024) (b := 9216) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨
      (h c main_v5).trans (Eq.trans (by simp only [ops]; after_results_simp <;> rfl) (transposed_eq dot_S4096x9216_S4096x1024_S9216x1024_0_0_1_1_n_n rfl transposes_S9216x1024_S1024x9216_1_0 bitsLt_bf16_f32
        (m ((c.tc : Thread nD τ).loc main_arg0)) (m ((c.tc : Thread nD τ).loc main_arg1)))),
      (h c main_arg0).trans (by simp only [ops]; after_results_simp <;> rfl),
      (h c main_arg1).trans (by simp only [ops]; after_results_simp <;> rfl)⟩, sem_eq_zero_of_no_sems (by decide) r.2⟩)
    (run_seq scopedRefs_eq scopedSems_eq defs main (fun _ => ops) main_eq (fun _ => ops_sub) m ρ)

end Cert.Proj.Ref

end
-- ==== Proof.Back.Ideal.lean ====
/- The side conditions of the call that takes the gradient back through the projection and the norm. -/
module

public import proofs.«01_k».proof.Kernel5Ideal
public import Idealize.ShloMosaic.Lib.Affine
public import Idealize.ShloMosaic.Lib.Decide
public import Idealize.ShloMosaic.Lib.Exec

@[expose] public section

set_option synthInstance.maxSize 4096
set_option Elab.async false

namespace Cert.Kernel5Ideal.Gen

open Idealize.ShloMosaic Idealize.SL.Sem

theorem bitsLt_bf16_f32 : FTy.bits .bf16 < FTy.bits .f32 := by decide
theorem slices_S4096x9216_S4096x1024_0_0 : S4096x9216.Slices ![0, 0] S4096x1024 := by decide
theorem slices_S4096x9216_S4096x1024_0_1024 : S4096x9216.Slices ![0, 1024] S4096x1024 := by decide
theorem slices_S4096x9216_S4096x1024_0_2048 : S4096x9216.Slices ![0, 2048] S4096x1024 := by decide
theorem slices_S4096x9216_S4096x1024_0_3072 : S4096x9216.Slices ![0, 3072] S4096x1024 := by decide
theorem slices_S4096x9216_S4096x1024_0_4096 : S4096x9216.Slices ![0, 4096] S4096x1024 := by decide
theorem slices_S4096x9216_S4096x1024_0_5120 : S4096x9216.Slices ![0, 5120] S4096x1024 := by decide
theorem slices_S4096x9216_S4096x1024_0_6144 : S4096x9216.Slices ![0, 6144] S4096x1024 := by decide
theorem slices_S4096x9216_S4096x1024_0_7168 : S4096x9216.Slices ![0, 7168] S4096x1024 := by decide
theorem slices_S4096x9216_S4096x1024_0_8192 : S4096x9216.Slices ![0, 8192] S4096x1024 := by decide
theorem inb_S1x1024_S1x1024_0_0 : ∀ a, (![0, 0] : Fin 2 → Nat) a + S1x1024.size a ≤ S1x1024.size a := by decide
theorem h_S1x1024 : 0 < S1x1024.numel := by decide
theorem inb_S256x1024_S256x1024_0_0 : ∀ a, (![0, 0] : Fin 2 → Nat) a + S256x1024.size a ≤ S256x1024.size a := by decide
theorem h_S256x1024 : 0 < S256x1024.numel := by decide
theorem shapeCasts_S256x1024_S256x1024 : S256x1024.ShapeCasts S256x1024 := by decide
theorem inb_S1024x9216_S1024x1024_0_0 : ∀ a, (![0, 0] : Fin 2 → Nat) a + S1024x1024.size a ≤ S1024x9216.size a := by decide
theorem h_S1024x1024 : 0 < S1024x1024.numel := by decide
theorem shapeCasts_S1024x1024_S1024x1024 : S1024x1024.ShapeCasts S1024x1024 := by decide
theorem inb_S1024x9216_S1024x1024_0_1024 : ∀ a, (![0, 1024] : Fin 2 → Nat) a + S1024x1024.size a ≤ S1024x9216.size a := by decide
theorem inb_S1024x9216_S1024x1024_0_2048 : ∀ a, (![0, 2048] : Fin 2 → Nat) a + S1024x1024.size a ≤ S1024x9216.size a := by decide
theorem inb_S1024x9216_S1024x1024_0_3072 : ∀ a, (![0, 3072] : Fin 2 → Nat) a + S1024x1024.size a ≤ S1024x9216.size a := by decide
theorem inb_S1024x9216_S1024x1024_0_4096 : ∀ a, (![0, 4096] : Fin 2 → Nat) a + S1024x1024.size a ≤ S1024x9216.size a := by decide
theorem inb_S1024x9216_S1024x1024_0_5120 : ∀ a, (![0, 5120] : Fin 2 → Nat) a + S1024x1024.size a ≤ S1024x9216.size a := by decide
theorem inb_S1024x9216_S1024x1024_0_6144 : ∀ a, (![0, 6144] : Fin 2 → Nat) a + S1024x1024.size a ≤ S1024x9216.size a := by decide
theorem inb_S1024x9216_S1024x1024_0_7168 : ∀ a, (![0, 7168] : Fin 2 → Nat) a + S1024x1024.size a ≤ S1024x9216.size a := by decide
theorem inb_S1024x9216_S1024x1024_0_8192 : ∀ a, (![0, 8192] : Fin 2 → Nat) a + S1024x1024.size a ≤ S1024x9216.size a := by decide
theorem reduces_S256x1024_S256 : S256x1024.Reduces [1] S256 := by decide
theorem shapeCasts_S256_S256x1 : S256.ShapeCasts S256x1 := by decide
theorem broadcasts_S256x1_S256x1024 : S256x1.Broadcasts S256x1024 := by decide
theorem broadcasts_S1x1024_S256x1024 : S1x1024.Broadcasts S256x1024 := by decide
theorem shapeCasts_S1x1024_S1x1024 : S1x1024.ShapeCasts S1x1024 := by decide
theorem reduces_S256x1024_S1024 : S256x1024.Reduces [0] S1024 := by decide
theorem shapeCasts_S1024_S1x1024 : S1024.ShapeCasts S1x1024 := by decide
theorem dot_S256x1024_S1024x1024_S256x1024_1_1_0_0_n_n_wf : DotDims.WF S256x1024 S1024x1024 S256x1024 [1] [1] [0] [0] [] [] := by decide
theorem hrank0 : 0 < grid0.rank := by decide
theorem hstage0_0 : ∀ j, (stage0_0 j).IsWhole := fun | 0 => Memref.isWhole_whole _ | 1 => Memref.isWhole_whole _ | ⟨_ + 2, h⟩ => absurd h (Nat.not_lt.2 (Nat.le_add_left _ _))
theorem nbuf0_0 : grid0.bufCount reads0_0 false = 2 := by decide
theorem hreads0_0 : ∀ i i' : grid0.Coords, (∀ a, reads0_0 a = true → i a = i' a) → cc0_transform_0 i = cc0_transform_0 i' := fun i i' h => by unfold cc0_transform_0; rw [h 0 rfl]
theorem hinb0_0 : ∀ (i : grid0.Coords) a, (cc0_transform_0 i a + 1) * S256x1024.size a ≤ S4096x1024.size a := by decide +kernel
theorem hwx0_0 : ∀ i : grid0.Coords, EltTy.bits .bf16 = 32 ∨ (Rect.block (s := S4096x1024) S256x1024.size (cc0_transform_0 i) (hinb0_0 i)).WholeWords (EltTy.packing .bf16) := fun _ => .inr (Affine.block_words_dvd (of_decide_eq_true rfl) (by decide))
theorem hstage0_1 : ∀ j, (stage0_1 j).IsWhole := fun | 0 => Memref.isWhole_whole _ | 1 => Memref.isWhole_whole _ | ⟨_ + 2, h⟩ => absurd h (Nat.not_lt.2 (Nat.le_add_left _ _))
theorem nbuf0_1 : grid0.bufCount reads0_1 false = 2 := by decide
theorem hreads0_1 : ∀ i i' : grid0.Coords, (∀ a, reads0_1 a = true → i a = i' a) → cc0_transform_1 i = cc0_transform_1 i' := fun i i' h => by unfold cc0_transform_1; rw [h 0 rfl]
theorem hinb0_1 : ∀ (i : grid0.Coords) a, (cc0_transform_1 i a + 1) * S256x1024.size a ≤ S4096x1024.size a := by decide +kernel
theorem hwx0_1 : ∀ i : grid0.Coords, EltTy.bits .bf16 = 32 ∨ (Rect.block (s := S4096x1024) S256x1024.size (cc0_transform_1 i) (hinb0_1 i)).WholeWords (EltTy.packing .bf16) := fun _ => .inr (Affine.block_words_dvd (of_decide_eq_true rfl) (by decide))
theorem hstage0_2 : ∀ j, (stage0_2 j).IsWhole := fun | 0 => Memref.isWhole_whole _ | 1 => Memref.isWhole_whole _ | ⟨_ + 2, h⟩ => absurd h (Nat.not_lt.2 (Nat.le_add_left _ _))
theorem nbuf0_2 : grid0.bufCount reads0_2 false = 2 := by decide
theorem hreads0_2 : ∀ i i' : grid0.Coords, (∀ a, reads0_2 a = true → i a = i' a) → cc0_transform_2 i = cc0_transform_2 i' := fun i i' h => by unfold cc0_transform_2; rw [h 0 rfl]
theorem hinb0_2 : ∀ (i : grid0.Coords) a, (cc0_transform_2 i a + 1) * S256x1024.size a ≤ S4096x1024.size a := by decide +kernel
theorem hwx0_2 : ∀ i : grid0.Coords, EltTy.bits .bf16 = 32 ∨ (Rect.block (s := S4096x1024) S256x1024.size (cc0_transform_2 i) (hinb0_2 i)).WholeWords (EltTy.packing .bf16) := fun _ => .inr (Affine.block_words_dvd (of_decide_eq_true rfl) (by decide))
theorem hstage0_3 : ∀ j, (stage0_3 j).IsWhole := fun | 0 => Memref.isWhole_whole _ | 1 => Memref.isWhole_whole _ | ⟨_ + 2, h⟩ => absurd h (Nat.not_lt.2 (Nat.le_add_left _ _))
theorem nbuf0_3 : grid0.bufCount reads0_3 false = 2 := by decide
theorem hreads0_3 : ∀ i i' : grid0.Coords, (∀ a, reads0_3 a = true → i a = i' a) → cc0_transform_3 i = cc0_transform_3 i' := fun i i' h => by unfold cc0_transform_3; rw [h 0 rfl]
theorem hinb0_3 : ∀ (i : grid0.Coords) a, (cc0_transform_3 i a + 1) * S256x1024.size a ≤ S4096x1024.size a := by decide +kernel
theorem hwx0_3 : ∀ i : grid0.Coords, EltTy.bits .bf16 = 32 ∨ (Rect.block (s := S4096x1024) S256x1024.size (cc0_transform_3 i) (hinb0_3 i)).WholeWords (EltTy.packing .bf16) := fun _ => .inr (Affine.block_words_dvd (of_decide_eq_true rfl) (by decide))
theorem hstage0_4 : ∀ j, (stage0_4 j).IsWhole := fun | 0 => Memref.isWhole_whole _ | 1 => Memref.isWhole_whole _ | ⟨_ + 2, h⟩ => absurd h (Nat.not_lt.2 (Nat.le_add_left _ _))
theorem nbuf0_4 : grid0.bufCount reads0_4 false = 2 := by decide
theorem hreads0_4 : ∀ i i' : grid0.Coords, (∀ a, reads0_4 a = true → i a = i' a) → cc0_transform_4 i = cc0_transform_4 i' := fun i i' h => by unfold cc0_transform_4; rw [h 0 rfl]
theorem hinb0_4 : ∀ (i : grid0.Coords) a, (cc0_transform_4 i a + 1) * S256x1024.size a ≤ S4096x1024.size a := by decide +kernel
theorem hwx0_4 : ∀ i : grid0.Coords, EltTy.bits .bf16 = 32 ∨ (Rect.block (s := S4096x1024) S256x1024.size (cc0_transform_4 i) (hinb0_4 i)).WholeWords (EltTy.packing .bf16) := fun _ => .inr (Affine.block_words_dvd (of_decide_eq_true rfl) (by decide))
theorem hstage0_5 : ∀ j, (stage0_5 j).IsWhole := fun | 0 => Memref.isWhole_whole _ | 1 => Memref.isWhole_whole _ | ⟨_ + 2, h⟩ => absurd h (Nat.not_lt.2 (Nat.le_add_left _ _))
theorem nbuf0_5 : grid0.bufCount reads0_5 false = 2 := by decide
theorem hreads0_5 : ∀ i i' : grid0.Coords, (∀ a, reads0_5 a = true → i a = i' a) → cc0_transform_5 i = cc0_transform_5 i' := fun i i' h => by unfold cc0_transform_5; rw [h 0 rfl]
theorem hinb0_5 : ∀ (i : grid0.Coords) a, (cc0_transform_5 i a + 1) * S256x1024.size a ≤ S4096x1024.size a := by decide +kernel
theorem hwx0_5 : ∀ i : grid0.Coords, EltTy.bits .bf16 = 32 ∨ (Rect.block (s := S4096x1024) S256x1024.size (cc0_transform_5 i) (hinb0_5 i)).WholeWords (EltTy.packing .bf16) := fun _ => .inr (Affine.block_words_dvd (of_decide_eq_true rfl) (by decide))
theorem hstage0_6 : ∀ j, (stage0_6 j).IsWhole := fun | 0 => Memref.isWhole_whole _ | 1 => Memref.isWhole_whole _ | ⟨_ + 2, h⟩ => absurd h (Nat.not_lt.2 (Nat.le_add_left _ _))
theorem nbuf0_6 : grid0.bufCount reads0_6 false = 2 := by decide
theorem hreads0_6 : ∀ i i' : grid0.Coords, (∀ a, reads0_6 a = true → i a = i' a) → cc0_transform_6 i = cc0_transform_6 i' := fun i i' h => by unfold cc0_transform_6; rw [h 0 rfl]
theorem hinb0_6 : ∀ (i : grid0.Coords) a, (cc0_transform_6 i a + 1) * S256x1024.size a ≤ S4096x1024.size a := by decide +kernel
theorem hwx0_6 : ∀ i : grid0.Coords, EltTy.bits .bf16 = 32 ∨ (Rect.block (s := S4096x1024) S256x1024.size (cc0_transform_6 i) (hinb0_6 i)).WholeWords (EltTy.packing .bf16) := fun _ => .inr (Affine.block_words_dvd (of_decide_eq_true rfl) (by decide))
theorem hstage0_7 : ∀ j, (stage0_7 j).IsWhole := fun | 0 => Memref.isWhole_whole _ | 1 => Memref.isWhole_whole _ | ⟨_ + 2, h⟩ => absurd h (Nat.not_lt.2 (Nat.le_add_left _ _))
theorem nbuf0_7 : grid0.bufCount reads0_7 false = 2 := by decide
theorem hreads0_7 : ∀ i i' : grid0.Coords, (∀ a, reads0_7 a = true → i a = i' a) → cc0_transform_7 i = cc0_transform_7 i' := fun i i' h => by unfold cc0_transform_7; rw [h 0 rfl]
theorem hinb0_7 : ∀ (i : grid0.Coords) a, (cc0_transform_7 i a + 1) * S256x1024.size a ≤ S4096x1024.size a := by decide +kernel
theorem hwx0_7 : ∀ i : grid0.Coords, EltTy.bits .bf16 = 32 ∨ (Rect.block (s := S4096x1024) S256x1024.size (cc0_transform_7 i) (hinb0_7 i)).WholeWords (EltTy.packing .bf16) := fun _ => .inr (Affine.block_words_dvd (of_decide_eq_true rfl) (by decide))
theorem hstage0_8 : ∀ j, (stage0_8 j).IsWhole := fun | 0 => Memref.isWhole_whole _ | 1 => Memref.isWhole_whole _ | ⟨_ + 2, h⟩ => absurd h (Nat.not_lt.2 (Nat.le_add_left _ _))
theorem nbuf0_8 : grid0.bufCount reads0_8 false = 2 := by decide
theorem hreads0_8 : ∀ i i' : grid0.Coords, (∀ a, reads0_8 a = true → i a = i' a) → cc0_transform_8 i = cc0_transform_8 i' := fun i i' h => by unfold cc0_transform_8; rw [h 0 rfl]
theorem hinb0_8 : ∀ (i : grid0.Coords) a, (cc0_transform_8 i a + 1) * S256x1024.size a ≤ S4096x1024.size a := by decide +kernel
theorem hwx0_8 : ∀ i : grid0.Coords, EltTy.bits .bf16 = 32 ∨ (Rect.block (s := S4096x1024) S256x1024.size (cc0_transform_8 i) (hinb0_8 i)).WholeWords (EltTy.packing .bf16) := fun _ => .inr (Affine.block_words_dvd (of_decide_eq_true rfl) (by decide))
theorem hstage0_9 : ∀ j, (stage0_9 j).IsWhole := fun | 0 => Memref.isWhole_whole _ | 1 => Memref.isWhole_whole _ | ⟨_ + 2, h⟩ => absurd h (Nat.not_lt.2 (Nat.le_add_left _ _))
theorem nbuf0_9 : grid0.bufCount reads0_9 false = 2 := by decide
theorem hreads0_9 : ∀ i i' : grid0.Coords, (∀ a, reads0_9 a = true → i a = i' a) → cc0_transform_9 i = cc0_transform_9 i' := fun i i' h => by unfold cc0_transform_9; rw [h 0 rfl]
theorem hinb0_9 : ∀ (i : grid0.Coords) a, (cc0_transform_9 i a + 1) * S256x1024.size a ≤ S4096x1024.size a := by decide +kernel
theorem hwx0_9 : ∀ i : grid0.Coords, EltTy.bits .f32 = 32 ∨ (Rect.block (s := S4096x1024) S256x1024.size (cc0_transform_9 i) (hinb0_9 i)).WholeWords (EltTy.packing .f32) := fun _ => .inl rfl
theorem hstage0_10 : ∀ j, (stage0_10 j).IsWhole := fun | 0 => Memref.isWhole_whole _ | ⟨_ + 1, h⟩ => absurd h (Nat.not_lt.2 (Nat.le_add_left _ _))
theorem nbuf0_10 : grid0.bufCount reads0_10 true = 1 := by decide
theorem hreads0_10 : ∀ i i' : grid0.Coords, (∀ a, reads0_10 a = true → i a = i' a) → cc0_transform_10 i = cc0_transform_10 i' := fun _ _ _ => rfl
theorem hinb0_10 : ∀ (i : grid0.Coords) a, (cc0_transform_10 i a + 1) * S1x1024.size a ≤ S1x1024.size a := by decide +kernel
theorem hwx0_10 : ∀ i : grid0.Coords, EltTy.bits .f32 = 32 ∨ (Rect.block (s := S1x1024) S1x1024.size (cc0_transform_10 i) (hinb0_10 i)).WholeWords (EltTy.packing .f32) := fun _ => .inl rfl
theorem hstage0_11 : ∀ j, (stage0_11 j).IsWhole := fun | 0 => Memref.isWhole_whole _ | 1 => Memref.isWhole_whole _ | ⟨_ + 2, h⟩ => absurd h (Nat.not_lt.2 (Nat.le_add_left _ _))
theorem nbuf0_11 : grid0.bufCount reads0_11 false = 2 := by decide
theorem hreads0_11 : ∀ i i' : grid0.Coords, (∀ a, reads0_11 a = true → i a = i' a) → cc0_transform_11 i = cc0_transform_11 i' := fun i i' h => by unfold cc0_transform_11; rw [h 0 rfl]
theorem hinb0_11 : ∀ (i : grid0.Coords) a, (cc0_transform_11 i a + 1) * S256x1024.size a ≤ S4096x1024.size a := by decide +kernel
theorem hwx0_11 : ∀ i : grid0.Coords, EltTy.bits .f32 = 32 ∨ (Rect.block (s := S4096x1024) S256x1024.size (cc0_transform_11 i) (hinb0_11 i)).WholeWords (EltTy.packing .f32) := fun _ => .inl rfl
theorem hstage0_12 : ∀ j, (stage0_12 j).IsWhole := fun | 0 => Memref.isWhole_whole _ | ⟨_ + 1, h⟩ => absurd h (Nat.not_lt.2 (Nat.le_add_left _ _))
theorem nbuf0_12 : grid0.bufCount reads0_12 true = 1 := by decide
theorem hreads0_12 : ∀ i i' : grid0.Coords, (∀ a, reads0_12 a = true → i a = i' a) → cc0_transform_12 i = cc0_transform_12 i' := fun _ _ _ => rfl
theorem hinb0_12 : ∀ (i : grid0.Coords) a, (cc0_transform_12 i a + 1) * S1024x9216.size a ≤ S1024x9216.size a := by decide +kernel
theorem hwx0_12 : ∀ i : grid0.Coords, EltTy.bits .bf16 = 32 ∨ (Rect.block (s := S1024x9216) S1024x9216.size (cc0_transform_12 i) (hinb0_12 i)).WholeWords (EltTy.packing .bf16) := fun _ => .inr (Affine.block_words_dvd (of_decide_eq_true rfl) (by decide))
theorem hstage0_13 : ∀ j, (stage0_13 j).IsWhole := fun | 0 => Memref.isWhole_whole _ | 1 => Memref.isWhole_whole _ | ⟨_ + 2, h⟩ => absurd h (Nat.not_lt.2 (Nat.le_add_left _ _))
theorem nbuf0_13 : grid0.bufCount reads0_13 false = 2 := by decide
theorem hreads0_13 : ∀ i i' : grid0.Coords, (∀ a, reads0_13 a = true → i a = i' a) → cc0_transform_13 i = cc0_transform_13 i' := fun i i' h => by unfold cc0_transform_13; rw [h 0 rfl]
theorem hinb0_13 : ∀ (i : grid0.Coords) a, (cc0_transform_13 i a + 1) * S256x1024.size a ≤ S4096x1024.size a := by decide +kernel
theorem hwx0_13 : ∀ i : grid0.Coords, EltTy.bits .f32 = 32 ∨ (Rect.block (s := S4096x1024) S256x1024.size (cc0_transform_13 i) (hinb0_13 i)).WholeWords (EltTy.packing .f32) := fun _ => .inl rfl
theorem hstage0_14 : ∀ j, (stage0_14 j).IsWhole := fun | 0 => Memref.isWhole_whole _ | ⟨_ + 1, h⟩ => absurd h (Nat.not_lt.2 (Nat.le_add_left _ _))
theorem nbuf0_14 : grid0.bufCount reads0_14 true = 1 := by decide
theorem hreads0_14 : ∀ i i' : grid0.Coords, (∀ a, reads0_14 a = true → i a = i' a) → cc0_transform_14 i = cc0_transform_14 i' := fun _ _ _ => rfl
theorem hinb0_14 : ∀ (i : grid0.Coords) a, (cc0_transform_14 i a + 1) * S1x1024.size a ≤ S1x1024.size a := by decide +kernel
theorem hwx0_14 : ∀ i : grid0.Coords, EltTy.bits .f32 = 32 ∨ (Rect.block (s := S1x1024) S1x1024.size (cc0_transform_14 i) (hinb0_14 i)).WholeWords (EltTy.packing .f32) := fun _ => .inl rfl

instance facts₀ : Cert.Kernel5Ideal.Facts₀ where
  bitsLt_bf16_f32 := @bitsLt_bf16_f32
  slices_S4096x9216_S4096x1024_0_0 := @slices_S4096x9216_S4096x1024_0_0
  slices_S4096x9216_S4096x1024_0_1024 := @slices_S4096x9216_S4096x1024_0_1024
  slices_S4096x9216_S4096x1024_0_2048 := @slices_S4096x9216_S4096x1024_0_2048
  slices_S4096x9216_S4096x1024_0_3072 := @slices_S4096x9216_S4096x1024_0_3072
  slices_S4096x9216_S4096x1024_0_4096 := @slices_S4096x9216_S4096x1024_0_4096
  slices_S4096x9216_S4096x1024_0_5120 := @slices_S4096x9216_S4096x1024_0_5120
  slices_S4096x9216_S4096x1024_0_6144 := @slices_S4096x9216_S4096x1024_0_6144
  slices_S4096x9216_S4096x1024_0_7168 := @slices_S4096x9216_S4096x1024_0_7168
  slices_S4096x9216_S4096x1024_0_8192 := @slices_S4096x9216_S4096x1024_0_8192
  inb_S1x1024_S1x1024_0_0 := @inb_S1x1024_S1x1024_0_0
  h_S1x1024 := @h_S1x1024
  inb_S256x1024_S256x1024_0_0 := @inb_S256x1024_S256x1024_0_0
  h_S256x1024 := @h_S256x1024
  shapeCasts_S256x1024_S256x1024 := @shapeCasts_S256x1024_S256x1024
  inb_S1024x9216_S1024x1024_0_0 := @inb_S1024x9216_S1024x1024_0_0
  h_S1024x1024 := @h_S1024x1024
  shapeCasts_S1024x1024_S1024x1024 := @shapeCasts_S1024x1024_S1024x1024
  inb_S1024x9216_S1024x1024_0_1024 := @inb_S1024x9216_S1024x1024_0_1024
  inb_S1024x9216_S1024x1024_0_2048 := @inb_S1024x9216_S1024x1024_0_2048
  inb_S1024x9216_S1024x1024_0_3072 := @inb_S1024x9216_S1024x1024_0_3072
  inb_S1024x9216_S1024x1024_0_4096 := @inb_S1024x9216_S1024x1024_0_4096
  inb_S1024x9216_S1024x1024_0_5120 := @inb_S1024x9216_S1024x1024_0_5120
  inb_S1024x9216_S1024x1024_0_6144 := @inb_S1024x9216_S1024x1024_0_6144
  inb_S1024x9216_S1024x1024_0_7168 := @inb_S1024x9216_S1024x1024_0_7168
  inb_S1024x9216_S1024x1024_0_8192 := @inb_S1024x9216_S1024x1024_0_8192
  reduces_S256x1024_S256 := @reduces_S256x1024_S256
  shapeCasts_S256_S256x1 := @shapeCasts_S256_S256x1
  broadcasts_S256x1_S256x1024 := @broadcasts_S256x1_S256x1024
  broadcasts_S1x1024_S256x1024 := @broadcasts_S1x1024_S256x1024
  shapeCasts_S1x1024_S1x1024 := @shapeCasts_S1x1024_S1x1024
  reduces_S256x1024_S1024 := @reduces_S256x1024_S1024
  shapeCasts_S1024_S1x1024 := @shapeCasts_S1024_S1x1024
  dot_S256x1024_S1024x1024_S256x1024_1_1_0_0_n_n_wf := @dot_S256x1024_S1024x1024_S256x1024_1_1_0_0_n_n_wf
  hrank0 := @hrank0
  hstage0_0 := @hstage0_0
  nbuf0_0 := @nbuf0_0
  hreads0_0 := @hreads0_0
  hinb0_0 := @hinb0_0
  hwx0_0 := @hwx0_0
  hstage0_1 := @hstage0_1
  nbuf0_1 := @nbuf0_1
  hreads0_1 := @hreads0_1
  hinb0_1 := @hinb0_1
  hwx0_1 := @hwx0_1
  hstage0_2 := @hstage0_2
  nbuf0_2 := @nbuf0_2
  hreads0_2 := @hreads0_2
  hinb0_2 := @hinb0_2
  hwx0_2 := @hwx0_2
  hstage0_3 := @hstage0_3
  nbuf0_3 := @nbuf0_3
  hreads0_3 := @hreads0_3
  hinb0_3 := @hinb0_3
  hwx0_3 := @hwx0_3
  hstage0_4 := @hstage0_4
  nbuf0_4 := @nbuf0_4
  hreads0_4 := @hreads0_4
  hinb0_4 := @hinb0_4
  hwx0_4 := @hwx0_4
  hstage0_5 := @hstage0_5
  nbuf0_5 := @nbuf0_5
  hreads0_5 := @hreads0_5
  hinb0_5 := @hinb0_5
  hwx0_5 := @hwx0_5
  hstage0_6 := @hstage0_6
  nbuf0_6 := @nbuf0_6
  hreads0_6 := @hreads0_6
  hinb0_6 := @hinb0_6
  hwx0_6 := @hwx0_6
  hstage0_7 := @hstage0_7
  nbuf0_7 := @nbuf0_7
  hreads0_7 := @hreads0_7
  hinb0_7 := @hinb0_7
  hwx0_7 := @hwx0_7
  hstage0_8 := @hstage0_8
  nbuf0_8 := @nbuf0_8
  hreads0_8 := @hreads0_8
  hinb0_8 := @hinb0_8
  hwx0_8 := @hwx0_8
  hstage0_9 := @hstage0_9
  nbuf0_9 := @nbuf0_9
  hreads0_9 := @hreads0_9
  hinb0_9 := @hinb0_9
  hwx0_9 := @hwx0_9
  hstage0_10 := @hstage0_10
  nbuf0_10 := @nbuf0_10
  hreads0_10 := @hreads0_10
  hinb0_10 := @hinb0_10
  hwx0_10 := @hwx0_10
  hstage0_11 := @hstage0_11
  nbuf0_11 := @nbuf0_11
  hreads0_11 := @hreads0_11
  hinb0_11 := @hinb0_11
  hwx0_11 := @hwx0_11
  hstage0_12 := @hstage0_12
  nbuf0_12 := @nbuf0_12
  hreads0_12 := @hreads0_12
  hinb0_12 := @hinb0_12
  hwx0_12 := @hwx0_12
  hstage0_13 := @hstage0_13
  nbuf0_13 := @nbuf0_13
  hreads0_13 := @hreads0_13
  hinb0_13 := @hinb0_13
  hwx0_13 := @hwx0_13
  hstage0_14 := @hstage0_14
  nbuf0_14 := @nbuf0_14
  hreads0_14 := @hreads0_14
  hinb0_14 := @hinb0_14
  hwx0_14 := @hwx0_14

instance facts : Cert.Kernel5Ideal.Facts where

end Cert.Kernel5Ideal.Gen
-- ==== Proof.Back.Launch.lean ====
/- The launch of the call that takes the gradient back through the projection and the norm. -/
module

public import proofs.«01_k».proof.Proof.Back.Ideal
public import Idealize.ShloMosaic.Lib.Pipeline.Kit
public import Idealize.ShloMosaic.Lib.Pipeline.Regions

@[expose] public section

noncomputable section

namespace Cert.Kernel5Ideal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 1 → List (DmaSem sig) :=
  fun | 0 => Pipeline.specSems spec0 | ⟨_ + 1, h⟩ => absurd h (Nat.not_lt.2 (Nat.le_add_left _ _))
theorem semsDistinct : ∀ p : Fin 1, (semTab p).Nodup := by decide
theorem semsDisjoint : ∀ p p' : Fin 1, p ≠ p' → (semTab p).Forall (· ∉ semTab p') := by decide
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

theorem winFacts0 : Pipeline.WinFacts spec0 := by decide
theorem block_pos0 : ∀ w : Fin 15, 0 < (spec0 w).block.numel := by decide
theorem arr_whole0 : ∀ w : Fin 15, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | ⟨_ + 15, h⟩ => absurd h (Nat.not_lt.2 (Nat.le_add_left _ _))
theorem stage_whole0 : ∀ (w : Fin 15) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | 11 => fun s => hstage0_11 (s.cast nbuf0_11) | 12 => fun s => hstage0_12 (s.cast nbuf0_12) | 13 => fun s => hstage0_13 (s.cast nbuf0_13) | 14 => fun s => hstage0_14 (s.cast nbuf0_14) | ⟨_ + 15, h⟩ => absurd h (Nat.not_lt.2 (Nat.le_add_left _ _))
theorem launch0 : Pipeline.LaunchFacts (nD := nD) (τ := τ) cfgs 0 := ⟨cellOf_inj, winFacts0, block_pos0, arr_whole0, stage_whole0⟩

theorem N_0 : grid0.N = 16 := by decide
def t0_0 : Fin grid0.N := ⟨0, by rw [N_0]; decide⟩
def t0_1 : Fin grid0.N := ⟨1, by rw [N_0]; decide⟩
def t0_2 : Fin grid0.N := ⟨2, by rw [N_0]; decide⟩
def t0_3 : Fin grid0.N := ⟨3, by rw [N_0]; decide⟩
def t0_4 : Fin grid0.N := ⟨4, by rw [N_0]; decide⟩
def t0_5 : Fin grid0.N := ⟨5, by rw [N_0]; decide⟩
def t0_6 : Fin grid0.N := ⟨6, by rw [N_0]; decide⟩
def t0_7 : Fin grid0.N := ⟨7, by rw [N_0]; decide⟩
def t0_8 : Fin grid0.N := ⟨8, by rw [N_0]; decide⟩
def t0_9 : Fin grid0.N := ⟨9, by rw [N_0]; decide⟩
def t0_10 : Fin grid0.N := ⟨10, by rw [N_0]; decide⟩
def t0_11 : Fin grid0.N := ⟨11, by rw [N_0]; decide⟩
def t0_12 : Fin grid0.N := ⟨12, by rw [N_0]; decide⟩
def t0_13 : Fin grid0.N := ⟨13, by rw [N_0]; decide⟩
def t0_14 : Fin grid0.N := ⟨14, by rw [N_0]; decide⟩
def t0_15 : Fin grid0.N := ⟨15, by rw [N_0]; decide⟩
theorem fin_N0 (t : Fin grid0.N) : t = t0_0 ∨ t = t0_1 ∨ t = t0_2 ∨ t = t0_3 ∨ t = t0_4 ∨ t = t0_5 ∨ t = t0_6 ∨ t = t0_7 ∨ t = t0_8 ∨ t = t0_9 ∨ t = t0_10 ∨ t = t0_11 ∨ t = t0_12 ∨ t = t0_13 ∨ t = t0_14 ∨ t = t0_15 := by
  obtain ⟨t, ht⟩ := t; have := N_0; simp only [t0_0, t0_1, t0_2, t0_3, t0_4, t0_5, t0_6, t0_7, t0_8, t0_9, t0_10, t0_11, t0_12, t0_13, t0_14, t0_15, Fin.mk.injEq]; omega

theorem bigSep_W0 {M : Type} [URA M] (Φ : Fin 15 → sProp M) : bigSep Finset.univ Φ = iprop(Φ (0 : Fin 15) ∗ Φ (1 : Fin 15) ∗ Φ (2 : Fin 15) ∗ Φ (3 : Fin 15) ∗ Φ (4 : Fin 15) ∗ Φ (5 : Fin 15) ∗ Φ (6 : Fin 15) ∗ Φ (7 : Fin 15) ∗ Φ (8 : Fin 15) ∗ Φ (9 : Fin 15) ∗ Φ (10 : Fin 15) ∗ Φ (11 : Fin 15) ∗ Φ (12 : Fin 15) ∗ Φ (13 : Fin 15) ∗ Φ (14 : Fin 15)) :=
  bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) Φ
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = (BI.emp : sProp (MT nD τ sig Ix Val Name U Lvl)) :=
  Pipeline.scopedRest_eq_of_list spec0 c [] (by decide) (by decide)
theorem unscopedRest0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec0 c V : sProp (MT nD τ sig Ix Val Name U Lvl))
      = iprop((((c : Thread nD τ).loc main_arg0) ↦{fullShare} V main_arg0) ∗ (((c : Thread nD τ).loc main_arg4) ↦{fullShare} V main_arg4) ∗ (((c : Thread nD τ).loc main_v0) ↦{fullShare} V main_v0)) :=
  Pipeline.unscopedRest_eq_of_list spec0 c V [main_arg0, main_arg4, main_v0] (by decide) (by decide)

abbrev hostOps0 : List (HloOp τ sig (Elt F)) :=
  [ StableHlo.unary main_arg0 main_v0 ((truncf .bf16 · bitsLt_bf16_f32) : (⟨S4096x9216, .f32⟩ : BufTy).Contents (Elt F) → (⟨S4096x9216, .bf16⟩ : BufTy).Contents (Elt F)),
    StableHlo.unary main_arg4 main_v1 ((truncf .bf16 · bitsLt_bf16_f32) : (⟨S1024x9216, .f32⟩ : BufTy).Contents (Elt F) → (⟨S1024x9216, .bf16⟩ : BufTy).Contents (Elt F)),
    StableHlo.unary main_v0 main_v2 ((extractStridedSlice S4096x1024 ![0, 0] · slices_S4096x9216_S4096x1024_0_0) : (⟨S4096x9216, .bf16⟩ : BufTy).Contents (Elt F) → (⟨S4096x1024, .bf16⟩ : BufTy).Contents (Elt F)),
    StableHlo.unary main_v0 main_v3 ((extractStridedSlice S4096x1024 ![0, 1024] · slices_S4096x9216_S4096x1024_0_1024) : (⟨S4096x9216, .bf16⟩ : BufTy).Contents (Elt F) → (⟨S4096x1024, .bf16⟩ : BufTy).Contents (Elt F)),
    StableHlo.unary main_v0 main_v4 ((extractStridedSlice S4096x1024 ![0, 2048] · slices_S4096x9216_S4096x1024_0_2048) : (⟨S4096x9216, .bf16⟩ : BufTy).Contents (Elt F) → (⟨S4096x1024, .bf16⟩ : BufTy).Contents (Elt F)),
    StableHlo.unary main_v0 main_v5 ((extractStridedSlice S4096x1024 ![0, 3072] · slices_S4096x9216_S4096x1024_0_3072) : (⟨S4096x9216, .bf16⟩ : BufTy).Contents (Elt F) → (⟨S4096x1024, .bf16⟩ : BufTy).Contents (Elt F)),
    StableHlo.unary main_v0 main_v6 ((extractStridedSlice S4096x1024 ![0, 4096] · slices_S4096x9216_S4096x1024_0_4096) : (⟨S4096x9216, .bf16⟩ : BufTy).Contents (Elt F) → (⟨S4096x1024, .bf16⟩ : BufTy).Contents (Elt F)),
    StableHlo.unary main_v0 main_v7 ((extractStridedSlice S4096x1024 ![0, 5120] · slices_S4096x9216_S4096x1024_0_5120) : (⟨S4096x9216, .bf16⟩ : BufTy).Contents (Elt F) → (⟨S4096x1024, .bf16⟩ : BufTy).Contents (Elt F)),
    StableHlo.unary main_v0 main_v8 ((extractStridedSlice S4096x1024 ![0, 6144] · slices_S4096x9216_S4096x1024_0_6144) : (⟨S4096x9216, .bf16⟩ : BufTy).Contents (Elt F) → (⟨S4096x1024, .bf16⟩ : BufTy).Contents (Elt F)),
    StableHlo.unary main_v0 main_v9 ((extractStridedSlice S4096x1024 ![0, 7168] · slices_S4096x9216_S4096x1024_0_7168) : (⟨S4096x9216, .bf16⟩ : BufTy).Contents (Elt F) → (⟨S4096x1024, .bf16⟩ : BufTy).Contents (Elt F)),
    StableHlo.unary main_v0 main_v10 ((extractStridedSlice S4096x1024 ![0, 8192] · slices_S4096x9216_S4096x1024_0_8192) : (⟨S4096x9216, .bf16⟩ : BufTy).Contents (Elt F) → (⟨S4096x1024, .bf16⟩ : BufTy).Contents (Elt F)) ]
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

theorem main_segs {Ix : Type} [DecidableEq Ix] {Name : Type} [DecidableEq Name] {U : Type} [URA U] {Lvl : Type} [Preorder Lvl]
    (a : (p : Fin 1) → (pcfgs (F := F) p).Adm) (pdats : (p : Fin 1) → (c : Dev nD) → Pipeline.Dat τ (Elt F) Ix Name U Lvl (Pipeline.pin (pcfgs (F := F)) a p) c)
    (ι : Ix) (𝒱 : Variants) (L : GSem nD τ sig → Finset Ix) (lv : GSem nD τ sig → Ix → Lvl)
    (H0 : Pipeline.HostSeg (Ix := Ix) (Name := Name) (U := U) (Lvl := Lvl) (pcfgs (F := F)) defs₀ 𝒱 L lv)
    (R0 : Pipeline.RegionSeg (pcfgs (F := F)) a pdats ι defs₀ 𝒱 L lv 0)
    (h0 : H0.prog = StableHlo.seq hostOps0)
    (c : Dev nD) :
    main c = Pipeline.Seg.run [.host H0, .region R0] := by
  simp only [Pipeline.Seg.run]
  rw [h0]
  rfl

end Cert.Kernel5Ideal.Gen

end
-- ==== Proof.Back.Skeleton.lean ====
/- The body of the call and its parts. -/
module

public import proofs.«01_k».proof.Proof.Back.Ideal

@[expose] public section

set_option synthInstance.maxSize 4096

noncomputable section

namespace Cert.Kernel5Ideal.Gen

open Idealize.ShloMosaic Idealize.SL.Sem

variable {F : FTy → Type} [FloatOps F]

noncomputable def k0_pay1 (v56 : Vec F S256x1024 .f32) (v65 : FVec F S256x1024 .f32) : FVec F S256x1024 .f32 :=
  have v66 : FVec F S256x1024 .f32 := mulf v56 v65
  v66

noncomputable def k0_pay2 (v55 : FVec F S256x1024 .f32) (v56 : Vec F S256x1024 .f32) (v64 : FVec F S256x1 .f32) (v65 : FVec F S256x1024 .f32) (v67 : Vec F S256x1024 .f32) (v68 : Vec F S1x1024 .f32) : FVec F S256x1024 .f32 :=
  have v69 : FVec F S256x1024 .f32 := broadcastTo S256x1024 v68 broadcasts_S1x1024_S256x1024
  have v70 : FVec F S256x1024 .f32 := mulf v55 v69
  have v71 : FVec F S256x1024 .f32 := mulf v70 (k0_pay1 v56 v65)
  have v72 : FVec F S256 .f32 := multiReduction .add [1] S256 v71 0x00000000#32 reduces_S256x1024_S256 (.inl rfl) rfl
  have v73 : FVec F S256x1 .f32 := shapeCast S256x1 v72 shapeCasts_S256_S256x1
  have cst_46 : F .f32 := Scalar.ofBits .f32 0x44800000#32
  have v74 : FVec F S256x1 .f32 := broadcast S256x1 cst_46
  have v75 : FVec F S256x1 .f32 := divf v73 v74
  have v76 : FVec F S256x1024 .f32 := broadcastTo S256x1024 v75 broadcasts_S256x1_S256x1024
  have v77 : FVec F S256x1024 .f32 := mulf (k0_pay1 v56 v65) v76
  have v78 : FVec F S256x1024 .f32 := subf v70 v77
  have v79 : FVec F S256x1024 .f32 := broadcastTo S256x1024 v64 broadcasts_S256x1_S256x1024
  have v80 : FVec F S256x1024 .f32 := mulf v79 v78
  have v81 : FVec F S256x1024 .f32 := addf v67 v80
  v81

noncomputable def k0_pay3 (v55 : FVec F S256x1024 .f32) (v56 : Vec F S256x1024 .f32) (v65 : FVec F S256x1024 .f32) (v83 : Vec F S1x1024 .f32) : FVec F S1x1024 .f32 :=
  have v84 : FVec F S1x1024 .f32 := shapeCast S1x1024 v83 shapeCasts_S1x1024_S1x1024
  have v85 : FVec F S256x1024 .f32 := mulf v55 (k0_pay1 v56 v65)
  have v86 : FVec F S1024 .f32 := multiReduction .add [0] S1024 v85 0x00000000#32 reduces_S256x1024_S1024 (.inl rfl) rfl
  have v87 : FVec F S1x1024 .f32 := shapeCast S1x1024 v86 shapeCasts_S1024_S1x1024
  have v88 : FVec F S1x1024 .f32 := addf v84 v87
  v88

noncomputable def k0_pay4 : FVec F S1x1024 .f32 :=
  have cst_54 : F .f32 := Scalar.ofBits .f32 0x00000000#32
  have v90 : FVec F S1x1024 .f32 := broadcast S1x1024 cst_54
  v90

noncomputable def k0_pay5 (v3 : Vec F S256x1024 .bf16) (v5 : Vec F S1024x1024 .bf16) (v8 : Vec F S256x1024 .bf16) (v10 : Vec F S1024x1024 .bf16) (v14 : Vec F S256x1024 .bf16) (v16 : Vec F S1024x1024 .bf16) (v20 : Vec F S256x1024 .bf16) (v22 : Vec F S1024x1024 .bf16) : FVec F S256x1024 .f32 :=
  have v4 : FVec F S256x1024 .bf16 := shapeCast S256x1024 v3 shapeCasts_S256x1024_S256x1024
  have v6 : FVec F S1024x1024 .bf16 := shapeCast S1024x1024 v5 shapeCasts_S1024x1024_S1024x1024
  have cst : FVec F S256x1024 .f32 := constant S256x1024 .f32 0x00000000#32
  have v7 : FVec F S256x1024 .f32 := matmul dot_S256x1024_S1024x1024_S256x1024_1_1_0_0_n_n none v4 v6 cst
  have v9 : FVec F S256x1024 .bf16 := shapeCast S256x1024 v8 shapeCasts_S256x1024_S256x1024
  have v11 : FVec F S1024x1024 .bf16 := shapeCast S1024x1024 v10 shapeCasts_S1024x1024_S1024x1024
  have cst_7 : FVec F S256x1024 .f32 := constant S256x1024 .f32 0x00000000#32
  have v12 : FVec F S256x1024 .f32 := matmul dot_S256x1024_S1024x1024_S256x1024_1_1_0_0_n_n none v9 v11 cst_7
  have v13 : FVec F S256x1024 .f32 := addf v7 v12
  have v15 : FVec F S256x1024 .bf16 := shapeCast S256x1024 v14 shapeCasts_S256x1024_S256x1024
  have v17 : FVec F S1024x1024 .bf16 := shapeCast S1024x1024 v16 shapeCasts_S1024x1024_S1024x1024
  have cst_11 : FVec F S256x1024 .f32 := constant S256x1024 .f32 0x00000000#32
  have v18 : FVec F S256x1024 .f32 := matmul dot_S256x1024_S1024x1024_S256x1024_1_1_0_0_n_n none v15 v17 cst_11
  have v19 : FVec F S256x1024 .f32 := addf v13 v18
  have v21 : FVec F S256x1024 .bf16 := shapeCast S256x1024 v20 shapeCasts_S256x1024_S256x1024
  have v23 : FVec F S1024x1024 .bf16 := shapeCast S1024x1024 v22 shapeCasts_S1024x1024_S1024x1024
  have cst_15 : FVec F S256x1024 .f32 := constant S256x1024 .f32 0x00000000#32
  have v24 : FVec F S256x1024 .f32 := matmul dot_S256x1024_S1024x1024_S256x1024_1_1_0_0_n_n none v21 v23 cst_15
  have v25 : FVec F S256x1024 .f32 := addf v19 v24
  v25

noncomputable def k0_pay6 (v26 : Vec F S256x1024 .bf16) (v28 : Vec F S1024x1024 .bf16) : FVec F S256x1024 .f32 :=
  have v27 : FVec F S256x1024 .bf16 := shapeCast S256x1024 v26 shapeCasts_S256x1024_S256x1024
  have v29 : FVec F S1024x1024 .bf16 := shapeCast S1024x1024 v28 shapeCasts_S1024x1024_S1024x1024
  have cst_19 : FVec F S256x1024 .f32 := constant S256x1024 .f32 0x00000000#32
  have v30 : FVec F S256x1024 .f32 := matmul dot_S256x1024_S1024x1024_S256x1024_1_1_0_0_n_n none v27 v29 cst_19
  v30

noncomputable def k0_pay7 (v25 : FVec F S256x1024 .f32) (v30 : FVec F S256x1024 .f32) (v32 : Vec F S256x1024 .bf16) (v34 : Vec F S1024x1024 .bf16) (v38 : Vec F S256x1024 .bf16) (v40 : Vec F S1024x1024 .bf16) (v44 : Vec F S256x1024 .bf16) (v46 : Vec F S1024x1024 .bf16) (v50 : Vec F S256x1024 .bf16) (v52 : Vec F S1024x1024 .bf16) : FVec F S256x1024 .f32 :=
  have v31 : FVec F S256x1024 .f32 := addf v25 v30
  have v33 : FVec F S256x1024 .bf16 := shapeCast S256x1024 v32 shapeCasts_S256x1024_S256x1024
  have v35 : FVec F S1024x1024 .bf16 := shapeCast S1024x1024 v34 shapeCasts_S1024x1024_S1024x1024
  have cst_23 : FVec F S256x1024 .f32 := constant S256x1024 .f32 0x00000000#32
  have v36 : FVec F S256x1024 .f32 := matmul dot_S256x1024_S1024x1024_S256x1024_1_1_0_0_n_n none v33 v35 cst_23
  have v37 : FVec F S256x1024 .f32 := addf v31 v36
  have v39 : FVec F S256x1024 .bf16 := shapeCast S256x1024 v38 shapeCasts_S256x1024_S256x1024
  have v41 : FVec F S1024x1024 .bf16 := shapeCast S1024x1024 v40 shapeCasts_S1024x1024_S1024x1024
  have cst_27 : FVec F S256x1024 .f32 := constant S256x1024 .f32 0x00000000#32
  have v42 : FVec F S256x1024 .f32 := matmul dot_S256x1024_S1024x1024_S256x1024_1_1_0_0_n_n none v39 v41 cst_27
  have v43 : FVec F S256x1024 .f32 := addf v37 v42
  have v45 : FVec F S256x1024 .bf16 := shapeCast S256x1024 v44 shapeCasts_S256x1024_S256x1024
  have v47 : FVec F S1024x1024 .bf16 := shapeCast S1024x1024 v46 shapeCasts_S1024x1024_S1024x1024
  have cst_31 : FVec F S256x1024 .f32 := constant S256x1024 .f32 0x00000000#32
  have v48 : FVec F S256x1024 .f32 := matmul dot_S256x1024_S1024x1024_S256x1024_1_1_0_0_n_n none v45 v47 cst_31
  have v49 : FVec F S256x1024 .f32 := addf v43 v48
  have v51 : FVec F S256x1024 .bf16 := shapeCast S256x1024 v50 shapeCasts_S256x1024_S256x1024
  have v53 : FVec F S1024x1024 .bf16 := shapeCast S1024x1024 v52 shapeCasts_S1024x1024_S1024x1024
  have cst_35 : FVec F S256x1024 .f32 := constant S256x1024 .f32 0x00000000#32
  have v54 : FVec F S256x1024 .f32 := matmul dot_S256x1024_S1024x1024_S256x1024_1_1_0_0_n_n none v51 v53 cst_35
  have v55 : FVec F S256x1024 .f32 := addf v49 v54
  v55

noncomputable def k0_pay8 (v56 : Vec F S256x1024 .f32) : FVec F S256x1 .f32 :=
  have v57 : FVec F S256x1024 .f32 := mulf v56 v56
  have v58 : FVec F S256 .f32 := multiReduction .add [1] S256 v57 0x00000000#32 reduces_S256x1024_S256 (.inl rfl) rfl
  have v59 : FVec F S256x1 .f32 := shapeCast S256x1 v58 shapeCasts_S256_S256x1
  have cst_39 : F .f32 := Scalar.ofBits .f32 0x44800000#32
  have v60 : FVec F S256x1 .f32 := broadcast S256x1 cst_39
  have v61 : FVec F S256x1 .f32 := divf v59 v60
  have cst_40 : F .f32 := Scalar.ofBits .f32 0x358637BD#32
  have v62 : FVec F S256x1 .f32 := broadcast S256x1 cst_40
  have v63 : FVec F S256x1 .f32 := addf v61 v62
  have v64 : FVec F S256x1 .f32 := rsqrt v63
  v64

noncomputable def k0_pay9 (v56 : Vec F S256x1024 .f32) : FVec F S256x1024 .f32 :=
  have v65 : FVec F S256x1024 .f32 := broadcastTo S256x1024 (k0_pay8 v56) broadcasts_S256x1_S256x1024
  v65

noncomputable def cc0_attn_qkv_bwd_skel (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) :
    Prog (TpuEff nD τ sig (Elt F) Λ₀ .tc) PUnit := do
  let ⟨v25, v30⟩ : Σ' (v25 : FVec F S256x1024 .f32), FVec F S256x1024 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15
  let ⟨v55, v56, v64, v65⟩ : Σ' (v55 : FVec F S256x1024 .f32) (v56 : Vec F S256x1024 .f32) (v64 : FVec F S256x1 .f32), FVec F S256x1024 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 v25 v30
  let v67 : Vec F S256x1024 .f32 ← Prog.lift (.load arg12 (Rect.unit (s := S256x1024) ![0, 0] S256x1024.size inb_S256x1024_S256x1024_0_0).toLoadRect (View.loadsAt_vmem h_S256x1024))
  let v68 : Vec F S1x1024 .f32 ← Prog.lift (.load arg11 (Rect.unit (s := S1x1024) ![0, 0] S1x1024.size inb_S1x1024_S1x1024_0_0).toLoadRect (View.loadsAt_vmem h_S1x1024))
  let v82 : Vec F S256x1024 .f32 ← Prog.lift (.load arg14 (Rect.unit (s := S256x1024) ![0, 0] S256x1024.size inb_S256x1024_S256x1024_0_0).toLoadRect (View.loadsAt_vmem h_S256x1024))
  Prog.lift (.store arg14 (Rect.unit (s := S256x1024) ![0, 0] S256x1024.size inb_S256x1024_S256x1024_0_0) (k0_pay2 v55 v56 v64 v65 v67 v68) Finset.univ (View.stores_vmem_bits_univ h_S256x1024 rfl) (.inl rfl))
  let v83 : Vec F S1x1024 .f32 ← Prog.lift (.load arg15 (Rect.unit (s := S1x1024) ![0, 0] S1x1024.size inb_S1x1024_S1x1024_0_0).toLoadRect (View.loadsAt_vmem h_S1x1024))
  let v89 : Vec F S1x1024 .f32 ← Prog.lift (.load arg15 (Rect.unit (s := S1x1024) ![0, 0] S1x1024.size inb_S1x1024_S1x1024_0_0).toLoadRect (View.loadsAt_vmem h_S1x1024))
  Prog.lift (.store arg15 (Rect.unit (s := S1x1024) ![0, 0] S1x1024.size inb_S1x1024_S1x1024_0_0) (k0_pay3 v55 v56 v65 v83) Finset.univ (View.stores_vmem_bits_univ h_S1x1024 rfl) (.inl rfl))
  pure ⟨⟩

set_option maxRecDepth 65536 in
theorem cc0_attn_qkv_bwd_eq_skeleton : cc0_attn_qkv_bwd (F := F) = cc0_attn_qkv_bwd_skel (F := F) := rfl

noncomputable def k0_part1_skel (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) :
    Prog (TpuEff nD τ sig (Elt F) Λ₀ .tc) (Σ' (v25 : FVec F S256x1024 .f32), FVec F S256x1024 .f32) := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v91 : Vec F S1x1024 .f32 ← Prog.lift (.load arg15 (Rect.unit (s := S1x1024) ![0, 0] S1x1024.size inb_S1x1024_S1x1024_0_0).toLoadRect (View.loadsAt_vmem h_S1x1024))
    Prog.lift (.store arg15 (Rect.unit (s := S1x1024) ![0, 0] S1x1024.size inb_S1x1024_S1x1024_0_0) (k0_pay4 (F := F)) Finset.univ (View.stores_vmem_bits_univ h_S1x1024 rfl) (.inl rfl))
    pure ⟨⟩
  else do
    pure ⟨⟩
  let v3 : Vec F S256x1024 .bf16 ← Prog.lift (.load arg1 (Rect.unit (s := S256x1024) ![0, 0] S256x1024.size inb_S256x1024_S256x1024_0_0).toLoadRect (View.loadsAt_vmem h_S256x1024))
  let v5 : Vec F S1024x1024 .bf16 ← Prog.lift (.load arg13 (Rect.unit (s := S1024x9216) ![0, 0] S1024x1024.size inb_S1024x9216_S1024x1024_0_0).toLoadRect (View.loadsAt_vmem h_S1024x1024))
  let v8 : Vec F S256x1024 .bf16 ← Prog.lift (.load arg2 (Rect.unit (s := S256x1024) ![0, 0] S256x1024.size inb_S256x1024_S256x1024_0_0).toLoadRect (View.loadsAt_vmem h_S256x1024))
  let v10 : Vec F S1024x1024 .bf16 ← Prog.lift (.load arg13 (Rect.unit (s := S1024x9216) ![0, 1024] S1024x1024.size inb_S1024x9216_S1024x1024_0_1024).toLoadRect (View.loadsAt_vmem h_S1024x1024))
  let v14 : Vec F S256x1024 .bf16 ← Prog.lift (.load arg3 (Rect.unit (s := S256x1024) ![0, 0] S256x1024.size inb_S256x1024_S256x1024_0_0).toLoadRect (View.loadsAt_vmem h_S256x1024))
  let v16 : Vec F S1024x1024 .bf16 ← Prog.lift (.load arg13 (Rect.unit (s := S1024x9216) ![0, 2048] S1024x1024.size inb_S1024x9216_S1024x1024_0_2048).toLoadRect (View.loadsAt_vmem h_S1024x1024))
  let v20 : Vec F S256x1024 .bf16 ← Prog.lift (.load arg4 (Rect.unit (s := S256x1024) ![0, 0] S256x1024.size inb_S256x1024_S256x1024_0_0).toLoadRect (View.loadsAt_vmem h_S256x1024))
  let v22 : Vec F S1024x1024 .bf16 ← Prog.lift (.load arg13 (Rect.unit (s := S1024x9216) ![0, 3072] S1024x1024.size inb_S1024x9216_S1024x1024_0_3072).toLoadRect (View.loadsAt_vmem h_S1024x1024))
  let v26 : Vec F S256x1024 .bf16 ← Prog.lift (.load arg5 (Rect.unit (s := S256x1024) ![0, 0] S256x1024.size inb_S256x1024_S256x1024_0_0).toLoadRect (View.loadsAt_vmem h_S256x1024))
  let v28 : Vec F S1024x1024 .bf16 ← Prog.lift (.load arg13 (Rect.unit (s := S1024x9216) ![0, 4096] S1024x1024.size inb_S1024x9216_S1024x1024_0_4096).toLoadRect (View.loadsAt_vmem h_S1024x1024))
  pure ⟨k0_pay5 v3 v5 v8 v10 v14 v16 v20 v22, k0_pay6 v26 v28⟩

set_option maxRecDepth 65536 in
theorem k0_part1_eq_skeleton : k0_part1 (F := F) = k0_part1_skel (F := F) := rfl

noncomputable def k0_part2_skel (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) (v25 : FVec F S256x1024 .f32) (v30 : FVec F S256x1024 .f32) :
    Prog (TpuEff nD τ sig (Elt F) Λ₀ .tc) (Σ' (v55 : FVec F S256x1024 .f32) (v56 : Vec F S256x1024 .f32) (v64 : FVec F S256x1 .f32), FVec F S256x1024 .f32) := do
  let v32 : Vec F S256x1024 .bf16 ← Prog.lift (.load arg6 (Rect.unit (s := S256x1024) ![0, 0] S256x1024.size inb_S256x1024_S256x1024_0_0).toLoadRect (View.loadsAt_vmem h_S256x1024))
  let v34 : Vec F S1024x1024 .bf16 ← Prog.lift (.load arg13 (Rect.unit (s := S1024x9216) ![0, 5120] S1024x1024.size inb_S1024x9216_S1024x1024_0_5120).toLoadRect (View.loadsAt_vmem h_S1024x1024))
  let v38 : Vec F S256x1024 .bf16 ← Prog.lift (.load arg7 (Rect.unit (s := S256x1024) ![0, 0] S256x1024.size inb_S256x1024_S256x1024_0_0).toLoadRect (View.loadsAt_vmem h_S256x1024))
  let v40 : Vec F S1024x1024 .bf16 ← Prog.lift (.load arg13 (Rect.unit (s := S1024x9216) ![0, 6144] S1024x1024.size inb_S1024x9216_S1024x1024_0_6144).toLoadRect (View.loadsAt_vmem h_S1024x1024))
  let v44 : Vec F S256x1024 .bf16 ← Prog.lift (.load arg8 (Rect.unit (s := S256x1024) ![0, 0] S256x1024.size inb_S256x1024_S256x1024_0_0).toLoadRect (View.loadsAt_vmem h_S256x1024))
  let v46 : Vec F S1024x1024 .bf16 ← Prog.lift (.load arg13 (Rect.unit (s := S1024x9216) ![0, 7168] S1024x1024.size inb_S1024x9216_S1024x1024_0_7168).toLoadRect (View.loadsAt_vmem h_S1024x1024))
  let v50 : Vec F S256x1024 .bf16 ← Prog.lift (.load arg9 (Rect.unit (s := S256x1024) ![0, 0] S256x1024.size inb_S256x1024_S256x1024_0_0).toLoadRect (View.loadsAt_vmem h_S256x1024))
  let v52 : Vec F S1024x1024 .bf16 ← Prog.lift (.load arg13 (Rect.unit (s := S1024x9216) ![0, 8192] S1024x1024.size inb_S1024x9216_S1024x1024_0_8192).toLoadRect (View.loadsAt_vmem h_S1024x1024))
  let v56 : Vec F S256x1024 .f32 ← Prog.lift (.load arg10 (Rect.unit (s := S256x1024) ![0, 0] S256x1024.size inb_S256x1024_S256x1024_0_0).toLoadRect (View.loadsAt_vmem h_S256x1024))
  pure ⟨k0_pay7 v25 v30 v32 v34 v38 v40 v44 v46 v50 v52, v56, k0_pay8 v56, k0_pay9 v56⟩

set_option maxRecDepth 65536 in
theorem k0_part2_eq_skeleton : k0_part2 (F := F) = k0_part2_skel (F := F) := rfl

end Cert.Kernel5Ideal.Gen

end
-- ==== Proof.Back.Points.lean ====
/- The grid of the call, point by point. -/
module

public import proofs.«01_k».proof.Proof.Back.Ideal
public import Idealize.ShloMosaic.Lib.Pipeline.Kit

@[expose] public section

noncomputable section

namespace Cert.Kernel5Ideal.Gen

open Idealize.ShloMosaic Idealize.ShloMosaic.TcCoe
open Idealize.SL Idealize.SL.Sem

variable {F : FTy → Type} [FloatOps F]

theorem fetch0_0 : ∀ t : Fin cfg0.N, (cfg0.win 0).fetch t = true :=
  (fun t => (Pipeline.Window.fetch_reads win0_0 rfl 0 (by decide) (by decide) (Pipeline.Window.sep_of_coord cc0_transform_0 0 0 (fun _ => rfl) (by decide)) (P := 1) (by decide) t).mpr (Nat.mod_one _) : ∀ t : Fin grid0.N, win0_0.fetch t = true)
theorem fetch0_1 : ∀ t : Fin cfg0.N, (cfg0.win 1).fetch t = true :=
  (fun t => (Pipeline.Window.fetch_reads win0_1 rfl 0 (by decide) (by decide) (Pipeline.Window.sep_of_coord cc0_transform_1 0 0 (fun _ => rfl) (by decide)) (P := 1) (by decide) t).mpr (Nat.mod_one _) : ∀ t : Fin grid0.N, win0_1.fetch t = true)
theorem fetch0_2 : ∀ t : Fin cfg0.N, (cfg0.win 2).fetch t = true :=
  (fun t => (Pipeline.Window.fetch_reads win0_2 rfl 0 (by decide) (by decide) (Pipeline.Window.sep_of_coord cc0_transform_2 0 0 (fun _ => rfl) (by decide)) (P := 1) (by decide) t).mpr (Nat.mod_one _) : ∀ t : Fin grid0.N, win0_2.fetch t = true)
theorem fetch0_3 : ∀ t : Fin cfg0.N, (cfg0.win 3).fetch t = true :=
  (fun t => (Pipeline.Window.fetch_reads win0_3 rfl 0 (by decide) (by decide) (Pipeline.Window.sep_of_coord cc0_transform_3 0 0 (fun _ => rfl) (by decide)) (P := 1) (by decide) t).mpr (Nat.mod_one _) : ∀ t : Fin grid0.N, win0_3.fetch t = true)
theorem fetch0_4 : ∀ t : Fin cfg0.N, (cfg0.win 4).fetch t = true :=
  (fun t => (Pipeline.Window.fetch_reads win0_4 rfl 0 (by decide) (by decide) (Pipeline.Window.sep_of_coord cc0_transform_4 0 0 (fun _ => rfl) (by decide)) (P := 1) (by decide) t).mpr (Nat.mod_one _) : ∀ t : Fin grid0.N, win0_4.fetch t = true)
theorem fetch0_5 : ∀ t : Fin cfg0.N, (cfg0.win 5).fetch t = true :=
  (fun t => (Pipeline.Window.fetch_reads win0_5 rfl 0 (by decide) (by decide) (Pipeline.Window.sep_of_coord cc0_transform_5 0 0 (fun _ => rfl) (by decide)) (P := 1) (by decide) t).mpr (Nat.mod_one _) : ∀ t : Fin grid0.N, win0_5.fetch t = true)
theorem fetch0_6 : ∀ t : Fin cfg0.N, (cfg0.win 6).fetch t = true :=
  (fun t => (Pipeline.Window.fetch_reads win0_6 rfl 0 (by decide) (by decide) (Pipeline.Window.sep_of_coord cc0_transform_6 0 0 (fun _ => rfl) (by decide)) (P := 1) (by decide) t).mpr (Nat.mod_one _) : ∀ t : Fin grid0.N, win0_6.fetch t = true)
theorem fetch0_7 : ∀ t : Fin cfg0.N, (cfg0.win 7).fetch t = true :=
  (fun t => (Pipeline.Window.fetch_reads win0_7 rfl 0 (by decide) (by decide) (Pipeline.Window.sep_of_coord cc0_transform_7 0 0 (fun _ => rfl) (by decide)) (P := 1) (by decide) t).mpr (Nat.mod_one _) : ∀ t : Fin grid0.N, win0_7.fetch t = true)
theorem fetch0_8 : ∀ t : Fin cfg0.N, (cfg0.win 8).fetch t = true :=
  (fun t => (Pipeline.Window.fetch_reads win0_8 rfl 0 (by decide) (by decide) (Pipeline.Window.sep_of_coord cc0_transform_8 0 0 (fun _ => rfl) (by decide)) (P := 1) (by decide) t).mpr (Nat.mod_one _) : ∀ t : Fin grid0.N, win0_8.fetch t = true)
theorem fetch0_9 : ∀ t : Fin cfg0.N, (cfg0.win 9).fetch t = true :=
  (fun t => (Pipeline.Window.fetch_reads win0_9 rfl 0 (by decide) (by decide) (Pipeline.Window.sep_of_coord cc0_transform_9 0 0 (fun _ => rfl) (by decide)) (P := 1) (by decide) t).mpr (Nat.mod_one _) : ∀ t : Fin grid0.N, win0_9.fetch t = true)
theorem fetch0_10 : ∀ t : Fin cfg0.N, (cfg0.win 10).fetch t = true ↔ t.val % 16 = 0 :=
  (fun t => Pipeline.Window.fetch_const win0_10 rfl (fun _ _ => rfl) (n := 16) (by decide) t : ∀ t : Fin grid0.N, win0_10.fetch t = true ↔ t.val % 16 = 0)
theorem fetch0_11 : ∀ t : Fin cfg0.N, (cfg0.win 11).fetch t = true :=
  (fun t => (Pipeline.Window.fetch_reads win0_11 rfl 0 (by decide) (by decide) (Pipeline.Window.sep_of_coord cc0_transform_11 0 0 (fun _ => rfl) (by decide)) (P := 1) (by decide) t).mpr (Nat.mod_one _) : ∀ t : Fin grid0.N, win0_11.fetch t = true)
theorem fetch0_12 : ∀ t : Fin cfg0.N, (cfg0.win 12).fetch t = true ↔ t.val % 16 = 0 :=
  (fun t => Pipeline.Window.fetch_const win0_12 rfl (fun _ _ => rfl) (n := 16) (by decide) t : ∀ t : Fin grid0.N, win0_12.fetch t = true ↔ t.val % 16 = 0)
theorem flush0_13 : ∀ t : Fin cfg0.N, (cfg0.win 13).flush t = true :=
  (fun t => (Pipeline.Window.flush_reads win0_13 rfl 0 (by decide) (by decide) (Pipeline.Window.sep_of_coord cc0_transform_13 0 0 (fun _ => rfl) (by decide)) (P := 1) (m := 0) (by decide) rfl t).mpr (Nat.mod_one _) : ∀ t : Fin grid0.N, win0_13.flush t = true)
theorem flush0_14 : ∀ t : Fin cfg0.N, (cfg0.win 14).flush t = true ↔ t.val % 16 = 15 :=
  (fun t => Pipeline.Window.flush_const win0_14 rfl (fun _ _ => rfl) (n := 16) (by decide) rfl t : ∀ t : Fin grid0.N, win0_14.flush t = true ↔ t.val % 16 = 15)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)
abbrev st0_10 (t : Fin cfg0.N) := (cfg0.win 10).stage (cfg0.slots t 10)
abbrev st0_11 (t : Fin cfg0.N) := (cfg0.win 11).stage (cfg0.slots t 11)
abbrev st0_12 (t : Fin cfg0.N) := (cfg0.win 12).stage (cfg0.slots t 12)
abbrev st0_13 (t : Fin cfg0.N) := (cfg0.win 13).stage (cfg0.slots t 13)
abbrev st0_14 (t : Fin cfg0.N) := (cfg0.win 14).stage (cfg0.slots t 14)

abbrev bodyAt0 (t : Fin cfg0.N) : Prog (TpuEff nD τ sig (Elt F) Λ₀ .tc) PUnit :=
  cc0_attn_qkv_bwd (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14))

end Cert.Kernel5Ideal.Gen

end
-- ==== Proof.Back.Runs.lean ====
/- What a run of the body shares. -/
module

public import proofs.«01_k».proof.Proof.Back.Launch
public import proofs.«01_k».proof.Proof.Back.Skeleton
public import proofs.«01_k».proof.Proof.Back.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).1 9).trans (((dats 0 c).arrAt_in 9 rfl _).trans ((hA c 9).trans (V_main_arg1 m c))),
      ((h c).1 10).trans (((dats 0 c).arrAt_in 10 rfl _).trans ((hA c 10).trans (V_main_arg2 m c))),
      ((h c).1 11).trans (((dats 0 c).arrAt_in 11 rfl _).trans ((hA c 11).trans (V_main_arg3 m c))),
      ((h c).2 main_arg4 (Pipeline.mem_restRefs_of main_arg4 (by decide) (by decide))).trans (V_main_arg4 m c)⟩) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

abbrev VO0_13 : View sig .tc .vmem S256x1024 .f32 := (Memref.whole cc0_stg13_0 : Memref sig .tc .vmem S256x1024 .f32).view
abbrev VO0_14 : View sig .tc .vmem S1x1024 .f32 := (Memref.whole cc0_stg14_0 : Memref sig .tc .vmem S1x1024 .f32).view
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x9216 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)

end Cert.Kernel5Ideal.Gen

end
-- ==== Proof.Back.RunA.lean ====
/- The first point, which clears the sum. -/
module

public import proofs.«01_k».proof.Proof.Back.Runs

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
noncomputable def kernelRun0_A (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) (hc0 : cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .f32) (x10 : Vec F S1x1024 .f32) (x11 : Vec F S256x1024 .f32) (x12 : Vec F S1024x9216 .bf16) :
    Σ' (L13 : List (View.Piece (Elt F) S256x1024 .f32)), { L14 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_attn_qkv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_attn_qkv_bwd_eq_skeleton]; unfold cc0_attn_qkv_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    iexists _; iexact H14

end Cert.Kernel5Ideal.Gen

end
-- ==== Proof.Back.RunB.lean ====
/- A later point, which adds to the sum. -/
module

public import proofs.«01_k».proof.Proof.Back.RunA

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
noncomputable def kernelRun0_B (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) (hc0 : ¬cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .f32) (x10 : Vec F S1x1024 .f32) (x11 : Vec F S256x1024 .f32) (x12 : Vec F S1024x9216 .bf16) (xo14 : Vec F S1x1024 .f32) :
    Σ' (L13 : List (View.Piece (Elt F) S256x1024 .f32)), { L14 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xo14
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_attn_qkv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_attn_qkv_bwd_eq_skeleton]; unfold cc0_attn_qkv_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    iexists _; iexact H14

end Cert.Kernel5Ideal.Gen

end
-- ==== Proof.Back.Frame.lean ====
/- The call runs from launch to end and leaves its arguments unchanged. -/
module

public import proofs.«01_k».proof.Proof.Back.RunB
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_13 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) (hc0 : cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .f32) (x10 : Vec F S1x1024 .f32) (x11 : Vec F S256x1024 .f32) (x12 : Vec F S1024x9216 .bf16) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).1 S256x1024.size (by sl_kernel_rfl) y

def out0_A_13 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) (hc0 : cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .f32) (x10 : Vec F S1x1024 .f32) (x11 : Vec F S256x1024 .f32) (x12 : Vec F S1024x9216 .bf16) : Vec F S256x1024 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).1)

theorem cover0_A_14 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) (hc0 : cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .f32) (x10 : Vec F S1x1024 .f32) (x11 : Vec F S256x1024 .f32) (x12 : Vec F S1024x9216 .bf16) (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).2.1 S1x1024.size (by sl_kernel_rfl) y

def out0_A_14 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) (hc0 : cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .f32) (x10 : Vec F S1x1024 .f32) (x11 : Vec F S256x1024 .f32) (x12 : Vec F S1024x9216 .bf16) : Vec F S1x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).2.1)

theorem cover0_B_13 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) (hc0 : ¬cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .f32) (x10 : Vec F S1x1024 .f32) (x11 : Vec F S256x1024 .f32) (x12 : Vec F S1024x9216 .bf16) (xo14 : Vec F S1x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xo14).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xo14).1 S256x1024.size (by sl_kernel_rfl) y

def out0_B_13 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) (hc0 : ¬cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .f32) (x10 : Vec F S1x1024 .f32) (x11 : Vec F S256x1024 .f32) (x12 : Vec F S1024x9216 .bf16) (xo14 : Vec F S1x1024 .f32) : Vec F S256x1024 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xo14).1)

theorem cover0_B_14 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) (hc0 : ¬cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .f32) (x10 : Vec F S1x1024 .f32) (x11 : Vec F S256x1024 .f32) (x12 : Vec F S1024x9216 .bf16) (xo14 : Vec F S1x1024 .f32) (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xo14).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xo14).2.1 S1x1024.size (by sl_kernel_rfl) y

def out0_B_14 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1024x9216 .bf16) (harg13 : arg13.IsWhole) (arg14 : Memref sig .tc .vmem S256x1024 .f32) (harg14 : arg14.IsWhole) (arg15 : Memref sig .tc .vmem S1x1024 .f32) (harg15 : arg15.IsWhole) (hc0 : ¬cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .f32) (x10 : Vec F S1x1024 .f32) (x11 : Vec F S256x1024 .f32) (x12 : Vec F S1024x9216 .bf16) (xo14 : Vec F S1x1024 .f32) : Vec F S1x1024 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xo14).2.1)

def outsAt0 (c : Dev nD) : (n : ℕ) → n < cfg0.N → Vec F S256x1024 .f32 × Vec F S1x1024 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 16 = 0 then
      (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2)

theorem outsAt0_A (c : Dev nD) (t : Fin cfg0.N) (h0 : t.val % 16 = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_14_B (c : Dev nD) (t : Fin cfg0.N) (h0 : ¬t.val % 16 = 0) (d) :
    (dats m 0 c).before 14 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 14 rfl t (by omega) (Bool.eq_false_iff.mpr fun h => by have := (flush0_14 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  have hN : t.val < 16 := lt_of_lt_of_eq t.isLt (show cfg0.N = 16 from N_0)
  by_cases h0 : t.val % 16 = 0
  · rw [outsAt0_A m c t h0]
    unfold out0_A_13 out0_A_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    iintro ⟨H0, H1, H2, H3, H4, H5, H6, H7, H8, H9, H10, H11, H12, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _)
  · rw [outsAt0_B m c t h0]
    simp only [before0_14_B m c t h0]
    unfold out0_B_13 out0_B_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    iintro ⟨H0, H1, H2, H3, H4, H5, H6, H7, H8, H9, H10, H11, H12, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel5Ideal.Gen

end
-- ==== Proof.Back.Same.lean ====
/- The call's frames, before and after idealization: the two texts are one, so one run serves both. -/
module

public import proofs.«01_k».proof.Defs
public import proofs.«01_k».proof.Proof.Back.Frame

@[expose] public section

set_option maxRecDepth 16384
set_option maxHeartbeats 8000000

noncomputable section

namespace Cert.Kernel5.Gen

instance facts₀ : Cert.Kernel5.Facts₀ := { Cert.Kernel5Ideal.Gen.facts₀ with }
instance facts : Cert.Kernel5.Facts := { Cert.Kernel5Ideal.Gen.facts with }

end Cert.Kernel5.Gen

namespace Cert.Back

open Idealize.ShloMosaic Idealize.ShloMosaic.TcCoe Idealize.SL.Sem

/-- The two programs' body tables are one. -/
theorem bodies {F : FTy → Type} [FloatOps F] : Cert.Kernel5.defs₀ (F := F) = Cert.Kernel5Ideal.defs₀ (F := F) := by
  refine congrArg (Defs.onTc (nD := Cert.Kernel5.nD) (τ := Cert.Kernel5.τ) (sig := Cert.Kernel5.sig) (Val := Elt F) (Λ := Cert.Kernel5.Λ₀)) (funext fun l => funext fun a => ?_)
  match l, a with
  | 0, (t, s) => rfl
  | ⟨_ + 1, h⟩, _ => exact absurd h (Nat.not_lt.2 (Nat.le_add_left _ _))

theorem tables {F : FTy → Type} [FloatOps F] : Cert.Kernel5.defs (F := F) = Cert.Kernel5Ideal.defs (F := F) :=
  congrArg (Pipeline.defs (Cert.Kernel5.pcfgs (F := F))) bodies

theorem mains {F : FTy → Type} [FloatOps F] : Cert.Kernel5.main (F := F) = Cert.Kernel5Ideal.main (F := F) := rfl

/-- The run of the program before idealization leaves its arguments and every counter. -/
theorem quiet_bits (m : (ℓ : Loc Cert.Kernel5.nD Cert.Kernel5.τ Cert.Kernel5.sig) → Buf (Elt Bits) ℓ) (ρ : Dev Cert.Kernel5.nD → PrngReg) :
    θ_run (Cert.Kernel5.defs (F := Bits)) (onTc (τ := Cert.Kernel5.τ) (Cert.Kernel5.main (F := Bits))) ⟨m, fun _ => 0, ρ⟩ fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0 :=
  by rw [tables, mains]; exact Cert.Kernel5Ideal.Gen.frame (F := Bits) m ρ

end Cert.Back

end
-- ==== Proof.Back.PreFacts.lean ====
/- The side conditions of the precondition. -/
module

public import proofs.«01_k».proof.Pre_finite5
public import Idealize.ShloMosaic.Lib.Affine
public import Idealize.ShloMosaic.Lib.Decide
public import Idealize.ShloMosaic.Lib.Exec

@[expose] public section

set_option synthInstance.maxSize 4096
set_option Elab.async false

namespace Cert.Pre_finite5.Gen

open Idealize.ShloMosaic Idealize.SL.Sem

theorem bcast_S_S4096x9216 : S_.BroadcastsInDim S4096x9216 (![] : Fin 0 → Fin S4096x9216.rank) := by decide
theorem reducesTo_S4096x9216_S_d0_1 : S4096x9216.ReducesTo [0, 1] S_ := by decide
theorem h_S_ : 0 < S_.numel := by decide
theorem bcast_S_S4096x1024 : S_.BroadcastsInDim S4096x1024 (![] : Fin 0 → Fin S4096x1024.rank) := by decide
theorem reducesTo_S4096x1024_S_d0_1 : S4096x1024.ReducesTo [0, 1] S_ := by decide
theorem bcast_S_S1x1024 : S_.BroadcastsInDim S1x1024 (![] : Fin 0 → Fin S1x1024.rank) := by decide
theorem reducesTo_S1x1024_S_d0_1 : S1x1024.ReducesTo [0, 1] S_ := by decide
theorem bcast_S_S1024x9216 : S_.BroadcastsInDim S1024x9216 (![] : Fin 0 → Fin S1024x9216.rank) := by decide
theorem reducesTo_S1024x9216_S_d0_1 : S1024x9216.ReducesTo [0, 1] S_ := by decide

instance facts : Cert.Pre_finite5.Facts where
  bcast_S_S4096x9216 := @bcast_S_S4096x9216
  reducesTo_S4096x9216_S_d0_1 := @reducesTo_S4096x9216_S_d0_1
  h_S_ := @h_S_
  bcast_S_S4096x1024 := @bcast_S_S4096x1024
  reducesTo_S4096x1024_S_d0_1 := @reducesTo_S4096x1024_S_d0_1
  bcast_S_S1x1024 := @bcast_S_S1x1024
  reducesTo_S1x1024_S_d0_1 := @reducesTo_S1x1024_S_d0_1
  bcast_S_S1024x9216 := @bcast_S_S1024x9216
  reducesTo_S1024x9216_S_d0_1 := @reducesTo_S1024x9216_S_d0_1

end Cert.Pre_finite5.Gen
-- ==== Proof.Back.Pay.lean ====
/- What the call's body computes, on real blocks: the gradient of the normalised rows is nine products, one for each run of
   1024 columns, and together they are the sum over all the columns. -/
module

public import proofs.«01_k».proof.Proof.Hand.Cols
public import proofs.«01_k».proof.Proof.Hand.Spec
public import proofs.«01_k».proof.Proof.Back.Skeleton

@[expose] public section

set_option maxRecDepth 16384
set_option backward.isDefEq.respectTransparency false

noncomputable section

namespace Cert.Back

open Idealize.ShloMosaic hiding ix0 ix1 ix2 eq_ix1 eq_ix2
open Idealize.ShloMosaic.ValueIdx
open Cert.Kernel5Ideal Cert.Kernel5Ideal.Gen Cert.Real

/-- The `s`-th run of 1024 columns. -/
def blk {n : ℕ} (D : Fin n → Fin 9216 → ℝ) (s : ℕ) : Fin n → Fin 1024 → ℝ := fun i q => D i (Fin.ofNat 9216 (s * 1024 + q.val))

/-- One run's product. -/
def part {n : ℕ} (D : Fin n → Fin 9216 → ℝ) (w : Fin 1024 → Fin 9216 → ℝ) (s : ℕ) : Fin n → Fin 1024 → ℝ := mmt (blk D s) (blk w s)

/-- The nine products, added one after another. -/
theorem nine {n : ℕ} (D : Fin n → Fin 9216 → ℝ) (w : Fin 1024 → Fin 9216 → ℝ) (t : Fin n) (j : Fin 1024) :
    part D w 0 t j + part D w 1 t j + part D w 2 t j + part D w 3 t j + part D w 4 t j + part D w 5 t j + part D w 6 t j
      + part D w 7 t j + part D w 8 t j = mmt D w t j := by
  have step (s : ℕ) (hs : s < 9) : ∑ i ∈ Finset.range ((s + 1) * 1024), cont (fun k => D t k * w j k) i
      = ∑ i ∈ Finset.range (s * 1024), cont (fun k => D t k * w j k) i + part D w s t j :=
    sum_cont_step _ s (fun q => Fin.ofNat 9216 (s * 1024 + q.val)) fun q => Nat.mod_eq_of_lt (by have := q.isLt; omega)
  have all : ∑ i ∈ Finset.range ((8 + 1) * 1024), cont (fun k => D t k * w j k) i = mmt D w t j := sum_cont (n := 9216) _
  rw [← all, step 8 (by omega), step 7 (by omega), step 6 (by omega), step 5 (by omega), step 4 (by omega), step 3 (by omega),
    step 2 (by omega), step 1 (by omega), step 0 (by omega), Nat.zero_mul, Finset.sum_range_zero, zero_add]

/-- A run of columns of an array. -/
theorem slice_eq {o : ℕ} (s : ℕ) (hs : s < 9) (ho : o = s * 1024) (h : S4096x9216.Slices ![0, o] S4096x1024) (D : Fin 4096 → Fin 9216 → ℝ) :
    extractStridedSlice S4096x1024 ![0, o] (R2 D) h = R2 (blk D s) :=
  funext fun y => extractStridedSlice_apply _ _ _ _ (ix2 (y 0) (Fin.ofNat 9216 (s * 1024 + (y 1).val))) fun a => by
    have h1 : (y 1).val < 1024 := (y 1).isLt
    match a with
    | ⟨0, _⟩ => show (y 0).val = 0 + (y 0).val; omega
    | ⟨1, _⟩ => show (s * 1024 + (y 1).val) % 9216 = o + (y 1).val; omega

/-- A load of a run of columns. -/
theorem ld_eq {o : ℕ} (s : ℕ) (hs : s < 9) (ho : o = s * 1024) (h : ∀ a, (![0, o] : Fin 2 → ℕ) a + S1024x1024.size a ≤ S1024x9216.size a)
    (w : Fin 1024 → Fin 9216 → ℝ) : View.ld (Val := Elt Ideal) (e' := .bf16) (R2 w) (Rect.unit (s := S1024x9216) ![0, o] S1024x1024.size h) = R2 (blk w s) := by
  funext y
  have h1 : (y 1).val < 1024 := (y 1).isLt
  refine (congrArg (R2 w) (?_ : _ = ix2 (y 0) (Fin.ofNat 9216 (s * 1024 + (y 1).val)))).trans rfl
  funext a; apply Fin.ext
  match a with
  | ⟨0, _⟩ => show 0 + 1 * (y 0).val = (y 0).val; omega
  | ⟨1, _⟩ => show o + 1 * (y 1).val = (s * 1024 + (y 1).val) % 9216; omega

variable (D : Fin 256 → Fin 9216 → ℝ) (w : Fin 1024 → Fin 9216 → ℝ) (x dy dh : Fin 256 → Fin 1024 → ℝ) (g : Fin 1 → Fin 1024 → ℝ)

theorem pay5_eq : k0_pay5 (F := Ideal) (R2 (blk D 0)) (R2 (blk w 0)) (R2 (blk D 1)) (R2 (blk w 1)) (R2 (blk D 2)) (R2 (blk w 2)) (R2 (blk D 3)) (R2 (blk w 3))
    = R2 fun t j => part D w 0 t j + part D w 1 t j + part D w 2 t j + part D w 3 t j := by
  unfold k0_pay5
  dsimp only
  simp only [shapeCast_self]
  rw [r_nt dot_S256x1024_S1024x1024_S256x1024_1_1_0_0_n_n rfl, r_nt dot_S256x1024_S1024x1024_S256x1024_1_1_0_0_n_n rfl,
    r_nt dot_S256x1024_S1024x1024_S256x1024_1_1_0_0_n_n rfl, r_nt dot_S256x1024_S1024x1024_S256x1024_1_1_0_0_n_n rfl, r_addf, r_addf, r_addf]
  rfl

theorem pay6_eq : k0_pay6 (F := Ideal) (R2 (blk D 4)) (R2 (blk w 4)) = R2 (part D w 4) := by
  unfold k0_pay6
  dsimp only
  simp only [shapeCast_self]
  rw [r_nt dot_S256x1024_S1024x1024_S256x1024_1_1_0_0_n_n rfl]
  rfl

theorem pay7_eq (p q : Fin 256 → Fin 1024 → ℝ) : k0_pay7 (F := Ideal) (R2 p) (R2 q) (R2 (blk D 5)) (R2 (blk w 5)) (R2 (blk D 6)) (R2 (blk w 6)) (R2 (blk D 7)) (R2 (blk w 7)) (R2 (blk D 8)) (R2 (blk w 8))
    = R2 fun t j => p t j + q t j + part D w 5 t j + part D w 6 t j + part D w 7 t j + part D w 8 t j := by
  unfold k0_pay7
  dsimp only
  simp only [shapeCast_self]
  rw [r_nt dot_S256x1024_S1024x1024_S256x1024_1_1_0_0_n_n rfl, r_nt dot_S256x1024_S1024x1024_S256x1024_1_1_0_0_n_n rfl,
    r_nt dot_S256x1024_S1024x1024_S256x1024_1_1_0_0_n_n rfl, r_nt dot_S256x1024_S1024x1024_S256x1024_1_1_0_0_n_n rfl, r_addf, r_addf, r_addf, r_addf, r_addf]
  rfl

theorem pay8_eq : k0_pay8 (F := Ideal) (R2 x) = R2 (rinv x) := by
  unfold k0_pay8
  dsimp only
  rw [r_mulf, r_sum_cols, r_cast_col, splat_1024, splat_eps, r_divf _ _ fun _ _ => by norm_num, r_addf, r_rms]

theorem pay9_eq : k0_pay9 (F := Ideal) (R2 x) = R2 fun t _ => rinv x t 0 := by
  unfold k0_pay9
  dsimp only
  rw [pay8_eq, r_bcast_col]

theorem pay1_eq : k0_pay1 (F := Ideal) (R2 x) (R2 fun t _ => rinv x t 0) = R2 (xhat x) := by
  unfold k0_pay1
  dsimp only
  rw [r_mulf]
  rfl

theorem pay2_eq : k0_pay2 (F := Ideal) (R2 dh) (R2 x) (R2 (rinv x)) (R2 fun t _ => rinv x t 0) (R2 dy) (R2 g) = R2 (dxs dy dh x g) := by
  unfold k0_pay2
  dsimp only
  rw [pay1_eq, r_bcast_row, r_mulf, r_mulf, r_sum_cols, r_cast_col, splat_1024, r_divf _ _ fun _ _ => by norm_num, r_bcast_col,
    r_bcast_col, r_mulf, r_subf, r_mulf, r_addf]
  rfl

theorem pay3_eq (acc : Fin 1 → Fin 1024 → ℝ) : k0_pay3 (F := Ideal) (R2 dh) (R2 x) (R2 fun t _ => rinv x t 0) (R2 acc) = R2 fun i j => acc i j + dgs dh x i j := by
  unfold k0_pay3
  dsimp only
  rw [shapeCast_self, pay1_eq, r_mulf, r_sum_rows, r_cast_row, r_addf]
  rfl

theorem pay4_eq : k0_pay4 (F := Ideal) = R2 fun _ _ => 0 := by
  unfold k0_pay4
  dsimp only
  rw [splat_zero]

end Cert.Back

end
-- ==== Proof.Back.Cases.lean ====
/- What the body leaves in its two outputs, as the payloads of the blocks it reads. -/
module

public import proofs.«01_k».proof.Proof.Hand.Cols
public import proofs.«01_k».proof.Proof.Back.Frame

@[expose] public section

set_option maxRecDepth 16384

noncomputable section

namespace Cert.Back

open Idealize.ShloMosaic hiding ix0 ix1 ix2 eq_ix1 eq_ix2
open Idealize.ShloMosaic.ValueIdx
open Idealize.ShloMosaic.Pipeline
open Cert.Kernel5Ideal Cert.Kernel5Ideal.Gen Cert.Real

variable {F : FTy → Type} [FloatOps F]

/-- The gradient of the normalised rows, as the body computes it: each block times its run of the weight's columns. -/
def dhOf (x0 x1 x2 x3 x4 x5 x6 x7 x8 : Vec F S256x1024 .bf16) (x12 : Vec F S1024x9216 .bf16) : FVec F S256x1024 .f32 :=
  k0_pay7 (k0_pay5 x0 (View.ld x12 (Rect.unit (s := S1024x9216) ![0, 0] S1024x1024.size inb_S1024x9216_S1024x1024_0_0)) x1 (View.ld x12 (Rect.unit (s := S1024x9216) ![0, 1024] S1024x1024.size inb_S1024x9216_S1024x1024_0_1024))
      x2 (View.ld x12 (Rect.unit (s := S1024x9216) ![0, 2048] S1024x1024.size inb_S1024x9216_S1024x1024_0_2048)) x3 (View.ld x12 (Rect.unit (s := S1024x9216) ![0, 3072] S1024x1024.size inb_S1024x9216_S1024x1024_0_3072)))
    (k0_pay6 x4 (View.ld x12 (Rect.unit (s := S1024x9216) ![0, 4096] S1024x1024.size inb_S1024x9216_S1024x1024_0_4096)))
    x5 (View.ld x12 (Rect.unit (s := S1024x9216) ![0, 5120] S1024x1024.size inb_S1024x9216_S1024x1024_0_5120)) x6 (View.ld x12 (Rect.unit (s := S1024x9216) ![0, 6144] S1024x1024.size inb_S1024x9216_S1024x1024_0_6144))
    x7 (View.ld x12 (Rect.unit (s := S1024x9216) ![0, 7168] S1024x1024.size inb_S1024x9216_S1024x1024_0_7168)) x8 (View.ld x12 (Rect.unit (s := S1024x9216) ![0, 8192] S1024x1024.size inb_S1024x9216_S1024x1024_0_8192))

variable (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S256x1024 .bf16) (h4 : a4.IsWhole) (a5 : Memref sig .tc .vmem S256x1024 .bf16) (h5 : a5.IsWhole) (a6 : Memref sig .tc .vmem S256x1024 .bf16) (h6 : a6.IsWhole) (a7 : Memref sig .tc .vmem S256x1024 .bf16) (h7 : a7.IsWhole) (a8 : Memref sig .tc .vmem S256x1024 .bf16) (h8 : a8.IsWhole) (a9 : Memref sig .tc .vmem S256x1024 .bf16) (h9 : a9.IsWhole) (a10 : Memref sig .tc .vmem S256x1024 .f32) (h10 : a10.IsWhole) (a11 : Memref sig .tc .vmem S1x1024 .f32) (h11 : a11.IsWhole) (a12 : Memref sig .tc .vmem S256x1024 .f32) (h12 : a12.IsWhole) (a13 : Memref sig .tc .vmem S1024x9216 .bf16) (h13 : a13.IsWhole) (a14 : Memref sig .tc .vmem S256x1024 .f32) (h14 : a14.IsWhole) (a15 : Memref sig .tc .vmem S1x1024 .f32) (h15 : a15.IsWhole)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .f32) (x10 : Vec F S1x1024 .f32) (x11 : Vec F S256x1024 .f32) (x12 : Vec F S1024x9216 .bf16) (xo : Vec F S1x1024 .f32)

theorem out_A_13 (hc : cond0_0 i) : out0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 x12
    = k0_pay2 (dhOf x0 x1 x2 x3 x4 x5 x6 x7 x8 x12) x9 (k0_pay8 x9) (k0_pay9 x9) x11 x10 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 x12)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h15.read_unread, View.ld_unit_zero (S := S256x1024) hz2, View.ld_unit_zero (S := S1x1024) hz2]
  rfl

theorem out_A_14 (hc : cond0_0 i) : out0_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 x12
    = k0_pay3 (dhOf x0 x1 x2 x3 x4 x5 x6 x7 x8 x12) x9 (k0_pay9 x9) k0_pay4 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 x12)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h15.read_unread, View.ld_unit_zero (S := S256x1024) hz2, View.ld_unit_zero (S := S1x1024) hz2]
  rfl

theorem out_B_13 (hc : ¬cond0_0 i) : out0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 x12 xo
    = k0_pay2 (dhOf x0 x1 x2 x3 x4 x5 x6 x7 x8 x12) x9 (k0_pay8 x9) (k0_pay9 x9) x11 x10 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 x12 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h15.read_unread, View.ld_unit_zero (S := S256x1024) hz2, View.ld_unit_zero (S := S1x1024) hz2]
  rfl

theorem out_B_14 (hc : ¬cond0_0 i) : out0_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 x12 xo
    = k0_pay3 (dhOf x0 x1 x2 x3 x4 x5 x6 x7 x8 x12) x9 (k0_pay9 x9) xo := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 x12 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h15.read_unread, View.ld_unit_zero (S := S256x1024) hz2, View.ld_unit_zero (S := S1x1024) hz2]
  rfl

end Cert.Back

end
-- ==== Proof.Back.Value.lean ====
/- The call's two results on real arguments: sixteen tiles of 256 rows; the scale's gradient is the running sum over the
   tiles. -/
module

public import proofs.«01_k».proof.Proof.Hand.Pre
public import proofs.«01_k».proof.Proof.Back.PreFacts
public import proofs.«01_k».proof.Proof.Back.Pay
public import proofs.«01_k».proof.Proof.Back.Cases

@[expose] public section

set_option maxRecDepth 16384
set_option maxHeartbeats 1000000
set_option backward.isDefEq.respectTransparency false

noncomputable section

namespace Cert.Back

open Idealize.ShloMosaic hiding ix0 ix1 ix2 eq_ix1 eq_ix2
open Idealize.ShloMosaic.ValueIdx
open Idealize.ShloMosaic.Pipeline Idealize.SL.Sem
open Cert.Kernel5Ideal Cert.Kernel5Ideal.Gen Cert.Real

/-- The row of the array that row `p` of tile `t` is. -/
def row (t : Fin cfg0.N) (p : Fin 256) : Fin 4096 := ⟨t.val * 256 + p.val, by
  have h : cfg0.N = 16 := N_0
  have := t.isLt; have := p.isLt; omega⟩

/-- Where each window's block lies: the rows' windows move one tile a point, the others stay. -/
theorem ix : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = 0 ∧ win0_10.index t 1 = 0) ∧ (win0_11.index t 0 = t.val ∧ win0_11.index t 1 = 0) ∧ (win0_12.index t 0 = 0 ∧ win0_12.index t 1 = 0) ∧ (win0_13.index t 0 = t.val ∧ win0_13.index t 1 = 0) ∧ (win0_14.index t 0 = 0 ∧ win0_14.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = 0 ∧ win0_10.index t 1 = 0) ∧ (win0_11.index t 0 = t.val ∧ win0_11.index t 1 = 0) ∧ (win0_12.index t 0 = 0 ∧ win0_12.index t 1 = 0) ∧ (win0_13.index t 0 = t.val ∧ win0_13.index t 1 = 0) ∧ (win0_14.index t 0 = 0 ∧ win0_14.index t 1 = 0))

theorem xs : ∀ t : Fin cfg0.N, (win0_13.xsize (grid0.coords t) 0 = 256 ∧ win0_13.xsize (grid0.coords t) 1 = 1024) ∧ (win0_14.xsize (grid0.coords t) 0 = 1 ∧ win0_14.xsize (grid0.coords t) 1 = 1024) :=
  (by decide +kernel : ∀ t : Fin grid0.N, (win0_13.xsize (grid0.coords t) 0 = 256 ∧ win0_13.xsize (grid0.coords t) 1 = 1024) ∧ (win0_14.xsize (grid0.coords t) 0 = 1 ∧ win0_14.xsize (grid0.coords t) 1 = 1024))

/-- An entry of a tile of rows. -/
theorem tile {B : (⟨2, ![4096, 1024]⟩ : Shape).Idx → EReal} {A : Fin 4096 → Fin 1024 → ℝ} (hB : B = R2 A) (t : Fin cfg0.N) {i0 i1 : ℕ}
    (hi : i0 = t.val ∧ i1 = 0) (j : (⟨2, ![4096, 1024]⟩ : Shape).Idx) (y : (⟨2, ![256, 1024]⟩ : Shape).Idx)
    (h0 : (j 0).val = i0 * 256 + 1 * (y 0).val) (h1 : (j 1).val = i1 * 1024 + 1 * (y 1).val) : B j = R2 (fun p => A (row t p)) y := by
  rw [hB]
  refine (congrArg (R2 A) ?_).trans (R2_ix2 A (row t (y 0)) (y 1))
  funext a; apply Fin.ext
  match a with
  | ⟨0, _⟩ => show (j 0).val = t.val * 256 + (y 0).val; rw [h0, hi.1]; omega
  | ⟨1, _⟩ => show (j 1).val = (y 1).val; rw [h1, hi.2]; omega

variable {m : (ℓ : Loc nD τ sig) → Buf (Elt Ideal) ℓ} {c : Dev nD}
variable {D : Fin 4096 → Fin 9216 → ℝ} {x dy : Fin 4096 → Fin 1024 → ℝ} {g : Fin 1 → Fin 1024 → ℝ} {w : Fin 1024 → Fin 9216 → ℝ}

variable (m c D x g dy w) in
/-- The arguments are arrays of reals. -/
structure Args : Prop where
  a0 : (m ((c.tc : Thread nD τ).loc main_arg0) : (⟨2, ![4096, 9216]⟩ : Shape).Idx → EReal) = R2 D
  a1 : (m ((c.tc : Thread nD τ).loc main_arg1) : (⟨2, ![4096, 1024]⟩ : Shape).Idx → EReal) = R2 x
  a2 : (m ((c.tc : Thread nD τ).loc main_arg2) : (⟨2, ![1, 1024]⟩ : Shape).Idx → EReal) = R2 g
  a3 : (m ((c.tc : Thread nD τ).loc main_arg3) : (⟨2, ![4096, 1024]⟩ : Shape).Idx → EReal) = R2 dy
  a4 : (m ((c.tc : Thread nD τ).loc main_arg4) : (⟨2, ![1024, 9216]⟩ : Shape).Idx → EReal) = R2 w

/-- A run of columns of the cotangent, cast. -/
theorem entry {o : ℕ} (s : ℕ) (hs : s < 9) (ho : o = s * 1024) (hsl : S4096x9216.Slices ![0, o] S4096x1024) (h : Args m c D x dy g w) :
    (extractStridedSlice S4096x1024 ![0, o] (truncf (F := Ideal) .bf16 (m ((c.tc : Thread nD τ).loc main_arg0) : FVec Ideal S4096x9216 .f32) bitsLt_bf16_f32) hsl : (⟨2, ![4096, 1024]⟩ : Shape).Idx → EReal) = R2 (blk D s) :=
  (congrArg (fun z : FVec Ideal S4096x9216 .f32 => extractStridedSlice S4096x1024 ![0, o] (truncf (F := Ideal) .bf16 z bitsLt_bf16_f32) hsl) h.a0).trans (slice_eq s hs ho hsl D)

/-- What the nine sliced arrays hold when the call starts. -/
theorem entries (h : Args m c D x dy g w) : (V m c main_v2 : (⟨2, ![4096, 1024]⟩ : Shape).Idx → EReal) = R2 (blk D 0)
    ∧ (V m c main_v3 : (⟨2, ![4096, 1024]⟩ : Shape).Idx → EReal) = R2 (blk D 1)
    ∧ (V m c main_v4 : (⟨2, ![4096, 1024]⟩ : Shape).Idx → EReal) = R2 (blk D 2)
    ∧ (V m c main_v5 : (⟨2, ![4096, 1024]⟩ : Shape).Idx → EReal) = R2 (blk D 3)
    ∧ (V m c main_v6 : (⟨2, ![4096, 1024]⟩ : Shape).Idx → EReal) = R2 (blk D 4)
    ∧ (V m c main_v7 : (⟨2, ![4096, 1024]⟩ : Shape).Idx → EReal) = R2 (blk D 5)
    ∧ (V m c main_v8 : (⟨2, ![4096, 1024]⟩ : Shape).Idx → EReal) = R2 (blk D 6)
    ∧ (V m c main_v9 : (⟨2, ![4096, 1024]⟩ : Shape).Idx → EReal) = R2 (blk D 7)
    ∧ (V m c main_v10 : (⟨2, ![4096, 1024]⟩ : Shape).Idx → EReal) = R2 (blk D 8) :=
  ⟨Eq.trans (by simp only [V, hostOps0]; after_results_simp <;> rfl) (entry 0 (by omega) rfl slices_S4096x9216_S4096x1024_0_0 h),
    Eq.trans (by simp only [V, hostOps0]; after_results_simp <;> rfl) (entry 1 (by omega) rfl slices_S4096x9216_S4096x1024_0_1024 h),
    Eq.trans (by simp only [V, hostOps0]; after_results_simp <;> rfl) (entry 2 (by omega) rfl slices_S4096x9216_S4096x1024_0_2048 h),
    Eq.trans (by simp only [V, hostOps0]; after_results_simp <;> rfl) (entry 3 (by omega) rfl slices_S4096x9216_S4096x1024_0_3072 h),
    Eq.trans (by simp only [V, hostOps0]; after_results_simp <;> rfl) (entry 4 (by omega) rfl slices_S4096x9216_S4096x1024_0_4096 h),
    Eq.trans (by simp only [V, hostOps0]; after_results_simp <;> rfl) (entry 5 (by omega) rfl slices_S4096x9216_S4096x1024_0_5120 h),
    Eq.trans (by simp only [V, hostOps0]; after_results_simp <;> rfl) (entry 6 (by omega) rfl slices_S4096x9216_S4096x1024_0_6144 h),
    Eq.trans (by simp only [V, hostOps0]; after_results_simp <;> rfl) (entry 7 (by omega) rfl slices_S4096x9216_S4096x1024_0_7168 h),
    Eq.trans (by simp only [V, hostOps0]; after_results_simp <;> rfl) (entry 8 (by omega) rfl slices_S4096x9216_S4096x1024_0_8192 h)⟩

/-- The cast weight. -/
theorem entry_w (h : Args m c D x dy g w) : (V m c main_v1 : (⟨2, ![1024, 9216]⟩ : Shape).Idx → EReal) = R2 w :=
  Eq.trans (b := (truncf (F := Ideal) .bf16 (m ((c.tc : Thread nD τ).loc main_arg4) : FVec Ideal S1024x9216 .f32) bitsLt_bf16_f32)) (by simp only [V, hostOps0]; after_results_simp <;> rfl) h.a4

/-- Each row window's block is its tile of its array. -/
theorem blocks (h : Args m c D x dy g w) (t : Fin cfg0.N) :
    (iblk (F := Ideal) m c 0 t : (⟨2, ![256, 1024]⟩ : Shape).Idx → EReal) = R2 (blk (fun p => D (row t p)) 0)
    ∧ (iblk (F := Ideal) m c 1 t : (⟨2, ![256, 1024]⟩ : Shape).Idx → EReal) = R2 (blk (fun p => D (row t p)) 1)
    ∧ (iblk (F := Ideal) m c 2 t : (⟨2, ![256, 1024]⟩ : Shape).Idx → EReal) = R2 (blk (fun p => D (row t p)) 2)
    ∧ (iblk (F := Ideal) m c 3 t : (⟨2, ![256, 1024]⟩ : Shape).Idx → EReal) = R2 (blk (fun p => D (row t p)) 3)
    ∧ (iblk (F := Ideal) m c 4 t : (⟨2, ![256, 1024]⟩ : Shape).Idx → EReal) = R2 (blk (fun p => D (row t p)) 4)
    ∧ (iblk (F := Ideal) m c 5 t : (⟨2, ![256, 1024]⟩ : Shape).Idx → EReal) = R2 (blk (fun p => D (row t p)) 5)
    ∧ (iblk (F := Ideal) m c 6 t : (⟨2, ![256, 1024]⟩ : Shape).Idx → EReal) = R2 (blk (fun p => D (row t p)) 6)
    ∧ (iblk (F := Ideal) m c 7 t : (⟨2, ![256, 1024]⟩ : Shape).Idx → EReal) = R2 (blk (fun p => D (row t p)) 7)
    ∧ (iblk (F := Ideal) m c 8 t : (⟨2, ![256, 1024]⟩ : Shape).Idx → EReal) = R2 (blk (fun p => D (row t p)) 8)
    ∧ (iblk (F := Ideal) m c 9 t : (⟨2, ![256, 1024]⟩ : Shape).Idx → EReal) = R2 (fun p => x (row t p))
    ∧ (iblk (F := Ideal) m c 11 t : (⟨2, ![256, 1024]⟩ : Shape).Idx → EReal) = R2 (fun p => dy (row t p)) := by
  obtain ⟨e0, e1, e2, e3, e4, e5, e6, e7, e8⟩ := entries h
  obtain ⟨i0, i1, i2, i3, i4, i5, i6, i7, i8, i9, -, i11, -⟩ := ix t
  refine ⟨?_, ?_, ?_, ?_, ?_, ?_, ?_, ?_, ?_, ?_, ?_⟩ <;> (unfold iblk; funext y; rw [View.read_apply])
  · exact tile (B := V m c main_v2) e0 t i0 _ y rfl rfl
  · exact tile (B := V m c main_v3) e1 t i1 _ y rfl rfl
  · exact tile (B := V m c main_v4) e2 t i2 _ y rfl rfl
  · exact tile (B := V m c main_v5) e3 t i3 _ y rfl rfl
  · exact tile (B := V m c main_v6) e4 t i4 _ y rfl rfl
  · exact tile (B := V m c main_v7) e5 t i5 _ y rfl rfl
  · exact tile (B := V m c main_v8) e6 t i6 _ y rfl rfl
  · exact tile (B := V m c main_v9) e7 t i7 _ y rfl rfl
  · exact tile (B := V m c main_v10) e8 t i8 _ y rfl rfl
  · exact tile (B := V m c main_arg1) ((V_main_arg1 m c).trans h.a1) t i9 _ y rfl rfl
  · exact tile (B := V m c main_arg3) ((V_main_arg3 m c).trans h.a3) t i11 _ y rfl rfl

theorem blk_g (h : Args m c D x dy g w) (t : Fin cfg0.N) : (iblk (F := Ideal) m c 10 t : (⟨2, ![1, 1024]⟩ : Shape).Idx → EReal) = R2 g := by
  obtain ⟨-, -, -, -, -, -, -, -, -, -, i, -⟩ := ix t
  unfold iblk
  funext y
  rw [View.read_apply]
  refine (congrFun ((V_main_arg2 m c).trans h.a2) _).trans (congrArg (R2 g) (?_ : _ = y))
  funext a; apply Fin.ext
  match a with
  | ⟨0, _⟩ => show win0_10.index t 0 * 1 + 1 * (y 0).val = (y 0).val; rw [i.1]; omega
  | ⟨1, _⟩ => show win0_10.index t 1 * 1024 + 1 * (y 1).val = (y 1).val; rw [i.2]; omega

theorem blk_w (h : Args m c D x dy g w) (t : Fin cfg0.N) : (iblk (F := Ideal) m c 12 t : (⟨2, ![1024, 9216]⟩ : Shape).Idx → EReal) = R2 w := by
  obtain ⟨-, -, -, -, -, -, -, -, -, -, -, -, i, -⟩ := ix t
  unfold iblk
  funext y
  rw [View.read_apply]
  refine (congrFun (entry_w h) _).trans (congrArg (R2 w) (?_ : _ = y))
  funext a; apply Fin.ext
  match a with
  | ⟨0, _⟩ => show win0_12.index t 0 * 1024 + 1 * (y 0).val = (y 0).val; rw [i.1]; omega
  | ⟨1, _⟩ => show win0_12.index t 1 * 9216 + 1 * (y 1).val = (y 1).val; rw [i.2]; omega

/-- The gradient of the normalised rows of a tile. -/
theorem dhOf_eq (A : Fin 256 → Fin 9216 → ℝ) (w : Fin 1024 → Fin 9216 → ℝ) :
    dhOf (F := Ideal) (R2 (blk A 0)) (R2 (blk A 1)) (R2 (blk A 2)) (R2 (blk A 3)) (R2 (blk A 4)) (R2 (blk A 5)) (R2 (blk A 6)) (R2 (blk A 7)) (R2 (blk A 8)) (R2 w) = R2 (mmt A w) := by
  unfold dhOf
  rw [ld_eq 0 (by omega) rfl, ld_eq 1 (by omega) rfl, ld_eq 2 (by omega) rfl, ld_eq 3 (by omega) rfl, ld_eq 4 (by omega) rfl, ld_eq 5 (by omega) rfl, ld_eq 6 (by omega) rfl, ld_eq 7 (by omega) rfl, ld_eq 8 (by omega) rfl, pay5_eq, pay6_eq, pay7_eq]
  exact congrArg R2 (funext fun t => funext fun j => nine A w t j)

/-- The rows' gradient of a tile. -/
theorem left_13 (h : Args m c D x dy g w) (t : Fin cfg0.N) : ((dats (F := Ideal) m 0 c).after 13 t : (⟨2, ![256, 1024]⟩ : Shape).Idx → EReal)
    = R2 (dxs (fun p => dy (row t p)) (mmt (fun p => D (row t p)) w) (fun p => x (row t p)) g) := by
  obtain ⟨b0, b1, b2, b3, b4, b5, b6, b7, b8, b9, b11⟩ := blocks h t
  rw [after0_13]
  by_cases hc : t.val % 16 = 0
  · rw [outsAt0_A m c t hc]
    dsimp only
    rw [out_A_13, b0, b1, b2, b3, b4, b5, b6, b7, b8, b9, b11, blk_g h t, blk_w h t, dhOf_eq, pay8_eq, pay9_eq, pay2_eq]
  · rw [outsAt0_B m c t hc]
    dsimp only
    rw [out_B_13, b0, b1, b2, b3, b4, b5, b6, b7, b8, b9, b11, blk_g h t, blk_w h t, dhOf_eq, pay8_eq, pay9_eq, pay2_eq]

theorem fl_13 (h : Args m c D x dy g w) (t : Fin cfg0.N) :
    (dats (F := Ideal) m 0 c).flushed 13 t = ((cfg0.win 13).blk t).view.read (Elt Ideal) (R2 (dxs dy (mmt D w) x g)) := by
  obtain ⟨-, -, -, -, -, -, -, -, -, -, -, -, -, i, -⟩ := ix t
  show (cfg0.win 13).cut (grid0.coords t) ((dats m 0 c).after 13 t) = _
  rw [left_13 h t]
  funext y
  rw [View.read_apply]
  refine Eq.trans ?_ (congrArg (R2 _) (?_ : ix2 (row t (y 0)) (y 1) = _))
  · rfl
  funext a; apply Fin.ext
  match a with
  | ⟨0, _⟩ => show t.val * 256 + (y 0).val = win0_13.index t 0 * 256 + 1 * (y 0).val; rw [i.1]; omega
  | ⟨1, _⟩ => show (y 1).val = win0_13.index t 1 * 1024 + 1 * (y 1).val; rw [i.2]; omega

theorem arr_13 (h : Args m c D x dy g w) :
    ((dats (F := Ideal) m 0 c).arrAt 13 cfg0.N : (⟨2, ![4096, 1024]⟩ : Shape).Idx → EReal) = R2 (dxs dy (mmt D w) x g) :=
  Dat.arrAt_eq_of_cover _ 13 _ (fun t _ => fl_13 h t) fun i => by
  have hN : cfg0.N = 16 := N_0
  have h0 : (i 0 : ℕ) < 4096 := (i 0).isLt
  have h1 : (i 1 : ℕ) < 1024 := (i 1).isLt
  have ht : (i 0 : ℕ) / 256 < cfg0.N := by omega
  obtain ⟨-, -, -, -, -, -, -, -, -, -, -, -, -, e, -⟩ := ix ⟨(i 0 : ℕ) / 256, ht⟩
  refine ⟨⟨(i 0 : ℕ) / 256, ht⟩, flush0_13 _, ?_⟩
  show i ∈ ((View.whole main_v11_0).slice (win0_13.rect ⟨(i 0 : ℕ) / 256, ht⟩)).set
  rw [View.set_slice_whole, Rect.mem_set_unit]
  intro a
  match a with
  | ⟨0, _⟩ =>
    show win0_13.index _ 0 * 256 ≤ (i 0 : ℕ) ∧ (i 0 : ℕ) < win0_13.index _ 0 * 256 + win0_13.xsize (grid0.coords _) 0
    rw [e.1, (xs _).1.1]; dsimp only; omega
  | ⟨1, _⟩ =>
    show win0_13.index _ 1 * 1024 ≤ (i 1 : ℕ) ∧ (i 1 : ℕ) < win0_13.index _ 1 * 1024 + win0_13.xsize (grid0.coords _) 1
    rw [e.2, (xs _).1.2]; omega

/-- After a point the second output holds the sum over the rows of the tiles so far. -/
theorem sums (h : Args m c D x dy g w) (n : ℕ) (hn : n < cfg0.N) : ((outsAt0 (F := Ideal) m c n hn).2 : (⟨2, ![1, 1024]⟩ : Shape).Idx → EReal)
      = R2 fun _ j => ∑ r ∈ Finset.range ((n + 1) * 256), cont (fun s => mmt D w s j * xhat x s j) r := by
  have hN : cfg0.N = 16 := N_0
  have step : ∀ t : Fin cfg0.N, ∀ j, ∑ r ∈ Finset.range ((t.val + 1) * 256), cont (fun s => mmt D w s j * xhat x s j) r
      = ∑ r ∈ Finset.range (t.val * 256), cont (fun s => mmt D w s j * xhat x s j) r
        + dgs (mmt (fun p => D (row t p)) w) (fun p => x (row t p)) 0 j := fun t j => sum_cont_step _ t.val (row t) fun _ => rfl
  induction n with
  | zero =>
    obtain ⟨b0, b1, b2, b3, b4, b5, b6, b7, b8, b9, -⟩ := blocks h ⟨0, hn⟩
    have e := outsAt0_A m c ⟨0, hn⟩ rfl
    rw [show outsAt0 m c 0 hn = _ from e]
    dsimp only
    rw [out_A_14, b0, b1, b2, b3, b4, b5, b6, b7, b8, b9, blk_w h ⟨0, hn⟩, dhOf_eq, pay9_eq, pay4_eq, pay3_eq]
    refine congrArg R2 (funext fun i => funext fun j => ?_)
    rw [step ⟨0, hn⟩ j]
    rw [Nat.zero_mul, Finset.sum_range_zero]
    rfl
  | succ n ih =>
    obtain ⟨b0, b1, b2, b3, b4, b5, b6, b7, b8, b9, -⟩ := blocks h ⟨n + 1, hn⟩
    have e := outsAt0_B m c ⟨n + 1, hn⟩ (by show ¬ (n + 1) % 16 = 0; omega)
    rw [show outsAt0 m c (n + 1) hn = _ from e]
    dsimp only
    rw [out_B_14, show outsAt0 m c (n + 1 - 1) _ = outsAt0 m c n (by omega) from rfl, ih (by omega), b0, b1, b2, b3, b4, b5, b6, b7, b8, b9,
      blk_w h ⟨n + 1, hn⟩, dhOf_eq, pay9_eq, pay3_eq]
    refine congrArg R2 (funext fun i => funext fun j => ?_)
    exact (step ⟨n + 1, hn⟩ j).symm

theorem arr_14 (h : Args m c D x dy g w) :
    ((dats (F := Ideal) m 0 c).arrAt 14 cfg0.N : (⟨2, ![1, 1024]⟩ : Shape).Idx → EReal) = R2 (dgs (mmt D w) x) :=
  Dat.arrAt_eq_of_cover _ 14 _ (fun t ht => by
  obtain ⟨-, -, -, -, -, -, -, -, -, -, -, -, -, -, i⟩ := ix t
  have hN : t.val < 16 := lt_of_lt_of_eq t.isLt N_0
  have h15 : t.val = 15 := by have := (flush0_14 t).mp ht; omega
  show (cfg0.win 14).cut (grid0.coords t) ((dats m 0 c).after 14 t) = _
  rw [after0_14, sums h t.val t.isLt]
  funext y
  rw [View.read_apply]
  refine Eq.trans ?_ (congrArg (R2 _) (?_ : ix2 (y 0) (y 1) = _))
  · have e : ∀ j, ∑ r ∈ Finset.range ((t.val + 1) * 256), cont (fun s => mmt D w s j * xhat x s j) r = dgs (mmt D w) x 0 j := fun j => by
      rw [h15]; exact sum_cont (n := 4096) _
    exact congrArg (fun r : ℝ => (r : EReal)) (e (y 1))
  funext a; apply Fin.ext
  match a with
  | ⟨0, _⟩ => show (y 0).val = win0_14.index t 0 * 1 + 1 * (y 0).val; rw [i.1]; omega
  | ⟨1, _⟩ => show (y 1).val = win0_14.index t 1 * 1024 + 1 * (y 1).val; rw [i.2]; omega) fun i => by
  have hN : cfg0.N = 16 := N_0
  have h0 : (i 0 : ℕ) < 1 := (i 0).isLt
  have h1 : (i 1 : ℕ) < 1024 := (i 1).isLt
  have ht : 15 < cfg0.N := by omega
  obtain ⟨-, -, -, -, -, -, -, -, -, -, -, -, -, -, e⟩ := ix ⟨15, ht⟩
  refine ⟨⟨15, ht⟩, (flush0_14 _).mpr rfl, ?_⟩
  show i ∈ ((View.whole main_v11_1).slice (win0_14.rect ⟨15, ht⟩)).set
  rw [View.set_slice_whole, Rect.mem_set_unit]
  intro a
  match a with
  | ⟨0, _⟩ =>
    show win0_14.index _ 0 * 1 ≤ (i 0 : ℕ) ∧ (i 0 : ℕ) < win0_14.index _ 0 * 1 + win0_14.xsize (grid0.coords _) 0
    rw [e.1, (xs _).2.1]; omega
  | ⟨1, _⟩ =>
    show win0_14.index _ 1 * 1024 ≤ (i 1 : ℕ) ∧ (i 1 : ℕ) < win0_14.index _ 1 * 1024 + win0_14.xsize (grid0.coords _) 1
    rw [e.2, (xs _).2.2]; omega

/-- The run, on real arguments: the two results, and the arguments as they were. -/
theorem run (m : (ℓ : Loc nD τ sig) → Buf (Elt Ideal) ℓ) (ρ : Dev nD → PrngReg) (D : Dev nD → Fin 4096 → Fin 9216 → ℝ) (x dy : Dev nD → Fin 4096 → Fin 1024 → ℝ)
    (g : Dev nD → Fin 1 → Fin 1024 → ℝ) (w : Dev nD → Fin 1024 → Fin 9216 → ℝ) (h : ∀ c, Args m c (D c) (x c) (dy c) (g c) (w c)) :
    θ_run defs (onTc (τ := τ) (main (F := Ideal))) ⟨m, fun _ => 0, ρ⟩ fun r => ∀ c : Dev nD,
      r.2.mem ((c.tc : Thread nD τ).loc main_v11_0) = R2 (dxs (dy c) (mmt (D c) (w c)) (x c) (g c))
      ∧ r.2.mem ((c.tc : Thread nD τ).loc main_v11_1) = R2 (dgs (mmt (D c) (w c)) (x c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ hr c => ⟨((hr.1 c).1 13).trans (arr_13 (h c)), ((hr.1 c).1 14).trans (arr_14 (h c)), hr.2 c⟩)
    (θ_run_and (run_main m ρ) (unchanged m ρ))

/-- The predicate, true, gives each argument as an array of reals. -/
theorem reals_of_pre (d : FVec Ideal (⟨2, ![4096, 9216]⟩ : Shape) .f32) (x : FVec Ideal (⟨2, ![4096, 1024]⟩ : Shape) .f32) (g : FVec Ideal (⟨2, ![1, 1024]⟩ : Shape) .f32)
    (dy : FVec Ideal (⟨2, ![4096, 1024]⟩ : Shape) .f32) (w : FVec Ideal (⟨2, ![1024, 9216]⟩ : Shape) .f32)
    (h : @Cert.Pre_finite5.fn Cert.Pre_finite5.Gen.facts Ideal _ d x g dy w = fun _ => 1#1) :
    (∃ A, d = R2 A) ∧ (∃ A, x = R2 A) ∧ (∃ A, g = R2 A) ∧ (∃ A, dy = R2 A) ∧ ∃ A, w = R2 A := by
  have both (p q : BitVec 1) : IntOp.andi p q = 1#1 → p = 1#1 ∧ q = 1#1 := by revert p q; decide
  have h0 := congrFun h (fun k => k.elim0)
  obtain ⟨h1, e4⟩ := both _ _ h0
  obtain ⟨h2, e3⟩ := both _ _ h1
  obtain ⟨h3, e2⟩ := both _ _ h2
  obtain ⟨e0, e1⟩ := both _ _ h3
  exact ⟨real_of_all d _ _ _ _ e0, real_of_all x _ _ _ _ e1, real_of_all g _ _ _ _ e2, real_of_all dy _ _ _ _ e3,
    real_of_all w _ _ _ _ e4⟩

end Cert.Back

end
-- ==== Proof.Back.RefFacts.lean ====
/- The side conditions of the call's reference. -/
module

public import proofs.«01_k».proof.Reference5Ideal
public import Idealize.ShloMosaic.Lib.Affine
public import Idealize.ShloMosaic.Lib.Decide
public import Idealize.ShloMosaic.Lib.Exec

@[expose] public section

set_option synthInstance.maxSize 4096
set_option Elab.async false

namespace Cert.Reference5Ideal.Gen

open Idealize.ShloMosaic Idealize.SL.Sem

theorem reducesTo_S4096x1024_S4096_d1 : S4096x1024.ReducesTo [1] S4096 := by decide
theorem h_S_ : 0 < S_.numel := by decide
theorem bcast_S4096_S4096x1_0 : S4096.BroadcastsInDim S4096x1 (![0] : Fin 1 → Fin S4096x1.rank) := by decide
theorem bcast_S_S4096x1 : S_.BroadcastsInDim S4096x1 (![] : Fin 0 → Fin S4096x1.rank) := by decide
theorem bcast_S4096x1_S4096x1024_0_1 : S4096x1.BroadcastsInDim S4096x1024 (![0, 1] : Fin 2 → Fin S4096x1024.rank) := by decide
theorem bcast_S1x1024_S4096x1024_0_1 : S1x1024.BroadcastsInDim S4096x1024 (![0, 1] : Fin 2 → Fin S4096x1024.rank) := by decide
theorem reducesTo_S4096x1024_S1024_d0 : S4096x1024.ReducesTo [0] S1024 := by decide
theorem shapeCasts_S1024_S1x1024 : S1024.ShapeCasts S1x1024 := by decide
theorem shapeCasts_S4096_S4096x1 : S4096.ShapeCasts S4096x1 := by decide
theorem reducesTo_S4096x1_S4096_d1 : S4096x1.ReducesTo [1] S4096 := by decide
theorem bcast_S4096_S4096x1024_0 : S4096.BroadcastsInDim S4096x1024 (![0] : Fin 1 → Fin S4096x1024.rank) := by decide
theorem dot_S4096x1024_S1024x9216_S4096x9216_1_0_0_1_n_n_wf : DotDims.WF S4096x1024 S1024x9216 S4096x9216 [1] [0] [0] [1] [] [] := by decide
theorem dot_S4096x9216_S1024x9216_S4096x1024_1_1_0_0_n_n_wf : DotDims.WF S4096x9216 S1024x9216 S4096x1024 [1] [1] [0] [0] [] [] := by decide

instance facts₀ : Cert.Reference5Ideal.Facts₀ where
  reducesTo_S4096x1024_S4096_d1 := @reducesTo_S4096x1024_S4096_d1
  h_S_ := @h_S_
  bcast_S4096_S4096x1_0 := @bcast_S4096_S4096x1_0
  bcast_S_S4096x1 := @bcast_S_S4096x1
  bcast_S4096x1_S4096x1024_0_1 := @bcast_S4096x1_S4096x1024_0_1
  bcast_S1x1024_S4096x1024_0_1 := @bcast_S1x1024_S4096x1024_0_1
  reducesTo_S4096x1024_S1024_d0 := @reducesTo_S4096x1024_S1024_d0
  shapeCasts_S1024_S1x1024 := @shapeCasts_S1024_S1x1024
  shapeCasts_S4096_S4096x1 := @shapeCasts_S4096_S4096x1
  reducesTo_S4096x1_S4096_d1 := @reducesTo_S4096x1_S4096_d1
  bcast_S4096_S4096x1024_0 := @bcast_S4096_S4096x1024_0
  dot_S4096x1024_S1024x9216_S4096x9216_1_0_0_1_n_n_wf := @dot_S4096x1024_S1024x9216_S4096x9216_1_0_0_1_n_n_wf
  dot_S4096x9216_S1024x9216_S4096x1024_1_1_0_0_n_n_wf := @dot_S4096x9216_S1024x9216_S4096x1024_1_1_0_0_n_n_wf

instance facts : Cert.Reference5Ideal.Facts where

end Cert.Reference5Ideal.Gen
-- ==== Proof.Back.Ref.lean ====
/- The reference of the projection's and the norm's gradient: its operations, its run and its two results on real arguments. -/
module

public import proofs.«01_k».proof.Proof.Back.RefFacts
public import proofs.«01_k».proof.Proof.Hand.RefValue
public import Idealize.ShloMosaic.Lib.StableHlo.Run

@[expose] public section

set_option maxRecDepth 16384
set_option maxHeartbeats 1000000
set_option backward.isDefEq.respectTransparency false

noncomputable section

namespace Cert.Back.Ref

open Idealize.ShloMosaic hiding ix0 ix1 ix2 eq_ix1 eq_ix2
open Idealize.ShloMosaic.ValueIdx
open Idealize.ShloMosaic.TcCoe Idealize.SL.Sem Idealize.ShloMosaic.StableHlo
open Cert.Reference5Ideal Cert.Reference5Ideal.Gen Cert.Real
open Cert.Real.Ref (vms vr vc vxh vr_eq vc_eq vxh_eq dx_real)

section Run

variable {F : FTy → Type} [FloatOps F]

/-- The contents of a buffer of one shape and element type. -/
abbrev Ct (F : FTy → Type) (S : Shape) (e : EltTy) : Type := (⟨S, e⟩ : BufTy).Contents (Elt F)

/-- The operations of the reference, in order. -/
abbrev ops : List (HloOp τ sig (Elt F)) :=
  [binary main_arg1 main_arg1 main_v0 (mulf : Ct F S4096x1024 .f32 → Ct F S4096x1024 .f32 → Ct F S4096x1024 .f32),
   nullary main_cst (constant S_ .f32 0x00000000#32),
   binary main_v0 main_cst main_v1 ((fun x v => Host.reduceAdd x v reducesTo_S4096x1024_S4096_d1 h_S_) : Ct F S4096x1024 .f32 → Ct F S_ .f32 → Ct F S4096 .f32),
   unary main_v1 main_v2 (broadcastInDim S4096x1 ![0] bcast_S4096_S4096x1_0 : Ct F S4096 .f32 → Ct F S4096x1 .f32),
   nullary main_cst_0 (constant S_ .f32 0x44800000#32),
   unary main_cst_0 main_v3 (broadcastInDim S4096x1 ![] bcast_S_S4096x1 : Ct F S_ .f32 → Ct F S4096x1 .f32),
   binary main_v2 main_v3 main_v4 (Host.divf : Ct F S4096x1 .f32 → Ct F S4096x1 .f32 → Ct F S4096x1 .f32),
   nullary main_cst_1 (constant S_ .f32 0x358637BD#32),
   unary main_cst_1 main_v5 (broadcastInDim S4096x1 ![] bcast_S_S4096x1 : Ct F S_ .f32 → Ct F S4096x1 .f32),
   binary main_v4 main_v5 main_v6 (addf : Ct F S4096x1 .f32 → Ct F S4096x1 .f32 → Ct F S4096x1 .f32),
   unary main_v6 main_v7 (Host.rsqrt : Ct F S4096x1 .f32 → Ct F S4096x1 .f32),
   binary main_v7 main_v6 main_v8 (Host.divf : Ct F S4096x1 .f32 → Ct F S4096x1 .f32 → Ct F S4096x1 .f32),
   nullary main_cst_2 (constant S_ .f32 0xBF000000#32),
   unary main_cst_2 main_v9 (broadcastInDim S4096x1 ![] bcast_S_S4096x1 : Ct F S_ .f32 → Ct F S4096x1 .f32),
   binary main_v9 main_v8 main_v10 (mulf : Ct F S4096x1 .f32 → Ct F S4096x1 .f32 → Ct F S4096x1 .f32),
   unary main_v7 main_v11 (broadcastInDim S4096x1024 ![0, 1] bcast_S4096x1_S4096x1024_0_1 : Ct F S4096x1 .f32 → Ct F S4096x1024 .f32),
   binary main_arg1 main_v11 main_v12 (mulf : Ct F S4096x1024 .f32 → Ct F S4096x1024 .f32 → Ct F S4096x1024 .f32),
   unary main_arg2 main_v13 (broadcastInDim S4096x1024 ![0, 1] bcast_S1x1024_S4096x1024_0_1 : Ct F S1x1024 .f32 → Ct F S4096x1024 .f32),
   binary main_v12 main_v13 main_v14 (mulf : Ct F S4096x1024 .f32 → Ct F S4096x1024 .f32 → Ct F S4096x1024 .f32),
   binary main_v14 main_arg4 main_v15 ((fun l r => Host.dotGeneral dot_S4096x1024_S1024x9216_S4096x9216_1_0_0_1_n_n none l r) : Ct F S4096x1024 .f32 → Ct F S1024x9216 .f32 → Ct F S4096x9216 .f32),
   binary main_arg0 main_arg4 main_v16 ((fun l r => Host.dotGeneral dot_S4096x9216_S1024x9216_S4096x1024_1_1_0_0_n_n none l r) : Ct F S4096x9216 .f32 → Ct F S1024x9216 .f32 → Ct F S4096x1024 .f32),
   binary main_v12 main_v16 main_v17 (mulf : Ct F S4096x1024 .f32 → Ct F S4096x1024 .f32 → Ct F S4096x1024 .f32),
   nullary main_cst_3 (constant S_ .f32 0x00000000#32),
   binary main_v17 main_cst_3 main_v18 ((fun x v => Host.reduceAdd x v reducesTo_S4096x1024_S1024_d0 h_S_) : Ct F S4096x1024 .f32 → Ct F S_ .f32 → Ct F S1024 .f32),
   reshape main_v18 main_v19 (rfl : (.f32 : EltTy) = .f32) shapeCasts_S1024_S1x1024,
   unary main_arg2 main_v20 (broadcastInDim S4096x1024 ![0, 1] bcast_S1x1024_S4096x1024_0_1 : Ct F S1x1024 .f32 → Ct F S4096x1024 .f32),
   binary main_v16 main_v20 main_v21 (mulf : Ct F S4096x1024 .f32 → Ct F S4096x1024 .f32 → Ct F S4096x1024 .f32),
   binary main_arg1 main_v21 main_v22 (mulf : Ct F S4096x1024 .f32 → Ct F S4096x1024 .f32 → Ct F S4096x1024 .f32),
   nullary main_cst_4 (constant S_ .f32 0x00000000#32),
   binary main_v22 main_cst_4 main_v23 ((fun x v => Host.reduceAdd x v reducesTo_S4096x1024_S4096_d1 h_S_) : Ct F S4096x1024 .f32 → Ct F S_ .f32 → Ct F S4096 .f32),
   reshape main_v23 main_v24 (rfl : (.f32 : EltTy) = .f32) shapeCasts_S4096_S4096x1,
   unary main_v7 main_v25 (broadcastInDim S4096x1024 ![0, 1] bcast_S4096x1_S4096x1024_0_1 : Ct F S4096x1 .f32 → Ct F S4096x1024 .f32),
   binary main_v21 main_v25 main_v26 (mulf : Ct F S4096x1024 .f32 → Ct F S4096x1024 .f32 → Ct F S4096x1024 .f32),
   binary main_arg3 main_v26 main_v27 (addf : Ct F S4096x1024 .f32 → Ct F S4096x1024 .f32 → Ct F S4096x1024 .f32),
   binary main_v24 main_v10 main_v28 (mulf : Ct F S4096x1 .f32 → Ct F S4096x1 .f32 → Ct F S4096x1 .f32),
   nullary main_cst_5 (constant S_ .f32 0x44800000#32),
   unary main_cst_5 main_v29 (broadcastInDim S4096x1 ![] bcast_S_S4096x1 : Ct F S_ .f32 → Ct F S4096x1 .f32),
   binary main_v28 main_v29 main_v30 (Host.divf : Ct F S4096x1 .f32 → Ct F S4096x1 .f32 → Ct F S4096x1 .f32),
   nullary main_cst_6 (constant S_ .f32 0x00000000#32),
   binary main_v30 main_cst_6 main_v31 ((fun x v => Host.reduceAdd x v reducesTo_S4096x1_S4096_d1 h_S_) : Ct F S4096x1 .f32 → Ct F S_ .f32 → Ct F S4096 .f32),
   unary main_v31 main_v32 (broadcastInDim S4096x1024 ![0] bcast_S4096_S4096x1024_0 : Ct F S4096 .f32 → Ct F S4096x1024 .f32),
   binary main_arg1 main_v32 main_v33 (mulf : Ct F S4096x1024 .f32 → Ct F S4096x1024 .f32 → Ct F S4096x1024 .f32),
   binary main_v27 main_v33 main_v34 (addf : Ct F S4096x1024 .f32 → Ct F S4096x1024 .f32 → Ct F S4096x1024 .f32),
   binary main_v32 main_arg1 main_v35 (mulf : Ct F S4096x1024 .f32 → Ct F S4096x1024 .f32 → Ct F S4096x1024 .f32),
   binary main_v34 main_v35 main_v36 (addf : Ct F S4096x1024 .f32 → Ct F S4096x1024 .f32 → Ct F S4096x1024 .f32)]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., binary_bufs_sub .., binary_bufs_sub .., nullary_bufs_sub .., binary_bufs_sub .., reshape_bufs_sub .., unary_bufs_sub .., binary_bufs_sub .., binary_bufs_sub .., nullary_bufs_sub .., binary_bufs_sub .., reshape_bufs_sub .., unary_bufs_sub .., binary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub ..⟩

end Run

variable (m : (ℓ : Loc nD τ sig) → Buf (Elt Ideal) ℓ) (ρ : Dev nD → PrngReg)
variable (d : Fin 4096 → Fin 9216 → ℝ) (x dy dh : Fin 4096 → Fin 1024 → ℝ) (g : Fin 1 → Fin 1024 → ℝ) (w : Fin 1024 → Fin 9216 → ℝ)

def vh (d : FVec Ideal S4096x9216 .f32) (w : FVec Ideal S1024x9216 .f32) : FVec Ideal S4096x1024 .f32 :=
  Host.dotGeneral dot_S4096x9216_S1024x9216_S4096x1024_1_1_0_0_n_n none d w
theorem vh_eq : vh (R2 d) (R2 w) = R2 (mmt d w) := by
  unfold vh
  rw [host_dot, r_nt dot_S4096x9216_S1024x9216_S4096x1024_1_1_0_0_n_n rfl]
  rfl

def vg (x dh : FVec Ideal S4096x1024 .f32) : FVec Ideal S1x1024 .f32 :=
  shapeCast _ (Host.reduceAdd (mulf (vxh x) dh) (constant S_ .f32 0x00000000#32) reducesTo_S4096x1024_S1024_d0 h_S_) shapeCasts_S1024_S1x1024
theorem vg_eq : vg (R2 x) (R2 dh) = R2 (dgs dh x) := by
  unfold vg
  rw [vxh_eq, r_mulf, r_hsum_rows, r_cast_row]
  refine congrArg R2 (funext fun t => funext fun j => ?_)
  exact Finset.sum_congr rfl fun q _ => mul_comm _ _

def vm (g : FVec Ideal S1x1024 .f32) (dh : FVec Ideal S4096x1024 .f32) : FVec Ideal S4096x1024 .f32 :=
  mulf dh (broadcastInDim S4096x1024 ![0, 1] bcast_S1x1024_S4096x1024_0_1 g)
theorem vm_eq : vm (R2 g) (R2 dh) = R2 fun t j => dh t j * g 0 j := by
  unfold vm
  rw [r_hbcast_row, r_mulf]

def vb (x : FVec Ideal S4096x1024 .f32) (g : FVec Ideal S1x1024 .f32) (dh : FVec Ideal S4096x1024 .f32) : FVec Ideal S4096x1024 .f32 :=
  broadcastInDim S4096x1024 ![0] bcast_S4096_S4096x1024_0 (Host.reduceAdd
    (Host.divf (mulf (shapeCast _ (Host.reduceAdd (mulf x (vm g dh)) (constant S_ .f32 0x00000000#32) reducesTo_S4096x1024_S4096_d1 h_S_) shapeCasts_S4096_S4096x1) (vc x)) (broadcastInDim S4096x1 ![] bcast_S_S4096x1 (constant S_ .f32 0x44800000#32)))
    (constant S_ .f32 0x00000000#32) reducesTo_S4096x1_S4096_d1 h_S_)
theorem vb_eq : vb (R2 x) (R2 g) (R2 dh) = R2 fun t _ => (∑ q, x t q * (dh t q * g 0 q)) * (-(1 / 2) * (rinv x t 0 / ms x t 0)) / 1024 := by
  unfold vb
  rw [vm_eq, vc_eq, r_mulf, r_hsum_cols, r_cast_col, r_mulf, splat_host_1024, r_hdivf _ _ fun _ _ => by norm_num, r_hsum_cols, r_hbcast_vec]
  refine congrArg R2 (funext fun t => funext fun _ => ?_)
  exact Fin.sum_univ_one _

def vx (x : FVec Ideal S4096x1024 .f32) (g : FVec Ideal S1x1024 .f32) (dy dh : FVec Ideal S4096x1024 .f32) : FVec Ideal S4096x1024 .f32 :=
  addf (addf (addf dy (mulf (vm g dh) (broadcastInDim S4096x1024 ![0, 1] bcast_S4096x1_S4096x1024_0_1 (vr x)))) (mulf x (vb x g dh))) (mulf (vb x g dh) x)
theorem vx_eq : vx (R2 x) (R2 g) (R2 dy) (R2 dh) = R2 (dxs dy dh x g) := by
  unfold vx
  rw [vm_eq, vr_eq, vb_eq, r_hbcast_col, r_mulf, r_addf, r_mulf, r_addf, r_mulf, r_addf]
  refine congrArg R2 (funext fun t => funext fun j => ?_)
  exact dx_real _ _ _ _ t j

/-- The array an argument holds. -/
abbrev ad (c : Dev nD) : FVec Ideal S4096x9216 .f32 := m ((c.tc : Thread nD τ).loc main_arg0)
abbrev ax (c : Dev nD) : FVec Ideal S4096x1024 .f32 := m ((c.tc : Thread nD τ).loc main_arg1)
abbrev ag (c : Dev nD) : FVec Ideal S1x1024 .f32 := m ((c.tc : Thread nD τ).loc main_arg2)
abbrev ady (c : Dev nD) : FVec Ideal S4096x1024 .f32 := m ((c.tc : Thread nD τ).loc main_arg3)
abbrev aw (c : Dev nD) : FVec Ideal S1024x9216 .f32 := m ((c.tc : Thread nD τ).loc main_arg4)

/-- The two results are the compositions above; the arguments stay, and so does every counter. -/
theorem run : θ_run defs (onTc (τ := τ) (main (F := Ideal))) ⟨m, fun _ => 0, ρ⟩ fun r => (∀ c : Dev nD,
      r.2.mem ((c.tc : Thread nD τ).loc main_v36) = vx (ax m c) (ag m c) (ady m c) (vh (ad m c) (aw m c))
      ∧ r.2.mem ((c.tc : Thread nD τ).loc main_v19) = vg (ax m c) (vh (ad m c) (aw m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => ⟨
      (h c main_v36).trans (by simp only [ops]; after_results_simp <;> rfl),
      (h c main_v19).trans (by simp only [ops]; after_results_simp <;> rfl),
      (h c main_arg0).trans (by simp only [ops]; after_results_simp <;> rfl),
      (h c main_arg1).trans (by simp only [ops]; after_results_simp <;> rfl),
      (h c main_arg2).trans (by simp only [ops]; after_results_simp <;> rfl),
      (h c main_arg3).trans (by simp only [ops]; after_results_simp <;> rfl),
      (h c main_arg4).trans (by simp only [ops]; after_results_simp <;> rfl)⟩, sem_eq_zero_of_no_sems (by decide) r.2⟩)
    (run_seq scopedRefs_eq scopedSems_eq defs main (fun _ => ops) main_eq (fun _ => ops_sub) m ρ)

end Cert.Back.Ref

end
-- ==== Proof.lean ====
/- The claim: of the feed-forward sublayer, the frames of the generated modules and the value claim of Hand/KernelRun.lean and
   Hand/RefRun.lean; of the attention backward kernel, the frames of Attn/Same.lean and the value claim of Attn/Value.lean;
   of the two weight products, the frames of Prod/Same.lean and the runs of Prod/Value.lean and Prod/Ref.lean; of the input
   projections' weight gradient, the frames of Proj/Same.lean and the runs of Proj/Value.lean and Proj/Ref.lean; of the input
   projections' backward call, the frames of Back/Same.lean and the runs of Back/Value.lean and Back/Ref.lean. -/
module

public import proofs.«01_k».proof.Defs
public import proofs.«01_k».proof.Proof.Gen.Kernel.Frame
public import proofs.«01_k».proof.Proof.Gen.KernelIdeal.Frame
public import proofs.«01_k».proof.Proof.Hand.Pre
public import proofs.«01_k».proof.Proof.Hand.KernelRun
public import proofs.«01_k».proof.Proof.Hand.RefRun
public import proofs.«01_k».proof.Proof.Attn.Same
public import proofs.«01_k».proof.Proof.Attn.Value
public import proofs.«01_k».proof.Proof.Prod.Same
public import proofs.«01_k».proof.Proof.Prod.Value
public import proofs.«01_k».proof.Proof.Prod.Ref
public import proofs.«01_k».proof.Proof.Proj.Same
public import proofs.«01_k».proof.Proof.Proj.Value
public import proofs.«01_k».proof.Proof.Proj.Ref
public import proofs.«01_k».proof.Proof.Back.Same
public import proofs.«01_k».proof.Proof.Back.Value
public import proofs.«01_k».proof.Proof.Back.Ref

@[expose] public section

noncomputable section

namespace Cert.Proof

open Idealize.ShloMosaic Idealize.SL.Sem
open Cert.Real Cert.KernelIdeal.Gen

/-- On finite arguments the kernel's five results and the reference's are the same arrays. -/
theorem value : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hp ha
  have key : ∀ c : Dev Cert.KernelIdeal.nD, ∃ (x : Fin 4096 → Fin 1024 → ℝ) (g : Fin 1 → Fin 1024 → ℝ) (dy : Fin 4096 → Fin 1024 → ℝ)
      (w : Fin 1024 → Fin 5632 → ℝ) (wo : Fin 2816 → Fin 1024 → ℝ), Args m c x g dy w wo := fun c => by
    obtain ⟨⟨x, hx⟩, ⟨g, hg⟩, ⟨dy, hdy⟩, ⟨w, hw⟩, ⟨wo, hwo⟩⟩ := reals_of_pre _ _ _ _ _ (hp c)
    exact ⟨x, g, dy, w, wo, ⟨hx, hg, hdy, hw, hwo⟩⟩
  choose x g dy w wo h using key
  refine ⟨fun c => R2 (xout (x c) (za (x c) (g c) (w c)) (wo c)), fun c => R2 (dxs (dy c) (zdh (x c) (g c) (dy c) (w c) (wo c)) (x c) (g c)),
    fun c => R2 (dgs (zdh (x c) (g c) (dy c) (w c) (wo c)) (x c)),
    fun c => R2 (beside (tmm (hn (x c) (g c)) (zdg (x c) (g c) (dy c) (w c) (wo c))) (tmm (hn (x c) (g c)) (zdu (x c) (g c) (dy c) (w c) (wo c)))),
    fun c => R2 (tmm (za (x c) (g c) (w c)) (half (dy c))), ?_, ?_⟩
  · refine (θ_run Cert.KernelIdeal.defs _ _).mono (fun r hr c => ?_) (run_all m ρ)
    exact ⟨(hr c _ (mem_uc _ (by decide))).trans (b6_o ρ (h c)),
      (hr c _ (mem_uc _ (by decide))).trans (b6_dx ρ (h c)),
      (hr c _ (mem_uc _ (by decide))).trans (b6_dgm ρ (h c)),
      (hr c _ (mem_uc _ (by decide))).trans (b6_din ρ (h c)),
      (hr c _ (mem_uc _ (by decide))).trans (b6_dout ρ (h c)),
      (hr c _ (mem_uc _ (by decide))).trans (W6_main_arg0 m ρ c),
      (hr c _ (mem_uc _ (by decide))).trans (W6_main_arg1 m ρ c),
      (hr c _ (mem_uc _ (by decide))).trans (W6_main_arg2 m ρ c),
      (hr c _ (mem_uc _ (by decide))).trans (W6_main_arg3 m ρ c),
      (hr c _ (mem_uc _ (by decide))).trans (W6_main_arg4 m ρ c)⟩
  · refine (θ_run Cert.ReferenceIdeal.defs _ _).mono (fun r hr c => ?_) (Ref.run_v m' ρ')
    obtain ⟨h0, h1, h2, h3, h4, hargs⟩ := hr c
    obtain ⟨a0, a1, a2, a3, a4⟩ := ha c
    have e0 : Ref.ax m' c = R2 (x c) := a0.trans (h c).a0
    have e1 : Ref.ag m' c = R2 (g c) := a1.trans (h c).a1
    have e2 : Ref.ady m' c = R2 (dy c) := a2.trans (h c).a2
    have e3 : Ref.aw m' c = R2 (w c) := a3.trans (h c).a3
    have e4 : Ref.awo m' c = R2 (wo c) := a4.trans (h c).a4
    rw [e0, e1, e3, e4, Ref.vo_eq] at h0
    rw [e0, e1, e2, e3, e4, Ref.vdx_eq] at h1
    rw [e0, e1, e2, e3, e4, Ref.vgg_eq] at h2
    rw [e0, e1, e2, e3, e4, Ref.vdw_eq] at h3
    rw [e0, e1, e2, e3, Ref.vdo_eq] at h4
    exact ⟨h0, h1, h2, h3, h4, hargs⟩

/-- The two weight products of the kernel and of the reference are the same sums, whatever the arguments. -/
theorem products : Cert.algebraic_Kernel3Ideal_Reference3Ideal (hKernel3Ideal := Cert.Kernel3Ideal.Gen.facts)
    (hReference3Ideal := Cert.Reference3Ideal.Gen.facts) := by
  intro m ρ m' ρ' _ ha
  refine ⟨fun c => Cert.Prod.overRows (k := 4096) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.Prod.overRows (k := 4096) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    Cert.Prod.run m ρ, (θ_run Cert.Reference3Ideal.defs _ _).mono (fun r hr c => ?_) (Cert.Prod.Ref.run m' ρ')⟩
  obtain ⟨h0, h1, hargs⟩ := hr.1 c
  obtain ⟨a0, a1, a2, a3⟩ := ha c
  rw [a0, a1] at h0
  rw [a2, a3] at h1
  exact ⟨h0, h1, hargs⟩

/-- The kernel's three calls and the reference's one product are the same sums, whatever the arguments. -/
theorem projections : Cert.algebraic_Kernel4Ideal_Reference4Ideal (hKernel4Ideal := Cert.Kernel4Ideal.Gen.facts)
    (hReference4Ideal := Cert.Reference4Ideal.Gen.facts) := by
  intro m ρ m' ρ' _ ha
  refine ⟨fun c => Cert.Prod.overRows (k := 4096) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    Cert.Proj.run m ρ, (θ_run Cert.Reference4Ideal.defs _ _).mono (fun r hr c => ?_) (Cert.Proj.Ref.run m' ρ')⟩
  obtain ⟨h0, hargs⟩ := hr.1 c
  obtain ⟨a0, a1⟩ := ha c
  rw [a0, a1] at h0
  exact ⟨h0, hargs⟩

/-- On finite arguments the rows' and the scale's gradients of the backward call and of the reference are the same arrays. -/
theorem back : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m ρ m' ρ' hp ha
  have key : ∀ c : Dev Cert.Kernel5Ideal.nD, ∃ (D : Fin 4096 → Fin 9216 → ℝ) (x dy : Fin 4096 → Fin 1024 → ℝ) (g : Fin 1 → Fin 1024 → ℝ)
      (w : Fin 1024 → Fin 9216 → ℝ), Cert.Back.Args m c D x dy g w := fun c => by
    obtain ⟨⟨D, hD⟩, ⟨x, hx⟩, ⟨g, hg⟩, ⟨dy, hdy⟩, ⟨w, hw⟩⟩ := Cert.Back.reals_of_pre _ _ _ _ _ (hp c)
    exact ⟨D, x, dy, g, w, ⟨hD, hx, hg, hdy, hw⟩⟩
  choose D x dy g w h using key
  refine ⟨fun c => R2 (dxs (dy c) (mmt (D c) (w c)) (x c) (g c)), fun c => R2 (dgs (mmt (D c) (w c)) (x c)),
    Cert.Back.run m ρ D x dy g w h, (θ_run Cert.Reference5Ideal.defs _ _).mono (fun r hr c => ?_) (Cert.Back.Ref.run m' ρ')⟩
  obtain ⟨h0, h1, hargs⟩ := hr.1 c
  obtain ⟨a0, a1, a2, a3, a4⟩ := ha c
  have e0 : Cert.Back.Ref.ad m' c = R2 (D c) := a0.trans (h c).a0
  have e1 : Cert.Back.Ref.ax m' c = R2 (x c) := a1.trans (h c).a1
  have e2 : Cert.Back.Ref.ag m' c = R2 (g c) := a2.trans (h c).a2
  have e3 : Cert.Back.Ref.ady m' c = R2 (dy c) := a3.trans (h c).a3
  have e4 : Cert.Back.Ref.aw m' c = R2 (w c) := a4.trans (h c).a4
  rw [e0, e1, e2, e3, e4, Cert.Back.Ref.vh_eq, Cert.Back.Ref.vx_eq] at h0
  rw [e0, e1, e4, Cert.Back.Ref.vh_eq, Cert.Back.Ref.vg_eq] at h1
  exact ⟨h0, h1, hargs⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, preFacts, Cert.Attn.preFacts, Cert.Pre_finite5.Gen.facts,
  fun m ρ _ => Cert.Kernel.Gen.frame m ρ, fun m ρ _ => Cert.KernelIdeal.Gen.frame m ρ, fun m ρ _ => Cert.KernelIdeal.Gen.frame m ρ,
  fun m ρ _ => Ref.quiet m ρ, fun m ρ _ => Ref.quiet m ρ,
  fun m ρ _ => Cert.Attn.quiet_bits m ρ, fun m ρ _ => Cert.Attn.quiet m ρ, fun m ρ _ => Cert.Attn.quiet m ρ,
  fun m ρ _ => Cert.Attn.ref_quiet m ρ, fun m ρ _ => Cert.Attn.ref_quiet m ρ,
  fun m ρ _ => Cert.Prod.quiet_bits m ρ, fun m ρ _ => Cert.Prod.quiet m ρ,
  fun m ρ _ => (θ_run Cert.Reference3Ideal.defs _ _).mono (fun _ h => ⟨fun c => (h.1 c).2.2, h.2⟩) (Cert.Prod.Ref.run m ρ),
  fun m ρ _ => Cert.Proj.quiet_bits m ρ, fun m ρ _ => Cert.Proj.quiet m ρ,
  fun m ρ _ => (θ_run Cert.Reference4Ideal.defs _ _).mono (fun _ h => ⟨fun c => (h.1 c).2, h.2⟩) (Cert.Proj.Ref.run m ρ),
  fun m ρ _ => Cert.Back.quiet_bits m ρ, fun m ρ _ => Cert.Kernel5Ideal.Gen.frame m ρ, fun m ρ _ => Cert.Kernel5Ideal.Gen.frame m ρ,
  fun m ρ _ => (θ_run Cert.Reference5Ideal.defs _ _).mono (fun _ h => ⟨fun c => (h.1 c).2.2, h.2⟩) (Cert.Back.Ref.run m ρ),
  fun m ρ _ => (θ_run Cert.Reference5Ideal.defs _ _).mono (fun _ h => ⟨fun c => (h.1 c).2.2, h.2⟩) (Cert.Back.Ref.run m ρ),
  trivial, value, trivial, Cert.Attn.value, trivial, products, trivial, projections, trivial, back⟩

end Cert.Proof

end
